-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_scores [hPre_finite_scores : Cert.Pre_finite_scores.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_scores.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).1 = (fun _ => 1#1)
    ∧ (Cert.Pre_finite_scores.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.1 = (fun _ => 1#1)
    ∧ (Cert.Pre_finite_scores.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2.1 = (fun _ => 1#1)
    ∧ (Cert.Pre_finite_scores.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_scores [hPre_finite_scores : Cert.Pre_finite_scores.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_scores.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).1 = (fun _ => 1#1)
    ∧ (Cert.Pre_finite_scores.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.1 = (fun _ => 1#1)
    ∧ (Cert.Pre_finite_scores.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2.1 = (fun _ => 1#1)
    ∧ (Cert.Pre_finite_scores.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Kernel11Ideal_finite_fox_scores [hPre_finite_fox_scores : Cert.Pre_finite_fox_scores.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_finite_fox_scores.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2))).1 = (fun _ => 1#1)
    ∧ (Cert.Pre_finite_fox_scores.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2))).2.1 = (fun _ => 1#1)
    ∧ (Cert.Pre_finite_fox_scores.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2))).2.2 = (fun _ => 1#1)

def Pre_Reference11Ideal (m : (ℓ : Loc Cert.Reference11Ideal.nD Cert.Reference11Ideal.τ Cert.Reference11Ideal.sig) → Buf (Elt Ideal) ℓ) : Prop :=
  True

def Pre_Reference11Ideal_finite_fox_scores [hPre_finite_fox_scores : Cert.Pre_finite_fox_scores.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_finite_fox_scores.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2))).1 = (fun _ => 1#1)
    ∧ (Cert.Pre_finite_fox_scores.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2))).2.1 = (fun _ => 1#1)
    ∧ (Cert.Pre_finite_fox_scores.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2))).2.2 = (fun _ => 1#1)

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def Pre_Kernel36 (m : (ℓ : Loc Cert.Kernel36.nD Cert.Kernel36.τ Cert.Kernel36.sig) → Buf (Elt Bits) ℓ) : Prop :=
  True

def Pre_Kernel36Ideal (m : (ℓ : Loc Cert.Kernel36Ideal.nD Cert.Kernel36Ideal.τ Cert.Kernel36Ideal.sig) → Buf (Elt Ideal) ℓ) : Prop :=
  True

def Pre_Reference36Ideal (m : (ℓ : Loc Cert.Reference36Ideal.nD Cert.Reference36Ideal.τ Cert.Reference36Ideal.sig) → Buf (Elt Ideal) ℓ) : Prop :=
  True

def Pre_Kernel37 (m : (ℓ : Loc Cert.Kernel37.nD Cert.Kernel37.τ Cert.Kernel37.sig) → Buf (Elt Bits) ℓ) : Prop :=
  True

def Pre_Kernel37Ideal (m : (ℓ : Loc Cert.Kernel37Ideal.nD Cert.Kernel37Ideal.τ Cert.Kernel37Ideal.sig) → Buf (Elt Ideal) ℓ) : Prop :=
  True

def Pre_Reference37Ideal (m : (ℓ : Loc Cert.Reference37Ideal.nD Cert.Reference37Ideal.τ Cert.Reference37Ideal.sig) → Buf (Elt Ideal) ℓ) : Prop :=
  True

def Pre_Kernel38 (m : (ℓ : Loc Cert.Kernel38.nD Cert.Kernel38.τ Cert.Kernel38.sig) → Buf (Elt Bits) ℓ) : Prop :=
  True

def Pre_Kernel38Ideal (m : (ℓ : Loc Cert.Kernel38Ideal.nD Cert.Kernel38Ideal.τ Cert.Kernel38Ideal.sig) → Buf (Elt Ideal) ℓ) : Prop :=
  True

def Pre_Reference38Ideal (m : (ℓ : Loc Cert.Reference38Ideal.nD Cert.Reference38Ideal.τ Cert.Reference38Ideal.sig) → Buf (Elt Ideal) ℓ) : Prop :=
  True

def Pre_Kernel39 (m : (ℓ : Loc Cert.Kernel39.nD Cert.Kernel39.τ Cert.Kernel39.sig) → Buf (Elt Bits) ℓ) : Prop :=
  True

def Pre_Kernel39Ideal (m : (ℓ : Loc Cert.Kernel39Ideal.nD Cert.Kernel39Ideal.τ Cert.Kernel39Ideal.sig) → Buf (Elt Ideal) ℓ) : Prop :=
  True

def Pre_Reference39Ideal (m : (ℓ : Loc Cert.Reference39Ideal.nD Cert.Reference39Ideal.τ Cert.Reference39Ideal.sig) → Buf (Elt Ideal) ℓ) : Prop :=
  True

def Pre_Kernel40 (m : (ℓ : Loc Cert.Kernel40.nD Cert.Kernel40.τ Cert.Kernel40.sig) → Buf (Elt Bits) ℓ) : Prop :=
  True

def Pre_Kernel40Ideal (m : (ℓ : Loc Cert.Kernel40Ideal.nD Cert.Kernel40Ideal.τ Cert.Kernel40Ideal.sig) → Buf (Elt Ideal) ℓ) : Prop :=
  True

def Pre_Reference40Ideal (m : (ℓ : Loc Cert.Reference40Ideal.nD Cert.Reference40Ideal.τ Cert.Reference40Ideal.sig) → Buf (Elt Ideal) ℓ) : Prop :=
  True

def Pre_Kernel41 (m : (ℓ : Loc Cert.Kernel41.nD Cert.Kernel41.τ Cert.Kernel41.sig) → Buf (Elt Bits) ℓ) : Prop :=
  True

def Pre_Kernel41Ideal (m : (ℓ : Loc Cert.Kernel41Ideal.nD Cert.Kernel41Ideal.τ Cert.Kernel41Ideal.sig) → Buf (Elt Ideal) ℓ) : Prop :=
  True

def Pre_Reference41Ideal (m : (ℓ : Loc Cert.Reference41Ideal.nD Cert.Reference41Ideal.τ Cert.Reference41Ideal.sig) → Buf (Elt Ideal) ℓ) : Prop :=
  True

def Pre_Kernel42 (m : (ℓ : Loc Cert.Kernel42.nD Cert.Kernel42.τ Cert.Kernel42.sig) → Buf (Elt Bits) ℓ) : Prop :=
  True

def Pre_Kernel42Ideal (m : (ℓ : Loc Cert.Kernel42Ideal.nD Cert.Kernel42Ideal.τ Cert.Kernel42Ideal.sig) → Buf (Elt Ideal) ℓ) : Prop :=
  True

def Pre_Reference42Ideal (m : (ℓ : Loc Cert.Reference42Ideal.nD Cert.Reference42Ideal.τ Cert.Reference42Ideal.sig) → Buf (Elt Ideal) ℓ) : Prop :=
  True

def Pre_Kernel43 (m : (ℓ : Loc Cert.Kernel43.nD Cert.Kernel43.τ Cert.Kernel43.sig) → Buf (Elt Bits) ℓ) : Prop :=
  True

def Pre_Kernel43Ideal (m : (ℓ : Loc Cert.Kernel43Ideal.nD Cert.Kernel43Ideal.τ Cert.Kernel43Ideal.sig) → Buf (Elt Ideal) ℓ) : Prop :=
  True

def Pre_Reference43Ideal (m : (ℓ : Loc Cert.Reference43Ideal.nD Cert.Reference43Ideal.τ Cert.Reference43Ideal.sig) → Buf (Elt Ideal) ℓ) : Prop :=
  True

def Pre_Kernel44 (m : (ℓ : Loc Cert.Kernel44.nD Cert.Kernel44.τ Cert.Kernel44.sig) → Buf (Elt Bits) ℓ) : Prop :=
  True

def Pre_Kernel44Ideal (m : (ℓ : Loc Cert.Kernel44Ideal.nD Cert.Kernel44Ideal.τ Cert.Kernel44Ideal.sig) → Buf (Elt Ideal) ℓ) : Prop :=
  True

def Pre_Reference44Ideal (m : (ℓ : Loc Cert.Reference44Ideal.nD Cert.Reference44Ideal.τ Cert.Reference44Ideal.sig) → Buf (Elt Ideal) ℓ) : Prop :=
  True

def Pre_Kernel45 (m : (ℓ : Loc Cert.Kernel45.nD Cert.Kernel45.τ Cert.Kernel45.sig) → Buf (Elt Bits) ℓ) : Prop :=
  True

def Pre_Kernel45Ideal (m : (ℓ : Loc Cert.Kernel45Ideal.nD Cert.Kernel45Ideal.τ Cert.Kernel45Ideal.sig) → Buf (Elt Ideal) ℓ) : Prop :=
  True

def Pre_Reference45Ideal (m : (ℓ : Loc Cert.Reference45Ideal.nD Cert.Reference45Ideal.τ Cert.Reference45Ideal.sig) → Buf (Elt Ideal) ℓ) : Prop :=
  True

def Pre_Kernel46 (m : (ℓ : Loc Cert.Kernel46.nD Cert.Kernel46.τ Cert.Kernel46.sig) → Buf (Elt Bits) ℓ) : Prop :=
  True

def Pre_Kernel46Ideal (m : (ℓ : Loc Cert.Kernel46Ideal.nD Cert.Kernel46Ideal.τ Cert.Kernel46Ideal.sig) → Buf (Elt Ideal) ℓ) : Prop :=
  True

def Pre_Reference46Ideal (m : (ℓ : Loc Cert.Reference46Ideal.nD Cert.Reference46Ideal.τ Cert.Reference46Ideal.sig) → Buf (Elt Ideal) ℓ) : Prop :=
  True

def Pre_Kernel47 (m : (ℓ : Loc Cert.Kernel47.nD Cert.Kernel47.τ Cert.Kernel47.sig) → Buf (Elt Bits) ℓ) : Prop :=
  True

def Pre_Kernel47Ideal (m : (ℓ : Loc Cert.Kernel47Ideal.nD Cert.Kernel47Ideal.τ Cert.Kernel47Ideal.sig) → Buf (Elt Ideal) ℓ) : Prop :=
  True

def Pre_Reference47Ideal (m : (ℓ : Loc Cert.Reference47Ideal.nD Cert.Reference47Ideal.τ Cert.Reference47Ideal.sig) → Buf (Elt Ideal) ℓ) : Prop :=
  True

def Pre_Kernel48 (m : (ℓ : Loc Cert.Kernel48.nD Cert.Kernel48.τ Cert.Kernel48.sig) → Buf (Elt Bits) ℓ) : Prop :=
  True

def Pre_Kernel48Ideal (m : (ℓ : Loc Cert.Kernel48Ideal.nD Cert.Kernel48Ideal.τ Cert.Kernel48Ideal.sig) → Buf (Elt Ideal) ℓ) : Prop :=
  True

def Pre_Reference48Ideal (m : (ℓ : Loc Cert.Reference48Ideal.nD Cert.Reference48Ideal.τ Cert.Reference48Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite_scores [hKernel2Ideal : Cert.Kernel2Ideal.Facts] [hPre_finite_scores : Cert.Pre_finite_scores.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_scores m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite_scores [hReference2Ideal : Cert.Reference2Ideal.Facts] [hPre_finite_scores : Cert.Pre_finite_scores.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_scores m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Kernel11Ideal_pre_finite_fox_scores [hKernel11Ideal : Cert.Kernel11Ideal.Facts] [hPre_finite_fox_scores : Cert.Pre_finite_fox_scores.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal_finite_fox_scores m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Reference11Ideal_pre_finite_fox_scores [hReference11Ideal : Cert.Reference11Ideal.Facts] [hPre_finite_fox_scores : Cert.Pre_finite_fox_scores.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal_finite_fox_scores m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3)
      ∧ r.2.mem ((c.tc : Thread Cert.Kernel27.nD Cert.Kernel27.τ).loc Cert.Kernel27.main_arg4) = m ((c.tc : Thread Cert.Kernel27.nD Cert.Kernel27.τ).loc Cert.Kernel27.main_arg4))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3)
      ∧ r.2.mem ((c.tc : Thread Cert.Kernel27Ideal.nD Cert.Kernel27Ideal.τ).loc Cert.Kernel27Ideal.main_arg4) = m ((c.tc : Thread Cert.Kernel27Ideal.nD Cert.Kernel27Ideal.τ).loc Cert.Kernel27Ideal.main_arg4))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3)
      ∧ r.2.mem ((c.tc : Thread Cert.Reference27Ideal.nD Cert.Reference27Ideal.τ).loc Cert.Reference27Ideal.main_arg4) = m ((c.tc : Thread Cert.Reference27Ideal.nD Cert.Reference27Ideal.τ).loc Cert.Reference27Ideal.main_arg4))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3)
      ∧ r.2.mem ((c.tc : Thread Cert.Kernel28.nD Cert.Kernel28.τ).loc Cert.Kernel28.main_arg4) = m ((c.tc : Thread Cert.Kernel28.nD Cert.Kernel28.τ).loc Cert.Kernel28.main_arg4))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3)
      ∧ r.2.mem ((c.tc : Thread Cert.Kernel28Ideal.nD Cert.Kernel28Ideal.τ).loc Cert.Kernel28Ideal.main_arg4) = m ((c.tc : Thread Cert.Kernel28Ideal.nD Cert.Kernel28Ideal.τ).loc Cert.Kernel28Ideal.main_arg4))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3)
      ∧ r.2.mem ((c.tc : Thread Cert.Reference28Ideal.nD Cert.Reference28Ideal.τ).loc Cert.Reference28Ideal.main_arg4) = m ((c.tc : Thread Cert.Reference28Ideal.nD Cert.Reference28Ideal.τ).loc Cert.Reference28Ideal.main_arg4))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1))
      ∧ r.2.sem = fun _ => 0)

def quiescent_Kernel36 [hKernel36 : Cert.Kernel36.Facts] : Prop :=
  ∀ (m : (ℓ : Loc Cert.Kernel36.nD Cert.Kernel36.τ Cert.Kernel36.sig) → Buf (Elt Bits) ℓ) (g : Dev Cert.Kernel36.nD → PrngReg), Pre_Kernel36 m →
    θ_run (Cert.Kernel36.defs (F := Bits)) (onTc (τ := Cert.Kernel36.τ) (Cert.Kernel36.main (F := Bits))) ⟨m, fun _ => 0, g⟩ (fun r => (∀ c : Dev Cert.Kernel36.nD,
      r.2.mem ((c.tc : Thread Cert.Kernel36.nD Cert.Kernel36.τ).loc Cert.Kernel36.main_arg0) = m ((c.tc : Thread Cert.Kernel36.nD Cert.Kernel36.τ).loc Cert.Kernel36.main_arg0)
      ∧ r.2.mem ((c.tc : Thread Cert.Kernel36.nD Cert.Kernel36.τ).loc Cert.Kernel36.main_arg1) = m ((c.tc : Thread Cert.Kernel36.nD Cert.Kernel36.τ).loc Cert.Kernel36.main_arg1))
      ∧ r.2.sem = fun _ => 0)

def quiescent_Kernel36Ideal [hKernel36Ideal : Cert.Kernel36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
      ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1))
      ∧ r.2.sem = fun _ => 0)

def quiescent_Reference36Ideal [hReference36Ideal : Cert.Reference36Ideal.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0)
      ∧ r.2.mem ((c.tc : Thread Cert.Reference36Ideal.nD Cert.Reference36Ideal.τ).loc Cert.Reference36Ideal.main_arg1) = m ((c.tc : Thread Cert.Reference36Ideal.nD Cert.Reference36Ideal.τ).loc Cert.Reference36Ideal.main_arg1))
      ∧ r.2.sem = fun _ => 0)

def quiescent_Kernel37 [hKernel37 : Cert.Kernel37.Facts] : Prop :=
  ∀ (m : (ℓ : Loc Cert.Kernel37.nD Cert.Kernel37.τ Cert.Kernel37.sig) → Buf (Elt Bits) ℓ) (g : Dev Cert.Kernel37.nD → PrngReg), Pre_Kernel37 m →
    θ_run (Cert.Kernel37.defs (F := Bits)) (onTc (τ := Cert.Kernel37.τ) (Cert.Kernel37.main (F := Bits))) ⟨m, fun _ => 0, g⟩ (fun r => (∀ c : Dev Cert.Kernel37.nD,
      r.2.mem ((c.tc : Thread Cert.Kernel37.nD Cert.Kernel37.τ).loc Cert.Kernel37.main_arg0) = m ((c.tc : Thread Cert.Kernel37.nD Cert.Kernel37.τ).loc Cert.Kernel37.main_arg0)
      ∧ r.2.mem ((c.tc : Thread Cert.Kernel37.nD Cert.Kernel37.τ).loc Cert.Kernel37.main_arg1) = m ((c.tc : Thread Cert.Kernel37.nD Cert.Kernel37.τ).loc Cert.Kernel37.main_arg1))
      ∧ r.2.sem = fun _ => 0)

def quiescent_Kernel37Ideal [hKernel37Ideal : Cert.Kernel37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg), Pre_Kernel37Ideal m →
    θ_run (Cert.Kernel37Ideal.defs (F := Ideal)) (onTc (τ := Cert.Kernel37Ideal.τ) (Cert.Kernel37Ideal.main (F := Ideal))) ⟨m, fun _ => 0, g⟩ (fun r => (∀ c : Dev Cert.Kernel37Ideal.nD,
      r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
      ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1))
      ∧ r.2.sem = fun _ => 0)

def quiescent_Reference37Ideal [hReference37Ideal : Cert.Reference37Ideal.Facts] : Prop :=
  ∀ (m : (ℓ : Loc Cert.Reference37Ideal.nD Cert.Reference37Ideal.τ Cert.Reference37Ideal.sig) → Buf (Elt Ideal) ℓ) (g : Dev Cert.Reference37Ideal.nD → PrngReg), Pre_Reference37Ideal m →
    θ_run (Cert.Reference37Ideal.defs (F := Ideal)) (onTc (τ := Cert.Reference37Ideal.τ) (Cert.Reference37Ideal.main (F := Ideal))) ⟨m, fun _ => 0, g⟩ (fun r => (∀ c : Dev Cert.Reference37Ideal.nD,
      r.2.mem ((c.tc : Thread Cert.Reference37Ideal.nD Cert.Reference37Ideal.τ).loc Cert.Reference37Ideal.main_arg0) = m ((c.tc : Thread Cert.Reference37Ideal.nD Cert.Reference37Ideal.τ).loc Cert.Reference37Ideal.main_arg0)
      ∧ r.2.mem ((c.tc : Thread Cert.Reference37Ideal.nD Cert.Reference37Ideal.τ).loc Cert.Reference37Ideal.main_arg1) = m ((c.tc : Thread Cert.Reference37Ideal.nD Cert.Reference37Ideal.τ).loc Cert.Reference37Ideal.main_arg1))
      ∧ r.2.sem = fun _ => 0)

def quiescent_Kernel38 [hKernel38 : Cert.Kernel38.Facts] : Prop :=
  ∀ (m : (ℓ : Loc Cert.Kernel38.nD Cert.Kernel38.τ Cert.Kernel38.sig) → Buf (Elt Bits) ℓ) (g : Dev Cert.Kernel38.nD → PrngReg), Pre_Kernel38 m →
    θ_run (Cert.Kernel38.defs (F := Bits)) (onTc (τ := Cert.Kernel38.τ) (Cert.Kernel38.main (F := Bits))) ⟨m, fun _ => 0, g⟩ (fun r => (∀ c : Dev Cert.Kernel38.nD,
      r.2.mem ((c.tc : Thread Cert.Kernel38.nD Cert.Kernel38.τ).loc Cert.Kernel38.main_arg0) = m ((c.tc : Thread Cert.Kernel38.nD Cert.Kernel38.τ).loc Cert.Kernel38.main_arg0)
      ∧ r.2.mem ((c.tc : Thread Cert.Kernel38.nD Cert.Kernel38.τ).loc Cert.Kernel38.main_arg1) = m ((c.tc : Thread Cert.Kernel38.nD Cert.Kernel38.τ).loc Cert.Kernel38.main_arg1))
      ∧ r.2.sem = fun _ => 0)

def quiescent_Kernel38Ideal [hKernel38Ideal : Cert.Kernel38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg), Pre_Kernel38Ideal m →
    θ_run (Cert.Kernel38Ideal.defs (F := Ideal)) (onTc (τ := Cert.Kernel38Ideal.τ) (Cert.Kernel38Ideal.main (F := Ideal))) ⟨m, fun _ => 0, g⟩ (fun r => (∀ c : Dev Cert.Kernel38Ideal.nD,
      r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
      ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1))
      ∧ r.2.sem = fun _ => 0)

def quiescent_Reference38Ideal [hReference38Ideal : Cert.Reference38Ideal.Facts] : Prop :=
  ∀ (m : (ℓ : Loc Cert.Reference38Ideal.nD Cert.Reference38Ideal.τ Cert.Reference38Ideal.sig) → Buf (Elt Ideal) ℓ) (g : Dev Cert.Reference38Ideal.nD → PrngReg), Pre_Reference38Ideal m →
    θ_run (Cert.Reference38Ideal.defs (F := Ideal)) (onTc (τ := Cert.Reference38Ideal.τ) (Cert.Reference38Ideal.main (F := Ideal))) ⟨m, fun _ => 0, g⟩ (fun r => (∀ c : Dev Cert.Reference38Ideal.nD,
      r.2.mem ((c.tc : Thread Cert.Reference38Ideal.nD Cert.Reference38Ideal.τ).loc Cert.Reference38Ideal.main_arg0) = m ((c.tc : Thread Cert.Reference38Ideal.nD Cert.Reference38Ideal.τ).loc Cert.Reference38Ideal.main_arg0)
      ∧ r.2.mem ((c.tc : Thread Cert.Reference38Ideal.nD Cert.Reference38Ideal.τ).loc Cert.Reference38Ideal.main_arg1) = m ((c.tc : Thread Cert.Reference38Ideal.nD Cert.Reference38Ideal.τ).loc Cert.Reference38Ideal.main_arg1))
      ∧ r.2.sem = fun _ => 0)

def quiescent_Kernel39 [hKernel39 : Cert.Kernel39.Facts] : Prop :=
  ∀ (m : (ℓ : Loc Cert.Kernel39.nD Cert.Kernel39.τ Cert.Kernel39.sig) → Buf (Elt Bits) ℓ) (g : Dev Cert.Kernel39.nD → PrngReg), Pre_Kernel39 m →
    θ_run (Cert.Kernel39.defs (F := Bits)) (onTc (τ := Cert.Kernel39.τ) (Cert.Kernel39.main (F := Bits))) ⟨m, fun _ => 0, g⟩ (fun r => (∀ c : Dev Cert.Kernel39.nD,
      r.2.mem ((c.tc : Thread Cert.Kernel39.nD Cert.Kernel39.τ).loc Cert.Kernel39.main_arg0) = m ((c.tc : Thread Cert.Kernel39.nD Cert.Kernel39.τ).loc Cert.Kernel39.main_arg0)
      ∧ r.2.mem ((c.tc : Thread Cert.Kernel39.nD Cert.Kernel39.τ).loc Cert.Kernel39.main_arg1) = m ((c.tc : Thread Cert.Kernel39.nD Cert.Kernel39.τ).loc Cert.Kernel39.main_arg1))
      ∧ r.2.sem = fun _ => 0)

def quiescent_Kernel39Ideal [hKernel39Ideal : Cert.Kernel39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg), Pre_Kernel39Ideal m →
    θ_run (Cert.Kernel39Ideal.defs (F := Ideal)) (onTc (τ := Cert.Kernel39Ideal.τ) (Cert.Kernel39Ideal.main (F := Ideal))) ⟨m, fun _ => 0, g⟩ (fun r => (∀ c : Dev Cert.Kernel39Ideal.nD,
      r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
      ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1))
      ∧ r.2.sem = fun _ => 0)

def quiescent_Reference39Ideal [hReference39Ideal : Cert.Reference39Ideal.Facts] : Prop :=
  ∀ (m : (ℓ : Loc Cert.Reference39Ideal.nD Cert.Reference39Ideal.τ Cert.Reference39Ideal.sig) → Buf (Elt Ideal) ℓ) (g : Dev Cert.Reference39Ideal.nD → PrngReg), Pre_Reference39Ideal m →
    θ_run (Cert.Reference39Ideal.defs (F := Ideal)) (onTc (τ := Cert.Reference39Ideal.τ) (Cert.Reference39Ideal.main (F := Ideal))) ⟨m, fun _ => 0, g⟩ (fun r => (∀ c : Dev Cert.Reference39Ideal.nD,
      r.2.mem ((c.tc : Thread Cert.Reference39Ideal.nD Cert.Reference39Ideal.τ).loc Cert.Reference39Ideal.main_arg0) = m ((c.tc : Thread Cert.Reference39Ideal.nD Cert.Reference39Ideal.τ).loc Cert.Reference39Ideal.main_arg0)
      ∧ r.2.mem ((c.tc : Thread Cert.Reference39Ideal.nD Cert.Reference39Ideal.τ).loc Cert.Reference39Ideal.main_arg1) = m ((c.tc : Thread Cert.Reference39Ideal.nD Cert.Reference39Ideal.τ).loc Cert.Reference39Ideal.main_arg1))
      ∧ r.2.sem = fun _ => 0)

def quiescent_Kernel40 [hKernel40 : Cert.Kernel40.Facts] : Prop :=
  ∀ (m : (ℓ : Loc Cert.Kernel40.nD Cert.Kernel40.τ Cert.Kernel40.sig) → Buf (Elt Bits) ℓ) (g : Dev Cert.Kernel40.nD → PrngReg), Pre_Kernel40 m →
    θ_run (Cert.Kernel40.defs (F := Bits)) (onTc (τ := Cert.Kernel40.τ) (Cert.Kernel40.main (F := Bits))) ⟨m, fun _ => 0, g⟩ (fun r => (∀ c : Dev Cert.Kernel40.nD,
      r.2.mem ((c.tc : Thread Cert.Kernel40.nD Cert.Kernel40.τ).loc Cert.Kernel40.main_arg0) = m ((c.tc : Thread Cert.Kernel40.nD Cert.Kernel40.τ).loc Cert.Kernel40.main_arg0)
      ∧ r.2.mem ((c.tc : Thread Cert.Kernel40.nD Cert.Kernel40.τ).loc Cert.Kernel40.main_arg1) = m ((c.tc : Thread Cert.Kernel40.nD Cert.Kernel40.τ).loc Cert.Kernel40.main_arg1))
      ∧ r.2.sem = fun _ => 0)

def quiescent_Kernel40Ideal [hKernel40Ideal : Cert.Kernel40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg), Pre_Kernel40Ideal m →
    θ_run (Cert.Kernel40Ideal.defs (F := Ideal)) (onTc (τ := Cert.Kernel40Ideal.τ) (Cert.Kernel40Ideal.main (F := Ideal))) ⟨m, fun _ => 0, g⟩ (fun r => (∀ c : Dev Cert.Kernel40Ideal.nD,
      r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
      ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1))
      ∧ r.2.sem = fun _ => 0)

def quiescent_Reference40Ideal [hReference40Ideal : Cert.Reference40Ideal.Facts] : Prop :=
  ∀ (m : (ℓ : Loc Cert.Reference40Ideal.nD Cert.Reference40Ideal.τ Cert.Reference40Ideal.sig) → Buf (Elt Ideal) ℓ) (g : Dev Cert.Reference40Ideal.nD → PrngReg), Pre_Reference40Ideal m →
    θ_run (Cert.Reference40Ideal.defs (F := Ideal)) (onTc (τ := Cert.Reference40Ideal.τ) (Cert.Reference40Ideal.main (F := Ideal))) ⟨m, fun _ => 0, g⟩ (fun r => (∀ c : Dev Cert.Reference40Ideal.nD,
      r.2.mem ((c.tc : Thread Cert.Reference40Ideal.nD Cert.Reference40Ideal.τ).loc Cert.Reference40Ideal.main_arg0) = m ((c.tc : Thread Cert.Reference40Ideal.nD Cert.Reference40Ideal.τ).loc Cert.Reference40Ideal.main_arg0)
      ∧ r.2.mem ((c.tc : Thread Cert.Reference40Ideal.nD Cert.Reference40Ideal.τ).loc Cert.Reference40Ideal.main_arg1) = m ((c.tc : Thread Cert.Reference40Ideal.nD Cert.Reference40Ideal.τ).loc Cert.Reference40Ideal.main_arg1))
      ∧ r.2.sem = fun _ => 0)

def quiescent_Kernel41 [hKernel41 : Cert.Kernel41.Facts] : Prop :=
  ∀ (m : (ℓ : Loc Cert.Kernel41.nD Cert.Kernel41.τ Cert.Kernel41.sig) → Buf (Elt Bits) ℓ) (g : Dev Cert.Kernel41.nD → PrngReg), Pre_Kernel41 m →
    θ_run (Cert.Kernel41.defs (F := Bits)) (onTc (τ := Cert.Kernel41.τ) (Cert.Kernel41.main (F := Bits))) ⟨m, fun _ => 0, g⟩ (fun r => (∀ c : Dev Cert.Kernel41.nD,
      r.2.mem ((c.tc : Thread Cert.Kernel41.nD Cert.Kernel41.τ).loc Cert.Kernel41.main_arg0) = m ((c.tc : Thread Cert.Kernel41.nD Cert.Kernel41.τ).loc Cert.Kernel41.main_arg0)
      ∧ r.2.mem ((c.tc : Thread Cert.Kernel41.nD Cert.Kernel41.τ).loc Cert.Kernel41.main_arg1) = m ((c.tc : Thread Cert.Kernel41.nD Cert.Kernel41.τ).loc Cert.Kernel41.main_arg1))
      ∧ r.2.sem = fun _ => 0)

def quiescent_Kernel41Ideal [hKernel41Ideal : Cert.Kernel41Ideal.Facts] : Prop :=
  ∀ (m : (ℓ : Loc Cert.Kernel41Ideal.nD Cert.Kernel41Ideal.τ Cert.Kernel41Ideal.sig) → Buf (Elt Ideal) ℓ) (g : Dev Cert.Kernel41Ideal.nD → PrngReg), Pre_Kernel41Ideal m →
    θ_run (Cert.Kernel41Ideal.defs (F := Ideal)) (onTc (τ := Cert.Kernel41Ideal.τ) (Cert.Kernel41Ideal.main (F := Ideal))) ⟨m, fun _ => 0, g⟩ (fun r => (∀ c : Dev Cert.Kernel41Ideal.nD,
      r.2.mem ((c.tc : Thread Cert.Kernel41Ideal.nD Cert.Kernel41Ideal.τ).loc Cert.Kernel41Ideal.main_arg0) = m ((c.tc : Thread Cert.Kernel41Ideal.nD Cert.Kernel41Ideal.τ).loc Cert.Kernel41Ideal.main_arg0)
      ∧ r.2.mem ((c.tc : Thread Cert.Kernel41Ideal.nD Cert.Kernel41Ideal.τ).loc Cert.Kernel41Ideal.main_arg1) = m ((c.tc : Thread Cert.Kernel41Ideal.nD Cert.Kernel41Ideal.τ).loc Cert.Kernel41Ideal.main_arg1))
      ∧ r.2.sem = fun _ => 0)

def quiescent_Reference41Ideal [hReference41Ideal : Cert.Reference41Ideal.Facts] : Prop :=
  ∀ (m : (ℓ : Loc Cert.Reference41Ideal.nD Cert.Reference41Ideal.τ Cert.Reference41Ideal.sig) → Buf (Elt Ideal) ℓ) (g : Dev Cert.Reference41Ideal.nD → PrngReg), Pre_Reference41Ideal m →
    θ_run (Cert.Reference41Ideal.defs (F := Ideal)) (onTc (τ := Cert.Reference41Ideal.τ) (Cert.Reference41Ideal.main (F := Ideal))) ⟨m, fun _ => 0, g⟩ (fun r => (∀ c : Dev Cert.Reference41Ideal.nD,
      r.2.mem ((c.tc : Thread Cert.Reference41Ideal.nD Cert.Reference41Ideal.τ).loc Cert.Reference41Ideal.main_arg0) = m ((c.tc : Thread Cert.Reference41Ideal.nD Cert.Reference41Ideal.τ).loc Cert.Reference41Ideal.main_arg0)
      ∧ r.2.mem ((c.tc : Thread Cert.Reference41Ideal.nD Cert.Reference41Ideal.τ).loc Cert.Reference41Ideal.main_arg1) = m ((c.tc : Thread Cert.Reference41Ideal.nD Cert.Reference41Ideal.τ).loc Cert.Reference41Ideal.main_arg1))
      ∧ r.2.sem = fun _ => 0)

def quiescent_Kernel42 [hKernel42 : Cert.Kernel42.Facts] : Prop :=
  ∀ (m : (ℓ : Loc Cert.Kernel42.nD Cert.Kernel42.τ Cert.Kernel42.sig) → Buf (Elt Bits) ℓ) (g : Dev Cert.Kernel42.nD → PrngReg), Pre_Kernel42 m →
    θ_run (Cert.Kernel42.defs (F := Bits)) (onTc (τ := Cert.Kernel42.τ) (Cert.Kernel42.main (F := Bits))) ⟨m, fun _ => 0, g⟩ (fun r => (∀ c : Dev Cert.Kernel42.nD,
      r.2.mem ((c.tc : Thread Cert.Kernel42.nD Cert.Kernel42.τ).loc Cert.Kernel42.main_arg0) = m ((c.tc : Thread Cert.Kernel42.nD Cert.Kernel42.τ).loc Cert.Kernel42.main_arg0)
      ∧ r.2.mem ((c.tc : Thread Cert.Kernel42.nD Cert.Kernel42.τ).loc Cert.Kernel42.main_arg1) = m ((c.tc : Thread Cert.Kernel42.nD Cert.Kernel42.τ).loc Cert.Kernel42.main_arg1))
      ∧ r.2.sem = fun _ => 0)

def quiescent_Kernel42Ideal [hKernel42Ideal : Cert.Kernel42Ideal.Facts] : Prop :=
  ∀ (m : (ℓ : Loc Cert.Kernel42Ideal.nD Cert.Kernel42Ideal.τ Cert.Kernel42Ideal.sig) → Buf (Elt Ideal) ℓ) (g : Dev Cert.Kernel42Ideal.nD → PrngReg), Pre_Kernel42Ideal m →
    θ_run (Cert.Kernel42Ideal.defs (F := Ideal)) (onTc (τ := Cert.Kernel42Ideal.τ) (Cert.Kernel42Ideal.main (F := Ideal))) ⟨m, fun _ => 0, g⟩ (fun r => (∀ c : Dev Cert.Kernel42Ideal.nD,
      r.2.mem ((c.tc : Thread Cert.Kernel42Ideal.nD Cert.Kernel42Ideal.τ).loc Cert.Kernel42Ideal.main_arg0) = m ((c.tc : Thread Cert.Kernel42Ideal.nD Cert.Kernel42Ideal.τ).loc Cert.Kernel42Ideal.main_arg0)
      ∧ r.2.mem ((c.tc : Thread Cert.Kernel42Ideal.nD Cert.Kernel42Ideal.τ).loc Cert.Kernel42Ideal.main_arg1) = m ((c.tc : Thread Cert.Kernel42Ideal.nD Cert.Kernel42Ideal.τ).loc Cert.Kernel42Ideal.main_arg1))
      ∧ r.2.sem = fun _ => 0)

def quiescent_Reference42Ideal [hReference42Ideal : Cert.Reference42Ideal.Facts] : Prop :=
  ∀ (m : (ℓ : Loc Cert.Reference42Ideal.nD Cert.Reference42Ideal.τ Cert.Reference42Ideal.sig) → Buf (Elt Ideal) ℓ) (g : Dev Cert.Reference42Ideal.nD → PrngReg), Pre_Reference42Ideal m →
    θ_run (Cert.Reference42Ideal.defs (F := Ideal)) (onTc (τ := Cert.Reference42Ideal.τ) (Cert.Reference42Ideal.main (F := Ideal))) ⟨m, fun _ => 0, g⟩ (fun r => (∀ c : Dev Cert.Reference42Ideal.nD,
      r.2.mem ((c.tc : Thread Cert.Reference42Ideal.nD Cert.Reference42Ideal.τ).loc Cert.Reference42Ideal.main_arg0) = m ((c.tc : Thread Cert.Reference42Ideal.nD Cert.Reference42Ideal.τ).loc Cert.Reference42Ideal.main_arg0)
      ∧ r.2.mem ((c.tc : Thread Cert.Reference42Ideal.nD Cert.Reference42Ideal.τ).loc Cert.Reference42Ideal.main_arg1) = m ((c.tc : Thread Cert.Reference42Ideal.nD Cert.Reference42Ideal.τ).loc Cert.Reference42Ideal.main_arg1))
      ∧ r.2.sem = fun _ => 0)

def quiescent_Kernel43 [hKernel43 : Cert.Kernel43.Facts] : Prop :=
  ∀ (m : (ℓ : Loc Cert.Kernel43.nD Cert.Kernel43.τ Cert.Kernel43.sig) → Buf (Elt Bits) ℓ) (g : Dev Cert.Kernel43.nD → PrngReg), Pre_Kernel43 m →
    θ_run (Cert.Kernel43.defs (F := Bits)) (onTc (τ := Cert.Kernel43.τ) (Cert.Kernel43.main (F := Bits))) ⟨m, fun _ => 0, g⟩ (fun r => (∀ c : Dev Cert.Kernel43.nD,
      r.2.mem ((c.tc : Thread Cert.Kernel43.nD Cert.Kernel43.τ).loc Cert.Kernel43.main_arg0) = m ((c.tc : Thread Cert.Kernel43.nD Cert.Kernel43.τ).loc Cert.Kernel43.main_arg0)
      ∧ r.2.mem ((c.tc : Thread Cert.Kernel43.nD Cert.Kernel43.τ).loc Cert.Kernel43.main_arg1) = m ((c.tc : Thread Cert.Kernel43.nD Cert.Kernel43.τ).loc Cert.Kernel43.main_arg1))
      ∧ r.2.sem = fun _ => 0)

def quiescent_Kernel43Ideal [hKernel43Ideal : Cert.Kernel43Ideal.Facts] : Prop :=
  ∀ (m : (ℓ : Loc Cert.Kernel43Ideal.nD Cert.Kernel43Ideal.τ Cert.Kernel43Ideal.sig) → Buf (Elt Ideal) ℓ) (g : Dev Cert.Kernel43Ideal.nD → PrngReg), Pre_Kernel43Ideal m →
    θ_run (Cert.Kernel43Ideal.defs (F := Ideal)) (onTc (τ := Cert.Kernel43Ideal.τ) (Cert.Kernel43Ideal.main (F := Ideal))) ⟨m, fun _ => 0, g⟩ (fun r => (∀ c : Dev Cert.Kernel43Ideal.nD,
      r.2.mem ((c.tc : Thread Cert.Kernel43Ideal.nD Cert.Kernel43Ideal.τ).loc Cert.Kernel43Ideal.main_arg0) = m ((c.tc : Thread Cert.Kernel43Ideal.nD Cert.Kernel43Ideal.τ).loc Cert.Kernel43Ideal.main_arg0)
      ∧ r.2.mem ((c.tc : Thread Cert.Kernel43Ideal.nD Cert.Kernel43Ideal.τ).loc Cert.Kernel43Ideal.main_arg1) = m ((c.tc : Thread Cert.Kernel43Ideal.nD Cert.Kernel43Ideal.τ).loc Cert.Kernel43Ideal.main_arg1))
      ∧ r.2.sem = fun _ => 0)

def quiescent_Reference43Ideal [hReference43Ideal : Cert.Reference43Ideal.Facts] : Prop :=
  ∀ (m : (ℓ : Loc Cert.Reference43Ideal.nD Cert.Reference43Ideal.τ Cert.Reference43Ideal.sig) → Buf (Elt Ideal) ℓ) (g : Dev Cert.Reference43Ideal.nD → PrngReg), Pre_Reference43Ideal m →
    θ_run (Cert.Reference43Ideal.defs (F := Ideal)) (onTc (τ := Cert.Reference43Ideal.τ) (Cert.Reference43Ideal.main (F := Ideal))) ⟨m, fun _ => 0, g⟩ (fun r => (∀ c : Dev Cert.Reference43Ideal.nD,
      r.2.mem ((c.tc : Thread Cert.Reference43Ideal.nD Cert.Reference43Ideal.τ).loc Cert.Reference43Ideal.main_arg0) = m ((c.tc : Thread Cert.Reference43Ideal.nD Cert.Reference43Ideal.τ).loc Cert.Reference43Ideal.main_arg0)
      ∧ r.2.mem ((c.tc : Thread Cert.Reference43Ideal.nD Cert.Reference43Ideal.τ).loc Cert.Reference43Ideal.main_arg1) = m ((c.tc : Thread Cert.Reference43Ideal.nD Cert.Reference43Ideal.τ).loc Cert.Reference43Ideal.main_arg1))
      ∧ r.2.sem = fun _ => 0)

def quiescent_Kernel44 [hKernel44 : Cert.Kernel44.Facts] : Prop :=
  ∀ (m : (ℓ : Loc Cert.Kernel44.nD Cert.Kernel44.τ Cert.Kernel44.sig) → Buf (Elt Bits) ℓ) (g : Dev Cert.Kernel44.nD → PrngReg), Pre_Kernel44 m →
    θ_run (Cert.Kernel44.defs (F := Bits)) (onTc (τ := Cert.Kernel44.τ) (Cert.Kernel44.main (F := Bits))) ⟨m, fun _ => 0, g⟩ (fun r => (∀ c : Dev Cert.Kernel44.nD,
      r.2.mem ((c.tc : Thread Cert.Kernel44.nD Cert.Kernel44.τ).loc Cert.Kernel44.main_arg0) = m ((c.tc : Thread Cert.Kernel44.nD Cert.Kernel44.τ).loc Cert.Kernel44.main_arg0)
      ∧ r.2.mem ((c.tc : Thread Cert.Kernel44.nD Cert.Kernel44.τ).loc Cert.Kernel44.main_arg1) = m ((c.tc : Thread Cert.Kernel44.nD Cert.Kernel44.τ).loc Cert.Kernel44.main_arg1)
      ∧ r.2.mem ((c.tc : Thread Cert.Kernel44.nD Cert.Kernel44.τ).loc Cert.Kernel44.main_arg2) = m ((c.tc : Thread Cert.Kernel44.nD Cert.Kernel44.τ).loc Cert.Kernel44.main_arg2)
      ∧ r.2.mem ((c.tc : Thread Cert.Kernel44.nD Cert.Kernel44.τ).loc Cert.Kernel44.main_arg3) = m ((c.tc : Thread Cert.Kernel44.nD Cert.Kernel44.τ).loc Cert.Kernel44.main_arg3)
      ∧ r.2.mem ((c.tc : Thread Cert.Kernel44.nD Cert.Kernel44.τ).loc Cert.Kernel44.main_arg4) = m ((c.tc : Thread Cert.Kernel44.nD Cert.Kernel44.τ).loc Cert.Kernel44.main_arg4)
      ∧ r.2.mem ((c.tc : Thread Cert.Kernel44.nD Cert.Kernel44.τ).loc Cert.Kernel44.main_arg5) = m ((c.tc : Thread Cert.Kernel44.nD Cert.Kernel44.τ).loc Cert.Kernel44.main_arg5)
      ∧ r.2.mem ((c.tc : Thread Cert.Kernel44.nD Cert.Kernel44.τ).loc Cert.Kernel44.main_arg6) = m ((c.tc : Thread Cert.Kernel44.nD Cert.Kernel44.τ).loc Cert.Kernel44.main_arg6))
      ∧ r.2.sem = fun _ => 0)

def quiescent_Kernel44Ideal [hKernel44Ideal : Cert.Kernel44Ideal.Facts] : Prop :=
  ∀ (m : (ℓ : Loc Cert.Kernel44Ideal.nD Cert.Kernel44Ideal.τ Cert.Kernel44Ideal.sig) → Buf (Elt Ideal) ℓ) (g : Dev Cert.Kernel44Ideal.nD → PrngReg), Pre_Kernel44Ideal m →
    θ_run (Cert.Kernel44Ideal.defs (F := Ideal)) (onTc (τ := Cert.Kernel44Ideal.τ) (Cert.Kernel44Ideal.main (F := Ideal))) ⟨m, fun _ => 0, g⟩ (fun r => (∀ c : Dev Cert.Kernel44Ideal.nD,
      r.2.mem ((c.tc : Thread Cert.Kernel44Ideal.nD Cert.Kernel44Ideal.τ).loc Cert.Kernel44Ideal.main_arg0) = m ((c.tc : Thread Cert.Kernel44Ideal.nD Cert.Kernel44Ideal.τ).loc Cert.Kernel44Ideal.main_arg0)
      ∧ r.2.mem ((c.tc : Thread Cert.Kernel44Ideal.nD Cert.Kernel44Ideal.τ).loc Cert.Kernel44Ideal.main_arg1) = m ((c.tc : Thread Cert.Kernel44Ideal.nD Cert.Kernel44Ideal.τ).loc Cert.Kernel44Ideal.main_arg1)
      ∧ r.2.mem ((c.tc : Thread Cert.Kernel44Ideal.nD Cert.Kernel44Ideal.τ).loc Cert.Kernel44Ideal.main_arg2) = m ((c.tc : Thread Cert.Kernel44Ideal.nD Cert.Kernel44Ideal.τ).loc Cert.Kernel44Ideal.main_arg2)
      ∧ r.2.mem ((c.tc : Thread Cert.Kernel44Ideal.nD Cert.Kernel44Ideal.τ).loc Cert.Kernel44Ideal.main_arg3) = m ((c.tc : Thread Cert.Kernel44Ideal.nD Cert.Kernel44Ideal.τ).loc Cert.Kernel44Ideal.main_arg3)
      ∧ r.2.mem ((c.tc : Thread Cert.Kernel44Ideal.nD Cert.Kernel44Ideal.τ).loc Cert.Kernel44Ideal.main_arg4) = m ((c.tc : Thread Cert.Kernel44Ideal.nD Cert.Kernel44Ideal.τ).loc Cert.Kernel44Ideal.main_arg4)
      ∧ r.2.mem ((c.tc : Thread Cert.Kernel44Ideal.nD Cert.Kernel44Ideal.τ).loc Cert.Kernel44Ideal.main_arg5) = m ((c.tc : Thread Cert.Kernel44Ideal.nD Cert.Kernel44Ideal.τ).loc Cert.Kernel44Ideal.main_arg5)
      ∧ r.2.mem ((c.tc : Thread Cert.Kernel44Ideal.nD Cert.Kernel44Ideal.τ).loc Cert.Kernel44Ideal.main_arg6) = m ((c.tc : Thread Cert.Kernel44Ideal.nD Cert.Kernel44Ideal.τ).loc Cert.Kernel44Ideal.main_arg6))
      ∧ r.2.sem = fun _ => 0)

def quiescent_Reference44Ideal [hReference44Ideal : Cert.Reference44Ideal.Facts] : Prop :=
  ∀ (m : (ℓ : Loc Cert.Reference44Ideal.nD Cert.Reference44Ideal.τ Cert.Reference44Ideal.sig) → Buf (Elt Ideal) ℓ) (g : Dev Cert.Reference44Ideal.nD → PrngReg), Pre_Reference44Ideal m →
    θ_run (Cert.Reference44Ideal.defs (F := Ideal)) (onTc (τ := Cert.Reference44Ideal.τ) (Cert.Reference44Ideal.main (F := Ideal))) ⟨m, fun _ => 0, g⟩ (fun r => (∀ c : Dev Cert.Reference44Ideal.nD,
      r.2.mem ((c.tc : Thread Cert.Reference44Ideal.nD Cert.Reference44Ideal.τ).loc Cert.Reference44Ideal.main_arg0) = m ((c.tc : Thread Cert.Reference44Ideal.nD Cert.Reference44Ideal.τ).loc Cert.Reference44Ideal.main_arg0)
      ∧ r.2.mem ((c.tc : Thread Cert.Reference44Ideal.nD Cert.Reference44Ideal.τ).loc Cert.Reference44Ideal.main_arg1) = m ((c.tc : Thread Cert.Reference44Ideal.nD Cert.Reference44Ideal.τ).loc Cert.Reference44Ideal.main_arg1)
      ∧ r.2.mem ((c.tc : Thread Cert.Reference44Ideal.nD Cert.Reference44Ideal.τ).loc Cert.Reference44Ideal.main_arg2) = m ((c.tc : Thread Cert.Reference44Ideal.nD Cert.Reference44Ideal.τ).loc Cert.Reference44Ideal.main_arg2)
      ∧ r.2.mem ((c.tc : Thread Cert.Reference44Ideal.nD Cert.Reference44Ideal.τ).loc Cert.Reference44Ideal.main_arg3) = m ((c.tc : Thread Cert.Reference44Ideal.nD Cert.Reference44Ideal.τ).loc Cert.Reference44Ideal.main_arg3)
      ∧ r.2.mem ((c.tc : Thread Cert.Reference44Ideal.nD Cert.Reference44Ideal.τ).loc Cert.Reference44Ideal.main_arg4) = m ((c.tc : Thread Cert.Reference44Ideal.nD Cert.Reference44Ideal.τ).loc Cert.Reference44Ideal.main_arg4)
      ∧ r.2.mem ((c.tc : Thread Cert.Reference44Ideal.nD Cert.Reference44Ideal.τ).loc Cert.Reference44Ideal.main_arg5) = m ((c.tc : Thread Cert.Reference44Ideal.nD Cert.Reference44Ideal.τ).loc Cert.Reference44Ideal.main_arg5)
      ∧ r.2.mem ((c.tc : Thread Cert.Reference44Ideal.nD Cert.Reference44Ideal.τ).loc Cert.Reference44Ideal.main_arg6) = m ((c.tc : Thread Cert.Reference44Ideal.nD Cert.Reference44Ideal.τ).loc Cert.Reference44Ideal.main_arg6))
      ∧ r.2.sem = fun _ => 0)

def quiescent_Kernel45 [hKernel45 : Cert.Kernel45.Facts] : Prop :=
  ∀ (m : (ℓ : Loc Cert.Kernel45.nD Cert.Kernel45.τ Cert.Kernel45.sig) → Buf (Elt Bits) ℓ) (g : Dev Cert.Kernel45.nD → PrngReg), Pre_Kernel45 m →
    θ_run (Cert.Kernel45.defs (F := Bits)) (onTc (τ := Cert.Kernel45.τ) (Cert.Kernel45.main (F := Bits))) ⟨m, fun _ => 0, g⟩ (fun r => (∀ c : Dev Cert.Kernel45.nD,
      r.2.mem ((c.tc : Thread Cert.Kernel45.nD Cert.Kernel45.τ).loc Cert.Kernel45.main_arg0) = m ((c.tc : Thread Cert.Kernel45.nD Cert.Kernel45.τ).loc Cert.Kernel45.main_arg0)
      ∧ r.2.mem ((c.tc : Thread Cert.Kernel45.nD Cert.Kernel45.τ).loc Cert.Kernel45.main_arg1) = m ((c.tc : Thread Cert.Kernel45.nD Cert.Kernel45.τ).loc Cert.Kernel45.main_arg1)
      ∧ r.2.mem ((c.tc : Thread Cert.Kernel45.nD Cert.Kernel45.τ).loc Cert.Kernel45.main_arg2) = m ((c.tc : Thread Cert.Kernel45.nD Cert.Kernel45.τ).loc Cert.Kernel45.main_arg2)
      ∧ r.2.mem ((c.tc : Thread Cert.Kernel45.nD Cert.Kernel45.τ).loc Cert.Kernel45.main_arg3) = m ((c.tc : Thread Cert.Kernel45.nD Cert.Kernel45.τ).loc Cert.Kernel45.main_arg3)
      ∧ r.2.mem ((c.tc : Thread Cert.Kernel45.nD Cert.Kernel45.τ).loc Cert.Kernel45.main_arg4) = m ((c.tc : Thread Cert.Kernel45.nD Cert.Kernel45.τ).loc Cert.Kernel45.main_arg4)
      ∧ r.2.mem ((c.tc : Thread Cert.Kernel45.nD Cert.Kernel45.τ).loc Cert.Kernel45.main_arg5) = m ((c.tc : Thread Cert.Kernel45.nD Cert.Kernel45.τ).loc Cert.Kernel45.main_arg5)
      ∧ r.2.mem ((c.tc : Thread Cert.Kernel45.nD Cert.Kernel45.τ).loc Cert.Kernel45.main_arg6) = m ((c.tc : Thread Cert.Kernel45.nD Cert.Kernel45.τ).loc Cert.Kernel45.main_arg6))
      ∧ r.2.sem = fun _ => 0)

def quiescent_Kernel45Ideal [hKernel45Ideal : Cert.Kernel45Ideal.Facts] : Prop :=
  ∀ (m : (ℓ : Loc Cert.Kernel45Ideal.nD Cert.Kernel45Ideal.τ Cert.Kernel45Ideal.sig) → Buf (Elt Ideal) ℓ) (g : Dev Cert.Kernel45Ideal.nD → PrngReg), Pre_Kernel45Ideal m →
    θ_run (Cert.Kernel45Ideal.defs (F := Ideal)) (onTc (τ := Cert.Kernel45Ideal.τ) (Cert.Kernel45Ideal.main (F := Ideal))) ⟨m, fun _ => 0, g⟩ (fun r => (∀ c : Dev Cert.Kernel45Ideal.nD,
      r.2.mem ((c.tc : Thread Cert.Kernel45Ideal.nD Cert.Kernel45Ideal.τ).loc Cert.Kernel45Ideal.main_arg0) = m ((c.tc : Thread Cert.Kernel45Ideal.nD Cert.Kernel45Ideal.τ).loc Cert.Kernel45Ideal.main_arg0)
      ∧ r.2.mem ((c.tc : Thread Cert.Kernel45Ideal.nD Cert.Kernel45Ideal.τ).loc Cert.Kernel45Ideal.main_arg1) = m ((c.tc : Thread Cert.Kernel45Ideal.nD Cert.Kernel45Ideal.τ).loc Cert.Kernel45Ideal.main_arg1)
      ∧ r.2.mem ((c.tc : Thread Cert.Kernel45Ideal.nD Cert.Kernel45Ideal.τ).loc Cert.Kernel45Ideal.main_arg2) = m ((c.tc : Thread Cert.Kernel45Ideal.nD Cert.Kernel45Ideal.τ).loc Cert.Kernel45Ideal.main_arg2)
      ∧ r.2.mem ((c.tc : Thread Cert.Kernel45Ideal.nD Cert.Kernel45Ideal.τ).loc Cert.Kernel45Ideal.main_arg3) = m ((c.tc : Thread Cert.Kernel45Ideal.nD Cert.Kernel45Ideal.τ).loc Cert.Kernel45Ideal.main_arg3)
      ∧ r.2.mem ((c.tc : Thread Cert.Kernel45Ideal.nD Cert.Kernel45Ideal.τ).loc Cert.Kernel45Ideal.main_arg4) = m ((c.tc : Thread Cert.Kernel45Ideal.nD Cert.Kernel45Ideal.τ).loc Cert.Kernel45Ideal.main_arg4)
      ∧ r.2.mem ((c.tc : Thread Cert.Kernel45Ideal.nD Cert.Kernel45Ideal.τ).loc Cert.Kernel45Ideal.main_arg5) = m ((c.tc : Thread Cert.Kernel45Ideal.nD Cert.Kernel45Ideal.τ).loc Cert.Kernel45Ideal.main_arg5)
      ∧ r.2.mem ((c.tc : Thread Cert.Kernel45Ideal.nD Cert.Kernel45Ideal.τ).loc Cert.Kernel45Ideal.main_arg6) = m ((c.tc : Thread Cert.Kernel45Ideal.nD Cert.Kernel45Ideal.τ).loc Cert.Kernel45Ideal.main_arg6))
      ∧ r.2.sem = fun _ => 0)

def quiescent_Reference45Ideal [hReference45Ideal : Cert.Reference45Ideal.Facts] : Prop :=
  ∀ (m : (ℓ : Loc Cert.Reference45Ideal.nD Cert.Reference45Ideal.τ Cert.Reference45Ideal.sig) → Buf (Elt Ideal) ℓ) (g : Dev Cert.Reference45Ideal.nD → PrngReg), Pre_Reference45Ideal m →
    θ_run (Cert.Reference45Ideal.defs (F := Ideal)) (onTc (τ := Cert.Reference45Ideal.τ) (Cert.Reference45Ideal.main (F := Ideal))) ⟨m, fun _ => 0, g⟩ (fun r => (∀ c : Dev Cert.Reference45Ideal.nD,
      r.2.mem ((c.tc : Thread Cert.Reference45Ideal.nD Cert.Reference45Ideal.τ).loc Cert.Reference45Ideal.main_arg0) = m ((c.tc : Thread Cert.Reference45Ideal.nD Cert.Reference45Ideal.τ).loc Cert.Reference45Ideal.main_arg0)
      ∧ r.2.mem ((c.tc : Thread Cert.Reference45Ideal.nD Cert.Reference45Ideal.τ).loc Cert.Reference45Ideal.main_arg1) = m ((c.tc : Thread Cert.Reference45Ideal.nD Cert.Reference45Ideal.τ).loc Cert.Reference45Ideal.main_arg1)
      ∧ r.2.mem ((c.tc : Thread Cert.Reference45Ideal.nD Cert.Reference45Ideal.τ).loc Cert.Reference45Ideal.main_arg2) = m ((c.tc : Thread Cert.Reference45Ideal.nD Cert.Reference45Ideal.τ).loc Cert.Reference45Ideal.main_arg2)
      ∧ r.2.mem ((c.tc : Thread Cert.Reference45Ideal.nD Cert.Reference45Ideal.τ).loc Cert.Reference45Ideal.main_arg3) = m ((c.tc : Thread Cert.Reference45Ideal.nD Cert.Reference45Ideal.τ).loc Cert.Reference45Ideal.main_arg3)
      ∧ r.2.mem ((c.tc : Thread Cert.Reference45Ideal.nD Cert.Reference45Ideal.τ).loc Cert.Reference45Ideal.main_arg4) = m ((c.tc : Thread Cert.Reference45Ideal.nD Cert.Reference45Ideal.τ).loc Cert.Reference45Ideal.main_arg4)
      ∧ r.2.mem ((c.tc : Thread Cert.Reference45Ideal.nD Cert.Reference45Ideal.τ).loc Cert.Reference45Ideal.main_arg5) = m ((c.tc : Thread Cert.Reference45Ideal.nD Cert.Reference45Ideal.τ).loc Cert.Reference45Ideal.main_arg5)
      ∧ r.2.mem ((c.tc : Thread Cert.Reference45Ideal.nD Cert.Reference45Ideal.τ).loc Cert.Reference45Ideal.main_arg6) = m ((c.tc : Thread Cert.Reference45Ideal.nD Cert.Reference45Ideal.τ).loc Cert.Reference45Ideal.main_arg6))
      ∧ r.2.sem = fun _ => 0)

def quiescent_Kernel46 [hKernel46 : Cert.Kernel46.Facts] : Prop :=
  ∀ (m : (ℓ : Loc Cert.Kernel46.nD Cert.Kernel46.τ Cert.Kernel46.sig) → Buf (Elt Bits) ℓ) (g : Dev Cert.Kernel46.nD → PrngReg), Pre_Kernel46 m →
    θ_run (Cert.Kernel46.defs (F := Bits)) (onTc (τ := Cert.Kernel46.τ) (Cert.Kernel46.main (F := Bits))) ⟨m, fun _ => 0, g⟩ (fun r => (∀ c : Dev Cert.Kernel46.nD,
      r.2.mem ((c.tc : Thread Cert.Kernel46.nD Cert.Kernel46.τ).loc Cert.Kernel46.main_arg0) = m ((c.tc : Thread Cert.Kernel46.nD Cert.Kernel46.τ).loc Cert.Kernel46.main_arg0)
      ∧ r.2.mem ((c.tc : Thread Cert.Kernel46.nD Cert.Kernel46.τ).loc Cert.Kernel46.main_arg1) = m ((c.tc : Thread Cert.Kernel46.nD Cert.Kernel46.τ).loc Cert.Kernel46.main_arg1)
      ∧ r.2.mem ((c.tc : Thread Cert.Kernel46.nD Cert.Kernel46.τ).loc Cert.Kernel46.main_arg2) = m ((c.tc : Thread Cert.Kernel46.nD Cert.Kernel46.τ).loc Cert.Kernel46.main_arg2))
      ∧ r.2.sem = fun _ => 0)

def quiescent_Kernel46Ideal [hKernel46Ideal : Cert.Kernel46Ideal.Facts] : Prop :=
  ∀ (m : (ℓ : Loc Cert.Kernel46Ideal.nD Cert.Kernel46Ideal.τ Cert.Kernel46Ideal.sig) → Buf (Elt Ideal) ℓ) (g : Dev Cert.Kernel46Ideal.nD → PrngReg), Pre_Kernel46Ideal m →
    θ_run (Cert.Kernel46Ideal.defs (F := Ideal)) (onTc (τ := Cert.Kernel46Ideal.τ) (Cert.Kernel46Ideal.main (F := Ideal))) ⟨m, fun _ => 0, g⟩ (fun r => (∀ c : Dev Cert.Kernel46Ideal.nD,
      r.2.mem ((c.tc : Thread Cert.Kernel46Ideal.nD Cert.Kernel46Ideal.τ).loc Cert.Kernel46Ideal.main_arg0) = m ((c.tc : Thread Cert.Kernel46Ideal.nD Cert.Kernel46Ideal.τ).loc Cert.Kernel46Ideal.main_arg0)
      ∧ r.2.mem ((c.tc : Thread Cert.Kernel46Ideal.nD Cert.Kernel46Ideal.τ).loc Cert.Kernel46Ideal.main_arg1) = m ((c.tc : Thread Cert.Kernel46Ideal.nD Cert.Kernel46Ideal.τ).loc Cert.Kernel46Ideal.main_arg1)
      ∧ r.2.mem ((c.tc : Thread Cert.Kernel46Ideal.nD Cert.Kernel46Ideal.τ).loc Cert.Kernel46Ideal.main_arg2) = m ((c.tc : Thread Cert.Kernel46Ideal.nD Cert.Kernel46Ideal.τ).loc Cert.Kernel46Ideal.main_arg2))
      ∧ r.2.sem = fun _ => 0)

def quiescent_Reference46Ideal [hReference46Ideal : Cert.Reference46Ideal.Facts] : Prop :=
  ∀ (m : (ℓ : Loc Cert.Reference46Ideal.nD Cert.Reference46Ideal.τ Cert.Reference46Ideal.sig) → Buf (Elt Ideal) ℓ) (g : Dev Cert.Reference46Ideal.nD → PrngReg), Pre_Reference46Ideal m →
    θ_run (Cert.Reference46Ideal.defs (F := Ideal)) (onTc (τ := Cert.Reference46Ideal.τ) (Cert.Reference46Ideal.main (F := Ideal))) ⟨m, fun _ => 0, g⟩ (fun r => (∀ c : Dev Cert.Reference46Ideal.nD,
      r.2.mem ((c.tc : Thread Cert.Reference46Ideal.nD Cert.Reference46Ideal.τ).loc Cert.Reference46Ideal.main_arg0) = m ((c.tc : Thread Cert.Reference46Ideal.nD Cert.Reference46Ideal.τ).loc Cert.Reference46Ideal.main_arg0)
      ∧ r.2.mem ((c.tc : Thread Cert.Reference46Ideal.nD Cert.Reference46Ideal.τ).loc Cert.Reference46Ideal.main_arg1) = m ((c.tc : Thread Cert.Reference46Ideal.nD Cert.Reference46Ideal.τ).loc Cert.Reference46Ideal.main_arg1)
      ∧ r.2.mem ((c.tc : Thread Cert.Reference46Ideal.nD Cert.Reference46Ideal.τ).loc Cert.Reference46Ideal.main_arg2) = m ((c.tc : Thread Cert.Reference46Ideal.nD Cert.Reference46Ideal.τ).loc Cert.Reference46Ideal.main_arg2))
      ∧ r.2.sem = fun _ => 0)

def quiescent_Kernel47 [hKernel47 : Cert.Kernel47.Facts] : Prop :=
  ∀ (m : (ℓ : Loc Cert.Kernel47.nD Cert.Kernel47.τ Cert.Kernel47.sig) → Buf (Elt Bits) ℓ) (g : Dev Cert.Kernel47.nD → PrngReg), Pre_Kernel47 m →
    θ_run (Cert.Kernel47.defs (F := Bits)) (onTc (τ := Cert.Kernel47.τ) (Cert.Kernel47.main (F := Bits))) ⟨m, fun _ => 0, g⟩ (fun r => (∀ c : Dev Cert.Kernel47.nD,
      r.2.mem ((c.tc : Thread Cert.Kernel47.nD Cert.Kernel47.τ).loc Cert.Kernel47.main_arg0) = m ((c.tc : Thread Cert.Kernel47.nD Cert.Kernel47.τ).loc Cert.Kernel47.main_arg0)
      ∧ r.2.mem ((c.tc : Thread Cert.Kernel47.nD Cert.Kernel47.τ).loc Cert.Kernel47.main_arg1) = m ((c.tc : Thread Cert.Kernel47.nD Cert.Kernel47.τ).loc Cert.Kernel47.main_arg1)
      ∧ r.2.mem ((c.tc : Thread Cert.Kernel47.nD Cert.Kernel47.τ).loc Cert.Kernel47.main_arg2) = m ((c.tc : Thread Cert.Kernel47.nD Cert.Kernel47.τ).loc Cert.Kernel47.main_arg2))
      ∧ r.2.sem = fun _ => 0)

def quiescent_Kernel47Ideal [hKernel47Ideal : Cert.Kernel47Ideal.Facts] : Prop :=
  ∀ (m : (ℓ : Loc Cert.Kernel47Ideal.nD Cert.Kernel47Ideal.τ Cert.Kernel47Ideal.sig) → Buf (Elt Ideal) ℓ) (g : Dev Cert.Kernel47Ideal.nD → PrngReg), Pre_Kernel47Ideal m →
    θ_run (Cert.Kernel47Ideal.defs (F := Ideal)) (onTc (τ := Cert.Kernel47Ideal.τ) (Cert.Kernel47Ideal.main (F := Ideal))) ⟨m, fun _ => 0, g⟩ (fun r => (∀ c : Dev Cert.Kernel47Ideal.nD,
      r.2.mem ((c.tc : Thread Cert.Kernel47Ideal.nD Cert.Kernel47Ideal.τ).loc Cert.Kernel47Ideal.main_arg0) = m ((c.tc : Thread Cert.Kernel47Ideal.nD Cert.Kernel47Ideal.τ).loc Cert.Kernel47Ideal.main_arg0)
      ∧ r.2.mem ((c.tc : Thread Cert.Kernel47Ideal.nD Cert.Kernel47Ideal.τ).loc Cert.Kernel47Ideal.main_arg1) = m ((c.tc : Thread Cert.Kernel47Ideal.nD Cert.Kernel47Ideal.τ).loc Cert.Kernel47Ideal.main_arg1)
      ∧ r.2.mem ((c.tc : Thread Cert.Kernel47Ideal.nD Cert.Kernel47Ideal.τ).loc Cert.Kernel47Ideal.main_arg2) = m ((c.tc : Thread Cert.Kernel47Ideal.nD Cert.Kernel47Ideal.τ).loc Cert.Kernel47Ideal.main_arg2))
      ∧ r.2.sem = fun _ => 0)

def quiescent_Reference47Ideal [hReference47Ideal : Cert.Reference47Ideal.Facts] : Prop :=
  ∀ (m : (ℓ : Loc Cert.Reference47Ideal.nD Cert.Reference47Ideal.τ Cert.Reference47Ideal.sig) → Buf (Elt Ideal) ℓ) (g : Dev Cert.Reference47Ideal.nD → PrngReg), Pre_Reference47Ideal m →
    θ_run (Cert.Reference47Ideal.defs (F := Ideal)) (onTc (τ := Cert.Reference47Ideal.τ) (Cert.Reference47Ideal.main (F := Ideal))) ⟨m, fun _ => 0, g⟩ (fun r => (∀ c : Dev Cert.Reference47Ideal.nD,
      r.2.mem ((c.tc : Thread Cert.Reference47Ideal.nD Cert.Reference47Ideal.τ).loc Cert.Reference47Ideal.main_arg0) = m ((c.tc : Thread Cert.Reference47Ideal.nD Cert.Reference47Ideal.τ).loc Cert.Reference47Ideal.main_arg0)
      ∧ r.2.mem ((c.tc : Thread Cert.Reference47Ideal.nD Cert.Reference47Ideal.τ).loc Cert.Reference47Ideal.main_arg1) = m ((c.tc : Thread Cert.Reference47Ideal.nD Cert.Reference47Ideal.τ).loc Cert.Reference47Ideal.main_arg1)
      ∧ r.2.mem ((c.tc : Thread Cert.Reference47Ideal.nD Cert.Reference47Ideal.τ).loc Cert.Reference47Ideal.main_arg2) = m ((c.tc : Thread Cert.Reference47Ideal.nD Cert.Reference47Ideal.τ).loc Cert.Reference47Ideal.main_arg2))
      ∧ r.2.sem = fun _ => 0)

def quiescent_Kernel48 [hKernel48 : Cert.Kernel48.Facts] : Prop :=
  ∀ (m : (ℓ : Loc Cert.Kernel48.nD Cert.Kernel48.τ Cert.Kernel48.sig) → Buf (Elt Bits) ℓ) (g : Dev Cert.Kernel48.nD → PrngReg), Pre_Kernel48 m →
    θ_run (Cert.Kernel48.defs (F := Bits)) (onTc (τ := Cert.Kernel48.τ) (Cert.Kernel48.main (F := Bits))) ⟨m, fun _ => 0, g⟩ (fun r => (∀ c : Dev Cert.Kernel48.nD,
      r.2.mem ((c.tc : Thread Cert.Kernel48.nD Cert.Kernel48.τ).loc Cert.Kernel48.main_arg0) = m ((c.tc : Thread Cert.Kernel48.nD Cert.Kernel48.τ).loc Cert.Kernel48.main_arg0))
      ∧ r.2.sem = fun _ => 0)

def quiescent_Kernel48Ideal [hKernel48Ideal : Cert.Kernel48Ideal.Facts] : Prop :=
  ∀ (m : (ℓ : Loc Cert.Kernel48Ideal.nD Cert.Kernel48Ideal.τ Cert.Kernel48Ideal.sig) → Buf (Elt Ideal) ℓ) (g : Dev Cert.Kernel48Ideal.nD → PrngReg), Pre_Kernel48Ideal m →
    θ_run (Cert.Kernel48Ideal.defs (F := Ideal)) (onTc (τ := Cert.Kernel48Ideal.τ) (Cert.Kernel48Ideal.main (F := Ideal))) ⟨m, fun _ => 0, g⟩ (fun r => (∀ c : Dev Cert.Kernel48Ideal.nD,
      r.2.mem ((c.tc : Thread Cert.Kernel48Ideal.nD Cert.Kernel48Ideal.τ).loc Cert.Kernel48Ideal.main_arg0) = m ((c.tc : Thread Cert.Kernel48Ideal.nD Cert.Kernel48Ideal.τ).loc Cert.Kernel48Ideal.main_arg0))
      ∧ r.2.sem = fun _ => 0)

def quiescent_Reference48Ideal [hReference48Ideal : Cert.Reference48Ideal.Facts] : Prop :=
  ∀ (m : (ℓ : Loc Cert.Reference48Ideal.nD Cert.Reference48Ideal.τ Cert.Reference48Ideal.sig) → Buf (Elt Ideal) ℓ) (g : Dev Cert.Reference48Ideal.nD → PrngReg), Pre_Reference48Ideal m →
    θ_run (Cert.Reference48Ideal.defs (F := Ideal)) (onTc (τ := Cert.Reference48Ideal.τ) (Cert.Reference48Ideal.main (F := Ideal))) ⟨m, fun _ => 0, g⟩ (fun r => (∀ c : Dev Cert.Reference48Ideal.nD,
      r.2.mem ((c.tc : Thread Cert.Reference48Ideal.nD Cert.Reference48Ideal.τ).loc Cert.Reference48Ideal.main_arg0) = m ((c.tc : Thread Cert.Reference48Ideal.nD Cert.Reference48Ideal.τ).loc Cert.Reference48Ideal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v115_0)) (v1 : (c : Dev Cert.KernelIdeal.nD) → Buf (Elt Ideal) ((c.tc : Thread Cert.KernelIdeal.nD Cert.KernelIdeal.τ).loc Cert.KernelIdeal.main_v115_1)) (v2 : (c : Dev Cert.KernelIdeal.nD) → Buf (Elt Ideal) ((c.tc : Thread Cert.KernelIdeal.nD Cert.KernelIdeal.τ).loc Cert.KernelIdeal.main_v115_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v115_0) = v0 c
          ∧ r.2.mem ((c.tc : Thread Cert.KernelIdeal.nD Cert.KernelIdeal.τ).loc Cert.KernelIdeal.main_v115_1) = v1 c
          ∧ r.2.mem ((c.tc : Thread Cert.KernelIdeal.nD Cert.KernelIdeal.τ).loc Cert.KernelIdeal.main_v115_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_v86) = v1 c
          ∧ r.2.mem ((c.tc : Thread Cert.ReferenceIdeal.nD Cert.ReferenceIdeal.τ).loc Cert.ReferenceIdeal.main_v87) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Kernel2_Kernel2Ideal : Prop :=
  True

def algebraic_Kernel2Ideal_Reference2Ideal_pre_finite_scores [hKernel2Ideal : Cert.Kernel2Ideal.Facts] [hReference2Ideal : Cert.Reference2Ideal.Facts] [hPre_finite_scores : Cert.Pre_finite_scores.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_scores m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v34) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v13) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v13) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_v5) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v6) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal_pre_finite_fox_scores [hKernel11Ideal : Cert.Kernel11Ideal.Facts] [hReference11Ideal : Cert.Reference11Ideal.Facts] [hPre_finite_fox_scores : Cert.Pre_finite_fox_scores.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal_finite_fox_scores m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v4)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v4) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v40) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v4) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v4) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v4) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v4) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v3) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v6) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v4) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v4) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)) →
    ∃ (v0 : (c : Dev Cert.Kernel20Ideal.nD) → Buf (Elt Ideal) ((c.tc : Thread Cert.Kernel20Ideal.nD Cert.Kernel20Ideal.τ).loc Cert.Kernel20Ideal.main_v1)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v1) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v6) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)) →
    ∃ (v0 : (c : Dev Cert.Kernel21Ideal.nD) → Buf (Elt Ideal) ((c.tc : Thread Cert.Kernel21Ideal.nD Cert.Kernel21Ideal.τ).loc Cert.Kernel21Ideal.main_v2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v2) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v6) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)) →
    ∃ (v0 : (c : Dev Cert.Kernel22Ideal.nD) → Buf (Elt Ideal) ((c.tc : Thread Cert.Kernel22Ideal.nD Cert.Kernel22Ideal.τ).loc Cert.Kernel22Ideal.main_v2_0)) (v1 : (c : Dev Cert.Kernel22Ideal.nD) → Buf (Elt Ideal) ((c.tc : Thread Cert.Kernel22Ideal.nD Cert.Kernel22Ideal.τ).loc Cert.Kernel22Ideal.main_v2_1)) (v2 : (c : Dev Cert.Kernel22Ideal.nD) → Buf (Elt Ideal) ((c.tc : Thread Cert.Kernel22Ideal.nD Cert.Kernel22Ideal.τ).loc Cert.Kernel22Ideal.main_v2_2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v2_0) = v0 c
          ∧ r.2.mem ((c.tc : Thread Cert.Kernel22Ideal.nD Cert.Kernel22Ideal.τ).loc Cert.Kernel22Ideal.main_v2_1) = v1 c
          ∧ r.2.mem ((c.tc : Thread Cert.Kernel22Ideal.nD Cert.Kernel22Ideal.τ).loc Cert.Kernel22Ideal.main_v2_2) = v2 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v28) = v0 c
          ∧ r.2.mem ((c.tc : Thread Cert.Reference22Ideal.nD Cert.Reference22Ideal.τ).loc Cert.Reference22Ideal.main_v27) = v1 c
          ∧ r.2.mem ((c.tc : Thread Cert.Reference22Ideal.nD Cert.Reference22Ideal.τ).loc Cert.Reference22Ideal.main_v29) = v2 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)) →
    ∃ (v0 : (c : Dev Cert.Kernel23Ideal.nD) → Buf (Elt Ideal) ((c.tc : Thread Cert.Kernel23Ideal.nD Cert.Kernel23Ideal.τ).loc Cert.Kernel23Ideal.main_v2_0)) (v1 : (c : Dev Cert.Kernel23Ideal.nD) → Buf (Elt Ideal) ((c.tc : Thread Cert.Kernel23Ideal.nD Cert.Kernel23Ideal.τ).loc Cert.Kernel23Ideal.main_v2_1)) (v2 : (c : Dev Cert.Kernel23Ideal.nD) → Buf (Elt Ideal) ((c.tc : Thread Cert.Kernel23Ideal.nD Cert.Kernel23Ideal.τ).loc Cert.Kernel23Ideal.main_v2_2)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v2_0) = v0 c
          ∧ r.2.mem ((c.tc : Thread Cert.Kernel23Ideal.nD Cert.Kernel23Ideal.τ).loc Cert.Kernel23Ideal.main_v2_1) = v1 c
          ∧ r.2.mem ((c.tc : Thread Cert.Kernel23Ideal.nD Cert.Kernel23Ideal.τ).loc Cert.Kernel23Ideal.main_v2_2) = v2 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v28) = v0 c
          ∧ r.2.mem ((c.tc : Thread Cert.Reference23Ideal.nD Cert.Reference23Ideal.τ).loc Cert.Reference23Ideal.main_v27) = v1 c
          ∧ r.2.mem ((c.tc : Thread Cert.Reference23Ideal.nD Cert.Reference23Ideal.τ).loc Cert.Reference23Ideal.main_v29) = v2 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v36)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v36) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v37) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)) →
    ∃ (v0 : (c : Dev Cert.Kernel25Ideal.nD) → Buf (Elt Ideal) ((c.tc : Thread Cert.Kernel25Ideal.nD Cert.Kernel25Ideal.τ).loc Cert.Kernel25Ideal.main_v35)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v35) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v38) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)) →
    ∃ (v0 : (c : Dev Cert.Kernel26Ideal.nD) → Buf (Elt Ideal) ((c.tc : Thread Cert.Kernel26Ideal.nD Cert.Kernel26Ideal.τ).loc Cert.Kernel26Ideal.main_v35)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v35) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v38) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)
      ∧ m' ((c.tc : Thread Cert.Reference27Ideal.nD Cert.Reference27Ideal.τ).loc Cert.Reference27Ideal.main_arg4) = m ((c.tc : Thread Cert.Kernel27Ideal.nD Cert.Kernel27Ideal.τ).loc Cert.Kernel27Ideal.main_arg4)) →
    ∃ (v0 : (c : Dev Cert.Kernel27Ideal.nD) → Buf (Elt Ideal) ((c.tc : Thread Cert.Kernel27Ideal.nD Cert.Kernel27Ideal.τ).loc Cert.Kernel27Ideal.main_v2)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v2) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3)
          ∧ r.2.mem ((c.tc : Thread Cert.Kernel27Ideal.nD Cert.Kernel27Ideal.τ).loc Cert.Kernel27Ideal.main_arg4) = m ((c.tc : Thread Cert.Kernel27Ideal.nD Cert.Kernel27Ideal.τ).loc Cert.Kernel27Ideal.main_arg4))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v30) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3)
          ∧ r.2.mem ((c.tc : Thread Cert.Reference27Ideal.nD Cert.Reference27Ideal.τ).loc Cert.Reference27Ideal.main_arg4) = m' ((c.tc : Thread Cert.Reference27Ideal.nD Cert.Reference27Ideal.τ).loc Cert.Reference27Ideal.main_arg4))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)
      ∧ m' ((c.tc : Thread Cert.Reference28Ideal.nD Cert.Reference28Ideal.τ).loc Cert.Reference28Ideal.main_arg4) = m ((c.tc : Thread Cert.Kernel28Ideal.nD Cert.Kernel28Ideal.τ).loc Cert.Kernel28Ideal.main_arg4)) →
    ∃ (v0 : (c : Dev Cert.Kernel28Ideal.nD) → Buf (Elt Ideal) ((c.tc : Thread Cert.Kernel28Ideal.nD Cert.Kernel28Ideal.τ).loc Cert.Kernel28Ideal.main_v2)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v2) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3)
          ∧ r.2.mem ((c.tc : Thread Cert.Kernel28Ideal.nD Cert.Kernel28Ideal.τ).loc Cert.Kernel28Ideal.main_arg4) = m ((c.tc : Thread Cert.Kernel28Ideal.nD Cert.Kernel28Ideal.τ).loc Cert.Kernel28Ideal.main_arg4))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v29) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3)
          ∧ r.2.mem ((c.tc : Thread Cert.Reference28Ideal.nD Cert.Reference28Ideal.τ).loc Cert.Reference28Ideal.main_arg4) = m' ((c.tc : Thread Cert.Reference28Ideal.nD Cert.Reference28Ideal.τ).loc Cert.Reference28Ideal.main_arg4))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)) →
    ∃ (v0 : (c : Dev Cert.Kernel29Ideal.nD) → Buf (Elt Ideal) ((c.tc : Thread Cert.Kernel29Ideal.nD Cert.Kernel29Ideal.τ).loc Cert.Kernel29Ideal.main_v0)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0) = v0 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v4) = v0 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)) →
    ∃ (v0 : (c : Dev Cert.Kernel30Ideal.nD) → Buf (Elt Ideal) ((c.tc : Thread Cert.Kernel30Ideal.nD Cert.Kernel30Ideal.τ).loc Cert.Kernel30Ideal.main_v0)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0) = v0 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v4) = v0 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)) →
    ∃ (v0 : (c : Dev Cert.Kernel31Ideal.nD) → Buf (Elt Ideal) ((c.tc : Thread Cert.Kernel31Ideal.nD Cert.Kernel31Ideal.τ).loc Cert.Kernel31Ideal.main_v0)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0) = v0 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v13) = v0 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)) →
    ∃ (v0 : (c : Dev Cert.Kernel32Ideal.nD) → Buf (Elt Ideal) ((c.tc : Thread Cert.Kernel32Ideal.nD Cert.Kernel32Ideal.τ).loc Cert.Kernel32Ideal.main_v0)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0) = v0 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v13) = v0 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)) →
    ∃ (v0 : (c : Dev Cert.Kernel33Ideal.nD) → Buf (Elt Ideal) ((c.tc : Thread Cert.Kernel33Ideal.nD Cert.Kernel33Ideal.τ).loc Cert.Kernel33Ideal.main_v0)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0) = v0 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v3) = v0 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)) →
    ∃ (v0 : (c : Dev Cert.Kernel34Ideal.nD) → Buf (Elt Ideal) ((c.tc : Thread Cert.Kernel34Ideal.nD Cert.Kernel34Ideal.τ).loc Cert.Kernel34Ideal.main_v0)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v0) = v0 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v4) = v0 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1))

def preserves_Kernel35_Kernel35Ideal : Prop :=
  True

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)) →
    ∃ (v0 : (c : Dev Cert.Kernel35Ideal.nD) → Buf (Elt Ideal) ((c.tc : Thread Cert.Kernel35Ideal.nD Cert.Kernel35Ideal.τ).loc Cert.Kernel35Ideal.main_v0)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v0) = v0 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v4) = v0 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1))

def preserves_Kernel36_Kernel36Ideal : Prop :=
  True

def algebraic_Kernel36Ideal_Reference36Ideal [hKernel36Ideal : Cert.Kernel36Ideal.Facts] [hReference36Ideal : Cert.Reference36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg)
    (m' : (ℓ : Loc Cert.Reference36Ideal.nD Cert.Reference36Ideal.τ Cert.Reference36Ideal.sig) → Buf (Elt Ideal) ℓ) (g' : Dev Cert.Reference36Ideal.nD → PrngReg), Pre_Kernel36Ideal m →
    (∀ c : Dev Cert.Kernel36Ideal.nD,
      m' ((c.tc : Thread Cert.Reference36Ideal.nD Cert.Reference36Ideal.τ).loc Cert.Reference36Ideal.main_arg0) = m ((c.tc : Thread Cert.Kernel36Ideal.nD Cert.Kernel36Ideal.τ).loc Cert.Kernel36Ideal.main_arg0)
      ∧ m' ((c.tc : Thread Cert.Reference36Ideal.nD Cert.Reference36Ideal.τ).loc Cert.Reference36Ideal.main_arg1) = m ((c.tc : Thread Cert.Kernel36Ideal.nD Cert.Kernel36Ideal.τ).loc Cert.Kernel36Ideal.main_arg1)) →
    ∃ (v0 : (c : Dev Cert.Kernel36Ideal.nD) → Buf (Elt Ideal) ((c.tc : Thread Cert.Kernel36Ideal.nD Cert.Kernel36Ideal.τ).loc Cert.Kernel36Ideal.main_v0)),
      θ_run (Cert.Kernel36Ideal.defs (F := Ideal)) (onTc (τ := Cert.Kernel36Ideal.τ) (Cert.Kernel36Ideal.main (F := Ideal))) ⟨m, fun _ => 0, g⟩ (fun r => ∀ c : Dev Cert.Kernel36Ideal.nD,
          r.2.mem ((c.tc : Thread Cert.Kernel36Ideal.nD Cert.Kernel36Ideal.τ).loc Cert.Kernel36Ideal.main_v0) = v0 c
          ∧ r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
          ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1))
      ∧ θ_run (Cert.Reference36Ideal.defs (F := Ideal)) (onTc (τ := Cert.Reference36Ideal.τ) (Cert.Reference36Ideal.main (F := Ideal))) ⟨m', fun _ => 0, g'⟩ (fun r => ∀ c : Dev Cert.Reference36Ideal.nD,
          r.2.mem ((c.tc : Thread Cert.Reference36Ideal.nD Cert.Reference36Ideal.τ).loc Cert.Reference36Ideal.main_v4) = v0 c
          ∧ r.2.mem ((c.tc : Thread Cert.Reference36Ideal.nD Cert.Reference36Ideal.τ).loc Cert.Reference36Ideal.main_arg0) = m' ((c.tc : Thread Cert.Reference36Ideal.nD Cert.Reference36Ideal.τ).loc Cert.Reference36Ideal.main_arg0)
          ∧ r.2.mem ((c.tc : Thread Cert.Reference36Ideal.nD Cert.Reference36Ideal.τ).loc Cert.Reference36Ideal.main_arg1) = m' ((c.tc : Thread Cert.Reference36Ideal.nD Cert.Reference36Ideal.τ).loc Cert.Reference36Ideal.main_arg1))

def preserves_Kernel37_Kernel37Ideal : Prop :=
  True

def algebraic_Kernel37Ideal_Reference37Ideal [hKernel37Ideal : Cert.Kernel37Ideal.Facts] [hReference37Ideal : Cert.Reference37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg)
    (m' : (ℓ : Loc Cert.Reference37Ideal.nD Cert.Reference37Ideal.τ Cert.Reference37Ideal.sig) → Buf (Elt Ideal) ℓ) (g' : Dev Cert.Reference37Ideal.nD → PrngReg), Pre_Kernel37Ideal m →
    (∀ c : Dev Cert.Kernel37Ideal.nD,
      m' ((c.tc : Thread Cert.Reference37Ideal.nD Cert.Reference37Ideal.τ).loc Cert.Reference37Ideal.main_arg0) = m ((c.tc : Thread Cert.Kernel37Ideal.nD Cert.Kernel37Ideal.τ).loc Cert.Kernel37Ideal.main_arg0)
      ∧ m' ((c.tc : Thread Cert.Reference37Ideal.nD Cert.Reference37Ideal.τ).loc Cert.Reference37Ideal.main_arg1) = m ((c.tc : Thread Cert.Kernel37Ideal.nD Cert.Kernel37Ideal.τ).loc Cert.Kernel37Ideal.main_arg1)) →
    ∃ (v0 : (c : Dev Cert.Kernel37Ideal.nD) → Buf (Elt Ideal) ((c.tc : Thread Cert.Kernel37Ideal.nD Cert.Kernel37Ideal.τ).loc Cert.Kernel37Ideal.main_v0)),
      θ_run (Cert.Kernel37Ideal.defs (F := Ideal)) (onTc (τ := Cert.Kernel37Ideal.τ) (Cert.Kernel37Ideal.main (F := Ideal))) ⟨m, fun _ => 0, g⟩ (fun r => ∀ c : Dev Cert.Kernel37Ideal.nD,
          r.2.mem ((c.tc : Thread Cert.Kernel37Ideal.nD Cert.Kernel37Ideal.τ).loc Cert.Kernel37Ideal.main_v0) = v0 c
          ∧ r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
          ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1))
      ∧ θ_run (Cert.Reference37Ideal.defs (F := Ideal)) (onTc (τ := Cert.Reference37Ideal.τ) (Cert.Reference37Ideal.main (F := Ideal))) ⟨m', fun _ => 0, g'⟩ (fun r => ∀ c : Dev Cert.Reference37Ideal.nD,
          r.2.mem ((c.tc : Thread Cert.Reference37Ideal.nD Cert.Reference37Ideal.τ).loc Cert.Reference37Ideal.main_v4) = v0 c
          ∧ r.2.mem ((c.tc : Thread Cert.Reference37Ideal.nD Cert.Reference37Ideal.τ).loc Cert.Reference37Ideal.main_arg0) = m' ((c.tc : Thread Cert.Reference37Ideal.nD Cert.Reference37Ideal.τ).loc Cert.Reference37Ideal.main_arg0)
          ∧ r.2.mem ((c.tc : Thread Cert.Reference37Ideal.nD Cert.Reference37Ideal.τ).loc Cert.Reference37Ideal.main_arg1) = m' ((c.tc : Thread Cert.Reference37Ideal.nD Cert.Reference37Ideal.τ).loc Cert.Reference37Ideal.main_arg1))

def preserves_Kernel38_Kernel38Ideal : Prop :=
  True

def algebraic_Kernel38Ideal_Reference38Ideal [hKernel38Ideal : Cert.Kernel38Ideal.Facts] [hReference38Ideal : Cert.Reference38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg)
    (m' : (ℓ : Loc Cert.Reference38Ideal.nD Cert.Reference38Ideal.τ Cert.Reference38Ideal.sig) → Buf (Elt Ideal) ℓ) (g' : Dev Cert.Reference38Ideal.nD → PrngReg), Pre_Kernel38Ideal m →
    (∀ c : Dev Cert.Kernel38Ideal.nD,
      m' ((c.tc : Thread Cert.Reference38Ideal.nD Cert.Reference38Ideal.τ).loc Cert.Reference38Ideal.main_arg0) = m ((c.tc : Thread Cert.Kernel38Ideal.nD Cert.Kernel38Ideal.τ).loc Cert.Kernel38Ideal.main_arg0)
      ∧ m' ((c.tc : Thread Cert.Reference38Ideal.nD Cert.Reference38Ideal.τ).loc Cert.Reference38Ideal.main_arg1) = m ((c.tc : Thread Cert.Kernel38Ideal.nD Cert.Kernel38Ideal.τ).loc Cert.Kernel38Ideal.main_arg1)) →
    ∃ (v0 : (c : Dev Cert.Kernel38Ideal.nD) → Buf (Elt Ideal) ((c.tc : Thread Cert.Kernel38Ideal.nD Cert.Kernel38Ideal.τ).loc Cert.Kernel38Ideal.main_v0)),
      θ_run (Cert.Kernel38Ideal.defs (F := Ideal)) (onTc (τ := Cert.Kernel38Ideal.τ) (Cert.Kernel38Ideal.main (F := Ideal))) ⟨m, fun _ => 0, g⟩ (fun r => ∀ c : Dev Cert.Kernel38Ideal.nD,
          r.2.mem ((c.tc : Thread Cert.Kernel38Ideal.nD Cert.Kernel38Ideal.τ).loc Cert.Kernel38Ideal.main_v0) = v0 c
          ∧ r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
          ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1))
      ∧ θ_run (Cert.Reference38Ideal.defs (F := Ideal)) (onTc (τ := Cert.Reference38Ideal.τ) (Cert.Reference38Ideal.main (F := Ideal))) ⟨m', fun _ => 0, g'⟩ (fun r => ∀ c : Dev Cert.Reference38Ideal.nD,
          r.2.mem ((c.tc : Thread Cert.Reference38Ideal.nD Cert.Reference38Ideal.τ).loc Cert.Reference38Ideal.main_v4) = v0 c
          ∧ r.2.mem ((c.tc : Thread Cert.Reference38Ideal.nD Cert.Reference38Ideal.τ).loc Cert.Reference38Ideal.main_arg0) = m' ((c.tc : Thread Cert.Reference38Ideal.nD Cert.Reference38Ideal.τ).loc Cert.Reference38Ideal.main_arg0)
          ∧ r.2.mem ((c.tc : Thread Cert.Reference38Ideal.nD Cert.Reference38Ideal.τ).loc Cert.Reference38Ideal.main_arg1) = m' ((c.tc : Thread Cert.Reference38Ideal.nD Cert.Reference38Ideal.τ).loc Cert.Reference38Ideal.main_arg1))

def preserves_Kernel39_Kernel39Ideal : Prop :=
  True

def algebraic_Kernel39Ideal_Reference39Ideal [hKernel39Ideal : Cert.Kernel39Ideal.Facts] [hReference39Ideal : Cert.Reference39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg)
    (m' : (ℓ : Loc Cert.Reference39Ideal.nD Cert.Reference39Ideal.τ Cert.Reference39Ideal.sig) → Buf (Elt Ideal) ℓ) (g' : Dev Cert.Reference39Ideal.nD → PrngReg), Pre_Kernel39Ideal m →
    (∀ c : Dev Cert.Kernel39Ideal.nD,
      m' ((c.tc : Thread Cert.Reference39Ideal.nD Cert.Reference39Ideal.τ).loc Cert.Reference39Ideal.main_arg0) = m ((c.tc : Thread Cert.Kernel39Ideal.nD Cert.Kernel39Ideal.τ).loc Cert.Kernel39Ideal.main_arg0)
      ∧ m' ((c.tc : Thread Cert.Reference39Ideal.nD Cert.Reference39Ideal.τ).loc Cert.Reference39Ideal.main_arg1) = m ((c.tc : Thread Cert.Kernel39Ideal.nD Cert.Kernel39Ideal.τ).loc Cert.Kernel39Ideal.main_arg1)) →
    ∃ (v0 : (c : Dev Cert.Kernel39Ideal.nD) → Buf (Elt Ideal) ((c.tc : Thread Cert.Kernel39Ideal.nD Cert.Kernel39Ideal.τ).loc Cert.Kernel39Ideal.main_v0)),
      θ_run (Cert.Kernel39Ideal.defs (F := Ideal)) (onTc (τ := Cert.Kernel39Ideal.τ) (Cert.Kernel39Ideal.main (F := Ideal))) ⟨m, fun _ => 0, g⟩ (fun r => ∀ c : Dev Cert.Kernel39Ideal.nD,
          r.2.mem ((c.tc : Thread Cert.Kernel39Ideal.nD Cert.Kernel39Ideal.τ).loc Cert.Kernel39Ideal.main_v0) = v0 c
          ∧ r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
          ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1))
      ∧ θ_run (Cert.Reference39Ideal.defs (F := Ideal)) (onTc (τ := Cert.Reference39Ideal.τ) (Cert.Reference39Ideal.main (F := Ideal))) ⟨m', fun _ => 0, g'⟩ (fun r => ∀ c : Dev Cert.Reference39Ideal.nD,
          r.2.mem ((c.tc : Thread Cert.Reference39Ideal.nD Cert.Reference39Ideal.τ).loc Cert.Reference39Ideal.main_v4) = v0 c
          ∧ r.2.mem ((c.tc : Thread Cert.Reference39Ideal.nD Cert.Reference39Ideal.τ).loc Cert.Reference39Ideal.main_arg0) = m' ((c.tc : Thread Cert.Reference39Ideal.nD Cert.Reference39Ideal.τ).loc Cert.Reference39Ideal.main_arg0)
          ∧ r.2.mem ((c.tc : Thread Cert.Reference39Ideal.nD Cert.Reference39Ideal.τ).loc Cert.Reference39Ideal.main_arg1) = m' ((c.tc : Thread Cert.Reference39Ideal.nD Cert.Reference39Ideal.τ).loc Cert.Reference39Ideal.main_arg1))

def preserves_Kernel40_Kernel40Ideal : Prop :=
  True

def algebraic_Kernel40Ideal_Reference40Ideal [hKernel40Ideal : Cert.Kernel40Ideal.Facts] [hReference40Ideal : Cert.Reference40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg)
    (m' : (ℓ : Loc Cert.Reference40Ideal.nD Cert.Reference40Ideal.τ Cert.Reference40Ideal.sig) → Buf (Elt Ideal) ℓ) (g' : Dev Cert.Reference40Ideal.nD → PrngReg), Pre_Kernel40Ideal m →
    (∀ c : Dev Cert.Kernel40Ideal.nD,
      m' ((c.tc : Thread Cert.Reference40Ideal.nD Cert.Reference40Ideal.τ).loc Cert.Reference40Ideal.main_arg0) = m ((c.tc : Thread Cert.Kernel40Ideal.nD Cert.Kernel40Ideal.τ).loc Cert.Kernel40Ideal.main_arg0)
      ∧ m' ((c.tc : Thread Cert.Reference40Ideal.nD Cert.Reference40Ideal.τ).loc Cert.Reference40Ideal.main_arg1) = m ((c.tc : Thread Cert.Kernel40Ideal.nD Cert.Kernel40Ideal.τ).loc Cert.Kernel40Ideal.main_arg1)) →
    ∃ (v0 : (c : Dev Cert.Kernel40Ideal.nD) → Buf (Elt Ideal) ((c.tc : Thread Cert.Kernel40Ideal.nD Cert.Kernel40Ideal.τ).loc Cert.Kernel40Ideal.main_v3)),
      θ_run (Cert.Kernel40Ideal.defs (F := Ideal)) (onTc (τ := Cert.Kernel40Ideal.τ) (Cert.Kernel40Ideal.main (F := Ideal))) ⟨m, fun _ => 0, g⟩ (fun r => ∀ c : Dev Cert.Kernel40Ideal.nD,
          r.2.mem ((c.tc : Thread Cert.Kernel40Ideal.nD Cert.Kernel40Ideal.τ).loc Cert.Kernel40Ideal.main_v3) = v0 c
          ∧ r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
          ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1))
      ∧ θ_run (Cert.Reference40Ideal.defs (F := Ideal)) (onTc (τ := Cert.Reference40Ideal.τ) (Cert.Reference40Ideal.main (F := Ideal))) ⟨m', fun _ => 0, g'⟩ (fun r => ∀ c : Dev Cert.Reference40Ideal.nD,
          r.2.mem ((c.tc : Thread Cert.Reference40Ideal.nD Cert.Reference40Ideal.τ).loc Cert.Reference40Ideal.main_v6) = v0 c
          ∧ r.2.mem ((c.tc : Thread Cert.Reference40Ideal.nD Cert.Reference40Ideal.τ).loc Cert.Reference40Ideal.main_arg0) = m' ((c.tc : Thread Cert.Reference40Ideal.nD Cert.Reference40Ideal.τ).loc Cert.Reference40Ideal.main_arg0)
          ∧ r.2.mem ((c.tc : Thread Cert.Reference40Ideal.nD Cert.Reference40Ideal.τ).loc Cert.Reference40Ideal.main_arg1) = m' ((c.tc : Thread Cert.Reference40Ideal.nD Cert.Reference40Ideal.τ).loc Cert.Reference40Ideal.main_arg1))

def preserves_Kernel41_Kernel41Ideal : Prop :=
  True

def algebraic_Kernel41Ideal_Reference41Ideal [hKernel41Ideal : Cert.Kernel41Ideal.Facts] [hReference41Ideal : Cert.Reference41Ideal.Facts] : Prop :=
  ∀ (m : (ℓ : Loc Cert.Kernel41Ideal.nD Cert.Kernel41Ideal.τ Cert.Kernel41Ideal.sig) → Buf (Elt Ideal) ℓ) (g : Dev Cert.Kernel41Ideal.nD → PrngReg)
    (m' : (ℓ : Loc Cert.Reference41Ideal.nD Cert.Reference41Ideal.τ Cert.Reference41Ideal.sig) → Buf (Elt Ideal) ℓ) (g' : Dev Cert.Reference41Ideal.nD → PrngReg), Pre_Kernel41Ideal m →
    (∀ c : Dev Cert.Kernel41Ideal.nD,
      m' ((c.tc : Thread Cert.Reference41Ideal.nD Cert.Reference41Ideal.τ).loc Cert.Reference41Ideal.main_arg0) = m ((c.tc : Thread Cert.Kernel41Ideal.nD Cert.Kernel41Ideal.τ).loc Cert.Kernel41Ideal.main_arg0)
      ∧ m' ((c.tc : Thread Cert.Reference41Ideal.nD Cert.Reference41Ideal.τ).loc Cert.Reference41Ideal.main_arg1) = m ((c.tc : Thread Cert.Kernel41Ideal.nD Cert.Kernel41Ideal.τ).loc Cert.Kernel41Ideal.main_arg1)) →
    ∃ (v0 : (c : Dev Cert.Kernel41Ideal.nD) → Buf (Elt Ideal) ((c.tc : Thread Cert.Kernel41Ideal.nD Cert.Kernel41Ideal.τ).loc Cert.Kernel41Ideal.main_v34)),
      θ_run (Cert.Kernel41Ideal.defs (F := Ideal)) (onTc (τ := Cert.Kernel41Ideal.τ) (Cert.Kernel41Ideal.main (F := Ideal))) ⟨m, fun _ => 0, g⟩ (fun r => ∀ c : Dev Cert.Kernel41Ideal.nD,
          r.2.mem ((c.tc : Thread Cert.Kernel41Ideal.nD Cert.Kernel41Ideal.τ).loc Cert.Kernel41Ideal.main_v34) = v0 c
          ∧ r.2.mem ((c.tc : Thread Cert.Kernel41Ideal.nD Cert.Kernel41Ideal.τ).loc Cert.Kernel41Ideal.main_arg0) = m ((c.tc : Thread Cert.Kernel41Ideal.nD Cert.Kernel41Ideal.τ).loc Cert.Kernel41Ideal.main_arg0)
          ∧ r.2.mem ((c.tc : Thread Cert.Kernel41Ideal.nD Cert.Kernel41Ideal.τ).loc Cert.Kernel41Ideal.main_arg1) = m ((c.tc : Thread Cert.Kernel41Ideal.nD Cert.Kernel41Ideal.τ).loc Cert.Kernel41Ideal.main_arg1))
      ∧ θ_run (Cert.Reference41Ideal.defs (F := Ideal)) (onTc (τ := Cert.Reference41Ideal.τ) (Cert.Reference41Ideal.main (F := Ideal))) ⟨m', fun _ => 0, g'⟩ (fun r => ∀ c : Dev Cert.Reference41Ideal.nD,
          r.2.mem ((c.tc : Thread Cert.Reference41Ideal.nD Cert.Reference41Ideal.τ).loc Cert.Reference41Ideal.main_v39) = v0 c
          ∧ r.2.mem ((c.tc : Thread Cert.Reference41Ideal.nD Cert.Reference41Ideal.τ).loc Cert.Reference41Ideal.main_arg0) = m' ((c.tc : Thread Cert.Reference41Ideal.nD Cert.Reference41Ideal.τ).loc Cert.Reference41Ideal.main_arg0)
          ∧ r.2.mem ((c.tc : Thread Cert.Reference41Ideal.nD Cert.Reference41Ideal.τ).loc Cert.Reference41Ideal.main_arg1) = m' ((c.tc : Thread Cert.Reference41Ideal.nD Cert.Reference41Ideal.τ).loc Cert.Reference41Ideal.main_arg1))

def preserves_Kernel42_Kernel42Ideal : Prop :=
  True

def algebraic_Kernel42Ideal_Reference42Ideal [hKernel42Ideal : Cert.Kernel42Ideal.Facts] [hReference42Ideal : Cert.Reference42Ideal.Facts] : Prop :=
  ∀ (m : (ℓ : Loc Cert.Kernel42Ideal.nD Cert.Kernel42Ideal.τ Cert.Kernel42Ideal.sig) → Buf (Elt Ideal) ℓ) (g : Dev Cert.Kernel42Ideal.nD → PrngReg)
    (m' : (ℓ : Loc Cert.Reference42Ideal.nD Cert.Reference42Ideal.τ Cert.Reference42Ideal.sig) → Buf (Elt Ideal) ℓ) (g' : Dev Cert.Reference42Ideal.nD → PrngReg), Pre_Kernel42Ideal m →
    (∀ c : Dev Cert.Kernel42Ideal.nD,
      m' ((c.tc : Thread Cert.Reference42Ideal.nD Cert.Reference42Ideal.τ).loc Cert.Reference42Ideal.main_arg0) = m ((c.tc : Thread Cert.Kernel42Ideal.nD Cert.Kernel42Ideal.τ).loc Cert.Kernel42Ideal.main_arg0)
      ∧ m' ((c.tc : Thread Cert.Reference42Ideal.nD Cert.Reference42Ideal.τ).loc Cert.Reference42Ideal.main_arg1) = m ((c.tc : Thread Cert.Kernel42Ideal.nD Cert.Kernel42Ideal.τ).loc Cert.Kernel42Ideal.main_arg1)) →
    ∃ (v0 : (c : Dev Cert.Kernel42Ideal.nD) → Buf (Elt Ideal) ((c.tc : Thread Cert.Kernel42Ideal.nD Cert.Kernel42Ideal.τ).loc Cert.Kernel42Ideal.main_v0)),
      θ_run (Cert.Kernel42Ideal.defs (F := Ideal)) (onTc (τ := Cert.Kernel42Ideal.τ) (Cert.Kernel42Ideal.main (F := Ideal))) ⟨m, fun _ => 0, g⟩ (fun r => ∀ c : Dev Cert.Kernel42Ideal.nD,
          r.2.mem ((c.tc : Thread Cert.Kernel42Ideal.nD Cert.Kernel42Ideal.τ).loc Cert.Kernel42Ideal.main_v0) = v0 c
          ∧ r.2.mem ((c.tc : Thread Cert.Kernel42Ideal.nD Cert.Kernel42Ideal.τ).loc Cert.Kernel42Ideal.main_arg0) = m ((c.tc : Thread Cert.Kernel42Ideal.nD Cert.Kernel42Ideal.τ).loc Cert.Kernel42Ideal.main_arg0)
          ∧ r.2.mem ((c.tc : Thread Cert.Kernel42Ideal.nD Cert.Kernel42Ideal.τ).loc Cert.Kernel42Ideal.main_arg1) = m ((c.tc : Thread Cert.Kernel42Ideal.nD Cert.Kernel42Ideal.τ).loc Cert.Kernel42Ideal.main_arg1))
      ∧ θ_run (Cert.Reference42Ideal.defs (F := Ideal)) (onTc (τ := Cert.Reference42Ideal.τ) (Cert.Reference42Ideal.main (F := Ideal))) ⟨m', fun _ => 0, g'⟩ (fun r => ∀ c : Dev Cert.Reference42Ideal.nD,
          r.2.mem ((c.tc : Thread Cert.Reference42Ideal.nD Cert.Reference42Ideal.τ).loc Cert.Reference42Ideal.main_v9) = v0 c
          ∧ r.2.mem ((c.tc : Thread Cert.Reference42Ideal.nD Cert.Reference42Ideal.τ).loc Cert.Reference42Ideal.main_arg0) = m' ((c.tc : Thread Cert.Reference42Ideal.nD Cert.Reference42Ideal.τ).loc Cert.Reference42Ideal.main_arg0)
          ∧ r.2.mem ((c.tc : Thread Cert.Reference42Ideal.nD Cert.Reference42Ideal.τ).loc Cert.Reference42Ideal.main_arg1) = m' ((c.tc : Thread Cert.Reference42Ideal.nD Cert.Reference42Ideal.τ).loc Cert.Reference42Ideal.main_arg1))

def preserves_Kernel43_Kernel43Ideal : Prop :=
  True

def algebraic_Kernel43Ideal_Reference43Ideal [hKernel43Ideal : Cert.Kernel43Ideal.Facts] [hReference43Ideal : Cert.Reference43Ideal.Facts] : Prop :=
  ∀ (m : (ℓ : Loc Cert.Kernel43Ideal.nD Cert.Kernel43Ideal.τ Cert.Kernel43Ideal.sig) → Buf (Elt Ideal) ℓ) (g : Dev Cert.Kernel43Ideal.nD → PrngReg)
    (m' : (ℓ : Loc Cert.Reference43Ideal.nD Cert.Reference43Ideal.τ Cert.Reference43Ideal.sig) → Buf (Elt Ideal) ℓ) (g' : Dev Cert.Reference43Ideal.nD → PrngReg), Pre_Kernel43Ideal m →
    (∀ c : Dev Cert.Kernel43Ideal.nD,
      m' ((c.tc : Thread Cert.Reference43Ideal.nD Cert.Reference43Ideal.τ).loc Cert.Reference43Ideal.main_arg0) = m ((c.tc : Thread Cert.Kernel43Ideal.nD Cert.Kernel43Ideal.τ).loc Cert.Kernel43Ideal.main_arg0)
      ∧ m' ((c.tc : Thread Cert.Reference43Ideal.nD Cert.Reference43Ideal.τ).loc Cert.Reference43Ideal.main_arg1) = m ((c.tc : Thread Cert.Kernel43Ideal.nD Cert.Kernel43Ideal.τ).loc Cert.Kernel43Ideal.main_arg1)) →
    ∃ (v0 : (c : Dev Cert.Kernel43Ideal.nD) → Buf (Elt Ideal) ((c.tc : Thread Cert.Kernel43Ideal.nD Cert.Kernel43Ideal.τ).loc Cert.Kernel43Ideal.main_v0)),
      θ_run (Cert.Kernel43Ideal.defs (F := Ideal)) (onTc (τ := Cert.Kernel43Ideal.τ) (Cert.Kernel43Ideal.main (F := Ideal))) ⟨m, fun _ => 0, g⟩ (fun r => ∀ c : Dev Cert.Kernel43Ideal.nD,
          r.2.mem ((c.tc : Thread Cert.Kernel43Ideal.nD Cert.Kernel43Ideal.τ).loc Cert.Kernel43Ideal.main_v0) = v0 c
          ∧ r.2.mem ((c.tc : Thread Cert.Kernel43Ideal.nD Cert.Kernel43Ideal.τ).loc Cert.Kernel43Ideal.main_arg0) = m ((c.tc : Thread Cert.Kernel43Ideal.nD Cert.Kernel43Ideal.τ).loc Cert.Kernel43Ideal.main_arg0)
          ∧ r.2.mem ((c.tc : Thread Cert.Kernel43Ideal.nD Cert.Kernel43Ideal.τ).loc Cert.Kernel43Ideal.main_arg1) = m ((c.tc : Thread Cert.Kernel43Ideal.nD Cert.Kernel43Ideal.τ).loc Cert.Kernel43Ideal.main_arg1))
      ∧ θ_run (Cert.Reference43Ideal.defs (F := Ideal)) (onTc (τ := Cert.Reference43Ideal.τ) (Cert.Reference43Ideal.main (F := Ideal))) ⟨m', fun _ => 0, g'⟩ (fun r => ∀ c : Dev Cert.Reference43Ideal.nD,
          r.2.mem ((c.tc : Thread Cert.Reference43Ideal.nD Cert.Reference43Ideal.τ).loc Cert.Reference43Ideal.main_v9) = v0 c
          ∧ r.2.mem ((c.tc : Thread Cert.Reference43Ideal.nD Cert.Reference43Ideal.τ).loc Cert.Reference43Ideal.main_arg0) = m' ((c.tc : Thread Cert.Reference43Ideal.nD Cert.Reference43Ideal.τ).loc Cert.Reference43Ideal.main_arg0)
          ∧ r.2.mem ((c.tc : Thread Cert.Reference43Ideal.nD Cert.Reference43Ideal.τ).loc Cert.Reference43Ideal.main_arg1) = m' ((c.tc : Thread Cert.Reference43Ideal.nD Cert.Reference43Ideal.τ).loc Cert.Reference43Ideal.main_arg1))

def preserves_Kernel44_Kernel44Ideal : Prop :=
  True

def algebraic_Kernel44Ideal_Reference44Ideal [hKernel44Ideal : Cert.Kernel44Ideal.Facts] [hReference44Ideal : Cert.Reference44Ideal.Facts] : Prop :=
  ∀ (m : (ℓ : Loc Cert.Kernel44Ideal.nD Cert.Kernel44Ideal.τ Cert.Kernel44Ideal.sig) → Buf (Elt Ideal) ℓ) (g : Dev Cert.Kernel44Ideal.nD → PrngReg)
    (m' : (ℓ : Loc Cert.Reference44Ideal.nD Cert.Reference44Ideal.τ Cert.Reference44Ideal.sig) → Buf (Elt Ideal) ℓ) (g' : Dev Cert.Reference44Ideal.nD → PrngReg), Pre_Kernel44Ideal m →
    (∀ c : Dev Cert.Kernel44Ideal.nD,
      m' ((c.tc : Thread Cert.Reference44Ideal.nD Cert.Reference44Ideal.τ).loc Cert.Reference44Ideal.main_arg0) = m ((c.tc : Thread Cert.Kernel44Ideal.nD Cert.Kernel44Ideal.τ).loc Cert.Kernel44Ideal.main_arg0)
      ∧ m' ((c.tc : Thread Cert.Reference44Ideal.nD Cert.Reference44Ideal.τ).loc Cert.Reference44Ideal.main_arg1) = m ((c.tc : Thread Cert.Kernel44Ideal.nD Cert.Kernel44Ideal.τ).loc Cert.Kernel44Ideal.main_arg1)
      ∧ m' ((c.tc : Thread Cert.Reference44Ideal.nD Cert.Reference44Ideal.τ).loc Cert.Reference44Ideal.main_arg2) = m ((c.tc : Thread Cert.Kernel44Ideal.nD Cert.Kernel44Ideal.τ).loc Cert.Kernel44Ideal.main_arg2)
      ∧ m' ((c.tc : Thread Cert.Reference44Ideal.nD Cert.Reference44Ideal.τ).loc Cert.Reference44Ideal.main_arg3) = m ((c.tc : Thread Cert.Kernel44Ideal.nD Cert.Kernel44Ideal.τ).loc Cert.Kernel44Ideal.main_arg3)
      ∧ m' ((c.tc : Thread Cert.Reference44Ideal.nD Cert.Reference44Ideal.τ).loc Cert.Reference44Ideal.main_arg4) = m ((c.tc : Thread Cert.Kernel44Ideal.nD Cert.Kernel44Ideal.τ).loc Cert.Kernel44Ideal.main_arg4)
      ∧ m' ((c.tc : Thread Cert.Reference44Ideal.nD Cert.Reference44Ideal.τ).loc Cert.Reference44Ideal.main_arg5) = m ((c.tc : Thread Cert.Kernel44Ideal.nD Cert.Kernel44Ideal.τ).loc Cert.Kernel44Ideal.main_arg5)
      ∧ m' ((c.tc : Thread Cert.Reference44Ideal.nD Cert.Reference44Ideal.τ).loc Cert.Reference44Ideal.main_arg6) = m ((c.tc : Thread Cert.Kernel44Ideal.nD Cert.Kernel44Ideal.τ).loc Cert.Kernel44Ideal.main_arg6)) →
    ∃ (v0 : (c : Dev Cert.Kernel44Ideal.nD) → Buf (Elt Ideal) ((c.tc : Thread Cert.Kernel44Ideal.nD Cert.Kernel44Ideal.τ).loc Cert.Kernel44Ideal.main_v2_0)) (v1 : (c : Dev Cert.Kernel44Ideal.nD) → Buf (Elt Ideal) ((c.tc : Thread Cert.Kernel44Ideal.nD Cert.Kernel44Ideal.τ).loc Cert.Kernel44Ideal.main_v2_1)),
      θ_run (Cert.Kernel44Ideal.defs (F := Ideal)) (onTc (τ := Cert.Kernel44Ideal.τ) (Cert.Kernel44Ideal.main (F := Ideal))) ⟨m, fun _ => 0, g⟩ (fun r => ∀ c : Dev Cert.Kernel44Ideal.nD,
          r.2.mem ((c.tc : Thread Cert.Kernel44Ideal.nD Cert.Kernel44Ideal.τ).loc Cert.Kernel44Ideal.main_v2_0) = v0 c
          ∧ r.2.mem ((c.tc : Thread Cert.Kernel44Ideal.nD Cert.Kernel44Ideal.τ).loc Cert.Kernel44Ideal.main_v2_1) = v1 c
          ∧ r.2.mem ((c.tc : Thread Cert.Kernel44Ideal.nD Cert.Kernel44Ideal.τ).loc Cert.Kernel44Ideal.main_arg0) = m ((c.tc : Thread Cert.Kernel44Ideal.nD Cert.Kernel44Ideal.τ).loc Cert.Kernel44Ideal.main_arg0)
          ∧ r.2.mem ((c.tc : Thread Cert.Kernel44Ideal.nD Cert.Kernel44Ideal.τ).loc Cert.Kernel44Ideal.main_arg1) = m ((c.tc : Thread Cert.Kernel44Ideal.nD Cert.Kernel44Ideal.τ).loc Cert.Kernel44Ideal.main_arg1)
          ∧ r.2.mem ((c.tc : Thread Cert.Kernel44Ideal.nD Cert.Kernel44Ideal.τ).loc Cert.Kernel44Ideal.main_arg2) = m ((c.tc : Thread Cert.Kernel44Ideal.nD Cert.Kernel44Ideal.τ).loc Cert.Kernel44Ideal.main_arg2)
          ∧ r.2.mem ((c.tc : Thread Cert.Kernel44Ideal.nD Cert.Kernel44Ideal.τ).loc Cert.Kernel44Ideal.main_arg3) = m ((c.tc : Thread Cert.Kernel44Ideal.nD Cert.Kernel44Ideal.τ).loc Cert.Kernel44Ideal.main_arg3)
          ∧ r.2.mem ((c.tc : Thread Cert.Kernel44Ideal.nD Cert.Kernel44Ideal.τ).loc Cert.Kernel44Ideal.main_arg4) = m ((c.tc : Thread Cert.Kernel44Ideal.nD Cert.Kernel44Ideal.τ).loc Cert.Kernel44Ideal.main_arg4)
          ∧ r.2.mem ((c.tc : Thread Cert.Kernel44Ideal.nD Cert.Kernel44Ideal.τ).loc Cert.Kernel44Ideal.main_arg5) = m ((c.tc : Thread Cert.Kernel44Ideal.nD Cert.Kernel44Ideal.τ).loc Cert.Kernel44Ideal.main_arg5)
          ∧ r.2.mem ((c.tc : Thread Cert.Kernel44Ideal.nD Cert.Kernel44Ideal.τ).loc Cert.Kernel44Ideal.main_arg6) = m ((c.tc : Thread Cert.Kernel44Ideal.nD Cert.Kernel44Ideal.τ).loc Cert.Kernel44Ideal.main_arg6))
      ∧ θ_run (Cert.Reference44Ideal.defs (F := Ideal)) (onTc (τ := Cert.Reference44Ideal.τ) (Cert.Reference44Ideal.main (F := Ideal))) ⟨m', fun _ => 0, g'⟩ (fun r => ∀ c : Dev Cert.Reference44Ideal.nD,
          r.2.mem ((c.tc : Thread Cert.Reference44Ideal.nD Cert.Reference44Ideal.τ).loc Cert.Reference44Ideal.main_v30) = v0 c
          ∧ r.2.mem ((c.tc : Thread Cert.Reference44Ideal.nD Cert.Reference44Ideal.τ).loc Cert.Reference44Ideal.main_v37) = v1 c
          ∧ r.2.mem ((c.tc : Thread Cert.Reference44Ideal.nD Cert.Reference44Ideal.τ).loc Cert.Reference44Ideal.main_arg0) = m' ((c.tc : Thread Cert.Reference44Ideal.nD Cert.Reference44Ideal.τ).loc Cert.Reference44Ideal.main_arg0)
          ∧ r.2.mem ((c.tc : Thread Cert.Reference44Ideal.nD Cert.Reference44Ideal.τ).loc Cert.Reference44Ideal.main_arg1) = m' ((c.tc : Thread Cert.Reference44Ideal.nD Cert.Reference44Ideal.τ).loc Cert.Reference44Ideal.main_arg1)
          ∧ r.2.mem ((c.tc : Thread Cert.Reference44Ideal.nD Cert.Reference44Ideal.τ).loc Cert.Reference44Ideal.main_arg2) = m' ((c.tc : Thread Cert.Reference44Ideal.nD Cert.Reference44Ideal.τ).loc Cert.Reference44Ideal.main_arg2)
          ∧ r.2.mem ((c.tc : Thread Cert.Reference44Ideal.nD Cert.Reference44Ideal.τ).loc Cert.Reference44Ideal.main_arg3) = m' ((c.tc : Thread Cert.Reference44Ideal.nD Cert.Reference44Ideal.τ).loc Cert.Reference44Ideal.main_arg3)
          ∧ r.2.mem ((c.tc : Thread Cert.Reference44Ideal.nD Cert.Reference44Ideal.τ).loc Cert.Reference44Ideal.main_arg4) = m' ((c.tc : Thread Cert.Reference44Ideal.nD Cert.Reference44Ideal.τ).loc Cert.Reference44Ideal.main_arg4)
          ∧ r.2.mem ((c.tc : Thread Cert.Reference44Ideal.nD Cert.Reference44Ideal.τ).loc Cert.Reference44Ideal.main_arg5) = m' ((c.tc : Thread Cert.Reference44Ideal.nD Cert.Reference44Ideal.τ).loc Cert.Reference44Ideal.main_arg5)
          ∧ r.2.mem ((c.tc : Thread Cert.Reference44Ideal.nD Cert.Reference44Ideal.τ).loc Cert.Reference44Ideal.main_arg6) = m' ((c.tc : Thread Cert.Reference44Ideal.nD Cert.Reference44Ideal.τ).loc Cert.Reference44Ideal.main_arg6))

def preserves_Kernel45_Kernel45Ideal : Prop :=
  True

def algebraic_Kernel45Ideal_Reference45Ideal [hKernel45Ideal : Cert.Kernel45Ideal.Facts] [hReference45Ideal : Cert.Reference45Ideal.Facts] : Prop :=
  ∀ (m : (ℓ : Loc Cert.Kernel45Ideal.nD Cert.Kernel45Ideal.τ Cert.Kernel45Ideal.sig) → Buf (Elt Ideal) ℓ) (g : Dev Cert.Kernel45Ideal.nD → PrngReg)
    (m' : (ℓ : Loc Cert.Reference45Ideal.nD Cert.Reference45Ideal.τ Cert.Reference45Ideal.sig) → Buf (Elt Ideal) ℓ) (g' : Dev Cert.Reference45Ideal.nD → PrngReg), Pre_Kernel45Ideal m →
    (∀ c : Dev Cert.Kernel45Ideal.nD,
      m' ((c.tc : Thread Cert.Reference45Ideal.nD Cert.Reference45Ideal.τ).loc Cert.Reference45Ideal.main_arg0) = m ((c.tc : Thread Cert.Kernel45Ideal.nD Cert.Kernel45Ideal.τ).loc Cert.Kernel45Ideal.main_arg0)
      ∧ m' ((c.tc : Thread Cert.Reference45Ideal.nD Cert.Reference45Ideal.τ).loc Cert.Reference45Ideal.main_arg1) = m ((c.tc : Thread Cert.Kernel45Ideal.nD Cert.Kernel45Ideal.τ).loc Cert.Kernel45Ideal.main_arg1)
      ∧ m' ((c.tc : Thread Cert.Reference45Ideal.nD Cert.Reference45Ideal.τ).loc Cert.Reference45Ideal.main_arg2) = m ((c.tc : Thread Cert.Kernel45Ideal.nD Cert.Kernel45Ideal.τ).loc Cert.Kernel45Ideal.main_arg2)
      ∧ m' ((c.tc : Thread Cert.Reference45Ideal.nD Cert.Reference45Ideal.τ).loc Cert.Reference45Ideal.main_arg3) = m ((c.tc : Thread Cert.Kernel45Ideal.nD Cert.Kernel45Ideal.τ).loc Cert.Kernel45Ideal.main_arg3)
      ∧ m' ((c.tc : Thread Cert.Reference45Ideal.nD Cert.Reference45Ideal.τ).loc Cert.Reference45Ideal.main_arg4) = m ((c.tc : Thread Cert.Kernel45Ideal.nD Cert.Kernel45Ideal.τ).loc Cert.Kernel45Ideal.main_arg4)
      ∧ m' ((c.tc : Thread Cert.Reference45Ideal.nD Cert.Reference45Ideal.τ).loc Cert.Reference45Ideal.main_arg5) = m ((c.tc : Thread Cert.Kernel45Ideal.nD Cert.Kernel45Ideal.τ).loc Cert.Kernel45Ideal.main_arg5)
      ∧ m' ((c.tc : Thread Cert.Reference45Ideal.nD Cert.Reference45Ideal.τ).loc Cert.Reference45Ideal.main_arg6) = m ((c.tc : Thread Cert.Kernel45Ideal.nD Cert.Kernel45Ideal.τ).loc Cert.Kernel45Ideal.main_arg6)) →
    ∃ (v0 : (c : Dev Cert.Kernel45Ideal.nD) → Buf (Elt Ideal) ((c.tc : Thread Cert.Kernel45Ideal.nD Cert.Kernel45Ideal.τ).loc Cert.Kernel45Ideal.main_v2_0)) (v1 : (c : Dev Cert.Kernel45Ideal.nD) → Buf (Elt Ideal) ((c.tc : Thread Cert.Kernel45Ideal.nD Cert.Kernel45Ideal.τ).loc Cert.Kernel45Ideal.main_v2_1)),
      θ_run (Cert.Kernel45Ideal.defs (F := Ideal)) (onTc (τ := Cert.Kernel45Ideal.τ) (Cert.Kernel45Ideal.main (F := Ideal))) ⟨m, fun _ => 0, g⟩ (fun r => ∀ c : Dev Cert.Kernel45Ideal.nD,
          r.2.mem ((c.tc : Thread Cert.Kernel45Ideal.nD Cert.Kernel45Ideal.τ).loc Cert.Kernel45Ideal.main_v2_0) = v0 c
          ∧ r.2.mem ((c.tc : Thread Cert.Kernel45Ideal.nD Cert.Kernel45Ideal.τ).loc Cert.Kernel45Ideal.main_v2_1) = v1 c
          ∧ r.2.mem ((c.tc : Thread Cert.Kernel45Ideal.nD Cert.Kernel45Ideal.τ).loc Cert.Kernel45Ideal.main_arg0) = m ((c.tc : Thread Cert.Kernel45Ideal.nD Cert.Kernel45Ideal.τ).loc Cert.Kernel45Ideal.main_arg0)
          ∧ r.2.mem ((c.tc : Thread Cert.Kernel45Ideal.nD Cert.Kernel45Ideal.τ).loc Cert.Kernel45Ideal.main_arg1) = m ((c.tc : Thread Cert.Kernel45Ideal.nD Cert.Kernel45Ideal.τ).loc Cert.Kernel45Ideal.main_arg1)
          ∧ r.2.mem ((c.tc : Thread Cert.Kernel45Ideal.nD Cert.Kernel45Ideal.τ).loc Cert.Kernel45Ideal.main_arg2) = m ((c.tc : Thread Cert.Kernel45Ideal.nD Cert.Kernel45Ideal.τ).loc Cert.Kernel45Ideal.main_arg2)
          ∧ r.2.mem ((c.tc : Thread Cert.Kernel45Ideal.nD Cert.Kernel45Ideal.τ).loc Cert.Kernel45Ideal.main_arg3) = m ((c.tc : Thread Cert.Kernel45Ideal.nD Cert.Kernel45Ideal.τ).loc Cert.Kernel45Ideal.main_arg3)
          ∧ r.2.mem ((c.tc : Thread Cert.Kernel45Ideal.nD Cert.Kernel45Ideal.τ).loc Cert.Kernel45Ideal.main_arg4) = m ((c.tc : Thread Cert.Kernel45Ideal.nD Cert.Kernel45Ideal.τ).loc Cert.Kernel45Ideal.main_arg4)
          ∧ r.2.mem ((c.tc : Thread Cert.Kernel45Ideal.nD Cert.Kernel45Ideal.τ).loc Cert.Kernel45Ideal.main_arg5) = m ((c.tc : Thread Cert.Kernel45Ideal.nD Cert.Kernel45Ideal.τ).loc Cert.Kernel45Ideal.main_arg5)
          ∧ r.2.mem ((c.tc : Thread Cert.Kernel45Ideal.nD Cert.Kernel45Ideal.τ).loc Cert.Kernel45Ideal.main_arg6) = m ((c.tc : Thread Cert.Kernel45Ideal.nD Cert.Kernel45Ideal.τ).loc Cert.Kernel45Ideal.main_arg6))
      ∧ θ_run (Cert.Reference45Ideal.defs (F := Ideal)) (onTc (τ := Cert.Reference45Ideal.τ) (Cert.Reference45Ideal.main (F := Ideal))) ⟨m', fun _ => 0, g'⟩ (fun r => ∀ c : Dev Cert.Reference45Ideal.nD,
          r.2.mem ((c.tc : Thread Cert.Reference45Ideal.nD Cert.Reference45Ideal.τ).loc Cert.Reference45Ideal.main_v29) = v0 c
          ∧ r.2.mem ((c.tc : Thread Cert.Reference45Ideal.nD Cert.Reference45Ideal.τ).loc Cert.Reference45Ideal.main_v34) = v1 c
          ∧ r.2.mem ((c.tc : Thread Cert.Reference45Ideal.nD Cert.Reference45Ideal.τ).loc Cert.Reference45Ideal.main_arg0) = m' ((c.tc : Thread Cert.Reference45Ideal.nD Cert.Reference45Ideal.τ).loc Cert.Reference45Ideal.main_arg0)
          ∧ r.2.mem ((c.tc : Thread Cert.Reference45Ideal.nD Cert.Reference45Ideal.τ).loc Cert.Reference45Ideal.main_arg1) = m' ((c.tc : Thread Cert.Reference45Ideal.nD Cert.Reference45Ideal.τ).loc Cert.Reference45Ideal.main_arg1)
          ∧ r.2.mem ((c.tc : Thread Cert.Reference45Ideal.nD Cert.Reference45Ideal.τ).loc Cert.Reference45Ideal.main_arg2) = m' ((c.tc : Thread Cert.Reference45Ideal.nD Cert.Reference45Ideal.τ).loc Cert.Reference45Ideal.main_arg2)
          ∧ r.2.mem ((c.tc : Thread Cert.Reference45Ideal.nD Cert.Reference45Ideal.τ).loc Cert.Reference45Ideal.main_arg3) = m' ((c.tc : Thread Cert.Reference45Ideal.nD Cert.Reference45Ideal.τ).loc Cert.Reference45Ideal.main_arg3)
          ∧ r.2.mem ((c.tc : Thread Cert.Reference45Ideal.nD Cert.Reference45Ideal.τ).loc Cert.Reference45Ideal.main_arg4) = m' ((c.tc : Thread Cert.Reference45Ideal.nD Cert.Reference45Ideal.τ).loc Cert.Reference45Ideal.main_arg4)
          ∧ r.2.mem ((c.tc : Thread Cert.Reference45Ideal.nD Cert.Reference45Ideal.τ).loc Cert.Reference45Ideal.main_arg5) = m' ((c.tc : Thread Cert.Reference45Ideal.nD Cert.Reference45Ideal.τ).loc Cert.Reference45Ideal.main_arg5)
          ∧ r.2.mem ((c.tc : Thread Cert.Reference45Ideal.nD Cert.Reference45Ideal.τ).loc Cert.Reference45Ideal.main_arg6) = m' ((c.tc : Thread Cert.Reference45Ideal.nD Cert.Reference45Ideal.τ).loc Cert.Reference45Ideal.main_arg6))

def preserves_Kernel46_Kernel46Ideal : Prop :=
  True

def algebraic_Kernel46Ideal_Reference46Ideal [hKernel46Ideal : Cert.Kernel46Ideal.Facts] [hReference46Ideal : Cert.Reference46Ideal.Facts] : Prop :=
  ∀ (m : (ℓ : Loc Cert.Kernel46Ideal.nD Cert.Kernel46Ideal.τ Cert.Kernel46Ideal.sig) → Buf (Elt Ideal) ℓ) (g : Dev Cert.Kernel46Ideal.nD → PrngReg)
    (m' : (ℓ : Loc Cert.Reference46Ideal.nD Cert.Reference46Ideal.τ Cert.Reference46Ideal.sig) → Buf (Elt Ideal) ℓ) (g' : Dev Cert.Reference46Ideal.nD → PrngReg), Pre_Kernel46Ideal m →
    (∀ c : Dev Cert.Kernel46Ideal.nD,
      m' ((c.tc : Thread Cert.Reference46Ideal.nD Cert.Reference46Ideal.τ).loc Cert.Reference46Ideal.main_arg0) = m ((c.tc : Thread Cert.Kernel46Ideal.nD Cert.Kernel46Ideal.τ).loc Cert.Kernel46Ideal.main_arg0)
      ∧ m' ((c.tc : Thread Cert.Reference46Ideal.nD Cert.Reference46Ideal.τ).loc Cert.Reference46Ideal.main_arg1) = m ((c.tc : Thread Cert.Kernel46Ideal.nD Cert.Kernel46Ideal.τ).loc Cert.Kernel46Ideal.main_arg1)
      ∧ m' ((c.tc : Thread Cert.Reference46Ideal.nD Cert.Reference46Ideal.τ).loc Cert.Reference46Ideal.main_arg2) = m ((c.tc : Thread Cert.Kernel46Ideal.nD Cert.Kernel46Ideal.τ).loc Cert.Kernel46Ideal.main_arg2)) →
    ∃ (v0 : (c : Dev Cert.Kernel46Ideal.nD) → Buf (Elt Ideal) ((c.tc : Thread Cert.Kernel46Ideal.nD Cert.Kernel46Ideal.τ).loc Cert.Kernel46Ideal.main_v0)),
      θ_run (Cert.Kernel46Ideal.defs (F := Ideal)) (onTc (τ := Cert.Kernel46Ideal.τ) (Cert.Kernel46Ideal.main (F := Ideal))) ⟨m, fun _ => 0, g⟩ (fun r => ∀ c : Dev Cert.Kernel46Ideal.nD,
          r.2.mem ((c.tc : Thread Cert.Kernel46Ideal.nD Cert.Kernel46Ideal.τ).loc Cert.Kernel46Ideal.main_v0) = v0 c
          ∧ r.2.mem ((c.tc : Thread Cert.Kernel46Ideal.nD Cert.Kernel46Ideal.τ).loc Cert.Kernel46Ideal.main_arg0) = m ((c.tc : Thread Cert.Kernel46Ideal.nD Cert.Kernel46Ideal.τ).loc Cert.Kernel46Ideal.main_arg0)
          ∧ r.2.mem ((c.tc : Thread Cert.Kernel46Ideal.nD Cert.Kernel46Ideal.τ).loc Cert.Kernel46Ideal.main_arg1) = m ((c.tc : Thread Cert.Kernel46Ideal.nD Cert.Kernel46Ideal.τ).loc Cert.Kernel46Ideal.main_arg1)
          ∧ r.2.mem ((c.tc : Thread Cert.Kernel46Ideal.nD Cert.Kernel46Ideal.τ).loc Cert.Kernel46Ideal.main_arg2) = m ((c.tc : Thread Cert.Kernel46Ideal.nD Cert.Kernel46Ideal.τ).loc Cert.Kernel46Ideal.main_arg2))
      ∧ θ_run (Cert.Reference46Ideal.defs (F := Ideal)) (onTc (τ := Cert.Reference46Ideal.τ) (Cert.Reference46Ideal.main (F := Ideal))) ⟨m', fun _ => 0, g'⟩ (fun r => ∀ c : Dev Cert.Reference46Ideal.nD,
          r.2.mem ((c.tc : Thread Cert.Reference46Ideal.nD Cert.Reference46Ideal.τ).loc Cert.Reference46Ideal.main_v6) = v0 c
          ∧ r.2.mem ((c.tc : Thread Cert.Reference46Ideal.nD Cert.Reference46Ideal.τ).loc Cert.Reference46Ideal.main_arg0) = m' ((c.tc : Thread Cert.Reference46Ideal.nD Cert.Reference46Ideal.τ).loc Cert.Reference46Ideal.main_arg0)
          ∧ r.2.mem ((c.tc : Thread Cert.Reference46Ideal.nD Cert.Reference46Ideal.τ).loc Cert.Reference46Ideal.main_arg1) = m' ((c.tc : Thread Cert.Reference46Ideal.nD Cert.Reference46Ideal.τ).loc Cert.Reference46Ideal.main_arg1)
          ∧ r.2.mem ((c.tc : Thread Cert.Reference46Ideal.nD Cert.Reference46Ideal.τ).loc Cert.Reference46Ideal.main_arg2) = m' ((c.tc : Thread Cert.Reference46Ideal.nD Cert.Reference46Ideal.τ).loc Cert.Reference46Ideal.main_arg2))

def preserves_Kernel47_Kernel47Ideal : Prop :=
  True

def algebraic_Kernel47Ideal_Reference47Ideal [hKernel47Ideal : Cert.Kernel47Ideal.Facts] [hReference47Ideal : Cert.Reference47Ideal.Facts] : Prop :=
  ∀ (m : (ℓ : Loc Cert.Kernel47Ideal.nD Cert.Kernel47Ideal.τ Cert.Kernel47Ideal.sig) → Buf (Elt Ideal) ℓ) (g : Dev Cert.Kernel47Ideal.nD → PrngReg)
    (m' : (ℓ : Loc Cert.Reference47Ideal.nD Cert.Reference47Ideal.τ Cert.Reference47Ideal.sig) → Buf (Elt Ideal) ℓ) (g' : Dev Cert.Reference47Ideal.nD → PrngReg), Pre_Kernel47Ideal m →
    (∀ c : Dev Cert.Kernel47Ideal.nD,
      m' ((c.tc : Thread Cert.Reference47Ideal.nD Cert.Reference47Ideal.τ).loc Cert.Reference47Ideal.main_arg0) = m ((c.tc : Thread Cert.Kernel47Ideal.nD Cert.Kernel47Ideal.τ).loc Cert.Kernel47Ideal.main_arg0)
      ∧ m' ((c.tc : Thread Cert.Reference47Ideal.nD Cert.Reference47Ideal.τ).loc Cert.Reference47Ideal.main_arg1) = m ((c.tc : Thread Cert.Kernel47Ideal.nD Cert.Kernel47Ideal.τ).loc Cert.Kernel47Ideal.main_arg1)
      ∧ m' ((c.tc : Thread Cert.Reference47Ideal.nD Cert.Reference47Ideal.τ).loc Cert.Reference47Ideal.main_arg2) = m ((c.tc : Thread Cert.Kernel47Ideal.nD Cert.Kernel47Ideal.τ).loc Cert.Kernel47Ideal.main_arg2)) →
    ∃ (v0 : (c : Dev Cert.Kernel47Ideal.nD) → Buf (Elt Ideal) ((c.tc : Thread Cert.Kernel47Ideal.nD Cert.Kernel47Ideal.τ).loc Cert.Kernel47Ideal.main_v0)),
      θ_run (Cert.Kernel47Ideal.defs (F := Ideal)) (onTc (τ := Cert.Kernel47Ideal.τ) (Cert.Kernel47Ideal.main (F := Ideal))) ⟨m, fun _ => 0, g⟩ (fun r => ∀ c : Dev Cert.Kernel47Ideal.nD,
          r.2.mem ((c.tc : Thread Cert.Kernel47Ideal.nD Cert.Kernel47Ideal.τ).loc Cert.Kernel47Ideal.main_v0) = v0 c
          ∧ r.2.mem ((c.tc : Thread Cert.Kernel47Ideal.nD Cert.Kernel47Ideal.τ).loc Cert.Kernel47Ideal.main_arg0) = m ((c.tc : Thread Cert.Kernel47Ideal.nD Cert.Kernel47Ideal.τ).loc Cert.Kernel47Ideal.main_arg0)
          ∧ r.2.mem ((c.tc : Thread Cert.Kernel47Ideal.nD Cert.Kernel47Ideal.τ).loc Cert.Kernel47Ideal.main_arg1) = m ((c.tc : Thread Cert.Kernel47Ideal.nD Cert.Kernel47Ideal.τ).loc Cert.Kernel47Ideal.main_arg1)
          ∧ r.2.mem ((c.tc : Thread Cert.Kernel47Ideal.nD Cert.Kernel47Ideal.τ).loc Cert.Kernel47Ideal.main_arg2) = m ((c.tc : Thread Cert.Kernel47Ideal.nD Cert.Kernel47Ideal.τ).loc Cert.Kernel47Ideal.main_arg2))
      ∧ θ_run (Cert.Reference47Ideal.defs (F := Ideal)) (onTc (τ := Cert.Reference47Ideal.τ) (Cert.Reference47Ideal.main (F := Ideal))) ⟨m', fun _ => 0, g'⟩ (fun r => ∀ c : Dev Cert.Reference47Ideal.nD,
          r.2.mem ((c.tc : Thread Cert.Reference47Ideal.nD Cert.Reference47Ideal.τ).loc Cert.Reference47Ideal.main_v4) = v0 c
          ∧ r.2.mem ((c.tc : Thread Cert.Reference47Ideal.nD Cert.Reference47Ideal.τ).loc Cert.Reference47Ideal.main_arg0) = m' ((c.tc : Thread Cert.Reference47Ideal.nD Cert.Reference47Ideal.τ).loc Cert.Reference47Ideal.main_arg0)
          ∧ r.2.mem ((c.tc : Thread Cert.Reference47Ideal.nD Cert.Reference47Ideal.τ).loc Cert.Reference47Ideal.main_arg1) = m' ((c.tc : Thread Cert.Reference47Ideal.nD Cert.Reference47Ideal.τ).loc Cert.Reference47Ideal.main_arg1)
          ∧ r.2.mem ((c.tc : Thread Cert.Reference47Ideal.nD Cert.Reference47Ideal.τ).loc Cert.Reference47Ideal.main_arg2) = m' ((c.tc : Thread Cert.Reference47Ideal.nD Cert.Reference47Ideal.τ).loc Cert.Reference47Ideal.main_arg2))

def preserves_Kernel48_Kernel48Ideal : Prop :=
  True

def algebraic_Kernel48Ideal_Reference48Ideal [hKernel48Ideal : Cert.Kernel48Ideal.Facts] [hReference48Ideal : Cert.Reference48Ideal.Facts] : Prop :=
  ∀ (m : (ℓ : Loc Cert.Kernel48Ideal.nD Cert.Kernel48Ideal.τ Cert.Kernel48Ideal.sig) → Buf (Elt Ideal) ℓ) (g : Dev Cert.Kernel48Ideal.nD → PrngReg)
    (m' : (ℓ : Loc Cert.Reference48Ideal.nD Cert.Reference48Ideal.τ Cert.Reference48Ideal.sig) → Buf (Elt Ideal) ℓ) (g' : Dev Cert.Reference48Ideal.nD → PrngReg), Pre_Kernel48Ideal m →
    (∀ c : Dev Cert.Kernel48Ideal.nD,
      m' ((c.tc : Thread Cert.Reference48Ideal.nD Cert.Reference48Ideal.τ).loc Cert.Reference48Ideal.main_arg0) = m ((c.tc : Thread Cert.Kernel48Ideal.nD Cert.Kernel48Ideal.τ).loc Cert.Kernel48Ideal.main_arg0)) →
    ∃ (v0 : (c : Dev Cert.Kernel48Ideal.nD) → Buf (Elt Ideal) ((c.tc : Thread Cert.Kernel48Ideal.nD Cert.Kernel48Ideal.τ).loc Cert.Kernel48Ideal.main_v0)),
      θ_run (Cert.Kernel48Ideal.defs (F := Ideal)) (onTc (τ := Cert.Kernel48Ideal.τ) (Cert.Kernel48Ideal.main (F := Ideal))) ⟨m, fun _ => 0, g⟩ (fun r => ∀ c : Dev Cert.Kernel48Ideal.nD,
          r.2.mem ((c.tc : Thread Cert.Kernel48Ideal.nD Cert.Kernel48Ideal.τ).loc Cert.Kernel48Ideal.main_v0) = v0 c
          ∧ r.2.mem ((c.tc : Thread Cert.Kernel48Ideal.nD Cert.Kernel48Ideal.τ).loc Cert.Kernel48Ideal.main_arg0) = m ((c.tc : Thread Cert.Kernel48Ideal.nD Cert.Kernel48Ideal.τ).loc Cert.Kernel48Ideal.main_arg0))
      ∧ θ_run (Cert.Reference48Ideal.defs (F := Ideal)) (onTc (τ := Cert.Reference48Ideal.τ) (Cert.Reference48Ideal.main (F := Ideal))) ⟨m', fun _ => 0, g'⟩ (fun r => ∀ c : Dev Cert.Reference48Ideal.nD,
          r.2.mem ((c.tc : Thread Cert.Reference48Ideal.nD Cert.Reference48Ideal.τ).loc Cert.Reference48Ideal.main_v0) = v0 c
          ∧ r.2.mem ((c.tc : Thread Cert.Reference48Ideal.nD Cert.Reference48Ideal.τ).loc Cert.Reference48Ideal.main_arg0) = m' ((c.tc : Thread Cert.Reference48Ideal.nD Cert.Reference48Ideal.τ).loc Cert.Reference48Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hKernel36 : Cert.Kernel36.Facts) (hKernel36Ideal : Cert.Kernel36Ideal.Facts) (hReference36Ideal : Cert.Reference36Ideal.Facts) (hKernel37 : Cert.Kernel37.Facts) (hKernel37Ideal : Cert.Kernel37Ideal.Facts) (hReference37Ideal : Cert.Reference37Ideal.Facts) (hKernel38 : Cert.Kernel38.Facts) (hKernel38Ideal : Cert.Kernel38Ideal.Facts) (hReference38Ideal : Cert.Reference38Ideal.Facts) (hKernel39 : Cert.Kernel39.Facts) (hKernel39Ideal : Cert.Kernel39Ideal.Facts) (hReference39Ideal : Cert.Reference39Ideal.Facts) (hKernel40 : Cert.Kernel40.Facts) (hKernel40Ideal : Cert.Kernel40Ideal.Facts) (hReference40Ideal : Cert.Reference40Ideal.Facts) (hKernel41 : Cert.Kernel41.Facts) (hKernel41Ideal : Cert.Kernel41Ideal.Facts) (hReference41Ideal : Cert.Reference41Ideal.Facts) (hKernel42 : Cert.Kernel42.Facts) (hKernel42Ideal : Cert.Kernel42Ideal.Facts) (hReference42Ideal : Cert.Reference42Ideal.Facts) (hKernel43 : Cert.Kernel43.Facts) (hKernel43Ideal : Cert.Kernel43Ideal.Facts) (hReference43Ideal : Cert.Reference43Ideal.Facts) (hKernel44 : Cert.Kernel44.Facts) (hKernel44Ideal : Cert.Kernel44Ideal.Facts) (hReference44Ideal : Cert.Reference44Ideal.Facts) (hKernel45 : Cert.Kernel45.Facts) (hKernel45Ideal : Cert.Kernel45Ideal.Facts) (hReference45Ideal : Cert.Reference45Ideal.Facts) (hKernel46 : Cert.Kernel46.Facts) (hKernel46Ideal : Cert.Kernel46Ideal.Facts) (hReference46Ideal : Cert.Reference46Ideal.Facts) (hKernel47 : Cert.Kernel47.Facts) (hKernel47Ideal : Cert.Kernel47Ideal.Facts) (hReference47Ideal : Cert.Reference47Ideal.Facts) (hKernel48 : Cert.Kernel48.Facts) (hKernel48Ideal : Cert.Kernel48Ideal.Facts) (hReference48Ideal : Cert.Reference48Ideal.Facts) (hPre_finite_scores : Cert.Pre_finite_scores.Facts) (hPre_finite_fox_scores : Cert.Pre_finite_fox_scores.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite_scores (hKernel2Ideal := hKernel2Ideal) (hPre_finite_scores := hPre_finite_scores)
    ∧ quiescent_Reference2Ideal (hReference2Ideal := hReference2Ideal)
    ∧ quiescent_Reference2Ideal_pre_finite_scores (hReference2Ideal := hReference2Ideal) (hPre_finite_scores := hPre_finite_scores)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Kernel11Ideal_pre_finite_fox_scores (hKernel11Ideal := hKernel11Ideal) (hPre_finite_fox_scores := hPre_finite_fox_scores)
    ∧ quiescent_Reference11Ideal (hReference11Ideal := hReference11Ideal)
    ∧ quiescent_Reference11Ideal_pre_finite_fox_scores (hReference11Ideal := hReference11Ideal) (hPre_finite_fox_scores := hPre_finite_fox_scores)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel35 (hKernel35 := hKernel35)
    ∧ quiescent_Kernel35Ideal (hKernel35Ideal := hKernel35Ideal)
    ∧ quiescent_Reference35Ideal (hReference35Ideal := hReference35Ideal)
    ∧ quiescent_Kernel36 (hKernel36 := hKernel36)
    ∧ quiescent_Kernel36Ideal (hKernel36Ideal := hKernel36Ideal)
    ∧ quiescent_Reference36Ideal (hReference36Ideal := hReference36Ideal)
    ∧ quiescent_Kernel37 (hKernel37 := hKernel37)
    ∧ quiescent_Kernel37Ideal (hKernel37Ideal := hKernel37Ideal)
    ∧ quiescent_Reference37Ideal (hReference37Ideal := hReference37Ideal)
    ∧ quiescent_Kernel38 (hKernel38 := hKernel38)
    ∧ quiescent_Kernel38Ideal (hKernel38Ideal := hKernel38Ideal)
    ∧ quiescent_Reference38Ideal (hReference38Ideal := hReference38Ideal)
    ∧ quiescent_Kernel39 (hKernel39 := hKernel39)
    ∧ quiescent_Kernel39Ideal (hKernel39Ideal := hKernel39Ideal)
    ∧ quiescent_Reference39Ideal (hReference39Ideal := hReference39Ideal)
    ∧ quiescent_Kernel40 (hKernel40 := hKernel40)
    ∧ quiescent_Kernel40Ideal (hKernel40Ideal := hKernel40Ideal)
    ∧ quiescent_Reference40Ideal (hReference40Ideal := hReference40Ideal)
    ∧ quiescent_Kernel41 (hKernel41 := hKernel41)
    ∧ quiescent_Kernel41Ideal (hKernel41Ideal := hKernel41Ideal)
    ∧ quiescent_Reference41Ideal (hReference41Ideal := hReference41Ideal)
    ∧ quiescent_Kernel42 (hKernel42 := hKernel42)
    ∧ quiescent_Kernel42Ideal (hKernel42Ideal := hKernel42Ideal)
    ∧ quiescent_Reference42Ideal (hReference42Ideal := hReference42Ideal)
    ∧ quiescent_Kernel43 (hKernel43 := hKernel43)
    ∧ quiescent_Kernel43Ideal (hKernel43Ideal := hKernel43Ideal)
    ∧ quiescent_Reference43Ideal (hReference43Ideal := hReference43Ideal)
    ∧ quiescent_Kernel44 (hKernel44 := hKernel44)
    ∧ quiescent_Kernel44Ideal (hKernel44Ideal := hKernel44Ideal)
    ∧ quiescent_Reference44Ideal (hReference44Ideal := hReference44Ideal)
    ∧ quiescent_Kernel45 (hKernel45 := hKernel45)
    ∧ quiescent_Kernel45Ideal (hKernel45Ideal := hKernel45Ideal)
    ∧ quiescent_Reference45Ideal (hReference45Ideal := hReference45Ideal)
    ∧ quiescent_Kernel46 (hKernel46 := hKernel46)
    ∧ quiescent_Kernel46Ideal (hKernel46Ideal := hKernel46Ideal)
    ∧ quiescent_Reference46Ideal (hReference46Ideal := hReference46Ideal)
    ∧ quiescent_Kernel47 (hKernel47 := hKernel47)
    ∧ quiescent_Kernel47Ideal (hKernel47Ideal := hKernel47Ideal)
    ∧ quiescent_Reference47Ideal (hReference47Ideal := hReference47Ideal)
    ∧ quiescent_Kernel48 (hKernel48 := hKernel48)
    ∧ quiescent_Kernel48Ideal (hKernel48Ideal := hKernel48Ideal)
    ∧ quiescent_Reference48Ideal (hReference48Ideal := hReference48Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite_scores (hKernel2Ideal := hKernel2Ideal) (hReference2Ideal := hReference2Ideal) (hPre_finite_scores := hPre_finite_scores)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal_pre_finite_fox_scores (hKernel11Ideal := hKernel11Ideal) (hReference11Ideal := hReference11Ideal) (hPre_finite_fox_scores := hPre_finite_fox_scores)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
    ∧ preserves_Kernel35_Kernel35Ideal
    ∧ algebraic_Kernel35Ideal_Reference35Ideal (hKernel35Ideal := hKernel35Ideal) (hReference35Ideal := hReference35Ideal)
    ∧ preserves_Kernel36_Kernel36Ideal
    ∧ algebraic_Kernel36Ideal_Reference36Ideal (hKernel36Ideal := hKernel36Ideal) (hReference36Ideal := hReference36Ideal)
    ∧ preserves_Kernel37_Kernel37Ideal
    ∧ algebraic_Kernel37Ideal_Reference37Ideal (hKernel37Ideal := hKernel37Ideal) (hReference37Ideal := hReference37Ideal)
    ∧ preserves_Kernel38_Kernel38Ideal
    ∧ algebraic_Kernel38Ideal_Reference38Ideal (hKernel38Ideal := hKernel38Ideal) (hReference38Ideal := hReference38Ideal)
    ∧ preserves_Kernel39_Kernel39Ideal
    ∧ algebraic_Kernel39Ideal_Reference39Ideal (hKernel39Ideal := hKernel39Ideal) (hReference39Ideal := hReference39Ideal)
    ∧ preserves_Kernel40_Kernel40Ideal
    ∧ algebraic_Kernel40Ideal_Reference40Ideal (hKernel40Ideal := hKernel40Ideal) (hReference40Ideal := hReference40Ideal)
    ∧ preserves_Kernel41_Kernel41Ideal
    ∧ algebraic_Kernel41Ideal_Reference41Ideal (hKernel41Ideal := hKernel41Ideal) (hReference41Ideal := hReference41Ideal)
    ∧ preserves_Kernel42_Kernel42Ideal
    ∧ algebraic_Kernel42Ideal_Reference42Ideal (hKernel42Ideal := hKernel42Ideal) (hReference42Ideal := hReference42Ideal)
    ∧ preserves_Kernel43_Kernel43Ideal
    ∧ algebraic_Kernel43Ideal_Reference43Ideal (hKernel43Ideal := hKernel43Ideal) (hReference43Ideal := hReference43Ideal)
    ∧ preserves_Kernel44_Kernel44Ideal
    ∧ algebraic_Kernel44Ideal_Reference44Ideal (hKernel44Ideal := hKernel44Ideal) (hReference44Ideal := hReference44Ideal)
    ∧ preserves_Kernel45_Kernel45Ideal
    ∧ algebraic_Kernel45Ideal_Reference45Ideal (hKernel45Ideal := hKernel45Ideal) (hReference45Ideal := hReference45Ideal)
    ∧ preserves_Kernel46_Kernel46Ideal
    ∧ algebraic_Kernel46Ideal_Reference46Ideal (hKernel46Ideal := hKernel46Ideal) (hReference46Ideal := hReference46Ideal)
    ∧ preserves_Kernel47_Kernel47Ideal
    ∧ algebraic_Kernel47Ideal_Reference47Ideal (hKernel47Ideal := hKernel47Ideal) (hReference47Ideal := hReference47Ideal)
    ∧ preserves_Kernel48_Kernel48Ideal
    ∧ algebraic_Kernel48Ideal_Reference48Ideal (hKernel48Ideal := hKernel48Ideal) (hReference48Ideal := hReference48Ideal)
-- ==== Pre_finite_fox_scores.lean ====
abbrev S4x2048x4096 : Shape := ⟨3, ![4, 2048, 4096]⟩
abbrev S4x2048x1024 : Shape := ⟨3, ![4, 2048, 1024]⟩
abbrev S4x2048x32 : Shape := ⟨3, ![4, 2048, 32]⟩
abbrev S4x2048x512 : Shape := ⟨3, ![4, 2048, 512]⟩
abbrev S_ : Shape := ⟨0, ![]⟩

class Facts : Prop where
  slices_S4x2048x1024_S4x2048x512_0_0_0 : S4x2048x1024.Slices ![0, 0, 0] S4x2048x512
  bitsLt_bf16_f32 : FTy.bits .bf16 < FTy.bits .f32
  bcast_S_S4x2048x4096 : S_.BroadcastsInDim S4x2048x4096 (![] : Fin 0 → Fin S4x2048x4096.rank)
  bcast_S_S4x2048x512 : S_.BroadcastsInDim S4x2048x512 (![] : Fin 0 → Fin S4x2048x512.rank)
  bcast_S_S4x2048x32 : S_.BroadcastsInDim S4x2048x32 (![] : Fin 0 → Fin S4x2048x32.rank)

variable [Facts]

def fn {F : FTy → Type} [FloatOps F] (main_arg0 : FVec F S4x2048x4096 .bf16) (main_arg1 : FVec F S4x2048x1024 .bf16) (main_arg2 : FVec F S4x2048x32 .f32) : IVec S4x2048x4096 1 × IVec S4x2048x512 1 × IVec S4x2048x32 1 :=
  let main_v0 : FVec F S4x2048x512 .bf16 := (extractStridedSlice S4x2048x512 ![0, 0, 0] · slices_S4x2048x1024_S4x2048x512_0_0_0) main_arg1
  let main_v1 : FVec F S4x2048x4096 .f32 := (extf .f32 · bitsLt_bf16_f32) main_arg0
  let main_v2 : FVec F S4x2048x4096 .f32 := Host.absf main_v1
  let main_cst : FVec F S_ .f32 := constant S_ .f32 0x7F800000#32
  let main_v3 : FVec F S4x2048x4096 .f32 := broadcastInDim S4x2048x4096 ![] bcast_S_S4x2048x4096 main_cst
  let main_v4 : IVec S4x2048x4096 1 := cmpf .olt main_v2 main_v3
  let main_v5 : FVec F S4x2048x512 .f32 := (extf .f32 · bitsLt_bf16_f32) main_v0
  let main_v6 : FVec F S4x2048x512 .f32 := Host.absf main_v5
  let main_cst_0 : FVec F S_ .f32 := constant S_ .f32 0x7F800000#32
  let main_v7 : FVec F S4x2048x512 .f32 := broadcastInDim S4x2048x512 ![] bcast_S_S4x2048x512 main_cst_0
  let main_v8 : IVec S4x2048x512 1 := cmpf .olt main_v6 main_v7
  let main_v9 : FVec F S4x2048x32 .f32 := Host.absf main_arg2
  let main_cst_1 : FVec F S_ .f32 := constant S_ .f32 0x7F800000#32
  let main_v10 : FVec F S4x2048x32 .f32 := broadcastInDim S4x2048x32 ![] bcast_S_S4x2048x32 main_cst_1
  let main_v11 : IVec S4x2048x32 1 := cmpf .olt main_v9 main_v10
  (main_v4, main_v8, main_v11)
-- ==== Pre_finite_scores.lean ====
abbrev S4x2048x4096 : Shape := ⟨3, ![4, 2048, 4096]⟩
abbrev S4x32x2048x64 : Shape := ⟨4, ![4, 32, 2048, 64]⟩
abbrev S4x2048x8192 : Shape := ⟨3, ![4, 2048, 8192]⟩
abbrev S4x2048x64 : Shape := ⟨3, ![4, 2048, 64]⟩
abbrev S4x2048x32x256 : Shape := ⟨4, ![4, 2048, 32, 256]⟩
abbrev S4x2048x32x128 : Shape := ⟨4, ![4, 2048, 32, 128]⟩
abbrev S_ : Shape := ⟨0, ![]⟩

class Facts : Prop where
  shapeCasts_S4x2048x8192_S4x2048x32x256 : S4x2048x8192.ShapeCasts S4x2048x32x256
  slices_S4x2048x32x256_S4x2048x32x128_0_0_0_0 : S4x2048x32x256.Slices ![0, 0, 0, 0] S4x2048x32x128
  bitsLt_bf16_f32 : FTy.bits .bf16 < FTy.bits .f32
  bcast_S_S4x2048x4096 : S_.BroadcastsInDim S4x2048x4096 (![] : Fin 0 → Fin S4x2048x4096.rank)
  bcast_S_S4x32x2048x64 : S_.BroadcastsInDim S4x32x2048x64 (![] : Fin 0 → Fin S4x32x2048x64.rank)
  bcast_S_S4x2048x32x128 : S_.BroadcastsInDim S4x2048x32x128 (![] : Fin 0 → Fin S4x2048x32x128.rank)
  bcast_S_S4x2048x64 : S_.BroadcastsInDim S4x2048x64 (![] : Fin 0 → Fin S4x2048x64.rank)

variable [Facts]

def fn {F : FTy → Type} [FloatOps F] (main_arg0 : FVec F S4x2048x4096 .bf16) (main_arg1 : FVec F S4x32x2048x64 .bf16) (main_arg2 : FVec F S4x2048x8192 .bf16) (main_arg3 : FVec F S4x2048x64 .bf16) : IVec S4x2048x4096 1 × IVec S4x32x2048x64 1 × IVec S4x2048x32x128 1 × IVec S4x2048x64 1 :=
  let main_v0 : FVec F S4x2048x32x256 .bf16 := shapeCast S4x2048x32x256 main_arg2 shapeCasts_S4x2048x8192_S4x2048x32x256
  let main_v1 : FVec F S4x2048x32x128 .bf16 := (extractStridedSlice S4x2048x32x128 ![0, 0, 0, 0] · slices_S4x2048x32x256_S4x2048x32x128_0_0_0_0) main_v0
  let main_v2 : FVec F S4x2048x4096 .f32 := (extf .f32 · bitsLt_bf16_f32) main_arg0
  let main_v3 : FVec F S4x2048x4096 .f32 := Host.absf main_v2
  let main_cst : FVec F S_ .f32 := constant S_ .f32 0x7F800000#32
  let main_v4 : FVec F S4x2048x4096 .f32 := broadcastInDim S4x2048x4096 ![] bcast_S_S4x2048x4096 main_cst
  let main_v5 : IVec S4x2048x4096 1 := cmpf .olt main_v3 main_v4
  let main_v6 : FVec F S4x32x2048x64 .f32 := (extf .f32 · bitsLt_bf16_f32) main_arg1
  let main_v7 : FVec F S4x32x2048x64 .f32 := Host.absf main_v6
  let main_cst_0 : FVec F S_ .f32 := constant S_ .f32 0x7F800000#32
  let main_v8 : FVec F S4x32x2048x64 .f32 := broadcastInDim S4x32x2048x64 ![] bcast_S_S4x32x2048x64 main_cst_0
  let main_v9 : IVec S4x32x2048x64 1 := cmpf .olt main_v7 main_v8
  let main_v10 : FVec F S4x2048x32x128 .f32 := (extf .f32 · bitsLt_bf16_f32) main_v1
  let main_v11 : FVec F S4x2048x32x128 .f32 := Host.absf main_v10
  let main_cst_1 : FVec F S_ .f32 := constant S_ .f32 0x7F800000#32
  let main_v12 : FVec F S4x2048x32x128 .f32 := broadcastInDim S4x2048x32x128 ![] bcast_S_S4x2048x32x128 main_cst_1
  let main_v13 : IVec S4x2048x32x128 1 := cmpf .olt main_v11 main_v12
  let main_v14 : FVec F S4x2048x64 .f32 := (extf .f32 · bitsLt_bf16_f32) main_arg3
  let main_v15 : FVec F S4x2048x64 .f32 := Host.absf main_v14
  let main_cst_2 : FVec F S_ .f32 := constant S_ .f32 0x7F800000#32
  let main_v16 : FVec F S4x2048x64 .f32 := broadcastInDim S4x2048x64 ![] bcast_S_S4x2048x64 main_cst_2
  let main_v17 : IVec S4x2048x64 1 := cmpf .olt main_v15 main_v16
  (main_v5, main_v9, main_v13, main_v17)
-- ==== Kernel.lean ====
abbrev S128x4096 : Shape := ⟨2, ![128, 4096]⟩
abbrev S128x256x64 : Shape := ⟨3, ![128, 256, 64]⟩
abbrev S256x64 : Shape := ⟨2, ![256, 64]⟩
abbrev S256 : Shape := ⟨1, ![256]⟩
abbrev S256x64x16 : Shape := ⟨3, ![256, 64, 16]⟩
abbrev S256x16x64 : Shape := ⟨3, ![256, 16, 64]⟩
abbrev S4096 : Shape := ⟨1, ![4096]⟩
abbrev S256x1 : Shape := ⟨2, ![256, 1]⟩
abbrev S_ : Shape := ⟨0, ![]⟩
abbrev S256x64x1 : Shape := ⟨3, ![256, 64, 1]⟩
abbrev S32x8x16x64 : Shape := ⟨4, ![32, 8, 16, 64]⟩
abbrev S8x8 : Shape := ⟨2, ![8, 8]⟩
abbrev S32x8x16x1x64 : Shape := ⟨5, ![32, 8, 16, 1, 64]⟩
abbrev S8x1x8x1 : Shape := ⟨4, ![8, 1, 8, 1]⟩
abbrev S1x8x1x8x1 : Shape := ⟨5, ![1, 8, 1, 8, 1]⟩
abbrev S32x8x16x8x64 : Shape := ⟨5, ![32, 8, 16, 8, 64]⟩
abbrev S32x128x512 : Shape := ⟨3, ![32, 128, 512]⟩
abbrev S32x128x1024 : Shape := ⟨3, ![32, 128, 1024]⟩
abbrev S32x8x64x16 : Shape := ⟨4, ![32, 8, 64, 16]⟩
abbrev S32x8x64x1x16 : Shape := ⟨5, ![32, 8, 64, 1, 16]⟩
abbrev S32x8x64x8x16 : Shape := ⟨5, ![32, 8, 64, 8, 16]⟩
abbrev S32x512x128 : Shape := ⟨3, ![32, 512, 128]⟩
abbrev S32x1024x128 : Shape := ⟨3, ![32, 1024, 128]⟩
abbrev S32x1x512 : Shape := ⟨3, ![32, 1, 512]⟩
abbrev S32x1x1024 : Shape := ⟨3, ![32, 1, 1024]⟩
abbrev S128x16384 : Shape := ⟨2, ![128, 16384]⟩
abbrev S32x1x128 : Shape := ⟨3, ![32, 1, 128]⟩
abbrev S128x128 : Shape := ⟨2, ![128, 128]⟩
abbrev S128x512 : Shape := ⟨2, ![128, 512]⟩
abbrev S1x128x1024 : Shape := ⟨3, ![1, 128, 1024]⟩
abbrev S1x1024x128 : Shape := ⟨3, ![1, 1024, 128]⟩
abbrev S1x1x1024 : Shape := ⟨3, ![1, 1, 1024]⟩
abbrev S1x1x128 : Shape := ⟨3, ![1, 1, 128]⟩
abbrev S128x1024 : Shape := ⟨2, ![128, 1024]⟩
abbrev S1x1x512 : Shape := ⟨3, ![1, 1, 512]⟩
abbrev S1x512 : Shape := ⟨2, ![1, 512]⟩
abbrev S1024x128 : Shape := ⟨2, ![1024, 128]⟩
abbrev S1x128 : Shape := ⟨2, ![1, 128]⟩

abbrev nBuf : Space → Nat
  | .hbm => 135
  | .vmem => 20
  | .smem => 0
  | _ => 0

abbrev hbmTy0_0 (i : Nat) : BufTy := match i % 128 with
  | 0 => ⟨S128x4096, .f32⟩
  | 1 => ⟨S128x256x64, .f32⟩
  | 2 => ⟨S128x256x64, .f32⟩
  | 3 => ⟨S256x64, .f32⟩
  | 4 => ⟨S256x64, .f32⟩
  | 5 => ⟨S256, .f32⟩
  | 6 => ⟨S256x64x16, .f32⟩
  | 7 => ⟨S256x64x16, .f32⟩
  | 8 => ⟨S256x16x64, .f32⟩
  | 9 => ⟨S256x16x64, .f32⟩
  | 10 => ⟨S4096, .f32⟩
  | 11 => ⟨S256, .f32⟩
  | 12 => ⟨S256x1, .f32⟩
  | 13 => ⟨S256x64, .f32⟩
  | 14 => ⟨S256x64, .f32⟩
  | 15 => ⟨S256x64, .f32⟩
  | 16 => ⟨S256x64, .f32⟩
  | 17 => ⟨S256x64, .f32⟩
  | 18 => ⟨S256x64, .f32⟩
  | 19 => ⟨S256x64, .f32⟩
  | 20 => ⟨S256x64, .f32⟩
  | 21 => ⟨S256x64, .f32⟩
  | 22 => ⟨S256x64, .f32⟩
  | 23 => ⟨S256x64, .f32⟩
  | 24 => ⟨S256x64, .f32⟩
  | 25 => ⟨S_, .f32⟩
  | 26 => ⟨S256x64, .f32⟩
  | 27 => ⟨S256x64, .f32⟩
  | 28 => ⟨S256x64, .f32⟩
  | 29 => ⟨S256x64, .f32⟩
  | 30 => ⟨S256x64, .f32⟩
  | 31 => ⟨S256x64, .f32⟩
  | 32 => ⟨S256x64, .f32⟩
  | 33 => ⟨S_, .f32⟩
  | 34 => ⟨S256x64, .f32⟩
  | 35 => ⟨S256x64, .f32⟩
  | 36 => ⟨S256x64, .f32⟩
  | 37 => ⟨S256x64, .f32⟩
  | 38 => ⟨S256x64, .f32⟩
  | 39 => ⟨S256x64x1, .f32⟩
  | 40 => ⟨S256x64x16, .f32⟩
  | 41 => ⟨S256x64x16, .f32⟩
  | 42 => ⟨S256x64x1, .f32⟩
  | 43 => ⟨S256x64x16, .f32⟩
  | 44 => ⟨S256x64x16, .f32⟩
  | 45 => ⟨S256x64x16, .f32⟩
  | 46 => ⟨S256x64x1, .f32⟩
  | 47 => ⟨S256x64x16, .f32⟩
  | 48 => ⟨S256x64x16, .f32⟩
  | 49 => ⟨S256x64x1, .f32⟩
  | 50 => ⟨S256x64x16, .f32⟩
  | 51 => ⟨S256x64x16, .f32⟩
  | 52 => ⟨S256x64x16, .f32⟩
  | 53 => ⟨S256x64, .f32⟩
  | 54 => ⟨S256x64, .f32⟩
  | 55 => ⟨S256x64, .f32⟩
  | 56 => ⟨S256x64, .f32⟩
  | 57 => ⟨S256x16x64, .f32⟩
  | 58 => ⟨S32x8x16x64, .f32⟩
  | 59 => ⟨S8x8, .i32⟩
  | 60 => ⟨S8x8, .i32⟩
  | 61 => ⟨S_, .i32⟩
  | 62 => ⟨S8x8, .i32⟩
  | 63 => ⟨S8x8, .i32⟩
  | 64 => ⟨S8x8, .i1⟩
  | 65 => ⟨S8x8, .f32⟩
  | 66 => ⟨S32x8x16x1x64, .f32⟩
  | 67 => ⟨S8x1x8x1, .f32⟩
  | 68 => ⟨S1x8x1x8x1, .f32⟩
  | 69 => ⟨S32x8x16x8x64, .f32⟩
  | 70 => ⟨S32x8x16x8x64, .f32⟩
  | 71 => ⟨S32x8x16x8x64, .f32⟩
  | 72 => ⟨S32x128x512, .f32⟩
  | 73 => ⟨S256x16x64, .f32⟩
  | 74 => ⟨S32x8x16x64, .f32⟩
  | 75 => ⟨S8x8, .i32⟩
  | 76 => ⟨S8x8, .i32⟩
  | 77 => ⟨S_, .i32⟩
  | 78 => ⟨S8x8, .i32⟩
  | 79 => ⟨S8x8, .i32⟩
  | 80 => ⟨S8x8, .i1⟩
  | 81 => ⟨S8x8, .f32⟩
  | 82 => ⟨S32x8x16x1x64, .f32⟩
  | 83 => ⟨S8x1x8x1, .f32⟩
  | 84 => ⟨S1x8x1x8x1, .f32⟩
  | 85 => ⟨S32x8x16x8x64, .f32⟩
  | 86 => ⟨S32x8x16x8x64, .f32⟩
  | 87 => ⟨S32x8x16x8x64, .f32⟩
  | 88 => ⟨S32x128x512, .f32⟩
  | 89 => ⟨S32x128x1024, .f32⟩
  | 90 => ⟨S32x128x1024, .bf16⟩
  | 91 => ⟨S256x64x16, .f32⟩
  | 92 => ⟨S32x8x64x16, .f32⟩
  | 93 => ⟨S8x8, .i32⟩
  | 94 => ⟨S8x8, .i32⟩
  | 95 => ⟨S_, .i32⟩
  | 96 => ⟨S8x8, .i32⟩
  | 97 => ⟨S8x8, .i32⟩
  | 98 => ⟨S8x8, .i1⟩
  | 99 => ⟨S8x8, .f32⟩
  | 100 => ⟨S32x8x64x1x16, .f32⟩
  | 101 => ⟨S8x1x8x1, .f32⟩
  | 102 => ⟨S1x8x1x8x1, .f32⟩
  | 103 => ⟨S32x8x64x8x16, .f32⟩
  | 104 => ⟨S32x8x64x8x16, .f32⟩
  | 105 => ⟨S32x8x64x8x16, .f32⟩
  | 106 => ⟨S32x512x128, .f32⟩
  | 107 => ⟨S256x64x16, .f32⟩
  | 108 => ⟨S256x64x16, .f32⟩
  | 109 => ⟨S32x8x64x16, .f32⟩
  | 110 => ⟨S8x8, .i32⟩
  | 111 => ⟨S8x8, .i32⟩
  | 112 => ⟨S_, .i32⟩
  | 113 => ⟨S8x8, .i32⟩
  | 114 => ⟨S8x8, .i32⟩
  | 115 => ⟨S8x8, .i1⟩
  | 116 => ⟨S8x8, .f32⟩
  | 117 => ⟨S32x8x64x1x16, .f32⟩
  | 118 => ⟨S8x1x8x1, .f32⟩
  | 119 => ⟨S1x8x1x8x1, .f32⟩
  | 120 => ⟨S32x8x64x8x16, .f32⟩
  | 121 => ⟨S32x8x64x8x16, .f32⟩
  | 122 => ⟨S32x8x64x8x16, .f32⟩
  | 123 => ⟨S32x512x128, .f32⟩
  | 124 => ⟨S32x1024x128, .f32⟩
  | 125 => ⟨S32x1024x128, .bf16⟩
  | 126 => ⟨S32x1x512, .f32⟩
  | 127 => ⟨S32x1x512, .f32⟩
  | _ => ⟨S128x4096, .f32⟩

abbrev hbmTy0_1 (i : Nat) : BufTy := match i % 128 with
  | 0 => ⟨S32x1x1024, .f32⟩
  | 1 => ⟨S128x16384, .f32⟩
  | 2 => ⟨S128x16384, .f32⟩
  | 3 => ⟨S32x1x128, .f32⟩
  | 4 => ⟨S128x4096, .bf16⟩
  | 5 => ⟨S128x16384, .f32⟩
  | 6 => ⟨S128x16384, .f32⟩
  | _ => ⟨S128x4096, .f32⟩

abbrev hbmTy (i : Nat) : BufTy := match i / 128 with
  | 0 => hbmTy0_0 i
  | 1 => hbmTy0_1 i
  | _ => ⟨S128x4096, .f32⟩

abbrev bufTy : (tb : Table) → Fin (tcTables nBuf tb) → BufTy
  | .hbm, ⟨i, _⟩ => hbmTy i
  | .local _ .vmem, ⟨0, _⟩ => ⟨S128x128, .f32⟩
  | .local _ .vmem, ⟨1, _⟩ => ⟨S128x128, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S1x128x1024, .bf16⟩
  | .local _ .vmem, ⟨7, _⟩ => ⟨S1x128x1024, .bf16⟩
  | .local _ .vmem, ⟨8, _⟩ => ⟨S1x1024x128, .bf16⟩
  | .local _ .vmem, ⟨9, _⟩ => ⟨S1x1024x128, .bf16⟩
  | .local _ .vmem, ⟨10, _⟩ => ⟨S1x1x1024, .f32⟩
  | .local _ .vmem, ⟨11, _⟩ => ⟨S1x1x1024, .f32⟩
  | .local _ .vmem, ⟨12, _⟩ => ⟨S1x1x128, .f32⟩
  | .local _ .vmem, ⟨13, _⟩ => ⟨S1x1x128, .f32⟩
  | .local _ .vmem, ⟨14, _⟩ => ⟨S128x128, .bf16⟩
  | .local _ .vmem, ⟨15, _⟩ => ⟨S128x128, .bf16⟩
  | .local _ .vmem, ⟨16, _⟩ => ⟨S128x512, .f32⟩
  | .local _ .vmem, ⟨17, _⟩ => ⟨S128x512, .f32⟩
  | .local _ .vmem, ⟨18, _⟩ => ⟨S128x512, .f32⟩
  | .local _ .vmem, ⟨19, _⟩ => ⟨S128x512, .f32⟩
  | _, _ => ⟨S128x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_0 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_c : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_c_1 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_c_2 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_c_3 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115_0 : Ref sig .tc := ⟨.hbm, 132, rfl⟩
abbrev main_v115_1 : Ref sig .tc := ⟨.hbm, 133, rfl⟩
abbrev main_v115_2 : Ref sig .tc := ⟨.hbm, 134, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S128x4096 : Shape := ⟨2, ![128, 4096]⟩
abbrev S128x256x64 : Shape := ⟨3, ![128, 256, 64]⟩
abbrev S256x64 : Shape := ⟨2, ![256, 64]⟩
abbrev S256 : Shape := ⟨1, ![256]⟩
abbrev S256x64x16 : Shape := ⟨3, ![256, 64, 16]⟩
abbrev S256x16x64 : Shape := ⟨3, ![256, 16, 64]⟩
abbrev S4096 : Shape := ⟨1, ![4096]⟩
abbrev S128x256x16 : Shape := ⟨3, ![128, 256, 16]⟩
abbrev S256x1 : Shape := ⟨2, ![256, 1]⟩
abbrev S_ : Shape := ⟨0, ![]⟩
abbrev S256x64x1 : Shape := ⟨3, ![256, 64, 1]⟩
abbrev S256x64x128 : Shape := ⟨3, ![256, 64, 128]⟩
abbrev S1x256x64 : Shape := ⟨3, ![1, 256, 64]⟩
abbrev S256x16x128 : Shape := ⟨3, ![256, 16, 128]⟩
abbrev S1x4096 : Shape := ⟨2, ![1, 4096]⟩
abbrev S128x16384 : Shape := ⟨2, ![128, 16384]⟩

abbrev nBuf : Space → Nat
  | .hbm => 105
  | .vmem => 0
  | .smem => 0
  | _ => 0

abbrev bufTy : (tb : Table) → Fin (tcTables nBuf tb) → BufTy
  | .hbm, ⟨0, _⟩ => ⟨S128x4096, .f32⟩
  | .hbm, ⟨1, _⟩ => ⟨S128x256x64, .f32⟩
  | .hbm, ⟨2, _⟩ => ⟨S128x256x64, .f32⟩
  | .hbm, ⟨3, _⟩ => ⟨S256x64, .f32⟩
  | .hbm, ⟨4, _⟩ => ⟨S256x64, .f32⟩
  | .hbm, ⟨5, _⟩ => ⟨S256, .f32⟩
  | .hbm, ⟨6, _⟩ => ⟨S256x64x16, .f32⟩
  | .hbm, ⟨7, _⟩ => ⟨S256x64x16, .f32⟩
  | .hbm, ⟨8, _⟩ => ⟨S256x16x64, .f32⟩
  | .hbm, ⟨9, _⟩ => ⟨S256x16x64, .f32⟩
  | .hbm, ⟨10, _⟩ => ⟨S4096, .f32⟩
  | .hbm, ⟨11, _⟩ => ⟨S128x256x16, .f32⟩
  | .hbm, ⟨12, _⟩ => ⟨S256, .f32⟩
  | .hbm, ⟨13, _⟩ => ⟨S256x1, .f32⟩
  | .hbm, ⟨14, _⟩ => ⟨S256x64, .f32⟩
  | .hbm, ⟨15, _⟩ => ⟨S256x64, .f32⟩
  | .hbm, ⟨16, _⟩ => ⟨S256x64, .f32⟩
  | .hbm, ⟨17, _⟩ => ⟨S256x64, .f32⟩
  | .hbm, ⟨18, _⟩ => ⟨S256x64, .f32⟩
  | .hbm, ⟨19, _⟩ => ⟨S256x64, .f32⟩
  | .hbm, ⟨20, _⟩ => ⟨S256x64, .f32⟩
  | .hbm, ⟨21, _⟩ => ⟨S256x64, .f32⟩
  | .hbm, ⟨22, _⟩ => ⟨S256x64, .f32⟩
  | .hbm, ⟨23, _⟩ => ⟨S256x64, .f32⟩
  | .hbm, ⟨24, _⟩ => ⟨S256x64, .f32⟩
  | .hbm, ⟨25, _⟩ => ⟨S256x64, .f32⟩
  | .hbm, ⟨26, _⟩ => ⟨S_, .f32⟩
  | .hbm, ⟨27, _⟩ => ⟨S256x64, .f32⟩
  | .hbm, ⟨28, _⟩ => ⟨S256x64, .f32⟩
  | .hbm, ⟨29, _⟩ => ⟨S256x64, .f32⟩
  | .hbm, ⟨30, _⟩ => ⟨S256x64, .f32⟩
  | .hbm, ⟨31, _⟩ => ⟨S256x64, .f32⟩
  | .hbm, ⟨32, _⟩ => ⟨S256x64, .f32⟩
  | .hbm, ⟨33, _⟩ => ⟨S256x64, .f32⟩
  | .hbm, ⟨34, _⟩ => ⟨S_, .f32⟩
  | .hbm, ⟨35, _⟩ => ⟨S256x64, .f32⟩
  | .hbm, ⟨36, _⟩ => ⟨S256x64, .f32⟩
  | .hbm, ⟨37, _⟩ => ⟨S256x64, .f32⟩
  | .hbm, ⟨38, _⟩ => ⟨S256x64, .f32⟩
  | .hbm, ⟨39, _⟩ => ⟨S256x64, .f32⟩
  | .hbm, ⟨40, _⟩ => ⟨S256x64x1, .f32⟩
  | .hbm, ⟨41, _⟩ => ⟨S256x64x16, .f32⟩
  | .hbm, ⟨42, _⟩ => ⟨S256x64x16, .f32⟩
  | .hbm, ⟨43, _⟩ => ⟨S256x64x1, .f32⟩
  | .hbm, ⟨44, _⟩ => ⟨S256x64x16, .f32⟩
  | .hbm, ⟨45, _⟩ => ⟨S256x64x16, .f32⟩
  | .hbm, ⟨46, _⟩ => ⟨S256x64x16, .f32⟩
  | .hbm, ⟨47, _⟩ => ⟨S256x64x1, .f32⟩
  | .hbm, ⟨48, _⟩ => ⟨S256x64x16, .f32⟩
  | .hbm, ⟨49, _⟩ => ⟨S256x64x16, .f32⟩
  | .hbm, ⟨50, _⟩ => ⟨S256x64x1, .f32⟩
  | .hbm, ⟨51, _⟩ => ⟨S256x64x16, .f32⟩
  | .hbm, ⟨52, _⟩ => ⟨S256x64x16, .f32⟩
  | .hbm, ⟨53, _⟩ => ⟨S256x64x16, .f32⟩
  | .hbm, ⟨54, _⟩ => ⟨S256x64x128, .f32⟩
  | .hbm, ⟨55, _⟩ => ⟨S128x256x64, .f32⟩
  | .hbm, ⟨56, _⟩ => ⟨S256x64x128, .f32⟩
  | .hbm, ⟨57, _⟩ => ⟨S128x256x64, .f32⟩
  | .hbm, ⟨58, _⟩ => ⟨S1x256x64, .f32⟩
  | .hbm, ⟨59, _⟩ => ⟨S128x256x64, .f32⟩
  | .hbm, ⟨60, _⟩ => ⟨S128x256x64, .f32⟩
  | .hbm, ⟨61, _⟩ => ⟨S1x256x64, .f32⟩
  | .hbm, ⟨62, _⟩ => ⟨S128x256x64, .f32⟩
  | .hbm, ⟨63, _⟩ => ⟨S128x256x64, .f32⟩
  | .hbm, ⟨64, _⟩ => ⟨S128x256x64, .f32⟩
  | .hbm, ⟨65, _⟩ => ⟨S128x256x64, .f32⟩
  | .hbm, ⟨66, _⟩ => ⟨S1x256x64, .f32⟩
  | .hbm, ⟨67, _⟩ => ⟨S128x256x64, .f32⟩
  | .hbm, ⟨68, _⟩ => ⟨S128x256x64, .f32⟩
  | .hbm, ⟨69, _⟩ => ⟨S1x256x64, .f32⟩
  | .hbm, ⟨70, _⟩ => ⟨S128x256x64, .f32⟩
  | .hbm, ⟨71, _⟩ => ⟨S128x256x64, .f32⟩
  | .hbm, ⟨72, _⟩ => ⟨S128x256x64, .f32⟩
  | .hbm, ⟨73, _⟩ => ⟨S128x256x64, .f32⟩
  | .hbm, ⟨74, _⟩ => ⟨S256x16x128, .f32⟩
  | .hbm, ⟨75, _⟩ => ⟨S128x256x16, .f32⟩
  | .hbm, ⟨76, _⟩ => ⟨S256x16x64, .f32⟩
  | .hbm, ⟨77, _⟩ => ⟨S256x16x128, .f32⟩
  | .hbm, ⟨78, _⟩ => ⟨S128x256x16, .f32⟩
  | .hbm, ⟨79, _⟩ => ⟨S128x256x16, .f32⟩
  | .hbm, ⟨80, _⟩ => ⟨S128x4096, .f32⟩
  | .hbm, ⟨81, _⟩ => ⟨S1x4096, .f32⟩
  | .hbm, ⟨82, _⟩ => ⟨S128x4096, .f32⟩
  | .hbm, ⟨83, _⟩ => ⟨S128x4096, .f32⟩
  | .hbm, ⟨84, _⟩ => ⟨S128x4096, .f32⟩
  | .hbm, ⟨85, _⟩ => ⟨S128x4096, .f32⟩
  | .hbm, ⟨86, _⟩ => ⟨S128x4096, .f32⟩
  | .hbm, ⟨87, _⟩ => ⟨S_, .f32⟩
  | .hbm, ⟨88, _⟩ => ⟨S128x4096, .f32⟩
  | .hbm, ⟨89, _⟩ => ⟨S128x4096, .f32⟩
  | .hbm, ⟨90, _⟩ => ⟨S128x4096, .f32⟩
  | .hbm, ⟨91, _⟩ => ⟨S_, .f32⟩
  | .hbm, ⟨92, _⟩ => ⟨S128x4096, .f32⟩
  | .hbm, ⟨93, _⟩ => ⟨S128x4096, .f32⟩
  | .hbm, ⟨94, _⟩ => ⟨S128x4096, .f32⟩
  | .hbm, ⟨95, _⟩ => ⟨S_, .f32⟩
  | .hbm, ⟨96, _⟩ => ⟨S128x4096, .f32⟩
  | .hbm, ⟨97, _⟩ => ⟨S128x4096, .f32⟩
  | .hbm, ⟨98, _⟩ => ⟨S_, .f32⟩
  | .hbm, ⟨99, _⟩ => ⟨S128x4096, .f32⟩
  | .hbm, ⟨100, _⟩ => ⟨S128x4096, .f32⟩
  | .hbm, ⟨101, _⟩ => ⟨S128x4096, .f32⟩
  | .hbm, ⟨102, _⟩ => ⟨S128x4096, .bf16⟩
  | .hbm, ⟨103, _⟩ => ⟨S128x16384, .f32⟩
  | .hbm, ⟨104, _⟩ => ⟨S128x16384, .f32⟩
  | _, _ => ⟨S128x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_0 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_cst_1 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_cst_2 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_cst_3 : Ref sig .tc := ⟨.hbm, 95, rfl⟩
abbrev main_v80 : Ref sig .tc := ⟨.hbm, 96, rfl⟩
abbrev main_v81 : Ref sig .tc := ⟨.hbm, 97, rfl⟩
abbrev main_cst_4 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩

abbrev nD : Nat := 1
abbrev τ : Topo := Topo.v7x

variable {F : FTy → Type} [FloatOps F]
-- ==== Kernel2.lean ====
abbrev S4x2048x4096 : Shape := ⟨3, ![4, 2048, 4096]⟩
abbrev S4x32x2048x64 : Shape := ⟨4, ![4, 32, 2048, 64]⟩
abbrev S4x2048x8192 : Shape := ⟨3, ![4, 2048, 8192]⟩
abbrev S4x2048x64 : Shape := ⟨3, ![4, 2048, 64]⟩
abbrev S1x512x128 : Shape := ⟨3, ![1, 512, 128]⟩
abbrev S1x1x512x64 : Shape := ⟨4, ![1, 1, 512, 64]⟩
abbrev S1x2048x128 : Shape := ⟨3, ![1, 2048, 128]⟩
abbrev S1x2048x64 : Shape := ⟨3, ![1, 2048, 64]⟩
abbrev S512x128 : Shape := ⟨2, ![512, 128]⟩
abbrev S512x64 : Shape := ⟨2, ![512, 64]⟩
abbrev S512x1 : Shape := ⟨2, ![512, 1]⟩
abbrev S512x512 : Shape := ⟨2, ![512, 512]⟩
abbrev S1x512x64 : Shape := ⟨3, ![1, 512, 64]⟩
abbrev S1x512 : Shape := ⟨2, ![1, 512]⟩
abbrev S512 : Shape := ⟨1, ![512]⟩

abbrev nBuf : Space → Nat
  | .hbm => 5
  | .vmem => 12
  | .smem => 0
  | _ => 0

abbrev bufTy : (tb : Table) → Fin (tcTables nBuf tb) → BufTy
  | .hbm, ⟨0, _⟩ => ⟨S4x2048x4096, .bf16⟩
  | .hbm, ⟨1, _⟩ => ⟨S4x32x2048x64, .bf16⟩
  | .hbm, ⟨2, _⟩ => ⟨S4x2048x8192, .bf16⟩
  | .hbm, ⟨3, _⟩ => ⟨S4x2048x64, .bf16⟩
  | .hbm, ⟨4, _⟩ => ⟨S4x2048x4096, .bf16⟩
  | .local _ .vmem, ⟨0, _⟩ => ⟨S1x512x128, .bf16⟩
  | .local _ .vmem, ⟨1, _⟩ => ⟨S1x512x128, .bf16⟩
  | .local _ .vmem, ⟨2, _⟩ => ⟨S1x1x512x64, .bf16⟩
  | .local _ .vmem, ⟨3, _⟩ => ⟨S1x1x512x64, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x2048x64, .bf16⟩
  | .local _ .vmem, ⟨7, _⟩ => ⟨S1x2048x64, .bf16⟩
  | .local _ .vmem, ⟨8, _⟩ => ⟨S1x2048x128, .bf16⟩
  | .local _ .vmem, ⟨9, _⟩ => ⟨S1x2048x128, .bf16⟩
  | .local _ .vmem, ⟨10, _⟩ => ⟨S1x512x128, .bf16⟩
  | .local _ .vmem, ⟨11, _⟩ => ⟨S1x512x128, .bf16⟩
  | _, _ => ⟨S4x2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 32, 4], ![false, false, false]⟩

@[reducible] def k0_t1_loop (i : grid0.Coords) : Scf.Loop 32 :=
  let c0_i32 : BitVec 32 := 0#32
  let arg2 : BitVec 32 := BitVec.ofNat 32 (i 2).val
  let c1_i32 : BitVec 32 := 1#32
  let v11 : BitVec 32 := Scalar.addi arg2 c1_i32
  let v12 : BitVec 32 := Scalar.subi v11 c0_i32
  let c1_i32_8 : BitVec 32 := 1#32
  let v14 : BitVec 32 := Scalar.divsi v12 c1_i32_8
  let v15 : BitVec 32 := Scalar.muli v14 c1_i32_8
  let v16 : BitVec 32 := Scalar.addi c0_i32 v15
  let c1_i32_9 : BitVec 32 := 1#32
  ⟨c0_i32, v16, c1_i32_9⟩
def k0_mult1 (i : grid0.Coords) (k0_t1 : Fin (k0_t1_loop i).trips) : BitVec 32 :=
  let c0_i32 : BitVec 32 := 0#32
  let c1_i32_9 : BitVec 32 := 1#32
  let arg9 : BitVec 32 := Scf.iv c0_i32 c1_i32_9 k0_t1
  let c512_i32_14 : BitVec 32 := 512#32
  let v25 : BitVec 32 := Scalar.muli arg9 c512_i32_14
  v25
def k0_off1 (i : grid0.Coords) (k0_t1 : Fin (k0_t1_loop i).trips) : Fin 3 → Nat :=
  let c0_15 : Index := 0#32
  let c0_i32 : BitVec 32 := 0#32
  let c1_i32_9 : BitVec 32 := 1#32
  let arg9 : BitVec 32 := Scf.iv c0_i32 c1_i32_9 k0_t1
  let c512_i32_14 : BitVec 32 := 512#32
  let v25 : BitVec 32 := Scalar.muli arg9 c512_i32_14
  let v26 : BitVec 32 := v25
  let v27 : Index := Scalar.indexCast v26
  let c0_16 : Index := 0#32
  ![0, v27.toNat, 0]
def k0_off2 (i : grid0.Coords) (k0_t1 : Fin (k0_t1_loop i).trips) : Fin 3 → Nat :=
  let c0_18 : Index := 0#32
  let c0_i32 : BitVec 32 := 0#32
  let c1_i32_9 : BitVec 32 := 1#32
  let arg9 : BitVec 32 := Scf.iv c0_i32 c1_i32_9 k0_t1
  let c512_i32_14 : BitVec 32 := 512#32
  let v25 : BitVec 32 := Scalar.muli arg9 c512_i32_14
  let v26 : BitVec 32 := v25
  let v31 : Index := Scalar.indexCast v26
  let c0_19 : Index := 0#32
  ![0, v31.toNat, 0]
@[reducible] def k0_t2_loop (i : grid0.Coords) : Scf.Loop 32 :=
  let c0_i32 : BitVec 32 := 0#32
  let arg2 : BitVec 32 := BitVec.ofNat 32 (i 2).val
  let c1_i32 : BitVec 32 := 1#32
  let v11 : BitVec 32 := Scalar.addi arg2 c1_i32
  let v12 : BitVec 32 := Scalar.subi v11 c0_i32
  let c1_i32_8 : BitVec 32 := 1#32
  let v14 : BitVec 32 := Scalar.divsi v12 c1_i32_8
  let v15 : BitVec 32 := Scalar.muli v14 c1_i32_8
  let v16 : BitVec 32 := Scalar.addi c0_i32 v15
  let v13 : BitVec 32 := Scalar.addi c0_i32 v12
  let c1_i32_10 : BitVec 32 := 1#32
  ⟨v16, v13, c1_i32_10⟩
def k0_mult2 (i : grid0.Coords) (k0_t2 : Fin (k0_t2_loop i).trips) : BitVec 32 :=
  let c0_i32 : BitVec 32 := 0#32
  let arg2 : BitVec 32 := BitVec.ofNat 32 (i 2).val
  let c1_i32 : BitVec 32 := 1#32
  let v11 : BitVec 32 := Scalar.addi arg2 c1_i32
  let v12 : BitVec 32 := Scalar.subi v11 c0_i32
  let c1_i32_8 : BitVec 32 := 1#32
  let v14 : BitVec 32 := Scalar.divsi v12 c1_i32_8
  let v15 : BitVec 32 := Scalar.muli v14 c1_i32_8
  let v16 : BitVec 32 := Scalar.addi c0_i32 v15
  let c1_i32_10 : BitVec 32 := 1#32
  let arg9 : BitVec 32 := Scf.iv v16 c1_i32_10 k0_t2
  let c512_i32_14 : BitVec 32 := 512#32
  let v25 : BitVec 32 := Scalar.muli arg9 c512_i32_14
  v25
def k0_off3 (i : grid0.Coords) (k0_t2 : Fin (k0_t2_loop i).trips) : Fin 3 → Nat :=
  let c0_15 : Index := 0#32
  let c0_i32 : BitVec 32 := 0#32
  let arg2 : BitVec 32 := BitVec.ofNat 32 (i 2).val
  let c1_i32 : BitVec 32 := 1#32
  let v11 : BitVec 32 := Scalar.addi arg2 c1_i32
  let v12 : BitVec 32 := Scalar.subi v11 c0_i32
  let c1_i32_8 : BitVec 32 := 1#32
  let v14 : BitVec 32 := Scalar.divsi v12 c1_i32_8
  let v15 : BitVec 32 := Scalar.muli v14 c1_i32_8
  let v16 : BitVec 32 := Scalar.addi c0_i32 v15
  let c1_i32_10 : BitVec 32 := 1#32
  let arg9 : BitVec 32 := Scf.iv v16 c1_i32_10 k0_t2
  let c512_i32_14 : BitVec 32 := 512#32
  let v25 : BitVec 32 := Scalar.muli arg9 c512_i32_14
  let v26 : BitVec 32 := v25
  let v27 : Index := Scalar.indexCast v26
  let c0_16 : Index := 0#32
  ![0, v27.toNat, 0]
def k0_off4 (i : grid0.Coords) (k0_t2 : Fin (k0_t2_loop i).trips) : Fin 3 → Nat :=
  let c0_18 : Index := 0#32
  let c0_i32 : BitVec 32 := 0#32
  let arg2 : BitVec 32 := BitVec.ofNat 32 (i 2).val
  let c1_i32 : BitVec 32 := 1#32
  let v11 : BitVec 32 := Scalar.addi arg2 c1_i32
  let v12 : BitVec 32 := Scalar.subi v11 c0_i32
  let c1_i32_8 : BitVec 32 := 1#32
  let v14 : BitVec 32 := Scalar.divsi v12 c1_i32_8
  let v15 : BitVec 32 := Scalar.muli v14 c1_i32_8
  let v16 : BitVec 32 := Scalar.addi c0_i32 v15
  let c1_i32_10 : BitVec 32 := 1#32
  let arg9 : BitVec 32 := Scf.iv v16 c1_i32_10 k0_t2
  let c512_i32_14 : BitVec 32 := 512#32
  let v25 : BitVec 32 := Scalar.muli arg9 c512_i32_14
  let v26 : BitVec 32 := v25
  let v31 : Index := Scalar.indexCast v26
  let c0_19 : Index := 0#32
  ![0, v31.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg1
  let c1_i32 : BitVec 32 := 1#32
  let v1 : BitVec 32 := Scalar.addi v0 c1_i32
  let c0_i32 : BitVec 32 := 0#32
  let c0_i32_0 : BitVec 32 := 0#32
  ![arg0.toNat, c0_i32.toNat, v1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x512x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2048x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Reference2Ideal.lean ====
abbrev S4x2048x4096 : Shape := ⟨3, ![4, 2048, 4096]⟩
abbrev S4x32x2048x64 : Shape := ⟨4, ![4, 32, 2048, 64]⟩
abbrev S4x2048x8192 : Shape := ⟨3, ![4, 2048, 8192]⟩
abbrev S4x2048x64 : Shape := ⟨3, ![4, 2048, 64]⟩
abbrev S4x2048x32x128 : Shape := ⟨4, ![4, 2048, 32, 128]⟩
abbrev S4x2048x32x256 : Shape := ⟨4, ![4, 2048, 32, 256]⟩
abbrev S4x32x2048x2048 : Shape := ⟨4, ![4, 32, 2048, 2048]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S4x32x2048 : Shape := ⟨3, ![4, 32, 2048]⟩
abbrev S4x32x2048x1 : Shape := ⟨4, ![4, 32, 2048, 1]⟩
abbrev S4x32x128x2048 : Shape := ⟨4, ![4, 32, 128, 2048]⟩

abbrev nBuf : Space → Nat
  | .hbm => 47
  | .vmem => 0
  | .smem => 0
  | _ => 0

abbrev bufTy : (tb : Table) → Fin (tcTables nBuf tb) → BufTy
  | .hbm, ⟨0, _⟩ => ⟨S4x2048x4096, .bf16⟩
  | .hbm, ⟨1, _⟩ => ⟨S4x32x2048x64, .bf16⟩
  | .hbm, ⟨2, _⟩ => ⟨S4x2048x8192, .bf16⟩
  | .hbm, ⟨3, _⟩ => ⟨S4x2048x64, .bf16⟩
  | .hbm, ⟨4, _⟩ => ⟨S4x2048x4096, .f32⟩
  | .hbm, ⟨5, _⟩ => ⟨S4x2048x32x128, .f32⟩
  | .hbm, ⟨6, _⟩ => ⟨S4x2048x8192, .f32⟩
  | .hbm, ⟨7, _⟩ => ⟨S4x2048x32x256, .f32⟩
  | .hbm, ⟨8, _⟩ => ⟨S4x2048x32x128, .f32⟩
  | .hbm, ⟨9, _⟩ => ⟨S4x2048x32x128, .f32⟩
  | .hbm, ⟨10, _⟩ => ⟨S4x32x2048x2048, .f32⟩
  | .hbm, ⟨11, _⟩ => ⟨S4x32x2048x64, .f32⟩
  | .hbm, ⟨12, _⟩ => ⟨S4x2048x64, .f32⟩
  | .hbm, ⟨13, _⟩ => ⟨S4x32x2048x2048, .f32⟩
  | .hbm, ⟨14, _⟩ => ⟨S4x32x2048x2048, .f32⟩
  | .hbm, ⟨15, _⟩ => ⟨S_, .f32⟩
  | .hbm, ⟨16, _⟩ => ⟨S4x32x2048x2048, .f32⟩
  | .hbm, ⟨17, _⟩ => ⟨S4x32x2048x2048, .f32⟩
  | .hbm, ⟨18, _⟩ => ⟨S2048, .i32⟩
  | .hbm, ⟨19, _⟩ => ⟨S2048x1, .i32⟩
  | .hbm, ⟨20, _⟩ => ⟨S1x2048, .i32⟩
  | .hbm, ⟨21, _⟩ => ⟨S2048x2048, .i32⟩
  | .hbm, ⟨22, _⟩ => ⟨S2048x2048, .i32⟩
  | .hbm, ⟨23, _⟩ => ⟨S2048x2048, .i1⟩
  | .hbm, ⟨24, _⟩ => ⟨S_, .f32⟩
  | .hbm, ⟨25, _⟩ => ⟨S_, .f32⟩
  | .hbm, ⟨26, _⟩ => ⟨S4x32x2048x2048, .i1⟩
  | .hbm, ⟨27, _⟩ => ⟨S4x32x2048x2048, .f32⟩
  | .hbm, ⟨28, _⟩ => ⟨S4x32x2048x2048, .f32⟩
  | .hbm, ⟨29, _⟩ => ⟨S_, .f32⟩
  | .hbm, ⟨30, _⟩ => ⟨S4x32x2048, .f32⟩
  | .hbm, ⟨31, _⟩ => ⟨S_, .f32⟩
  | .hbm, ⟨32, _⟩ => ⟨S4x32x2048, .f32⟩
  | .hbm, ⟨33, _⟩ => ⟨S4x32x2048, .f32⟩
  | .hbm, ⟨34, _⟩ => ⟨S4x32x2048x1, .f32⟩
  | .hbm, ⟨35, _⟩ => ⟨S4x32x2048x2048, .f32⟩
  | .hbm, ⟨36, _⟩ => ⟨S4x32x2048x2048, .f32⟩
  | .hbm, ⟨37, _⟩ => ⟨S4x32x2048x2048, .f32⟩
  | .hbm, ⟨38, _⟩ => ⟨S_, .f32⟩
  | .hbm, ⟨39, _⟩ => ⟨S4x32x2048, .f32⟩
  | .hbm, ⟨40, _⟩ => ⟨S4x32x2048x1, .f32⟩
  | .hbm, ⟨41, _⟩ => ⟨S4x32x2048x2048, .f32⟩
  | .hbm, ⟨42, _⟩ => ⟨S4x32x2048x2048, .f32⟩
  | .hbm, ⟨43, _⟩ => ⟨S4x32x128x2048, .f32⟩
  | .hbm, ⟨44, _⟩ => ⟨S4x2048x32x128, .f32⟩
  | .hbm, ⟨45, _⟩ => ⟨S4x2048x4096, .f32⟩
  | .hbm, ⟨46, _⟩ => ⟨S4x2048x4096, .bf16⟩
  | _, _ => ⟨S4x2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_0 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Kernel3.lean ====
abbrev S8192x4096 : Shape := ⟨2, ![8192, 4096]⟩
abbrev S2x4096x8192 : Shape := ⟨3, ![2, 4096, 8192]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 3
  | .vmem => 8
  | .smem => 0
  | _ => 0

abbrev bufTy : (tb : Table) → Fin (tcTables nBuf tb) → BufTy
  | .hbm, ⟨0, _⟩ => ⟨S8192x4096, .bf16⟩
  | .hbm, ⟨1, _⟩ => ⟨S2x4096x8192, .bf16⟩
  | .hbm, ⟨2, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1x4096x512, .bf16⟩
  | .local _ .vmem, ⟨5, _⟩ => ⟨S1x4096x512, .bf16⟩
  | .local _ .vmem, ⟨6, _⟩ => ⟨S1024x512, .f32⟩
  | .local _ .vmem, ⟨7, _⟩ => ⟨S1024x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S8192x4096 : Shape := ⟨2, ![8192, 4096]⟩
abbrev S2x4096x8192 : Shape := ⟨3, ![2, 4096, 8192]⟩
abbrev S1x4096x8192 : Shape := ⟨3, ![1, 4096, 8192]⟩
abbrev S4096x8192 : Shape := ⟨2, ![4096, 8192]⟩
abbrev S8192x8192 : Shape := ⟨2, ![8192, 8192]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096x8192, .bf16⟩
  | .hbm, ⟨2, _⟩ => ⟨S8192x4096, .f32⟩
  | .hbm, ⟨3, _⟩ => ⟨S1x4096x8192, .bf16⟩
  | .hbm, ⟨4, _⟩ => ⟨S4096x8192, .bf16⟩
  | .hbm, ⟨5, _⟩ => ⟨S4096x8192, .f32⟩
  | .hbm, ⟨6, _⟩ => ⟨S8192x8192, .f32⟩
  | .hbm, ⟨7, _⟩ => ⟨S8192x4096, .f32⟩
  | .hbm, ⟨8, _⟩ => ⟨S8192x4096, .f32⟩
  | .hbm, ⟨9, _⟩ => ⟨S8192x4096, .f32⟩
  | .hbm, ⟨10, _⟩ => ⟨S8192x4096, .f32⟩
  | .hbm, ⟨11, _⟩ => ⟨S_, .f32⟩
  | .hbm, ⟨12, _⟩ => ⟨S8192x4096, .f32⟩
  | .hbm, ⟨13, _⟩ => ⟨S8192x4096, .f32⟩
  | .hbm, ⟨14, _⟩ => ⟨S_, .f32⟩
  | .hbm, ⟨15, _⟩ => ⟨S8192x4096, .f32⟩
  | .hbm, ⟨16, _⟩ => ⟨S8192x4096, .f32⟩
  | .hbm, ⟨17, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== Kernel4.lean ====
abbrev S8192x4096 : Shape := ⟨2, ![8192, 4096]⟩
abbrev S2x4096x8192 : Shape := ⟨3, ![2, 4096, 8192]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 3
  | .vmem => 8
  | .smem => 0
  | _ => 0

abbrev bufTy : (tb : Table) → Fin (tcTables nBuf tb) → BufTy
  | .hbm, ⟨0, _⟩ => ⟨S8192x4096, .bf16⟩
  | .hbm, ⟨1, _⟩ => ⟨S2x4096x8192, .bf16⟩
  | .hbm, ⟨2, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1x4096x512, .bf16⟩
  | .local _ .vmem, ⟨5, _⟩ => ⟨S1x4096x512, .bf16⟩
  | .local _ .vmem, ⟨6, _⟩ => ⟨S1024x512, .f32⟩
  | .local _ .vmem, ⟨7, _⟩ => ⟨S1024x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c1_i32 : BitVec 32 := 1#32
  let c0_i32_0 : BitVec 32 := 0#32
  let c0_i32_1 : BitVec 32 := 0#32
  ![c1_i32.toNat, c0_i32_0.toNat, v0.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c1_i32 : BitVec 32 := 1#32
  let c0_i32 : BitVec 32 := 0#32
  let c0_i32_0 : BitVec 32 := 0#32
  ![c1_i32.toNat, c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S8192x4096 : Shape := ⟨2, ![8192, 4096]⟩
abbrev S2x4096x8192 : Shape := ⟨3, ![2, 4096, 8192]⟩
abbrev S1x4096x8192 : Shape := ⟨3, ![1, 4096, 8192]⟩
abbrev S4096x8192 : Shape := ⟨2, ![4096, 8192]⟩
abbrev S8192x8192 : Shape := ⟨2, ![8192, 8192]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096x8192, .bf16⟩
  | .hbm, ⟨2, _⟩ => ⟨S8192x4096, .f32⟩
  | .hbm, ⟨3, _⟩ => ⟨S1x4096x8192, .bf16⟩
  | .hbm, ⟨4, _⟩ => ⟨S4096x8192, .bf16⟩
  | .hbm, ⟨5, _⟩ => ⟨S4096x8192, .f32⟩
  | .hbm, ⟨6, _⟩ => ⟨S8192x8192, .f32⟩
  | .hbm, ⟨7, _⟩ => ⟨S8192x4096, .f32⟩
  | .hbm, ⟨8, _⟩ => ⟨S8192x4096, .f32⟩
  | .hbm, ⟨9, _⟩ => ⟨S8192x4096, .f32⟩
  | .hbm, ⟨10, _⟩ => ⟨S8192x4096, .f32⟩
  | .hbm, ⟨11, _⟩ => ⟨S_, .f32⟩
  | .hbm, ⟨12, _⟩ => ⟨S8192x4096, .f32⟩
  | .hbm, ⟨13, _⟩ => ⟨S8192x4096, .f32⟩
  | .hbm, ⟨14, _⟩ => ⟨S_, .f32⟩
  | .hbm, ⟨15, _⟩ => ⟨S8192x4096, .f32⟩
  | .hbm, ⟨16, _⟩ => ⟨S8192x4096, .f32⟩
  | .hbm, ⟨17, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== Kernel5.lean ====
abbrev S8192x4096 : Shape := ⟨2, ![8192, 4096]⟩
abbrev S2x4096x4096 : Shape := ⟨3, ![2, 4096, 4096]⟩
abbrev S1024x4096 : Shape := ⟨2, ![1024, 4096]⟩
abbrev S1x4096x1024 : Shape := ⟨3, ![1, 4096, 1024]⟩
abbrev S1024x1024 : Shape := ⟨2, ![1024, 1024]⟩
abbrev S4096x1024 : Shape := ⟨2, ![4096, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S2x4096x4096, .bf16⟩
  | .hbm, ⟨2, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1024x1024, .f32⟩
  | .local _ .vmem, ⟨5, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S8192x4096 : Shape := ⟨2, ![8192, 4096]⟩
abbrev S2x4096x4096 : Shape := ⟨3, ![2, 4096, 4096]⟩
abbrev S1x4096x4096 : Shape := ⟨3, ![1, 4096, 4096]⟩
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096x4096, .bf16⟩
  | .hbm, ⟨2, _⟩ => ⟨S8192x4096, .f32⟩
  | .hbm, ⟨3, _⟩ => ⟨S1x4096x4096, .bf16⟩
  | .hbm, ⟨4, _⟩ => ⟨S4096x4096, .bf16⟩
  | .hbm, ⟨5, _⟩ => ⟨S4096x4096, .f32⟩
  | .hbm, ⟨6, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel6.lean ====
abbrev S8192x4096 : Shape := ⟨2, ![8192, 4096]⟩
abbrev S2x4096x4096 : Shape := ⟨3, ![2, 4096, 4096]⟩
abbrev S1024x4096 : Shape := ⟨2, ![1024, 4096]⟩
abbrev S1x4096x1024 : Shape := ⟨3, ![1, 4096, 1024]⟩
abbrev S1024x1024 : Shape := ⟨2, ![1024, 1024]⟩
abbrev S4096x1024 : Shape := ⟨2, ![4096, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S2x4096x4096, .bf16⟩
  | .hbm, ⟨2, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1024x1024, .f32⟩
  | .local _ .vmem, ⟨5, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c1_i32 : BitVec 32 := 1#32
  let c0_i32_0 : BitVec 32 := 0#32
  let c0_i32_1 : BitVec 32 := 0#32
  ![c1_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S8192x4096 : Shape := ⟨2, ![8192, 4096]⟩
abbrev S2x4096x4096 : Shape := ⟨3, ![2, 4096, 4096]⟩
abbrev S1x4096x4096 : Shape := ⟨3, ![1, 4096, 4096]⟩
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096x4096, .bf16⟩
  | .hbm, ⟨2, _⟩ => ⟨S8192x4096, .f32⟩
  | .hbm, ⟨3, _⟩ => ⟨S1x4096x4096, .bf16⟩
  | .hbm, ⟨4, _⟩ => ⟨S4096x4096, .bf16⟩
  | .hbm, ⟨5, _⟩ => ⟨S4096x4096, .f32⟩
  | .hbm, ⟨6, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel7.lean ====
abbrev S8192x4096 : Shape := ⟨2, ![8192, 4096]⟩
abbrev S1x4096x4096 : Shape := ⟨3, ![1, 4096, 4096]⟩
abbrev S1024x4096 : Shape := ⟨2, ![1024, 4096]⟩
abbrev S1x4096x1024 : Shape := ⟨3, ![1, 4096, 1024]⟩
abbrev S1024x1024 : Shape := ⟨2, ![1024, 1024]⟩
abbrev S4096x1024 : Shape := ⟨2, ![4096, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S1x4096x4096, .bf16⟩
  | .hbm, ⟨2, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1024x1024, .f32⟩
  | .local _ .vmem, ⟨5, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S8192x4096 : Shape := ⟨2, ![8192, 4096]⟩
abbrev S1x4096x4096 : Shape := ⟨3, ![1, 4096, 4096]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x4096x4096, .bf16⟩
  | .hbm, ⟨2, _⟩ => ⟨S8192x4096, .f32⟩
  | .hbm, ⟨3, _⟩ => ⟨S4096x4096, .bf16⟩
  | .hbm, ⟨4, _⟩ => ⟨S4096x4096, .f32⟩
  | .hbm, ⟨5, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel8.lean ====
abbrev S8192x4096 : Shape := ⟨2, ![8192, 4096]⟩
abbrev S1x4096x5152 : Shape := ⟨3, ![1, 4096, 5152]⟩
abbrev S1024x4096 : Shape := ⟨2, ![1024, 4096]⟩
abbrev S1x4096x1024 : Shape := ⟨3, ![1, 4096, 1024]⟩
abbrev S1024x1024 : Shape := ⟨2, ![1024, 1024]⟩
abbrev S4096x1024 : Shape := ⟨2, ![4096, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S1x4096x5152, .bf16⟩
  | .hbm, ⟨2, _⟩ => ⟨S8192x4096, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1024x1024, .bf16⟩
  | .local _ .vmem, ⟨5, _⟩ => ⟨S1024x1024, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S8192x4096 : Shape := ⟨2, ![8192, 4096]⟩
abbrev S1x4096x5152 : Shape := ⟨3, ![1, 4096, 5152]⟩
abbrev S4096x5152 : Shape := ⟨2, ![4096, 5152]⟩
abbrev S8192x5152 : Shape := ⟨2, ![8192, 5152]⟩

abbrev nBuf : Space → Nat
  | .hbm => 8
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x4096x5152, .bf16⟩
  | .hbm, ⟨2, _⟩ => ⟨S8192x4096, .f32⟩
  | .hbm, ⟨3, _⟩ => ⟨S4096x5152, .bf16⟩
  | .hbm, ⟨4, _⟩ => ⟨S4096x5152, .f32⟩
  | .hbm, ⟨5, _⟩ => ⟨S8192x5152, .f32⟩
  | .hbm, ⟨6, _⟩ => ⟨S8192x4096, .f32⟩
  | .hbm, ⟨7, _⟩ => ⟨S8192x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel9.lean ====
abbrev S8192x4096 : Shape := ⟨2, ![8192, 4096]⟩
abbrev S1x4096x5152 : Shape := ⟨3, ![1, 4096, 5152]⟩
abbrev S8192x1024 : Shape := ⟨2, ![8192, 1024]⟩
abbrev S1024x4096 : Shape := ⟨2, ![1024, 4096]⟩
abbrev S1x4096x1024 : Shape := ⟨3, ![1, 4096, 1024]⟩
abbrev S1024x1024 : Shape := ⟨2, ![1024, 1024]⟩
abbrev S4096x1024 : Shape := ⟨2, ![4096, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S1x4096x5152, .bf16⟩
  | .hbm, ⟨2, _⟩ => ⟨S8192x1024, .f32⟩
  | .hbm, ⟨3, _⟩ => ⟨S8192x1024, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .bf16⟩
  | .local _ .vmem, ⟨6, _⟩ => ⟨S1024x1024, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference9Ideal.lean ====
abbrev S8192x4096 : Shape := ⟨2, ![8192, 4096]⟩
abbrev S1x4096x5152 : Shape := ⟨3, ![1, 4096, 5152]⟩
abbrev S4096x5152 : Shape := ⟨2, ![4096, 5152]⟩
abbrev S8192x5152 : Shape := ⟨2, ![8192, 5152]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x4096x5152, .bf16⟩
  | .hbm, ⟨2, _⟩ => ⟨S8192x4096, .f32⟩
  | .hbm, ⟨3, _⟩ => ⟨S4096x5152, .bf16⟩
  | .hbm, ⟨4, _⟩ => ⟨S4096x5152, .f32⟩
  | .hbm, ⟨5, _⟩ => ⟨S8192x5152, .f32⟩
  | .hbm, ⟨6, _⟩ => ⟨S8192x1024, .f32⟩
  | .hbm, ⟨7, _⟩ => ⟨S8192x1024, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel10.lean ====
abbrev S8192x4096 : Shape := ⟨2, ![8192, 4096]⟩
abbrev S4096x32 : Shape := ⟨2, ![4096, 32]⟩
abbrev S32 : Shape := ⟨1, ![32]⟩
abbrev S1x32 : Shape := ⟨2, ![1, 32]⟩
abbrev S8192x32 : Shape := ⟨2, ![8192, 32]⟩
abbrev S1024x4096 : Shape := ⟨2, ![1024, 4096]⟩
abbrev S1024x32 : Shape := ⟨2, ![1024, 32]⟩

abbrev nBuf : Space → Nat
  | .hbm => 5
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S4096x32, .bf16⟩
  | .hbm, ⟨2, _⟩ => ⟨S32, .f32⟩
  | .hbm, ⟨3, _⟩ => ⟨S1x32, .f32⟩
  | .hbm, ⟨4, _⟩ => ⟨S8192x32, .f32⟩
  | .local _ .vmem, ⟨0, _⟩ => ⟨S1024x4096, .bf16⟩
  | .local _ .vmem, ⟨1, _⟩ => ⟨S1024x4096, .bf16⟩
  | .local _ .vmem, ⟨2, _⟩ => ⟨S4096x32, .bf16⟩
  | .local _ .vmem, ⟨3, _⟩ => ⟨S1x32, .f32⟩
  | .local _ .vmem, ⟨4, _⟩ => ⟨S1024x32, .f32⟩
  | .local _ .vmem, ⟨5, _⟩ => ⟨S1024x32, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x32 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference10Ideal.lean ====
abbrev S8192x4096 : Shape := ⟨2, ![8192, 4096]⟩
abbrev S4096x32 : Shape := ⟨2, ![4096, 32]⟩
abbrev S32 : Shape := ⟨1, ![32]⟩
abbrev S8192x32 : Shape := ⟨2, ![8192, 32]⟩
abbrev S1x32 : Shape := ⟨2, ![1, 32]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x32, .bf16⟩
  | .hbm, ⟨2, _⟩ => ⟨S32, .f32⟩
  | .hbm, ⟨3, _⟩ => ⟨S8192x4096, .f32⟩
  | .hbm, ⟨4, _⟩ => ⟨S4096x32, .f32⟩
  | .hbm, ⟨5, _⟩ => ⟨S8192x32, .f32⟩
  | .hbm, ⟨6, _⟩ => ⟨S1x32, .f32⟩
  | .hbm, ⟨7, _⟩ => ⟨S8192x32, .f32⟩
  | .hbm, ⟨8, _⟩ => ⟨S8192x32, .f32⟩
  | .hbm, ⟨9, _⟩ => ⟨S8192x32, .f32⟩
  | .hbm, ⟨10, _⟩ => ⟨S_, .f32⟩
  | .hbm, ⟨11, _⟩ => ⟨S8192x32, .f32⟩
  | .hbm, ⟨12, _⟩ => ⟨S8192x32, .f32⟩
  | .hbm, ⟨13, _⟩ => ⟨S8192x32, .f32⟩
  | .hbm, ⟨14, _⟩ => ⟨S8192x32, .f32⟩
  | .hbm, ⟨15, _⟩ => ⟨S8192x32, .i1⟩
  | .hbm, ⟨16, _⟩ => ⟨S8192x32, .f32⟩
  | .hbm, ⟨17, _⟩ => ⟨S8192x32, .f32⟩
  | .hbm, ⟨18, _⟩ => ⟨S8192x32, .f32⟩
  | .hbm, ⟨19, _⟩ => ⟨S8192x32, .f32⟩
  | .hbm, ⟨20, _⟩ => ⟨S8192x32, .f32⟩
  | .hbm, ⟨21, _⟩ => ⟨S8192x32, .f32⟩
  | .hbm, ⟨22, _⟩ => ⟨S8192x32, .f32⟩
  | .hbm, ⟨23, _⟩ => ⟨S8192x32, .f32⟩
  | .hbm, ⟨24, _⟩ => ⟨S8192x32, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_v0 : Ref sig .tc := ⟨.hbm, 9, rfl⟩
abbrev main_call0_call0_cst : Ref sig .tc := ⟨.hbm, 10, rfl⟩
abbrev main_call0_call0_v0 : Ref sig .tc := ⟨.hbm, 11, rfl⟩
abbrev main_call0_call0_v1 : Ref sig .tc := ⟨.hbm, 12, rfl⟩
abbrev main_call0_call0_v2 : Ref sig .tc := ⟨.hbm, 13, rfl⟩
abbrev main_call0_call0_v3 : Ref sig .tc := ⟨.hbm, 14, rfl⟩
abbrev main_call0_call0_v4 : Ref sig .tc := ⟨.hbm, 15, rfl⟩
abbrev main_call0_call0_v5 : Ref sig .tc := ⟨.hbm, 16, rfl⟩
abbrev main_call0_call0_v6 : Ref sig .tc := ⟨.hbm, 17, rfl⟩
abbrev main_call0_call0_v7 : Ref sig .tc := ⟨.hbm, 18, rfl⟩
abbrev main_call0_call0_v8 : Ref sig .tc := ⟨.hbm, 19, rfl⟩
abbrev main_call0_call0_v9 : Ref sig .tc := ⟨.hbm, 20, rfl⟩
abbrev main_call0_call0_v10 : Ref sig .tc := ⟨.hbm, 21, rfl⟩
abbrev main_call0_call0_v11 : Ref sig .tc := ⟨.hbm, 22, rfl⟩
abbrev main_call0_v1 : Ref sig .tc := ⟨.hbm, 23, rfl⟩
abbrev main_v6 : Ref sig .tc := ⟨.hbm, 24, rfl⟩

abbrev nD : Nat := 1
abbrev τ : Topo := Topo.v7x

variable {F : FTy → Type} [FloatOps F]
-- ==== Kernel11.lean ====
abbrev S4x2048x4096 : Shape := ⟨3, ![4, 2048, 4096]⟩
abbrev S4x2048x1024 : Shape := ⟨3, ![4, 2048, 1024]⟩
abbrev S4x2048x32 : Shape := ⟨3, ![4, 2048, 32]⟩
abbrev S4x2048x4x8 : Shape := ⟨4, ![4, 2048, 4, 8]⟩
abbrev S4x4x2048x8 : Shape := ⟨4, ![4, 4, 2048, 8]⟩
abbrev S4x4x512x4x8 : Shape := ⟨5, ![4, 4, 512, 4, 8]⟩
abbrev S4x4x4x8x512 : Shape := ⟨5, ![4, 4, 4, 8, 512]⟩
abbrev S1x512x128 : Shape := ⟨3, ![1, 512, 128]⟩
abbrev S1x2048x128 : Shape := ⟨3, ![1, 2048, 128]⟩
abbrev S1x1x512x8 : Shape := ⟨4, ![1, 1, 512, 8]⟩
abbrev S1x1x4x8x512 : Shape := ⟨5, ![1, 1, 4, 8, 512]⟩
abbrev S512x128 : Shape := ⟨2, ![512, 128]⟩
abbrev S512x8 : Shape := ⟨2, ![512, 8]⟩
abbrev S512 : Shape := ⟨1, ![512]⟩
abbrev S512x1 : Shape := ⟨2, ![512, 1]⟩
abbrev S512x512 : Shape := ⟨2, ![512, 512]⟩
abbrev S1x1x1x1x512 : Shape := ⟨5, ![1, 1, 1, 1, 512]⟩
abbrev S1x512 : Shape := ⟨2, ![1, 512]⟩

abbrev nBuf : Space → Nat
  | .hbm => 8
  | .vmem => 12
  | .smem => 0
  | _ => 0

abbrev bufTy : (tb : Table) → Fin (tcTables nBuf tb) → BufTy
  | .hbm, ⟨0, _⟩ => ⟨S4x2048x4096, .bf16⟩
  | .hbm, ⟨1, _⟩ => ⟨S4x2048x1024, .bf16⟩
  | .hbm, ⟨2, _⟩ => ⟨S4x2048x32, .f32⟩
  | .hbm, ⟨3, _⟩ => ⟨S4x2048x4x8, .f32⟩
  | .hbm, ⟨4, _⟩ => ⟨S4x4x2048x8, .f32⟩
  | .hbm, ⟨5, _⟩ => ⟨S4x4x512x4x8, .f32⟩
  | .hbm, ⟨6, _⟩ => ⟨S4x4x4x8x512, .f32⟩
  | .hbm, ⟨7, _⟩ => ⟨S4x2048x4096, .bf16⟩
  | .local _ .vmem, ⟨0, _⟩ => ⟨S1x512x128, .bf16⟩
  | .local _ .vmem, ⟨1, _⟩ => ⟨S1x512x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x1x512x8, .f32⟩
  | .local _ .vmem, ⟨7, _⟩ => ⟨S1x1x512x8, .f32⟩
  | .local _ .vmem, ⟨8, _⟩ => ⟨S1x1x4x8x512, .f32⟩
  | .local _ .vmem, ⟨9, _⟩ => ⟨S1x1x4x8x512, .f32⟩
  | .local _ .vmem, ⟨10, _⟩ => ⟨S1x512x128, .bf16⟩
  | .local _ .vmem, ⟨11, _⟩ => ⟨S1x512x128, .bf16⟩
  | _, _ => ⟨S4x2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 32, 4], ![false, false, false]⟩

@[reducible] def k0_t1_loop (i : grid0.Coords) : Scf.Loop 32 :=
  let c0_i32 : BitVec 32 := 0#32
  let arg2 : BitVec 32 := BitVec.ofNat 32 (i 2).val
  let c1_i32 : BitVec 32 := 1#32
  let v19 : BitVec 32 := Scalar.addi arg2 c1_i32
  let v20 : BitVec 32 := Scalar.subi v19 c0_i32
  let c1_i32_10 : BitVec 32 := 1#32
  let v22 : BitVec 32 := Scalar.divsi v20 c1_i32_10
  let v23 : BitVec 32 := Scalar.muli v22 c1_i32_10
  let v24 : BitVec 32 := Scalar.addi c0_i32 v23
  let c1_i32_11 : BitVec 32 := 1#32
  ⟨c0_i32, v24, c1_i32_11⟩
def k0_mult1 (i : grid0.Coords) (k0_t1 : Fin (k0_t1_loop i).trips) : BitVec 32 :=
  let c0_i32 : BitVec 32 := 0#32
  let c1_i32_11 : BitVec 32 := 1#32
  let arg9 : BitVec 32 := Scf.iv c0_i32 c1_i32_11 k0_t1
  let c512_i32_16 : BitVec 32 := 512#32
  let v33 : BitVec 32 := Scalar.muli arg9 c512_i32_16
  v33
def k0_off1 (i : grid0.Coords) (k0_t1 : Fin (k0_t1_loop i).trips) : Fin 3 → Nat :=
  let c0_17 : Index := 0#32
  let c0_i32 : BitVec 32 := 0#32
  let c1_i32_11 : BitVec 32 := 1#32
  let arg9 : BitVec 32 := Scf.iv c0_i32 c1_i32_11 k0_t1
  let c512_i32_16 : BitVec 32 := 512#32
  let v33 : BitVec 32 := Scalar.muli arg9 c512_i32_16
  let v34 : BitVec 32 := v33
  let v35 : Index := Scalar.indexCast v34
  let c0_18 : Index := 0#32
  ![0, v35.toNat, 0]
def k0_off2 (i : grid0.Coords) (k0_t1 : Fin (k0_t1_loop i).trips) : Fin 5 → Nat :=
  let c0_21 : Index := 0#32
  let c0_22 : Index := 0#32
  let c0_i32 : BitVec 32 := 0#32
  let c1_i32_11 : BitVec 32 := 1#32
  let arg9 : BitVec 32 := Scf.iv c0_i32 c1_i32_11 k0_t1
  let v41 : Index := Scalar.indexCast arg9
  let arg1 : BitVec 32 := BitVec.ofNat 32 (i 1).val
  let c8_i32 : BitVec 32 := 8#32
  let v0 : BitVec 32 := Scalar.remsi arg1 c8_i32
  let v42 : Index := Scalar.indexCast v0
  let c0_23 : Index := 0#32
  ![0, 0, v41.toNat, v42.toNat, 0]
@[reducible] def k0_t2_loop (i : grid0.Coords) : Scf.Loop 32 :=
  let c0_i32 : BitVec 32 := 0#32
  let arg2 : BitVec 32 := BitVec.ofNat 32 (i 2).val
  let c1_i32 : BitVec 32 := 1#32
  let v19 : BitVec 32 := Scalar.addi arg2 c1_i32
  let v20 : BitVec 32 := Scalar.subi v19 c0_i32
  let c1_i32_10 : BitVec 32 := 1#32
  let v22 : BitVec 32 := Scalar.divsi v20 c1_i32_10
  let v23 : BitVec 32 := Scalar.muli v22 c1_i32_10
  let v24 : BitVec 32 := Scalar.addi c0_i32 v23
  let v21 : BitVec 32 := Scalar.addi c0_i32 v20
  let c1_i32_12 : BitVec 32 := 1#32
  ⟨v24, v21, c1_i32_12⟩
def k0_mult2 (i : grid0.Coords) (k0_t2 : Fin (k0_t2_loop i).trips) : BitVec 32 :=
  let c0_i32 : BitVec 32 := 0#32
  let arg2 : BitVec 32 := BitVec.ofNat 32 (i 2).val
  let c1_i32 : BitVec 32 := 1#32
  let v19 : BitVec 32 := Scalar.addi arg2 c1_i32
  let v20 : BitVec 32 := Scalar.subi v19 c0_i32
  let c1_i32_10 : BitVec 32 := 1#32
  let v22 : BitVec 32 := Scalar.divsi v20 c1_i32_10
  let v23 : BitVec 32 := Scalar.muli v22 c1_i32_10
  let v24 : BitVec 32 := Scalar.addi c0_i32 v23
  let c1_i32_12 : BitVec 32 := 1#32
  let arg9 : BitVec 32 := Scf.iv v24 c1_i32_12 k0_t2
  let c512_i32_16 : BitVec 32 := 512#32
  let v33 : BitVec 32 := Scalar.muli arg9 c512_i32_16
  v33
def k0_off3 (i : grid0.Coords) (k0_t2 : Fin (k0_t2_loop i).trips) : Fin 3 → Nat :=
  let c0_17 : Index := 0#32
  let c0_i32 : BitVec 32 := 0#32
  let arg2 : BitVec 32 := BitVec.ofNat 32 (i 2).val
  let c1_i32 : BitVec 32 := 1#32
  let v19 : BitVec 32 := Scalar.addi arg2 c1_i32
  let v20 : BitVec 32 := Scalar.subi v19 c0_i32
  let c1_i32_10 : BitVec 32 := 1#32
  let v22 : BitVec 32 := Scalar.divsi v20 c1_i32_10
  let v23 : BitVec 32 := Scalar.muli v22 c1_i32_10
  let v24 : BitVec 32 := Scalar.addi c0_i32 v23
  let c1_i32_12 : BitVec 32 := 1#32
  let arg9 : BitVec 32 := Scf.iv v24 c1_i32_12 k0_t2
  let c512_i32_16 : BitVec 32 := 512#32
  let v33 : BitVec 32 := Scalar.muli arg9 c512_i32_16
  let v34 : BitVec 32 := v33
  let v35 : Index := Scalar.indexCast v34
  let c0_18 : Index := 0#32
  ![0, v35.toNat, 0]
def k0_off4 (i : grid0.Coords) (k0_t2 : Fin (k0_t2_loop i).trips) : Fin 5 → Nat :=
  let c0_21 : Index := 0#32
  let c0_22 : Index := 0#32
  let c0_i32 : BitVec 32 := 0#32
  let arg2 : BitVec 32 := BitVec.ofNat 32 (i 2).val
  let c1_i32 : BitVec 32 := 1#32
  let v19 : BitVec 32 := Scalar.addi arg2 c1_i32
  let v20 : BitVec 32 := Scalar.subi v19 c0_i32
  let c1_i32_10 : BitVec 32 := 1#32
  let v22 : BitVec 32 := Scalar.divsi v20 c1_i32_10
  let v23 : BitVec 32 := Scalar.muli v22 c1_i32_10
  let v24 : BitVec 32 := Scalar.addi c0_i32 v23
  let c1_i32_12 : BitVec 32 := 1#32
  let arg9 : BitVec 32 := Scf.iv v24 c1_i32_12 k0_t2
  let v41 : Index := Scalar.indexCast arg9
  let arg1 : BitVec 32 := BitVec.ofNat 32 (i 1).val
  let c8_i32 : BitVec 32 := 8#32
  let v0 : BitVec 32 := Scalar.remsi arg1 c8_i32
  let v42 : Index := Scalar.indexCast v0
  let c0_23 : Index := 0#32
  ![0, 0, v41.toNat, v42.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.divsi arg1 c8_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg1 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![arg0.toNat, c0_i32_4.toNat, v16.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.divsi arg1 c8_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg1 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let v17 : BitVec 32 := Scalar.addi c4_i32 v16
  let c0_i32_4 : BitVec 32 := 0#32
  let c0_i32_5 : BitVec 32 := 0#32
  ![arg0.toNat, c0_i32_4.toNat, v17.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.divsi arg1 c8_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg1 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![arg0.toNat, v16.toNat, arg2.toNat, c0_i32_4.toNat]

def cc0_transform_4 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.divsi arg1 c8_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg1 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![arg0.toNat, v16.toNat, c0_i32_4.toNat, c0_i32_5.toNat, c0_i32_6.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x512x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x4x8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Reference11Ideal.lean ====
abbrev S4x2048x4096 : Shape := ⟨3, ![4, 2048, 4096]⟩
abbrev S4x2048x1024 : Shape := ⟨3, ![4, 2048, 1024]⟩
abbrev S4x2048x32 : Shape := ⟨3, ![4, 2048, 32]⟩
abbrev S4x2048x4x8x128 : Shape := ⟨5, ![4, 2048, 4, 8, 128]⟩
abbrev S4x2048x512 : Shape := ⟨3, ![4, 2048, 512]⟩
abbrev S4x2048x4x128 : Shape := ⟨4, ![4, 2048, 4, 128]⟩
abbrev S4x2048x4x8 : Shape := ⟨4, ![4, 2048, 4, 8]⟩
abbrev S4x4x8x2048 : Shape := ⟨4, ![4, 4, 8, 2048]⟩
abbrev S4x4x2048x2048x8 : Shape := ⟨5, ![4, 4, 2048, 2048, 8]⟩
abbrev S4x4x8x2048x2048 : Shape := ⟨5, ![4, 4, 8, 2048, 2048]⟩
abbrev S_ : Shape := ⟨0, ![]⟩
abbrev S4x4x8x2048x1 : Shape := ⟨5, ![4, 4, 8, 2048, 1]⟩
abbrev S4x4x8x1x2048 : Shape := ⟨5, ![4, 4, 8, 1, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S4x4x128x8x2048 : Shape := ⟨5, ![4, 4, 128, 8, 2048]⟩

abbrev nBuf : Space → Nat
  | .hbm => 52
  | .vmem => 0
  | .smem => 0
  | _ => 0

abbrev bufTy : (tb : Table) → Fin (tcTables nBuf tb) → BufTy
  | .hbm, ⟨0, _⟩ => ⟨S4x2048x4096, .bf16⟩
  | .hbm, ⟨1, _⟩ => ⟨S4x2048x1024, .bf16⟩
  | .hbm, ⟨2, _⟩ => ⟨S4x2048x32, .f32⟩
  | .hbm, ⟨3, _⟩ => ⟨S4x2048x4096, .f32⟩
  | .hbm, ⟨4, _⟩ => ⟨S4x2048x4x8x128, .f32⟩
  | .hbm, ⟨5, _⟩ => ⟨S4x2048x1024, .f32⟩
  | .hbm, ⟨6, _⟩ => ⟨S4x2048x512, .f32⟩
  | .hbm, ⟨7, _⟩ => ⟨S4x2048x4x128, .f32⟩
  | .hbm, ⟨8, _⟩ => ⟨S4x2048x512, .f32⟩
  | .hbm, ⟨9, _⟩ => ⟨S4x2048x4x128, .f32⟩
  | .hbm, ⟨10, _⟩ => ⟨S4x2048x4x8, .f32⟩
  | .hbm, ⟨11, _⟩ => ⟨S4x4x8x2048, .f32⟩
  | .hbm, ⟨12, _⟩ => ⟨S4x4x2048x2048x8, .f32⟩
  | .hbm, ⟨13, _⟩ => ⟨S4x4x8x2048x2048, .f32⟩
  | .hbm, ⟨14, _⟩ => ⟨S_, .f32⟩
  | .hbm, ⟨15, _⟩ => ⟨S4x4x8x2048x2048, .f32⟩
  | .hbm, ⟨16, _⟩ => ⟨S4x4x8x2048x2048, .f32⟩
  | .hbm, ⟨17, _⟩ => ⟨S4x4x8x2048x1, .f32⟩
  | .hbm, ⟨18, _⟩ => ⟨S4x4x8x1x2048, .f32⟩
  | .hbm, ⟨19, _⟩ => ⟨S4x4x8x2048x2048, .f32⟩
  | .hbm, ⟨20, _⟩ => ⟨S4x4x8x2048x2048, .f32⟩
  | .hbm, ⟨21, _⟩ => ⟨S4x4x8x2048x2048, .f32⟩
  | .hbm, ⟨22, _⟩ => ⟨S4x4x8x2048x2048, .f32⟩
  | .hbm, ⟨23, _⟩ => ⟨S2048, .i32⟩
  | .hbm, ⟨24, _⟩ => ⟨S2048x1, .i32⟩
  | .hbm, ⟨25, _⟩ => ⟨S1x2048, .i32⟩
  | .hbm, ⟨26, _⟩ => ⟨S2048x2048, .i32⟩
  | .hbm, ⟨27, _⟩ => ⟨S2048x2048, .i32⟩
  | .hbm, ⟨28, _⟩ => ⟨S2048x2048, .i1⟩
  | .hbm, ⟨29, _⟩ => ⟨S_, .f32⟩
  | .hbm, ⟨30, _⟩ => ⟨S_, .f32⟩
  | .hbm, ⟨31, _⟩ => ⟨S4x4x8x2048x2048, .i1⟩
  | .hbm, ⟨32, _⟩ => ⟨S4x4x8x2048x2048, .f32⟩
  | .hbm, ⟨33, _⟩ => ⟨S4x4x8x2048x2048, .f32⟩
  | .hbm, ⟨34, _⟩ => ⟨S_, .f32⟩
  | .hbm, ⟨35, _⟩ => ⟨S4x4x8x2048, .f32⟩
  | .hbm, ⟨36, _⟩ => ⟨S_, .f32⟩
  | .hbm, ⟨37, _⟩ => ⟨S4x4x8x2048, .f32⟩
  | .hbm, ⟨38, _⟩ => ⟨S4x4x8x2048, .f32⟩
  | .hbm, ⟨39, _⟩ => ⟨S4x4x8x2048x1, .f32⟩
  | .hbm, ⟨40, _⟩ => ⟨S4x4x8x2048x2048, .f32⟩
  | .hbm, ⟨41, _⟩ => ⟨S4x4x8x2048x2048, .f32⟩
  | .hbm, ⟨42, _⟩ => ⟨S4x4x8x2048x2048, .f32⟩
  | .hbm, ⟨43, _⟩ => ⟨S_, .f32⟩
  | .hbm, ⟨44, _⟩ => ⟨S4x4x8x2048, .f32⟩
  | .hbm, ⟨45, _⟩ => ⟨S4x4x8x2048x1, .f32⟩
  | .hbm, ⟨46, _⟩ => ⟨S4x4x8x2048x2048, .f32⟩
  | .hbm, ⟨47, _⟩ => ⟨S4x4x8x2048x2048, .f32⟩
  | .hbm, ⟨48, _⟩ => ⟨S4x4x128x8x2048, .f32⟩
  | .hbm, ⟨49, _⟩ => ⟨S4x2048x4x8x128, .f32⟩
  | .hbm, ⟨50, _⟩ => ⟨S4x2048x4096, .f32⟩
  | .hbm, ⟨51, _⟩ => ⟨S4x2048x4096, .bf16⟩
  | _, _ => ⟨S4x2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_cst_0 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v25 : Ref sig .tc := ⟨.hbm, 33, rfl⟩
abbrev main_cst_1 : Ref sig .tc := ⟨.hbm, 34, rfl⟩
abbrev main_v26 : Ref sig .tc := ⟨.hbm, 35, rfl⟩
abbrev main_cst_2 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_3 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩

abbrev nD : Nat := 1
abbrev τ : Topo := Topo.v7x

variable {F : FTy → Type} [FloatOps F]
-- ==== Kernel12.lean ====
abbrev S8192x4096 : Shape := ⟨2, ![8192, 4096]⟩
abbrev S4x4096x2048 : Shape := ⟨3, ![4, 4096, 2048]⟩
abbrev S8192x2048 : Shape := ⟨2, ![8192, 2048]⟩
abbrev S1024x4096 : Shape := ⟨2, ![1024, 4096]⟩
abbrev S1x4096x1024 : Shape := ⟨3, ![1, 4096, 1024]⟩
abbrev S1024x1024 : Shape := ⟨2, ![1024, 1024]⟩
abbrev S4096x1024 : Shape := ⟨2, ![4096, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S4x4096x2048, .bf16⟩
  | .hbm, ⟨2, _⟩ => ⟨S8192x2048, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1024x1024, .f32⟩
  | .local _ .vmem, ⟨5, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference12Ideal.lean ====
abbrev S8192x4096 : Shape := ⟨2, ![8192, 4096]⟩
abbrev S4x4096x2048 : Shape := ⟨3, ![4, 4096, 2048]⟩
abbrev S1x4096x2048 : Shape := ⟨3, ![1, 4096, 2048]⟩
abbrev S4096x2048 : Shape := ⟨2, ![4096, 2048]⟩
abbrev S8192x2048 : Shape := ⟨2, ![8192, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4x4096x2048, .bf16⟩
  | .hbm, ⟨2, _⟩ => ⟨S8192x4096, .f32⟩
  | .hbm, ⟨3, _⟩ => ⟨S1x4096x2048, .bf16⟩
  | .hbm, ⟨4, _⟩ => ⟨S4096x2048, .bf16⟩
  | .hbm, ⟨5, _⟩ => ⟨S4096x2048, .f32⟩
  | .hbm, ⟨6, _⟩ => ⟨S8192x2048, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel13.lean ====
abbrev S8192x4096 : Shape := ⟨2, ![8192, 4096]⟩
abbrev S4x4096x2048 : Shape := ⟨3, ![4, 4096, 2048]⟩
abbrev S8192x2048 : Shape := ⟨2, ![8192, 2048]⟩
abbrev S1024x4096 : Shape := ⟨2, ![1024, 4096]⟩
abbrev S1x4096x1024 : Shape := ⟨3, ![1, 4096, 1024]⟩
abbrev S1024x1024 : Shape := ⟨2, ![1024, 1024]⟩
abbrev S4096x1024 : Shape := ⟨2, ![4096, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S4x4096x2048, .bf16⟩
  | .hbm, ⟨2, _⟩ => ⟨S8192x2048, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1024x1024, .f32⟩
  | .local _ .vmem, ⟨5, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c1_i32 : BitVec 32 := 1#32
  let c0_i32_0 : BitVec 32 := 0#32
  let c0_i32_1 : BitVec 32 := 0#32
  ![c1_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference13Ideal.lean ====
abbrev S8192x4096 : Shape := ⟨2, ![8192, 4096]⟩
abbrev S4x4096x2048 : Shape := ⟨3, ![4, 4096, 2048]⟩
abbrev S1x4096x2048 : Shape := ⟨3, ![1, 4096, 2048]⟩
abbrev S4096x2048 : Shape := ⟨2, ![4096, 2048]⟩
abbrev S8192x2048 : Shape := ⟨2, ![8192, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4x4096x2048, .bf16⟩
  | .hbm, ⟨2, _⟩ => ⟨S8192x4096, .f32⟩
  | .hbm, ⟨3, _⟩ => ⟨S1x4096x2048, .bf16⟩
  | .hbm, ⟨4, _⟩ => ⟨S4096x2048, .bf16⟩
  | .hbm, ⟨5, _⟩ => ⟨S4096x2048, .f32⟩
  | .hbm, ⟨6, _⟩ => ⟨S8192x2048, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel14.lean ====
abbrev S8192x4096 : Shape := ⟨2, ![8192, 4096]⟩
abbrev S4x4096x2048 : Shape := ⟨3, ![4, 4096, 2048]⟩
abbrev S8192x2048 : Shape := ⟨2, ![8192, 2048]⟩
abbrev S1024x4096 : Shape := ⟨2, ![1024, 4096]⟩
abbrev S1x4096x1024 : Shape := ⟨3, ![1, 4096, 1024]⟩
abbrev S1024x1024 : Shape := ⟨2, ![1024, 1024]⟩
abbrev S4096x1024 : Shape := ⟨2, ![4096, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S4x4096x2048, .bf16⟩
  | .hbm, ⟨2, _⟩ => ⟨S8192x2048, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1024x1024, .f32⟩
  | .local _ .vmem, ⟨5, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c2_i32 : BitVec 32 := 2#32
  let c0_i32_0 : BitVec 32 := 0#32
  let c0_i32_1 : BitVec 32 := 0#32
  ![c2_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference14Ideal.lean ====
abbrev S8192x4096 : Shape := ⟨2, ![8192, 4096]⟩
abbrev S4x4096x2048 : Shape := ⟨3, ![4, 4096, 2048]⟩
abbrev S1x4096x2048 : Shape := ⟨3, ![1, 4096, 2048]⟩
abbrev S4096x2048 : Shape := ⟨2, ![4096, 2048]⟩
abbrev S8192x2048 : Shape := ⟨2, ![8192, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4x4096x2048, .bf16⟩
  | .hbm, ⟨2, _⟩ => ⟨S8192x4096, .f32⟩
  | .hbm, ⟨3, _⟩ => ⟨S1x4096x2048, .bf16⟩
  | .hbm, ⟨4, _⟩ => ⟨S4096x2048, .bf16⟩
  | .hbm, ⟨5, _⟩ => ⟨S4096x2048, .f32⟩
  | .hbm, ⟨6, _⟩ => ⟨S8192x2048, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel15.lean ====
abbrev S8192x4096 : Shape := ⟨2, ![8192, 4096]⟩
abbrev S4x4096x2048 : Shape := ⟨3, ![4, 4096, 2048]⟩
abbrev S8192x2048 : Shape := ⟨2, ![8192, 2048]⟩
abbrev S1024x4096 : Shape := ⟨2, ![1024, 4096]⟩
abbrev S1x4096x1024 : Shape := ⟨3, ![1, 4096, 1024]⟩
abbrev S1024x1024 : Shape := ⟨2, ![1024, 1024]⟩
abbrev S4096x1024 : Shape := ⟨2, ![4096, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S4x4096x2048, .bf16⟩
  | .hbm, ⟨2, _⟩ => ⟨S8192x2048, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1024x1024, .f32⟩
  | .local _ .vmem, ⟨5, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c3_i32 : BitVec 32 := 3#32
  let c0_i32_0 : BitVec 32 := 0#32
  let c0_i32_1 : BitVec 32 := 0#32
  ![c3_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference15Ideal.lean ====
abbrev S8192x4096 : Shape := ⟨2, ![8192, 4096]⟩
abbrev S4x4096x2048 : Shape := ⟨3, ![4, 4096, 2048]⟩
abbrev S1x4096x2048 : Shape := ⟨3, ![1, 4096, 2048]⟩
abbrev S4096x2048 : Shape := ⟨2, ![4096, 2048]⟩
abbrev S8192x2048 : Shape := ⟨2, ![8192, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4x4096x2048, .bf16⟩
  | .hbm, ⟨2, _⟩ => ⟨S8192x4096, .f32⟩
  | .hbm, ⟨3, _⟩ => ⟨S1x4096x2048, .bf16⟩
  | .hbm, ⟨4, _⟩ => ⟨S4096x2048, .bf16⟩
  | .hbm, ⟨5, _⟩ => ⟨S4096x2048, .f32⟩
  | .hbm, ⟨6, _⟩ => ⟨S8192x2048, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel16.lean ====
abbrev S8192x4096 : Shape := ⟨2, ![8192, 4096]⟩
abbrev S1x4096x1600 : Shape := ⟨3, ![1, 4096, 1600]⟩
abbrev S8192x1536 : Shape := ⟨2, ![8192, 1536]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S1x4096x1600, .bf16⟩
  | .hbm, ⟨2, _⟩ => ⟨S8192x1536, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1024x512, .f32⟩
  | .local _ .vmem, ⟨5, _⟩ => ⟨S1024x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference16Ideal.lean ====
abbrev S8192x4096 : Shape := ⟨2, ![8192, 4096]⟩
abbrev S1x4096x1600 : Shape := ⟨3, ![1, 4096, 1600]⟩
abbrev S4096x1600 : Shape := ⟨2, ![4096, 1600]⟩
abbrev S8192x1600 : Shape := ⟨2, ![8192, 1600]⟩
abbrev S8192x1536 : Shape := ⟨2, ![8192, 1536]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x4096x1600, .bf16⟩
  | .hbm, ⟨2, _⟩ => ⟨S8192x4096, .f32⟩
  | .hbm, ⟨3, _⟩ => ⟨S4096x1600, .bf16⟩
  | .hbm, ⟨4, _⟩ => ⟨S4096x1600, .f32⟩
  | .hbm, ⟨5, _⟩ => ⟨S8192x1600, .f32⟩
  | .hbm, ⟨6, _⟩ => ⟨S8192x1536, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel17.lean ====
abbrev S8192x1024 : Shape := ⟨2, ![8192, 1024]⟩
abbrev S1024x6144 : Shape := ⟨2, ![1024, 6144]⟩
abbrev S1024x32x192 : Shape := ⟨3, ![1024, 32, 192]⟩
abbrev S1024x32x128 : Shape := ⟨3, ![1024, 32, 128]⟩
abbrev S1024x4096 : Shape := ⟨2, ![1024, 4096]⟩
abbrev S8192x4096 : Shape := ⟨2, ![8192, 4096]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x6144, .bf16⟩
  | .hbm, ⟨2, _⟩ => ⟨S1024x32x192, .bf16⟩
  | .hbm, ⟨3, _⟩ => ⟨S1024x32x128, .bf16⟩
  | .hbm, ⟨4, _⟩ => ⟨S1024x4096, .bf16⟩
  | .hbm, ⟨5, _⟩ => ⟨S8192x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference17Ideal.lean ====
abbrev S8192x1024 : Shape := ⟨2, ![8192, 1024]⟩
abbrev S1024x6144 : Shape := ⟨2, ![1024, 6144]⟩
abbrev S8192x6144 : Shape := ⟨2, ![8192, 6144]⟩
abbrev S8192x32x192 : Shape := ⟨3, ![8192, 32, 192]⟩
abbrev S8192x32x128 : Shape := ⟨3, ![8192, 32, 128]⟩
abbrev S8192x4096 : Shape := ⟨2, ![8192, 4096]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x6144, .bf16⟩
  | .hbm, ⟨2, _⟩ => ⟨S8192x1024, .f32⟩
  | .hbm, ⟨3, _⟩ => ⟨S1024x6144, .f32⟩
  | .hbm, ⟨4, _⟩ => ⟨S8192x6144, .f32⟩
  | .hbm, ⟨5, _⟩ => ⟨S8192x32x192, .f32⟩
  | .hbm, ⟨6, _⟩ => ⟨S8192x32x128, .f32⟩
  | .hbm, ⟨7, _⟩ => ⟨S8192x4096, .f32⟩
  | .hbm, ⟨8, _⟩ => ⟨S8192x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Kernel18.lean ====
abbrev S8192x512 : Shape := ⟨2, ![8192, 512]⟩
abbrev S1x512x8192 : Shape := ⟨3, ![1, 512, 8192]⟩
abbrev S8192x8192 : Shape := ⟨2, ![8192, 8192]⟩
abbrev S1024x512 : Shape := ⟨2, ![1024, 512]⟩
abbrev S1x512x1024 : Shape := ⟨3, ![1, 512, 1024]⟩
abbrev S1024x1024 : Shape := ⟨2, ![1024, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S1x512x8192, .bf16⟩
  | .hbm, ⟨2, _⟩ => ⟨S8192x8192, .bf16⟩
  | .local _ .vmem, ⟨0, _⟩ => ⟨S1024x512, .bf16⟩
  | .local _ .vmem, ⟨1, _⟩ => ⟨S1024x512, .bf16⟩
  | .local _ .vmem, ⟨2, _⟩ => ⟨S1x512x1024, .bf16⟩
  | .local _ .vmem, ⟨3, _⟩ => ⟨S1x512x1024, .bf16⟩
  | .local _ .vmem, ⟨4, _⟩ => ⟨S1024x1024, .bf16⟩
  | .local _ .vmem, ⟨5, _⟩ => ⟨S1024x1024, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference18Ideal.lean ====
abbrev S8192x512 : Shape := ⟨2, ![8192, 512]⟩
abbrev S1x512x8192 : Shape := ⟨3, ![1, 512, 8192]⟩
abbrev S512x8192 : Shape := ⟨2, ![512, 8192]⟩
abbrev S8192x8192 : Shape := ⟨2, ![8192, 8192]⟩

abbrev nBuf : Space → Nat
  | .hbm => 7
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S1x512x8192, .bf16⟩
  | .hbm, ⟨2, _⟩ => ⟨S8192x512, .f32⟩
  | .hbm, ⟨3, _⟩ => ⟨S512x8192, .bf16⟩
  | .hbm, ⟨4, _⟩ => ⟨S512x8192, .f32⟩
  | .hbm, ⟨5, _⟩ => ⟨S8192x8192, .f32⟩
  | .hbm, ⟨6, _⟩ => ⟨S8192x8192, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel19.lean ====
abbrev S128x4096 : Shape := ⟨2, ![128, 4096]⟩
abbrev S1x4096x5152 : Shape := ⟨3, ![1, 4096, 5152]⟩
abbrev S128x1024 : Shape := ⟨2, ![128, 1024]⟩
abbrev S1x4096x1024 : Shape := ⟨3, ![1, 4096, 1024]⟩
abbrev S4096x1024 : Shape := ⟨2, ![4096, 1024]⟩

abbrev nBuf : Space → Nat
  | .hbm => 3
  | .vmem => 3
  | .smem => 0
  | _ => 0

abbrev bufTy : (tb : Table) → Fin (tcTables nBuf tb) → BufTy
  | .hbm, ⟨0, _⟩ => ⟨S128x4096, .bf16⟩
  | .hbm, ⟨1, _⟩ => ⟨S1x4096x5152, .bf16⟩
  | .hbm, ⟨2, _⟩ => ⟨S128x1024, .f32⟩
  | .local _ .vmem, ⟨0, _⟩ => ⟨S128x4096, .bf16⟩
  | .local _ .vmem, ⟨1, _⟩ => ⟨S1x4096x1024, .bf16⟩
  | .local _ .vmem, ⟨2, _⟩ => ⟨S128x1024, .f32⟩
  | _, _ => ⟨S128x4096, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S128x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== Reference19Ideal.lean ====
abbrev S128x4096 : Shape := ⟨2, ![128, 4096]⟩
abbrev S1x4096x5152 : Shape := ⟨3, ![1, 4096, 5152]⟩
abbrev S4096x5152 : Shape := ⟨2, ![4096, 5152]⟩
abbrev S128x5152 : Shape := ⟨2, ![128, 5152]⟩
abbrev S128x1024 : Shape := ⟨2, ![128, 1024]⟩

abbrev nBuf : Space → Nat
  | .hbm => 7
  | .vmem => 0
  | .smem => 0
  | _ => 0

abbrev bufTy : (tb : Table) → Fin (tcTables nBuf tb) → BufTy
  | .hbm, ⟨0, _⟩ => ⟨S128x4096, .bf16⟩
  | .hbm, ⟨1, _⟩ => ⟨S1x4096x5152, .bf16⟩
  | .hbm, ⟨2, _⟩ => ⟨S128x4096, .f32⟩
  | .hbm, ⟨3, _⟩ => ⟨S4096x5152, .bf16⟩
  | .hbm, ⟨4, _⟩ => ⟨S4096x5152, .f32⟩
  | .hbm, ⟨5, _⟩ => ⟨S128x5152, .f32⟩
  | .hbm, ⟨6, _⟩ => ⟨S128x1024, .f32⟩
  | _, _ => ⟨S128x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel20.lean ====
abbrev S128x4096 : Shape := ⟨2, ![128, 4096]⟩
abbrev S4096x32 : Shape := ⟨2, ![4096, 32]⟩
abbrev S32 : Shape := ⟨1, ![32]⟩
abbrev S1x32 : Shape := ⟨2, ![1, 32]⟩
abbrev S128x32 : Shape := ⟨2, ![128, 32]⟩

abbrev nBuf : Space → Nat
  | .hbm => 5
  | .vmem => 4
  | .smem => 0
  | _ => 0

abbrev bufTy : (tb : Table) → Fin (tcTables nBuf tb) → BufTy
  | .hbm, ⟨0, _⟩ => ⟨S128x4096, .bf16⟩
  | .hbm, ⟨1, _⟩ => ⟨S4096x32, .bf16⟩
  | .hbm, ⟨2, _⟩ => ⟨S32, .f32⟩
  | .hbm, ⟨3, _⟩ => ⟨S1x32, .f32⟩
  | .hbm, ⟨4, _⟩ => ⟨S128x32, .f32⟩
  | .local _ .vmem, ⟨0, _⟩ => ⟨S128x4096, .bf16⟩
  | .local _ .vmem, ⟨1, _⟩ => ⟨S4096x32, .bf16⟩
  | .local _ .vmem, ⟨2, _⟩ => ⟨S1x32, .f32⟩
  | .local _ .vmem, ⟨3, _⟩ => ⟨S128x32, .f32⟩
  | _, _ => ⟨S128x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4096x32 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]
-- ==== Reference20Ideal.lean ====
abbrev S128x4096 : Shape := ⟨2, ![128, 4096]⟩
abbrev S4096x32 : Shape := ⟨2, ![4096, 32]⟩
abbrev S32 : Shape := ⟨1, ![32]⟩
abbrev S128x32 : Shape := ⟨2, ![128, 32]⟩
abbrev S1x32 : Shape := ⟨2, ![1, 32]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S128x4096, .bf16⟩
  | .hbm, ⟨1, _⟩ => ⟨S4096x32, .bf16⟩
  | .hbm, ⟨2, _⟩ => ⟨S32, .f32⟩
  | .hbm, ⟨3, _⟩ => ⟨S128x4096, .f32⟩
  | .hbm, ⟨4, _⟩ => ⟨S4096x32, .f32⟩
  | .hbm, ⟨5, _⟩ => ⟨S128x32, .f32⟩
  | .hbm, ⟨6, _⟩ => ⟨S1x32, .f32⟩
  | .hbm, ⟨7, _⟩ => ⟨S128x32, .f32⟩
  | .hbm, ⟨8, _⟩ => ⟨S128x32, .f32⟩
  | .hbm, ⟨9, _⟩ => ⟨S128x32, .f32⟩
  | .hbm, ⟨10, _⟩ => ⟨S_, .f32⟩
  | .hbm, ⟨11, _⟩ => ⟨S128x32, .f32⟩
  | .hbm, ⟨12, _⟩ => ⟨S128x32, .f32⟩
  | .hbm, ⟨13, _⟩ => ⟨S128x32, .f32⟩
  | .hbm, ⟨14, _⟩ => ⟨S128x32, .f32⟩
  | .hbm, ⟨15, _⟩ => ⟨S128x32, .i1⟩
  | .hbm, ⟨16, _⟩ => ⟨S128x32, .f32⟩
  | .hbm, ⟨17, _⟩ => ⟨S128x32, .f32⟩
  | .hbm, ⟨18, _⟩ => ⟨S128x32, .f32⟩
  | .hbm, ⟨19, _⟩ => ⟨S128x32, .f32⟩
  | .hbm, ⟨20, _⟩ => ⟨S128x32, .f32⟩
  | .hbm, ⟨21, _⟩ => ⟨S128x32, .f32⟩
  | .hbm, ⟨22, _⟩ => ⟨S128x32, .f32⟩
  | .hbm, ⟨23, _⟩ => ⟨S128x32, .f32⟩
  | .hbm, ⟨24, _⟩ => ⟨S128x32, .f32⟩
  | _, _ => ⟨S128x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_v0 : Ref sig .tc := ⟨.hbm, 9, rfl⟩
abbrev main_call0_call0_cst : Ref sig .tc := ⟨.hbm, 10, rfl⟩
abbrev main_call0_call0_v0 : Ref sig .tc := ⟨.hbm, 11, rfl⟩
abbrev main_call0_call0_v1 : Ref sig .tc := ⟨.hbm, 12, rfl⟩
abbrev main_call0_call0_v2 : Ref sig .tc := ⟨.hbm, 13, rfl⟩
abbrev main_call0_call0_v3 : Ref sig .tc := ⟨.hbm, 14, rfl⟩
abbrev main_call0_call0_v4 : Ref sig .tc := ⟨.hbm, 15, rfl⟩
abbrev main_call0_call0_v5 : Ref sig .tc := ⟨.hbm, 16, rfl⟩
abbrev main_call0_call0_v6 : Ref sig .tc := ⟨.hbm, 17, rfl⟩
abbrev main_call0_call0_v7 : Ref sig .tc := ⟨.hbm, 18, rfl⟩
abbrev main_call0_call0_v8 : Ref sig .tc := ⟨.hbm, 19, rfl⟩
abbrev main_call0_call0_v9 : Ref sig .tc := ⟨.hbm, 20, rfl⟩
abbrev main_call0_call0_v10 : Ref sig .tc := ⟨.hbm, 21, rfl⟩
abbrev main_call0_call0_v11 : Ref sig .tc := ⟨.hbm, 22, rfl⟩
abbrev main_call0_v1 : Ref sig .tc := ⟨.hbm, 23, rfl⟩
abbrev main_v6 : Ref sig .tc := ⟨.hbm, 24, rfl⟩

abbrev nD : Nat := 1
abbrev τ : Topo := Topo.v7x

variable {F : FTy → Type} [FloatOps F]
-- ==== Kernel21.lean ====
abbrev S136x4096 : Shape := ⟨2, ![136, 4096]⟩
abbrev S4x2x4096x12288 : Shape := ⟨4, ![4, 2, 4096, 12288]⟩
abbrev S4x2x12288 : Shape := ⟨3, ![4, 2, 12288]⟩
abbrev S8x4096x12288 : Shape := ⟨3, ![8, 4096, 12288]⟩
abbrev S8x1x12288 : Shape := ⟨3, ![8, 1, 12288]⟩
abbrev S8x136x12288 : Shape := ⟨3, ![8, 136, 12288]⟩
abbrev S1x4096x512 : Shape := ⟨3, ![1, 4096, 512]⟩
abbrev S1x1x512 : Shape := ⟨3, ![1, 1, 512]⟩
abbrev S1x136x512 : Shape := ⟨3, ![1, 136, 512]⟩
abbrev S4096x512 : Shape := ⟨2, ![4096, 512]⟩
abbrev S136x512 : Shape := ⟨2, ![136, 512]⟩
abbrev S1x512 : Shape := ⟨2, ![1, 512]⟩

abbrev nBuf : Space → Nat
  | .hbm => 6
  | .vmem => 7
  | .smem => 0
  | _ => 0

abbrev bufTy : (tb : Table) → Fin (tcTables nBuf tb) → BufTy
  | .hbm, ⟨0, _⟩ => ⟨S136x4096, .f32⟩
  | .hbm, ⟨1, _⟩ => ⟨S4x2x4096x12288, .f32⟩
  | .hbm, ⟨2, _⟩ => ⟨S4x2x12288, .f32⟩
  | .hbm, ⟨3, _⟩ => ⟨S8x4096x12288, .f32⟩
  | .hbm, ⟨4, _⟩ => ⟨S8x1x12288, .f32⟩
  | .hbm, ⟨5, _⟩ => ⟨S8x136x12288, .f32⟩
  | .local _ .vmem, ⟨0, _⟩ => ⟨S136x4096, .f32⟩
  | .local _ .vmem, ⟨1, _⟩ => ⟨S1x4096x512, .f32⟩
  | .local _ .vmem, ⟨2, _⟩ => ⟨S1x4096x512, .f32⟩
  | .local _ .vmem, ⟨3, _⟩ => ⟨S1x1x512, .f32⟩
  | .local _ .vmem, ⟨4, _⟩ => ⟨S1x1x512, .f32⟩
  | .local _ .vmem, ⟨5, _⟩ => ⟨S1x136x512, .f32⟩
  | .local _ .vmem, ⟨6, _⟩ => ⟨S1x136x512, .f32⟩
  | _, _ => ⟨S136x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 24], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S136x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x136x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference21Ideal.lean ====
abbrev S136x4096 : Shape := ⟨2, ![136, 4096]⟩
abbrev S4x2x4096x12288 : Shape := ⟨4, ![4, 2, 4096, 12288]⟩
abbrev S4x2x12288 : Shape := ⟨3, ![4, 2, 12288]⟩
abbrev S_ : Shape := ⟨0, ![]⟩
abbrev S4x2x12288x136 : Shape := ⟨4, ![4, 2, 12288, 136]⟩
abbrev S4x2x136x12288 : Shape := ⟨4, ![4, 2, 136, 12288]⟩
abbrev S4x2x1x12288 : Shape := ⟨4, ![4, 2, 1, 12288]⟩
abbrev S8x136x12288 : Shape := ⟨3, ![8, 136, 12288]⟩

abbrev nBuf : Space → Nat
  | .hbm => 18
  | .vmem => 0
  | .smem => 0
  | _ => 0

abbrev bufTy : (tb : Table) → Fin (tcTables nBuf tb) → BufTy
  | .hbm, ⟨0, _⟩ => ⟨S136x4096, .f32⟩
  | .hbm, ⟨1, _⟩ => ⟨S4x2x4096x12288, .f32⟩
  | .hbm, ⟨2, _⟩ => ⟨S4x2x12288, .f32⟩
  | .hbm, ⟨3, _⟩ => ⟨S136x4096, .f32⟩
  | .hbm, ⟨4, _⟩ => ⟨S136x4096, .f32⟩
  | .hbm, ⟨5, _⟩ => ⟨S_, .f32⟩
  | .hbm, ⟨6, _⟩ => ⟨S136x4096, .f32⟩
  | .hbm, ⟨7, _⟩ => ⟨S136x4096, .f32⟩
  | .hbm, ⟨8, _⟩ => ⟨S_, .f32⟩
  | .hbm, ⟨9, _⟩ => ⟨S136x4096, .f32⟩
  | .hbm, ⟨10, _⟩ => ⟨S136x4096, .f32⟩
  | .hbm, ⟨11, _⟩ => ⟨S136x4096, .f32⟩
  | .hbm, ⟨12, _⟩ => ⟨S4x2x12288x136, .f32⟩
  | .hbm, ⟨13, _⟩ => ⟨S4x2x136x12288, .f32⟩
  | .hbm, ⟨14, _⟩ => ⟨S4x2x1x12288, .f32⟩
  | .hbm, ⟨15, _⟩ => ⟨S4x2x136x12288, .f32⟩
  | .hbm, ⟨16, _⟩ => ⟨S4x2x136x12288, .f32⟩
  | .hbm, ⟨17, _⟩ => ⟨S8x136x12288, .f32⟩
  | _, _ => ⟨S136x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== Kernel22.lean ====
abbrev S8192x1536 : Shape := ⟨2, ![8192, 1536]⟩
abbrev S1024 : Shape := ⟨1, ![1024]⟩
abbrev S512 : Shape := ⟨1, ![512]⟩
abbrev S1x1024 : Shape := ⟨2, ![1, 1024]⟩
abbrev S1x512 : Shape := ⟨2, ![1, 512]⟩
abbrev S8192x1024 : Shape := ⟨2, ![8192, 1024]⟩
abbrev S8192x512 : Shape := ⟨2, ![8192, 512]⟩
abbrev S512x1536 : Shape := ⟨2, ![512, 1536]⟩
abbrev S512x1024 : Shape := ⟨2, ![512, 1024]⟩
abbrev S512x512 : Shape := ⟨2, ![512, 512]⟩
abbrev S512x1 : Shape := ⟨2, ![512, 1]⟩

abbrev nBuf : Space → Nat
  | .hbm => 8
  | .vmem => 10
  | .smem => 0
  | _ => 0

abbrev bufTy : (tb : Table) → Fin (tcTables nBuf tb) → BufTy
  | .hbm, ⟨0, _⟩ => ⟨S8192x1536, .f32⟩
  | .hbm, ⟨1, _⟩ => ⟨S1024, .f32⟩
  | .hbm, ⟨2, _⟩ => ⟨S512, .f32⟩
  | .hbm, ⟨3, _⟩ => ⟨S1x1024, .f32⟩
  | .hbm, ⟨4, _⟩ => ⟨S1x512, .f32⟩
  | .hbm, ⟨5, _⟩ => ⟨S8192x1024, .bf16⟩
  | .hbm, ⟨6, _⟩ => ⟨S8192x512, .f32⟩
  | .hbm, ⟨7, _⟩ => ⟨S8192x512, .bf16⟩
  | .local _ .vmem, ⟨0, _⟩ => ⟨S512x1536, .f32⟩
  | .local _ .vmem, ⟨1, _⟩ => ⟨S512x1536, .f32⟩
  | .local _ .vmem, ⟨2, _⟩ => ⟨S1x1024, .f32⟩
  | .local _ .vmem, ⟨3, _⟩ => ⟨S1x512, .f32⟩
  | .local _ .vmem, ⟨4, _⟩ => ⟨S512x1024, .bf16⟩
  | .local _ .vmem, ⟨5, _⟩ => ⟨S512x1024, .bf16⟩
  | .local _ .vmem, ⟨6, _⟩ => ⟨S512x512, .f32⟩
  | .local _ .vmem, ⟨7, _⟩ => ⟨S512x512, .f32⟩
  | .local _ .vmem, ⟨8, _⟩ => ⟨S512x512, .bf16⟩
  | .local _ .vmem, ⟨9, _⟩ => ⟨S512x512, .bf16⟩
  | _, _ => ⟨S8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference22Ideal.lean ====
abbrev S8192x1536 : Shape := ⟨2, ![8192, 1536]⟩
abbrev S1024 : Shape := ⟨1, ![1024]⟩
abbrev S512 : Shape := ⟨1, ![512]⟩
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x512 : Shape := ⟨2, ![8192, 512]⟩
abbrev S1x512 : Shape := ⟨2, ![1, 512]⟩

abbrev nBuf : Space → Nat
  | .hbm => 39
  | .vmem => 0
  | .smem => 0
  | _ => 0

abbrev bufTy : (tb : Table) → Fin (tcTables nBuf tb) → BufTy
  | .hbm, ⟨0, _⟩ => ⟨S8192x1536, .f32⟩
  | .hbm, ⟨1, _⟩ => ⟨S1024, .f32⟩
  | .hbm, ⟨2, _⟩ => ⟨S512, .f32⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x512, .f32⟩
  | .hbm, ⟨21, _⟩ => ⟨S8192x512, .f32⟩
  | .hbm, ⟨22, _⟩ => ⟨S_, .f32⟩
  | .hbm, ⟨23, _⟩ => ⟨S8192, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S8192x512, .f32⟩
  | .hbm, ⟨33, _⟩ => ⟨S8192x512, .f32⟩
  | .hbm, ⟨34, _⟩ => ⟨S1x512, .f32⟩
  | .hbm, ⟨35, _⟩ => ⟨S8192x512, .f32⟩
  | .hbm, ⟨36, _⟩ => ⟨S8192x512, .f32⟩
  | .hbm, ⟨37, _⟩ => ⟨S8192x1024, .bf16⟩
  | .hbm, ⟨38, _⟩ => ⟨S8192x512, .bf16⟩
  | _, _ => ⟨S8192x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩

abbrev nD : Nat := 1
abbrev τ : Topo := Topo.v7x

variable {F : FTy → Type} [FloatOps F]
-- ==== Kernel23.lean ====
abbrev S128x1536 : Shape := ⟨2, ![128, 1536]⟩
abbrev S1024 : Shape := ⟨1, ![1024]⟩
abbrev S512 : Shape := ⟨1, ![512]⟩
abbrev S1x1024 : Shape := ⟨2, ![1, 1024]⟩
abbrev S1x512 : Shape := ⟨2, ![1, 512]⟩
abbrev S128x1024 : Shape := ⟨2, ![128, 1024]⟩
abbrev S128x512 : Shape := ⟨2, ![128, 512]⟩
abbrev S128 : Shape := ⟨1, ![128]⟩
abbrev S128x1 : Shape := ⟨2, ![128, 1]⟩

abbrev nBuf : Space → Nat
  | .hbm => 8
  | .vmem => 6
  | .smem => 0
  | _ => 0

abbrev bufTy : (tb : Table) → Fin (tcTables nBuf tb) → BufTy
  | .hbm, ⟨0, _⟩ => ⟨S128x1536, .f32⟩
  | .hbm, ⟨1, _⟩ => ⟨S1024, .f32⟩
  | .hbm, ⟨2, _⟩ => ⟨S512, .f32⟩
  | .hbm, ⟨3, _⟩ => ⟨S1x1024, .f32⟩
  | .hbm, ⟨4, _⟩ => ⟨S1x512, .f32⟩
  | .hbm, ⟨5, _⟩ => ⟨S128x1024, .bf16⟩
  | .hbm, ⟨6, _⟩ => ⟨S128x512, .f32⟩
  | .hbm, ⟨7, _⟩ => ⟨S128x512, .bf16⟩
  | .local _ .vmem, ⟨0, _⟩ => ⟨S128x1536, .f32⟩
  | .local _ .vmem, ⟨1, _⟩ => ⟨S1x1024, .f32⟩
  | .local _ .vmem, ⟨2, _⟩ => ⟨S1x512, .f32⟩
  | .local _ .vmem, ⟨3, _⟩ => ⟨S128x1024, .bf16⟩
  | .local _ .vmem, ⟨4, _⟩ => ⟨S128x512, .f32⟩
  | .local _ .vmem, ⟨5, _⟩ => ⟨S128x512, .bf16⟩
  | _, _ => ⟨S128x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1536 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]
-- ==== Reference23Ideal.lean ====
abbrev S128x1536 : Shape := ⟨2, ![128, 1536]⟩
abbrev S1024 : Shape := ⟨1, ![1024]⟩
abbrev S512 : Shape := ⟨1, ![512]⟩
abbrev S128x1024 : Shape := ⟨2, ![128, 1024]⟩
abbrev S_ : Shape := ⟨0, ![]⟩
abbrev S128 : Shape := ⟨1, ![128]⟩
abbrev S128x1 : Shape := ⟨2, ![128, 1]⟩
abbrev S1x1024 : Shape := ⟨2, ![1, 1024]⟩
abbrev S128x512 : Shape := ⟨2, ![128, 512]⟩
abbrev S1x512 : Shape := ⟨2, ![1, 512]⟩

abbrev nBuf : Space → Nat
  | .hbm => 39
  | .vmem => 0
  | .smem => 0
  | _ => 0

abbrev bufTy : (tb : Table) → Fin (tcTables nBuf tb) → BufTy
  | .hbm, ⟨0, _⟩ => ⟨S128x1536, .f32⟩
  | .hbm, ⟨1, _⟩ => ⟨S1024, .f32⟩
  | .hbm, ⟨2, _⟩ => ⟨S512, .f32⟩
  | .hbm, ⟨3, _⟩ => ⟨S128x1024, .f32⟩
  | .hbm, ⟨4, _⟩ => ⟨S128x1024, .f32⟩
  | .hbm, ⟨5, _⟩ => ⟨S_, .f32⟩
  | .hbm, ⟨6, _⟩ => ⟨S128, .f32⟩
  | .hbm, ⟨7, _⟩ => ⟨S128x1, .f32⟩
  | .hbm, ⟨8, _⟩ => ⟨S_, .f32⟩
  | .hbm, ⟨9, _⟩ => ⟨S128x1, .f32⟩
  | .hbm, ⟨10, _⟩ => ⟨S128x1, .f32⟩
  | .hbm, ⟨11, _⟩ => ⟨S_, .f32⟩
  | .hbm, ⟨12, _⟩ => ⟨S128x1, .f32⟩
  | .hbm, ⟨13, _⟩ => ⟨S128x1, .f32⟩
  | .hbm, ⟨14, _⟩ => ⟨S128x1, .f32⟩
  | .hbm, ⟨15, _⟩ => ⟨S128x1024, .f32⟩
  | .hbm, ⟨16, _⟩ => ⟨S128x1024, .f32⟩
  | .hbm, ⟨17, _⟩ => ⟨S1x1024, .f32⟩
  | .hbm, ⟨18, _⟩ => ⟨S128x1024, .f32⟩
  | .hbm, ⟨19, _⟩ => ⟨S128x1024, .f32⟩
  | .hbm, ⟨20, _⟩ => ⟨S128x512, .f32⟩
  | .hbm, ⟨21, _⟩ => ⟨S128x512, .f32⟩
  | .hbm, ⟨22, _⟩ => ⟨S_, .f32⟩
  | .hbm, ⟨23, _⟩ => ⟨S128, .f32⟩
  | .hbm, ⟨24, _⟩ => ⟨S128x1, .f32⟩
  | .hbm, ⟨25, _⟩ => ⟨S_, .f32⟩
  | .hbm, ⟨26, _⟩ => ⟨S128x1, .f32⟩
  | .hbm, ⟨27, _⟩ => ⟨S128x1, .f32⟩
  | .hbm, ⟨28, _⟩ => ⟨S_, .f32⟩
  | .hbm, ⟨29, _⟩ => ⟨S128x1, .f32⟩
  | .hbm, ⟨30, _⟩ => ⟨S128x1, .f32⟩
  | .hbm, ⟨31, _⟩ => ⟨S128x1, .f32⟩
  | .hbm, ⟨32, _⟩ => ⟨S128x512, .f32⟩
  | .hbm, ⟨33, _⟩ => ⟨S128x512, .f32⟩
  | .hbm, ⟨34, _⟩ => ⟨S1x512, .f32⟩
  | .hbm, ⟨35, _⟩ => ⟨S128x512, .f32⟩
  | .hbm, ⟨36, _⟩ => ⟨S128x512, .f32⟩
  | .hbm, ⟨37, _⟩ => ⟨S128x1024, .bf16⟩
  | .hbm, ⟨38, _⟩ => ⟨S128x512, .bf16⟩
  | _, _ => ⟨S128x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩

abbrev nD : Nat := 1
abbrev τ : Topo := Topo.v7x

variable {F : FTy → Type} [FloatOps F]
-- ==== Kernel24.lean ====
abbrev S8192x4096 : Shape := ⟨2, ![8192, 4096]⟩
abbrev S1x4096x1600 : Shape := ⟨3, ![1, 4096, 1600]⟩
abbrev S2048 : Shape := ⟨1, ![2048]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S1x2048x1x128 : Shape := ⟨4, ![1, 2048, 1, 128]⟩
abbrev S4x2048x1x128 : Shape := ⟨4, ![4, 2048, 1, 128]⟩
abbrev S8192x128 : Shape := ⟨2, ![8192, 128]⟩
abbrev S4096x1600 : Shape := ⟨2, ![4096, 1600]⟩
abbrev S4096x64 : Shape := ⟨2, ![4096, 64]⟩
abbrev S4096x1x2x32 : Shape := ⟨4, ![4096, 1, 2, 32]⟩
abbrev S8192x64 : Shape := ⟨2, ![8192, 64]⟩
abbrev S1024x4096 : Shape := ⟨2, ![1024, 4096]⟩
abbrev S1024x64 : Shape := ⟨2, ![1024, 64]⟩

abbrev nBuf : Space → Nat
  | .hbm => 41
  | .vmem => 10
  | .smem => 0
  | _ => 0

abbrev bufTy : (tb : Table) → Fin (tcTables nBuf tb) → BufTy
  | .hbm, ⟨0, _⟩ => ⟨S8192x4096, .bf16⟩
  | .hbm, ⟨1, _⟩ => ⟨S1x4096x1600, .bf16⟩
  | .hbm, ⟨2, _⟩ => ⟨S2048, .f32⟩
  | .hbm, ⟨3, _⟩ => ⟨S32, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S2048x1, .f32⟩
  | .hbm, ⟨12, _⟩ => ⟨S1x32, .f32⟩
  | .hbm, ⟨13, _⟩ => ⟨S2048x32, .f32⟩
  | .hbm, ⟨14, _⟩ => ⟨S2048x32, .f32⟩
  | .hbm, ⟨15, _⟩ => ⟨S2048x32, .f32⟩
  | .hbm, ⟨16, _⟩ => ⟨S2048x32, .f32⟩
  | .hbm, ⟨17, _⟩ => ⟨S2048x32, .f32⟩
  | .hbm, ⟨18, _⟩ => ⟨S2048x64, .f32⟩
  | .hbm, ⟨19, _⟩ => ⟨S1x2048x1x64, .f32⟩
  | .hbm, ⟨20, _⟩ => ⟨S1x2048x2x64, .f32⟩
  | .hbm, ⟨21, _⟩ => ⟨S2048x128, .f32⟩
  | .hbm, ⟨22, _⟩ => ⟨S2048x32, .f32⟩
  | .hbm, ⟨23, _⟩ => ⟨S2048x64, .f32⟩
  | .hbm, ⟨24, _⟩ => ⟨S1x2048x1x64, .f32⟩
  | .hbm, ⟨25, _⟩ => ⟨S1x2048x2x64, .f32⟩
  | .hbm, ⟨26, _⟩ => ⟨S2048x128, .f32⟩
  | .hbm, ⟨27, _⟩ => ⟨S1x2048x1x128, .f32⟩
  | .hbm, ⟨28, _⟩ => ⟨S4x2048x1x128, .f32⟩
  | .hbm, ⟨29, _⟩ => ⟨S8192x128, .f32⟩
  | .hbm, ⟨30, _⟩ => ⟨S1x2048x1x128, .f32⟩
  | .hbm, ⟨31, _⟩ => ⟨S4x2048x1x128, .f32⟩
  | .hbm, ⟨32, _⟩ => ⟨S8192x128, .f32⟩
  | .hbm, ⟨33, _⟩ => ⟨S4096x1600, .bf16⟩
  | .hbm, ⟨34, _⟩ => ⟨S4096x64, .bf16⟩
  | .hbm, ⟨35, _⟩ => ⟨S4096x1x2x32, .bf16⟩
  | .hbm, ⟨36, _⟩ => ⟨S4096x1x2x32, .bf16⟩
  | .hbm, ⟨37, _⟩ => ⟨S4096x64, .bf16⟩
  | .hbm, ⟨38, _⟩ => ⟨S8192x64, .f32⟩
  | .hbm, ⟨39, _⟩ => ⟨S8192x64, .f32⟩
  | .hbm, ⟨40, _⟩ => ⟨S8192x64, .f32⟩
  | .local _ .vmem, ⟨0, _⟩ => ⟨S1024x4096, .bf16⟩
  | .local _ .vmem, ⟨1, _⟩ => ⟨S1024x4096, .bf16⟩
  | .local _ .vmem, ⟨2, _⟩ => ⟨S4096x64, .bf16⟩
  | .local _ .vmem, ⟨3, _⟩ => ⟨S4096x64, .bf16⟩
  | .local _ .vmem, ⟨4, _⟩ => ⟨S1024x64, .f32⟩
  | .local _ .vmem, ⟨5, _⟩ => ⟨S1024x64, .f32⟩
  | .local _ .vmem, ⟨6, _⟩ => ⟨S1024x64, .f32⟩
  | .local _ .vmem, ⟨7, _⟩ => ⟨S1024x64, .f32⟩
  | .local _ .vmem, ⟨8, _⟩ => ⟨S1024x64, .f32⟩
  | .local _ .vmem, ⟨9, _⟩ => ⟨S1024x64, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S4096x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference24Ideal.lean ====
abbrev S8192x4096 : Shape := ⟨2, ![8192, 4096]⟩
abbrev S1x4096x1600 : Shape := ⟨3, ![1, 4096, 1600]⟩
abbrev S4096x1600 : Shape := ⟨2, ![4096, 1600]⟩
abbrev S8192x1600 : Shape := ⟨2, ![8192, 1600]⟩
abbrev S4x2048x1600 : Shape := ⟨3, ![4, 2048, 1600]⟩
abbrev S4x2048x64 : Shape := ⟨3, ![4, 2048, 64]⟩
abbrev S2048 : Shape := ⟨1, ![2048]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S4x2048x32 : Shape := ⟨3, ![4, 2048, 32]⟩
abbrev S1x2048x32 : Shape := ⟨3, ![1, 2048, 32]⟩
abbrev S8192x64 : Shape := ⟨2, ![8192, 64]⟩

abbrev nBuf : Space → Nat
  | .hbm => 42
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x4096x1600, .bf16⟩
  | .hbm, ⟨2, _⟩ => ⟨S8192x4096, .f32⟩
  | .hbm, ⟨3, _⟩ => ⟨S4096x1600, .bf16⟩
  | .hbm, ⟨4, _⟩ => ⟨S4096x1600, .f32⟩
  | .hbm, ⟨5, _⟩ => ⟨S8192x1600, .f32⟩
  | .hbm, ⟨6, _⟩ => ⟨S4x2048x1600, .f32⟩
  | .hbm, ⟨7, _⟩ => ⟨S4x2048x64, .f32⟩
  | .hbm, ⟨8, _⟩ => ⟨S2048, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S2048x1, .f32⟩
  | .hbm, ⟨18, _⟩ => ⟨S1x32, .f32⟩
  | .hbm, ⟨19, _⟩ => ⟨S2048x32, .f32⟩
  | .hbm, ⟨20, _⟩ => ⟨S2048x32, .f32⟩
  | .hbm, ⟨21, _⟩ => ⟨S2048x32, .f32⟩
  | .hbm, ⟨22, _⟩ => ⟨S2048x32, .f32⟩
  | .hbm, ⟨23, _⟩ => ⟨S2048x32, .f32⟩
  | .hbm, ⟨24, _⟩ => ⟨S4x2048x32, .f32⟩
  | .hbm, ⟨25, _⟩ => ⟨S4x2048x32, .f32⟩
  | .hbm, ⟨26, _⟩ => ⟨S1x2048x32, .f32⟩
  | .hbm, ⟨27, _⟩ => ⟨S4x2048x32, .f32⟩
  | .hbm, ⟨28, _⟩ => ⟨S4x2048x32, .f32⟩
  | .hbm, ⟨29, _⟩ => ⟨S1x2048x32, .f32⟩
  | .hbm, ⟨30, _⟩ => ⟨S4x2048x32, .f32⟩
  | .hbm, ⟨31, _⟩ => ⟨S4x2048x32, .f32⟩
  | .hbm, ⟨32, _⟩ => ⟨S4x2048x32, .f32⟩
  | .hbm, ⟨33, _⟩ => ⟨S1x2048x32, .f32⟩
  | .hbm, ⟨34, _⟩ => ⟨S4x2048x32, .f32⟩
  | .hbm, ⟨35, _⟩ => ⟨S4x2048x32, .f32⟩
  | .hbm, ⟨36, _⟩ => ⟨S1x2048x32, .f32⟩
  | .hbm, ⟨37, _⟩ => ⟨S4x2048x32, .f32⟩
  | .hbm, ⟨38, _⟩ => ⟨S4x2048x32, .f32⟩
  | .hbm, ⟨39, _⟩ => ⟨S4x2048x32, .f32⟩
  | .hbm, ⟨40, _⟩ => ⟨S4x2048x64, .f32⟩
  | .hbm, ⟨41, _⟩ => ⟨S8192x64, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩

abbrev nD : Nat := 1
abbrev τ : Topo := Topo.v7x

variable {F : FTy → Type} [FloatOps F]
-- ==== Kernel25.lean ====
abbrev S128x4096 : Shape := ⟨2, ![128, 4096]⟩
abbrev S1x4096x1600 : Shape := ⟨3, ![1, 4096, 1600]⟩
abbrev S1 : Shape := ⟨1, ![1]⟩
abbrev S_ : Shape := ⟨0, ![]⟩
abbrev S1x1 : Shape := ⟨2, ![1, 1]⟩
abbrev S128x1 : Shape := ⟨2, ![128, 1]⟩
abbrev S128 : Shape := ⟨1, ![128]⟩
abbrev S32 : Shape := ⟨1, ![32]⟩
abbrev S1x32 : Shape := ⟨2, ![1, 32]⟩
abbrev S128x32 : Shape := ⟨2, ![128, 32]⟩
abbrev S128x64 : Shape := ⟨2, ![128, 64]⟩
abbrev S1x128x1x64 : Shape := ⟨4, ![1, 128, 1, 64]⟩
abbrev S1x128x2x64 : Shape := ⟨4, ![1, 128, 2, 64]⟩
abbrev S128x128 : Shape := ⟨2, ![128, 128]⟩
abbrev S4096x1600 : Shape := ⟨2, ![4096, 1600]⟩
abbrev S4096x64 : Shape := ⟨2, ![4096, 64]⟩
abbrev S4096x1x2x32 : Shape := ⟨4, ![4096, 1, 2, 32]⟩

abbrev nBuf : Space → Nat
  | .hbm => 41
  | .vmem => 6
  | .smem => 0
  | _ => 0

abbrev bufTy : (tb : Table) → Fin (tcTables nBuf tb) → BufTy
  | .hbm, ⟨0, _⟩ => ⟨S128x4096, .bf16⟩
  | .hbm, ⟨1, _⟩ => ⟨S1x4096x1600, .bf16⟩
  | .hbm, ⟨2, _⟩ => ⟨S1, .f32⟩
  | .hbm, ⟨3, _⟩ => ⟨S_, .f32⟩
  | .hbm, ⟨4, _⟩ => ⟨S1, .f32⟩
  | .hbm, ⟨5, _⟩ => ⟨S1, .f32⟩
  | .hbm, ⟨6, _⟩ => ⟨S1x1, .f32⟩
  | .hbm, ⟨7, _⟩ => ⟨S128x1, .f32⟩
  | .hbm, ⟨8, _⟩ => ⟨S128, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S128x1, .f32⟩
  | .hbm, ⟨18, _⟩ => ⟨S1x32, .f32⟩
  | .hbm, ⟨19, _⟩ => ⟨S128x32, .f32⟩
  | .hbm, ⟨20, _⟩ => ⟨S128x32, .f32⟩
  | .hbm, ⟨21, _⟩ => ⟨S128x32, .f32⟩
  | .hbm, ⟨22, _⟩ => ⟨S128x32, .f32⟩
  | .hbm, ⟨23, _⟩ => ⟨S128x32, .f32⟩
  | .hbm, ⟨24, _⟩ => ⟨S128x64, .f32⟩
  | .hbm, ⟨25, _⟩ => ⟨S1x128x1x64, .f32⟩
  | .hbm, ⟨26, _⟩ => ⟨S1x128x2x64, .f32⟩
  | .hbm, ⟨27, _⟩ => ⟨S128x128, .f32⟩
  | .hbm, ⟨28, _⟩ => ⟨S128x32, .f32⟩
  | .hbm, ⟨29, _⟩ => ⟨S128x64, .f32⟩
  | .hbm, ⟨30, _⟩ => ⟨S1x128x1x64, .f32⟩
  | .hbm, ⟨31, _⟩ => ⟨S1x128x2x64, .f32⟩
  | .hbm, ⟨32, _⟩ => ⟨S128x128, .f32⟩
  | .hbm, ⟨33, _⟩ => ⟨S4096x1600, .bf16⟩
  | .hbm, ⟨34, _⟩ => ⟨S4096x64, .bf16⟩
  | .hbm, ⟨35, _⟩ => ⟨S4096x1x2x32, .bf16⟩
  | .hbm, ⟨36, _⟩ => ⟨S4096x1x2x32, .bf16⟩
  | .hbm, ⟨37, _⟩ => ⟨S4096x64, .bf16⟩
  | .hbm, ⟨38, _⟩ => ⟨S128x64, .f32⟩
  | .hbm, ⟨39, _⟩ => ⟨S128x64, .f32⟩
  | .hbm, ⟨40, _⟩ => ⟨S128x64, .f32⟩
  | .local _ .vmem, ⟨0, _⟩ => ⟨S128x4096, .bf16⟩
  | .local _ .vmem, ⟨1, _⟩ => ⟨S4096x64, .bf16⟩
  | .local _ .vmem, ⟨2, _⟩ => ⟨S4096x64, .bf16⟩
  | .local _ .vmem, ⟨3, _⟩ => ⟨S128x64, .f32⟩
  | .local _ .vmem, ⟨4, _⟩ => ⟨S128x64, .f32⟩
  | .local _ .vmem, ⟨5, _⟩ => ⟨S128x64, .f32⟩
  | _, _ => ⟨S128x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S128x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S4096x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S4096x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]
-- ==== Reference25Ideal.lean ====
abbrev S128x4096 : Shape := ⟨2, ![128, 4096]⟩
abbrev S1x4096x1600 : Shape := ⟨3, ![1, 4096, 1600]⟩
abbrev S4096x1600 : Shape := ⟨2, ![4096, 1600]⟩
abbrev S128x1600 : Shape := ⟨2, ![128, 1600]⟩
abbrev S128x1x1600 : Shape := ⟨3, ![128, 1, 1600]⟩
abbrev S128x1x64 : Shape := ⟨3, ![128, 1, 64]⟩
abbrev S1 : Shape := ⟨1, ![1]⟩
abbrev S_ : Shape := ⟨0, ![]⟩
abbrev S32 : Shape := ⟨1, ![32]⟩
abbrev S1x1 : Shape := ⟨2, ![1, 1]⟩
abbrev S1x32 : Shape := ⟨2, ![1, 32]⟩
abbrev S128x1x32 : Shape := ⟨3, ![128, 1, 32]⟩
abbrev S1x1x32 : Shape := ⟨3, ![1, 1, 32]⟩
abbrev S128x64 : Shape := ⟨2, ![128, 64]⟩

abbrev nBuf : Space → Nat
  | .hbm => 44
  | .vmem => 0
  | .smem => 0
  | _ => 0

abbrev bufTy : (tb : Table) → Fin (tcTables nBuf tb) → BufTy
  | .hbm, ⟨0, _⟩ => ⟨S128x4096, .bf16⟩
  | .hbm, ⟨1, _⟩ => ⟨S1x4096x1600, .bf16⟩
  | .hbm, ⟨2, _⟩ => ⟨S128x4096, .f32⟩
  | .hbm, ⟨3, _⟩ => ⟨S4096x1600, .bf16⟩
  | .hbm, ⟨4, _⟩ => ⟨S4096x1600, .f32⟩
  | .hbm, ⟨5, _⟩ => ⟨S128x1600, .f32⟩
  | .hbm, ⟨6, _⟩ => ⟨S128x1x1600, .f32⟩
  | .hbm, ⟨7, _⟩ => ⟨S128x1x64, .f32⟩
  | .hbm, ⟨8, _⟩ => ⟨S1, .f32⟩
  | .hbm, ⟨9, _⟩ => ⟨S_, .f32⟩
  | .hbm, ⟨10, _⟩ => ⟨S1, .f32⟩
  | .hbm, ⟨11, _⟩ => ⟨S1, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S1x1, .f32⟩
  | .hbm, ⟨21, _⟩ => ⟨S1x32, .f32⟩
  | .hbm, ⟨22, _⟩ => ⟨S1x32, .f32⟩
  | .hbm, ⟨23, _⟩ => ⟨S1x32, .f32⟩
  | .hbm, ⟨24, _⟩ => ⟨S1x32, .f32⟩
  | .hbm, ⟨25, _⟩ => ⟨S1x32, .f32⟩
  | .hbm, ⟨26, _⟩ => ⟨S128x1x32, .f32⟩
  | .hbm, ⟨27, _⟩ => ⟨S128x1x32, .f32⟩
  | .hbm, ⟨28, _⟩ => ⟨S1x1x32, .f32⟩
  | .hbm, ⟨29, _⟩ => ⟨S128x1x32, .f32⟩
  | .hbm, ⟨30, _⟩ => ⟨S128x1x32, .f32⟩
  | .hbm, ⟨31, _⟩ => ⟨S1x1x32, .f32⟩
  | .hbm, ⟨32, _⟩ => ⟨S128x1x32, .f32⟩
  | .hbm, ⟨33, _⟩ => ⟨S128x1x32, .f32⟩
  | .hbm, ⟨34, _⟩ => ⟨S128x1x32, .f32⟩
  | .hbm, ⟨35, _⟩ => ⟨S1x1x32, .f32⟩
  | .hbm, ⟨36, _⟩ => ⟨S128x1x32, .f32⟩
  | .hbm, ⟨37, _⟩ => ⟨S128x1x32, .f32⟩
  | .hbm, ⟨38, _⟩ => ⟨S1x1x32, .f32⟩
  | .hbm, ⟨39, _⟩ => ⟨S128x1x32, .f32⟩
  | .hbm, ⟨40, _⟩ => ⟨S128x1x32, .f32⟩
  | .hbm, ⟨41, _⟩ => ⟨S128x1x32, .f32⟩
  | .hbm, ⟨42, _⟩ => ⟨S128x1x64, .f32⟩
  | .hbm, ⟨43, _⟩ => ⟨S128x64, .f32⟩
  | _, _ => ⟨S128x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩

abbrev nD : Nat := 1
abbrev τ : Topo := Topo.v7x

variable {F : FTy → Type} [FloatOps F]
-- ==== Kernel26.lean ====
abbrev S8192x1024 : Shape := ⟨2, ![8192, 1024]⟩
abbrev S1024x6144 : Shape := ⟨2, ![1024, 6144]⟩
abbrev S2048 : Shape := ⟨1, ![2048]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S1x2048x1x128 : Shape := ⟨4, ![1, 2048, 1, 128]⟩
abbrev S4x2048x1x128 : Shape := ⟨4, ![4, 2048, 1, 128]⟩
abbrev S8192x128 : Shape := ⟨2, ![8192, 128]⟩
abbrev S1024x32x192 : Shape := ⟨3, ![1024, 32, 192]⟩
abbrev S1024x32x64 : Shape := ⟨3, ![1024, 32, 64]⟩
abbrev S1024x2048 : Shape := ⟨2, ![1024, 2048]⟩
abbrev S1024x32x2x32 : Shape := ⟨4, ![1024, 32, 2, 32]⟩
abbrev S8192x2048 : Shape := ⟨2, ![8192, 2048]⟩
abbrev S1024x1024 : Shape := ⟨2, ![1024, 1024]⟩
abbrev S1024x128 : Shape := ⟨2, ![1024, 128]⟩

abbrev nBuf : Space → Nat
  | .hbm => 40
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S1024x6144, .bf16⟩
  | .hbm, ⟨2, _⟩ => ⟨S2048, .f32⟩
  | .hbm, ⟨3, _⟩ => ⟨S32, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S2048x1, .f32⟩
  | .hbm, ⟨12, _⟩ => ⟨S1x32, .f32⟩
  | .hbm, ⟨13, _⟩ => ⟨S2048x32, .f32⟩
  | .hbm, ⟨14, _⟩ => ⟨S2048x32, .f32⟩
  | .hbm, ⟨15, _⟩ => ⟨S2048x32, .f32⟩
  | .hbm, ⟨16, _⟩ => ⟨S2048x32, .f32⟩
  | .hbm, ⟨17, _⟩ => ⟨S2048x32, .f32⟩
  | .hbm, ⟨18, _⟩ => ⟨S2048x64, .f32⟩
  | .hbm, ⟨19, _⟩ => ⟨S1x2048x1x64, .f32⟩
  | .hbm, ⟨20, _⟩ => ⟨S1x2048x2x64, .f32⟩
  | .hbm, ⟨21, _⟩ => ⟨S2048x128, .f32⟩
  | .hbm, ⟨22, _⟩ => ⟨S2048x32, .f32⟩
  | .hbm, ⟨23, _⟩ => ⟨S2048x64, .f32⟩
  | .hbm, ⟨24, _⟩ => ⟨S1x2048x1x64, .f32⟩
  | .hbm, ⟨25, _⟩ => ⟨S1x2048x2x64, .f32⟩
  | .hbm, ⟨26, _⟩ => ⟨S2048x128, .f32⟩
  | .hbm, ⟨27, _⟩ => ⟨S1x2048x1x128, .f32⟩
  | .hbm, ⟨28, _⟩ => ⟨S4x2048x1x128, .f32⟩
  | .hbm, ⟨29, _⟩ => ⟨S8192x128, .f32⟩
  | .hbm, ⟨30, _⟩ => ⟨S1x2048x1x128, .f32⟩
  | .hbm, ⟨31, _⟩ => ⟨S4x2048x1x128, .f32⟩
  | .hbm, ⟨32, _⟩ => ⟨S8192x128, .f32⟩
  | .hbm, ⟨33, _⟩ => ⟨S1024x32x192, .bf16⟩
  | .hbm, ⟨34, _⟩ => ⟨S1024x32x64, .bf16⟩
  | .hbm, ⟨35, _⟩ => ⟨S1024x2048, .bf16⟩
  | .hbm, ⟨36, _⟩ => ⟨S1024x32x2x32, .bf16⟩
  | .hbm, ⟨37, _⟩ => ⟨S1024x32x2x32, .bf16⟩
  | .hbm, ⟨38, _⟩ => ⟨S1024x2048, .bf16⟩
  | .hbm, ⟨39, _⟩ => ⟨S8192x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x1024, .bf16⟩
  | .local _ .vmem, ⟨11, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference26Ideal.lean ====
abbrev S8192x1024 : Shape := ⟨2, ![8192, 1024]⟩
abbrev S1024x6144 : Shape := ⟨2, ![1024, 6144]⟩
abbrev S8192x6144 : Shape := ⟨2, ![8192, 6144]⟩
abbrev S4x2048x32x192 : Shape := ⟨4, ![4, 2048, 32, 192]⟩
abbrev S4x2048x32x64 : Shape := ⟨4, ![4, 2048, 32, 64]⟩
abbrev S2048 : Shape := ⟨1, ![2048]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x1x32 : Shape := ⟨3, ![2048, 1, 32]⟩
abbrev S4x2048x32x32 : Shape := ⟨4, ![4, 2048, 32, 32]⟩
abbrev S1x2048x1x32 : Shape := ⟨4, ![1, 2048, 1, 32]⟩
abbrev S8192x2048 : Shape := ⟨2, ![8192, 2048]⟩

abbrev nBuf : Space → Nat
  | .hbm => 43
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x6144, .bf16⟩
  | .hbm, ⟨2, _⟩ => ⟨S8192x1024, .f32⟩
  | .hbm, ⟨3, _⟩ => ⟨S1024x6144, .f32⟩
  | .hbm, ⟨4, _⟩ => ⟨S8192x6144, .f32⟩
  | .hbm, ⟨5, _⟩ => ⟨S4x2048x32x192, .f32⟩
  | .hbm, ⟨6, _⟩ => ⟨S4x2048x32x64, .f32⟩
  | .hbm, ⟨7, _⟩ => ⟨S2048, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S2048x1, .f32⟩
  | .hbm, ⟨17, _⟩ => ⟨S1x32, .f32⟩
  | .hbm, ⟨18, _⟩ => ⟨S2048x32, .f32⟩
  | .hbm, ⟨19, _⟩ => ⟨S2048x32, .f32⟩
  | .hbm, ⟨20, _⟩ => ⟨S2048x32, .f32⟩
  | .hbm, ⟨21, _⟩ => ⟨S2048x1x32, .f32⟩
  | .hbm, ⟨22, _⟩ => ⟨S2048x1x32, .f32⟩
  | .hbm, ⟨23, _⟩ => ⟨S2048x1x32, .f32⟩
  | .hbm, ⟨24, _⟩ => ⟨S4x2048x32x32, .f32⟩
  | .hbm, ⟨25, _⟩ => ⟨S4x2048x32x32, .f32⟩
  | .hbm, ⟨26, _⟩ => ⟨S1x2048x1x32, .f32⟩
  | .hbm, ⟨27, _⟩ => ⟨S4x2048x32x32, .f32⟩
  | .hbm, ⟨28, _⟩ => ⟨S4x2048x32x32, .f32⟩
  | .hbm, ⟨29, _⟩ => ⟨S1x2048x1x32, .f32⟩
  | .hbm, ⟨30, _⟩ => ⟨S4x2048x32x32, .f32⟩
  | .hbm, ⟨31, _⟩ => ⟨S4x2048x32x32, .f32⟩
  | .hbm, ⟨32, _⟩ => ⟨S4x2048x32x32, .f32⟩
  | .hbm, ⟨33, _⟩ => ⟨S1x2048x1x32, .f32⟩
  | .hbm, ⟨34, _⟩ => ⟨S4x2048x32x32, .f32⟩
  | .hbm, ⟨35, _⟩ => ⟨S4x2048x32x32, .f32⟩
  | .hbm, ⟨36, _⟩ => ⟨S1x2048x1x32, .f32⟩
  | .hbm, ⟨37, _⟩ => ⟨S4x2048x32x32, .f32⟩
  | .hbm, ⟨38, _⟩ => ⟨S4x2048x32x32, .f32⟩
  | .hbm, ⟨39, _⟩ => ⟨S4x2048x32x32, .f32⟩
  | .hbm, ⟨40, _⟩ => ⟨S4x2048x32x64, .f32⟩
  | .hbm, ⟨41, _⟩ => ⟨S8192x2048, .f32⟩
  | .hbm, ⟨42, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩

abbrev nD : Nat := 1
abbrev τ : Topo := Topo.v7x

variable {F : FTy → Type} [FloatOps F]
-- ==== Kernel27.lean ====
abbrev S4x2048x4096 : Shape := ⟨3, ![4, 2048, 4096]⟩
abbrev S4x1x4096 : Shape := ⟨3, ![4, 1, 4096]⟩
abbrev S4096 : Shape := ⟨1, ![4096]⟩
abbrev S1x4096 : Shape := ⟨2, ![1, 4096]⟩
abbrev S1x256x4096 : Shape := ⟨3, ![1, 256, 4096]⟩
abbrev S1x1x4096 : Shape := ⟨3, ![1, 1, 4096]⟩
abbrev S256x4096 : Shape := ⟨2, ![256, 4096]⟩
abbrev S256 : Shape := ⟨1, ![256]⟩
abbrev S256x1 : Shape := ⟨2, ![256, 1]⟩

abbrev nBuf : Space → Nat
  | .hbm => 8
  | .vmem => 10
  | .smem => 0
  | _ => 0

abbrev bufTy : (tb : Table) → Fin (tcTables nBuf tb) → BufTy
  | .hbm, ⟨0, _⟩ => ⟨S4x2048x4096, .f32⟩
  | .hbm, ⟨1, _⟩ => ⟨S4x2048x4096, .f32⟩
  | .hbm, ⟨2, _⟩ => ⟨S4x1x4096, .f32⟩
  | .hbm, ⟨3, _⟩ => ⟨S4096, .f32⟩
  | .hbm, ⟨4, _⟩ => ⟨S4096, .f32⟩
  | .hbm, ⟨5, _⟩ => ⟨S1x4096, .f32⟩
  | .hbm, ⟨6, _⟩ => ⟨S1x4096, .f32⟩
  | .hbm, ⟨7, _⟩ => ⟨S4x2048x4096, .f32⟩
  | .local _ .vmem, ⟨0, _⟩ => ⟨S1x256x4096, .f32⟩
  | .local _ .vmem, ⟨1, _⟩ => ⟨S1x256x4096, .f32⟩
  | .local _ .vmem, ⟨2, _⟩ => ⟨S1x256x4096, .f32⟩
  | .local _ .vmem, ⟨3, _⟩ => ⟨S1x256x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x4096, .f32⟩
  | .local _ .vmem, ⟨7, _⟩ => ⟨S1x4096, .f32⟩
  | .local _ .vmem, ⟨8, _⟩ => ⟨S1x256x4096, .f32⟩
  | .local _ .vmem, ⟨9, _⟩ => ⟨S1x256x4096, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference27Ideal.lean ====
abbrev S4x2048x4096 : Shape := ⟨3, ![4, 2048, 4096]⟩
abbrev S4x1x4096 : Shape := ⟨3, ![4, 1, 4096]⟩
abbrev S4096 : Shape := ⟨1, ![4096]⟩
abbrev S_ : Shape := ⟨0, ![]⟩
abbrev S4x2048 : Shape := ⟨2, ![4, 2048]⟩
abbrev S4x2048x1 : Shape := ⟨3, ![4, 2048, 1]⟩
abbrev S1x1x4096 : Shape := ⟨3, ![1, 1, 4096]⟩

abbrev nBuf : Space → Nat
  | .hbm => 43
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4x2048x4096, .f32⟩
  | .hbm, ⟨2, _⟩ => ⟨S4x1x4096, .f32⟩
  | .hbm, ⟨3, _⟩ => ⟨S4096, .f32⟩
  | .hbm, ⟨4, _⟩ => ⟨S4096, .f32⟩
  | .hbm, ⟨5, _⟩ => ⟨S_, .f32⟩
  | .hbm, ⟨6, _⟩ => ⟨S4x2048x4096, .f32⟩
  | .hbm, ⟨7, _⟩ => ⟨S4x2048x4096, .f32⟩
  | .hbm, ⟨8, _⟩ => ⟨S_, .f32⟩
  | .hbm, ⟨9, _⟩ => ⟨S4x1x4096, .f32⟩
  | .hbm, ⟨10, _⟩ => ⟨S4x1x4096, .f32⟩
  | .hbm, ⟨11, _⟩ => ⟨S4x2048x4096, .f32⟩
  | .hbm, ⟨12, _⟩ => ⟨S4x2048x4096, .f32⟩
  | .hbm, ⟨13, _⟩ => ⟨S4x2048x4096, .f32⟩
  | .hbm, ⟨14, _⟩ => ⟨S_, .f32⟩
  | .hbm, ⟨15, _⟩ => ⟨S4x2048, .f32⟩
  | .hbm, ⟨16, _⟩ => ⟨S4x2048x1, .f32⟩
  | .hbm, ⟨17, _⟩ => ⟨S_, .f32⟩
  | .hbm, ⟨18, _⟩ => ⟨S4x2048x1, .f32⟩
  | .hbm, ⟨19, _⟩ => ⟨S4x2048x1, .f32⟩
  | .hbm, ⟨20, _⟩ => ⟨S4x2048x4096, .f32⟩
  | .hbm, ⟨21, _⟩ => ⟨S4x2048x4096, .f32⟩
  | .hbm, ⟨22, _⟩ => ⟨S4x2048x4096, .f32⟩
  | .hbm, ⟨23, _⟩ => ⟨S_, .f32⟩
  | .hbm, ⟨24, _⟩ => ⟨S4x2048, .f32⟩
  | .hbm, ⟨25, _⟩ => ⟨S4x2048x1, .f32⟩
  | .hbm, ⟨26, _⟩ => ⟨S_, .f32⟩
  | .hbm, ⟨27, _⟩ => ⟨S4x2048x1, .f32⟩
  | .hbm, ⟨28, _⟩ => ⟨S4x2048x1, .f32⟩
  | .hbm, ⟨29, _⟩ => ⟨S4x2048x4096, .f32⟩
  | .hbm, ⟨30, _⟩ => ⟨S4x2048x4096, .f32⟩
  | .hbm, ⟨31, _⟩ => ⟨S_, .f32⟩
  | .hbm, ⟨32, _⟩ => ⟨S4x2048x1, .f32⟩
  | .hbm, ⟨33, _⟩ => ⟨S4x2048x1, .f32⟩
  | .hbm, ⟨34, _⟩ => ⟨S4x2048x1, .f32⟩
  | .hbm, ⟨35, _⟩ => ⟨S4x2048x4096, .f32⟩
  | .hbm, ⟨36, _⟩ => ⟨S4x2048x4096, .f32⟩
  | .hbm, ⟨37, _⟩ => ⟨S1x1x4096, .f32⟩
  | .hbm, ⟨38, _⟩ => ⟨S4x2048x4096, .f32⟩
  | .hbm, ⟨39, _⟩ => ⟨S4x2048x4096, .f32⟩
  | .hbm, ⟨40, _⟩ => ⟨S1x1x4096, .f32⟩
  | .hbm, ⟨41, _⟩ => ⟨S4x2048x4096, .f32⟩
  | .hbm, ⟨42, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]
-- ==== Kernel28.lean ====
abbrev S1x128x4096 : Shape := ⟨3, ![1, 128, 4096]⟩
abbrev S4096 : Shape := ⟨1, ![4096]⟩
abbrev S1x4096 : Shape := ⟨2, ![1, 4096]⟩
abbrev S128x4096 : Shape := ⟨2, ![128, 4096]⟩
abbrev S128 : Shape := ⟨1, ![128]⟩
abbrev S128x1 : Shape := ⟨2, ![128, 1]⟩

abbrev nBuf : Space → Nat
  | .hbm => 8
  | .vmem => 6
  | .smem => 0
  | _ => 0

abbrev bufTy : (tb : Table) → Fin (tcTables nBuf tb) → BufTy
  | .hbm, ⟨0, _⟩ => ⟨S1x128x4096, .f32⟩
  | .hbm, ⟨1, _⟩ => ⟨S1x128x4096, .f32⟩
  | .hbm, ⟨2, _⟩ => ⟨S1x128x4096, .f32⟩
  | .hbm, ⟨3, _⟩ => ⟨S4096, .f32⟩
  | .hbm, ⟨4, _⟩ => ⟨S4096, .f32⟩
  | .hbm, ⟨5, _⟩ => ⟨S1x4096, .f32⟩
  | .hbm, ⟨6, _⟩ => ⟨S1x4096, .f32⟩
  | .hbm, ⟨7, _⟩ => ⟨S1x128x4096, .f32⟩
  | .local _ .vmem, ⟨0, _⟩ => ⟨S1x128x4096, .f32⟩
  | .local _ .vmem, ⟨1, _⟩ => ⟨S1x128x4096, .f32⟩
  | .local _ .vmem, ⟨2, _⟩ => ⟨S1x128x4096, .f32⟩
  | .local _ .vmem, ⟨3, _⟩ => ⟨S1x4096, .f32⟩
  | .local _ .vmem, ⟨4, _⟩ => ⟨S1x4096, .f32⟩
  | .local _ .vmem, ⟨5, _⟩ => ⟨S1x128x4096, .f32⟩
  | _, _ => ⟨S1x128x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x128x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x128x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x128x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]
-- ==== Reference28Ideal.lean ====
abbrev S1x128x4096 : Shape := ⟨3, ![1, 128, 4096]⟩
abbrev S4096 : Shape := ⟨1, ![4096]⟩
abbrev S_ : Shape := ⟨0, ![]⟩
abbrev S1x128 : Shape := ⟨2, ![1, 128]⟩
abbrev S1x128x1 : Shape := ⟨3, ![1, 128, 1]⟩
abbrev S1x1x4096 : Shape := ⟨3, ![1, 1, 4096]⟩

abbrev nBuf : Space → Nat
  | .hbm => 42
  | .vmem => 0
  | .smem => 0
  | _ => 0

abbrev bufTy : (tb : Table) → Fin (tcTables nBuf tb) → BufTy
  | .hbm, ⟨0, _⟩ => ⟨S1x128x4096, .f32⟩
  | .hbm, ⟨1, _⟩ => ⟨S1x128x4096, .f32⟩
  | .hbm, ⟨2, _⟩ => ⟨S1x128x4096, .f32⟩
  | .hbm, ⟨3, _⟩ => ⟨S4096, .f32⟩
  | .hbm, ⟨4, _⟩ => ⟨S4096, .f32⟩
  | .hbm, ⟨5, _⟩ => ⟨S_, .f32⟩
  | .hbm, ⟨6, _⟩ => ⟨S1x128x4096, .f32⟩
  | .hbm, ⟨7, _⟩ => ⟨S1x128x4096, .f32⟩
  | .hbm, ⟨8, _⟩ => ⟨S_, .f32⟩
  | .hbm, ⟨9, _⟩ => ⟨S1x128x4096, .f32⟩
  | .hbm, ⟨10, _⟩ => ⟨S1x128x4096, .f32⟩
  | .hbm, ⟨11, _⟩ => ⟨S1x128x4096, .f32⟩
  | .hbm, ⟨12, _⟩ => ⟨S1x128x4096, .f32⟩
  | .hbm, ⟨13, _⟩ => ⟨S_, .f32⟩
  | .hbm, ⟨14, _⟩ => ⟨S1x128, .f32⟩
  | .hbm, ⟨15, _⟩ => ⟨S1x128x1, .f32⟩
  | .hbm, ⟨16, _⟩ => ⟨S_, .f32⟩
  | .hbm, ⟨17, _⟩ => ⟨S1x128x1, .f32⟩
  | .hbm, ⟨18, _⟩ => ⟨S1x128x1, .f32⟩
  | .hbm, ⟨19, _⟩ => ⟨S1x128x4096, .f32⟩
  | .hbm, ⟨20, _⟩ => ⟨S1x128x4096, .f32⟩
  | .hbm, ⟨21, _⟩ => ⟨S1x128x4096, .f32⟩
  | .hbm, ⟨22, _⟩ => ⟨S_, .f32⟩
  | .hbm, ⟨23, _⟩ => ⟨S1x128, .f32⟩
  | .hbm, ⟨24, _⟩ => ⟨S1x128x1, .f32⟩
  | .hbm, ⟨25, _⟩ => ⟨S_, .f32⟩
  | .hbm, ⟨26, _⟩ => ⟨S1x128x1, .f32⟩
  | .hbm, ⟨27, _⟩ => ⟨S1x128x1, .f32⟩
  | .hbm, ⟨28, _⟩ => ⟨S1x128x4096, .f32⟩
  | .hbm, ⟨29, _⟩ => ⟨S1x128x4096, .f32⟩
  | .hbm, ⟨30, _⟩ => ⟨S_, .f32⟩
  | .hbm, ⟨31, _⟩ => ⟨S1x128x1, .f32⟩
  | .hbm, ⟨32, _⟩ => ⟨S1x128x1, .f32⟩
  | .hbm, ⟨33, _⟩ => ⟨S1x128x1, .f32⟩
  | .hbm, ⟨34, _⟩ => ⟨S1x128x4096, .f32⟩
  | .hbm, ⟨35, _⟩ => ⟨S1x128x4096, .f32⟩
  | .hbm, ⟨36, _⟩ => ⟨S1x1x4096, .f32⟩
  | .hbm, ⟨37, _⟩ => ⟨S1x128x4096, .f32⟩
  | .hbm, ⟨38, _⟩ => ⟨S1x128x4096, .f32⟩
  | .hbm, ⟨39, _⟩ => ⟨S1x1x4096, .f32⟩
  | .hbm, ⟨40, _⟩ => ⟨S1x128x4096, .f32⟩
  | .hbm, ⟨41, _⟩ => ⟨S1x128x4096, .f32⟩
  | _, _ => ⟨S1x128x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]
-- ==== Kernel29.lean ====
abbrev S128x4096 : Shape := ⟨2, ![128, 4096]⟩
abbrev S2x4096x4096 : Shape := ⟨3, ![2, 4096, 4096]⟩
abbrev S1x4096x1024 : Shape := ⟨3, ![1, 4096, 1024]⟩
abbrev S128x1024 : Shape := ⟨2, ![128, 1024]⟩
abbrev S4096x1024 : Shape := ⟨2, ![4096, 1024]⟩

abbrev nBuf : Space → Nat
  | .hbm => 3
  | .vmem => 5
  | .smem => 0
  | _ => 0

abbrev bufTy : (tb : Table) → Fin (tcTables nBuf tb) → BufTy
  | .hbm, ⟨0, _⟩ => ⟨S128x4096, .bf16⟩
  | .hbm, ⟨1, _⟩ => ⟨S2x4096x4096, .bf16⟩
  | .hbm, ⟨2, _⟩ => ⟨S128x4096, .f32⟩
  | .local _ .vmem, ⟨0, _⟩ => ⟨S128x4096, .bf16⟩
  | .local _ .vmem, ⟨1, _⟩ => ⟨S1x4096x1024, .bf16⟩
  | .local _ .vmem, ⟨2, _⟩ => ⟨S1x4096x1024, .bf16⟩
  | .local _ .vmem, ⟨3, _⟩ => ⟨S128x1024, .f32⟩
  | .local _ .vmem, ⟨4, _⟩ => ⟨S128x1024, .f32⟩
  | _, _ => ⟨S128x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S128x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference29Ideal.lean ====
abbrev S128x4096 : Shape := ⟨2, ![128, 4096]⟩
abbrev S2x4096x4096 : Shape := ⟨3, ![2, 4096, 4096]⟩
abbrev S1x4096x4096 : Shape := ⟨3, ![1, 4096, 4096]⟩
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S128x4096, .bf16⟩
  | .hbm, ⟨1, _⟩ => ⟨S2x4096x4096, .bf16⟩
  | .hbm, ⟨2, _⟩ => ⟨S128x4096, .f32⟩
  | .hbm, ⟨3, _⟩ => ⟨S1x4096x4096, .bf16⟩
  | .hbm, ⟨4, _⟩ => ⟨S4096x4096, .bf16⟩
  | .hbm, ⟨5, _⟩ => ⟨S4096x4096, .f32⟩
  | .hbm, ⟨6, _⟩ => ⟨S128x4096, .f32⟩
  | _, _ => ⟨S128x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel30.lean ====
abbrev S128x4096 : Shape := ⟨2, ![128, 4096]⟩
abbrev S2x4096x4096 : Shape := ⟨3, ![2, 4096, 4096]⟩
abbrev S1x4096x1024 : Shape := ⟨3, ![1, 4096, 1024]⟩
abbrev S128x1024 : Shape := ⟨2, ![128, 1024]⟩
abbrev S4096x1024 : Shape := ⟨2, ![4096, 1024]⟩

abbrev nBuf : Space → Nat
  | .hbm => 3
  | .vmem => 5
  | .smem => 0
  | _ => 0

abbrev bufTy : (tb : Table) → Fin (tcTables nBuf tb) → BufTy
  | .hbm, ⟨0, _⟩ => ⟨S128x4096, .bf16⟩
  | .hbm, ⟨1, _⟩ => ⟨S2x4096x4096, .bf16⟩
  | .hbm, ⟨2, _⟩ => ⟨S128x4096, .f32⟩
  | .local _ .vmem, ⟨0, _⟩ => ⟨S128x4096, .bf16⟩
  | .local _ .vmem, ⟨1, _⟩ => ⟨S1x4096x1024, .bf16⟩
  | .local _ .vmem, ⟨2, _⟩ => ⟨S1x4096x1024, .bf16⟩
  | .local _ .vmem, ⟨3, _⟩ => ⟨S128x1024, .f32⟩
  | .local _ .vmem, ⟨4, _⟩ => ⟨S128x1024, .f32⟩
  | _, _ => ⟨S128x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c1_i32 : BitVec 32 := 1#32
  let c0_i32_0 : BitVec 32 := 0#32
  let c0_i32_1 : BitVec 32 := 0#32
  ![c1_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S128x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference30Ideal.lean ====
abbrev S128x4096 : Shape := ⟨2, ![128, 4096]⟩
abbrev S2x4096x4096 : Shape := ⟨3, ![2, 4096, 4096]⟩
abbrev S1x4096x4096 : Shape := ⟨3, ![1, 4096, 4096]⟩
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S128x4096, .bf16⟩
  | .hbm, ⟨1, _⟩ => ⟨S2x4096x4096, .bf16⟩
  | .hbm, ⟨2, _⟩ => ⟨S128x4096, .f32⟩
  | .hbm, ⟨3, _⟩ => ⟨S1x4096x4096, .bf16⟩
  | .hbm, ⟨4, _⟩ => ⟨S4096x4096, .bf16⟩
  | .hbm, ⟨5, _⟩ => ⟨S4096x4096, .f32⟩
  | .hbm, ⟨6, _⟩ => ⟨S128x4096, .f32⟩
  | _, _ => ⟨S128x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel31.lean ====
abbrev S128x4096 : Shape := ⟨2, ![128, 4096]⟩
abbrev S2x4096x8192 : Shape := ⟨3, ![2, 4096, 8192]⟩
abbrev S1x4096x512 : Shape := ⟨3, ![1, 4096, 512]⟩
abbrev S128x512 : Shape := ⟨2, ![128, 512]⟩
abbrev S4096x512 : Shape := ⟨2, ![4096, 512]⟩

abbrev nBuf : Space → Nat
  | .hbm => 3
  | .vmem => 7
  | .smem => 0
  | _ => 0

abbrev bufTy : (tb : Table) → Fin (tcTables nBuf tb) → BufTy
  | .hbm, ⟨0, _⟩ => ⟨S128x4096, .bf16⟩
  | .hbm, ⟨1, _⟩ => ⟨S2x4096x8192, .bf16⟩
  | .hbm, ⟨2, _⟩ => ⟨S128x4096, .f32⟩
  | .local _ .vmem, ⟨0, _⟩ => ⟨S128x4096, .bf16⟩
  | .local _ .vmem, ⟨1, _⟩ => ⟨S1x4096x512, .bf16⟩
  | .local _ .vmem, ⟨2, _⟩ => ⟨S1x4096x512, .bf16⟩
  | .local _ .vmem, ⟨3, _⟩ => ⟨S1x4096x512, .bf16⟩
  | .local _ .vmem, ⟨4, _⟩ => ⟨S1x4096x512, .bf16⟩
  | .local _ .vmem, ⟨5, _⟩ => ⟨S128x512, .f32⟩
  | .local _ .vmem, ⟨6, _⟩ => ⟨S128x512, .f32⟩
  | _, _ => ⟨S128x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S128x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference31Ideal.lean ====
abbrev S128x4096 : Shape := ⟨2, ![128, 4096]⟩
abbrev S2x4096x8192 : Shape := ⟨3, ![2, 4096, 8192]⟩
abbrev S1x4096x8192 : Shape := ⟨3, ![1, 4096, 8192]⟩
abbrev S4096x8192 : Shape := ⟨2, ![4096, 8192]⟩
abbrev S128x8192 : Shape := ⟨2, ![128, 8192]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S128x4096, .bf16⟩
  | .hbm, ⟨1, _⟩ => ⟨S2x4096x8192, .bf16⟩
  | .hbm, ⟨2, _⟩ => ⟨S128x4096, .f32⟩
  | .hbm, ⟨3, _⟩ => ⟨S1x4096x8192, .bf16⟩
  | .hbm, ⟨4, _⟩ => ⟨S4096x8192, .bf16⟩
  | .hbm, ⟨5, _⟩ => ⟨S4096x8192, .f32⟩
  | .hbm, ⟨6, _⟩ => ⟨S128x8192, .f32⟩
  | .hbm, ⟨7, _⟩ => ⟨S128x4096, .f32⟩
  | .hbm, ⟨8, _⟩ => ⟨S128x4096, .f32⟩
  | .hbm, ⟨9, _⟩ => ⟨S128x4096, .f32⟩
  | .hbm, ⟨10, _⟩ => ⟨S128x4096, .f32⟩
  | .hbm, ⟨11, _⟩ => ⟨S_, .f32⟩
  | .hbm, ⟨12, _⟩ => ⟨S128x4096, .f32⟩
  | .hbm, ⟨13, _⟩ => ⟨S128x4096, .f32⟩
  | .hbm, ⟨14, _⟩ => ⟨S_, .f32⟩
  | .hbm, ⟨15, _⟩ => ⟨S128x4096, .f32⟩
  | .hbm, ⟨16, _⟩ => ⟨S128x4096, .f32⟩
  | .hbm, ⟨17, _⟩ => ⟨S128x4096, .f32⟩
  | _, _ => ⟨S128x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== Kernel32.lean ====
abbrev S128x4096 : Shape := ⟨2, ![128, 4096]⟩
abbrev S2x4096x8192 : Shape := ⟨3, ![2, 4096, 8192]⟩
abbrev S1x4096x512 : Shape := ⟨3, ![1, 4096, 512]⟩
abbrev S128x512 : Shape := ⟨2, ![128, 512]⟩
abbrev S4096x512 : Shape := ⟨2, ![4096, 512]⟩

abbrev nBuf : Space → Nat
  | .hbm => 3
  | .vmem => 7
  | .smem => 0
  | _ => 0

abbrev bufTy : (tb : Table) → Fin (tcTables nBuf tb) → BufTy
  | .hbm, ⟨0, _⟩ => ⟨S128x4096, .bf16⟩
  | .hbm, ⟨1, _⟩ => ⟨S2x4096x8192, .bf16⟩
  | .hbm, ⟨2, _⟩ => ⟨S128x4096, .f32⟩
  | .local _ .vmem, ⟨0, _⟩ => ⟨S128x4096, .bf16⟩
  | .local _ .vmem, ⟨1, _⟩ => ⟨S1x4096x512, .bf16⟩
  | .local _ .vmem, ⟨2, _⟩ => ⟨S1x4096x512, .bf16⟩
  | .local _ .vmem, ⟨3, _⟩ => ⟨S1x4096x512, .bf16⟩
  | .local _ .vmem, ⟨4, _⟩ => ⟨S1x4096x512, .bf16⟩
  | .local _ .vmem, ⟨5, _⟩ => ⟨S128x512, .f32⟩
  | .local _ .vmem, ⟨6, _⟩ => ⟨S128x512, .f32⟩
  | _, _ => ⟨S128x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c1_i32 : BitVec 32 := 1#32
  let c0_i32_0 : BitVec 32 := 0#32
  let c0_i32_1 : BitVec 32 := 0#32
  ![c1_i32.toNat, c0_i32_0.toNat, v0.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c1_i32 : BitVec 32 := 1#32
  let c0_i32 : BitVec 32 := 0#32
  let c0_i32_0 : BitVec 32 := 0#32
  ![c1_i32.toNat, c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S128x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference32Ideal.lean ====
abbrev S128x4096 : Shape := ⟨2, ![128, 4096]⟩
abbrev S2x4096x8192 : Shape := ⟨3, ![2, 4096, 8192]⟩
abbrev S1x4096x8192 : Shape := ⟨3, ![1, 4096, 8192]⟩
abbrev S4096x8192 : Shape := ⟨2, ![4096, 8192]⟩
abbrev S128x8192 : Shape := ⟨2, ![128, 8192]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S128x4096, .bf16⟩
  | .hbm, ⟨1, _⟩ => ⟨S2x4096x8192, .bf16⟩
  | .hbm, ⟨2, _⟩ => ⟨S128x4096, .f32⟩
  | .hbm, ⟨3, _⟩ => ⟨S1x4096x8192, .bf16⟩
  | .hbm, ⟨4, _⟩ => ⟨S4096x8192, .bf16⟩
  | .hbm, ⟨5, _⟩ => ⟨S4096x8192, .f32⟩
  | .hbm, ⟨6, _⟩ => ⟨S128x8192, .f32⟩
  | .hbm, ⟨7, _⟩ => ⟨S128x4096, .f32⟩
  | .hbm, ⟨8, _⟩ => ⟨S128x4096, .f32⟩
  | .hbm, ⟨9, _⟩ => ⟨S128x4096, .f32⟩
  | .hbm, ⟨10, _⟩ => ⟨S128x4096, .f32⟩
  | .hbm, ⟨11, _⟩ => ⟨S_, .f32⟩
  | .hbm, ⟨12, _⟩ => ⟨S128x4096, .f32⟩
  | .hbm, ⟨13, _⟩ => ⟨S128x4096, .f32⟩
  | .hbm, ⟨14, _⟩ => ⟨S_, .f32⟩
  | .hbm, ⟨15, _⟩ => ⟨S128x4096, .f32⟩
  | .hbm, ⟨16, _⟩ => ⟨S128x4096, .f32⟩
  | .hbm, ⟨17, _⟩ => ⟨S128x4096, .f32⟩
  | _, _ => ⟨S128x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== Kernel33.lean ====
abbrev S128x4096 : Shape := ⟨2, ![128, 4096]⟩
abbrev S1x4096x4096 : Shape := ⟨3, ![1, 4096, 4096]⟩
abbrev S1x4096x1024 : Shape := ⟨3, ![1, 4096, 1024]⟩
abbrev S128x1024 : Shape := ⟨2, ![128, 1024]⟩
abbrev S4096x1024 : Shape := ⟨2, ![4096, 1024]⟩

abbrev nBuf : Space → Nat
  | .hbm => 3
  | .vmem => 5
  | .smem => 0
  | _ => 0

abbrev bufTy : (tb : Table) → Fin (tcTables nBuf tb) → BufTy
  | .hbm, ⟨0, _⟩ => ⟨S128x4096, .bf16⟩
  | .hbm, ⟨1, _⟩ => ⟨S1x4096x4096, .bf16⟩
  | .hbm, ⟨2, _⟩ => ⟨S128x4096, .f32⟩
  | .local _ .vmem, ⟨0, _⟩ => ⟨S128x4096, .bf16⟩
  | .local _ .vmem, ⟨1, _⟩ => ⟨S1x4096x1024, .bf16⟩
  | .local _ .vmem, ⟨2, _⟩ => ⟨S1x4096x1024, .bf16⟩
  | .local _ .vmem, ⟨3, _⟩ => ⟨S128x1024, .f32⟩
  | .local _ .vmem, ⟨4, _⟩ => ⟨S128x1024, .f32⟩
  | _, _ => ⟨S128x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S128x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference33Ideal.lean ====
abbrev S128x4096 : Shape := ⟨2, ![128, 4096]⟩
abbrev S1x4096x4096 : Shape := ⟨3, ![1, 4096, 4096]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S128x4096, .bf16⟩
  | .hbm, ⟨1, _⟩ => ⟨S1x4096x4096, .bf16⟩
  | .hbm, ⟨2, _⟩ => ⟨S128x4096, .f32⟩
  | .hbm, ⟨3, _⟩ => ⟨S4096x4096, .bf16⟩
  | .hbm, ⟨4, _⟩ => ⟨S4096x4096, .f32⟩
  | .hbm, ⟨5, _⟩ => ⟨S128x4096, .f32⟩
  | _, _ => ⟨S128x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel34.lean ====
abbrev S128x4096 : Shape := ⟨2, ![128, 4096]⟩
abbrev S1x4096x5152 : Shape := ⟨3, ![1, 4096, 5152]⟩
abbrev S1x4096x1024 : Shape := ⟨3, ![1, 4096, 1024]⟩
abbrev S128x1024 : Shape := ⟨2, ![128, 1024]⟩
abbrev S4096x1024 : Shape := ⟨2, ![4096, 1024]⟩

abbrev nBuf : Space → Nat
  | .hbm => 3
  | .vmem => 5
  | .smem => 0
  | _ => 0

abbrev bufTy : (tb : Table) → Fin (tcTables nBuf tb) → BufTy
  | .hbm, ⟨0, _⟩ => ⟨S128x4096, .bf16⟩
  | .hbm, ⟨1, _⟩ => ⟨S1x4096x5152, .bf16⟩
  | .hbm, ⟨2, _⟩ => ⟨S128x4096, .f32⟩
  | .local _ .vmem, ⟨0, _⟩ => ⟨S128x4096, .bf16⟩
  | .local _ .vmem, ⟨1, _⟩ => ⟨S1x4096x1024, .bf16⟩
  | .local _ .vmem, ⟨2, _⟩ => ⟨S1x4096x1024, .bf16⟩
  | .local _ .vmem, ⟨3, _⟩ => ⟨S128x1024, .f32⟩
  | .local _ .vmem, ⟨4, _⟩ => ⟨S128x1024, .f32⟩
  | _, _ => ⟨S128x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S128x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference34Ideal.lean ====
abbrev S128x4096 : Shape := ⟨2, ![128, 4096]⟩
abbrev S1x4096x5152 : Shape := ⟨3, ![1, 4096, 5152]⟩
abbrev S4096x5152 : Shape := ⟨2, ![4096, 5152]⟩
abbrev S128x5152 : Shape := ⟨2, ![128, 5152]⟩

abbrev nBuf : Space → Nat
  | .hbm => 7
  | .vmem => 0
  | .smem => 0
  | _ => 0

abbrev bufTy : (tb : Table) → Fin (tcTables nBuf tb) → BufTy
  | .hbm, ⟨0, _⟩ => ⟨S128x4096, .bf16⟩
  | .hbm, ⟨1, _⟩ => ⟨S1x4096x5152, .bf16⟩
  | .hbm, ⟨2, _⟩ => ⟨S128x4096, .f32⟩
  | .hbm, ⟨3, _⟩ => ⟨S4096x5152, .bf16⟩
  | .hbm, ⟨4, _⟩ => ⟨S4096x5152, .f32⟩
  | .hbm, ⟨5, _⟩ => ⟨S128x5152, .f32⟩
  | .hbm, ⟨6, _⟩ => ⟨S128x4096, .f32⟩
  | _, _ => ⟨S128x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel35.lean ====
abbrev S128x4096 : Shape := ⟨2, ![128, 4096]⟩
abbrev S4x4096x2048 : Shape := ⟨3, ![4, 4096, 2048]⟩
abbrev S128x2048 : Shape := ⟨2, ![128, 2048]⟩
abbrev S1x4096x1024 : Shape := ⟨3, ![1, 4096, 1024]⟩
abbrev S128x1024 : Shape := ⟨2, ![128, 1024]⟩
abbrev S4096x1024 : Shape := ⟨2, ![4096, 1024]⟩

abbrev nBuf : Space → Nat
  | .hbm => 3
  | .vmem => 5
  | .smem => 0
  | _ => 0

abbrev bufTy : (tb : Table) → Fin (tcTables nBuf tb) → BufTy
  | .hbm, ⟨0, _⟩ => ⟨S128x4096, .bf16⟩
  | .hbm, ⟨1, _⟩ => ⟨S4x4096x2048, .bf16⟩
  | .hbm, ⟨2, _⟩ => ⟨S128x2048, .f32⟩
  | .local _ .vmem, ⟨0, _⟩ => ⟨S128x4096, .bf16⟩
  | .local _ .vmem, ⟨1, _⟩ => ⟨S1x4096x1024, .bf16⟩
  | .local _ .vmem, ⟨2, _⟩ => ⟨S1x4096x1024, .bf16⟩
  | .local _ .vmem, ⟨3, _⟩ => ⟨S128x1024, .f32⟩
  | .local _ .vmem, ⟨4, _⟩ => ⟨S128x1024, .f32⟩
  | _, _ => ⟨S128x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S128x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference35Ideal.lean ====
abbrev S128x4096 : Shape := ⟨2, ![128, 4096]⟩
abbrev S4x4096x2048 : Shape := ⟨3, ![4, 4096, 2048]⟩
abbrev S1x4096x2048 : Shape := ⟨3, ![1, 4096, 2048]⟩
abbrev S4096x2048 : Shape := ⟨2, ![4096, 2048]⟩
abbrev S128x2048 : Shape := ⟨2, ![128, 2048]⟩

abbrev nBuf : Space → Nat
  | .hbm => 7
  | .vmem => 0
  | .smem => 0
  | _ => 0

abbrev bufTy : (tb : Table) → Fin (tcTables nBuf tb) → BufTy
  | .hbm, ⟨0, _⟩ => ⟨S128x4096, .bf16⟩
  | .hbm, ⟨1, _⟩ => ⟨S4x4096x2048, .bf16⟩
  | .hbm, ⟨2, _⟩ => ⟨S128x4096, .f32⟩
  | .hbm, ⟨3, _⟩ => ⟨S1x4096x2048, .bf16⟩
  | .hbm, ⟨4, _⟩ => ⟨S4096x2048, .bf16⟩
  | .hbm, ⟨5, _⟩ => ⟨S4096x2048, .f32⟩
  | .hbm, ⟨6, _⟩ => ⟨S128x2048, .f32⟩
  | _, _ => ⟨S128x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel36.lean ====
abbrev S128x4096 : Shape := ⟨2, ![128, 4096]⟩
abbrev S4x4096x2048 : Shape := ⟨3, ![4, 4096, 2048]⟩
abbrev S128x2048 : Shape := ⟨2, ![128, 2048]⟩
abbrev S1x4096x1024 : Shape := ⟨3, ![1, 4096, 1024]⟩
abbrev S128x1024 : Shape := ⟨2, ![128, 1024]⟩
abbrev S4096x1024 : Shape := ⟨2, ![4096, 1024]⟩

abbrev nBuf : Space → Nat
  | .hbm => 3
  | .vmem => 5
  | .smem => 0
  | _ => 0

abbrev bufTy : (tb : Table) → Fin (tcTables nBuf tb) → BufTy
  | .hbm, ⟨0, _⟩ => ⟨S128x4096, .bf16⟩
  | .hbm, ⟨1, _⟩ => ⟨S4x4096x2048, .bf16⟩
  | .hbm, ⟨2, _⟩ => ⟨S128x2048, .f32⟩
  | .local _ .vmem, ⟨0, _⟩ => ⟨S128x4096, .bf16⟩
  | .local _ .vmem, ⟨1, _⟩ => ⟨S1x4096x1024, .bf16⟩
  | .local _ .vmem, ⟨2, _⟩ => ⟨S1x4096x1024, .bf16⟩
  | .local _ .vmem, ⟨3, _⟩ => ⟨S128x1024, .f32⟩
  | .local _ .vmem, ⟨4, _⟩ => ⟨S128x1024, .f32⟩
  | _, _ => ⟨S128x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c1_i32 : BitVec 32 := 1#32
  let c0_i32_0 : BitVec 32 := 0#32
  let c0_i32_1 : BitVec 32 := 0#32
  ![c1_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S128x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference36Ideal.lean ====
abbrev S128x4096 : Shape := ⟨2, ![128, 4096]⟩
abbrev S4x4096x2048 : Shape := ⟨3, ![4, 4096, 2048]⟩
abbrev S1x4096x2048 : Shape := ⟨3, ![1, 4096, 2048]⟩
abbrev S4096x2048 : Shape := ⟨2, ![4096, 2048]⟩
abbrev S128x2048 : Shape := ⟨2, ![128, 2048]⟩

abbrev nBuf : Space → Nat
  | .hbm => 7
  | .vmem => 0
  | .smem => 0
  | _ => 0

abbrev bufTy : (tb : Table) → Fin (tcTables nBuf tb) → BufTy
  | .hbm, ⟨0, _⟩ => ⟨S128x4096, .bf16⟩
  | .hbm, ⟨1, _⟩ => ⟨S4x4096x2048, .bf16⟩
  | .hbm, ⟨2, _⟩ => ⟨S128x4096, .f32⟩
  | .hbm, ⟨3, _⟩ => ⟨S1x4096x2048, .bf16⟩
  | .hbm, ⟨4, _⟩ => ⟨S4096x2048, .bf16⟩
  | .hbm, ⟨5, _⟩ => ⟨S4096x2048, .f32⟩
  | .hbm, ⟨6, _⟩ => ⟨S128x2048, .f32⟩
  | _, _ => ⟨S128x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel37.lean ====
abbrev S128x4096 : Shape := ⟨2, ![128, 4096]⟩
abbrev S4x4096x2048 : Shape := ⟨3, ![4, 4096, 2048]⟩
abbrev S128x2048 : Shape := ⟨2, ![128, 2048]⟩
abbrev S1x4096x1024 : Shape := ⟨3, ![1, 4096, 1024]⟩
abbrev S128x1024 : Shape := ⟨2, ![128, 1024]⟩
abbrev S4096x1024 : Shape := ⟨2, ![4096, 1024]⟩

abbrev nBuf : Space → Nat
  | .hbm => 3
  | .vmem => 5
  | .smem => 0
  | _ => 0

abbrev bufTy : (tb : Table) → Fin (tcTables nBuf tb) → BufTy
  | .hbm, ⟨0, _⟩ => ⟨S128x4096, .bf16⟩
  | .hbm, ⟨1, _⟩ => ⟨S4x4096x2048, .bf16⟩
  | .hbm, ⟨2, _⟩ => ⟨S128x2048, .f32⟩
  | .local _ .vmem, ⟨0, _⟩ => ⟨S128x4096, .bf16⟩
  | .local _ .vmem, ⟨1, _⟩ => ⟨S1x4096x1024, .bf16⟩
  | .local _ .vmem, ⟨2, _⟩ => ⟨S1x4096x1024, .bf16⟩
  | .local _ .vmem, ⟨3, _⟩ => ⟨S128x1024, .f32⟩
  | .local _ .vmem, ⟨4, _⟩ => ⟨S128x1024, .f32⟩
  | _, _ => ⟨S128x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c2_i32 : BitVec 32 := 2#32
  let c0_i32_0 : BitVec 32 := 0#32
  let c0_i32_1 : BitVec 32 := 0#32
  ![c2_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S128x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference37Ideal.lean ====
abbrev S128x4096 : Shape := ⟨2, ![128, 4096]⟩
abbrev S4x4096x2048 : Shape := ⟨3, ![4, 4096, 2048]⟩
abbrev S1x4096x2048 : Shape := ⟨3, ![1, 4096, 2048]⟩
abbrev S4096x2048 : Shape := ⟨2, ![4096, 2048]⟩
abbrev S128x2048 : Shape := ⟨2, ![128, 2048]⟩

abbrev nBuf : Space → Nat
  | .hbm => 7
  | .vmem => 0
  | .smem => 0
  | _ => 0

abbrev bufTy : (tb : Table) → Fin (tcTables nBuf tb) → BufTy
  | .hbm, ⟨0, _⟩ => ⟨S128x4096, .bf16⟩
  | .hbm, ⟨1, _⟩ => ⟨S4x4096x2048, .bf16⟩
  | .hbm, ⟨2, _⟩ => ⟨S128x4096, .f32⟩
  | .hbm, ⟨3, _⟩ => ⟨S1x4096x2048, .bf16⟩
  | .hbm, ⟨4, _⟩ => ⟨S4096x2048, .bf16⟩
  | .hbm, ⟨5, _⟩ => ⟨S4096x2048, .f32⟩
  | .hbm, ⟨6, _⟩ => ⟨S128x2048, .f32⟩
  | _, _ => ⟨S128x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel38.lean ====
abbrev S128x4096 : Shape := ⟨2, ![128, 4096]⟩
abbrev S4x4096x2048 : Shape := ⟨3, ![4, 4096, 2048]⟩
abbrev S128x2048 : Shape := ⟨2, ![128, 2048]⟩
abbrev S1x4096x1024 : Shape := ⟨3, ![1, 4096, 1024]⟩
abbrev S128x1024 : Shape := ⟨2, ![128, 1024]⟩
abbrev S4096x1024 : Shape := ⟨2, ![4096, 1024]⟩

abbrev nBuf : Space → Nat
  | .hbm => 3
  | .vmem => 5
  | .smem => 0
  | _ => 0

abbrev bufTy : (tb : Table) → Fin (tcTables nBuf tb) → BufTy
  | .hbm, ⟨0, _⟩ => ⟨S128x4096, .bf16⟩
  | .hbm, ⟨1, _⟩ => ⟨S4x4096x2048, .bf16⟩
  | .hbm, ⟨2, _⟩ => ⟨S128x2048, .f32⟩
  | .local _ .vmem, ⟨0, _⟩ => ⟨S128x4096, .bf16⟩
  | .local _ .vmem, ⟨1, _⟩ => ⟨S1x4096x1024, .bf16⟩
  | .local _ .vmem, ⟨2, _⟩ => ⟨S1x4096x1024, .bf16⟩
  | .local _ .vmem, ⟨3, _⟩ => ⟨S128x1024, .f32⟩
  | .local _ .vmem, ⟨4, _⟩ => ⟨S128x1024, .f32⟩
  | _, _ => ⟨S128x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c3_i32 : BitVec 32 := 3#32
  let c0_i32_0 : BitVec 32 := 0#32
  let c0_i32_1 : BitVec 32 := 0#32
  ![c3_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S128x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference38Ideal.lean ====
abbrev S128x4096 : Shape := ⟨2, ![128, 4096]⟩
abbrev S4x4096x2048 : Shape := ⟨3, ![4, 4096, 2048]⟩
abbrev S1x4096x2048 : Shape := ⟨3, ![1, 4096, 2048]⟩
abbrev S4096x2048 : Shape := ⟨2, ![4096, 2048]⟩
abbrev S128x2048 : Shape := ⟨2, ![128, 2048]⟩

abbrev nBuf : Space → Nat
  | .hbm => 7
  | .vmem => 0
  | .smem => 0
  | _ => 0

abbrev bufTy : (tb : Table) → Fin (tcTables nBuf tb) → BufTy
  | .hbm, ⟨0, _⟩ => ⟨S128x4096, .bf16⟩
  | .hbm, ⟨1, _⟩ => ⟨S4x4096x2048, .bf16⟩
  | .hbm, ⟨2, _⟩ => ⟨S128x4096, .f32⟩
  | .hbm, ⟨3, _⟩ => ⟨S1x4096x2048, .bf16⟩
  | .hbm, ⟨4, _⟩ => ⟨S4096x2048, .bf16⟩
  | .hbm, ⟨5, _⟩ => ⟨S4096x2048, .f32⟩
  | .hbm, ⟨6, _⟩ => ⟨S128x2048, .f32⟩
  | _, _ => ⟨S128x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel39.lean ====
abbrev S128x4096 : Shape := ⟨2, ![128, 4096]⟩
abbrev S1x4096x1600 : Shape := ⟨3, ![1, 4096, 1600]⟩
abbrev S128x1536 : Shape := ⟨2, ![128, 1536]⟩
abbrev S1x4096x512 : Shape := ⟨3, ![1, 4096, 512]⟩
abbrev S128x512 : Shape := ⟨2, ![128, 512]⟩
abbrev S4096x512 : Shape := ⟨2, ![4096, 512]⟩

abbrev nBuf : Space → Nat
  | .hbm => 3
  | .vmem => 5
  | .smem => 0
  | _ => 0

abbrev bufTy : (tb : Table) → Fin (tcTables nBuf tb) → BufTy
  | .hbm, ⟨0, _⟩ => ⟨S128x4096, .bf16⟩
  | .hbm, ⟨1, _⟩ => ⟨S1x4096x1600, .bf16⟩
  | .hbm, ⟨2, _⟩ => ⟨S128x1536, .f32⟩
  | .local _ .vmem, ⟨0, _⟩ => ⟨S128x4096, .bf16⟩
  | .local _ .vmem, ⟨1, _⟩ => ⟨S1x4096x512, .bf16⟩
  | .local _ .vmem, ⟨2, _⟩ => ⟨S1x4096x512, .bf16⟩
  | .local _ .vmem, ⟨3, _⟩ => ⟨S128x512, .f32⟩
  | .local _ .vmem, ⟨4, _⟩ => ⟨S128x512, .f32⟩
  | _, _ => ⟨S128x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S128x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference39Ideal.lean ====
abbrev S128x4096 : Shape := ⟨2, ![128, 4096]⟩
abbrev S1x4096x1600 : Shape := ⟨3, ![1, 4096, 1600]⟩
abbrev S4096x1600 : Shape := ⟨2, ![4096, 1600]⟩
abbrev S128x1600 : Shape := ⟨2, ![128, 1600]⟩
abbrev S128x1536 : Shape := ⟨2, ![128, 1536]⟩

abbrev nBuf : Space → Nat
  | .hbm => 7
  | .vmem => 0
  | .smem => 0
  | _ => 0

abbrev bufTy : (tb : Table) → Fin (tcTables nBuf tb) → BufTy
  | .hbm, ⟨0, _⟩ => ⟨S128x4096, .bf16⟩
  | .hbm, ⟨1, _⟩ => ⟨S1x4096x1600, .bf16⟩
  | .hbm, ⟨2, _⟩ => ⟨S128x4096, .f32⟩
  | .hbm, ⟨3, _⟩ => ⟨S4096x1600, .bf16⟩
  | .hbm, ⟨4, _⟩ => ⟨S4096x1600, .f32⟩
  | .hbm, ⟨5, _⟩ => ⟨S128x1600, .f32⟩
  | .hbm, ⟨6, _⟩ => ⟨S128x1536, .f32⟩
  | _, _ => ⟨S128x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel40.lean ====
abbrev S128x1024 : Shape := ⟨2, ![128, 1024]⟩
abbrev S1024x6144 : Shape := ⟨2, ![1024, 6144]⟩
abbrev S1024x32x192 : Shape := ⟨3, ![1024, 32, 192]⟩
abbrev S1024x32x128 : Shape := ⟨3, ![1024, 32, 128]⟩
abbrev S1024x4096 : Shape := ⟨2, ![1024, 4096]⟩
abbrev S128x4096 : Shape := ⟨2, ![128, 4096]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S128x1024, .bf16⟩
  | .hbm, ⟨1, _⟩ => ⟨S1024x6144, .bf16⟩
  | .hbm, ⟨2, _⟩ => ⟨S1024x32x192, .bf16⟩
  | .hbm, ⟨3, _⟩ => ⟨S1024x32x128, .bf16⟩
  | .hbm, ⟨4, _⟩ => ⟨S1024x4096, .bf16⟩
  | .hbm, ⟨5, _⟩ => ⟨S128x4096, .bf16⟩
  | .local _ .vmem, ⟨0, _⟩ => ⟨S128x1024, .bf16⟩
  | .local _ .vmem, ⟨1, _⟩ => ⟨S1024x1024, .bf16⟩
  | .local _ .vmem, ⟨2, _⟩ => ⟨S1024x1024, .bf16⟩
  | .local _ .vmem, ⟨3, _⟩ => ⟨S128x1024, .bf16⟩
  | .local _ .vmem, ⟨4, _⟩ => ⟨S128x1024, .bf16⟩
  | _, _ => ⟨S128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference40Ideal.lean ====
abbrev S128x1024 : Shape := ⟨2, ![128, 1024]⟩
abbrev S1024x6144 : Shape := ⟨2, ![1024, 6144]⟩
abbrev S128x6144 : Shape := ⟨2, ![128, 6144]⟩
abbrev S128x32x192 : Shape := ⟨3, ![128, 32, 192]⟩
abbrev S128x32x128 : Shape := ⟨3, ![128, 32, 128]⟩
abbrev S128x4096 : Shape := ⟨2, ![128, 4096]⟩

abbrev nBuf : Space → Nat
  | .hbm => 9
  | .vmem => 0
  | .smem => 0
  | _ => 0

abbrev bufTy : (tb : Table) → Fin (tcTables nBuf tb) → BufTy
  | .hbm, ⟨0, _⟩ => ⟨S128x1024, .bf16⟩
  | .hbm, ⟨1, _⟩ => ⟨S1024x6144, .bf16⟩
  | .hbm, ⟨2, _⟩ => ⟨S128x1024, .f32⟩
  | .hbm, ⟨3, _⟩ => ⟨S1024x6144, .f32⟩
  | .hbm, ⟨4, _⟩ => ⟨S128x6144, .f32⟩
  | .hbm, ⟨5, _⟩ => ⟨S128x32x192, .f32⟩
  | .hbm, ⟨6, _⟩ => ⟨S128x32x128, .f32⟩
  | .hbm, ⟨7, _⟩ => ⟨S128x4096, .f32⟩
  | .hbm, ⟨8, _⟩ => ⟨S128x4096, .bf16⟩
  | _, _ => ⟨S128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Kernel41.lean ====
abbrev S128x1024 : Shape := ⟨2, ![128, 1024]⟩
abbrev S1024x6144 : Shape := ⟨2, ![1024, 6144]⟩
abbrev S1 : Shape := ⟨1, ![1]⟩
abbrev S_ : Shape := ⟨0, ![]⟩
abbrev S1x1 : Shape := ⟨2, ![1, 1]⟩
abbrev S128x1 : Shape := ⟨2, ![128, 1]⟩
abbrev S128 : Shape := ⟨1, ![128]⟩
abbrev S32 : Shape := ⟨1, ![32]⟩
abbrev S1x32 : Shape := ⟨2, ![1, 32]⟩
abbrev S128x32 : Shape := ⟨2, ![128, 32]⟩
abbrev S128x64 : Shape := ⟨2, ![128, 64]⟩
abbrev S1x128x1x64 : Shape := ⟨4, ![1, 128, 1, 64]⟩
abbrev S1x128x2x64 : Shape := ⟨4, ![1, 128, 2, 64]⟩
abbrev S128x128 : Shape := ⟨2, ![128, 128]⟩
abbrev S1024x32x192 : Shape := ⟨3, ![1024, 32, 192]⟩
abbrev S1024x32x64 : Shape := ⟨3, ![1024, 32, 64]⟩
abbrev S1024x2048 : Shape := ⟨2, ![1024, 2048]⟩
abbrev S1024x32x2x32 : Shape := ⟨4, ![1024, 32, 2, 32]⟩
abbrev S128x2048 : Shape := ⟨2, ![128, 2048]⟩
abbrev S1024x1024 : Shape := ⟨2, ![1024, 1024]⟩

abbrev nBuf : Space → Nat
  | .hbm => 40
  | .vmem => 9
  | .smem => 0
  | _ => 0

abbrev bufTy : (tb : Table) → Fin (tcTables nBuf tb) → BufTy
  | .hbm, ⟨0, _⟩ => ⟨S128x1024, .bf16⟩
  | .hbm, ⟨1, _⟩ => ⟨S1024x6144, .bf16⟩
  | .hbm, ⟨2, _⟩ => ⟨S1, .f32⟩
  | .hbm, ⟨3, _⟩ => ⟨S_, .f32⟩
  | .hbm, ⟨4, _⟩ => ⟨S1, .f32⟩
  | .hbm, ⟨5, _⟩ => ⟨S1, .f32⟩
  | .hbm, ⟨6, _⟩ => ⟨S1x1, .f32⟩
  | .hbm, ⟨7, _⟩ => ⟨S128x1, .f32⟩
  | .hbm, ⟨8, _⟩ => ⟨S128, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S128x1, .f32⟩
  | .hbm, ⟨18, _⟩ => ⟨S1x32, .f32⟩
  | .hbm, ⟨19, _⟩ => ⟨S128x32, .f32⟩
  | .hbm, ⟨20, _⟩ => ⟨S128x32, .f32⟩
  | .hbm, ⟨21, _⟩ => ⟨S128x32, .f32⟩
  | .hbm, ⟨22, _⟩ => ⟨S128x32, .f32⟩
  | .hbm, ⟨23, _⟩ => ⟨S128x32, .f32⟩
  | .hbm, ⟨24, _⟩ => ⟨S128x64, .f32⟩
  | .hbm, ⟨25, _⟩ => ⟨S1x128x1x64, .f32⟩
  | .hbm, ⟨26, _⟩ => ⟨S1x128x2x64, .f32⟩
  | .hbm, ⟨27, _⟩ => ⟨S128x128, .f32⟩
  | .hbm, ⟨28, _⟩ => ⟨S128x32, .f32⟩
  | .hbm, ⟨29, _⟩ => ⟨S128x64, .f32⟩
  | .hbm, ⟨30, _⟩ => ⟨S1x128x1x64, .f32⟩
  | .hbm, ⟨31, _⟩ => ⟨S1x128x2x64, .f32⟩
  | .hbm, ⟨32, _⟩ => ⟨S128x128, .f32⟩
  | .hbm, ⟨33, _⟩ => ⟨S1024x32x192, .bf16⟩
  | .hbm, ⟨34, _⟩ => ⟨S1024x32x64, .bf16⟩
  | .hbm, ⟨35, _⟩ => ⟨S1024x2048, .bf16⟩
  | .hbm, ⟨36, _⟩ => ⟨S1024x32x2x32, .bf16⟩
  | .hbm, ⟨37, _⟩ => ⟨S1024x32x2x32, .bf16⟩
  | .hbm, ⟨38, _⟩ => ⟨S1024x2048, .bf16⟩
  | .hbm, ⟨39, _⟩ => ⟨S128x2048, .bf16⟩
  | .local _ .vmem, ⟨0, _⟩ => ⟨S128x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S128x128, .f32⟩
  | .local _ .vmem, ⟨6, _⟩ => ⟨S128x128, .f32⟩
  | .local _ .vmem, ⟨7, _⟩ => ⟨S128x1024, .bf16⟩
  | .local _ .vmem, ⟨8, _⟩ => ⟨S128x1024, .bf16⟩
  | _, _ => ⟨S128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 2 → Memref sig .tc .vmem S128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference41Ideal.lean ====
abbrev S128x1024 : Shape := ⟨2, ![128, 1024]⟩
abbrev S1024x6144 : Shape := ⟨2, ![1024, 6144]⟩
abbrev S128x6144 : Shape := ⟨2, ![128, 6144]⟩
abbrev S128x1x32x192 : Shape := ⟨4, ![128, 1, 32, 192]⟩
abbrev S128x1x32x64 : Shape := ⟨4, ![128, 1, 32, 64]⟩
abbrev S1 : Shape := ⟨1, ![1]⟩
abbrev S_ : Shape := ⟨0, ![]⟩
abbrev S32 : Shape := ⟨1, ![32]⟩
abbrev S1x1 : Shape := ⟨2, ![1, 1]⟩
abbrev S1x32 : Shape := ⟨2, ![1, 32]⟩
abbrev S1x1x32 : Shape := ⟨3, ![1, 1, 32]⟩
abbrev S128x1x32x32 : Shape := ⟨4, ![128, 1, 32, 32]⟩
abbrev S1x1x1x32 : Shape := ⟨4, ![1, 1, 1, 32]⟩
abbrev S128x2048 : Shape := ⟨2, ![128, 2048]⟩

abbrev nBuf : Space → Nat
  | .hbm => 45
  | .vmem => 0
  | .smem => 0
  | _ => 0

abbrev bufTy : (tb : Table) → Fin (tcTables nBuf tb) → BufTy
  | .hbm, ⟨0, _⟩ => ⟨S128x1024, .bf16⟩
  | .hbm, ⟨1, _⟩ => ⟨S1024x6144, .bf16⟩
  | .hbm, ⟨2, _⟩ => ⟨S128x1024, .f32⟩
  | .hbm, ⟨3, _⟩ => ⟨S1024x6144, .f32⟩
  | .hbm, ⟨4, _⟩ => ⟨S128x6144, .f32⟩
  | .hbm, ⟨5, _⟩ => ⟨S128x1x32x192, .f32⟩
  | .hbm, ⟨6, _⟩ => ⟨S128x1x32x64, .f32⟩
  | .hbm, ⟨7, _⟩ => ⟨S1, .f32⟩
  | .hbm, ⟨8, _⟩ => ⟨S_, .f32⟩
  | .hbm, ⟨9, _⟩ => ⟨S1, .f32⟩
  | .hbm, ⟨10, _⟩ => ⟨S1, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S1x1, .f32⟩
  | .hbm, ⟨20, _⟩ => ⟨S1x32, .f32⟩
  | .hbm, ⟨21, _⟩ => ⟨S1x32, .f32⟩
  | .hbm, ⟨22, _⟩ => ⟨S1x32, .f32⟩
  | .hbm, ⟨23, _⟩ => ⟨S1x1x32, .f32⟩
  | .hbm, ⟨24, _⟩ => ⟨S1x1x32, .f32⟩
  | .hbm, ⟨25, _⟩ => ⟨S1x1x32, .f32⟩
  | .hbm, ⟨26, _⟩ => ⟨S128x1x32x32, .f32⟩
  | .hbm, ⟨27, _⟩ => ⟨S128x1x32x32, .f32⟩
  | .hbm, ⟨28, _⟩ => ⟨S1x1x1x32, .f32⟩
  | .hbm, ⟨29, _⟩ => ⟨S128x1x32x32, .f32⟩
  | .hbm, ⟨30, _⟩ => ⟨S128x1x32x32, .f32⟩
  | .hbm, ⟨31, _⟩ => ⟨S1x1x1x32, .f32⟩
  | .hbm, ⟨32, _⟩ => ⟨S128x1x32x32, .f32⟩
  | .hbm, ⟨33, _⟩ => ⟨S128x1x32x32, .f32⟩
  | .hbm, ⟨34, _⟩ => ⟨S128x1x32x32, .f32⟩
  | .hbm, ⟨35, _⟩ => ⟨S1x1x1x32, .f32⟩
  | .hbm, ⟨36, _⟩ => ⟨S128x1x32x32, .f32⟩
  | .hbm, ⟨37, _⟩ => ⟨S128x1x32x32, .f32⟩
  | .hbm, ⟨38, _⟩ => ⟨S1x1x1x32, .f32⟩
  | .hbm, ⟨39, _⟩ => ⟨S128x1x32x32, .f32⟩
  | .hbm, ⟨40, _⟩ => ⟨S128x1x32x32, .f32⟩
  | .hbm, ⟨41, _⟩ => ⟨S128x1x32x32, .f32⟩
  | .hbm, ⟨42, _⟩ => ⟨S128x1x32x64, .f32⟩
  | .hbm, ⟨43, _⟩ => ⟨S128x2048, .f32⟩
  | .hbm, ⟨44, _⟩ => ⟨S128x2048, .bf16⟩
  | _, _ => ⟨S128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩

abbrev nD : Nat := 1
abbrev τ : Topo := Topo.v7x

variable {F : FTy → Type} [FloatOps F]
-- ==== Kernel42.lean ====
abbrev S128x4096 : Shape := ⟨2, ![128, 4096]⟩
abbrev S1x512x8192 : Shape := ⟨3, ![1, 512, 8192]⟩
abbrev S128x16384 : Shape := ⟨2, ![128, 16384]⟩
abbrev S128x128 : Shape := ⟨2, ![128, 128]⟩
abbrev S1x512x128 : Shape := ⟨3, ![1, 512, 128]⟩
abbrev S128x512 : Shape := ⟨2, ![128, 512]⟩
abbrev S512x128 : Shape := ⟨2, ![512, 128]⟩

abbrev nBuf : Space → Nat
  | .hbm => 3
  | .vmem => 6
  | .smem => 0
  | _ => 0

abbrev bufTy : (tb : Table) → Fin (tcTables nBuf tb) → BufTy
  | .hbm, ⟨0, _⟩ => ⟨S128x4096, .bf16⟩
  | .hbm, ⟨1, _⟩ => ⟨S1x512x8192, .bf16⟩
  | .hbm, ⟨2, _⟩ => ⟨S128x16384, .bf16⟩
  | .local _ .vmem, ⟨0, _⟩ => ⟨S128x128, .bf16⟩
  | .local _ .vmem, ⟨1, _⟩ => ⟨S128x128, .bf16⟩
  | .local _ .vmem, ⟨2, _⟩ => ⟨S1x512x128, .bf16⟩
  | .local _ .vmem, ⟨3, _⟩ => ⟨S1x512x128, .bf16⟩
  | .local _ .vmem, ⟨4, _⟩ => ⟨S128x512, .bf16⟩
  | .local _ .vmem, ⟨5, _⟩ => ⟨S128x512, .bf16⟩
  | _, _ => ⟨S128x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c2_i32 : BitVec 32 := 2#32
  let v0 : BitVec 32 := Scalar.muli c2_i32 arg0
  let c0_i32 : BitVec 32 := 0#32
  let v1 : BitVec 32 := Scalar.addi v0 c0_i32
  let c0_i32_0 : BitVec 32 := 0#32
  let c0_i32_1 : BitVec 32 := 0#32
  let c0_i32_2 : BitVec 32 := 0#32
  ![c0_i32_0.toNat, c0_i32_1.toNat, v1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S128x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference42Ideal.lean ====
abbrev S128x4096 : Shape := ⟨2, ![128, 4096]⟩
abbrev S1x512x8192 : Shape := ⟨3, ![1, 512, 8192]⟩
abbrev S512x8192 : Shape := ⟨2, ![512, 8192]⟩
abbrev S512x32x256 : Shape := ⟨3, ![512, 32, 256]⟩
abbrev S128x1x32x128 : Shape := ⟨4, ![128, 1, 32, 128]⟩
abbrev S512x32x128 : Shape := ⟨3, ![512, 32, 128]⟩
abbrev S32x512x128x1 : Shape := ⟨4, ![32, 512, 128, 1]⟩
abbrev S128x32x1x512 : Shape := ⟨4, ![128, 32, 1, 512]⟩
abbrev S128x16384 : Shape := ⟨2, ![128, 16384]⟩

abbrev nBuf : Space → Nat
  | .hbm => 12
  | .vmem => 0
  | .smem => 0
  | _ => 0

abbrev bufTy : (tb : Table) → Fin (tcTables nBuf tb) → BufTy
  | .hbm, ⟨0, _⟩ => ⟨S128x4096, .bf16⟩
  | .hbm, ⟨1, _⟩ => ⟨S1x512x8192, .bf16⟩
  | .hbm, ⟨2, _⟩ => ⟨S512x8192, .bf16⟩
  | .hbm, ⟨3, _⟩ => ⟨S512x8192, .f32⟩
  | .hbm, ⟨4, _⟩ => ⟨S512x32x256, .f32⟩
  | .hbm, ⟨5, _⟩ => ⟨S128x4096, .f32⟩
  | .hbm, ⟨6, _⟩ => ⟨S128x1x32x128, .f32⟩
  | .hbm, ⟨7, _⟩ => ⟨S512x32x128, .f32⟩
  | .hbm, ⟨8, _⟩ => ⟨S32x512x128x1, .f32⟩
  | .hbm, ⟨9, _⟩ => ⟨S128x32x1x512, .f32⟩
  | .hbm, ⟨10, _⟩ => ⟨S128x16384, .f32⟩
  | .hbm, ⟨11, _⟩ => ⟨S128x16384, .bf16⟩
  | _, _ => ⟨S128x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩

abbrev nD : Nat := 1
abbrev τ : Topo := Topo.v7x

variable {F : FTy → Type} [FloatOps F]
-- ==== Kernel43.lean ====
abbrev S128x16384 : Shape := ⟨2, ![128, 16384]⟩
abbrev S1x512x8192 : Shape := ⟨3, ![1, 512, 8192]⟩
abbrev S128x4096 : Shape := ⟨2, ![128, 4096]⟩
abbrev S128x512 : Shape := ⟨2, ![128, 512]⟩
abbrev S1x512x128 : Shape := ⟨3, ![1, 512, 128]⟩
abbrev S128x128 : Shape := ⟨2, ![128, 128]⟩
abbrev S512x128 : Shape := ⟨2, ![512, 128]⟩

abbrev nBuf : Space → Nat
  | .hbm => 3
  | .vmem => 6
  | .smem => 0
  | _ => 0

abbrev bufTy : (tb : Table) → Fin (tcTables nBuf tb) → BufTy
  | .hbm, ⟨0, _⟩ => ⟨S128x16384, .bf16⟩
  | .hbm, ⟨1, _⟩ => ⟨S1x512x8192, .bf16⟩
  | .hbm, ⟨2, _⟩ => ⟨S128x4096, .bf16⟩
  | .local _ .vmem, ⟨0, _⟩ => ⟨S128x512, .bf16⟩
  | .local _ .vmem, ⟨1, _⟩ => ⟨S128x512, .bf16⟩
  | .local _ .vmem, ⟨2, _⟩ => ⟨S1x512x128, .bf16⟩
  | .local _ .vmem, ⟨3, _⟩ => ⟨S1x512x128, .bf16⟩
  | .local _ .vmem, ⟨4, _⟩ => ⟨S128x128, .bf16⟩
  | .local _ .vmem, ⟨5, _⟩ => ⟨S128x128, .bf16⟩
  | _, _ => ⟨S128x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  let c0_i32_1 : BitVec 32 := 0#32
  ![c0_i32.toNat, c0_i32_0.toNat, v1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference43Ideal.lean ====
abbrev S128x16384 : Shape := ⟨2, ![128, 16384]⟩
abbrev S1x512x8192 : Shape := ⟨3, ![1, 512, 8192]⟩
abbrev S512x8192 : Shape := ⟨2, ![512, 8192]⟩
abbrev S512x32x256 : Shape := ⟨3, ![512, 32, 256]⟩
abbrev S128x32x1x512 : Shape := ⟨4, ![128, 32, 1, 512]⟩
abbrev S512x32x128 : Shape := ⟨3, ![512, 32, 128]⟩
abbrev S32x128x128x1 : Shape := ⟨4, ![32, 128, 128, 1]⟩
abbrev S128x1x32x128 : Shape := ⟨4, ![128, 1, 32, 128]⟩
abbrev S128x4096 : Shape := ⟨2, ![128, 4096]⟩

abbrev nBuf : Space → Nat
  | .hbm => 12
  | .vmem => 0
  | .smem => 0
  | _ => 0

abbrev bufTy : (tb : Table) → Fin (tcTables nBuf tb) → BufTy
  | .hbm, ⟨0, _⟩ => ⟨S128x16384, .bf16⟩
  | .hbm, ⟨1, _⟩ => ⟨S1x512x8192, .bf16⟩
  | .hbm, ⟨2, _⟩ => ⟨S512x8192, .bf16⟩
  | .hbm, ⟨3, _⟩ => ⟨S512x8192, .f32⟩
  | .hbm, ⟨4, _⟩ => ⟨S512x32x256, .f32⟩
  | .hbm, ⟨5, _⟩ => ⟨S128x16384, .f32⟩
  | .hbm, ⟨6, _⟩ => ⟨S128x32x1x512, .f32⟩
  | .hbm, ⟨7, _⟩ => ⟨S512x32x128, .f32⟩
  | .hbm, ⟨8, _⟩ => ⟨S32x128x128x1, .f32⟩
  | .hbm, ⟨9, _⟩ => ⟨S128x1x32x128, .f32⟩
  | .hbm, ⟨10, _⟩ => ⟨S128x4096, .f32⟩
  | .hbm, ⟨11, _⟩ => ⟨S128x4096, .bf16⟩
  | _, _ => ⟨S128x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩

abbrev nD : Nat := 1
abbrev τ : Topo := Topo.v7x

variable {F : FTy → Type} [FloatOps F]
-- ==== Kernel44.lean ====
abbrev S4x2048x4096 : Shape := ⟨3, ![4, 2048, 4096]⟩
abbrev S4x1x4096 : Shape := ⟨3, ![4, 1, 4096]⟩
abbrev S4096 : Shape := ⟨1, ![4096]⟩
abbrev S1x4096 : Shape := ⟨2, ![1, 4096]⟩
abbrev S1x256x4096 : Shape := ⟨3, ![1, 256, 4096]⟩
abbrev S1x1x4096 : Shape := ⟨3, ![1, 1, 4096]⟩
abbrev S256x4096 : Shape := ⟨2, ![256, 4096]⟩
abbrev S256 : Shape := ⟨1, ![256]⟩
abbrev S256x1 : Shape := ⟨2, ![256, 1]⟩

abbrev nBuf : Space → Nat
  | .hbm => 11
  | .vmem => 16
  | .smem => 0
  | _ => 0

abbrev bufTy : (tb : Table) → Fin (tcTables nBuf tb) → BufTy
  | .hbm, ⟨0, _⟩ => ⟨S4x2048x4096, .f32⟩
  | .hbm, ⟨1, _⟩ => ⟨S4x2048x4096, .f32⟩
  | .hbm, ⟨2, _⟩ => ⟨S4x1x4096, .f32⟩
  | .hbm, ⟨3, _⟩ => ⟨S4096, .f32⟩
  | .hbm, ⟨4, _⟩ => ⟨S4096, .f32⟩
  | .hbm, ⟨5, _⟩ => ⟨S4x1x4096, .f32⟩
  | .hbm, ⟨6, _⟩ => ⟨S4x1x4096, .f32⟩
  | .hbm, ⟨7, _⟩ => ⟨S1x4096, .f32⟩
  | .hbm, ⟨8, _⟩ => ⟨S1x4096, .f32⟩
  | .hbm, ⟨9, _⟩ => ⟨S4x2048x4096, .f32⟩
  | .hbm, ⟨10, _⟩ => ⟨S4x2048x4096, .bf16⟩
  | .local _ .vmem, ⟨0, _⟩ => ⟨S1x256x4096, .f32⟩
  | .local _ .vmem, ⟨1, _⟩ => ⟨S1x256x4096, .f32⟩
  | .local _ .vmem, ⟨2, _⟩ => ⟨S1x256x4096, .f32⟩
  | .local _ .vmem, ⟨3, _⟩ => ⟨S1x256x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x4096, .f32⟩
  | .local _ .vmem, ⟨7, _⟩ => ⟨S1x4096, .f32⟩
  | .local _ .vmem, ⟨8, _⟩ => ⟨S1x1x4096, .f32⟩
  | .local _ .vmem, ⟨9, _⟩ => ⟨S1x1x4096, .f32⟩
  | .local _ .vmem, ⟨10, _⟩ => ⟨S1x1x4096, .f32⟩
  | .local _ .vmem, ⟨11, _⟩ => ⟨S1x1x4096, .f32⟩
  | .local _ .vmem, ⟨12, _⟩ => ⟨S1x256x4096, .f32⟩
  | .local _ .vmem, ⟨13, _⟩ => ⟨S1x256x4096, .f32⟩
  | .local _ .vmem, ⟨14, _⟩ => ⟨S1x256x4096, .bf16⟩
  | .local _ .vmem, ⟨15, _⟩ => ⟨S1x256x4096, .bf16⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x256x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference44Ideal.lean ====
abbrev S4x2048x4096 : Shape := ⟨3, ![4, 2048, 4096]⟩
abbrev S4x1x4096 : Shape := ⟨3, ![4, 1, 4096]⟩
abbrev S4096 : Shape := ⟨1, ![4096]⟩
abbrev S_ : Shape := ⟨0, ![]⟩
abbrev S4x2048 : Shape := ⟨2, ![4, 2048]⟩
abbrev S4x2048x1 : Shape := ⟨3, ![4, 2048, 1]⟩
abbrev S1x1x4096 : Shape := ⟨3, ![1, 1, 4096]⟩

abbrev nBuf : Space → Nat
  | .hbm => 53
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4x2048x4096, .f32⟩
  | .hbm, ⟨2, _⟩ => ⟨S4x1x4096, .f32⟩
  | .hbm, ⟨3, _⟩ => ⟨S4096, .f32⟩
  | .hbm, ⟨4, _⟩ => ⟨S4096, .f32⟩
  | .hbm, ⟨5, _⟩ => ⟨S4x1x4096, .f32⟩
  | .hbm, ⟨6, _⟩ => ⟨S4x1x4096, .f32⟩
  | .hbm, ⟨7, _⟩ => ⟨S_, .f32⟩
  | .hbm, ⟨8, _⟩ => ⟨S4x2048x4096, .f32⟩
  | .hbm, ⟨9, _⟩ => ⟨S4x2048x4096, .f32⟩
  | .hbm, ⟨10, _⟩ => ⟨S_, .f32⟩
  | .hbm, ⟨11, _⟩ => ⟨S4x1x4096, .f32⟩
  | .hbm, ⟨12, _⟩ => ⟨S4x1x4096, .f32⟩
  | .hbm, ⟨13, _⟩ => ⟨S4x2048x4096, .f32⟩
  | .hbm, ⟨14, _⟩ => ⟨S4x2048x4096, .f32⟩
  | .hbm, ⟨15, _⟩ => ⟨S4x2048x4096, .f32⟩
  | .hbm, ⟨16, _⟩ => ⟨S_, .f32⟩
  | .hbm, ⟨17, _⟩ => ⟨S4x2048, .f32⟩
  | .hbm, ⟨18, _⟩ => ⟨S4x2048x1, .f32⟩
  | .hbm, ⟨19, _⟩ => ⟨S_, .f32⟩
  | .hbm, ⟨20, _⟩ => ⟨S4x2048x1, .f32⟩
  | .hbm, ⟨21, _⟩ => ⟨S4x2048x1, .f32⟩
  | .hbm, ⟨22, _⟩ => ⟨S4x2048x4096, .f32⟩
  | .hbm, ⟨23, _⟩ => ⟨S4x2048x4096, .f32⟩
  | .hbm, ⟨24, _⟩ => ⟨S4x2048x4096, .f32⟩
  | .hbm, ⟨25, _⟩ => ⟨S_, .f32⟩
  | .hbm, ⟨26, _⟩ => ⟨S4x2048, .f32⟩
  | .hbm, ⟨27, _⟩ => ⟨S4x2048x1, .f32⟩
  | .hbm, ⟨28, _⟩ => ⟨S_, .f32⟩
  | .hbm, ⟨29, _⟩ => ⟨S4x2048x1, .f32⟩
  | .hbm, ⟨30, _⟩ => ⟨S4x2048x1, .f32⟩
  | .hbm, ⟨31, _⟩ => ⟨S4x2048x4096, .f32⟩
  | .hbm, ⟨32, _⟩ => ⟨S4x2048x4096, .f32⟩
  | .hbm, ⟨33, _⟩ => ⟨S_, .f32⟩
  | .hbm, ⟨34, _⟩ => ⟨S4x2048x1, .f32⟩
  | .hbm, ⟨35, _⟩ => ⟨S4x2048x1, .f32⟩
  | .hbm, ⟨36, _⟩ => ⟨S4x2048x1, .f32⟩
  | .hbm, ⟨37, _⟩ => ⟨S4x2048x4096, .f32⟩
  | .hbm, ⟨38, _⟩ => ⟨S4x2048x4096, .f32⟩
  | .hbm, ⟨39, _⟩ => ⟨S1x1x4096, .f32⟩
  | .hbm, ⟨40, _⟩ => ⟨S4x2048x4096, .f32⟩
  | .hbm, ⟨41, _⟩ => ⟨S4x2048x4096, .f32⟩
  | .hbm, ⟨42, _⟩ => ⟨S1x1x4096, .f32⟩
  | .hbm, ⟨43, _⟩ => ⟨S4x2048x4096, .f32⟩
  | .hbm, ⟨44, _⟩ => ⟨S4x2048x4096, .f32⟩
  | .hbm, ⟨45, _⟩ => ⟨S_, .f32⟩
  | .hbm, ⟨46, _⟩ => ⟨S4x1x4096, .f32⟩
  | .hbm, ⟨47, _⟩ => ⟨S4x1x4096, .f32⟩
  | .hbm, ⟨48, _⟩ => ⟨S4x2048x4096, .f32⟩
  | .hbm, ⟨49, _⟩ => ⟨S4x2048x4096, .f32⟩
  | .hbm, ⟨50, _⟩ => ⟨S4x2048x4096, .f32⟩
  | .hbm, ⟨51, _⟩ => ⟨S4x2048x4096, .f32⟩
  | .hbm, ⟨52, _⟩ => ⟨S4x2048x4096, .bf16⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_6 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩

abbrev nD : Nat := 1
abbrev τ : Topo := Topo.v7x

variable {F : FTy → Type} [FloatOps F]
-- ==== Kernel45.lean ====
abbrev S1x128x4096 : Shape := ⟨3, ![1, 128, 4096]⟩
abbrev S4096 : Shape := ⟨1, ![4096]⟩
abbrev S1x4096 : Shape := ⟨2, ![1, 4096]⟩
abbrev S128x4096 : Shape := ⟨2, ![128, 4096]⟩
abbrev S128 : Shape := ⟨1, ![128]⟩
abbrev S128x1 : Shape := ⟨2, ![128, 1]⟩

abbrev nBuf : Space → Nat
  | .hbm => 11
  | .vmem => 9
  | .smem => 0
  | _ => 0

abbrev bufTy : (tb : Table) → Fin (tcTables nBuf tb) → BufTy
  | .hbm, ⟨0, _⟩ => ⟨S1x128x4096, .f32⟩
  | .hbm, ⟨1, _⟩ => ⟨S1x128x4096, .f32⟩
  | .hbm, ⟨2, _⟩ => ⟨S1x128x4096, .f32⟩
  | .hbm, ⟨3, _⟩ => ⟨S4096, .f32⟩
  | .hbm, ⟨4, _⟩ => ⟨S4096, .f32⟩
  | .hbm, ⟨5, _⟩ => ⟨S1x128x4096, .f32⟩
  | .hbm, ⟨6, _⟩ => ⟨S1x128x4096, .f32⟩
  | .hbm, ⟨7, _⟩ => ⟨S1x4096, .f32⟩
  | .hbm, ⟨8, _⟩ => ⟨S1x4096, .f32⟩
  | .hbm, ⟨9, _⟩ => ⟨S1x128x4096, .f32⟩
  | .hbm, ⟨10, _⟩ => ⟨S1x128x4096, .bf16⟩
  | .local _ .vmem, ⟨0, _⟩ => ⟨S1x128x4096, .f32⟩
  | .local _ .vmem, ⟨1, _⟩ => ⟨S1x128x4096, .f32⟩
  | .local _ .vmem, ⟨2, _⟩ => ⟨S1x128x4096, .f32⟩
  | .local _ .vmem, ⟨3, _⟩ => ⟨S1x4096, .f32⟩
  | .local _ .vmem, ⟨4, _⟩ => ⟨S1x4096, .f32⟩
  | .local _ .vmem, ⟨5, _⟩ => ⟨S1x128x4096, .f32⟩
  | .local _ .vmem, ⟨6, _⟩ => ⟨S1x128x4096, .f32⟩
  | .local _ .vmem, ⟨7, _⟩ => ⟨S1x128x4096, .f32⟩
  | .local _ .vmem, ⟨8, _⟩ => ⟨S1x128x4096, .bf16⟩
  | _, _ => ⟨S1x128x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x128x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x128x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x128x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x128x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x128x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]

abbrev stage0_8 : Fin 1 → Memref sig .tc .vmem S1x128x4096 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true]
-- ==== Reference45Ideal.lean ====
abbrev S1x128x4096 : Shape := ⟨3, ![1, 128, 4096]⟩
abbrev S4096 : Shape := ⟨1, ![4096]⟩
abbrev S_ : Shape := ⟨0, ![]⟩
abbrev S1x128 : Shape := ⟨2, ![1, 128]⟩
abbrev S1x128x1 : Shape := ⟨3, ![1, 128, 1]⟩
abbrev S1x1x4096 : Shape := ⟨3, ![1, 1, 4096]⟩

abbrev nBuf : Space → Nat
  | .hbm => 50
  | .vmem => 0
  | .smem => 0
  | _ => 0

abbrev bufTy : (tb : Table) → Fin (tcTables nBuf tb) → BufTy
  | .hbm, ⟨0, _⟩ => ⟨S1x128x4096, .f32⟩
  | .hbm, ⟨1, _⟩ => ⟨S1x128x4096, .f32⟩
  | .hbm, ⟨2, _⟩ => ⟨S1x128x4096, .f32⟩
  | .hbm, ⟨3, _⟩ => ⟨S4096, .f32⟩
  | .hbm, ⟨4, _⟩ => ⟨S4096, .f32⟩
  | .hbm, ⟨5, _⟩ => ⟨S1x128x4096, .f32⟩
  | .hbm, ⟨6, _⟩ => ⟨S1x128x4096, .f32⟩
  | .hbm, ⟨7, _⟩ => ⟨S_, .f32⟩
  | .hbm, ⟨8, _⟩ => ⟨S1x128x4096, .f32⟩
  | .hbm, ⟨9, _⟩ => ⟨S1x128x4096, .f32⟩
  | .hbm, ⟨10, _⟩ => ⟨S_, .f32⟩
  | .hbm, ⟨11, _⟩ => ⟨S1x128x4096, .f32⟩
  | .hbm, ⟨12, _⟩ => ⟨S1x128x4096, .f32⟩
  | .hbm, ⟨13, _⟩ => ⟨S1x128x4096, .f32⟩
  | .hbm, ⟨14, _⟩ => ⟨S1x128x4096, .f32⟩
  | .hbm, ⟨15, _⟩ => ⟨S_, .f32⟩
  | .hbm, ⟨16, _⟩ => ⟨S1x128, .f32⟩
  | .hbm, ⟨17, _⟩ => ⟨S1x128x1, .f32⟩
  | .hbm, ⟨18, _⟩ => ⟨S_, .f32⟩
  | .hbm, ⟨19, _⟩ => ⟨S1x128x1, .f32⟩
  | .hbm, ⟨20, _⟩ => ⟨S1x128x1, .f32⟩
  | .hbm, ⟨21, _⟩ => ⟨S1x128x4096, .f32⟩
  | .hbm, ⟨22, _⟩ => ⟨S1x128x4096, .f32⟩
  | .hbm, ⟨23, _⟩ => ⟨S1x128x4096, .f32⟩
  | .hbm, ⟨24, _⟩ => ⟨S_, .f32⟩
  | .hbm, ⟨25, _⟩ => ⟨S1x128, .f32⟩
  | .hbm, ⟨26, _⟩ => ⟨S1x128x1, .f32⟩
  | .hbm, ⟨27, _⟩ => ⟨S_, .f32⟩
  | .hbm, ⟨28, _⟩ => ⟨S1x128x1, .f32⟩
  | .hbm, ⟨29, _⟩ => ⟨S1x128x1, .f32⟩
  | .hbm, ⟨30, _⟩ => ⟨S1x128x4096, .f32⟩
  | .hbm, ⟨31, _⟩ => ⟨S1x128x4096, .f32⟩
  | .hbm, ⟨32, _⟩ => ⟨S_, .f32⟩
  | .hbm, ⟨33, _⟩ => ⟨S1x128x1, .f32⟩
  | .hbm, ⟨34, _⟩ => ⟨S1x128x1, .f32⟩
  | .hbm, ⟨35, _⟩ => ⟨S1x128x1, .f32⟩
  | .hbm, ⟨36, _⟩ => ⟨S1x128x4096, .f32⟩
  | .hbm, ⟨37, _⟩ => ⟨S1x128x4096, .f32⟩
  | .hbm, ⟨38, _⟩ => ⟨S1x1x4096, .f32⟩
  | .hbm, ⟨39, _⟩ => ⟨S1x128x4096, .f32⟩
  | .hbm, ⟨40, _⟩ => ⟨S1x128x4096, .f32⟩
  | .hbm, ⟨41, _⟩ => ⟨S1x1x4096, .f32⟩
  | .hbm, ⟨42, _⟩ => ⟨S1x128x4096, .f32⟩
  | .hbm, ⟨43, _⟩ => ⟨S1x128x4096, .f32⟩
  | .hbm, ⟨44, _⟩ => ⟨S_, .f32⟩
  | .hbm, ⟨45, _⟩ => ⟨S1x128x4096, .f32⟩
  | .hbm, ⟨46, _⟩ => ⟨S1x128x4096, .f32⟩
  | .hbm, ⟨47, _⟩ => ⟨S1x128x4096, .f32⟩
  | .hbm, ⟨48, _⟩ => ⟨S1x128x4096, .f32⟩
  | .hbm, ⟨49, _⟩ => ⟨S1x128x4096, .bf16⟩
  | _, _ => ⟨S1x128x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_cst_4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_5 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩

abbrev nD : Nat := 1
abbrev τ : Topo := Topo.v7x

variable {F : FTy → Type} [FloatOps F]
-- ==== Kernel46.lean ====
abbrev S4x2048x4096 : Shape := ⟨3, ![4, 2048, 4096]⟩
abbrev S4x1x4096 : Shape := ⟨3, ![4, 1, 4096]⟩
abbrev S1x256x4096 : Shape := ⟨3, ![1, 256, 4096]⟩
abbrev S1x1x4096 : Shape := ⟨3, ![1, 1, 4096]⟩
abbrev S256x4096 : Shape := ⟨2, ![256, 4096]⟩
abbrev S1x4096 : Shape := ⟨2, ![1, 4096]⟩

abbrev nBuf : Space → Nat
  | .hbm => 4
  | .vmem => 8
  | .smem => 0
  | _ => 0

abbrev bufTy : (tb : Table) → Fin (tcTables nBuf tb) → BufTy
  | .hbm, ⟨0, _⟩ => ⟨S4x2048x4096, .f32⟩
  | .hbm, ⟨1, _⟩ => ⟨S4x1x4096, .f32⟩
  | .hbm, ⟨2, _⟩ => ⟨S4x1x4096, .f32⟩
  | .hbm, ⟨3, _⟩ => ⟨S4x2048x4096, .bf16⟩
  | .local _ .vmem, ⟨0, _⟩ => ⟨S1x256x4096, .f32⟩
  | .local _ .vmem, ⟨1, _⟩ => ⟨S1x256x4096, .f32⟩
  | .local _ .vmem, ⟨2, _⟩ => ⟨S1x1x4096, .f32⟩
  | .local _ .vmem, ⟨3, _⟩ => ⟨S1x1x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x256x4096, .bf16⟩
  | .local _ .vmem, ⟨7, _⟩ => ⟨S1x256x4096, .bf16⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference46Ideal.lean ====
abbrev S4x2048x4096 : Shape := ⟨3, ![4, 2048, 4096]⟩
abbrev S4x1x4096 : Shape := ⟨3, ![4, 1, 4096]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4x1x4096, .f32⟩
  | .hbm, ⟨2, _⟩ => ⟨S4x1x4096, .f32⟩
  | .hbm, ⟨3, _⟩ => ⟨S_, .f32⟩
  | .hbm, ⟨4, _⟩ => ⟨S4x1x4096, .f32⟩
  | .hbm, ⟨5, _⟩ => ⟨S4x1x4096, .f32⟩
  | .hbm, ⟨6, _⟩ => ⟨S4x2048x4096, .f32⟩
  | .hbm, ⟨7, _⟩ => ⟨S4x2048x4096, .f32⟩
  | .hbm, ⟨8, _⟩ => ⟨S4x2048x4096, .f32⟩
  | .hbm, ⟨9, _⟩ => ⟨S4x2048x4096, .f32⟩
  | .hbm, ⟨10, _⟩ => ⟨S4x2048x4096, .bf16⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel47.lean ====
abbrev S1x128x4096 : Shape := ⟨3, ![1, 128, 4096]⟩
abbrev S128x4096 : Shape := ⟨2, ![128, 4096]⟩

abbrev nBuf : Space → Nat
  | .hbm => 4
  | .vmem => 4
  | .smem => 0
  | _ => 0

abbrev bufTy : (tb : Table) → Fin (tcTables nBuf tb) → BufTy
  | .hbm, ⟨0, _⟩ => ⟨S1x128x4096, .f32⟩
  | .hbm, ⟨1, _⟩ => ⟨S1x128x4096, .f32⟩
  | .hbm, ⟨2, _⟩ => ⟨S1x128x4096, .f32⟩
  | .hbm, ⟨3, _⟩ => ⟨S1x128x4096, .bf16⟩
  | .local _ .vmem, ⟨0, _⟩ => ⟨S1x128x4096, .f32⟩
  | .local _ .vmem, ⟨1, _⟩ => ⟨S1x128x4096, .f32⟩
  | .local _ .vmem, ⟨2, _⟩ => ⟨S1x128x4096, .f32⟩
  | .local _ .vmem, ⟨3, _⟩ => ⟨S1x128x4096, .bf16⟩
  | _, _ => ⟨S1x128x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x128x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x128x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x128x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x128x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]
-- ==== Reference47Ideal.lean ====
abbrev S1x128x4096 : Shape := ⟨3, ![1, 128, 4096]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S1x128x4096, .f32⟩
  | .hbm, ⟨1, _⟩ => ⟨S1x128x4096, .f32⟩
  | .hbm, ⟨2, _⟩ => ⟨S1x128x4096, .f32⟩
  | .hbm, ⟨3, _⟩ => ⟨S_, .f32⟩
  | .hbm, ⟨4, _⟩ => ⟨S1x128x4096, .f32⟩
  | .hbm, ⟨5, _⟩ => ⟨S1x128x4096, .f32⟩
  | .hbm, ⟨6, _⟩ => ⟨S1x128x4096, .f32⟩
  | .hbm, ⟨7, _⟩ => ⟨S1x128x4096, .f32⟩
  | .hbm, ⟨8, _⟩ => ⟨S1x128x4096, .bf16⟩
  | _, _ => ⟨S1x128x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel48.lean ====
abbrev S4x2048x32 : Shape := ⟨3, ![4, 2048, 32]⟩
abbrev S1x2048x32 : Shape := ⟨3, ![1, 2048, 32]⟩
abbrev S128x128 : Shape := ⟨2, ![128, 128]⟩
abbrev S1x32 : Shape := ⟨2, ![1, 32]⟩
abbrev S1x128x32 : Shape := ⟨3, ![1, 128, 32]⟩
abbrev S128x32 : Shape := ⟨2, ![128, 32]⟩

abbrev nBuf : Space → Nat
  | .hbm => 2
  | .vmem => 4
  | .smem => 0
  | _ => 0

abbrev bufTy : (tb : Table) → Fin (tcTables nBuf tb) → BufTy
  | .hbm, ⟨0, _⟩ => ⟨S4x2048x32, .f32⟩
  | .hbm, ⟨1, _⟩ => ⟨S4x2048x32, .f32⟩
  | .local _ .vmem, ⟨0, _⟩ => ⟨S1x2048x32, .f32⟩
  | .local _ .vmem, ⟨1, _⟩ => ⟨S1x2048x32, .f32⟩
  | .local _ .vmem, ⟨2, _⟩ => ⟨S1x2048x32, .f32⟩
  | .local _ .vmem, ⟨3, _⟩ => ⟨S1x2048x32, .f32⟩
  | _, _ => ⟨S4x2048x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference48Ideal.lean ====
abbrev S4x2048x32 : Shape := ⟨3, ![4, 2048, 32]⟩
abbrev S_ : Shape := ⟨0, ![]⟩

abbrev nBuf : Space → Nat
  | .hbm => 4
  | .vmem => 0
  | .smem => 0
  | _ => 0

abbrev bufTy : (tb : Table) → Fin (tcTables nBuf tb) → BufTy
  | .hbm, ⟨0, _⟩ => ⟨S4x2048x32, .f32⟩
  | .hbm, ⟨1, _⟩ => ⟨S_, .f32⟩
  | .hbm, ⟨2, _⟩ => ⟨S_, .f32⟩
  | .hbm, ⟨3, _⟩ => ⟨S4x2048x32, .f32⟩
  | _, _ => ⟨S4x2048x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_call0_cst : Ref sig .tc := ⟨.hbm, 1, rfl⟩
abbrev main_call0_call0_v0 : Ref sig .tc := ⟨.hbm, 2, rfl⟩
abbrev main_v0 : Ref sig .tc := ⟨.hbm, 3, rfl⟩

abbrev nD : Nat := 1
abbrev τ : Topo := Topo.v7x

variable {F : FTy → Type} [FloatOps F]
-- ==== Proof.GluValue.lean ====
/-
  The gated projection: what the pipelined kernel leaves in its result array, as the reference's own term.

  The kernel runs over a grid of 8 row blocks by 8 column blocks; at each point it multiplies a block of 1024 rows by a block
  of 512 columns of the value half and by the block of 512 columns of the gate half, and stores the first product times the
  logistic function of the second.
-/
module

public import proofs.«01_k».proof.Proof.Gen.Kernel3Ideal.Value
public import proofs.«01_k».proof.Proof.Gen.Reference3Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Proof.Glu

/-- Entry `(r, q)` of the gated projection of `x` by weight `l` of the stacked weights `w`: the product with column `q` of the
    weight, times the logistic function of the product with column `4096 + q`. -/
def entry {M : ℕ} (l : Fin 2) (x : FVec Ideal ⟨2, ![M, 4096]⟩ .bf16) (w : FVec Ideal ⟨3, ![2, 4096, 8192]⟩ .bf16) (r : Fin M) (q : Fin 4096) : EReal :=
  (∑ k : Fin 4096, x (ix2 r k) * w (ix3 l k ⟨q.val, by omega⟩))
    * Ideal.div 1 (1 + Ideal.exp (-(∑ k : Fin 4096, x (ix2 r k) * w (ix3 l k ⟨4096 + q.val, by omega⟩))))

/-- The gated projection as an array. -/
def result {M : ℕ} (l : Fin 2) (x : FVec Ideal ⟨2, ![M, 4096]⟩ .bf16) (w : FVec Ideal ⟨3, ![2, 4096, 8192]⟩ .bf16) : FVec Ideal ⟨2, ![M, 4096]⟩ .f32 :=
  fun j => entry l x w (j 0) (j 1)

end Cert.Proof.Glu

namespace Cert.Proof.GluKernel

open Cert.Kernel3Ideal Cert.Kernel3Ideal.Gen

variable (m : (ℓ : Loc nD τ sig) → Buf (Elt Ideal) ℓ)

/-- The windows' block indices at grid point `t`: row block `t / 8`, column block `t % 8`; the gate's columns begin 8 blocks
    further. -/
theorem idx : ∀ t : Fin cfg0.N, win0_0.index t = ![t.val / 8, 0] ∧ win0_1.index t = ![0, 0, t.val % 8]
      ∧ win0_2.index t = ![0, 0, t.val % 8 + 8] ∧ win0_3.index t = ![t.val / 8, t.val % 8] :=
  (by decide +kernel : ∀ t : Fin grid0.N, win0_0.index t = ![t.val / 8, 0] ∧ win0_1.index t = ![0, 0, t.val % 8]
      ∧ win0_2.index t = ![0, 0, t.val % 8 + 8] ∧ win0_3.index t = ![t.val / 8, t.val % 8])

/-- What the body stores at index `y` of its block is the gated projection at the place of `y` in the array. -/
theorem point (c : Dev nD) (t : Fin cfg0.N) (y) : k0_pay1 (iblk m c 0 t) (iblk m c 1 t) (iblk m c 2 t) y
    = Glu.result 0 (m ((c : Thread nD τ).loc main_arg0)) (m ((c : Thread nD τ).loc main_arg1)) (((cfg0.win 3).blk t).view.emb y) := by
  pointwise [k0_pay1, Glu.result, Glu.entry, Ideal.logistic]
  blk_point [iblk, V, idx t]

/-- The result array after the run is the gated projection of the two arguments. -/
theorem final (c : Dev nD) : (dats m 0 c).arrAt 3 (cfgs 0).N
    = Glu.result 0 (m ((c : Thread nD τ).loc main_arg0)) (m ((c : Thread nD τ).loc main_arg1)) := by
  refine (dats m 0 c).arrAt_eq_of_covers 3 _ (by decide +kernel) fun t _ y => ?_
  blk_simp
  rw [after0_3]; frame_out
  exact point m c t y

end Cert.Proof.GluKernel

namespace Cert.Proof.GluReference

open Cert.Reference3Ideal Cert.Reference3Ideal.Gen Idealize.ShloMosaic.StableHlo

/-- What the reference returns, operation by operation, is the gated projection. -/
theorem ref (x : FVec Ideal S8192x4096 .bf16) (w : FVec Ideal S2x4096x8192 .bf16) :
    (mulf (extractStridedSlice S8192x4096 ![0, 0] (Host.dotGeneral dot_S8192x4096_S4096x8192_S8192x8192_1_0_0_1_n_n none (extf .f32 x bitsLt_bf16_f32) (extf .f32 (shapeCast _ (extractStridedSlice S1x4096x8192 ![0, 0, 0] w slices_S2x4096x8192_S1x4096x8192_0_0_0) shapeCasts_S1x4096x8192_S4096x8192) bitsLt_bf16_f32)) slices_S8192x8192_S8192x4096_0_0) (Host.divf (broadcastInDim S8192x4096 ![] bcast_S_S8192x4096 (constant S_ .f32 0x3F800000#32)) (addf (broadcastInDim S8192x4096 ![] bcast_S_S8192x4096 (constant S_ .f32 0x3F800000#32)) (Host.exp (Host.negf (extractStridedSlice S8192x4096 ![0, 4096] (Host.dotGeneral dot_S8192x4096_S4096x8192_S8192x8192_1_0_0_1_n_n none (extf .f32 x bitsLt_bf16_f32) (extf .f32 (shapeCast _ (extractStridedSlice S1x4096x8192 ![0, 0, 0] w slices_S2x4096x8192_S1x4096x8192_0_0_0) shapeCasts_S1x4096x8192_S4096x8192) bitsLt_bf16_f32)) slices_S8192x8192_S8192x4096_0_4096))))) : FVec Ideal S8192x4096 .f32)
      = Glu.result 0 x w := by
  funext j
  idx_vars j
  pointwise [Glu.result, Glu.entry]

end Cert.Proof.GluReference
-- ==== Proof.Softmax.lean ====
/-
  The running softmax, on one row: a maximum, a sum of exponentials and a weighted sum of values, brought from one block of
  columns to the next by rescaling, end at the softmax of the whole row times the values.

  The scores are real numbers up to a position `q` of the row and `⊥` (masked) after it; the values may be any extended reals.
-/
module

public import Idealize.ShloMosaic.Lib.Pipeline.ValueKit
public import Idealize.ShloMosaic.Lib.Pointwise

@[expose] public section

noncomputable section

open Idealize.ShloMosaic

namespace Cert.Proof.Softmax

/-- The exponential of an extended real is not negative. -/
theorem exp_nonneg (x : EReal) : 0 ≤ Ideal.exp x := by
  induction x using EReal.rec with
  | bot => exact le_rfl
  | top => exact le_top
  | coe r => exact EReal.coe_nonneg.2 (Real.exp_pos r).le

/-- Changing the base from one real to another is a multiplication, for a score that is not `⊤`. -/
theorem exp_rebase (x : EReal) (hx : x ≠ ⊤) (a b : ℝ) :
    Ideal.exp (x - (a : EReal)) * Ideal.exp ((a : EReal) - (b : EReal)) = Ideal.exp (x - (b : EReal)) := by
  induction x using EReal.rec with
  | bot => simp only [EReal.bot_sub]; exact zero_mul _
  | top => exact absurd rfl hx
  | coe r =>
    rw [← EReal.coe_sub, ← EReal.coe_sub, ← EReal.coe_sub]
    show ((Real.exp (r - a) : ℝ) : EReal) * ((Real.exp (a - b) : ℝ) : EReal) = ((Real.exp (r - b) : ℝ) : EReal)
    rw [← EReal.coe_mul, ← Real.exp_add]
    congr 2; ring

/-- A factor that is neither negative nor `⊤` distributes over a finite sum. -/
theorem sum_mul_const {ι : Type} (s : Finset ι) (f : ι → EReal) (c : EReal) (h0 : 0 ≤ c) (h1 : c ≠ ⊤) :
    (∑ i ∈ s, f i) * c = ∑ i ∈ s, f i * c := by
  classical
  induction s using Finset.induction_on with
  | empty => simp
  | insert a s ha ih =>
    rw [Finset.sum_insert ha, Finset.sum_insert ha, ← ih, mul_comm, EReal.left_distrib_of_nonneg_of_ne_top h0 h1,
      mul_comm c, mul_comm c]

/-- The scores of a row masked after position `q`. -/
def masked (q : ℕ) (s : ℕ → ℝ) (n : ℕ) : EReal := if n ≤ q then (s n : EReal) else ⊥

variable (q : ℕ) (s : ℕ → ℝ) (v : ℕ → EReal)

/-- The greatest of the first `n` masked scores. -/
def top (n : ℕ) : EReal := (Finset.range n).sup (masked q s)

/-- The sum of the exponentials of the first `n` masked scores less the greatest of them. -/
def den (n : ℕ) : EReal := ∑ j ∈ Finset.range n, Ideal.exp (masked q s j - top q s n)

/-- The same sum, each term times its value. -/
def num (n : ℕ) : EReal := ∑ j ∈ Finset.range n, Ideal.exp (masked q s j - top q s n) * v j

/-- A masked score is not `⊤`. -/
theorem masked_ne_top (n : ℕ) : masked q s n ≠ ⊤ := by
  unfold masked; split
  · exact EReal.coe_ne_top _
  · exact bot_ne_top

/-- The greatest of the first scores, if there is one, is a real number. -/
theorem top_real (n : ℕ) (hn : 0 < n) : ∃ r : ℝ, top q s n = r := by
  have h1 : top q s n ≠ ⊤ := by
    refine ne_of_lt ((Finset.sup_lt_iff (bot_lt_top)).2 fun j _ => ?_)
    exact lt_top_iff_ne_top.2 (masked_ne_top q s j)
  have h0 : top q s n ≠ ⊥ := by
    have h : masked q s 0 ≤ top q s n := Finset.le_sup (f := masked q s) (Finset.mem_range.2 hn)
    have h' : masked q s 0 = (s 0 : EReal) := if_pos (Nat.zero_le q)
    rw [h'] at h
    exact ne_of_gt (lt_of_lt_of_le (EReal.bot_lt_coe _) h)
  exact ⟨(top q s n).toReal, (EReal.coe_toReal h1 h0).symm⟩

/-- The greatest score of one block more. -/
theorem top_add (n c : ℕ) : top q s (n + c) = max (top q s n) ((Finset.univ : Finset (Fin c)).sup fun k => masked q s (n + k.val)) := by
  refine le_antisymm (Finset.sup_le fun j hj => ?_) (max_le (Finset.sup_le fun j hj => ?_) (Finset.sup_le fun k _ => ?_))
  · by_cases h : j < n
    · exact le_max_of_le_left (Finset.le_sup (f := masked q s) (Finset.mem_range.2 h))
    · have hj := Finset.mem_range.1 hj
      refine le_max_of_le_right ?_
      have := Finset.le_sup (s := (Finset.univ : Finset (Fin c))) (f := fun k => masked q s (n + k.val)) (Finset.mem_univ ⟨j - n, by omega⟩)
      simpa only [Nat.add_sub_cancel' (not_lt.1 h)] using this
  · exact Finset.le_sup (f := masked q s) (Finset.mem_range.2 (by have := Finset.mem_range.1 hj; omega))
  · exact Finset.le_sup (f := masked q s) (Finset.mem_range.2 (by omega))

/-- The sum brought to a new greatest score: the old sum times the exponential of the difference. -/
theorem rescale (w : ℕ → EReal) (n : ℕ) (b : ℝ) :
    (∑ j ∈ Finset.range n, Ideal.exp (masked q s j - top q s n) * w j) * Ideal.exp (top q s n - (b : EReal))
      = ∑ j ∈ Finset.range n, Ideal.exp (masked q s j - (b : EReal)) * w j := by
  rcases Nat.eq_zero_or_pos n with rfl | hn
  · simp
  · obtain ⟨a, ha⟩ := top_real q s n hn
    rw [ha, sum_mul_const _ _ _ (exp_nonneg _) (by rw [← EReal.coe_sub]; exact EReal.coe_ne_top _)]
    refine Finset.sum_congr rfl fun j _ => ?_
    rw [mul_right_comm, exp_rebase _ (masked_ne_top q s j)]

/-- The weighted sum of one block more: the old one rescaled, and the block's own. -/
theorem num_add (n c : ℕ) (hc : 0 < c) : num q s v n * Ideal.exp (top q s n - top q s (n + c))
      + ∑ k : Fin c, Ideal.exp (masked q s (n + k.val) - top q s (n + c)) * v (n + k.val) = num q s v (n + c) := by
  obtain ⟨b, hb⟩ := top_real q s (n + c) (by omega)
  unfold num
  rw [hb, rescale, Finset.sum_range_add, Finset.sum_range (n := c)]

/-- The sum of exponentials of one block more. -/
theorem den_add (n c : ℕ) (hc : 0 < c) : den q s n * Ideal.exp (top q s n - top q s (n + c))
      + ∑ k : Fin c, Ideal.exp (masked q s (n + k.val) - top q s (n + c)) = den q s (n + c) := by
  have h := num_add q s (fun _ => 1) n c hc
  simpa only [num, den, mul_one] using h

/-- Columns after the mask change nothing: the greatest score. -/
theorem top_past (n d : ℕ) (h : q < n) : top q s (n + d) = top q s n := by
  refine le_antisymm (Finset.sup_le fun j hj => ?_) (Finset.sup_mono (Finset.range_mono (by omega)))
  by_cases hj : j < n
  · exact Finset.le_sup (f := masked q s) (Finset.mem_range.2 hj)
  · have : masked q s j = ⊥ := if_neg (by omega)
    rw [this]; exact bot_le

/-- Columns after the mask change nothing: the sums. -/
theorem num_past (n d : ℕ) (h : q < n) : num q s v (n + d) = num q s v n := by
  unfold num
  rw [top_past q s n d h, Finset.sum_range_add]
  refine (congrArg _ (Finset.sum_eq_zero fun k _ => ?_)).trans (add_zero _)
  have : masked q s (n + k) = ⊥ := if_neg (by omega)
  rw [this, EReal.bot_sub]; exact zero_mul _

theorem den_past (n d : ℕ) (h : q < n) : den q s (n + d) = den q s n := by
  have := num_past q s (fun _ => 1) n d h
  simpa only [num, den, mul_one] using this

/-- The sum of exponentials is positive when there is a column. -/
theorem den_pos (n : ℕ) (hn : 0 < n) : 0 < den q s n := by
  obtain ⟨a, ha⟩ := top_real q s n hn
  have h0 : 0 < Ideal.exp (masked q s 0 - top q s n) := by
    rw [ha, show masked q s 0 = (s 0 : EReal) from if_pos (Nat.zero_le q), ← EReal.coe_sub]
    exact EReal.coe_pos.2 (Real.exp_pos _)
  exact lt_of_lt_of_le h0 (Finset.single_le_sum (f := fun j => Ideal.exp (masked q s j - top q s n)) (fun j _ => exp_nonneg _) (Finset.mem_range.2 hn))

/-- The quotient of the two sums is the sum of the values weighted by the quotients. -/
theorem div_den (n : ℕ) (hn : 0 < n) : Ideal.div (num q s v n) (den q s n)
    = ∑ k : Fin n, Ideal.div (Ideal.exp (masked q s k.val - top q s n)) (den q s n) * v k.val := by
  have hd := den_pos q s n hn
  have hi0 : 0 ≤ (den q s n)⁻¹ := EReal.inv_nonneg_of_nonneg hd.le
  have hi1 : (den q s n)⁻¹ ≠ ⊤ := by
    intro h
    generalize den q s n = x at *
    induction x using EReal.rec with
    | bot => exact absurd hd (by simp)
    | top => simp at h
    | coe r =>
      rw [← EReal.coe_inv] at h
      exact EReal.coe_ne_top _ h
  simp only [Ideal.div, if_neg hd.ne']
  unfold num
  rw [sum_mul_const _ _ _ hi0 hi1, Finset.sum_range]
  exact Finset.sum_congr rfl fun k _ => mul_right_comm _ _ _

end Cert.Proof.Softmax

end
-- ==== Proof.AttnSpec.lean ====
/-
  Attention over the prompt: one row of scores, as numbers, and what the attention of the row is.
-/
module

public import proofs.«01_k».proof.Proof.Softmax
public import Idealize.ShloMosaic.Lib.Claim

@[expose] public section

set_option maxRecDepth 16384

noncomputable section

open Idealize.ShloMosaic Idealize.SL.Sem

namespace Cert.Proof.AttnSpec

/-- The four arrays, over the extended reals: the queries (one slab of 128 lanes per head), the rotated queries, the keys and
values (one slab of 256 lanes per head, keys first), and the rotated key all heads share. -/
abbrev Qn := (⟨3, ![4, 2048, 4096]⟩ : Shape).Idx → EReal
abbrev Qr := (⟨4, ![4, 32, 2048, 64]⟩ : Shape).Idx → EReal
abbrev Kv := (⟨3, ![4, 2048, 8192]⟩ : Shape).Idx → EReal
abbrev Kr := (⟨3, ![4, 2048, 64]⟩ : Shape).Idx → EReal

variable (q : Qn) (r : Qr) (kv : Kv) (kr : Kr) (b : Fin 4) (h : Fin 32) (i : Fin 2048)

/-- The score of key `n` for the query in row `i`: the two products, added and scaled. -/
def score (n : Fin 2048) : EReal :=
  ((∑ d : Fin 128, q (ix3 b i ⟨h.val * 128 + d.val, by omega⟩) * kv (ix3 b n ⟨h.val * 256 + d.val, by omega⟩))
    + ∑ e : Fin 64, r (ix4 b h i e) * kr (ix3 b n e)) * Ideal.ofBits .f32 0x3D93CD3A#32

/-- The same scores as real numbers, at any position (0 past the last key). -/
def scoreR (n : ℕ) : ℝ := if hn : n < 2048 then (score q r kv kr b h i ⟨n, hn⟩).toReal else 0

/-- One lane of the values, at any position. -/
def value (d : Fin 128) (n : ℕ) : EReal :=
  if hn : n < 2048 then kv (ix3 b ⟨n, hn⟩ ⟨h.val * 256 + 128 + d.val, by omega⟩) else 0

/-- Attention of row `i`, one lane: the sum weighted by exponentials, divided by the sum of the exponentials. -/
def attn (d : Fin 128) : EReal :=
  Ideal.div (Softmax.num i.val (scoreR q r kv kr b h i) (value kv b h d) 2048) (Softmax.den i.val (scoreR q r kv kr b h i) 2048)

/-- The result array: lane `j % 128` of head `j / 128` of every row is the row's attention. -/
def result : (⟨3, ![4, 2048, 4096]⟩ : Shape).Idx → EReal := fun j =>
  attn q r kv kr (j 0) ⟨(j 2).val / 128, by have : (j 2).val < 4096 := (j 2).isLt; omega⟩ (j 1) ⟨(j 2).val % 128, by omega⟩

/-- Every score is a real number. -/
def Real : Prop := ∀ b h i n, score q r kv kr b h i n = ((score q r kv kr b h i n).toReal : EReal)

/-- The score with the causal mask, where every score is a real number. -/
theorem masked_eq (H : Real q r kv kr) (n : Fin 2048) :
    (if n.val ≤ i.val then score q r kv kr b h i n else (⊥ : EReal)) = Softmax.masked i.val (scoreR q r kv kr b h i) n.val := by
  unfold Softmax.masked scoreR
  rw [dif_pos n.isLt]
  by_cases hn : n.val ≤ i.val
  · rw [if_pos hn, if_pos hn]; exact H b h i n
  · rw [if_neg hn, if_neg hn]

/-- The word that stands for minus infinity. -/
theorem ninf : Ideal.ofBits .f32 0xFF800000#32 = (⊥ : EReal) := by
  simp [Ideal.ofBits, Ideal.ieee]

/-- The signed comparison of two small words is the comparison of the numbers they hold. -/
theorem sge_word (a b : ℕ) (ha : a < 4096) (hb : b < 4096) :
    IntOp.cmpi CmpIPredicate.sge (BitVec.ofNat 32 a) (BitVec.ofNat 32 b) = if b ≤ a then 1#1 else 0#1 := by
  have e : ∀ n : ℕ, n < 4096 → (BitVec.ofNat 32 n).toInt = n := fun n hn => by
    rw [BitVec.toInt_eq_toNat_of_lt (by rw [BitVec.toNat_ofNat]; omega), BitVec.toNat_ofNat]; omega
  simp only [IntOp.cmpi, BitVec.sle, e a ha, e b hb]
  by_cases h : b ≤ a
  · rw [if_pos h, decide_eq_true (by exact_mod_cast h)]; rfl
  · rw [if_neg h, decide_eq_false (by exact_mod_cast h)]; rfl

/-- Real numbers are kept by products and finite sums. -/
theorem real_sum {n : ℕ} (f g : Fin n → EReal) (hf : ∀ k, ∃ x : ℝ, f k = x) (hg : ∀ k, ∃ x : ℝ, g k = x) :
    ∃ x : ℝ, ∑ k, f k * g k = (x : EReal) := by
  choose f' hf using hf
  choose g' hg using hg
  have key : ∀ t : Finset (Fin n), ∑ k ∈ t, f k * g k = ((∑ k ∈ t, f' k * g' k : ℝ) : EReal) := by
    intro t
    induction t using Finset.induction_on with
    | empty => simp
    | insert a t ha ih => rw [Finset.sum_insert ha, Finset.sum_insert ha, ih, hf, hg, EReal.coe_add, EReal.coe_mul]
  exact ⟨_, key Finset.univ⟩

/-- The scores are real when the queries, the rotated queries, the key half of `kv` and the rotated key are. -/
theorem real_of (hq : ∀ x, ∃ a : ℝ, q x = a) (hr : ∀ x, ∃ a : ℝ, r x = a)
    (hk : ∀ (b : Fin 4) (n : Fin 2048) (h : Fin 32) (d : Fin 128), ∃ a : ℝ, kv (ix3 b n ⟨h.val * 256 + d.val, by omega⟩) = a)
    (hs : ∀ x, ∃ a : ℝ, kr x = a) : Real q r kv kr := by
  intro b h i n
  obtain ⟨x, hx⟩ := real_sum (fun d : Fin 128 => q (ix3 b i ⟨h.val * 128 + d.val, by omega⟩))
    (fun d => kv (ix3 b n ⟨h.val * 256 + d.val, by omega⟩)) (fun _ => hq _) (fun d => hk b n h d)
  obtain ⟨y, hy⟩ := real_sum (fun e : Fin 64 => r (ix4 b h i e)) (fun e => kr (ix3 b n e)) (fun _ => hr _) (fun _ => hs _)
  obtain ⟨c, hc⟩ : ∃ c : ℝ, Ideal.ofBits .f32 0x3D93CD3A#32 = (c : EReal) := by
    refine ⟨9686330 * (2 ^ 27)⁻¹, ?_⟩
    rw [EReal.coe_mul]
    simp [Ideal.ofBits, Ideal.ieee]
  have : score q r kv kr b h i n = ((((x + y) * c : ℝ)) : EReal) := by
    unfold score
    rw [hx, hy, hc, ← EReal.coe_add, ← EReal.coe_mul]
  rw [this, EReal.toReal_coe]

end Cert.Proof.AttnSpec
-- ==== Proof.AttnTrip.lean ====
/-
  Attention over the prompt: what one trip of the kernel's loop does to one row of the running maximum, sum and weighted sum.
-/
module

public import proofs.«01_k».proof.Proof.Gen.Kernel2Ideal.Value
public import proofs.«01_k».proof.Proof.AttnSpec
public import Idealize.ShloMosaic.Lib.Pointwise

@[expose] public section

set_option maxRecDepth 16384

noncomputable section

open Idealize.ShloMosaic Idealize.ShloMosaic.TcCoe Idealize.SL.Sem

namespace Cert.Proof.AttnTrip

open Cert.Kernel2Ideal Cert.Kernel2Ideal.Gen

variable (i : grid0.Coords) (v0 : Vec Ideal S1x512x128 .bf16) (v2 : Vec Ideal S1x1x512x64 .bf16) (k : Fin (k0_t1_loop i).trips)
  (mx l : FVec Ideal S512x1 .f32) (acc : FVec Ideal S512x128 .f32)
  (v28 : Vec Ideal S1x512x128 .bf16) (v32 : Vec Ideal S1x512x64 .bf16) (v63 : Vec Ideal S1x512x128 .bf16) (a : Fin 512)

/-- The loop of query block `i` runs over the blocks up to its own. -/
theorem trips_eq : (k0_t1_loop i).trips = (i 2).val + 1 := by
  have h : (i 2).val < 4 := (i 2).isLt
  unfold k0_t1_loop
  dsimp only
  generalize (i 2).val = j at h
  interval_cases j <;> rfl

/-- The second loop has nothing left to do. -/
theorem trips2_eq : (k0_t2_loop i).trips = 0 := by
  have h : (i 2).val < 4 := (i 2).isLt
  unfold k0_t2_loop
  dsimp only
  generalize (i 2).val = j at h
  interval_cases j <;> rfl

/-- The words a position is computed from hold the position. -/
theorem word (x y : ℕ) :
    IntOp.addi (Scalar.muli (BitVec.ofNat 32 x) 512#32) (BitVec.ofNat 32 y) = BitVec.ofNat 32 (x * 512 + y) := by
  rw [BitVec.ofNat_add, BitVec.ofNat_mul]
  rfl

/-- The loop counter as a word. -/
theorem counter (x : ℕ) : Scf.iv 0#32 1#32 x = BitVec.ofNat 32 x := by
  simp [Scf.iv]

/-- The counter's multiple of 512, as an index. -/
theorem index_word (j : ℕ) (h : j < 4) : (Scalar.indexCast (Scalar.muli (BitVec.ofNat 32 j) 512#32)).toNat = j * 512 := by
  interval_cases j <;> rfl

/-- Where a block of keys begins. -/
theorem offset : k0_off1 i k = ![0, k.val * 512, 0] := by
  have h4 : (i 2).val < 4 := (i 2).isLt
  have h : k.val < (i 2).val + 1 := lt_of_lt_of_eq k.isLt (trips_eq i)
  unfold k0_off1
  dsimp only
  rw [counter]
  rw [index_word _ (by omega)]

/-- The same for the rotated keys. -/
theorem offset2 : k0_off2 i k = ![0, k.val * 512, 0] := by
  have h4 : (i 2).val < 4 := (i 2).isLt
  have h : k.val < (i 2).val + 1 := lt_of_lt_of_eq k.isLt (trips_eq i)
  unfold k0_off2
  dsimp only
  rw [counter]
  rw [index_word _ (by omega)]

/-- Where a key or value of the block lies in the whole array. -/
theorem place (t : Fin 512) (d : Fin 128) (h0 : k0_off1 i k 0 < 1) (h1 : k0_off1 i k 1 + t.val < 2048) (h2 : k0_off1 i k 2 + d.val < 128)
    (h : k.val * 512 + t.val < 2048) :
    (ix3 ⟨k0_off1 i k 0, h0⟩ ⟨k0_off1 i k 1 + t.val, h1⟩ ⟨k0_off1 i k 2 + d.val, h2⟩ : S1x2048x128.Idx) = ix3 0 ⟨k.val * 512 + t.val, h⟩ d :=
  (ix3_inj ..).2 ⟨Fin.ext (congrFun (offset i k) 0), Fin.ext (congrArg (· + t.val) (congrFun (offset i k) 1)),
    Fin.ext ((congrArg (· + d.val) (congrFun (offset i k) 2)).trans (Nat.zero_add _))⟩

/-- The same for the rotated keys. -/
theorem place2 (t : Fin 512) (d : Fin 64) (h0 : k0_off2 i k 0 < 1) (h1 : k0_off2 i k 1 + t.val < 2048) (h2 : k0_off2 i k 2 + d.val < 64)
    (h : k.val * 512 + t.val < 2048) :
    (ix3 ⟨k0_off2 i k 0, h0⟩ ⟨k0_off2 i k 1 + t.val, h1⟩ ⟨k0_off2 i k 2 + d.val, h2⟩ : S1x2048x64.Idx) = ix3 0 ⟨k.val * 512 + t.val, h⟩ d :=
  (ix3_inj ..).2 ⟨Fin.ext (congrFun (offset2 i k) 0), Fin.ext (congrArg (· + t.val) (congrFun (offset2 i k) 1)),
    Fin.ext ((congrArg (· + d.val) (congrFun (offset2 i k) 2)).trans (Nat.zero_add _))⟩

/-- One masked score of the block of keys. -/
theorem score_apply (t : Fin 512) :
    k0_pay7 i v0 v2 k v28 v32 (ix2 a t)
      = if k.val * 512 + t.val ≤ (i 2).val * 512 + a.val then
          ((∑ d : Fin 128, (v0 (ix3 0 a d) : EReal) * v28 (ix3 0 t d)) + ∑ e : Fin 64, (v2 (ix4 0 0 a e) : EReal) * v32 (ix3 0 t e))
            * Ideal.ofBits .f32 0x3D93CD3A#32
        else (⊥ : EReal) := by
  pointwise [k0_pay7, k0_pay3, k0_pay1, k0_pay2]
  have hi : (i 2).val < 4 := (i 2).isLt
  have hk : k.val < (i 2).val + 1 := lt_of_lt_of_eq k.isLt (trips_eq i)
  rw [counter, word, word, AttnSpec.sge_word _ _ (by omega) (by omega), AttnSpec.ninf]
  by_cases h : k.val * 512 + t.val ≤ (i 2).val * 512 + a.val
  · rw [if_pos h, if_pos h]; rfl
  · rw [if_neg h, if_neg h]; rfl

/-- The largest score of a row of the block. -/
theorem rowmax_apply (x : FVec Ideal S512x512 .f32) :
    multiReduction .maximumf [1] S512 x 0xFF800000#32 reduces_S512x512_S512 (.inl rfl) rfl (ix1 a)
      = Finset.univ.fold max (Ideal.ofBits .f32 0xFF800000#32) fun t : Fin 512 => (x (ix2 a t) : EReal) := by
  pointwise []

/-- The running maximum after the block. -/
theorem max_apply :
    k0_pay8 i v0 v2 k mx v28 v32 (ix2 a 0)
      = max (mx (ix2 a 0) : EReal) ((Finset.univ : Finset (Fin 512)).sup fun t => (k0_pay7 i v0 v2 k v28 v32 (ix2 a t) : EReal)) := by
  unfold k0_pay8
  generalize k0_pay7 i v0 v2 k v28 v32 = x
  dsimp only
  rw [show ∀ (x y : FVec Ideal S512x1 .f32) (j : S512x1.Idx), maximumf x y j = max (x j : EReal) (y j) from fun _ _ _ => rfl]
  rw [show ∀ (x : FVec Ideal S512 .f32), shapeCast S512x1 x shapeCasts_S512_S512x1 (ix2 a 0) = x (ix1 a) from fun x => by pointwise []]
  rw [rowmax_apply, AttnSpec.ninf]
  rfl

/-- The factor the old sums are rescaled by. -/
theorem factor_apply :
    k0_pay9 i v0 v2 k mx v28 v32 (ix2 a 0) = Ideal.exp ((mx (ix2 a 0) : EReal) - k0_pay8 i v0 v2 k mx v28 v32 (ix2 a 0)) := by
  pointwise [k0_pay9]

/-- One exponential of the block. -/
theorem exp_apply (t : Fin 512) :
    k0_pay10 i v0 v2 k mx v28 v32 (ix2 a t)
      = Ideal.exp ((k0_pay7 i v0 v2 k v28 v32 (ix2 a t) : EReal) - k0_pay8 i v0 v2 k mx v28 v32 (ix2 a 0)) := by
  pointwise [k0_pay10]

/-- The running sum after the block. -/
theorem sum_apply :
    k0_pay11 i v0 v2 k mx l v28 v32 (ix2 a 0)
      = (l (ix2 a 0) : EReal) * k0_pay9 i v0 v2 k mx v28 v32 (ix2 a 0) + ∑ t : Fin 512, (k0_pay10 i v0 v2 k mx v28 v32 (ix2 a t) : EReal) := by
  pointwise [k0_pay11]

/-- The running weighted sum after the block. -/
theorem acc_apply (d : Fin 128) :
    k0_pay12 i v0 v2 k mx acc v28 v32 v63 (ix2 a d)
      = (acc (ix2 a d) : EReal) * k0_pay9 i v0 v2 k mx v28 v32 (ix2 a 0)
        + ∑ t : Fin 512, (k0_pay10 i v0 v2 k mx v28 v32 (ix2 a t) : EReal) * v63 (ix3 0 t d) := by
  pointwise [k0_pay12]

/-- The result of a row: its weighted sum by its sum. -/
theorem out_apply (d : Fin 128) :
    k0_pay19 l acc (ix3 0 a d) = Ideal.div (acc (ix2 a d) : EReal) (l (ix2 a 0)) := by
  pointwise [k0_pay19]

/-- The sums a row starts from. -/
theorem init_apply (d : Fin 128) :
    (k0_pay4 (F := Ideal) (ix2 a 0) : EReal) = ⊥ ∧ (k0_pay5 (F := Ideal) (ix2 a 0) : EReal) = 0 ∧ (k0_pay6 (F := Ideal) (ix2 a d) : EReal) = 0 := by
  refine ⟨AttnSpec.ninf, ?_, ?_⟩ <;> pointwise [k0_pay5, k0_pay6]

variable (q : ℕ) (s : ℕ → ℝ) (v : ℕ → EReal)

/-- One trip on one row: from the running sums of `n` columns to those of `n + 512`. -/
theorem trip_row (n : ℕ) (hs : ∀ t : Fin 512, (k0_pay7 i v0 v2 k v28 v32 (ix2 a t) : EReal) = Softmax.masked q s (n + t.val))
    (d : Fin 128) (hv : ∀ t : Fin 512, (v63 (ix3 0 t d) : EReal) = v (n + t.val))
    (hm : (mx (ix2 a 0) : EReal) = Softmax.top q s n) (hl : (l (ix2 a 0) : EReal) = Softmax.den q s n)
    (ha : (acc (ix2 a d) : EReal) = Softmax.num q s v n) :
    (k0_pay8 i v0 v2 k mx v28 v32 (ix2 a 0) : EReal) = Softmax.top q s (n + 512)
      ∧ (k0_pay11 i v0 v2 k mx l v28 v32 (ix2 a 0) : EReal) = Softmax.den q s (n + 512)
      ∧ (k0_pay12 i v0 v2 k mx acc v28 v32 v63 (ix2 a d) : EReal) = Softmax.num q s v (n + 512) := by
  have h8 : (k0_pay8 i v0 v2 k mx v28 v32 (ix2 a 0) : EReal) = Softmax.top q s (n + 512) := by
    rw [max_apply, Softmax.top_add, hm]
    simp only [hs]
  have h9 : (k0_pay9 i v0 v2 k mx v28 v32 (ix2 a 0) : EReal) = Ideal.exp (Softmax.top q s n - Softmax.top q s (n + 512)) := by
    rw [factor_apply, h8, hm]
  have h10 : ∀ t : Fin 512, (k0_pay10 i v0 v2 k mx v28 v32 (ix2 a t) : EReal)
      = Ideal.exp (Softmax.masked q s (n + t.val) - Softmax.top q s (n + 512)) := by
    intro t
    rw [exp_apply, h8, hs]
  refine ⟨h8, ?_, ?_⟩
  · rw [sum_apply, hl, h9, ← Softmax.den_add q s n 512 (by decide)]
    simp only [h10]
  · rw [acc_apply, ha, h9, ← Softmax.num_add q s v n 512 (by decide)]
    simp only [h10, hv]

end Cert.Proof.AttnTrip
-- ==== Proof.AttnLoop.lean ====
/-
  Attention over the prompt: what the kernel's loop leaves of every row of a block of queries, and the block it stores.
-/
module

public import proofs.«01_k».proof.Proof.AttnTrip

@[expose] public section

set_option maxRecDepth 16384

noncomputable section

open Idealize.ShloMosaic Idealize.ShloMosaic.TcCoe Idealize.SL.Sem

namespace Cert.Proof.AttnLoop

open Cert.Kernel2Ideal Cert.Kernel2Ideal.Gen AttnTrip

variable (c : Dev nD) (i : grid0.Coords) (arg3 : Memref sig .tc .vmem S1x512x128 .bf16) (harg3 : arg3.IsWhole)
  (arg4 : Memref sig .tc .vmem S1x1x512x64 .bf16) (harg4 : arg4.IsWhole) (arg5 : Memref sig .tc .vmem S1x2048x128 .bf16) (harg5 : arg5.IsWhole)
  (arg6 : Memref sig .tc .vmem S1x2048x64 .bf16) (harg6 : arg6.IsWhole) (arg7 : Memref sig .tc .vmem S1x2048x128 .bf16) (harg7 : arg7.IsWhole)
  (arg8 : Memref sig .tc .vmem S1x512x128 .bf16) (harg8 : arg8.IsWhole)
  (v0 : Vec Ideal S1x512x128 .bf16) (v2 : Vec Ideal S1x1x512x64 .bf16) (x2 : Vec Ideal S1x2048x128 .bf16) (x3 : Vec Ideal S1x2048x64 .bf16)
  (x4 : Vec Ideal S1x2048x128 .bf16)

/-- The score of the query in row `a` of the block and key `n`, with the causal mask, from the staged blocks. -/
def blockScore (a : Fin 512) (n : Fin 2048) : EReal :=
  if n.val ≤ (i 2).val * 512 + a.val then
    ((∑ d : Fin 128, (v0 (ix3 0 a d) : EReal) * x2 (ix3 0 n d)) + ∑ e : Fin 64, (v2 (ix4 0 0 a e) : EReal) * x3 (ix3 0 n e))
      * Ideal.ofBits .f32 0x3D93CD3A#32
  else (⊥ : EReal)

variable (q : ℕ) (s : ℕ → ℝ) (v : ℕ → EReal) (a : Fin 512) (d : Fin 128)

/-- Before trip `n`, a row holds the maximum, the sum and the weighted sum of the first `n` blocks of keys. -/
theorem state_row (hs : ∀ n : Fin 2048, blockScore i v0 v2 x2 x3 a n = Softmax.masked q s n.val)
    (hv : ∀ n : Fin 2048, (x4 (ix3 0 n d) : EReal) = v n.val) (n : ℕ) (hn : n ≤ (k0_t1_loop i).trips) :
    ((st_k0_t1 (F := Ideal) Variants.none c none i arg3 harg3 arg4 harg4 arg5 harg5 arg6 harg6 arg7 harg7 arg8 harg8 v0 v2
        (harg5.unread x2) (harg6.unread x3) (harg7.unread x4) (k0_pay4, k0_pay5, k0_pay6) n).1 (ix2 a 0) : EReal) = Softmax.top q s (n * 512)
    ∧ ((st_k0_t1 (F := Ideal) Variants.none c none i arg3 harg3 arg4 harg4 arg5 harg5 arg6 harg6 arg7 harg7 arg8 harg8 v0 v2
        (harg5.unread x2) (harg6.unread x3) (harg7.unread x4) (k0_pay4, k0_pay5, k0_pay6) n).2.1 (ix2 a 0) : EReal) = Softmax.den q s (n * 512)
    ∧ ((st_k0_t1 (F := Ideal) Variants.none c none i arg3 harg3 arg4 harg4 arg5 harg5 arg6 harg6 arg7 harg7 arg8 harg8 v0 v2
        (harg5.unread x2) (harg6.unread x3) (harg7.unread x4) (k0_pay4, k0_pay5, k0_pay6) n).2.2 (ix2 a d) : EReal) = Softmax.num q s v (n * 512) := by
  induction n with
  | zero =>
    rw [st_k0_t1_zero]
    obtain ⟨h4, h5, h6⟩ := init_apply a d
    exact ⟨h4.trans (by simp [Softmax.top]), h5.trans (by simp [Softmax.den]), h6.trans (by simp [Softmax.num])⟩
  | succ n ih =>
    obtain ⟨hm, hl, ha⟩ := ih (by omega)
    have hi : (i 2).val < 4 := (i 2).isLt
    have hk : n < (i 2).val + 1 := lt_of_lt_of_eq hn (trips_eq i)
    have key := st_k0_t1_succ (F := Ideal) Variants.none c none i arg3 harg3 arg4 harg4 arg5 harg5 arg6 harg6 arg7 harg7 arg8 harg8 v0 v2
      (harg5.unread x2) (harg6.unread x3) (harg7.unread x4) (k0_pay4, k0_pay5, k0_pay6) ⟨n, hn⟩
    simp only [] at key
    rw [key]
    clear key
    generalize st_k0_t1 (F := Ideal) Variants.none c none i arg3 harg3 arg4 harg4 arg5 harg5 arg6 harg6 arg7 harg7 arg8 harg8 v0 v2
      (harg5.unread x2) (harg6.unread x3) (harg7.unread x4) (k0_pay4, k0_pay5, k0_pay6) n = st at *
    unfold tripR_k0_t1
    unfold trip_k0_t1
    dsimp only
    simp only [View.readAt_eq_ld, harg5.read_unread, harg6.read_unread, harg7.read_unread]
    rw [Nat.succ_mul]
    refine trip_row i v0 v2 ⟨n, hn⟩ st.1 st.2.1 st.2.2 _ _ _ a q s v (n * 512) (fun t => ?_) d (fun t => ?_) hm hl ha
    · rw [score_apply]
      refine Eq.trans ?_ (hs ⟨n * 512 + t.val, by omega⟩)
      unfold blockScore
      pointwise []
      have e1 : ∀ x h0 h1 h2, x2 (ix3 ⟨k0_off1 i ⟨n, hn⟩ 0, h0⟩ ⟨k0_off1 i ⟨n, hn⟩ 1 + t.val, h1⟩ ⟨k0_off1 i ⟨n, hn⟩ 2 + x.val, h2⟩)
          = x2 (ix3 0 ⟨n * 512 + t.val, by omega⟩ x) := fun x h0 h1 h2 => congrArg x2 (place i ⟨n, hn⟩ t x h0 h1 h2 (by simp only []; omega))
      have e2 : ∀ x h0 h1 h2, x3 (ix3 ⟨k0_off2 i ⟨n, hn⟩ 0, h0⟩ ⟨k0_off2 i ⟨n, hn⟩ 1 + t.val, h1⟩ ⟨k0_off2 i ⟨n, hn⟩ 2 + x.val, h2⟩)
          = x3 (ix3 0 ⟨n * 512 + t.val, by omega⟩ x) := fun x h0 h1 h2 => congrArg x3 (place2 i ⟨n, hn⟩ t x h0 h1 h2 (by simp only []; omega))
      simp only [e1, e2]
    · pointwise []
      exact (congrArg x4 (place i ⟨n, hn⟩ t d _ _ _ (by simp only []; omega))).trans (hv ⟨n * 512 + t.val, by omega⟩)

/-- The block the kernel stores: row `a`, lane `d` of it is the weighted sum of the whole row divided by its sum. -/
theorem block_row (hs : ∀ n : Fin 2048, blockScore i v0 v2 x2 x3 a n = Softmax.masked q s n.val)
    (hv : ∀ n : Fin 2048, (x4 (ix3 0 n d) : EReal) = v n.val) (hq : q = (i 2).val * 512 + a.val) :
    (out0_A_5 (F := Ideal) c i arg3 harg3 arg4 harg4 arg5 harg5 arg6 harg6 arg7 harg7 arg8 harg8 v0 v2 x2 x3 x4 (ix3 0 a d) : EReal)
      = Ideal.div (Softmax.num q s v 2048) (Softmax.den q s 2048) := by
  unfold out0_A_5
  rw [View.read_writes_eq_canon _ _ _
    (cover0_A_5 c i arg3 harg3 arg4 harg4 arg5 harg5 arg6 harg6 arg7 harg7 arg8 harg8 v0 v2 x2 x3 x4)]
  unfold kernelRun0_A
  dsimp only
  have hz3 : (![0, 0, 0] : Fin 3 → ℕ) = fun _ => 0 := by decide
  have hz4 : (![0, 0, 0, 0] : Fin 4 → ℕ) = fun _ => 0 := by decide
  rw [View.canon_unit_zero hz3]
  simp only [View.readAt_eq_ld, harg3.read_unread, harg4.read_unread, View.ld_unit_zero (S := S1x512x128) hz3,
    View.ld_unit_zero (S := S1x1x512x64) hz4]
  have t1 := trips_eq i
  have t2 := trips2_eq i
  dsimp only [Scf.Loop.trips, k0_t1_loop, k0_t2_loop] at t1 t2
  rw [t1, t2]
  simp only [st_k0_t2_zero]
  obtain ⟨-, hl, ha⟩ := state_row c i arg3 harg3 arg4 harg4 arg5 harg5 arg6 harg6 arg7 harg7 arg8 harg8 v0 v2 x2 x3 x4 q s v a d hs hv
    ((i 2).val + 1) (trips_eq i).ge
  have hi : (i 2).val < 4 := (i 2).isLt
  refine (out_apply _ _ a d).trans ?_
  rw [hl, ha]
  have hlt : q < ((i 2).val + 1) * 512 := by omega
  have e : 2048 = ((i 2).val + 1) * 512 + (2048 - ((i 2).val + 1) * 512) := by omega
  rw [e, Softmax.num_past q s v _ _ hlt, Softmax.den_past q s _ _ hlt]

end Cert.Proof.AttnLoop
-- ==== Proof.AttnKernel.lean ====
/-
  Attention over the prompt: what the kernel leaves in its result array.
-/
module

public import proofs.«01_k».proof.Proof.AttnLoop
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Proof.AttnKernel

open Cert.Kernel2Ideal Cert.Kernel2Ideal.Gen

variable (m : (ℓ : Loc nD τ sig) → Buf (Elt Ideal) ℓ)

/-- The windows' block indices at grid point `t`: batch `t / 128`, head `t / 4 % 32`, query block `t % 4`; a head's keys are the even
    blocks of the packed keys and values, its values the odd ones. -/
theorem idx : ∀ t : Fin cfg0.N, win0_0.index t = ![t.val / 128, t.val % 4, t.val / 4 % 32] ∧ win0_1.index t = ![t.val / 128, t.val / 4 % 32, t.val % 4, 0]
      ∧ win0_2.index t = ![t.val / 128, 0, 2 * (t.val / 4 % 32)] ∧ win0_3.index t = ![t.val / 128, 0, 0]
      ∧ win0_4.index t = ![t.val / 128, 0, 2 * (t.val / 4 % 32) + 1] ∧ win0_5.index t = ![t.val / 128, t.val % 4, t.val / 4 % 32]
      ∧ (grid0.coords t 2).val = t.val % 4 :=
  (by decide +kernel : ∀ t : Fin grid0.N, win0_0.index t = ![t.val / 128, t.val % 4, t.val / 4 % 32] ∧ win0_1.index t = ![t.val / 128, t.val / 4 % 32, t.val % 4, 0]
      ∧ win0_2.index t = ![t.val / 128, 0, 2 * (t.val / 4 % 32)] ∧ win0_3.index t = ![t.val / 128, 0, 0]
      ∧ win0_4.index t = ![t.val / 128, 0, 2 * (t.val / 4 % 32) + 1] ∧ win0_5.index t = ![t.val / 128, t.val % 4, t.val / 4 % 32]
      ∧ (grid0.coords t 2).val = t.val % 4)

theorem lt_N (t : Fin cfg0.N) : t.val < 512 := t.isLt

/-- The batch, the head and a row of grid point `t`. -/
abbrev batch (t : Fin cfg0.N) : Fin 4 := ⟨t.val / 128, by have := lt_N t; omega⟩
abbrev head (t : Fin cfg0.N) : Fin 32 := ⟨t.val / 4 % 32, by omega⟩
abbrev row (t : Fin cfg0.N) (a : Fin 512) : Fin 2048 := ⟨t.val % 4 * 512 + a.val, by omega⟩

/-- The queries' block. -/
theorem q_read (c : Dev nD) (t : Fin cfg0.N) (a : Fin 512) (d : Fin 128) :
    iblk m c 0 t (ix3 0 a d) = m ((c : Thread nD τ).loc main_arg0) (ix3 (batch t) (row t a) ⟨(head t).val * 128 + d.val, by omega⟩) := by
  have := lt_N t
  blk_ext [iblk, V, idx t]

/-- The rotated queries' block. -/
theorem r_read (c : Dev nD) (t : Fin cfg0.N) (a : Fin 512) (e : Fin 64) :
    iblk m c 1 t (ix4 0 0 a e) = m ((c : Thread nD τ).loc main_arg1) (ix4 (batch t) (head t) (row t a) e) := by
  have := lt_N t
  blk_ext [iblk, V, idx t]

/-- The keys' block. -/
theorem k_read (c : Dev nD) (t : Fin cfg0.N) (n : Fin 2048) (d : Fin 128) :
    iblk m c 2 t (ix3 0 n d) = m ((c : Thread nD τ).loc main_arg2) (ix3 (batch t) n ⟨(head t).val * 256 + d.val, by omega⟩) := by
  have := lt_N t
  blk_ext [iblk, V, idx t]

/-- The rotated keys' block. -/
theorem kr_read (c : Dev nD) (t : Fin cfg0.N) (n : Fin 2048) (e : Fin 64) :
    iblk m c 3 t (ix3 0 n e) = m ((c : Thread nD τ).loc main_arg3) (ix3 (batch t) n e) := by
  have := lt_N t
  blk_ext [iblk, V, idx t]

/-- The values' block. -/
theorem v_read (c : Dev nD) (t : Fin cfg0.N) (n : Fin 2048) (d : Fin 128) :
    iblk m c 4 t (ix3 0 n d) = m ((c : Thread nD τ).loc main_arg2) (ix3 (batch t) n ⟨(head t).val * 256 + 128 + d.val, by omega⟩) := by
  have := lt_N t
  blk_ext [iblk, V, idx t]

/-- The scores of every argument memory considered are real numbers. -/
abbrev RealAt (c : Dev nD) : Prop :=
  AttnSpec.Real (m ((c : Thread nD τ).loc main_arg0)) (m ((c : Thread nD τ).loc main_arg1)) (m ((c : Thread nD τ).loc main_arg2)) (m ((c : Thread nD τ).loc main_arg3))

/-- What is stored at grid point `t`. -/
theorem stored (c : Dev nD) (H : RealAt m c) (t : Fin cfg0.N) (a : Fin 512) (d : Fin 128) :
    outsAt0 m c t (ix3 0 a d) = AttnSpec.attn (m ((c : Thread nD τ).loc main_arg0)) (m ((c : Thread nD τ).loc main_arg1))
      (m ((c : Thread nD τ).loc main_arg2)) (m ((c : Thread nD τ).loc main_arg3)) (batch t) (head t) (row t a) d := by
  have ht := lt_N t
  have hc : (grid0.coords t 2).val = t.val % 4 := (idx t).2.2.2.2.2.2
  unfold outsAt0 AttnSpec.attn
  refine AttnLoop.block_row c (grid0.coords t) _ _ _ _ _ _ _ _ _ _ _ _ _ _ _ _ _ _ _ _ a d (fun n => ?_) (fun n => ?_) (by simp only [hc])
  · refine Eq.trans ?_ (AttnSpec.masked_eq _ _ _ _ (batch t) (head t) (row t a) H n)
    unfold AttnLoop.blockScore AttnSpec.score
    simp only [q_read, r_read, k_read, kr_read, hc]
  · rw [v_read]
    unfold AttnSpec.value
    rw [dif_pos n.isLt]

/-- Attention at equal places. -/
theorem attn_congr (q : AttnSpec.Qn) (r : AttnSpec.Qr) (kv : AttnSpec.Kv) (kr : AttnSpec.Kr) {b b' : Fin 4} {h h' : Fin 32} {i i' : Fin 2048}
    {d d' : Fin 128} (eb : b.val = b'.val) (eh : h.val = h'.val) (ei : i.val = i'.val) (ed : d.val = d'.val) :
    AttnSpec.attn q r kv kr b h i d = AttnSpec.attn q r kv kr b' h' i' d' := by
  rw [Fin.ext eb, Fin.ext eh, Fin.ext ei, Fin.ext ed]

/-- The result array after the run is attention, where every score is a real number. -/
theorem final (c : Dev nD) (H : RealAt m c) : (dats m 0 c).arrAt 5 (cfgs 0).N
    = AttnSpec.result (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  have ht := lt_N t
  blk_simp
  rw [after0_5]
  frame_out
  idx_vars y
  obtain rfl : y0 = 0 := Subsingleton.elim _ _
  refine (stored m c H t y1 y2).trans ?_
  blk_simp [AttnSpec.result, idx t]
  exact attn_congr _ _ _ _ (by blk_simp [idx t]; rfl) (by simp only; omega) (by blk_simp [idx t]) (by simp only; omega)

end Cert.Proof.AttnKernel
-- ==== Proof.AttnReference.lean ====
/-
  Attention over the prompt: what the reference's result is, entry by entry.
-/
module

public import proofs.«01_k».proof.Proof.Gen.Reference2Ideal.Run
public import proofs.«01_k».proof.Proof.AttnSpec
public import Idealize.ShloMosaic.Lib.Pointwise

@[expose] public section

set_option maxRecDepth 16384

noncomputable section

open Idealize.ShloMosaic Idealize.ShloMosaic.TcCoe Idealize.SL.Sem

namespace Cert.Proof.AttnReference

open Cert.Reference2Ideal Cert.Reference2Ideal.Gen Cert.Reference2Ideal.Value

variable (q : FVec Ideal S4x2048x4096 .bf16) (r : FVec Ideal S4x32x2048x64 .bf16) (kv : FVec Ideal S4x2048x8192 .bf16)
  (kr : FVec Ideal S4x2048x64 .bf16)

/-- The scores of every key for every query, masked. -/
def scores : FVec Ideal S4x32x2048x2048 .f32 :=
  select (broadcastInDim S4x32x2048x2048 ![2, 3] bcast_S2048x2048_S4x32x2048x2048_2_3 (cmpi .sge (broadcastInDim S2048x2048 ![0, 1] bcast_S2048x1_S2048x2048_0_1 (broadcastInDim S2048x1 ![0] bcast_S2048_S2048x1_0 (iotaInDim S2048 32 0))) (broadcastInDim S2048x2048 ![0, 1] bcast_S1x2048_S2048x2048_0_1 (broadcastInDim S1x2048 ![1] bcast_S2048_S1x2048_1 (iotaInDim S2048 32 0))))) (mulf (addf (Host.dotGeneral dot_S4x2048x32x128_S4x2048x32x128_S4x32x2048x2048_3_3_1_1_02_02 none (shapeCast _ (extf .f32 q bitsLt_bf16_f32) shapeCasts_S4x2048x4096_S4x2048x32x128) (extractStridedSlice S4x2048x32x128 ![0, 0, 0, 0] (shapeCast _ (extf .f32 kv bitsLt_bf16_f32) shapeCasts_S4x2048x8192_S4x2048x32x256) slices_S4x2048x32x256_S4x2048x32x128_0_0_0_0)) (Host.dotGeneral dot_S4x32x2048x64_S4x2048x64_S4x32x2048x2048_3_2_12_1_0_0 none (extf .f32 r bitsLt_bf16_f32) (extf .f32 kr bitsLt_bf16_f32))) (broadcastInDim S4x32x2048x2048 ![] bcast_S_S4x32x2048x2048 (constant S_ .f32 0x3D93CD3A#32))) (broadcastInDim S4x32x2048x2048 ![] bcast_S_S4x32x2048x2048 (id (constant S_ .f32 0xFF800000#32)))

/-- The largest score of every row. -/
def tops (s : FVec Ideal S4x32x2048x2048 .f32) : FVec Ideal S4x32x2048 .f32 :=
  maximumf (broadcastInDim S4x32x2048 ![] bcast_S_S4x32x2048 (constant S_ .f32 0xFF800000#32)) (Host.reduce FloatOps.maximumf s (constant S_ .f32 0xFF800000#32) reducesTo_S4x32x2048x2048_S4x32x2048_d3 h_S_)

/-- The exponential of every score less its row's largest. -/
def exps (s : FVec Ideal S4x32x2048x2048 .f32) (t : FVec Ideal S4x32x2048 .f32) : FVec Ideal S4x32x2048x2048 .f32 :=
  Host.exp (subf s (broadcastInDim S4x32x2048x2048 ![0, 1, 2, 3] bcast_S4x32x2048x1_S4x32x2048x2048_0_1_2_3 (broadcastInDim S4x32x2048x1 ![0, 1, 2] bcast_S4x32x2048_S4x32x2048x1_0_1_2 t)))

/-- The exponentials of every row, added. -/
def sums (e : FVec Ideal S4x32x2048x2048 .f32) : FVec Ideal S4x32x2048 .f32 :=
  Host.reduceAdd e (constant S_ .f32 0x00000000#32) reducesTo_S4x32x2048x2048_S4x32x2048_d3 h_S_

/-- The quotients times the values, in the layout of the result. -/
def outs (e : FVec Ideal S4x32x2048x2048 .f32) (l : FVec Ideal S4x32x2048 .f32) : FVec Ideal S4x2048x4096 .bf16 :=
  truncf .bf16 (shapeCast _ (transpose S4x2048x32x128 [0, 3, 1, 2] (Host.dotGeneral dot_S4x2048x32x128_S4x32x2048x2048_S4x32x128x2048_1_3_3_2_02_01 none (extractStridedSlice S4x2048x32x128 ![0, 0, 0, 128] (shapeCast _ (extf .f32 kv bitsLt_bf16_f32) shapeCasts_S4x2048x8192_S4x2048x32x256) slices_S4x2048x32x256_S4x2048x32x128_0_0_0_128) (Host.divf e (broadcastInDim S4x32x2048x2048 ![0, 1, 2, 3] bcast_S4x32x2048x1_S4x32x2048x2048_0_1_2_3 (broadcastInDim S4x32x2048x1 ![0, 1, 2] bcast_S4x32x2048_S4x32x2048x1_0_1_2 l)))) transposes_S4x32x128x2048_S4x2048x32x128_0_3_1_2) shapeCasts_S4x2048x32x128_S4x2048x4096) bitsLt_bf16_f32

/-- A masked score: the score where the key is no later than the query, `⊥` after it. -/
theorem scores_apply (b : Fin 4) (h : Fin 32) (i n : Fin 2048) :
    scores q r kv kr (ix4 b h i n) = if n.val ≤ i.val then AttnSpec.score q r kv kr b h i n else (⊥ : EReal) := by
  unfold AttnSpec.score
  pointwise [scores]
  have hc := AttnSpec.sge_word i.val n.val (by omega) (by omega)
  rw [hc]
  by_cases hn : n.val ≤ i.val
  · rw [if_pos hn, if_pos hn]; rfl
  · rw [if_neg hn, if_neg hn]; exact AttnSpec.ninf

/-- The largest along the last axis, over a given starting value. -/
theorem reduce_apply (s : FVec Ideal S4x32x2048x2048 .f32) (z : FVec Ideal S_ .f32) (b : Fin 4) (h : Fin 32) (i : Fin 2048) :
    Host.reduce FloatOps.maximumf s z reducesTo_S4x32x2048x2048_S4x32x2048_d3 h_S_ (ix3 b h i)
      = Finset.univ.fold max (z (Shape.Idx.first h_S_) : EReal) fun n : Fin 2048 => (s (ix4 b h i n) : EReal) := by
  pointwise []

/-- A row's largest score. -/
theorem tops_apply (s : FVec Ideal S4x32x2048x2048 .f32) (b : Fin 4) (h : Fin 32) (i : Fin 2048) :
    tops s (ix3 b h i) = (Finset.univ : Finset (Fin 2048)).sup fun n => (s (ix4 b h i n) : EReal) := by
  unfold tops
  rw [show ∀ (x y : FVec Ideal S4x32x2048 .f32) (j : S4x32x2048.Idx), maximumf x y j = max (x j : EReal) (y j) from fun _ _ _ => rfl, reduce_apply]
  rw [show ∀ (x : FVec Ideal S_ .f32) (j : S4x32x2048.Idx), broadcastInDim S4x32x2048 ![] bcast_S_S4x32x2048 x j = x ix0 from fun x j => by pointwise []]
  rw [show ∀ j, constant (F := Ideal) S_ .f32 0xFF800000#32 j = (⊥ : EReal) from fun j => AttnSpec.ninf]
  exact max_eq_right bot_le

/-- One exponential. -/
theorem exps_apply (s : FVec Ideal S4x32x2048x2048 .f32) (t : FVec Ideal S4x32x2048 .f32) (b : Fin 4) (h : Fin 32) (i n : Fin 2048) :
    exps s t (ix4 b h i n) = Ideal.exp ((s (ix4 b h i n) : EReal) - t (ix3 b h i)) := by
  pointwise [exps]

/-- One row's sum. -/
theorem sums_apply (e : FVec Ideal S4x32x2048x2048 .f32) (b : Fin 4) (h : Fin 32) (i : Fin 2048) :
    sums e (ix3 b h i) = ∑ n : Fin 2048, (e (ix4 b h i n) : EReal) := by
  pointwise [sums]

/-- One entry of the result. -/
theorem outs_apply (e : FVec Ideal S4x32x2048x2048 .f32) (l : FVec Ideal S4x32x2048 .f32) (b : Fin 4) (h : Fin 32) (i : Fin 2048)
    (d : Fin 128) :
    outs kv e l (ix3 b i ⟨h.val * 128 + d.val, by omega⟩)
      = ∑ n : Fin 2048, Ideal.div (e (ix4 b h i n)) (l (ix3 b h i)) * AttnSpec.value kv b h d n.val := by
  unfold AttnSpec.value
  pointwise [outs]
  refine Finset.sum_congr rfl fun n _ => (mul_comm _ _).trans ?_
  exact congrArg (fun x => Ideal.div (e (ix4 b h i n)) (l (ix3 b h i)) * kv x) ((ix3_inj ..).2 ⟨rfl, rfl, Fin.ext (by simp only []; omega)⟩)

variable (m : (ℓ : Loc nD τ sig) → Buf (Elt Ideal) ℓ) (c : Dev nD)

/-- The reference's result, in these pieces. -/
theorem result : res_main_v34 m c
    = outs (m ((c.tc : Thread nD τ).loc main_arg2))
        (exps (scores (m ((c.tc : Thread nD τ).loc main_arg0)) (m ((c.tc : Thread nD τ).loc main_arg1)) (m ((c.tc : Thread nD τ).loc main_arg2)) (m ((c.tc : Thread nD τ).loc main_arg3)))
          (tops (scores (m ((c.tc : Thread nD τ).loc main_arg0)) (m ((c.tc : Thread nD τ).loc main_arg1)) (m ((c.tc : Thread nD τ).loc main_arg2)) (m ((c.tc : Thread nD τ).loc main_arg3)))))
        (sums (exps (scores (m ((c.tc : Thread nD τ).loc main_arg0)) (m ((c.tc : Thread nD τ).loc main_arg1)) (m ((c.tc : Thread nD τ).loc main_arg2)) (m ((c.tc : Thread nD τ).loc main_arg3)))
          (tops (scores (m ((c.tc : Thread nD τ).loc main_arg0)) (m ((c.tc : Thread nD τ).loc main_arg1)) (m ((c.tc : Thread nD τ).loc main_arg2)) (m ((c.tc : Thread nD τ).loc main_arg3)))))) := rfl

/-- The reference's result, entry by entry, where every score is a real number: attention. -/
theorem result_apply
    (H : AttnSpec.Real (m ((c.tc : Thread nD τ).loc main_arg0)) (m ((c.tc : Thread nD τ).loc main_arg1)) (m ((c.tc : Thread nD τ).loc main_arg2)) (m ((c.tc : Thread nD τ).loc main_arg3)))
    (b : Fin 4) (h : Fin 32) (i : Fin 2048) (d : Fin 128) :
    res_main_v34 m c (ix3 b i ⟨h.val * 128 + d.val, by omega⟩)
      = AttnSpec.attn (m ((c.tc : Thread nD τ).loc main_arg0)) (m ((c.tc : Thread nD τ).loc main_arg1)) (m ((c.tc : Thread nD τ).loc main_arg2)) (m ((c.tc : Thread nD τ).loc main_arg3)) b h i d := by
  rw [result]
  generalize m ((c.tc : Thread nD τ).loc main_arg0) = q at *
  generalize m ((c.tc : Thread nD τ).loc main_arg1) = r at *
  generalize m ((c.tc : Thread nD τ).loc main_arg2) = kv at *
  generalize m ((c.tc : Thread nD τ).loc main_arg3) = kr at *
  have hs : ∀ n : Fin 2048, scores q r kv kr (ix4 b h i n) = Softmax.masked i.val (AttnSpec.scoreR q r kv kr b h i) n.val :=
    fun n => (scores_apply q r kv kr b h i n).trans (AttnSpec.masked_eq q r kv kr b h i H n)
  have ht : tops (scores q r kv kr) (ix3 b h i) = Softmax.top i.val (AttnSpec.scoreR q r kv kr b h i) 2048 := by
    rw [tops_apply]
    simp only [hs]
    have := Softmax.top_add i.val (AttnSpec.scoreR q r kv kr b h i) 0 2048
    simp only [zero_add] at this
    rw [this]
    exact (max_eq_right (by unfold Softmax.top; simp)).symm
  have he : ∀ n : Fin 2048, exps (scores q r kv kr) (tops (scores q r kv kr)) (ix4 b h i n)
      = Ideal.exp (Softmax.masked i.val (AttnSpec.scoreR q r kv kr b h i) n.val - Softmax.top i.val (AttnSpec.scoreR q r kv kr b h i) 2048) := by
    intro n
    rw [exps_apply, hs, ht]
  have hl : sums (exps (scores q r kv kr) (tops (scores q r kv kr))) (ix3 b h i)
      = Softmax.den i.val (AttnSpec.scoreR q r kv kr b h i) 2048 := by
    rw [sums_apply]
    simp only [he]
    unfold Softmax.den
    exact Fin.sum_univ_eq_sum_range (fun j => Ideal.exp (Softmax.masked i.val (AttnSpec.scoreR q r kv kr b h i) j
      - Softmax.top i.val (AttnSpec.scoreR q r kv kr b h i) 2048)) 2048
  refine (outs_apply kv _ _ b h i d).trans ?_
  unfold AttnSpec.attn
  rw [Softmax.div_den _ _ _ _ (by decide), hl]
  exact Finset.sum_congr rfl fun n _ => by rw [he]

/-- The reference's whole result. -/
theorem result_eq (H : AttnSpec.Real (m ((c.tc : Thread nD τ).loc main_arg0)) (m ((c.tc : Thread nD τ).loc main_arg1)) (m ((c.tc : Thread nD τ).loc main_arg2)) (m ((c.tc : Thread nD τ).loc main_arg3))) : res_main_v34 m c = AttnSpec.result (m ((c.tc : Thread nD τ).loc main_arg0)) (m ((c.tc : Thread nD τ).loc main_arg1)) (m ((c.tc : Thread nD τ).loc main_arg2)) (m ((c.tc : Thread nD τ).loc main_arg3)) := by
  funext j
  idx_vars j
  have e : (ix3 j0 j1 j2 : S4x2048x4096.Idx) = ix3 j0 j1 ⟨(⟨j2.val / 128, by omega⟩ : Fin 32).val * 128 + (⟨j2.val % 128, by omega⟩ : Fin 128).val, by simp only []; omega⟩ :=
    (ix3_inj ..).2 ⟨rfl, rfl, Fin.ext (by simp only []; omega)⟩
  exact (congrArg (res_main_v34 m c) e).trans (result_apply m c H j0 ⟨j2.val / 128, by omega⟩ j1 ⟨j2.val % 128, by omega⟩)

end Cert.Proof.AttnReference
-- ==== Proof.AttnPre.lean ====
/-
  Attention over the prompt: the precondition, that the queries and the keys are finite, makes every score a real number.
-/
module

public import proofs.«01_k».proof.Pre_finite_scores
public import proofs.«01_k».proof.Proof.AttnSpec
public import Idealize.ShloMosaic.Lib.Pointwise

@[expose] public section

set_option maxRecDepth 16384

noncomputable section

open Idealize.ShloMosaic Idealize.ShloMosaic.TcCoe Idealize.SL.Sem

namespace Cert.Proof.AttnPre

open Cert.Pre_finite_scores

/-- The facts the precondition's own text asks for. -/
instance facts : Cert.Pre_finite_scores.Facts :=
  ⟨by decide, by decide, by decide, by decide, by decide, by decide, by decide⟩

/-- A number whose absolute value is below plus infinity is a real number. -/
theorem real_of_abs (x : EReal) (h : BitVec.ofBool (decide (max x (-x) < Ideal.ofBits .f32 0x7F800000#32)) = 1#1) : ∃ a : ℝ, x = a := by
  have e : Ideal.ofBits .f32 0x7F800000#32 = (⊤ : EReal) := by simp [Ideal.ofBits, Ideal.ieee]
  rw [e] at h
  induction x with
  | bot => simp at h
  | top => simp at h
  | coe a => exact ⟨a, rfl⟩

variable (q : FVec Ideal S4x2048x4096 .bf16) (r : FVec Ideal S4x32x2048x64 .bf16) (kv : FVec Ideal S4x2048x8192 .bf16)
  (kr : FVec Ideal S4x2048x64 .bf16)

/-- The precondition read: every score is a real number. -/
theorem real (h0 : (fn (F := Ideal) q r kv kr).1 = fun _ => 1#1) (h1 : (fn (F := Ideal) q r kv kr).2.1 = fun _ => 1#1)
    (h2 : (fn (F := Ideal) q r kv kr).2.2.1 = fun _ => 1#1) (h3 : (fn (F := Ideal) q r kv kr).2.2.2 = fun _ => 1#1) :
    AttnSpec.Real q r kv kr := by
  refine AttnSpec.real_of q r kv kr (fun x => ?_) (fun x => ?_) (fun b n h d => ?_) (fun x => ?_)
  · have e := congrFun h0 x
    idx_vars x
    pointwise [fn] at e
    exact real_of_abs _ e
  · have e := congrFun h1 x
    idx_vars x
    pointwise [fn] at e
    exact real_of_abs _ e
  · have e := congrFun h2 (ix4 b n h d)
    pointwise [fn] at e
    exact real_of_abs _ e
  · have e := congrFun h3 x
    idx_vars x
    pointwise [fn] at e
    exact real_of_abs _ e

end Cert.Proof.AttnPre
-- ==== Proof.S5Spec.lean ====
/-
  The recurrence step, entry by entry: the discretised operators, the new state, the read-out and its activation, as the
  problem states them; and the two sums over a block-diagonal row that the kernel's packed operators give.
-/
module

public import Idealize.ShloMosaic.Lib.Pipeline.ValueKit
public import Idealize.ShloMosaic.Lib.Pointwise

@[expose] public section

noncomputable section

open Idealize.ShloMosaic

namespace Cert.Proof.S5

/-- The arguments of the step: the inputs, the old state, the parameters of the state space and the skip weights. -/
structure Args where
  u : FVec Ideal ⟨2, ![128, 4096]⟩ .f32
  sr : FVec Ideal ⟨3, ![128, 256, 64]⟩ .f32
  si : FVec Ideal ⟨3, ![128, 256, 64]⟩ .f32
  lr : FVec Ideal ⟨2, ![256, 64]⟩ .f32
  li : FVec Ideal ⟨2, ![256, 64]⟩ .f32
  ls : FVec Ideal ⟨1, ![256]⟩ .f32
  br : FVec Ideal ⟨3, ![256, 64, 16]⟩ .f32
  bi : FVec Ideal ⟨3, ![256, 64, 16]⟩ .f32
  cr : FVec Ideal ⟨3, ![256, 16, 64]⟩ .f32
  ci : FVec Ideal ⟨3, ![256, 16, 64]⟩ .f32
  d : FVec Ideal ⟨1, ![4096]⟩ .f32

variable (A : Args)

/-- Real part of the discretised eigenvalue of state `p` of group `g`. -/
def aRe (g : Fin 256) (p : Fin 64) : EReal :=
  Ideal.exp (A.lr (ix2 g p) * Ideal.exp (A.ls (ix1 g))) * Ideal.cos (A.li (ix2 g p) * Ideal.exp (A.ls (ix1 g)))

/-- Imaginary part of the discretised eigenvalue. -/
def aIm (g : Fin 256) (p : Fin 64) : EReal :=
  Ideal.exp (A.lr (ix2 g p) * Ideal.exp (A.ls (ix1 g))) * Ideal.sin (A.li (ix2 g p) * Ideal.exp (A.ls (ix1 g)))

/-- The squared modulus of the eigenvalue. -/
def den (g : Fin 256) (p : Fin 64) : EReal := A.lr (ix2 g p) * A.lr (ix2 g p) + A.li (ix2 g p) * A.li (ix2 g p)

/-- Real part of the factor that discretises the input matrix. -/
def fRe (g : Fin 256) (p : Fin 64) : EReal :=
  Ideal.div ((aRe A g p - 1) * A.lr (ix2 g p) + aIm A g p * A.li (ix2 g p)) (den A g p)

/-- Imaginary part of the factor that discretises the input matrix. -/
def fIm (g : Fin 256) (p : Fin 64) : EReal :=
  Ideal.div (aIm A g p * A.lr (ix2 g p) - (aRe A g p - 1) * A.li (ix2 g p)) (den A g p)

/-- Real part of the discretised input matrix. -/
def bRe (g : Fin 256) (p : Fin 64) (k : Fin 16) : EReal :=
  fRe A g p * A.br (ix3 g p k) - fIm A g p * A.bi (ix3 g p k)

/-- Imaginary part of the discretised input matrix. -/
def bIm (g : Fin 256) (p : Fin 64) (k : Fin 16) : EReal :=
  fRe A g p * A.bi (ix3 g p k) + fIm A g p * A.br (ix3 g p k)

/-- Real part of the new state: the input's contribution and the old state, rotated. -/
def sRe (n : Fin 128) (g : Fin 256) (p : Fin 64) : EReal :=
  (∑ k : Fin 16, A.u (ix2 n ⟨g.val * 16 + k.val, by omega⟩) * bRe A g p k)
    + (aRe A g p * A.sr (ix3 n g p) - aIm A g p * A.si (ix3 n g p))

/-- Imaginary part of the new state. -/
def sIm (n : Fin 128) (g : Fin 256) (p : Fin 64) : EReal :=
  (∑ k : Fin 16, A.u (ix2 n ⟨g.val * 16 + k.val, by omega⟩) * bIm A g p k)
    + (aRe A g p * A.si (ix3 n g p) + aIm A g p * A.sr (ix3 n g p))

/-- The read-out of channel `k` of group `g`, with the skip connection, before the activation. -/
def pre (n : Fin 128) (g : Fin 256) (k : Fin 16) : EReal :=
  ((∑ p : Fin 64, sRe A n g p * A.cr (ix3 g k p)) + ∑ p : Fin 64, sIm A n g p * -A.ci (ix3 g k p))
    + A.d (ix1 ⟨g.val * 16 + k.val, by omega⟩) * A.u (ix2 n ⟨g.val * 16 + k.val, by omega⟩)

/-- The activation: the approximation of the Gaussian error unit by the hyperbolic tangent, with its constants as printed. -/
def gelu (y : EReal) : EReal :=
  y * (Ideal.ofBits .f32 1056964608#32 * (1 + Ideal.tanh (Ideal.ofBits .f32 1061962282#32 * (y + Ideal.ofBits .f32 1027024659#32 * (y * (y * y))))))

/-- The same with the cube multiplied from the left. -/
def geluCube (y : EReal) : EReal :=
  y * (Ideal.ofBits .f32 1056964608#32 * (1 + Ideal.tanh (Ideal.ofBits .f32 1061962282#32 * (y + Ideal.ofBits .f32 1027024659#32 * (y * y * y)))))

theorem geluCube_eq (y : EReal) : geluCube y = gelu y := by
  unfold geluCube gelu
  rw [mul_comm (y * y) y]

/-- The step's first result: the activated read-out, the channels of all groups in one row. -/
def outArr : FVec Ideal ⟨2, ![128, 4096]⟩ .bf16 := fun j =>
  gelu (pre A (j 0) ⟨(j 1).val / 16, by have : (j 1).val < 4096 := (j 1).isLt; omega⟩ ⟨(j 1).val % 16, by omega⟩)

/-- The step's second result: the real parts of the new state, the states of all groups in one row. -/
def reArr : FVec Ideal ⟨2, ![128, 16384]⟩ .f32 := fun j =>
  sRe A (j 0) ⟨(j 1).val / 64, by have : (j 1).val < 16384 := (j 1).isLt; omega⟩ ⟨(j 1).val % 64, by omega⟩

/-- The step's third result: the imaginary parts of the new state. -/
def imArr : FVec Ideal ⟨2, ![128, 16384]⟩ .f32 := fun j =>
  sIm A (j 0) ⟨(j 1).val / 64, by have : (j 1).val < 16384 := (j 1).isLt; omega⟩ ⟨(j 1).val % 64, by omega⟩

/-- A sum over `G` rows of `C` entries of which only row `g` is not zero is the sum over that row. -/
theorem sum_row (G C : ℕ) (T : ℕ) (hT : T = G * C) (hC : 0 < C) (f : Fin T → EReal) (g : Fin G)
    (h : ∀ r : Fin T, r.val / C ≠ g.val → f r = 0) :
    ∑ r : Fin T, f r = ∑ k : Fin C, f ⟨g.val * C + k.val, by
      subst hT; have := g.isLt; have := k.isLt
      calc g.val * C + k.val < g.val * C + C := by omega
        _ = (g.val + 1) * C := by ring
        _ ≤ G * C := Nat.mul_le_mul_right _ (by omega)⟩ := by
  subst hT
  rw [Fin.sum_univ_tiles G C rfl f, Finset.sum_eq_single g]
  · intro b _ hb
    refine Finset.sum_eq_zero fun k _ => h _ ?_
    show (b.val * C + k.val) / C ≠ g.val
    rw [Nat.mul_comm, Nat.mul_add_div hC, Nat.div_eq_of_lt k.isLt]
    simpa using fun e => hb (Fin.ext e)
  · intro h; exact absurd (Finset.mem_univ _) h

/-- A row of 128 channels, 16 to a group, against one group's column of a block-diagonal matrix. -/
theorem sum_channels (a b : Fin 128 → EReal) (i : ℕ) (hi : i < 8) (x y : Fin 16 → EReal)
    (ha : ∀ k : Fin 16, a ⟨i * 16 + k.val, by omega⟩ = x k) (hb : ∀ k : Fin 16, b ⟨i * 16 + k.val, by omega⟩ = y k)
    (h0 : ∀ r : Fin 128, r.val / 16 ≠ i → b r = 0) :
    ∑ r : Fin 128, a r * b r = ∑ k : Fin 16, x k * y k := by
  rw [sum_row 8 16 128 rfl (by norm_num) (fun r => a r * b r) ⟨i, hi⟩ fun r hr => by simp only [h0 r hr, mul_zero]]
  exact Finset.sum_congr rfl fun k _ => by rw [← ha, ← hb]

/-- A row of 512 states, 64 to a group, against one group's column of a block-diagonal matrix. -/
theorem sum_states (a b : Fin 512 → EReal) (i : ℕ) (hi : i < 8) (x y : Fin 64 → EReal)
    (ha : ∀ k : Fin 64, a ⟨i * 64 + k.val, by omega⟩ = x k) (hb : ∀ k : Fin 64, b ⟨i * 64 + k.val, by omega⟩ = y k)
    (h0 : ∀ r : Fin 512, r.val / 64 ≠ i → b r = 0) :
    ∑ r : Fin 512, a r * b r = ∑ k : Fin 64, x k * y k := by
  rw [sum_row 8 64 512 rfl (by norm_num) (fun r => a r * b r) ⟨i, hi⟩ fun r hr => by simp only [h0 r hr, mul_zero]]
  exact Finset.sum_congr rfl fun k _ => by rw [← ha, ← hb]

/-- The same place, its coordinates written differently. -/
theorem bRe_congr {g g' : Fin 256} {p p' : Fin 64} {k k' : Fin 16} (hg : g.val = g'.val) (hp : p.val = p'.val) (hk : k.val = k'.val) :
    bRe A g p k = bRe A g' p' k' := by rw [Fin.ext hg, Fin.ext hp, Fin.ext hk]

theorem bIm_congr {g g' : Fin 256} {p p' : Fin 64} {k k' : Fin 16} (hg : g.val = g'.val) (hp : p.val = p'.val) (hk : k.val = k'.val) :
    bIm A g p k = bIm A g' p' k' := by rw [Fin.ext hg, Fin.ext hp, Fin.ext hk]

theorem sRe_congr {n n' : Fin 128} {g g' : Fin 256} {p p' : Fin 64} (hn : n.val = n'.val) (hg : g.val = g'.val) (hp : p.val = p'.val) :
    sRe A n g p = sRe A n' g' p' := by rw [Fin.ext hn, Fin.ext hg, Fin.ext hp]

theorem sIm_congr {n n' : Fin 128} {g g' : Fin 256} {p p' : Fin 64} (hn : n.val = n'.val) (hg : g.val = g'.val) (hp : p.val = p'.val) :
    sIm A n g p = sIm A n' g' p' := by rw [Fin.ext hn, Fin.ext hg, Fin.ext hp]

theorem pre_congr {n n' : Fin 128} {g g' : Fin 256} {k k' : Fin 16} (hn : n.val = n'.val) (hg : g.val = g'.val) (hk : k.val = k'.val) :
    pre A n g k = pre A n' g' k' := by rw [Fin.ext hn, Fin.ext hg, Fin.ext hk]

theorem at2 {α : Type} {a b : ℕ} (f : (⟨2, ![a, b]⟩ : Shape).Idx → α) (i : Fin a) {j j' : Fin b} (h : j.val = j'.val) :
    f (ix2 i j) = f (ix2 i j') := by rw [Fin.ext h]

theorem at3 {α : Type} {a b d : ℕ} (f : (⟨3, ![a, b, d]⟩ : Shape).Idx → α) {i i' : Fin a} {j j' : Fin b} {k k' : Fin d}
    (hi : i.val = i'.val) (hj : j.val = j'.val) (hk : k.val = k'.val) :
    f (ix3 i j k) = f (ix3 i' j' k') := by rw [Fin.ext hi, Fin.ext hj, Fin.ext hk]

end Cert.Proof.S5
-- ==== Proof.S5Entry.lean ====
/-
  The recurrence step: what the operands that the host packs for the kernel hold, entry by entry.

  The input and output matrices are packed block-diagonally, 8 groups of 16 channels by 8 groups of 64 states to a block, the
  imaginary half after the real half; an entry off the diagonal is a product by zero.
-/
module

public import proofs.«01_k».proof.Proof.Gen.KernelIdeal.Value
public import proofs.«01_k».proof.Proof.S5Spec
public import Idealize.ShloMosaic.Lib.Claim

@[expose] public section

set_option maxRecDepth 16384

noncomputable section

open Idealize.ShloMosaic Idealize.ShloMosaic.TcCoe Idealize.SL.Sem

namespace Cert.Proof.S5Kernel

open Cert.KernelIdeal Cert.KernelIdeal.Gen Cert.Proof.S5

variable (m : (ℓ : Loc nD τ sig) → Buf (Elt Ideal) ℓ)

/-- The arguments of the step as the kernel's launch holds them. -/
def args (c : Dev nD) : Args where
  u := m ((c : Thread nD τ).loc main_arg0)
  sr := m ((c : Thread nD τ).loc main_arg1)
  si := m ((c : Thread nD τ).loc main_arg2)
  lr := m ((c : Thread nD τ).loc main_arg3)
  li := m ((c : Thread nD τ).loc main_arg4)
  ls := m ((c : Thread nD τ).loc main_arg5)
  br := m ((c : Thread nD τ).loc main_arg6)
  bi := m ((c : Thread nD τ).loc main_arg7)
  cr := m ((c : Thread nD τ).loc main_arg8)
  ci := m ((c : Thread nD τ).loc main_arg9)
  d := m ((c : Thread nD τ).loc main_arg10)

/-- An entry times an entry of the identity matrix that the host builds by comparing two counters. -/
theorem masked (x y : EReal) (a b : ℕ) (ha : a < 8) (hb : b < 8) (h : x = y) :
    x * (FloatOps.uitofp (F := Ideal) FTy.f32 (IntOp.cmpi CmpIPredicate.eq (IntOp.addi (BitVec.ofNat 32 a) 0#32) (BitVec.ofNat 32 b)) : EReal)
      = if a = b then y else 0 := by
  subst h
  have e : (IntOp.cmpi CmpIPredicate.eq (IntOp.addi (BitVec.ofNat 32 a) 0#32) (BitVec.ofNat 32 b)) = if a = b then 1#1 else 0#1 := by
    interval_cases a <;> interval_cases b <;> decide
  rw [e]
  split
  · exact (congrArg (x * ·) (by simp [FloatOps.uitofp] : (FloatOps.uitofp (F := Ideal) FTy.f32 1#1 : EReal) = 1)).trans (mul_one x)
  · exact (congrArg (x * ·) (by simp [FloatOps.uitofp] : (FloatOps.uitofp (F := Ideal) FTy.f32 0#1 : EReal) = 0)).trans (mul_zero x)

set_option maxHeartbeats 4000000 in
/-- The packed eigenvalues: the real parts of the 8 groups, then the imaginary parts. -/
theorem a_entry (c : Dev nD) (q : Fin 32) (j : Fin 1024) : V m c main_v111 (ix3 q 0 j)
    = if h : j.val < 512 then aRe (args m c) ⟨q.val * 8 + j.val / 64, by omega⟩ ⟨j.val % 64, by omega⟩
      else aIm (args m c) ⟨q.val * 8 + (j.val - 512) / 64, by omega⟩ ⟨(j.val - 512) % 64, by omega⟩ := by
  entry_read
  pointwise [aRe, aIm, args]

set_option maxHeartbeats 4000000 in
/-- The packed input matrix. -/
theorem b_entry (c : Dev nD) (q : Fin 32) (r : Fin 128) (j : Fin 1024) : V m c main_v75 (ix3 q r j)
    = if h : j.val < 512 then
        if r.val / 16 = j.val / 64 then bRe (args m c) ⟨q.val * 8 + r.val / 16, by omega⟩ ⟨j.val % 64, by omega⟩ ⟨r.val % 16, by omega⟩ else 0
      else
        if r.val / 16 = (j.val - 512) / 64 then bIm (args m c) ⟨q.val * 8 + r.val / 16, by omega⟩ ⟨(j.val - 512) % 64, by omega⟩ ⟨r.val % 16, by omega⟩ else 0 := by
  entry_read
  pointwise [aRe, aIm, den, fRe, fIm, bRe, bIm, args]
  refine dite_congr rfl (fun h => ?_) fun h => ?_
  · exact masked _ _ _ _ (by omega) (by omega) rfl
  · exact masked _ _ _ _ (by omega) (by omega) rfl

/-- The packed output matrix. -/
theorem c_entry (c : Dev nD) (q : Fin 32) (r : Fin 1024) (j : Fin 128) : V m c main_v108 (ix3 q r j)
    = if h : r.val < 512 then
        if r.val / 64 = j.val / 16 then (args m c).cr (ix3 ⟨q.val * 8 + r.val / 64, by omega⟩ ⟨j.val % 16, by omega⟩ ⟨r.val % 64, by omega⟩) else 0
      else
        if (r.val - 512) / 64 = j.val / 16 then -(args m c).ci (ix3 ⟨q.val * 8 + (r.val - 512) / 64, by omega⟩ ⟨j.val % 16, by omega⟩ ⟨(r.val - 512) % 64, by omega⟩) else 0 := by
  entry_read
  pointwise [args]
  refine dite_congr rfl (fun h => ?_) fun h => ?_
  · exact masked _ _ _ _ (by omega) (by omega) rfl
  · exact masked _ _ _ _ (by omega) (by omega) rfl

end Cert.Proof.S5Kernel
-- ==== Proof.S5Kernel.lean ====
/-
  The recurrence step: what the kernel leaves in its three result arrays.
-/
module

public import proofs.«01_k».proof.Proof.S5Entry
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Proof.S5Kernel

open Cert.KernelIdeal Cert.KernelIdeal.Gen Cert.Proof.S5

variable (m : (ℓ : Loc nD τ sig) → Buf (Elt Ideal) ℓ)

/-- The windows' block indices at grid point `t`: every window takes its block `t`. -/
theorem idx : ∀ t : Fin cfg0.N, win0_0.index t = ![0, t.val] ∧ win0_1.index t = ![0, t.val] ∧ win0_2.index t = ![0, t.val]
      ∧ win0_3.index t = ![t.val, 0, 0] ∧ win0_4.index t = ![t.val, 0, 0] ∧ win0_5.index t = ![t.val, 0, 0] ∧ win0_6.index t = ![t.val, 0, 0]
      ∧ win0_7.index t = ![0, t.val] ∧ win0_8.index t = ![0, t.val] ∧ win0_9.index t = ![0, t.val] :=
  (by decide +kernel : ∀ t : Fin grid0.N, win0_0.index t = ![0, t.val] ∧ win0_1.index t = ![0, t.val] ∧ win0_2.index t = ![0, t.val]
      ∧ win0_3.index t = ![t.val, 0, 0] ∧ win0_4.index t = ![t.val, 0, 0] ∧ win0_5.index t = ![t.val, 0, 0] ∧ win0_6.index t = ![t.val, 0, 0]
      ∧ win0_7.index t = ![0, t.val] ∧ win0_8.index t = ![0, t.val] ∧ win0_9.index t = ![0, t.val])

theorem lt_N (t : Fin cfg0.N) : t.val < 32 := t.isLt

/-- The inputs' block. -/
theorem u_read (c : Dev nD) (t : Fin cfg0.N) (n : Fin 128) (r : Fin 128) :
    iblk m c 0 t (ix2 n r) = (args m c).u (ix2 n ⟨t.val * 128 + r.val, by have := lt_N t; omega⟩) := by
  have := lt_N t
  blk_ext [iblk, V, args, idx t]

/-- The real state's block. -/
theorem sr_read (c : Dev nD) (t : Fin cfg0.N) (n : Fin 128) (r : Fin 512) :
    iblk m c 1 t (ix2 n r) = (args m c).sr (ix3 n ⟨t.val * 8 + r.val / 64, by have := lt_N t; omega⟩ ⟨r.val % 64, by omega⟩) := by
  have := lt_N t
  blk_point [iblk, args, idx t]

/-- The imaginary state's block. -/
theorem si_read (c : Dev nD) (t : Fin cfg0.N) (n : Fin 128) (r : Fin 512) :
    iblk m c 2 t (ix2 n r) = (args m c).si (ix3 n ⟨t.val * 8 + r.val / 64, by have := lt_N t; omega⟩ ⟨r.val % 64, by omega⟩) := by
  have := lt_N t
  blk_point [iblk, args, idx t]

/-- The packed input matrix's block. -/
theorem b_read (c : Dev nD) (t : Fin cfg0.N) (r : Fin 128) (j : Fin 1024) :
    iblk m c 3 t (ix3 0 r j) = V m c main_v75 (ix3 ⟨t.val, lt_N t⟩ r j) := by
  have := lt_N t
  blk_ext [iblk, idx t]

/-- The packed output matrix's block. -/
theorem c_read (c : Dev nD) (t : Fin cfg0.N) (r : Fin 1024) (j : Fin 128) :
    iblk m c 4 t (ix3 0 r j) = V m c main_v108 (ix3 ⟨t.val, lt_N t⟩ r j) := by
  have := lt_N t
  blk_ext [iblk, idx t]

/-- The packed eigenvalues' block. -/
theorem a_read (c : Dev nD) (t : Fin cfg0.N) (j : Fin 1024) :
    iblk m c 5 t (ix3 0 0 j) = V m c main_v111 (ix3 ⟨t.val, lt_N t⟩ 0 j) := by
  have := lt_N t
  blk_ext [iblk, idx t]

/-- The skip weights' block. -/
theorem d_read (c : Dev nD) (t : Fin cfg0.N) (j : Fin 128) :
    iblk m c 6 t (ix3 0 0 j) = (args m c).d (ix1 ⟨t.val * 128 + j.val, by have := lt_N t; omega⟩) := by
  have := lt_N t
  blk_point [iblk, args, idx t]

/-- The real part of the new state, as the body computes it. -/
abbrev newRe (c : Dev nD) (t : Fin cfg0.N) : FVec Ideal S128x512 .f32 :=
  k0_pay7 (iblk m c 0 t) (iblk m c 3 t) (View.ld (iblk m c 5 t) r0_2) (View.ld (iblk m c 5 t) r0_3) (iblk m c 1 t) (iblk m c 2 t)

/-- The imaginary part of the new state, as the body computes it. -/
abbrev newIm (c : Dev nD) (t : Fin cfg0.N) : FVec Ideal S128x512 .f32 :=
  k0_pay8 (iblk m c 0 t) (iblk m c 3 t) (View.ld (iblk m c 5 t) r0_2) (View.ld (iblk m c 5 t) r0_3) (iblk m c 1 t) (iblk m c 2 t)

/-- It is the real part of the new state of the group and state at that place. -/
theorem newRe_eq (c : Dev nD) (t : Fin cfg0.N) (n : Fin 128) (j : Fin 512) :
    newRe m c t (ix2 n j) = sRe (args m c) n ⟨t.val * 8 + j.val / 64, by have := lt_N t; omega⟩ ⟨j.val % 64, by omega⟩ := by
  have ht := lt_N t
  pointwise [k0_pay7, k0_pay2, k0_pay3, k0_pay4, k0_pay5, k0_pay6]
  unfold sRe
  refine congrArg₂ (· + ·) (sum_channels _ _ (j.val / 64) (by omega) _ _ (fun k => ?_) (fun k => ?_) fun r hr => ?_)
    (congrArg₂ (· - ·) (congrArg₂ (· * ·) ?_ ?_) (congrArg₂ (· * ·) ?_ ?_))
  · rw [u_read]; exact at2 _ n (by simp only; omega)
  · rw [b_read, b_entry, dif_pos (by simp only; omega), if_pos (by simp only; omega)]
    exact bRe_congr _ (by simp only; omega) rfl (by simp only; omega)
  · rw [b_read, b_entry, dif_pos (by simp only; omega), if_neg (by simp only; omega)]
  · rw [a_read, a_entry, dif_pos (by simp only; omega)]
  · rw [sr_read]
  · rw [a_read, a_entry, dif_neg (by simp only; omega)]; simp only [Nat.add_sub_cancel_left]
  · rw [si_read]

/-- It is the imaginary part of the new state of the group and state at that place. -/
theorem newIm_eq (c : Dev nD) (t : Fin cfg0.N) (n : Fin 128) (j : Fin 512) :
    newIm m c t (ix2 n j) = sIm (args m c) n ⟨t.val * 8 + j.val / 64, by have := lt_N t; omega⟩ ⟨j.val % 64, by omega⟩ := by
  have ht := lt_N t
  pointwise [k0_pay8, k0_pay2, k0_pay3, k0_pay4, k0_pay5, k0_pay6]
  unfold sIm
  refine congrArg₂ (· + ·) (sum_channels _ _ (j.val / 64) (by omega) _ _ (fun k => ?_) (fun k => ?_) fun r hr => ?_)
    (congrArg₂ (· + ·) (congrArg₂ (· * ·) ?_ ?_) (congrArg₂ (· * ·) ?_ ?_))
  · rw [u_read]; exact at2 _ n (by simp only; omega)
  · rw [b_read, b_entry, dif_neg (by simp only; omega), if_pos (by simp only; omega)]
    exact bIm_congr _ (by simp only; omega) (by simp only; omega) (by simp only; omega)
  · rw [b_read, b_entry, dif_neg (by simp only; omega), if_neg (by simp only; omega)]
  · rw [a_read, a_entry, dif_pos (by simp only; omega)]
  · rw [si_read]
  · rw [a_read, a_entry, dif_neg (by simp only; omega)]; simp only [Nat.add_sub_cancel_left]
  · rw [sr_read]

/-- What the body stores to the first result is the activated read-out. -/
theorem out_eq (c : Dev nD) (t : Fin cfg0.N) (n : Fin 128) (j : Fin 128) :
    k0_pay1 (iblk m c 0 t) (k0_pay9 (iblk m c 0 t) (iblk m c 3 t) (View.ld (iblk m c 5 t) r0_2) (View.ld (iblk m c 5 t) r0_3) (iblk m c 1 t) (iblk m c 2 t)) (k0_pay10 (iblk m c 4 t)) (constant S128x128 .f32 0x00000000#32) (iblk m c 6 t) (ix2 n j)
      = gelu (pre (args m c) n ⟨t.val * 8 + j.val / 16, by have := lt_N t; omega⟩ ⟨j.val % 16, by omega⟩) := by
  have ht := lt_N t
  pointwise [k0_pay1, k0_pay9, k0_pay10]
  refine congrArg gelu ?_
  unfold pre
  refine congrArg₂ (· + ·) (congrArg₂ (· + ·) (sum_states _ _ (j.val / 16) (by omega) _ _ (fun p => ?_) (fun p => ?_) fun r hr => ?_)
    (sum_states _ _ (j.val / 16) (by omega) _ _ (fun p => ?_) (fun p => ?_) fun r hr => ?_)) (congrArg₂ (· * ·) ?_ ?_)
  · exact (newRe_eq m c t n _).trans (sRe_congr _ rfl (by simp only; omega) (by simp only; omega))
  · rw [c_read, c_entry, dif_pos (by simp only; omega), if_pos (by simp only; omega)]
    exact at3 _ (by simp only; omega) (by simp only) (by simp only; omega)
  · rw [c_read, c_entry, dif_pos (by simp only; omega), if_neg (by simp only; omega)]
  · exact (newIm_eq m c t n _).trans (sIm_congr _ rfl (by simp only; omega) (by simp only; omega))
  · rw [c_read, c_entry, dif_neg (by simp only; omega), if_pos (by simp only; omega)]
    exact congrArg (- ·) (at3 _ (by simp only; omega) (by simp only) (by simp only; omega))
  · rw [c_read, c_entry, dif_neg (by simp only; omega), if_neg (by simp only; omega)]
  · rw [d_read]; exact congrArg _ (congrArg _ (Fin.ext (by simp only; omega)))
  · rw [u_read]; exact at2 _ n (by simp only; omega)

/-- The first result array after the run is the activated read-out. -/
theorem final7 (c : Dev nD) : (dats m 0 c).arrAt 7 (cfgs 0).N = outArr (args m c) := by
  refine (dats m 0 c).arrAt_eq_of_covers 7 _ (by decide +kernel) fun t _ y => ?_
  have ht := lt_N t
  blk_simp
  rw [after0_7]; frame_out
  idx_vars y
  refine (out_eq m c t _ _).trans ?_
  blk_simp [outArr, idx t]
  exact congrArg gelu (pre_congr _ (by blk_simp [idx t]) (by simp only; omega) (by simp only; omega))

/-- The second result array after the run is the real part of the new state. -/
theorem final8 (c : Dev nD) : (dats m 0 c).arrAt 8 (cfgs 0).N = reArr (args m c) := by
  refine (dats m 0 c).arrAt_eq_of_covers 8 _ (by decide +kernel) fun t _ y => ?_
  have ht := lt_N t
  blk_simp
  rw [after0_8]; frame_out
  idx_vars y
  refine (newRe_eq m c t _ _).trans ?_
  blk_simp [reArr, idx t]
  exact sRe_congr _ (by blk_simp [idx t]) (by simp only; omega) (by simp only; omega)

/-- The third result array after the run is the imaginary part of the new state. -/
theorem final9 (c : Dev nD) : (dats m 0 c).arrAt 9 (cfgs 0).N = imArr (args m c) := by
  refine (dats m 0 c).arrAt_eq_of_covers 9 _ (by decide +kernel) fun t _ y => ?_
  have ht := lt_N t
  blk_simp
  rw [after0_9]; frame_out
  idx_vars y
  refine (newIm_eq m c t _ _).trans ?_
  blk_simp [imArr, idx t]
  exact sIm_congr _ (by blk_simp [idx t]) (by simp only; omega) (by simp only; omega)

end Cert.Proof.S5Kernel
-- ==== Proof.S5Reference.lean ====
/-
  The recurrence step: what the reference's three results are, entry by entry.
-/
module

public import proofs.«01_k».proof.Proof.Gen.ReferenceIdeal
public import proofs.«01_k».proof.Proof.S5Spec
public import proofs.«01_k».proof.Defs
public import Idealize.ShloMosaic.Lib.Claim
public import Idealize.ShloMosaic.Lib.StableHlo.RunHlo

@[expose] public section

set_option maxRecDepth 16384

noncomputable section

open Idealize.ShloMosaic Idealize.ShloMosaic.TcCoe Idealize.SL.Sem

namespace Cert.Proof.S5Reference

open Cert.ReferenceIdeal Cert.ReferenceIdeal.Gen Cert.Proof.S5 Idealize.ShloMosaic.StableHlo

variable (m : (ℓ : Loc nD τ sig) → Buf (Elt Ideal) ℓ)

/-- The arguments of the step as the reference's launch holds them. -/
def args (c : Dev nD) : Args where
  u := m ((c : Thread nD τ).loc main_arg0)
  sr := m ((c : Thread nD τ).loc main_arg1)
  si := m ((c : Thread nD τ).loc main_arg2)
  lr := m ((c : Thread nD τ).loc main_arg3)
  li := m ((c : Thread nD τ).loc main_arg4)
  ls := m ((c : Thread nD τ).loc main_arg5)
  br := m ((c : Thread nD τ).loc main_arg6)
  bi := m ((c : Thread nD τ).loc main_arg7)
  cr := m ((c : Thread nD τ).loc main_arg8)
  ci := m ((c : Thread nD τ).loc main_arg9)
  d := m ((c : Thread nD τ).loc main_arg10)

/-- Every execution of the reference ends with the activated read-out and the two parts of the new state, and leaves the arguments as they were. -/
theorem run (g : Dev nD → PrngReg) : θ_run defs (onTc (τ := τ) (main (F := Ideal))) ⟨m, fun _ => 0, g⟩ fun r => ∀ c : Dev nD,
    r.2.mem ((c.tc : Thread nD τ).loc main_v85) = outArr (args m c) ∧
    r.2.mem ((c.tc : Thread nD τ).loc main_v86) = reArr (args m c) ∧
    r.2.mem ((c.tc : Thread nD τ).loc main_v87) = imArr (args m c) ∧
    r.2.mem ((c.tc : Thread nD τ).loc main_arg0) = m ((c.tc : Thread nD τ).loc main_arg0) ∧
    r.2.mem ((c.tc : Thread nD τ).loc main_arg1) = m ((c.tc : Thread nD τ).loc main_arg1) ∧
    r.2.mem ((c.tc : Thread nD τ).loc main_arg2) = m ((c.tc : Thread nD τ).loc main_arg2) ∧
    r.2.mem ((c.tc : Thread nD τ).loc main_arg3) = m ((c.tc : Thread nD τ).loc main_arg3) ∧
    r.2.mem ((c.tc : Thread nD τ).loc main_arg4) = m ((c.tc : Thread nD τ).loc main_arg4) ∧
    r.2.mem ((c.tc : Thread nD τ).loc main_arg5) = m ((c.tc : Thread nD τ).loc main_arg5) ∧
    r.2.mem ((c.tc : Thread nD τ).loc main_arg6) = m ((c.tc : Thread nD τ).loc main_arg6) ∧
    r.2.mem ((c.tc : Thread nD τ).loc main_arg7) = m ((c.tc : Thread nD τ).loc main_arg7) ∧
    r.2.mem ((c.tc : Thread nD τ).loc main_arg8) = m ((c.tc : Thread nD τ).loc main_arg8) ∧
    r.2.mem ((c.tc : Thread nD τ).loc main_arg9) = m ((c.tc : Thread nD τ).loc main_arg9) ∧
    r.2.mem ((c.tc : Thread nD τ).loc main_arg10) = m ((c.tc : Thread nD τ).loc main_arg10) := by
  refine θ_run_mono (run_hlo defs main (by hlo_seq) (by decide) (by decide) (by simp)
    (by intro _ h; (repeat (cases h with | head => rfl | tail _ h => ?_)); exact nomatch h) m g) fun r h c =>
    ⟨(h c main_v85).trans ?_, (h c main_v86).trans ?_, (h c main_v87).trans ?_,
    (h c main_arg0).trans ?_,
    (h c main_arg1).trans ?_,
    (h c main_arg2).trans ?_,
    (h c main_arg3).trans ?_,
    (h c main_arg4).trans ?_,
    (h c main_arg5).trans ?_,
    (h c main_arg6).trans ?_,
    (h c main_arg7).trans ?_,
    (h c main_arg8).trans ?_,
    (h c main_arg9).trans ?_,
    (h c main_arg10).trans ?_⟩
  all_goals clear h
  · after_results
    funext j
    idx_vars j
    pointwise [outArr]
    refine Eq.trans (congrArg geluCube ?_) (geluCube_eq _)
    unfold pre
    refine congrArg₂ (· + ·) (congrArg₂ (· + ·)
      (Finset.sum_congr rfl fun p _ => (mul_comm _ _).trans (congrArg₂ (· * ·) ?_ rfl))
      (Finset.sum_congr rfl fun p _ => (mul_comm _ _).trans (congrArg₂ (· * ·) ?_ rfl)))
      (congrArg₂ (· * ·) (congrArg (fun i => (args m c).d (ix1 i)) (Fin.ext ?_)) (at2 (args m c).u j0 ?_))
    · unfold sRe
      exact congrArg₂ (· + ·) (Finset.sum_congr rfl fun k _ => mul_comm _ _) rfl
    · unfold sIm
      exact congrArg₂ (· + ·) (Finset.sum_congr rfl fun k _ => mul_comm _ _) rfl
    · simp only; omega
    · simp only; omega
  · after_results
    funext j
    idx_vars j
    pointwise [reArr, sRe, aRe, aIm, bRe, fRe, fIm, den, args]
    exact congrArg (· + _) (Finset.sum_congr rfl fun k _ => mul_comm _ _)
  · after_results
    funext j
    idx_vars j
    pointwise [imArr, sIm, aRe, aIm, bIm, fRe, fIm, den, args]
    exact congrArg (· + _) (Finset.sum_congr rfl fun k _ => mul_comm _ _)
  all_goals after_results

end Cert.Proof.S5Reference
-- ==== Proof.GluValue2.lean ====
/-
  The gated projection of the second S5 layer: the kernel of the first with the block index of the weight stack moved by one.
-/
module

public import proofs.«01_k».proof.Proof.GluValue
public import proofs.«01_k».proof.Proof.Gen.Kernel4Ideal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Proof.Glu2Kernel

open Cert.Kernel4Ideal Cert.Kernel4Ideal.Gen

variable (m : (ℓ : Loc nD τ sig) → Buf (Elt Ideal) ℓ)

/-- The windows' block indices at grid point `t`: those of the first layer, in the second of the stacked weights. -/
theorem idx : ∀ t : Fin cfg0.N, win0_0.index t = ![t.val / 8, 0] ∧ win0_1.index t = ![1, 0, t.val % 8] ∧ win0_2.index t = ![1, 0, t.val % 8 + 8] ∧ win0_3.index t = ![t.val / 8, t.val % 8] :=
  (by decide +kernel : ∀ t : Fin grid0.N, win0_0.index t = ![t.val / 8, 0] ∧ win0_1.index t = ![1, 0, t.val % 8] ∧ win0_2.index t = ![1, 0, t.val % 8 + 8] ∧ win0_3.index t = ![t.val / 8, t.val % 8])

/-- What the body stores at index `y` of its block is the gated projection at the place of `y` in the array. -/
theorem point (c : Dev nD) (t : Fin cfg0.N) (y) : k0_pay1 (iblk m c 0 t) (iblk m c 1 t) (iblk m c 2 t) y
    = Glu.result 1 (m ((c : Thread nD τ).loc main_arg0)) (m ((c : Thread nD τ).loc main_arg1)) (((cfg0.win 3).blk t).view.emb y) := by
  pointwise [k0_pay1, Glu.result, Glu.entry, Ideal.logistic]
  blk_point [iblk, V, idx t]

/-- The result array after the run is the gated projection of the two arguments. -/
theorem final (c : Dev nD) : (dats m 0 c).arrAt 3 (cfgs 0).N = Glu.result 1 (m ((c : Thread nD τ).loc main_arg0)) (m ((c : Thread nD τ).loc main_arg1)) := by
  refine (dats m 0 c).arrAt_eq_of_covers 3 _ (by decide +kernel) fun t _ y => ?_
  blk_simp
  rw [after0_3]; frame_out
  exact point m c t y

end Cert.Proof.Glu2Kernel
-- ==== Proof.Mm.lean ====
/-
  The product of the activations by one of a stack of weights, from a given column on.
-/
module

public import Idealize.ShloMosaic.Lib.Pointwise

@[expose] public section

noncomputable section

open Idealize.ShloMosaic

namespace Cert.Proof.Mm

/-- Entry `j` of the product of `x` by the columns `c, c + 1, …` of weight `l` of the stack `w`. -/
def result {M K L N Q : ℕ} (l : Fin L) (c : ℕ) (hc : c + Q ≤ N) (x : (⟨2, ![M, K]⟩ : Shape).Idx → EReal)
    (w : (⟨3, ![L, K, N]⟩ : Shape).Idx → EReal) : (⟨2, ![M, Q]⟩ : Shape).Idx → EReal := fun j =>
  ∑ k : Fin K, x (ix2 (j 0) k) * w (ix3 l k ⟨c + (j 1).val, lt_of_lt_of_le (Nat.add_lt_add_left (j 1).isLt c) hc⟩)

end Cert.Proof.Mm
-- ==== Proof.WinValue.lean ====
/-
  The input projections of the two S5 layers: what the pipelined kernels leave in their result arrays.

  Each runs over a grid of 8 row blocks by 4 column blocks of 1024 by 1024.
-/
module

public import proofs.«01_k».proof.Proof.Mm
public import proofs.«01_k».proof.Proof.Gen.Kernel5Ideal.Value
public import proofs.«01_k».proof.Proof.Gen.Kernel6Ideal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Proof.WinKernel

open Cert.Kernel5Ideal Cert.Kernel5Ideal.Gen

variable (m : (ℓ : Loc nD τ sig) → Buf (Elt Ideal) ℓ)

/-- The windows' block indices at grid point `t`: row block `t / 4`, column block `t % 4`. -/
theorem idx : ∀ t : Fin cfg0.N, win0_0.index t = ![t.val / 4, 0] ∧ win0_1.index t = ![0, 0, t.val % 4] ∧ win0_2.index t = ![t.val / 4, t.val % 4] :=
  (by decide +kernel : ∀ t : Fin grid0.N, win0_0.index t = ![t.val / 4, 0] ∧ win0_1.index t = ![0, 0, t.val % 4] ∧ win0_2.index t = ![t.val / 4, t.val % 4])

/-- What the body stores at index `y` of its block is the product at the place of `y` in the array. -/
theorem point (c : Dev nD) (t : Fin cfg0.N) (y) : k0_pay1 (iblk m c 0 t) (iblk m c 1 t) y
    = Mm.result 0 0 (by decide) (m ((c : Thread nD τ).loc main_arg0)) (m ((c : Thread nD τ).loc main_arg1)) (((cfg0.win 2).blk t).view.emb y) := by
  pointwise [k0_pay1, Mm.result]
  blk_point [iblk, V, idx t]

/-- The result array after the run is the product of the two arguments. -/
theorem final (c : Dev nD) : (dats m 0 c).arrAt 2 (cfgs 0).N = Mm.result 0 0 (by decide) (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Proof.WinKernel

namespace Cert.Proof.WinKernel2

open Cert.Kernel6Ideal Cert.Kernel6Ideal.Gen

variable (m : (ℓ : Loc nD τ sig) → Buf (Elt Ideal) ℓ)

/-- The windows' block indices at grid point `t`: the same, in the second of the stacked weights. -/
theorem idx : ∀ t : Fin cfg0.N, win0_0.index t = ![t.val / 4, 0] ∧ win0_1.index t = ![1, 0, t.val % 4] ∧ win0_2.index t = ![t.val / 4, t.val % 4] :=
  (by decide +kernel : ∀ t : Fin grid0.N, win0_0.index t = ![t.val / 4, 0] ∧ win0_1.index t = ![1, 0, t.val % 4] ∧ win0_2.index t = ![t.val / 4, t.val % 4])

/-- What the body stores at index `y` of its block is the product at the place of `y` in the array. -/
theorem point (c : Dev nD) (t : Fin cfg0.N) (y) : k0_pay1 (iblk m c 0 t) (iblk m c 1 t) y
    = Mm.result 1 0 (by decide) (m ((c : Thread nD τ).loc main_arg0)) (m ((c : Thread nD τ).loc main_arg1)) (((cfg0.win 2).blk t).view.emb y) := by
  pointwise [k0_pay1, Mm.result]
  blk_point [iblk, V, idx t]

/-- The result array after the run is the product of the two arguments. -/
theorem final (c : Dev nD) : (dats m 0 c).arrAt 2 (cfgs 0).N = Mm.result 1 0 (by decide) (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Proof.WinKernel2
-- ==== Proof.OutValue.lean ====
/-
  The output projection after attention: what the pipelined kernel leaves in its result array.

  It runs over a grid of 8 row blocks by 4 column blocks of 1024 by 1024.
-/
module

public import proofs.«01_k».proof.Proof.Mm
public import proofs.«01_k».proof.Proof.Gen.Kernel7Ideal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Proof.OutKernel

open Cert.Kernel7Ideal Cert.Kernel7Ideal.Gen

variable (m : (ℓ : Loc nD τ sig) → Buf (Elt Ideal) ℓ)

/-- The windows' block indices at grid point `t`: row block `t / 4`, column block `t % 4`. -/
theorem idx : ∀ t : Fin cfg0.N, win0_0.index t = ![t.val / 4, 0] ∧ win0_1.index t = ![0, 0, t.val % 4] ∧ win0_2.index t = ![t.val / 4, t.val % 4] :=
  (by decide +kernel : ∀ t : Fin grid0.N, win0_0.index t = ![t.val / 4, 0] ∧ win0_1.index t = ![0, 0, t.val % 4] ∧ win0_2.index t = ![t.val / 4, t.val % 4])

/-- What the body stores at index `y` of its block is the product at the place of `y` in the array. -/
theorem point (c : Dev nD) (t : Fin cfg0.N) (y) : k0_pay1 (iblk m c 0 t) (iblk m c 1 t) y
    = Mm.result 0 0 (by decide) (m ((c : Thread nD τ).loc main_arg0)) (m ((c : Thread nD τ).loc main_arg1)) (((cfg0.win 2).blk t).view.emb y) := by
  pointwise [k0_pay1, Mm.result]
  blk_point [iblk, V, idx t]

/-- The result array after the run is the product of the two arguments. -/
theorem final (c : Dev nD) : (dats m 0 c).arrAt 2 (cfgs 0).N = Mm.result 0 0 (by decide) (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Proof.OutKernel
-- ==== Proof.FoxProj.lean ====
/-
  The projections of the forgetting attention: what the pipelined kernels leave in their result arrays.

  The queries are the first 4096 columns of one weight, the keys and values the next 1024, the forget gates the last 32.
-/
module

public import proofs.«01_k».proof.Proof.Mm
public import proofs.«01_k».proof.Proof.Gen.Kernel8Ideal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Proof.FoxQKernel

open Cert.Kernel8Ideal Cert.Kernel8Ideal.Gen

variable (m : (ℓ : Loc nD τ sig) → Buf (Elt Ideal) ℓ)

/-- The windows' block indices at grid point `t`: row block `t / 4`, column block `t % 4`. -/
theorem idx : ∀ t : Fin cfg0.N, win0_0.index t = ![t.val / 4, 0] ∧ win0_1.index t = ![0, 0, t.val % 4] ∧ win0_2.index t = ![t.val / 4, t.val % 4] :=
  (by decide +kernel : ∀ t : Fin grid0.N, win0_0.index t = ![t.val / 4, 0] ∧ win0_1.index t = ![0, 0, t.val % 4] ∧ win0_2.index t = ![t.val / 4, t.val % 4])

/-- The weights' block. No block is cut: 4096 of the 5152 columns are whole blocks. -/
theorem w_read (c : Dev nD) (t : Fin cfg0.N) (k : Fin 4096) (q : Fin 1024) (h : t.val % 4 * 1024 + q.val < 5152) :
    X0_1 m c t (ix3 0 k q) = m ((c : Thread nD τ).loc main_arg1) (ix3 0 k ⟨t.val % 4 * 1024 + q.val, h⟩) := by
  unfold X0_1 Pipeline.Window.fill
  rw [dif_pos (moved0_1 t _)]
  blk_ext [iblk, V, idx t]

/-- What the body stores at index `y` of its block is the product at the place of `y` in the array. -/
theorem point (c : Dev nD) (t : Fin cfg0.N) (y) : k0_pay1 (iblk m c 0 t) (X0_1 m c t) y
    = Mm.result 0 0 (by decide) (m ((c : Thread nD τ).loc main_arg0)) (m ((c : Thread nD τ).loc main_arg1)) (((cfg0.win 2).blk t).view.emb y) := by
  idx_vars y
  have e : ∀ k : Fin 4096, X0_1 m c t (ix3 0 k y1) = m ((c : Thread nD τ).loc main_arg1) (ix3 0 k ⟨t.val % 4 * 1024 + y1.val, by omega⟩) :=
    fun k => w_read m c t k y1 _
  pointwise [k0_pay1, Mm.result]
  simp only [e]
  blk_point [iblk, V, idx t]

/-- The result array after the run is the product of the two arguments. -/
theorem final (c : Dev nD) : (dats m 0 c).arrAt 2 (cfgs 0).N
    = Mm.result 0 0 (by decide) (m ((c : Thread nD τ).loc main_arg0)) (m ((c : Thread nD τ).loc main_arg1)) := by
  refine (dats m 0 c).arrAt_eq_of_covers 2 _ (by decide +kernel) fun t _ y => ?_
  blk_simp
  rw [after0_2]
  unfold outsAt0 out0_A_2
  rw [View.read_writes_eq_canon _ _ _ (cover0_A_2 c _ _ _ _ _ _ _ _ _)]
  unfold kernelRun0_A
  frame_out
  exact point m c t y

end Cert.Proof.FoxQKernel
-- ==== Proof.FoxKv.lean ====
/-
  The key and value projection of the forgetting attention: what the pipelined kernel leaves in its two result arrays.

  The keys and values are columns 4096 to 5119 of the weight whose first 4096 columns give the queries. The kernel runs over
  8 row blocks, and stores each product once in single and once in half precision.
-/
module

public import proofs.«01_k».proof.Proof.Mm
public import proofs.«01_k».proof.Proof.Gen.Kernel9Ideal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Proof.FoxKvKernel

open Cert.Kernel9Ideal Cert.Kernel9Ideal.Gen

variable (m : (ℓ : Loc nD τ sig) → Buf (Elt Ideal) ℓ)

/-- The keys and values, from the two arguments. -/
abbrev kv (c : Dev nD) : (⟨2, ![8192, 1024]⟩ : Shape).Idx → EReal :=
  Mm.result 0 4096 (by decide) (m ((c : Thread nD τ).loc main_arg0)) (m ((c : Thread nD τ).loc main_arg1))

/-- The windows' block indices at grid point `t`: row block `t`, and block 4 of the weight's columns. -/
theorem idx : ∀ t : Fin cfg0.N, win0_0.index t = ![t.val, 0] ∧ win0_1.index t = ![0, 0, 4] ∧ win0_2.index t = ![t.val, 0] ∧ win0_3.index t = ![t.val, 0] :=
  (by decide +kernel : ∀ t : Fin grid0.N, win0_0.index t = ![t.val, 0] ∧ win0_1.index t = ![0, 0, 4] ∧ win0_2.index t = ![t.val, 0] ∧ win0_3.index t = ![t.val, 0])

/-- The weights' block. -/
theorem w_read (c : Dev nD) (t : Fin cfg0.N) (k : Fin 4096) (q : Fin 1024) (h : 4096 + q.val < 5152) :
    X0_1 m c t (ix3 0 k q) = m ((c : Thread nD τ).loc main_arg1) (ix3 0 k ⟨4096 + q.val, h⟩) := by
  unfold X0_1 Pipeline.Window.fill
  rw [dif_pos (moved0_1 t _)]
  blk_ext [iblk, V, idx t]

/-- What the body stores first at index `y` of its block is the product at the place of `y` in the array. -/
theorem point (c : Dev nD) (t : Fin cfg0.N) (y) : k0_pay1 (iblk m c 0 t) (X0_1 m c t) y = kv m c (((cfg0.win 2).blk t).view.emb y) := by
  idx_vars y
  have e : ∀ k : Fin 4096, X0_1 m c t (ix3 0 k y1) = m ((c : Thread nD τ).loc main_arg1) (ix3 0 k ⟨4096 + y1.val, by omega⟩) :=
    fun k => w_read m c t k y1 _
  pointwise [k0_pay1, kv, Mm.result]
  simp only [e]
  blk_point [iblk, V, idx t]

/-- The second result has the first's places. -/
theorem same (t : Fin cfg0.N) (y : S1024x1024.Idx) : ((cfg0.win 3).blk t).view.emb y = ((cfg0.win 2).blk t).view.emb y := by
  blk_ext [idx t]

/-- The first result array after the run is the product. -/
theorem final2 (c : Dev nD) : (dats m 0 c).arrAt 2 (cfgs 0).N = kv m c := by
  refine (dats m 0 c).arrAt_eq_of_covers 2 _ (by decide +kernel) fun t _ y => ?_
  blk_simp
  rw [after0_2]
  unfold outsAt0 out0_A_2
  rw [View.read_writes_eq_canon _ _ _ (cover0_A_2 c _ _ _ _ _ _ _ _ _ _ _)]
  unfold kernelRun0_A
  frame_out
  exact point m c t y

/-- The second result array after the run is the product. -/
theorem final3 (c : Dev nD) : (dats m 0 c).arrAt 3 (cfgs 0).N = kv m c := by
  refine (dats m 0 c).arrAt_eq_of_covers 3 _ (by decide +kernel) fun t _ y => ?_
  blk_simp
  rw [after0_3]
  unfold outsAt0 out0_A_3
  rw [View.read_writes_eq_canon _ _ _ (cover0_A_3 c _ _ _ _ _ _ _ _ _ _ _)]
  unfold kernelRun0_A
  frame_out
  exact (point m c t y).trans (congrArg _ (same t y).symm)

end Cert.Proof.FoxKvKernel
-- ==== Proof.FoxGate.lean ====
/-
  The forget gates of the forgetting attention: what the pipelined kernel leaves in its result array.

  The kernel runs over 8 row blocks; it multiplies by the last 32 columns of the projection weight, adds the bias and takes
  the logarithm of the logistic function.
-/
module

public import proofs.«01_k».proof.Proof.Gen.Kernel10Ideal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Proof.Gate

/-- The logarithm of the logistic function, as the kernel writes it. -/
def logSig (z : EReal) : EReal := min z 0 - Ideal.log1p (Ideal.exp (0 - max z (-z)))

/-- The argument of a gate: the product of a row by a column, plus the column's bias. -/
def arg {M : ℕ} (x : (⟨2, ![M, 4096]⟩ : Shape).Idx → EReal) (w : (⟨2, ![4096, 32]⟩ : Shape).Idx → EReal) (b : EReal) (r : Fin M) (q : Fin 32) : EReal :=
  (∑ k : Fin 4096, x (ix2 r k) * w (ix2 k q)) + b

/-- Entry `j` of the forget gates of `x` by the weight `w` and the bias `b`. -/
def result (x : FVec Ideal ⟨2, ![8192, 4096]⟩ .bf16) (w : FVec Ideal ⟨2, ![4096, 32]⟩ .bf16) (b : FVec Ideal ⟨1, ![32]⟩ .f32) :
    FVec Ideal ⟨2, ![8192, 32]⟩ .f32 := fun j =>
  logSig (arg x w (b (ix1 (j 1))) (j 0) (j 1))

end Cert.Proof.Gate

namespace Cert.Proof.GateKernel

open Cert.Kernel10Ideal Cert.Kernel10Ideal.Gen

variable (m : (ℓ : Loc nD τ sig) → Buf (Elt Ideal) ℓ)

/-- The windows' block indices at grid point `t`: row block `t`, and the whole weight and bias. -/
theorem idx : ∀ t : Fin cfg0.N, win0_0.index t = ![t.val, 0] ∧ win0_1.index t = ![0, 0] ∧ win0_2.index t = ![0, 0] ∧ win0_3.index t = ![t.val, 0] :=
  (by decide +kernel : ∀ t : Fin grid0.N, win0_0.index t = ![t.val, 0] ∧ win0_1.index t = ![0, 0] ∧ win0_2.index t = ![0, 0] ∧ win0_3.index t = ![t.val, 0])

/-- The gate's argument at row `a`, column `q` of the block. -/
theorem arg (c : Dev nD) (t : Fin cfg0.N) (a : Fin 1024) (q : Fin 32) (h : t.val * 1024 + a.val < 8192) :
    Gate.arg (iblk m c 0 t) (iblk m c 1 t) (iblk m c 2 t (ix2 0 q)) a q
      = Gate.arg (m ((c : Thread nD τ).loc main_arg0)) (m ((c : Thread nD τ).loc main_arg1)) (m ((c : Thread nD τ).loc main_arg2) (ix1 q))
          ⟨t.val * 1024 + a.val, h⟩ q := by
  unfold Gate.arg
  blk_point [iblk, idx t]

/-- What the body stores at index `y` of its block is the forget gate at the place of `y` in the array. -/
theorem point (c : Dev nD) (t : Fin cfg0.N) (y) : k0_pay1 (iblk m c 0 t) (iblk m c 1 t) (iblk m c 2 t) y
    = Gate.result (m ((c : Thread nD τ).loc main_arg0)) (m ((c : Thread nD τ).loc main_arg1)) (m ((c : Thread nD τ).loc main_arg2))
        (((cfg0.win 3).blk t).view.emb y) := by
  idx_vars y
  have ht : t.val < 8 := t.isLt
  have e := arg m c t y0 y1 (by omega)
  have k : k0_pay1 (iblk m c 0 t) (iblk m c 1 t) (iblk m c 2 t) (ix2 y0 y1)
      = Gate.logSig (Gate.arg (iblk m c 0 t) (iblk m c 1 t) (iblk m c 2 t (ix2 0 y1)) y0 y1) := by
    pointwise [k0_pay1, Gate.logSig, Gate.arg]
    rfl
  have p : ((cfg0.win 3).blk t).view.emb (ix2 y0 y1) = ix2 ⟨t.val * 1024 + y0.val, by omega⟩ y1 := by
    blk_ext [idx t]
  rw [k, e, p]
  rfl

/-- The result array after the run is the forget gates. -/
theorem final (c : Dev nD) : (dats m 0 c).arrAt 3 (cfgs 0).N
    = Gate.result (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

end Cert.Proof.GateKernel
-- ==== Proof.GateReference.lean ====
/-
  The forget gates: what the reference returns.
-/
module

public import proofs.«01_k».proof.Proof.FoxGate
public import proofs.«01_k».proof.Proof.Gen.Reference10Ideal.Run

@[expose] public section

set_option maxRecDepth 16384

noncomputable section

open Idealize.ShloMosaic Idealize.ShloMosaic.TcCoe Idealize.SL.Sem Idealize.ShloMosaic.StableHlo

namespace Cert.Proof.Gate

/-- The logarithm the gates end with is never minus infinity. -/
theorem log_ne_bot (z : EReal) : Ideal.log1p (Ideal.exp z) ≠ ⊥ := by
  have pos : ∀ r : ℝ, 0 < r → Ideal.log (r : EReal) ≠ ⊥ := fun r hr => by
    rw [show Ideal.log (r : EReal) = if r ≤ 0 then ⊥ else (Real.log r : EReal) from rfl, if_neg (not_le.2 hr)]
    exact EReal.coe_ne_bot _
  induction z using EReal.rec with
  | bot =>
    show Ideal.log (1 + 0) ≠ ⊥
    rw [add_zero]
    exact pos 1 one_pos
  | top =>
    show Ideal.log (1 + ⊤) ≠ ⊥
    rw [show (1 : EReal) + ⊤ = ⊤ from EReal.coe_add_top 1]
    exact top_ne_bot
  | coe r =>
    have e : (1 : EReal) + (Real.exp r : EReal) = ((1 + Real.exp r : ℝ) : EReal) := by rw [EReal.coe_add]; rfl
    show Ideal.log (1 + (Real.exp r : EReal)) ≠ ⊥
    rw [e]
    exact pos _ (by positivity)

/-- The reference's form of the logarithm of the logistic function: the negative of the softplus of the negative. -/
theorem logSig_eq (z : EReal) :
    -(max (-z) 0 + Ideal.log1p (Ideal.exp (-(max (-z - 0) (-(-z - 0)))))) = logSig z := by
  unfold logSig
  rw [sub_zero, neg_neg, max_comm (-z) z, zero_sub]
  rw [EReal.neg_add (.inl ?_) (.inr (log_ne_bot _))]
  · congr 1
    rcases le_total z 0 with h | h
    · rw [max_eq_left (EReal.neg_nonneg.2 h), neg_neg, min_eq_left h]
    · rw [max_eq_right (by simpa using EReal.neg_le_neg_iff.2 h), neg_zero, min_eq_right h]
  · exact ne_of_gt (lt_of_lt_of_le EReal.bot_lt_zero (le_max_right _ _))

end Cert.Proof.Gate

namespace Cert.Proof.GateReference

open Cert.Reference10Ideal Cert.Reference10Ideal.Gen

/-- The logarithm of the logistic function of an array, as the reference computes it. -/
abbrev term (z : FVec Ideal S8192x32 .f32) : FVec Ideal S8192x32 .f32 :=
  Host.negf (select (cmpf .une (subf (Host.negf z) (broadcastInDim S8192x32 ![] bcast_S_S8192x32 (constant S_ .f32 0x00000000#32)))
      (subf (Host.negf z) (broadcastInDim S8192x32 ![] bcast_S_S8192x32 (constant S_ .f32 0x00000000#32))))
    (addf (Host.negf z) (broadcastInDim S8192x32 ![] bcast_S_S8192x32 (constant S_ .f32 0x00000000#32)))
    (addf (maximumf (Host.negf z) (broadcastInDim S8192x32 ![] bcast_S_S8192x32 (constant S_ .f32 0x00000000#32)))
      (Host.log1p (Host.exp (Host.negf (Host.absf (subf (Host.negf z)
        (broadcastInDim S8192x32 ![] bcast_S_S8192x32 (constant S_ .f32 0x00000000#32)))))))))

/-- The same at an index. -/
theorem term_apply (z : FVec Ideal S8192x32 .f32) (a : Fin 8192) (q : Fin 32) : term z (ix2 a q) = Gate.logSig (z (ix2 a q)) := by
  refine Eq.trans ?_ (Gate.logSig_eq (z (ix2 a q)))
  pointwise [term]
  rw [if_neg (fun h => h rfl)]
  rfl

/-- The gates' arguments at an index. -/
theorem arg_apply (x : FVec Ideal S8192x4096 .bf16) (w : FVec Ideal S4096x32 .bf16) (b : FVec Ideal S32 .f32) (a : Fin 8192) (q : Fin 32) :
    (addf (Host.dotGeneral dot_S8192x4096_S4096x32_S8192x32_1_0_0_1_n_n none (extf .f32 x bitsLt_bf16_f32) (extf .f32 w bitsLt_bf16_f32))
      (broadcastInDim S8192x32 ![0, 1] bcast_S1x32_S8192x32_0_1 (broadcastInDim S1x32 ![1] bcast_S32_S1x32_1 b)) : FVec Ideal S8192x32 .f32) (ix2 a q)
      = Gate.arg x w (b (ix1 q)) a q := by
  pointwise [Gate.arg]

/-- What the reference returns is the forget gates. -/
theorem ref (x : FVec Ideal S8192x4096 .bf16) (w : FVec Ideal S4096x32 .bf16) (b : FVec Ideal S32 .f32) :
    term (addf (Host.dotGeneral dot_S8192x4096_S4096x32_S8192x32_1_0_0_1_n_n none (extf .f32 x bitsLt_bf16_f32) (extf .f32 w bitsLt_bf16_f32))
      (broadcastInDim S8192x32 ![0, 1] bcast_S1x32_S8192x32_0_1 (broadcastInDim S1x32 ![1] bcast_S32_S1x32_1 b)))
      = Gate.result x w b := by
  funext j
  idx_vars j
  rw [term_apply, arg_apply]
  rfl

end Cert.Proof.GateReference
-- ==== Proof.ProjReference.lean ====
/-
  The projections of the attention layers: what the references return.
-/
module

public import proofs.«01_k».proof.Proof.Mm
public import proofs.«01_k».proof.Proof.Gen.Reference7Ideal.Run
public import proofs.«01_k».proof.Proof.Gen.Reference8Ideal.Run
public import proofs.«01_k».proof.Proof.Gen.Reference9Ideal.Run

@[expose] public section

set_option maxRecDepth 16384

noncomputable section

open Idealize.ShloMosaic Idealize.ShloMosaic.TcCoe Idealize.SL.Sem Idealize.ShloMosaic.StableHlo

namespace Cert.Proof.OutReference

open Cert.Reference7Ideal Cert.Reference7Ideal.Gen

/-- What the reference of the output projection returns is the product. -/
theorem ref (x : FVec Ideal S8192x4096 .bf16) (w : FVec Ideal S1x4096x4096 .bf16) :
    (Host.dotGeneral dot_S8192x4096_S4096x4096_S8192x4096_1_0_0_1_n_n none (extf .f32 x bitsLt_bf16_f32)
      (extf .f32 (shapeCast S4096x4096 w shapeCasts_S1x4096x4096_S4096x4096) bitsLt_bf16_f32) : FVec Ideal S8192x4096 .f32)
      = Mm.result 0 0 (by decide) x w := by
  funext j
  idx_vars j
  pointwise [Mm.result]

end Cert.Proof.OutReference

namespace Cert.Proof.FoxQReference

open Cert.Reference8Ideal Cert.Reference8Ideal.Gen

/-- The queries' columns of the product. -/
theorem ref (x : FVec Ideal S8192x4096 .bf16) (w : FVec Ideal S1x4096x5152 .bf16) :
    (extractStridedSlice S8192x4096 ![0, 0] (Host.dotGeneral dot_S8192x4096_S4096x5152_S8192x5152_1_0_0_1_n_n none (extf .f32 x bitsLt_bf16_f32)
      (extf .f32 (shapeCast S4096x5152 w shapeCasts_S1x4096x5152_S4096x5152) bitsLt_bf16_f32)) slices_S8192x5152_S8192x4096_0_0 : FVec Ideal S8192x4096 .f32)
      = Mm.result 0 0 (by decide) x w := by
  funext j
  idx_vars j
  pointwise [Mm.result]

end Cert.Proof.FoxQReference

namespace Cert.Proof.FoxKvReference

open Cert.Reference9Ideal Cert.Reference9Ideal.Gen

/-- The keys and values' columns of the product. -/
theorem ref (x : FVec Ideal S8192x4096 .bf16) (w : FVec Ideal S1x4096x5152 .bf16) :
    (extractStridedSlice S8192x1024 ![0, 4096] (Host.dotGeneral dot_S8192x4096_S4096x5152_S8192x5152_1_0_0_1_n_n none (extf .f32 x bitsLt_bf16_f32)
      (extf .f32 (shapeCast S4096x5152 w shapeCasts_S1x4096x5152_S4096x5152) bitsLt_bf16_f32)) slices_S8192x5152_S8192x1024_0_4096 : FVec Ideal S8192x1024 .f32)
      = Mm.result 0 4096 (by decide) x w := by
  funext j
  idx_vars j
  pointwise [Mm.result]

end Cert.Proof.FoxKvReference
-- ==== Proof.PeerValue.lean ====
/-
  The routers' queries: what the pipelined kernels of the four layers leave in their result arrays.

  Each runs over a grid of 8 row blocks by 2 column blocks of 1024 by 1024; they differ in the weight of the stack they read.
-/
module

public import proofs.«01_k».proof.Proof.Mm
public import proofs.«01_k».proof.Proof.Gen.Kernel12Ideal.Value
public import proofs.«01_k».proof.Proof.Gen.Kernel13Ideal.Value
public import proofs.«01_k».proof.Proof.Gen.Kernel14Ideal.Value
public import proofs.«01_k».proof.Proof.Gen.Kernel15Ideal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Proof.PeerKernel0

open Cert.Kernel12Ideal Cert.Kernel12Ideal.Gen

variable (m : (ℓ : Loc nD τ sig) → Buf (Elt Ideal) ℓ)

/-- The windows' block indices at grid point `t`: row block `t / 2`, column block `t % 2`. -/
theorem idx : ∀ t : Fin cfg0.N, win0_0.index t = ![t.val / 2, 0] ∧ win0_1.index t = ![0, 0, t.val % 2] ∧ win0_2.index t = ![t.val / 2, t.val % 2] :=
  (by decide +kernel : ∀ t : Fin grid0.N, win0_0.index t = ![t.val / 2, 0] ∧ win0_1.index t = ![0, 0, t.val % 2] ∧ win0_2.index t = ![t.val / 2, t.val % 2])

/-- What the body stores at index `y` of its block is the product at the place of `y` in the array. -/
theorem point (c : Dev nD) (t : Fin cfg0.N) (y) : k0_pay1 (iblk m c 0 t) (iblk m c 1 t) y
    = Mm.result 0 0 (by decide) (m ((c : Thread nD τ).loc main_arg0)) (m ((c : Thread nD τ).loc main_arg1)) (((cfg0.win 2).blk t).view.emb y) := by
  pointwise [k0_pay1, Mm.result]
  blk_point [iblk, V, idx t]

/-- The result array after the run is the product of the two arguments. -/
theorem final (c : Dev nD) : (dats m 0 c).arrAt 2 (cfgs 0).N
    = Mm.result 0 0 (by decide) (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Proof.PeerKernel0

namespace Cert.Proof.PeerKernel1

open Cert.Kernel13Ideal Cert.Kernel13Ideal.Gen

variable (m : (ℓ : Loc nD τ sig) → Buf (Elt Ideal) ℓ)

/-- The windows' block indices at grid point `t`: row block `t / 2`, column block `t % 2`. -/
theorem idx : ∀ t : Fin cfg0.N, win0_0.index t = ![t.val / 2, 0] ∧ win0_1.index t = ![1, 0, t.val % 2] ∧ win0_2.index t = ![t.val / 2, t.val % 2] :=
  (by decide +kernel : ∀ t : Fin grid0.N, win0_0.index t = ![t.val / 2, 0] ∧ win0_1.index t = ![1, 0, t.val % 2] ∧ win0_2.index t = ![t.val / 2, t.val % 2])

/-- What the body stores at index `y` of its block is the product at the place of `y` in the array. -/
theorem point (c : Dev nD) (t : Fin cfg0.N) (y) : k0_pay1 (iblk m c 0 t) (iblk m c 1 t) y
    = Mm.result 1 0 (by decide) (m ((c : Thread nD τ).loc main_arg0)) (m ((c : Thread nD τ).loc main_arg1)) (((cfg0.win 2).blk t).view.emb y) := by
  pointwise [k0_pay1, Mm.result]
  blk_point [iblk, V, idx t]

/-- The result array after the run is the product of the two arguments. -/
theorem final (c : Dev nD) : (dats m 0 c).arrAt 2 (cfgs 0).N
    = Mm.result 1 0 (by decide) (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Proof.PeerKernel1

namespace Cert.Proof.PeerKernel2

open Cert.Kernel14Ideal Cert.Kernel14Ideal.Gen

variable (m : (ℓ : Loc nD τ sig) → Buf (Elt Ideal) ℓ)

/-- The windows' block indices at grid point `t`: row block `t / 2`, column block `t % 2`. -/
theorem idx : ∀ t : Fin cfg0.N, win0_0.index t = ![t.val / 2, 0] ∧ win0_1.index t = ![2, 0, t.val % 2] ∧ win0_2.index t = ![t.val / 2, t.val % 2] :=
  (by decide +kernel : ∀ t : Fin grid0.N, win0_0.index t = ![t.val / 2, 0] ∧ win0_1.index t = ![2, 0, t.val % 2] ∧ win0_2.index t = ![t.val / 2, t.val % 2])

/-- What the body stores at index `y` of its block is the product at the place of `y` in the array. -/
theorem point (c : Dev nD) (t : Fin cfg0.N) (y) : k0_pay1 (iblk m c 0 t) (iblk m c 1 t) y
    = Mm.result 2 0 (by decide) (m ((c : Thread nD τ).loc main_arg0)) (m ((c : Thread nD τ).loc main_arg1)) (((cfg0.win 2).blk t).view.emb y) := by
  pointwise [k0_pay1, Mm.result]
  blk_point [iblk, V, idx t]

/-- The result array after the run is the product of the two arguments. -/
theorem final (c : Dev nD) : (dats m 0 c).arrAt 2 (cfgs 0).N
    = Mm.result 2 0 (by decide) (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Proof.PeerKernel2

namespace Cert.Proof.PeerKernel3

open Cert.Kernel15Ideal Cert.Kernel15Ideal.Gen

variable (m : (ℓ : Loc nD τ sig) → Buf (Elt Ideal) ℓ)

/-- The windows' block indices at grid point `t`: row block `t / 2`, column block `t % 2`. -/
theorem idx : ∀ t : Fin cfg0.N, win0_0.index t = ![t.val / 2, 0] ∧ win0_1.index t = ![3, 0, t.val % 2] ∧ win0_2.index t = ![t.val / 2, t.val % 2] :=
  (by decide +kernel : ∀ t : Fin grid0.N, win0_0.index t = ![t.val / 2, 0] ∧ win0_1.index t = ![3, 0, t.val % 2] ∧ win0_2.index t = ![t.val / 2, t.val % 2])

/-- What the body stores at index `y` of its block is the product at the place of `y` in the array. -/
theorem point (c : Dev nD) (t : Fin cfg0.N) (y) : k0_pay1 (iblk m c 0 t) (iblk m c 1 t) y
    = Mm.result 3 0 (by decide) (m ((c : Thread nD τ).loc main_arg0)) (m ((c : Thread nD τ).loc main_arg1)) (((cfg0.win 2).blk t).view.emb y) := by
  pointwise [k0_pay1, Mm.result]
  blk_point [iblk, V, idx t]

/-- The result array after the run is the product of the two arguments. -/
theorem final (c : Dev nD) : (dats m 0 c).arrAt 2 (cfgs 0).N
    = Mm.result 3 0 (by decide) (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Proof.PeerKernel3
-- ==== Proof.LatentValue.lean ====
/-
  The projections of the latent attention: what the pipelined kernels leave in their result arrays.

  The latents are the first 1536 of 1600 columns of one weight; the keys and values are projected from the latent.
-/
module

public import proofs.«01_k».proof.Proof.Mm
public import proofs.«01_k».proof.Proof.Gen.Kernel16Ideal.Value
public import proofs.«01_k».proof.Proof.Gen.Kernel18Ideal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Proof.LatentKernel

open Cert.Kernel16Ideal Cert.Kernel16Ideal.Gen

variable (m : (ℓ : Loc nD τ sig) → Buf (Elt Ideal) ℓ)

/-- The windows' block indices at grid point `t`. -/
theorem idx : ∀ t : Fin cfg0.N, win0_0.index t = ![t.val / 3, 0] ∧ win0_1.index t = ![0, 0, t.val % 3] ∧ win0_2.index t = ![t.val / 3, t.val % 3] :=
  (by decide +kernel : ∀ t : Fin grid0.N, win0_0.index t = ![t.val / 3, 0] ∧ win0_1.index t = ![0, 0, t.val % 3] ∧ win0_2.index t = ![t.val / 3, t.val % 3])

/-- The weights' block. No block is cut: 1536 of the 1600 columns are whole blocks. -/
theorem w_read (c : Dev nD) (t : Fin cfg0.N) (k : Fin 4096) (q : Fin 512) (h : t.val % 3 * 512 + q.val < 1600) :
    X0_1 m c t (ix3 0 k q) = m ((c : Thread nD τ).loc main_arg1) (ix3 0 k ⟨t.val % 3 * 512 + q.val, h⟩) := by
  unfold X0_1 Pipeline.Window.fill
  rw [dif_pos (moved0_1 t _)]
  blk_ext [iblk, V, idx t]

/-- What the body stores at index `y` of its block is the product at the place of `y` in the array. -/
theorem point (c : Dev nD) (t : Fin cfg0.N) (y) : k0_pay1 (iblk m c 0 t) (X0_1 m c t) y
    = Mm.result 0 0 (by decide) (m ((c : Thread nD τ).loc main_arg0)) (m ((c : Thread nD τ).loc main_arg1)) (((cfg0.win 2).blk t).view.emb y) := by
  idx_vars y
  have e : ∀ k : Fin 4096, X0_1 m c t (ix3 0 k y1) = m ((c : Thread nD τ).loc main_arg1) (ix3 0 k ⟨t.val % 3 * 512 + y1.val, by omega⟩) :=
    fun k => w_read m c t k y1 _
  pointwise [k0_pay1, Mm.result]
  simp only [e]
  blk_point [iblk, V, idx t]

/-- The result array after the run is the product of the two arguments. -/
theorem final (c : Dev nD) : (dats m 0 c).arrAt 2 (cfgs 0).N
    = Mm.result 0 0 (by decide) (m ((c : Thread nD τ).loc main_arg0)) (m ((c : Thread nD τ).loc main_arg1)) := by
  refine (dats m 0 c).arrAt_eq_of_covers 2 _ (by decide +kernel) fun t _ y => ?_
  blk_simp
  rw [after0_2]
  unfold outsAt0 out0_A_2
  rw [View.read_writes_eq_canon _ _ _ (cover0_A_2 c _ _ _ _ _ _ _ _ _)]
  unfold kernelRun0_A
  frame_out
  exact point m c t y

end Cert.Proof.LatentKernel

namespace Cert.Proof.UpKernel

open Cert.Kernel18Ideal Cert.Kernel18Ideal.Gen

variable (m : (ℓ : Loc nD τ sig) → Buf (Elt Ideal) ℓ)

/-- The windows' block indices at grid point `t`: row block `t / 8`, column block `t % 8`. -/
theorem idx : ∀ t : Fin cfg0.N, win0_0.index t = ![t.val / 8, 0] ∧ win0_1.index t = ![0, 0, t.val % 8] ∧ win0_2.index t = ![t.val / 8, t.val % 8] :=
  (by decide +kernel : ∀ t : Fin grid0.N, win0_0.index t = ![t.val / 8, 0] ∧ win0_1.index t = ![0, 0, t.val % 8] ∧ win0_2.index t = ![t.val / 8, t.val % 8])

/-- What the body stores at index `y` of its block is the product at the place of `y` in the array. -/
theorem point (c : Dev nD) (t : Fin cfg0.N) (y) : k0_pay1 (iblk m c 0 t) (iblk m c 1 t) y
    = Mm.result 0 0 (by decide) (m ((c : Thread nD τ).loc main_arg0)) (m ((c : Thread nD τ).loc main_arg1)) (((cfg0.win 2).blk t).view.emb y) := by
  pointwise [k0_pay1, Mm.result]
  blk_point [iblk, V, idx t]

/-- The result array after the run is the product of the two arguments. -/
theorem final (c : Dev nD) : (dats m 0 c).arrAt 2 (cfgs 0).N
    = Mm.result 0 0 (by decide) (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Proof.UpKernel
-- ==== Proof.FoxKvSample.lean ====
/-
  The keys and values of the forgetting attention for the decoded tokens: what the kernel leaves in its result array.

  There is one block: 128 rows, and columns 4096 to 5120 of the weight.
-/
module

public import proofs.«01_k».proof.Proof.Mm
public import proofs.«01_k».proof.Proof.Gen.Kernel19Ideal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Proof.FoxKvSample

open Cert.Kernel19Ideal Cert.Kernel19Ideal.Gen

variable (m : (ℓ : Loc nD τ sig) → Buf (Elt Ideal) ℓ)

/-- The windows' block indices at grid point `t`. -/
theorem idx : ∀ t : Fin cfg0.N, win0_0.index t = ![0, 0] ∧ win0_1.index t = ![0, 0, 4] ∧ win0_2.index t = ![0, 0] :=
  (by decide +kernel : ∀ t : Fin grid0.N, win0_0.index t = ![0, 0] ∧ win0_1.index t = ![0, 0, 4] ∧ win0_2.index t = ![0, 0])

/-- The weights' block. The block is not cut. -/
theorem w_read (c : Dev nD) (t : Fin cfg0.N) (k : Fin 4096) (q : Fin 1024) (h : 4096 + q.val < 5152) :
    X0_1 m c t (ix3 0 k q) = m ((c : Thread nD τ).loc main_arg1) (ix3 0 k ⟨4096 + q.val, h⟩) := by
  unfold X0_1 Pipeline.Window.fill
  rw [dif_pos (moved0_1 t _)]
  blk_ext [iblk, V, idx t]

/-- What the body stores at index `y` of its block is the product at the place of `y` in the array. -/
theorem point (c : Dev nD) (t : Fin cfg0.N) (y) : k0_pay1 (iblk m c 0 t) (X0_1 m c t) y
    = Mm.result 0 4096 (by decide) (m ((c : Thread nD τ).loc main_arg0)) (m ((c : Thread nD τ).loc main_arg1)) (((cfg0.win 2).blk t).view.emb y) := by
  idx_vars y
  have e : ∀ k : Fin 4096, X0_1 m c t (ix3 0 k y1) = m ((c : Thread nD τ).loc main_arg1) (ix3 0 k ⟨4096 + y1.val, by omega⟩) :=
    fun k => w_read m c t k y1 _
  pointwise [k0_pay1, Mm.result]
  simp only [e]
  blk_point [iblk, V, idx t]

/-- The result array after the run is the product of the two arguments. -/
theorem final (c : Dev nD) : (dats m 0 c).arrAt 2 (cfgs 0).N
    = Mm.result 0 4096 (by decide) (m ((c : Thread nD τ).loc main_arg0)) (m ((c : Thread nD τ).loc main_arg1)) := by
  refine (dats m 0 c).arrAt_eq_of_covers 2 _ (by decide +kernel) fun t _ y => ?_
  blk_simp
  rw [after0_2]
  unfold outsAt0 out0_A_2
  rw [View.read_writes_eq_canon _ _ _ (cover0_A_2 c _ _ _ _ _ _ _ _ _)]
  unfold kernelRun0_A
  frame_out
  exact point m c t y

end Cert.Proof.FoxKvSample
-- ==== Proof.ProjReference2.lean ====
/-
  The projections of the latent attention and of the decoded tokens: what the references return.
-/
module

public import proofs.«01_k».proof.Proof.Mm
public import proofs.«01_k».proof.Proof.Gen.Reference16Ideal.Run
public import proofs.«01_k».proof.Proof.Gen.Reference18Ideal.Run
public import proofs.«01_k».proof.Proof.Gen.Reference19Ideal.Run
public import Idealize.ShloMosaic.Lib.Pointwise

@[expose] public section

set_option maxRecDepth 16384

noncomputable section

open Idealize.ShloMosaic Idealize.ShloMosaic.TcCoe Idealize.SL.Sem Idealize.ShloMosaic.StableHlo

namespace Cert.Proof.LatentReference

open Cert.Reference16Ideal Cert.Reference16Ideal.Gen

/-- The latents' columns of the product. -/
theorem ref (x : FVec Ideal S8192x4096 .bf16) (w : FVec Ideal S1x4096x1600 .bf16) :
    (extractStridedSlice S8192x1536 ![0, 0] (Host.dotGeneral dot_S8192x4096_S4096x1600_S8192x1600_1_0_0_1_n_n none (extf .f32 x bitsLt_bf16_f32)
      (extf .f32 (shapeCast S4096x1600 w shapeCasts_S1x4096x1600_S4096x1600) bitsLt_bf16_f32)) slices_S8192x1600_S8192x1536_0_0 : FVec Ideal S8192x1536 .f32)
      = Mm.result 0 0 (by decide) x w := by
  funext j
  idx_vars j
  pointwise [Mm.result]

end Cert.Proof.LatentReference

namespace Cert.Proof.UpReference

open Cert.Reference18Ideal Cert.Reference18Ideal.Gen

/-- The product. -/
theorem ref (x : FVec Ideal S8192x512 .bf16) (w : FVec Ideal S1x512x8192 .bf16) :
    (Host.dotGeneral dot_S8192x512_S512x8192_S8192x8192_1_0_0_1_n_n none (extf .f32 x bitsLt_bf16_f32)
      (extf .f32 (shapeCast S512x8192 w shapeCasts_S1x512x8192_S512x8192) bitsLt_bf16_f32) : FVec Ideal S8192x8192 .f32)
      = Mm.result 0 0 (by decide) x w := by
  funext j
  idx_vars j
  pointwise [Mm.result]

end Cert.Proof.UpReference

namespace Cert.Proof.FoxKvSampleReference

open Cert.Reference19Ideal Cert.Reference19Ideal.Gen

/-- The keys and values' columns of the product. -/
theorem ref (x : FVec Ideal S128x4096 .bf16) (w : FVec Ideal S1x4096x5152 .bf16) :
    (extractStridedSlice S128x1024 ![0, 4096] (Host.dotGeneral dot_S128x4096_S4096x5152_S128x5152_1_0_0_1_n_n none (extf .f32 x bitsLt_bf16_f32)
      (extf .f32 (shapeCast S4096x5152 w shapeCasts_S1x4096x5152_S4096x5152) bitsLt_bf16_f32)) slices_S128x5152_S128x1024_0_4096 : FVec Ideal S128x1024 .f32)
      = Mm.result 0 4096 (by decide) x w := by
  funext j
  idx_vars j
  pointwise [Mm.result]

end Cert.Proof.FoxKvSampleReference
-- ==== Proof.QueryUp.lean ====
/-
  The unrotated queries of the latent attention: what the pipelined kernel leaves in its result array, and what the reference
  returns.

  The weight has a slab of 192 columns per head; the first 128 of a slab give the unrotated part of the head's query. The
  kernel multiplies by these columns only, the reference by all and drops the rest.
-/
module

public import proofs.«01_k».proof.Proof.Mm
public import proofs.«01_k».proof.Proof.Gen.Kernel17Ideal.Value
public import Idealize.ShloMosaic.Lib.Pipeline.ValueKit
public import Idealize.ShloMosaic.Lib.Pointwise
public import proofs.«01_k».proof.Proof.Gen.Reference17Ideal.Run

@[expose] public section

set_option maxRecDepth 16384

noncomputable section

open Idealize.ShloMosaic Idealize.ShloMosaic.TcCoe Idealize.SL.Sem Idealize.ShloMosaic.StableHlo
open Idealize.ShloMosaic.Pipeline (Dat)

namespace Cert.Proof.QueryUp

/-- Entry `j`: lane `j % 128` of head `j / 128`. -/
def result {M : ℕ} (x : FVec Ideal ⟨2, ![M, 1024]⟩ .bf16) (w : FVec Ideal ⟨2, ![1024, 6144]⟩ .bf16) : FVec Ideal ⟨2, ![M, 4096]⟩ .f32 := fun j =>
  ∑ k : Fin 1024, (x (ix2 (j 0) k) : EReal) * w (ix2 k ⟨(j 1).val / 128 * 192 + (j 1).val % 128, by have : (j 1).val < 4096 := (j 1).isLt; omega⟩)

end Cert.Proof.QueryUp

namespace Cert.Proof.QueryUpKernel

open Cert.Kernel17Ideal Cert.Kernel17Ideal.Gen

variable (m : (ℓ : Loc nD τ sig) → Buf (Elt Ideal) ℓ)

/-- The windows' block indices at grid point `t`: row block `t / 4`, column block `t % 4`. -/
theorem idx : ∀ t : Fin cfg0.N, win0_0.index t = ![t.val / 4, 0] ∧ win0_1.index t = ![0, t.val % 4] ∧ win0_2.index t = ![t.val / 4, t.val % 4] :=
  (by decide +kernel : ∀ t : Fin grid0.N, win0_0.index t = ![t.val / 4, 0] ∧ win0_1.index t = ![0, t.val % 4] ∧ win0_2.index t = ![t.val / 4, t.val % 4])

/-- The columns the host selects: lane `j % 128` of head `j / 128`. -/
theorem w_entry (c : Dev nD) (k : Fin 1024) (j : Fin 4096) :
    V m c main_v2 (ix2 k j) = m ((c : Thread nD τ).loc main_arg1) (ix2 k ⟨j.val / 128 * 192 + j.val % 128, by omega⟩) := by
  entry_read
  pointwise []

/-- The weights' block. -/
theorem w_read (c : Dev nD) (t : Fin cfg0.N) (k q : Fin 1024) :
    iblk m c 1 t (ix2 k q) = V m c main_v2 (ix2 k ⟨t.val % 4 * 1024 + q.val, by omega⟩) := by
  blk_ext [iblk, idx t]

/-- What the body stores at index `y` of its block is the product at the place of `y` in the array. -/
theorem point (c : Dev nD) (t : Fin cfg0.N) (y) : k0_pay1 (iblk m c 0 t) (iblk m c 1 t) y
    = QueryUp.result (m ((c : Thread nD τ).loc main_arg0)) (m ((c : Thread nD τ).loc main_arg1)) (((cfg0.win 2).blk t).view.emb y) := by
  idx_vars y
  pointwise [k0_pay1, QueryUp.result]
  simp only [w_read m c t, w_entry m c]
  blk_point [iblk, idx t]

/-- The result array after the run is the product. -/
theorem final (c : Dev nD) : (dats m 0 c).arrAt 2 (cfgs 0).N
    = QueryUp.result (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Proof.QueryUpKernel

namespace Cert.Proof.QueryUpReference

open Cert.Reference17Ideal Cert.Reference17Ideal.Gen

/-- The reference returns the product. -/
theorem ref (x : FVec Ideal S8192x1024 .bf16) (w : FVec Ideal S1024x6144 .bf16) :
    (shapeCast S8192x4096 (extractStridedSlice S8192x32x128 ![0, 0, 0] (shapeCast S8192x32x192 (Host.dotGeneral dot_S8192x1024_S1024x6144_S8192x6144_1_0_0_1_n_n none (extf .f32 x bitsLt_bf16_f32)
      (extf .f32 w bitsLt_bf16_f32)) shapeCasts_S8192x6144_S8192x32x192) slices_S8192x32x192_S8192x32x128_0_0_0) shapeCasts_S8192x32x128_S8192x4096 : FVec Ideal S8192x4096 .f32)
      = QueryUp.result x w := by
  funext j
  idx_vars j
  pointwise [QueryUp.result]

end Cert.Proof.QueryUpReference
-- ==== Proof.GateSample.lean ====
/-
  The forget gates of the decoded tokens: what the pipelined kernel leaves in its result array, and what the reference returns.
-/
module

public import proofs.«01_k».proof.Proof.GateReference
public import proofs.«01_k».proof.Proof.Gen.Kernel20Ideal.Value
public import proofs.«01_k».proof.Proof.Gen.Reference20Ideal.Run

@[expose] public section

set_option maxRecDepth 16384

noncomputable section

open Idealize.ShloMosaic Idealize.ShloMosaic.TcCoe Idealize.SL.Sem Idealize.ShloMosaic.StableHlo
open Idealize.ShloMosaic.Pipeline (Dat)

namespace Cert.Proof.GateSample

/-- Entry `j` of the forget gates of the decoded tokens. -/
def result (x : FVec Ideal ⟨2, ![128, 4096]⟩ .bf16) (w : FVec Ideal ⟨2, ![4096, 32]⟩ .bf16) (b : FVec Ideal ⟨1, ![32]⟩ .f32) :
    FVec Ideal ⟨2, ![128, 32]⟩ .f32 := fun j =>
  Gate.logSig (Gate.arg x w (b (ix1 (j 1))) (j 0) (j 1))

end Cert.Proof.GateSample

namespace Cert.Proof.GateSampleKernel

open Cert.Kernel20Ideal Cert.Kernel20Ideal.Gen

variable (m : (ℓ : Loc nD τ sig) → Buf (Elt Ideal) ℓ)

/-- Every window is the whole of its array. -/
theorem idx : ∀ t : Fin cfg0.N, win0_0.index t = ![0, 0] ∧ win0_1.index t = ![0, 0] ∧ win0_2.index t = ![0, 0] ∧ win0_3.index t = ![0, 0] :=
  (by decide +kernel : ∀ t : Fin grid0.N, win0_0.index t = ![0, 0] ∧ win0_1.index t = ![0, 0] ∧ win0_2.index t = ![0, 0] ∧ win0_3.index t = ![0, 0])

/-- The gate's argument at row `a`, column `q`, read from the staged blocks. -/
theorem arg (c : Dev nD) (t : Fin cfg0.N) (a : Fin 128) (q : Fin 32) :
    Gate.arg (iblk m c 0 t) (iblk m c 1 t) (iblk m c 2 t (ix2 0 q)) a q
      = Gate.arg (m ((c : Thread nD τ).loc main_arg0)) (m ((c : Thread nD τ).loc main_arg1)) (m ((c : Thread nD τ).loc main_arg2) (ix1 q)) a q := by
  unfold Gate.arg
  blk_point [iblk, idx t]

/-- What the body stores at index `y` is the forget gate there. -/
theorem point (c : Dev nD) (t : Fin cfg0.N) (y) : k0_pay1 (iblk m c 0 t) (iblk m c 1 t) (iblk m c 2 t) y
    = GateSample.result (m ((c : Thread nD τ).loc main_arg0)) (m ((c : Thread nD τ).loc main_arg1)) (m ((c : Thread nD τ).loc main_arg2))
        (((cfg0.win 3).blk t).view.emb y) := by
  idx_vars y
  have k : k0_pay1 (iblk m c 0 t) (iblk m c 1 t) (iblk m c 2 t) (ix2 y0 y1)
      = Gate.logSig (Gate.arg (iblk m c 0 t) (iblk m c 1 t) (iblk m c 2 t (ix2 0 y1)) y0 y1) := by
    pointwise [k0_pay1, Gate.logSig, Gate.arg]
    rfl
  have p : ((cfg0.win 3).blk t).view.emb (ix2 y0 y1) = ix2 y0 y1 := by
    blk_ext [idx t]
  rw [k, arg m c t y0 y1, p]
  rfl

/-- The result array after the run is the forget gates. -/
theorem final (c : Dev nD) : (dats m 0 c).arrAt 3 (cfgs 0).N
    = GateSample.result (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

end Cert.Proof.GateSampleKernel

namespace Cert.Proof.GateSampleReference

open Cert.Reference20Ideal Cert.Reference20Ideal.Gen

/-- The logarithm of the logistic function of an array of 128 rows, as the reference computes it. -/
abbrev term (z : FVec Ideal S128x32 .f32) : FVec Ideal S128x32 .f32 :=
  have o : FVec Ideal S128x32 .f32 := broadcastInDim S128x32 ![] bcast_S_S128x32 (constant S_ .f32 0x00000000#32)
  Host.negf (select (cmpf .une (subf (Host.negf z) o) (subf (Host.negf z) o)) (addf (Host.negf z) o)
    (addf (maximumf (Host.negf z) o) (Host.log1p (Host.exp (Host.negf (Host.absf (subf (Host.negf z) o)))))))

/-- The same at an index. -/
theorem term_apply (z : FVec Ideal S128x32 .f32) (a : Fin 128) (q : Fin 32) : term z (ix2 a q) = Gate.logSig (z (ix2 a q)) := by
  refine Eq.trans ?_ (Gate.logSig_eq (z (ix2 a q)))
  pointwise [term]
  rw [if_neg (fun h => h rfl)]
  rfl

/-- The reference returns the forget gates. -/
theorem ref (x : FVec Ideal S128x4096 .bf16) (w : FVec Ideal S4096x32 .bf16) (b : FVec Ideal S32 .f32) :
    term (addf (Host.dotGeneral dot_S128x4096_S4096x32_S128x32_1_0_0_1_n_n none (extf .f32 x bitsLt_bf16_f32) (extf .f32 w bitsLt_bf16_f32))
      (broadcastInDim S128x32 ![0, 1] bcast_S1x32_S128x32_0_1 (broadcastInDim S1x32 ![1] bcast_S32_S1x32_1 b)))
      = GateSample.result x w b := by
  funext j
  idx_vars j
  rw [term_apply]
  unfold GateSample.result
  refine congrArg Gate.logSig ?_
  pointwise [Gate.arg]

end Cert.Proof.GateSampleReference
-- ==== Proof.Modulation.lean ====
/-
  The modulation of all layers: what the pipelined kernel leaves in its result array, and what the reference returns.

  The kernel runs over 8 slabs, two per layer, by 24 column blocks of 512; it multiplies the activated conditioning of all rows
  by the slab's weight and adds the slab's bias.
-/
module

public import proofs.«01_k».proof.Proof.Gen.Kernel21Ideal.Value
public import proofs.«01_k».proof.Proof.Gen.Reference21Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem Idealize.ShloMosaic.StableHlo
open Idealize.ShloMosaic.Pipeline (Dat)

namespace Cert.Proof.Modulation

/-- A number times its logistic. -/
def silu (z : EReal) : EReal := z * Ideal.logistic z

/-- Entry `e` of row `r` for slab `p` of layer `i`. -/
def entry (c : FVec Ideal ⟨2, ![136, 4096]⟩ .f32) (w : FVec Ideal ⟨4, ![4, 2, 4096, 12288]⟩ .f32) (b : FVec Ideal ⟨3, ![4, 2, 12288]⟩ .f32)
    (i : Fin 4) (p : Fin 2) (r : Fin 136) (e : Fin 12288) : EReal :=
  (∑ k : Fin 4096, silu (c (ix2 r k)) * w (ix4 i p k e)) + b (ix3 i p e)

/-- The result array: slab `s` belongs to layer `s / 2`. -/
def result (c : FVec Ideal ⟨2, ![136, 4096]⟩ .f32) (w : FVec Ideal ⟨4, ![4, 2, 4096, 12288]⟩ .f32) (b : FVec Ideal ⟨3, ![4, 2, 12288]⟩ .f32) :
    FVec Ideal ⟨3, ![8, 136, 12288]⟩ .f32 := fun j =>
  entry c w b ⟨(j 0).val / 2, by have : (j 0).val < 8 := (j 0).isLt; omega⟩ ⟨(j 0).val % 2, by omega⟩ (j 1) (j 2)

end Cert.Proof.Modulation

namespace Cert.Proof.ModulationKernel

open Cert.Kernel21Ideal Cert.Kernel21Ideal.Gen

variable (m : (ℓ : Loc nD τ sig) → Buf (Elt Ideal) ℓ)

/-- The windows' block indices at grid point `t`: slab `t / 24`, column block `t % 24`. -/
theorem idx : ∀ t : Fin cfg0.N, win0_0.index t = ![0, 0] ∧ win0_1.index t = ![t.val / 24, 0, t.val % 24] ∧ win0_2.index t = ![t.val / 24, 0, t.val % 24]
      ∧ win0_3.index t = ![t.val / 24, 0, t.val % 24] :=
  (by decide +kernel : ∀ t : Fin grid0.N, win0_0.index t = ![0, 0] ∧ win0_1.index t = ![t.val / 24, 0, t.val % 24] ∧ win0_2.index t = ![t.val / 24, 0, t.val % 24]
      ∧ win0_3.index t = ![t.val / 24, 0, t.val % 24])

theorem lt_N (t : Fin cfg0.N) : t.val < 192 := t.isLt

/-- The slabs of the weight, one after another. -/
theorem w_entry (c : Dev nD) (s : Fin 8) (k : Fin 4096) (e : Fin 12288) :
    V m c main_v0 (ix3 s k e) = m ((c : Thread nD τ).loc main_arg1) (ix4 ⟨s.val / 2, by omega⟩ ⟨s.val % 2, by omega⟩ k e) := by
  entry_read
  pointwise []

/-- The slabs of the bias. -/
theorem b_entry (c : Dev nD) (s : Fin 8) (e : Fin 12288) :
    V m c main_v1 (ix3 s 0 e) = m ((c : Thread nD τ).loc main_arg2) (ix3 ⟨s.val / 2, by omega⟩ ⟨s.val % 2, by omega⟩ e) := by
  entry_read
  pointwise []

/-- The conditioning's block is the whole of it. -/
theorem c_read (c : Dev nD) (t : Fin cfg0.N) (r : Fin 136) (k : Fin 4096) :
    iblk m c 0 t (ix2 r k) = m ((c : Thread nD τ).loc main_arg0) (ix2 r k) := by
  blk_point [iblk, idx t]

/-- The weights' block. -/
theorem w_read (c : Dev nD) (t : Fin cfg0.N) (k : Fin 4096) (e : Fin 512) :
    iblk m c 1 t (ix3 0 k e) = V m c main_v0 (ix3 ⟨t.val / 24, by have := lt_N t; omega⟩ k ⟨t.val % 24 * 512 + e.val, by omega⟩) := by
  have := lt_N t
  blk_ext [iblk, idx t]

/-- The bias's block. -/
theorem b_read (c : Dev nD) (t : Fin cfg0.N) (e : Fin 512) :
    iblk m c 2 t (ix3 0 0 e) = V m c main_v1 (ix3 ⟨t.val / 24, by have := lt_N t; omega⟩ 0 ⟨t.val % 24 * 512 + e.val, by omega⟩) := by
  have := lt_N t
  blk_ext [iblk, idx t]

/-- What the body stores at index `y` of its block is the modulation at the place of `y` in the array. -/
theorem point (c : Dev nD) (t : Fin cfg0.N) (y) : k0_pay1 (iblk m c 0 t) (iblk m c 1 t) (iblk m c 2 t) y
    = Modulation.result (m ((c : Thread nD τ).loc main_arg0)) (m ((c : Thread nD τ).loc main_arg1)) (m ((c : Thread nD τ).loc main_arg2))
        (((cfg0.win 3).blk t).view.emb y) := by
  idx_vars y
  have ht := lt_N t
  obtain rfl : y0 = 0 := Subsingleton.elim _ _
  have p : ((cfg0.win 3).blk t).view.emb (ix3 0 y1 y2) = ix3 ⟨t.val / 24, by omega⟩ y1 ⟨t.val % 24 * 512 + y2.val, by omega⟩ := by
    blk_ext [idx t]
  rw [p]
  pointwise [k0_pay1, Modulation.result, Modulation.entry, Modulation.silu]
  simp only [c_read m c t, w_read m c t, b_read m c t, w_entry m c, b_entry m c]

/-- The result array after the run is the modulation. -/
theorem final (c : Dev nD) : (dats m 0 c).arrAt 3 (cfgs 0).N
    = Modulation.result (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

end Cert.Proof.ModulationKernel

namespace Cert.Proof.ModulationReference

open Cert.Reference21Ideal Cert.Reference21Ideal.Gen

/-- The reference returns the modulation. -/
theorem ref (c : FVec Ideal S136x4096 .f32) (w : FVec Ideal S4x2x4096x12288 .f32) (b : FVec Ideal S4x2x12288 .f32) :
    (shapeCast S8x136x12288 (addf (transpose S4x2x136x12288 [0, 1, 3, 2] (Host.dotGeneral dot_S4x2x4096x12288_S136x4096_S4x2x12288x136_2_1_013_0_n_n none w
      (mulf c (Host.divf (broadcastInDim S136x4096 ![] bcast_S_S136x4096 (constant S_ .f32 0x3F800000#32))
        (addf (broadcastInDim S136x4096 ![] bcast_S_S136x4096 (constant S_ .f32 0x3F800000#32)) (Host.exp (Host.negf c))))))
      transposes_S4x2x12288x136_S4x2x136x12288_0_1_3_2)
      (broadcastInDim S4x2x136x12288 ![0, 1, 2, 3] bcast_S4x2x1x12288_S4x2x136x12288_0_1_2_3
        (broadcastInDim S4x2x1x12288 ![0, 1, 3] bcast_S4x2x12288_S4x2x1x12288_0_1_3 b))) shapeCasts_S4x2x136x12288_S8x136x12288 : FVec Ideal S8x136x12288 .f32)
      = Modulation.result c w b := by
  funext j
  idx_vars j
  pointwise [Modulation.result, Modulation.entry, Modulation.silu]
  refine congrArg (· + _) (Finset.sum_congr rfl fun k _ => ?_)
  exact mul_comm _ _

end Cert.Proof.ModulationReference
-- ==== Proof.FoxSpec.lean ====
/-
  Forgetting attention over the prompt: one row of scores, as numbers, and what the attention of the row is.

  Head `(g, e)` is query head `e` of the eight that share key and value head `g`.
-/
module

public import proofs.«01_k».proof.Proof.AttnSpec

@[expose] public section

set_option maxRecDepth 16384

noncomputable section

open Idealize.ShloMosaic Idealize.SL.Sem

namespace Cert.Proof.FoxSpec

/-- The three arrays, over the extended reals: the queries (one slab of 128 lanes per head), the keys followed by the values (one
slab of 128 lanes per group each), and the cumulated logarithms of the forget gates. -/
abbrev Qs := (⟨3, ![4, 2048, 4096]⟩ : Shape).Idx → EReal
abbrev Kv := (⟨3, ![4, 2048, 1024]⟩ : Shape).Idx → EReal
abbrev Fc := (⟨3, ![4, 2048, 32]⟩ : Shape).Idx → EReal

variable (q : Qs) (kv : Kv) (f : Fc) (b : Fin 4) (g : Fin 4) (e : Fin 8) (i : Fin 2048)

/-- The score of key `n` for the query in row `i`: the scaled product, plus what the gates between the two positions add up to. -/
def score (n : Fin 2048) : EReal :=
  (∑ d : Fin 128, q (ix3 b i ⟨(g.val * 8 + e.val) * 128 + d.val, by omega⟩) * kv (ix3 b n ⟨g.val * 128 + d.val, by omega⟩))
      * Ideal.ofBits .f32 0x3DB504F3#32
    + (f (ix3 b i ⟨g.val * 8 + e.val, by omega⟩) - f (ix3 b n ⟨g.val * 8 + e.val, by omega⟩))

/-- The same scores as real numbers, at any position (0 past the last key). -/
def scoreR (n : ℕ) : ℝ := if hn : n < 2048 then (score q kv f b g e i ⟨n, hn⟩).toReal else 0

/-- One lane of the values, at any position. -/
def value (d : Fin 128) (n : ℕ) : EReal :=
  if hn : n < 2048 then kv (ix3 b ⟨n, hn⟩ ⟨512 + g.val * 128 + d.val, by omega⟩) else 0

/-- Attention of row `i`, one lane: the sum weighted by exponentials, divided by the sum of the exponentials. -/
def attn (d : Fin 128) : EReal :=
  Ideal.div (Softmax.num i.val (scoreR q kv f b g e i) (value kv b g d) 2048) (Softmax.den i.val (scoreR q kv f b g e i) 2048)

/-- The result array: lane `j % 128` of head `j / 128` of every row is the row's attention. -/
def result : (⟨3, ![4, 2048, 4096]⟩ : Shape).Idx → EReal := fun j =>
  attn q kv f (j 0) ⟨(j 2).val / 1024, by have : (j 2).val < 4096 := (j 2).isLt; omega⟩ ⟨(j 2).val / 128 % 8, by omega⟩ (j 1)
    ⟨(j 2).val % 128, by omega⟩

/-- Every score is a real number. -/
def Real : Prop := ∀ b g e i n, score q kv f b g e i n = ((score q kv f b g e i n).toReal : EReal)

/-- The score with the causal mask, where every score is a real number. -/
theorem masked_eq (H : Real q kv f) (n : Fin 2048) :
    (if n.val ≤ i.val then score q kv f b g e i n else (⊥ : EReal)) = Softmax.masked i.val (scoreR q kv f b g e i) n.val := by
  unfold Softmax.masked scoreR
  rw [dif_pos n.isLt]
  split
  · exact H b g e i n
  · rfl

/-- The scores are real when the queries, the key half of `kv` and the cumulated gates are. -/
theorem real_of (hq : ∀ x, ∃ a : ℝ, q x = a)
    (hk : ∀ (b : Fin 4) (n : Fin 2048) (g : Fin 4) (d : Fin 128), ∃ a : ℝ, kv (ix3 b n ⟨g.val * 128 + d.val, by omega⟩) = a)
    (hf : ∀ x, ∃ a : ℝ, f x = a) : Real q kv f := by
  intro b g e i n
  obtain ⟨x, hx⟩ := AttnSpec.real_sum (fun d : Fin 128 => q (ix3 b i ⟨(g.val * 8 + e.val) * 128 + d.val, by omega⟩))
    (fun d => kv (ix3 b n ⟨g.val * 128 + d.val, by omega⟩)) (fun _ => hq _) (fun d => hk b n g d)
  obtain ⟨y, hy⟩ := hf (ix3 b i ⟨g.val * 8 + e.val, by omega⟩)
  obtain ⟨z, hz⟩ := hf (ix3 b n ⟨g.val * 8 + e.val, by omega⟩)
  obtain ⟨c, hc⟩ : ∃ c : ℝ, Ideal.ofBits .f32 0x3DB504F3#32 = (c : EReal) := by
    refine ⟨11863283 * (2 ^ 27)⁻¹, ?_⟩
    rw [EReal.coe_mul]
    simp [Ideal.ofBits, Ideal.ieee]
  have : score q kv f b g e i n = (((x * c + (y - z) : ℝ)) : EReal) := by
    unfold score
    rw [hx, hy, hz, hc, ← EReal.coe_mul, ← EReal.coe_sub, ← EReal.coe_add]
  rw [this, EReal.toReal_coe]

end Cert.Proof.FoxSpec
-- ==== Proof.FoxTrip.lean ====
/-
  Forgetting attention over the prompt: what one trip of the kernel's loop does to one row of the running maximum, sum and
  weighted sum.
-/
module

public import proofs.«01_k».proof.Proof.Gen.Kernel11Ideal.Value
public import proofs.«01_k».proof.Proof.FoxSpec
public import Idealize.ShloMosaic.Lib.Pointwise

@[expose] public section

set_option maxRecDepth 16384

noncomputable section

open Idealize.ShloMosaic Idealize.ShloMosaic.TcCoe Idealize.SL.Sem

namespace Cert.Proof.FoxTrip

open Cert.Kernel11Ideal Cert.Kernel11Ideal.Gen

/-- The loop of query block `i` runs over the blocks up to its own. -/
theorem trips_eq (i : grid0.Coords) : (k0_t1_loop i).trips = (i 2).val + 1 := by
  have h : (i 2).val < 4 := (i 2).isLt
  unfold k0_t1_loop
  dsimp only
  generalize (i 2).val = j at h
  interval_cases j <;> rfl

/-- The second loop has nothing left to do. -/
theorem trips2_eq (i : grid0.Coords) : (k0_t2_loop i).trips = 0 := by
  have h : (i 2).val < 4 := (i 2).isLt
  unfold k0_t2_loop
  dsimp only
  generalize (i 2).val = j at h
  interval_cases j <;> rfl

/-- A small word plus a multiple of 512 holds the position. -/
theorem word (x y : ℕ) :
    IntOp.addi (Scalar.muli (BitVec.ofNat 32 x) 512#32) (BitVec.ofNat 32 y) = BitVec.ofNat 32 (x * 512 + y) := by
  rw [BitVec.ofNat_add, BitVec.ofNat_mul]
  rfl

/-- The loop counter as a word. -/
theorem counter (x : ℕ) : Scf.iv 0#32 1#32 x = BitVec.ofNat 32 x := by
  simp [Scf.iv]

/-- The head's place among the eight of its group, as a word. -/
theorem head_word : ∀ h : Fin 32, Scalar.remsi (BitVec.ofNat 32 h.val) 8#32 = BitVec.ofNat 32 (h.val % 8) := by
  decide +kernel

/-- Choosing one of eight numbers by its word, and adding. -/
theorem pick (g : Fin 8) (z : Fin 8 → EReal) :
    ∑ x : Fin 8, (if IntOp.cmpi CmpIPredicate.eq (BitVec.ofNat 32 x.val) (BitVec.ofNat 32 g.val) = 1#1 then z x else 0) = z g := by
  have e : ∀ x g : Fin 8, (IntOp.cmpi CmpIPredicate.eq (BitVec.ofNat 32 x.val) (BitVec.ofNat 32 g.val) = 1#1) ↔ x = g := by
    decide +kernel
  simp only [e, Finset.sum_ite_eq', Finset.mem_univ, if_true]

variable (i : grid0.Coords)

/-- The place of the head among the eight of its group. -/
abbrev lane : Fin 8 := ⟨(i 1).val % 8, by omega⟩

/-- The gate of a query row, selected from the eight of the group. -/
theorem gate_apply (v6 : Vec Ideal S1x1x512x8 .f32) (a : Fin 512) :
    (k0_pay2 i v6 (ix2 a 0) : EReal) = v6 (ix4 0 0 a (lane i)) := by
  refine Eq.trans ?_ (pick (lane i) fun x => v6 (ix4 0 0 a x))
  have hw := head_word (i 1)
  pointwise [k0_pay2]
  rw [hw]
  rfl

/-- Where a block of keys begins. -/
theorem offset (k : Fin (k0_t1_loop i).trips) : k0_off1 i k = ![0, k.val * 512, 0] := by
  have h4 : (i 2).val < 4 := (i 2).isLt
  have h : k.val < (i 2).val + 1 := lt_of_lt_of_eq k.isLt (trips_eq i)
  unfold k0_off1
  dsimp only
  rw [counter]
  have e : ∀ j : Fin 4, (Scalar.indexCast (Scalar.muli (BitVec.ofNat 32 j.val) 512#32)).toNat = j.val * 512 := by decide +kernel
  rw [e ⟨k.val, by omega⟩]

/-- Where a block of the keys' gates lies. -/
theorem offset2 (k : Fin (k0_t1_loop i).trips) : k0_off2 i k = ![0, 0, k.val, (lane i).val, 0] := by
  have h4 : (i 2).val < 4 := (i 2).isLt
  have h : k.val < (i 2).val + 1 := lt_of_lt_of_eq k.isLt (trips_eq i)
  have hw := head_word (i 1)
  unfold k0_off2
  dsimp only
  rw [counter, hw]
  have e : ∀ j : Fin 4, (Scalar.indexCast (BitVec.ofNat 32 j.val)).toNat = j.val := by decide +kernel
  have e' : ∀ j : Fin 8, (Scalar.indexCast (BitVec.ofNat 32 j.val)).toNat = j.val := by decide +kernel
  rw [e ⟨k.val, by omega⟩, e' (lane i)]

variable (k : Fin (k0_t1_loop i).trips)

/-- Where a key or value of the block lies in the whole array. -/
theorem place (t : Fin 512) (d : Fin 128) (h0 : k0_off1 i k 0 < 1) (h1 : k0_off1 i k 1 + t.val < 2048) (h2 : k0_off1 i k 2 + d.val < 128)
    (h : k.val * 512 + t.val < 2048) :
    (ix3 ⟨k0_off1 i k 0, h0⟩ ⟨k0_off1 i k 1 + t.val, h1⟩ ⟨k0_off1 i k 2 + d.val, h2⟩ : S1x2048x128.Idx) = ix3 0 ⟨k.val * 512 + t.val, h⟩ d :=
  (ix3_inj ..).2 ⟨Fin.ext (congrFun (offset i k) 0), Fin.ext (congrArg (· + t.val) (congrFun (offset i k) 1)),
    Fin.ext ((congrArg (· + d.val) (congrFun (offset i k) 2)).trans (Nat.zero_add _))⟩

variable (v2 : FVec Ideal S512x128 .bf16) (v11 : FVec Ideal S512x1 .f32)
  (mx l : FVec Ideal S512x1 .f32) (acc : FVec Ideal S512x128 .f32)
  (v36 : Vec Ideal S1x512x128 .bf16) (v43 : Vec Ideal S1x1x1x1x512 .f32) (v74 : Vec Ideal S1x512x128 .bf16) (a : Fin 512)

/-- The block of scores, with the row positions and loop bounds the kernel gives it. -/
abbrev scores : FVec Ideal S512x512 .f32 := k0_pay10 i v2 v11 (k0_pay3 i) 0#32 1#32 k v36 v43

/-- The running maximum, the rescaling factor, the exponentials. -/
abbrev newMax : FVec Ideal S512x1 .f32 := k0_pay11 i v2 v11 (k0_pay3 i) 0#32 1#32 k mx v36 v43
abbrev factor : FVec Ideal S512x1 .f32 := k0_pay12 i v2 v11 (k0_pay3 i) 0#32 1#32 k mx v36 v43
abbrev exps : FVec Ideal S512x512 .f32 := k0_pay13 i v2 v11 (k0_pay3 i) 0#32 1#32 k mx v36 v43

/-- One masked score of the block of keys. -/
theorem score_apply (t : Fin 512) :
    (scores i k v2 v11 v36 v43 (ix2 a t) : EReal)
      = if k.val * 512 + t.val ≤ (i 2).val * 512 + a.val then
          (∑ d : Fin 128, (v2 (ix2 a d) : EReal) * v36 (ix3 0 t d)) * Ideal.ofBits .f32 0x3DB504F3#32
            + ((v11 (ix2 a 0) : EReal) - v43 (ix5 0 0 0 0 t))
        else (⊥ : EReal) := by
  pointwise [scores, k0_pay10, k0_pay3]
  have hi : (i 2).val < 4 := (i 2).isLt
  have hk : k.val < (i 2).val + 1 := lt_of_lt_of_eq k.isLt (trips_eq i)
  rw [counter, word, word, AttnSpec.sge_word _ _ (by omega) (by omega), AttnSpec.ninf]
  by_cases h : k.val * 512 + t.val ≤ (i 2).val * 512 + a.val
  · rw [if_pos h, if_pos h]; rfl
  · rw [if_neg h, if_neg h]; rfl

/-- The largest score of a row of the block. -/
theorem rowmax_apply (x : FVec Ideal S512x512 .f32) :
    multiReduction .maximumf [1] S512 x 0xFF800000#32 reduces_S512x512_S512 (.inl rfl) rfl (ix1 a)
      = Finset.univ.fold max (Ideal.ofBits .f32 0xFF800000#32) fun t : Fin 512 => (x (ix2 a t) : EReal) := by
  pointwise []

/-- The running maximum after the block. -/
theorem max_apply :
    (newMax i k v2 v11 mx v36 v43 (ix2 a 0) : EReal)
      = max (mx (ix2 a 0) : EReal) ((Finset.univ : Finset (Fin 512)).sup fun t => (scores i k v2 v11 v36 v43 (ix2 a t) : EReal)) := by
  unfold newMax k0_pay11 scores
  generalize k0_pay10 i v2 v11 (k0_pay3 i) 0#32 1#32 k v36 v43 = x
  dsimp only
  rw [show ∀ (x y : FVec Ideal S512x1 .f32) (j : S512x1.Idx), maximumf x y j = max (x j : EReal) (y j) from fun _ _ _ => rfl]
  rw [show ∀ (x : FVec Ideal S512 .f32), shapeCast S512x1 x shapeCasts_S512_S512x1 (ix2 a 0) = x (ix1 a) from fun x => by pointwise []]
  rw [rowmax_apply, AttnSpec.ninf]
  rfl

/-- The factor the old sums are rescaled by. -/
theorem factor_apply :
    (factor i k v2 v11 mx v36 v43 (ix2 a 0) : EReal) = Ideal.exp ((mx (ix2 a 0) : EReal) - newMax i k v2 v11 mx v36 v43 (ix2 a 0)) := by
  pointwise [factor, k0_pay12]

/-- One exponential of the block. -/
theorem exp_apply (t : Fin 512) :
    (exps i k v2 v11 mx v36 v43 (ix2 a t) : EReal)
      = Ideal.exp ((scores i k v2 v11 v36 v43 (ix2 a t) : EReal) - newMax i k v2 v11 mx v36 v43 (ix2 a 0)) := by
  pointwise [exps, k0_pay13]

/-- The running sum after the block. -/
theorem sum_apply :
    (k0_pay14 i v2 v11 (k0_pay3 i) 0#32 1#32 k mx l v36 v43 (ix2 a 0) : EReal)
      = (l (ix2 a 0) : EReal) * factor i k v2 v11 mx v36 v43 (ix2 a 0) + ∑ t : Fin 512, (exps i k v2 v11 mx v36 v43 (ix2 a t) : EReal) := by
  pointwise [k0_pay14]

/-- The running weighted sum after the block. -/
theorem acc_apply (d : Fin 128) :
    (k0_pay7 (k0_pay15 i v2 v11 (k0_pay3 i) 0#32 1#32 k mx acc v36 v43) (k0_pay16 i v2 v11 (k0_pay3 i) 0#32 1#32 k mx v36 v43 v74) (ix2 a d) : EReal)
      = (acc (ix2 a d) : EReal) * factor i k v2 v11 mx v36 v43 (ix2 a 0)
        + ∑ t : Fin 512, (exps i k v2 v11 mx v36 v43 (ix2 a t) : EReal) * v74 (ix3 0 t d) := by
  pointwise [k0_pay7, k0_pay15, k0_pay16]

/-- The result of a row: its weighted sum by its sum. -/
theorem out_apply (d : Fin 128) :
    (k0_pay9 l acc (ix3 0 a d) : EReal) = Ideal.div (acc (ix2 a d) : EReal) (l (ix2 a 0)) := by
  pointwise [k0_pay9]

/-- The sums a row starts from. -/
theorem init_apply (d : Fin 128) :
    (k0_pay4 (F := Ideal) (ix2 a 0) : EReal) = ⊥ ∧ (k0_pay5 (F := Ideal) (ix2 a 0) : EReal) = 0 ∧ (k0_pay6 (F := Ideal) (ix2 a d) : EReal) = 0 := by
  refine ⟨AttnSpec.ninf, ?_, ?_⟩ <;> pointwise [k0_pay5, k0_pay6]

variable (q : ℕ) (s : ℕ → ℝ) (v : ℕ → EReal)

/-- One trip on one row: from the running sums of `n` columns to those of `n + 512`. -/
theorem trip_row (n : ℕ) (hs : ∀ t : Fin 512, (scores i k v2 v11 v36 v43 (ix2 a t) : EReal) = Softmax.masked q s (n + t.val))
    (d : Fin 128) (hv : ∀ t : Fin 512, (v74 (ix3 0 t d) : EReal) = v (n + t.val))
    (hm : (mx (ix2 a 0) : EReal) = Softmax.top q s n) (hl : (l (ix2 a 0) : EReal) = Softmax.den q s n)
    (ha : (acc (ix2 a d) : EReal) = Softmax.num q s v n) :
    (newMax i k v2 v11 mx v36 v43 (ix2 a 0) : EReal) = Softmax.top q s (n + 512)
      ∧ (k0_pay14 i v2 v11 (k0_pay3 i) 0#32 1#32 k mx l v36 v43 (ix2 a 0) : EReal) = Softmax.den q s (n + 512)
      ∧ (k0_pay7 (k0_pay15 i v2 v11 (k0_pay3 i) 0#32 1#32 k mx acc v36 v43) (k0_pay16 i v2 v11 (k0_pay3 i) 0#32 1#32 k mx v36 v43 v74) (ix2 a d) : EReal)
        = Softmax.num q s v (n + 512) := by
  have h8 : (newMax i k v2 v11 mx v36 v43 (ix2 a 0) : EReal) = Softmax.top q s (n + 512) := by
    rw [max_apply, Softmax.top_add, hm]
    simp only [hs]
  have h9 : (factor i k v2 v11 mx v36 v43 (ix2 a 0) : EReal) = Ideal.exp (Softmax.top q s n - Softmax.top q s (n + 512)) := by
    rw [factor_apply, h8, hm]
  have h10 : ∀ t : Fin 512, (exps i k v2 v11 mx v36 v43 (ix2 a t) : EReal)
      = Ideal.exp (Softmax.masked q s (n + t.val) - Softmax.top q s (n + 512)) := by
    intro t
    rw [exp_apply, h8, hs]
  refine ⟨h8, ?_, ?_⟩
  · rw [sum_apply, hl, h9, ← Softmax.den_add q s n 512 (by decide)]
    simp only [h10]
  · rw [acc_apply, ha, h9, ← Softmax.num_add q s v n 512 (by decide)]
    simp only [h10, hv]

end Cert.Proof.FoxTrip
-- ==== Proof.FoxLoop.lean ====
/-
  Forgetting attention over the prompt: what the kernel's loop leaves of every row of a block of queries, and the block it stores.
-/
module

public import proofs.«01_k».proof.Proof.FoxTrip

@[expose] public section

set_option maxRecDepth 16384

noncomputable section

open Idealize.ShloMosaic Idealize.ShloMosaic.TcCoe Idealize.SL.Sem

namespace Cert.Proof.FoxLoop

open Cert.Kernel11Ideal Cert.Kernel11Ideal.Gen FoxTrip

variable (c : Dev nD) (i : grid0.Coords) (arg3 : Memref sig .tc .vmem S1x512x128 .bf16) (harg3 : arg3.IsWhole)
  (arg4 : Memref sig .tc .vmem S1x2048x128 .bf16) (harg4 : arg4.IsWhole) (arg5 : Memref sig .tc .vmem S1x2048x128 .bf16) (harg5 : arg5.IsWhole)
  (arg6 : Memref sig .tc .vmem S1x1x512x8 .f32) (harg6 : arg6.IsWhole) (arg7 : Memref sig .tc .vmem S1x1x4x8x512 .f32) (harg7 : arg7.IsWhole)
  (arg8 : Memref sig .tc .vmem S1x512x128 .bf16) (harg8 : arg8.IsWhole)
  (v0 : BitVec 32) (v1 : Vec Ideal S1x512x128 .bf16) (v6 : Vec Ideal S1x1x512x8 .f32) (x1 : Vec Ideal S1x2048x128 .bf16)
  (x2 : Vec Ideal S1x2048x128 .bf16) (x4 : Vec Ideal S1x1x4x8x512 .f32)

/-- The score of the query in row `a` of the block and key `n`, with the causal mask, from the staged blocks. -/
def blockScore (a : Fin 512) (n : Fin 2048) : EReal :=
  if n.val ≤ (i 2).val * 512 + a.val then
    (∑ d : Fin 128, (v1 (ix3 0 a d) : EReal) * x1 (ix3 0 n d)) * Ideal.ofBits .f32 0x3DB504F3#32
      + ((v6 (ix4 0 0 a (lane i)) : EReal) - x4 (ix5 0 0 ⟨n.val / 512, by omega⟩ (lane i) ⟨n.val % 512, by omega⟩))
  else (⊥ : EReal)

variable (q : ℕ) (s : ℕ → ℝ) (v : ℕ → EReal) (a : Fin 512) (d : Fin 128)

/-- The queries of the block, one row of them. -/
theorem query_apply : (k0_pay1 v1 (ix2 a d) : EReal) = v1 (ix3 0 a d) := by
  pointwise [k0_pay1]

/-- Where a key's gate lies in the staged gates. -/
theorem place2 (k : Fin (k0_t1_loop i).trips) (t : Fin 512) (h0 : k0_off2 i k 0 < 1) (h1 : k0_off2 i k 1 < 1) (h2 : k0_off2 i k 2 < 4)
    (h3 : k0_off2 i k 3 < 8) (h4 : k0_off2 i k 4 + t.val < 512) (h : (k.val * 512 + t.val) / 512 < 4) (h' : (k.val * 512 + t.val) % 512 < 512) :
    (ix5 ⟨k0_off2 i k 0, h0⟩ ⟨k0_off2 i k 1, h1⟩ ⟨k0_off2 i k 2, h2⟩ ⟨k0_off2 i k 3, h3⟩ ⟨k0_off2 i k 4 + t.val, h4⟩ : S1x1x4x8x512.Idx)
      = ix5 0 0 ⟨(k.val * 512 + t.val) / 512, h⟩ (lane i) ⟨(k.val * 512 + t.val) % 512, h'⟩ := by
  have e0 := congrFun (offset2 i k) 0
  have e1 := congrFun (offset2 i k) 1
  have e2 := congrFun (offset2 i k) 2
  have e3 := congrFun (offset2 i k) 3
  have e4 := congrFun (offset2 i k) 4
  refine (ix5_inj ..).2 ⟨Fin.ext e0, Fin.ext e1, Fin.ext (e2.trans ?_), Fin.ext e3, Fin.ext ((congrArg (· + t.val) e4).trans ?_)⟩
  · show k.val = _
    simp only []; omega
  · show 0 + t.val = _
    simp only []; omega

/-- A key or a value as a trip reads it. -/
theorem key_read (g : Memref sig .tc .vmem S1x2048x128 .bf16) (hg : g.IsWhole) (x : Vec Ideal S1x2048x128 .bf16) (k : Fin (k0_t1_loop i).trips)
    (h : ∀ j, k0_off1 i k j + ![1, 512, 128] j ≤ S1x2048x128.size j) (t : Fin 512) (hk : k.val * 512 + t.val < 2048) :
    (g.view.readAt (Elt Ideal) (Rect.unit (s := S1x2048x128) (k0_off1 i k) ![1, 512, 128] h).toLoadRect (hg.unread x) (ix3 0 t d) : EReal)
      = x (ix3 0 ⟨k.val * 512 + t.val, hk⟩ d) := by
  rw [View.readAt_eq_ld, hg.read_unread]
  pointwise []
  exact congrArg x (place i k t d _ _ _ hk)

/-- A key's gate as a trip reads it. -/
theorem gate_read (g : Memref sig .tc .vmem S1x1x4x8x512 .f32) (hg : g.IsWhole) (x : Vec Ideal S1x1x4x8x512 .f32) (k : Fin (k0_t1_loop i).trips)
    (h : ∀ j, k0_off2 i k j + ![1, 1, 1, 1, 512] j ≤ S1x1x4x8x512.size j) (t : Fin 512) (h2 : (k.val * 512 + t.val) / 512 < 4)
    (h4 : (k.val * 512 + t.val) % 512 < 512) :
    (g.view.readAt (Elt Ideal) (Rect.unit (s := S1x1x4x8x512) (k0_off2 i k) ![1, 1, 1, 1, 512] h).toLoadRect (hg.unread x) (ix5 0 0 0 0 t) : EReal)
      = x (ix5 0 0 ⟨(k.val * 512 + t.val) / 512, h2⟩ (lane i) ⟨(k.val * 512 + t.val) % 512, h4⟩) := by
  rw [View.readAt_eq_ld, hg.read_unread]
  pointwise []
  exact congrArg x (place2 i k t _ _ _ _ _ h2 h4)

/-- Before trip `n`, a row holds the maximum, the sum and the weighted sum of the first `n` blocks of keys. -/
theorem state_row (hs : ∀ n : Fin 2048, blockScore i v1 v6 x1 x4 a n = Softmax.masked q s n.val)
    (hv : ∀ n : Fin 2048, (x2 (ix3 0 n d) : EReal) = v n.val) (n : ℕ) (hn : n ≤ (k0_t1_loop i).trips) :
    ((st_k0_t1 (F := Ideal) Variants.none c none i arg3 harg3 arg4 harg4 arg5 harg5 arg6 harg6 arg7 harg7 arg8 harg8 v0 v1 v6
        (harg4.unread x1) (harg5.unread x2) (harg7.unread x4) (k0_pay4, k0_pay5, k0_pay6) n).1 (ix2 a 0) : EReal) = Softmax.top q s (n * 512)
    ∧ ((st_k0_t1 (F := Ideal) Variants.none c none i arg3 harg3 arg4 harg4 arg5 harg5 arg6 harg6 arg7 harg7 arg8 harg8 v0 v1 v6
        (harg4.unread x1) (harg5.unread x2) (harg7.unread x4) (k0_pay4, k0_pay5, k0_pay6) n).2.1 (ix2 a 0) : EReal) = Softmax.den q s (n * 512)
    ∧ ((st_k0_t1 (F := Ideal) Variants.none c none i arg3 harg3 arg4 harg4 arg5 harg5 arg6 harg6 arg7 harg7 arg8 harg8 v0 v1 v6
        (harg4.unread x1) (harg5.unread x2) (harg7.unread x4) (k0_pay4, k0_pay5, k0_pay6) n).2.2 (ix2 a d) : EReal) = Softmax.num q s v (n * 512) := by
  induction n with
  | zero =>
    rw [st_k0_t1_zero]
    obtain ⟨h4, h5, h6⟩ := init_apply a d
    exact ⟨h4.trans (by simp [Softmax.top]), h5.trans (by simp [Softmax.den]), h6.trans (by simp [Softmax.num])⟩
  | succ n ih =>
    obtain ⟨hm, hl, ha⟩ := ih (by omega)
    have hi : (i 2).val < 4 := (i 2).isLt
    have hk : n < (i 2).val + 1 := lt_of_lt_of_eq hn (trips_eq i)
    have key := st_k0_t1_succ (F := Ideal) Variants.none c none i arg3 harg3 arg4 harg4 arg5 harg5 arg6 harg6 arg7 harg7 arg8 harg8 v0 v1 v6
      (harg4.unread x1) (harg5.unread x2) (harg7.unread x4) (k0_pay4, k0_pay5, k0_pay6) ⟨n, hn⟩
    simp only [] at key
    rw [key]
    clear key
    generalize st_k0_t1 (F := Ideal) Variants.none c none i arg3 harg3 arg4 harg4 arg5 harg5 arg6 harg6 arg7 harg7 arg8 harg8 v0 v1 v6
      (harg4.unread x1) (harg5.unread x2) (harg7.unread x4) (k0_pay4, k0_pay5, k0_pay6) n = st at *
    unfold tripR_k0_t1
    unfold trip_k0_t1
    dsimp only
    rw [Nat.succ_mul]
    refine trip_row i ⟨n, hn⟩ (k0_pay1 v1) (k0_pay2 i v6) st.1 st.2.1 st.2.2 _ _ _ a q s v (n * 512) (fun t => ?_) d (fun t => ?_) hm hl ha
    · rw [score_apply]
      refine Eq.trans ?_ (hs ⟨n * 512 + t.val, by omega⟩)
      unfold blockScore
      refine if_congr Iff.rfl (congrArg₂ (· + ·) (congrArg (· * _) (Finset.sum_congr rfl fun x _ => congrArg₂ (· * ·) (query_apply v1 a x) ?_))
        (congrArg₂ (· - ·) (gate_apply i v6 a) ?_)) rfl
      · exact (key_read i _ arg4 harg4 x1 ⟨n, hn⟩ _ t _).trans rfl
      · exact gate_read i arg7 harg7 x4 ⟨n, hn⟩ _ t _ _
    · exact (key_read i _ arg5 harg5 x2 ⟨n, hn⟩ _ t (by simp only []; omega)).trans (hv ⟨n * 512 + t.val, by omega⟩)

/-- The block the kernel stores: row `a`, lane `d` of it is the weighted sum of the whole row divided by its sum. -/
theorem block_row (hs : ∀ n : Fin 2048, blockScore i v1 v6 x1 x4 a n = Softmax.masked q s n.val)
    (hv : ∀ n : Fin 2048, (x2 (ix3 0 n d) : EReal) = v n.val) (hq : q = (i 2).val * 512 + a.val) :
    (out0_A_5 (F := Ideal) c i arg3 harg3 arg4 harg4 arg5 harg5 arg6 harg6 arg7 harg7 arg8 harg8 v1 x1 x2 v6 x4 (ix3 0 a d) : EReal)
      = Ideal.div (Softmax.num q s v 2048) (Softmax.den q s 2048) := by
  unfold out0_A_5
  rw [View.read_writes_eq_canon _ _ _
    (cover0_A_5 c i arg3 harg3 arg4 harg4 arg5 harg5 arg6 harg6 arg7 harg7 arg8 harg8 v1 x1 x2 v6 x4)]
  unfold kernelRun0_A
  dsimp only
  have hz3 : (![0, 0, 0] : Fin 3 → ℕ) = fun _ => 0 := by decide
  have hz4 : (![0, 0, 0, 0] : Fin 4 → ℕ) = fun _ => 0 := by decide
  rw [View.canon_unit_zero hz3]
  simp only [View.readAt_eq_ld, harg3.read_unread, harg6.read_unread, View.ld_unit_zero (S := S1x512x128) hz3,
    View.ld_unit_zero (S := S1x1x512x8) hz4]
  have t1 := trips_eq i
  have t2 := trips2_eq i
  dsimp only [Scf.Loop.trips, k0_t1_loop, k0_t2_loop] at t1 t2
  rw [t1, t2]
  simp only [st_k0_t2_zero]
  obtain ⟨-, hl, ha⟩ := state_row c i arg3 harg3 arg4 harg4 arg5 harg5 arg6 harg6 arg7 harg7 arg8 harg8 _ v1 v6 x1 x2 x4 q s v a d hs hv
    ((i 2).val + 1) (trips_eq i).ge
  have hi : (i 2).val < 4 := (i 2).isLt
  refine (out_apply _ _ a d).trans ?_
  rw [hl, ha]
  have hlt : q < ((i 2).val + 1) * 512 := by omega
  have e : 2048 = ((i 2).val + 1) * 512 + (2048 - ((i 2).val + 1) * 512) := by omega
  rw [e, Softmax.num_past q s v _ _ hlt, Softmax.den_past q s _ _ hlt]

end Cert.Proof.FoxLoop
-- ==== Proof.FoxKernel.lean ====
/-
  Forgetting attention over the prompt: what the kernel leaves in its result array.
-/
module

public import proofs.«01_k».proof.Proof.FoxLoop
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Proof.FoxKernel

open Cert.Kernel11Ideal Cert.Kernel11Ideal.Gen

variable (m : (ℓ : Loc nD τ sig) → Buf (Elt Ideal) ℓ)

/-- The windows' block indices at grid point `t`: batch `t / 128`, head `t / 4 % 32`, query block `t % 4`; eight heads share a
    block of keys, and the values follow the keys. -/
theorem idx : ∀ t : Fin cfg0.N, win0_0.index t = ![t.val / 128, t.val % 4, t.val / 4 % 32] ∧ win0_1.index t = ![t.val / 128, 0, t.val / 32 % 4]
      ∧ win0_2.index t = ![t.val / 128, 0, 4 + t.val / 32 % 4] ∧ win0_3.index t = ![t.val / 128, t.val / 32 % 4, t.val % 4, 0]
      ∧ win0_4.index t = ![t.val / 128, t.val / 32 % 4, 0, 0, 0] ∧ win0_5.index t = ![t.val / 128, t.val % 4, t.val / 4 % 32]
      ∧ (grid0.coords t 2).val = t.val % 4 ∧ (grid0.coords t 1).val = t.val / 4 % 32 :=
  (by decide +kernel : ∀ t : Fin grid0.N, win0_0.index t = ![t.val / 128, t.val % 4, t.val / 4 % 32] ∧ win0_1.index t = ![t.val / 128, 0, t.val / 32 % 4]
      ∧ win0_2.index t = ![t.val / 128, 0, 4 + t.val / 32 % 4] ∧ win0_3.index t = ![t.val / 128, t.val / 32 % 4, t.val % 4, 0]
      ∧ win0_4.index t = ![t.val / 128, t.val / 32 % 4, 0, 0, 0] ∧ win0_5.index t = ![t.val / 128, t.val % 4, t.val / 4 % 32]
      ∧ (grid0.coords t 2).val = t.val % 4 ∧ (grid0.coords t 1).val = t.val / 4 % 32)

theorem lt_N (t : Fin cfg0.N) : t.val < 512 := t.isLt

/-- The batch, the group, the head in the group and a row of grid point `t`. -/
abbrev batch (t : Fin cfg0.N) : Fin 4 := ⟨t.val / 128, by have := lt_N t; omega⟩
abbrev group (t : Fin cfg0.N) : Fin 4 := ⟨t.val / 32 % 4, by omega⟩
abbrev head (t : Fin cfg0.N) : Fin 8 := ⟨t.val / 4 % 8, by omega⟩
abbrev row (t : Fin cfg0.N) (a : Fin 512) : Fin 2048 := ⟨t.val % 4 * 512 + a.val, by omega⟩

/-- The head's place in its group, from the grid. -/
theorem lane_eq (t : Fin cfg0.N) : FoxTrip.lane (grid0.coords t) = head t := by
  have h : (grid0.coords t 1).val = t.val / 4 % 32 := (idx t).2.2.2.2.2.2.2
  exact Fin.ext (by simp only [h]; omega)

/-- The gates as the host lays them out for the queries. -/
theorem fq_entry (c : Dev nD) (b g : Fin 4) (n : Fin 2048) (e : Fin 8) :
    V m c main_v1 (ix4 b g n e) = m ((c : Thread nD τ).loc main_arg2) (ix3 b n ⟨g.val * 8 + e.val, by omega⟩) := by
  entry_read
  pointwise []

/-- The gates as the host lays them out for the keys. -/
theorem fk_entry (c : Dev nD) (b g j : Fin 4) (e : Fin 8) (t : Fin 512) :
    V m c main_v3 (ix5 b g j e t) = m ((c : Thread nD τ).loc main_arg2) (ix3 b ⟨j.val * 512 + t.val, by omega⟩ ⟨g.val * 8 + e.val, by omega⟩) := by
  entry_read
  pointwise []

/-- The queries' block. -/
theorem q_read (c : Dev nD) (t : Fin cfg0.N) (a : Fin 512) (d : Fin 128) :
    iblk m c 0 t (ix3 0 a d) = m ((c : Thread nD τ).loc main_arg0)
      (ix3 (batch t) (row t a) ⟨((group t).val * 8 + (head t).val) * 128 + d.val, by omega⟩) := by
  have := lt_N t
  blk_ext [iblk, V, idx t]

/-- The keys' block. -/
theorem k_read (c : Dev nD) (t : Fin cfg0.N) (n : Fin 2048) (d : Fin 128) :
    iblk m c 1 t (ix3 0 n d) = m ((c : Thread nD τ).loc main_arg1) (ix3 (batch t) n ⟨(group t).val * 128 + d.val, by omega⟩) := by
  have := lt_N t
  blk_ext [iblk, V, idx t]

/-- The values' block. -/
theorem v_read (c : Dev nD) (t : Fin cfg0.N) (n : Fin 2048) (d : Fin 128) :
    iblk m c 2 t (ix3 0 n d) = m ((c : Thread nD τ).loc main_arg1) (ix3 (batch t) n ⟨512 + (group t).val * 128 + d.val, by omega⟩) := by
  have := lt_N t
  blk_ext [iblk, V, idx t]

/-- The queries' gates. -/
theorem fq_read (c : Dev nD) (t : Fin cfg0.N) (a : Fin 512) (e : Fin 8) :
    iblk m c 3 t (ix4 0 0 a e) = V m c main_v1 (ix4 (batch t) (group t) (row t a) e) := by
  have := lt_N t
  blk_ext [iblk, idx t]

/-- The keys' gates. -/
theorem fk_read (c : Dev nD) (t : Fin cfg0.N) (j : Fin 4) (e : Fin 8) (n : Fin 512) :
    iblk m c 4 t (ix5 0 0 j e n) = V m c main_v3 (ix5 (batch t) (group t) j e n) := by
  have := lt_N t
  blk_ext [iblk, idx t]

/-- The queries' gates, from the argument. -/
theorem fq_at (c : Dev nD) (t : Fin cfg0.N) (a : Fin 512) (e : Fin 8) :
    iblk m c 3 t (ix4 0 0 a e) = m ((c : Thread nD τ).loc main_arg2) (ix3 (batch t) (row t a) ⟨(group t).val * 8 + e.val, by omega⟩) :=
  (fq_read m c t a e).trans (fq_entry m c _ _ _ e)

/-- The keys' gates, from the argument. -/
theorem fk_at (c : Dev nD) (t : Fin cfg0.N) (j : Fin 4) (e : Fin 8) (n : Fin 512) :
    iblk m c 4 t (ix5 0 0 j e n) = m ((c : Thread nD τ).loc main_arg2)
      (ix3 (batch t) ⟨j.val * 512 + n.val, by omega⟩ ⟨(group t).val * 8 + e.val, by omega⟩) :=
  (fk_read m c t j e n).trans (fk_entry m c _ _ j e n)

/-- The scores of every argument memory considered are real numbers. -/
abbrev RealAt (c : Dev nD) : Prop :=
  FoxSpec.Real (m ((c : Thread nD τ).loc main_arg0)) (m ((c : Thread nD τ).loc main_arg1)) (m ((c : Thread nD τ).loc main_arg2))

/-- What is stored at grid point `t`. -/
theorem stored (c : Dev nD) (H : RealAt m c) (t : Fin cfg0.N) (a : Fin 512) (d : Fin 128) :
    outsAt0 m c t (ix3 0 a d) = FoxSpec.attn (m ((c : Thread nD τ).loc main_arg0)) (m ((c : Thread nD τ).loc main_arg1))
      (m ((c : Thread nD τ).loc main_arg2)) (batch t) (group t) (head t) (row t a) d := by
  have ht := lt_N t
  have hc : (grid0.coords t 2).val = t.val % 4 := (idx t).2.2.2.2.2.2.1
  unfold outsAt0 FoxSpec.attn
  refine FoxLoop.block_row c (grid0.coords t) _ _ _ _ _ _ _ _ _ _ _ _ _ _ _ _ _ _ _ _ a d (fun n => ?_) (fun n => ?_) (by simp only [hc])
  · refine Eq.trans ?_ (FoxSpec.masked_eq _ _ _ (batch t) (group t) (head t) (row t a) H n)
    have en : ∀ h, (⟨n.val / 512 * 512 + n.val % 512, h⟩ : Fin 2048) = n := fun h => Fin.ext (by simp only []; omega)
    unfold FoxLoop.blockScore FoxSpec.score
    rw [lane_eq t]
    simp only [q_read, k_read, fq_at, fk_at, hc, en]
  · rw [v_read]
    unfold FoxSpec.value
    rw [dif_pos n.isLt]

/-- Attention at equal places. -/
theorem attn_congr (q : FoxSpec.Qs) (kv : FoxSpec.Kv) (f : FoxSpec.Fc) {b b' g g' : Fin 4} {h h' : Fin 8} {i i' : Fin 2048}
    {d d' : Fin 128} (eb : b.val = b'.val) (eg : g.val = g'.val) (eh : h.val = h'.val) (ei : i.val = i'.val) (ed : d.val = d'.val) :
    FoxSpec.attn q kv f b g h i d = FoxSpec.attn q kv f b' g' h' i' d' := by
  rw [Fin.ext eb, Fin.ext eg, Fin.ext eh, Fin.ext ei, Fin.ext ed]

/-- The result array after the run is attention, where every score is a real number. -/
theorem final (c : Dev nD) (H : RealAt m c) : (dats m 0 c).arrAt 5 (cfgs 0).N
    = FoxSpec.result (m ((c : Thread nD τ).loc main_arg0)) (m ((c : Thread nD τ).loc main_arg1)) (m ((c : Thread nD τ).loc main_arg2)) := by
  refine (dats m 0 c).arrAt_eq_of_covers 5 _ (by decide +kernel) fun t _ y => ?_
  have ht := lt_N t
  blk_simp
  rw [after0_5]
  frame_out
  idx_vars y
  obtain rfl : y0 = 0 := Subsingleton.elim _ _
  refine (stored m c H t y1 y2).trans ?_
  have p : ((cfg0.win 5).blk t).view.emb (ix3 0 y1 y2) = ix3 (batch t) (row t y1) ⟨t.val / 4 % 32 * 128 + y2.val, by omega⟩ := by
    blk_ext [idx t]
  refine Eq.trans ?_ (congrArg (FoxSpec.result _ _ _) p).symm
  unfold FoxSpec.result
  exact attn_congr _ _ _ rfl (show t.val / 32 % 4 = (t.val / 4 % 32 * 128 + y2.val) / 1024 by omega)
    (show t.val / 4 % 8 = (t.val / 4 % 32 * 128 + y2.val) / 128 % 8 by omega) rfl
    (show y2.val = (t.val / 4 % 32 * 128 + y2.val) % 128 by omega)

end Cert.Proof.FoxKernel
-- ==== Proof.FoxReference.lean ====
/-
  Forgetting attention over the prompt: what the reference's result is, entry by entry.
-/
module

public import proofs.«01_k».proof.Proof.Gen.Reference11Ideal.Run
public import proofs.«01_k».proof.Proof.FoxSpec
public import Idealize.ShloMosaic.Lib.Pointwise

@[expose] public section

set_option maxRecDepth 16384

noncomputable section

open Idealize.ShloMosaic Idealize.ShloMosaic.TcCoe Idealize.SL.Sem

namespace Cert.Proof.FoxReference

open Cert.Reference11Ideal Cert.Reference11Ideal.Gen Cert.Reference11Ideal.Value

variable (q : FVec Ideal S4x2048x4096 .bf16) (kv : FVec Ideal S4x2048x1024 .bf16) (f : FVec Ideal S4x2048x32 .f32)

/-- The products of every query with every key, scaled. -/
def products : FVec Ideal S4x4x8x2048x2048 .f32 :=
  mulf (transpose S4x4x8x2048x2048 [0, 1, 4, 3, 2] (Host.dotGeneral dot_S4x2048x4x128_S4x2048x4x8x128_S4x4x2048x2048x8_3_4_1_13_02_02 none (shapeCast _ (extractStridedSlice S4x2048x512 ![0, 0, 0] (extf .f32 kv bitsLt_bf16_f32) slices_S4x2048x1024_S4x2048x512_0_0_0) shapeCasts_S4x2048x512_S4x2048x4x128) (shapeCast _ (extf .f32 q bitsLt_bf16_f32) shapeCasts_S4x2048x4096_S4x2048x4x8x128)) transposes_S4x4x2048x2048x8_S4x4x8x2048x2048_0_1_4_3_2) (broadcastInDim S4x4x8x2048x2048 ![] bcast_S_S4x4x8x2048x2048 (constant S_ .f32 0x3DB504F3#32))

/-- What the gates between two positions add up to, for every pair. -/
def gates : FVec Ideal S4x4x8x2048x2048 .f32 :=
  subf (broadcastInDim S4x4x8x2048x2048 ![0, 1, 2, 3, 4] bcast_S4x4x8x2048x1_S4x4x8x2048x2048_0_1_2_3_4 (broadcastInDim S4x4x8x2048x1 ![0, 1, 2, 3] bcast_S4x4x8x2048_S4x4x8x2048x1_0_1_2_3 (transpose S4x4x8x2048 [0, 2, 3, 1] (shapeCast _ f shapeCasts_S4x2048x32_S4x2048x4x8) transposes_S4x2048x4x8_S4x4x8x2048_0_2_3_1))) (broadcastInDim S4x4x8x2048x2048 ![0, 1, 2, 3, 4] bcast_S4x4x8x1x2048_S4x4x8x2048x2048_0_1_2_3_4 (broadcastInDim S4x4x8x1x2048 ![0, 1, 2, 4] bcast_S4x4x8x2048_S4x4x8x1x2048_0_1_2_4 (transpose S4x4x8x2048 [0, 2, 3, 1] (shapeCast _ f shapeCasts_S4x2048x32_S4x2048x4x8) transposes_S4x2048x4x8_S4x4x8x2048_0_2_3_1)))

/-- The scores of every key for every query, masked. -/
def scores (p z : FVec Ideal S4x4x8x2048x2048 .f32) : FVec Ideal S4x4x8x2048x2048 .f32 :=
  select (broadcastInDim S4x4x8x2048x2048 ![3, 4] bcast_S2048x2048_S4x4x8x2048x2048_3_4 (cmpi .sge (broadcastInDim S2048x2048 ![0, 1] bcast_S2048x1_S2048x2048_0_1 (broadcastInDim S2048x1 ![0] bcast_S2048_S2048x1_0 (iotaInDim S2048 32 0))) (broadcastInDim S2048x2048 ![0, 1] bcast_S1x2048_S2048x2048_0_1 (broadcastInDim S1x2048 ![1] bcast_S2048_S1x2048_1 (iotaInDim S2048 32 0))))) (addf p z) (broadcastInDim S4x4x8x2048x2048 ![] bcast_S_S4x4x8x2048x2048 (id (constant S_ .f32 0xFF800000#32)))

/-- The largest score of every row. -/
def tops (s : FVec Ideal S4x4x8x2048x2048 .f32) : FVec Ideal S4x4x8x2048 .f32 :=
  maximumf (broadcastInDim S4x4x8x2048 ![] bcast_S_S4x4x8x2048 (constant S_ .f32 0xFF800000#32)) (Host.reduce FloatOps.maximumf s (constant S_ .f32 0xFF800000#32) reducesTo_S4x4x8x2048x2048_S4x4x8x2048_d4 h_S_)

/-- The exponential of every score less its row's largest. -/
def exps (s : FVec Ideal S4x4x8x2048x2048 .f32) (t : FVec Ideal S4x4x8x2048 .f32) : FVec Ideal S4x4x8x2048x2048 .f32 :=
  Host.exp (subf s (broadcastInDim S4x4x8x2048x2048 ![0, 1, 2, 3, 4] bcast_S4x4x8x2048x1_S4x4x8x2048x2048_0_1_2_3_4 (broadcastInDim S4x4x8x2048x1 ![0, 1, 2, 3] bcast_S4x4x8x2048_S4x4x8x2048x1_0_1_2_3 t)))

/-- The exponentials of every row, added. -/
def sums (x : FVec Ideal S4x4x8x2048x2048 .f32) : FVec Ideal S4x4x8x2048 .f32 :=
  Host.reduceAdd x (constant S_ .f32 0x00000000#32) reducesTo_S4x4x8x2048x2048_S4x4x8x2048_d4 h_S_

/-- The quotients times the values, in the layout of the result. -/
def outs (x : FVec Ideal S4x4x8x2048x2048 .f32) (l : FVec Ideal S4x4x8x2048 .f32) : FVec Ideal S4x2048x4096 .bf16 :=
  truncf .bf16 (shapeCast _ (transpose S4x2048x4x8x128 [0, 4, 1, 3, 2] (Host.dotGeneral dot_S4x2048x4x128_S4x4x8x2048x2048_S4x4x128x8x2048_1_4_3_23_02_01 none (shapeCast _ (extractStridedSlice S4x2048x512 ![0, 0, 512] (extf .f32 kv bitsLt_bf16_f32) slices_S4x2048x1024_S4x2048x512_0_0_512) shapeCasts_S4x2048x512_S4x2048x4x128) (Host.divf x (broadcastInDim S4x4x8x2048x2048 ![0, 1, 2, 3, 4] bcast_S4x4x8x2048x1_S4x4x8x2048x2048_0_1_2_3_4 (broadcastInDim S4x4x8x2048x1 ![0, 1, 2, 3] bcast_S4x4x8x2048_S4x4x8x2048x1_0_1_2_3 l)))) transposes_S4x4x128x8x2048_S4x2048x4x8x128_0_4_1_3_2) shapeCasts_S4x2048x4x8x128_S4x2048x4096) bitsLt_bf16_f32

variable (b g : Fin 4) (e : Fin 8) (i n : Fin 2048)

/-- A scaled product. -/
theorem products_apply : (products q kv (ix5 b g e i n) : EReal)
    = (∑ d : Fin 128, q (ix3 b i ⟨(g.val * 8 + e.val) * 128 + d.val, by omega⟩) * kv (ix3 b n ⟨g.val * 128 + d.val, by omega⟩))
      * Ideal.ofBits .f32 0x3DB504F3#32 := by
  pointwise [products]
  refine congrArg (· * _) (Finset.sum_congr rfl fun d _ => (mul_comm _ _).trans ?_)
  refine congrArg₂ (fun x y => q x * kv y) ((ix3_inj ..).2 ⟨rfl, rfl, Fin.ext ?_⟩) ((ix3_inj ..).2 ⟨rfl, rfl, Fin.ext ?_⟩) <;> simp only [] <;> omega

/-- What the gates between two positions add up to. -/
theorem gates_apply : (gates f (ix5 b g e i n) : EReal)
    = f (ix3 b i ⟨g.val * 8 + e.val, by omega⟩) - f (ix3 b n ⟨g.val * 8 + e.val, by omega⟩) := by
  pointwise [gates]

/-- A masked score: the sum where the key is no later than the query, `⊥` after it. -/
theorem scores_apply (p z : FVec Ideal S4x4x8x2048x2048 .f32) :
    (scores p z (ix5 b g e i n) : EReal) = if n.val ≤ i.val then (p (ix5 b g e i n) : EReal) + z (ix5 b g e i n) else (⊥ : EReal) := by
  pointwise [scores]
  have hc := AttnSpec.sge_word i.val n.val (by omega) (by omega)
  rw [hc]
  by_cases hn : n.val ≤ i.val
  · rw [if_pos hn, if_pos hn]; rfl
  · rw [if_neg hn, if_neg hn]; exact AttnSpec.ninf

/-- The largest along the last axis, over a given starting value. -/
theorem reduce_apply (s : FVec Ideal S4x4x8x2048x2048 .f32) (z : FVec Ideal S_ .f32) :
    Host.reduce FloatOps.maximumf s z reducesTo_S4x4x8x2048x2048_S4x4x8x2048_d4 h_S_ (ix4 b g e i)
      = Finset.univ.fold max (z (Shape.Idx.first h_S_) : EReal) fun n : Fin 2048 => (s (ix5 b g e i n) : EReal) := by
  pointwise []

/-- A row's largest score. -/
theorem tops_apply (s : FVec Ideal S4x4x8x2048x2048 .f32) :
    tops s (ix4 b g e i) = (Finset.univ : Finset (Fin 2048)).sup fun n => (s (ix5 b g e i n) : EReal) := by
  unfold tops
  rw [show ∀ (x y : FVec Ideal S4x4x8x2048 .f32) (j : S4x4x8x2048.Idx), maximumf x y j = max (x j : EReal) (y j) from fun _ _ _ => rfl, reduce_apply]
  rw [show ∀ (x : FVec Ideal S_ .f32) (j : S4x4x8x2048.Idx), broadcastInDim S4x4x8x2048 ![] bcast_S_S4x4x8x2048 x j = x ix0 from fun x j => by pointwise []]
  rw [show ∀ j, constant (F := Ideal) S_ .f32 0xFF800000#32 j = (⊥ : EReal) from fun j => AttnSpec.ninf]
  exact max_eq_right bot_le

/-- One exponential. -/
theorem exps_apply (s : FVec Ideal S4x4x8x2048x2048 .f32) (t : FVec Ideal S4x4x8x2048 .f32) :
    exps s t (ix5 b g e i n) = Ideal.exp ((s (ix5 b g e i n) : EReal) - t (ix4 b g e i)) := by
  pointwise [exps]

/-- One row's sum. -/
theorem sums_apply (x : FVec Ideal S4x4x8x2048x2048 .f32) :
    sums x (ix4 b g e i) = ∑ n : Fin 2048, (x (ix5 b g e i n) : EReal) := by
  pointwise [sums]

/-- One entry of the result. -/
theorem outs_apply (x : FVec Ideal S4x4x8x2048x2048 .f32) (l : FVec Ideal S4x4x8x2048 .f32) (j : Fin 4096) (d : Fin 128)
    (hj : j.val = (g.val * 8 + e.val) * 128 + d.val) :
    outs kv x l (ix3 b i j)
      = ∑ n : Fin 2048, Ideal.div (x (ix5 b g e i n)) (l (ix4 b g e i)) * FoxSpec.value kv b g d n.val := by
  have hlt : j.val / 1024 < 4 := have := j.isLt; Nat.div_lt_of_lt_mul this
  have hg : g.val = j.val / 1024 := by omega
  have he : e.val = j.val / 128 % 8 := by omega
  have hd : d.val = j.val % 128 := by omega
  unfold FoxSpec.value
  pointwise [outs]
  refine Finset.sum_congr rfl fun n _ => (mul_comm _ _).trans ?_
  refine congrArg₂ (fun u w => u * kv w) (congrArg₂ (fun u w => Ideal.div (x u) (l w)) ((ix5_inj ..).2 ⟨rfl, Fin.ext ?_, Fin.ext ?_, rfl, rfl⟩)
    ((ix4_inj ..).2 ⟨rfl, Fin.ext ?_, Fin.ext ?_, rfl⟩)) ((ix3_inj ..).2 ⟨rfl, rfl, Fin.ext ?_⟩) <;> simp only [] <;> omega

variable (m : (ℓ : Loc nD τ sig) → Buf (Elt Ideal) ℓ) (c : Dev nD)

/-- The reference's scores, as a name for what follows. -/
abbrev S : FVec Ideal S4x4x8x2048x2048 .f32 := scores (products q kv) (gates f)

/-- The reference's result, in these pieces. -/
theorem result : res_main_v40 m c
    = outs (m ((c.tc : Thread nD τ).loc main_arg1))
        (exps (S (m ((c.tc : Thread nD τ).loc main_arg0)) (m ((c.tc : Thread nD τ).loc main_arg1)) (m ((c.tc : Thread nD τ).loc main_arg2)))
          (tops (S (m ((c.tc : Thread nD τ).loc main_arg0)) (m ((c.tc : Thread nD τ).loc main_arg1)) (m ((c.tc : Thread nD τ).loc main_arg2)))))
        (sums (exps (S (m ((c.tc : Thread nD τ).loc main_arg0)) (m ((c.tc : Thread nD τ).loc main_arg1)) (m ((c.tc : Thread nD τ).loc main_arg2)))
          (tops (S (m ((c.tc : Thread nD τ).loc main_arg0)) (m ((c.tc : Thread nD τ).loc main_arg1)) (m ((c.tc : Thread nD τ).loc main_arg2)))))) := rfl

/-- One entry of these pieces, where every score is a real number: attention. -/
theorem pieces_apply (H : FoxSpec.Real q kv f) (j : Fin 4096) (d : Fin 128) (hj : j.val = (g.val * 8 + e.val) * 128 + d.val) :
    outs kv (exps (S q kv f) (tops (S q kv f))) (sums (exps (S q kv f) (tops (S q kv f)))) (ix3 b i j) = FoxSpec.attn q kv f b g e i d := by
  have hs : ∀ n : Fin 2048, S q kv f (ix5 b g e i n) = Softmax.masked i.val (FoxSpec.scoreR q kv f b g e i) n.val := fun n =>
    (scores_apply b g e i n _ _).trans <| by
      rw [products_apply, gates_apply]
      exact FoxSpec.masked_eq q kv f b g e i H n
  generalize S q kv f = s at hs ⊢
  have ht : tops s (ix4 b g e i) = Softmax.top i.val (FoxSpec.scoreR q kv f b g e i) 2048 := by
    rw [tops_apply]
    simp only [hs]
    have := Softmax.top_add i.val (FoxSpec.scoreR q kv f b g e i) 0 2048
    simp only [zero_add] at this
    rw [this]
    exact (max_eq_right (by unfold Softmax.top; simp)).symm
  have he : ∀ n : Fin 2048, exps s (tops s) (ix5 b g e i n)
      = Ideal.exp (Softmax.masked i.val (FoxSpec.scoreR q kv f b g e i) n.val - Softmax.top i.val (FoxSpec.scoreR q kv f b g e i) 2048) := by
    intro n
    rw [exps_apply, hs, ht]
  have hl : sums (exps s (tops s)) (ix4 b g e i) = Softmax.den i.val (FoxSpec.scoreR q kv f b g e i) 2048 := by
    rw [sums_apply]
    simp only [he]
    unfold Softmax.den
    exact Fin.sum_univ_eq_sum_range (fun j => Ideal.exp (Softmax.masked i.val (FoxSpec.scoreR q kv f b g e i) j
      - Softmax.top i.val (FoxSpec.scoreR q kv f b g e i) 2048)) 2048
  refine (outs_apply kv b g e i _ _ j d hj).trans ?_
  unfold FoxSpec.attn
  rw [Softmax.div_den _ _ _ _ (by decide), hl]
  exact Finset.sum_congr rfl fun n _ => by rw [he]

/-- The reference's whole result. -/
theorem result_eq (H : FoxSpec.Real (m ((c.tc : Thread nD τ).loc main_arg0)) (m ((c.tc : Thread nD τ).loc main_arg1)) (m ((c.tc : Thread nD τ).loc main_arg2))) :
    res_main_v40 m c = FoxSpec.result (m ((c.tc : Thread nD τ).loc main_arg0)) (m ((c.tc : Thread nD τ).loc main_arg1)) (m ((c.tc : Thread nD τ).loc main_arg2)) := by
  rw [result]
  funext j
  idx_vars j
  exact pieces_apply _ _ _ j0 ⟨j2.val / 1024, by omega⟩ ⟨j2.val / 128 % 8, by omega⟩ j1 H j2 ⟨j2.val % 128, by omega⟩ (by simp only []; omega)

end Cert.Proof.FoxReference
-- ==== Proof.FoxPre.lean ====
/-
  Forgetting attention over the prompt: the precondition, that queries, keys and cumulated gates are finite, makes every score a
  real number.
-/
module

public import proofs.«01_k».proof.Pre_finite_fox_scores
public import proofs.«01_k».proof.Proof.FoxSpec
public import proofs.«01_k».proof.Proof.AttnPre
public import Idealize.ShloMosaic.Lib.Pointwise

@[expose] public section

set_option maxRecDepth 16384

noncomputable section

open Idealize.ShloMosaic Idealize.ShloMosaic.TcCoe Idealize.SL.Sem

namespace Cert.Proof.FoxPre

open Cert.Pre_finite_fox_scores

/-- The facts the precondition's own text asks for. -/
instance facts : Cert.Pre_finite_fox_scores.Facts :=
  ⟨by decide, by decide, by decide, by decide, by decide⟩

variable (q : FVec Ideal S4x2048x4096 .bf16) (kv : FVec Ideal S4x2048x1024 .bf16) (f : FVec Ideal S4x2048x32 .f32)

/-- The precondition read: every score is a real number. -/
theorem real (h0 : (fn (F := Ideal) q kv f).1 = fun _ => 1#1) (h1 : (fn (F := Ideal) q kv f).2.1 = fun _ => 1#1)
    (h2 : (fn (F := Ideal) q kv f).2.2 = fun _ => 1#1) : FoxSpec.Real q kv f := by
  refine FoxSpec.real_of q kv f (fun x => ?_) (fun b n g d => ?_) (fun x => ?_)
  · have r := congrFun h0 x
    idx_vars x
    pointwise [fn] at r
    exact AttnPre.real_of_abs _ r
  · have r := congrFun h1 (ix3 b n ⟨g.val * 128 + d.val, by omega⟩)
    pointwise [fn] at r
    exact AttnPre.real_of_abs _ r
  · have r := congrFun h2 x
    idx_vars x
    pointwise [fn] at r
    exact AttnPre.real_of_abs _ r

end Cert.Proof.FoxPre
-- ==== Proof.RmsNorm.lean ====
/-
  The root-mean-square normalisation of the compressed queries and of the compressed keys and values: what it is, entry by entry,
  and that the references return it.

  Of every row of 1536 numbers the first 1024 are the compressed queries and the last 512 the compressed keys and values; each part
  is divided by the root of its mean square, with a small number added under the root, and scaled by its own gain.
-/
module

public import proofs.«01_k».proof.Proof.Gen.Reference22Ideal.Run
public import proofs.«01_k».proof.Proof.Gen.Reference23Ideal.Run
public import Idealize.ShloMosaic.Lib.Pointwise

@[expose] public section

set_option maxRecDepth 16384

noncomputable section

open Idealize.ShloMosaic Idealize.ShloMosaic.TcCoe Idealize.SL.Sem

namespace Cert.Proof.RmsNorm

/-- Entry `k` of a row divided by the root of its mean square, times the gain; `d` is how many entries the row has. -/
def entry {n : ℕ} (d : BitVec 32) (x g : Fin n → EReal) (k : Fin n) : EReal :=
  x k * Ideal.rsqrt (Ideal.div (∑ a : Fin n, x a * x a) (Ideal.ofBits .f32 d) + Ideal.ofBits .f32 0x358637BD#32) * g k

/-- The compressed queries of all rows, normalised. -/
def queries {M : ℕ} (z : FVec Ideal ⟨2, ![M, 1536]⟩ .f32) (g : FVec Ideal ⟨1, ![1024]⟩ .f32) : FVec Ideal ⟨2, ![M, 1024]⟩ .bf16 := fun j =>
  entry 0x44800000#32 (fun a : Fin 1024 => z (ix2 (j 0) ⟨a.val, by omega⟩)) (fun a => g (ix1 a)) (j 1)

/-- The compressed keys and values of all rows, normalised. -/
def keys {M : ℕ} (z : FVec Ideal ⟨2, ![M, 1536]⟩ .f32) (g : FVec Ideal ⟨1, ![512]⟩ .f32) : FVec Ideal ⟨2, ![M, 512]⟩ .f32 := fun j =>
  entry 0x44000000#32 (fun a : Fin 512 => z (ix2 (j 0) ⟨1024 + a.val, by omega⟩)) (fun a => g (ix1 a)) (j 1)

end Cert.Proof.RmsNorm

namespace Cert.Proof.RmsReference

open Cert.Reference22Ideal Cert.Reference22Ideal.Gen

variable (z : FVec Ideal S8192x1536 .f32) (gq : FVec Ideal S1024 .f32) (gk : FVec Ideal S512 .f32)

/-- The first 1024 columns, normalised as the reference writes it, of the prompt. -/
theorem queries : truncf .bf16 (mulf (mulf (extractStridedSlice S8192x1024 ![0, 0] z slices_S8192x1536_S8192x1024_0_0) (broadcastInDim S8192x1024 ![0, 1] bcast_S8192x1_S8192x1024_0_1 (Host.rsqrt (addf (Host.divf (broadcastInDim S8192x1 ![0] bcast_S8192_S8192x1_0 (Host.reduceAdd (mulf (extractStridedSlice S8192x1024 ![0, 0] z slices_S8192x1536_S8192x1024_0_0) (extractStridedSlice S8192x1024 ![0, 0] z slices_S8192x1536_S8192x1024_0_0)) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 (broadcastInDim S1x1024 ![1] bcast_S1024_S1x1024_1 gq))) bitsLt_bf16_f32 = RmsNorm.queries z gq := by
  funext j
  idx_vars j
  pointwise [RmsNorm.queries, RmsNorm.entry]

/-- The last 512 columns, normalised as the reference writes it, of the prompt. -/
theorem keys : mulf (mulf (extractStridedSlice S8192x512 ![0, 1024] z slices_S8192x1536_S8192x512_0_1024) (broadcastInDim S8192x512 ![0, 1] bcast_S8192x1_S8192x512_0_1 (Host.rsqrt (addf (Host.divf (broadcastInDim S8192x1 ![0] bcast_S8192_S8192x1_0 (Host.reduceAdd (mulf (extractStridedSlice S8192x512 ![0, 1024] z slices_S8192x1536_S8192x512_0_1024) (extractStridedSlice S8192x512 ![0, 1024] z slices_S8192x1536_S8192x512_0_1024)) (constant S_ .f32 0x00000000#32) reducesTo_S8192x512_S8192_d1 h_S_)) (broadcastInDim S8192x1 ![] bcast_S_S8192x1 (constant S_ .f32 0x44000000#32))) (broadcastInDim S8192x1 ![] bcast_S_S8192x1 (constant S_ .f32 0x358637BD#32)))))) (broadcastInDim S8192x512 ![0, 1] bcast_S1x512_S8192x512_0_1 (broadcastInDim S1x512 ![1] bcast_S512_S1x512_1 gk)) = RmsNorm.keys z gk := by
  funext j
  idx_vars j
  pointwise [RmsNorm.keys, RmsNorm.entry]

end Cert.Proof.RmsReference

namespace Cert.Proof.RmsSampleReference

open Cert.Reference23Ideal Cert.Reference23Ideal.Gen

variable (z : FVec Ideal S128x1536 .f32) (gq : FVec Ideal S1024 .f32) (gk : FVec Ideal S512 .f32)

/-- The first 1024 columns, normalised as the reference writes it, of the decoded tokens. -/
theorem queries : truncf .bf16 (mulf (mulf (extractStridedSlice S128x1024 ![0, 0] z slices_S128x1536_S128x1024_0_0) (broadcastInDim S128x1024 ![0, 1] bcast_S128x1_S128x1024_0_1 (Host.rsqrt (addf (Host.divf (broadcastInDim S128x1 ![0] bcast_S128_S128x1_0 (Host.reduceAdd (mulf (extractStridedSlice S128x1024 ![0, 0] z slices_S128x1536_S128x1024_0_0) (extractStridedSlice S128x1024 ![0, 0] z slices_S128x1536_S128x1024_0_0)) (constant S_ .f32 0x00000000#32) reducesTo_S128x1024_S128_d1 h_S_)) (broadcastInDim S128x1 ![] bcast_S_S128x1 (constant S_ .f32 0x44800000#32))) (broadcastInDim S128x1 ![] bcast_S_S128x1 (constant S_ .f32 0x358637BD#32)))))) (broadcastInDim S128x1024 ![0, 1] bcast_S1x1024_S128x1024_0_1 (broadcastInDim S1x1024 ![1] bcast_S1024_S1x1024_1 gq))) bitsLt_bf16_f32 = RmsNorm.queries z gq := by
  funext j
  idx_vars j
  pointwise [RmsNorm.queries, RmsNorm.entry]

/-- The last 512 columns, normalised as the reference writes it, of the decoded tokens. -/
theorem keys : mulf (mulf (extractStridedSlice S128x512 ![0, 1024] z slices_S128x1536_S128x512_0_1024) (broadcastInDim S128x512 ![0, 1] bcast_S128x1_S128x512_0_1 (Host.rsqrt (addf (Host.divf (broadcastInDim S128x1 ![0] bcast_S128_S128x1_0 (Host.reduceAdd (mulf (extractStridedSlice S128x512 ![0, 1024] z slices_S128x1536_S128x512_0_1024) (extractStridedSlice S128x512 ![0, 1024] z slices_S128x1536_S128x512_0_1024)) (constant S_ .f32 0x00000000#32) reducesTo_S128x512_S128_d1 h_S_)) (broadcastInDim S128x1 ![] bcast_S_S128x1 (constant S_ .f32 0x44000000#32))) (broadcastInDim S128x1 ![] bcast_S_S128x1 (constant S_ .f32 0x358637BD#32)))))) (broadcastInDim S128x512 ![0, 1] bcast_S1x512_S128x512_0_1 (broadcastInDim S1x512 ![1] bcast_S512_S1x512_1 gk)) = RmsNorm.keys z gk := by
  funext j
  idx_vars j
  pointwise [RmsNorm.keys, RmsNorm.entry]

end Cert.Proof.RmsSampleReference
-- ==== Proof.RmsValue.lean ====
/-
  The normalisation of the latents: what the two pipelined kernels, of the prompt and of the decoded tokens, leave in their result arrays.

  The prompt's kernel runs over 16 blocks of 512 rows, the decoded tokens' has one block. Each normalises a block's compressed
  queries and its compressed keys and values, and stores the latter once in single and once in half precision.
-/
module

public import proofs.«01_k».proof.Proof.RmsNorm
public import proofs.«01_k».proof.Proof.Gen.Kernel22Ideal.Value
public import proofs.«01_k».proof.Proof.Gen.Kernel23Ideal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Proof.RmsKernel

open Cert.Kernel22Ideal Cert.Kernel22Ideal.Gen

variable (m : (ℓ : Loc nD τ sig) → Buf (Elt Ideal) ℓ)

/-- The windows' block indices at grid point `t`: row block `t`, and the whole of both gains. -/
theorem idx : ∀ t : Fin cfg0.N, win0_0.index t = ![t.val, 0] ∧ win0_1.index t = ![0, 0] ∧ win0_2.index t = ![0, 0] ∧ win0_3.index t = ![t.val, 0]
      ∧ win0_4.index t = ![t.val, 0] ∧ win0_5.index t = ![t.val, 0] :=
  (by decide +kernel : ∀ t : Fin grid0.N, win0_0.index t = ![t.val, 0] ∧ win0_1.index t = ![0, 0] ∧ win0_2.index t = ![0, 0] ∧ win0_3.index t = ![t.val, 0]
      ∧ win0_4.index t = ![t.val, 0] ∧ win0_5.index t = ![t.val, 0])

theorem lt_N (t : Fin cfg0.N) : t.val < 16 := t.isLt

/-- The latents' block at `t`. -/
theorem z_read (c : Dev nD) (t : Fin cfg0.N) (r : Fin 512) (k : Fin 1536) (h : t.val * 512 + r.val < 8192) :
    iblk m c 0 t (ix2 r k) = m ((c : Thread nD τ).loc main_arg0) (ix2 ⟨t.val * 512 + r.val, h⟩ k) := by
  blk_ext [iblk, V, idx t]

/-- The queries' gain is read as it is. -/
theorem q_entry (c : Dev nD) (k : Fin 1024) : V m c main_v0 (ix2 0 k) = m ((c : Thread nD τ).loc main_arg1) (ix1 k) := by
  entry_read
  pointwise []

/-- The keys' gain is read as it is. -/
theorem k_entry (c : Dev nD) (k : Fin 512) : V m c main_v1 (ix2 0 k) = m ((c : Thread nD τ).loc main_arg2) (ix1 k) := by
  entry_read
  pointwise []

/-- The queries' gain at every grid point. -/
theorem q_read (c : Dev nD) (t : Fin cfg0.N) (k : Fin 1024) : iblk m c 1 t (ix2 0 k) = m ((c : Thread nD τ).loc main_arg1) (ix1 k) :=
  (by blk_ext [iblk, idx t] : iblk m c 1 t (ix2 0 k) = V m c main_v0 (ix2 0 k)).trans (q_entry m c k)

/-- The keys' gain at every grid point. -/
theorem k_read (c : Dev nD) (t : Fin cfg0.N) (k : Fin 512) : iblk m c 2 t (ix2 0 k) = m ((c : Thread nD τ).loc main_arg2) (ix1 k) :=
  (by blk_ext [iblk, idx t] : iblk m c 2 t (ix2 0 k) = V m c main_v1 (ix2 0 k)).trans (k_entry m c k)

/-- What the body stores of the queries. -/
theorem queries (c : Dev nD) (t : Fin cfg0.N) (y) : k0_pay2 (iblk m c 0 t) (iblk m c 1 t) y
    = RmsNorm.queries (m ((c : Thread nD τ).loc main_arg0)) (m ((c : Thread nD τ).loc main_arg1)) (((cfg0.win 3).blk t).view.emb y) := by
  idx_vars y
  have := lt_N t
  have p : ((cfg0.win 3).blk t).view.emb (ix2 y0 y1) = ix2 ⟨t.val * 512 + y0.val, by omega⟩ y1 := by blk_ext [idx t]
  rw [p]
  pointwise [k0_pay2, RmsNorm.queries, RmsNorm.entry]
  have e : ∀ k : Fin 1536, iblk m c 0 t (ix2 y0 k) = m ((c : Thread nD τ).loc main_arg0) (ix2 ⟨t.val * 512 + y0.val, by omega⟩ k) :=
    fun k => z_read m c t y0 k _
  simp only [e, q_read m c t]

/-- What the body stores of the keys and values. -/
theorem keys (c : Dev nD) (t : Fin cfg0.N) (y) : k0_pay1 (iblk m c 0 t) (iblk m c 2 t) y
    = RmsNorm.keys (m ((c : Thread nD τ).loc main_arg0)) (m ((c : Thread nD τ).loc main_arg2)) (((cfg0.win 4).blk t).view.emb y) := by
  idx_vars y
  have := lt_N t
  have p : ((cfg0.win 4).blk t).view.emb (ix2 y0 y1) = ix2 ⟨t.val * 512 + y0.val, by omega⟩ y1 := by blk_ext [idx t]
  rw [p]
  pointwise [k0_pay1, RmsNorm.keys, RmsNorm.entry]
  have e : ∀ k : Fin 1536, iblk m c 0 t (ix2 y0 k) = m ((c : Thread nD τ).loc main_arg0) (ix2 ⟨t.val * 512 + y0.val, by omega⟩ k) :=
    fun k => z_read m c t y0 k _
  simp only [e, k_read m c t]

/-- The third result has the second's places. -/
theorem same (t : Fin cfg0.N) (y : S512x512.Idx) : ((cfg0.win 5).blk t).view.emb y = ((cfg0.win 4).blk t).view.emb y := by
  blk_ext [idx t]

/-- The first result array after the run: the queries. -/
theorem final3 (c : Dev nD) : (dats m 0 c).arrAt 3 (cfgs 0).N
    = RmsNorm.queries (m ((c : Thread nD τ).loc main_arg0)) (m ((c : Thread nD τ).loc main_arg1)) := by
  refine (dats m 0 c).arrAt_eq_of_covers 3 _ (by decide +kernel) fun t _ y => ?_
  blk_simp
  rw [after0_3]
  frame_out
  exact queries m c t y

/-- The second result array after the run: the keys and values. -/
theorem final4 (c : Dev nD) : (dats m 0 c).arrAt 4 (cfgs 0).N
    = RmsNorm.keys (m ((c : Thread nD τ).loc main_arg0)) (m ((c : Thread nD τ).loc main_arg2)) := by
  refine (dats m 0 c).arrAt_eq_of_covers 4 _ (by decide +kernel) fun t _ y => ?_
  blk_simp
  rw [after0_4]
  frame_out
  exact keys m c t y

/-- The third result array after the run: the keys and values once more. -/
theorem final5 (c : Dev nD) : (dats m 0 c).arrAt 5 (cfgs 0).N
    = RmsNorm.keys (m ((c : Thread nD τ).loc main_arg0)) (m ((c : Thread nD τ).loc main_arg2)) := by
  refine (dats m 0 c).arrAt_eq_of_covers 5 _ (by decide +kernel) fun t _ y => ?_
  blk_simp
  rw [after0_5]
  frame_out
  exact (keys m c t y).trans (congrArg _ (same t y).symm)

end Cert.Proof.RmsKernel

namespace Cert.Proof.RmsSampleKernel

open Cert.Kernel23Ideal Cert.Kernel23Ideal.Gen

variable (m : (ℓ : Loc nD τ sig) → Buf (Elt Ideal) ℓ)

/-- The windows' block indices at grid point `t`: the one row block, and the whole of both gains. -/
theorem idx : ∀ t : Fin cfg0.N, win0_0.index t = ![t.val, 0] ∧ win0_1.index t = ![0, 0] ∧ win0_2.index t = ![0, 0] ∧ win0_3.index t = ![t.val, 0]
      ∧ win0_4.index t = ![t.val, 0] ∧ win0_5.index t = ![t.val, 0] :=
  (by decide +kernel : ∀ t : Fin grid0.N, win0_0.index t = ![t.val, 0] ∧ win0_1.index t = ![0, 0] ∧ win0_2.index t = ![0, 0] ∧ win0_3.index t = ![t.val, 0]
      ∧ win0_4.index t = ![t.val, 0] ∧ win0_5.index t = ![t.val, 0])

theorem lt_N (t : Fin cfg0.N) : t.val < 1 := t.isLt

/-- The latents' block at `t`. -/
theorem z_read (c : Dev nD) (t : Fin cfg0.N) (r : Fin 128) (k : Fin 1536) :
    iblk m c 0 t (ix2 r k) = m ((c : Thread nD τ).loc main_arg0) (ix2 r k) := by
  have := lt_N t
  blk_ext [iblk, V, idx t]

/-- The queries' gain is read as it is. -/
theorem q_entry (c : Dev nD) (k : Fin 1024) : V m c main_v0 (ix2 0 k) = m ((c : Thread nD τ).loc main_arg1) (ix1 k) := by
  entry_read
  pointwise []

/-- The keys' gain is read as it is. -/
theorem k_entry (c : Dev nD) (k : Fin 512) : V m c main_v1 (ix2 0 k) = m ((c : Thread nD τ).loc main_arg2) (ix1 k) := by
  entry_read
  pointwise []

/-- The queries' gain at every grid point. -/
theorem q_read (c : Dev nD) (t : Fin cfg0.N) (k : Fin 1024) : iblk m c 1 t (ix2 0 k) = m ((c : Thread nD τ).loc main_arg1) (ix1 k) :=
  (by blk_ext [iblk, idx t] : iblk m c 1 t (ix2 0 k) = V m c main_v0 (ix2 0 k)).trans (q_entry m c k)

/-- The keys' gain at every grid point. -/
theorem k_read (c : Dev nD) (t : Fin cfg0.N) (k : Fin 512) : iblk m c 2 t (ix2 0 k) = m ((c : Thread nD τ).loc main_arg2) (ix1 k) :=
  (by blk_ext [iblk, idx t] : iblk m c 2 t (ix2 0 k) = V m c main_v1 (ix2 0 k)).trans (k_entry m c k)

/-- What the body stores of the queries. -/
theorem queries (c : Dev nD) (t : Fin cfg0.N) (y) : k0_pay2 (iblk m c 0 t) (iblk m c 1 t) y
    = RmsNorm.queries (m ((c : Thread nD τ).loc main_arg0)) (m ((c : Thread nD τ).loc main_arg1)) (((cfg0.win 3).blk t).view.emb y) := by
  idx_vars y
  have p : ((cfg0.win 3).blk t).view.emb (ix2 y0 y1) = ix2 y0 y1 := by
    have := lt_N t
    blk_ext [idx t]
  rw [p]
  pointwise [k0_pay2, RmsNorm.queries, RmsNorm.entry]
  simp only [z_read m c t, q_read m c t]

/-- What the body stores of the keys and values. -/
theorem keys (c : Dev nD) (t : Fin cfg0.N) (y) : k0_pay1 (iblk m c 0 t) (iblk m c 2 t) y
    = RmsNorm.keys (m ((c : Thread nD τ).loc main_arg0)) (m ((c : Thread nD τ).loc main_arg2)) (((cfg0.win 4).blk t).view.emb y) := by
  idx_vars y
  have p : ((cfg0.win 4).blk t).view.emb (ix2 y0 y1) = ix2 y0 y1 := by
    have := lt_N t
    blk_ext [idx t]
  rw [p]
  pointwise [k0_pay1, RmsNorm.keys, RmsNorm.entry]
  simp only [z_read m c t, k_read m c t]

/-- The third result has the second's places. -/
theorem same (t : Fin cfg0.N) (y : S128x512.Idx) : ((cfg0.win 5).blk t).view.emb y = ((cfg0.win 4).blk t).view.emb y := by
  blk_ext [idx t]

/-- The first result array after the run: the queries. -/
theorem final3 (c : Dev nD) : (dats m 0 c).arrAt 3 (cfgs 0).N
    = RmsNorm.queries (m ((c : Thread nD τ).loc main_arg0)) (m ((c : Thread nD τ).loc main_arg1)) := by
  refine (dats m 0 c).arrAt_eq_of_covers 3 _ (by decide +kernel) fun t _ y => ?_
  blk_simp
  rw [after0_3]
  frame_out
  exact queries m c t y

/-- The second result array after the run: the keys and values. -/
theorem final4 (c : Dev nD) : (dats m 0 c).arrAt 4 (cfgs 0).N
    = RmsNorm.keys (m ((c : Thread nD τ).loc main_arg0)) (m ((c : Thread nD τ).loc main_arg2)) := by
  refine (dats m 0 c).arrAt_eq_of_covers 4 _ (by decide +kernel) fun t _ y => ?_
  blk_simp
  rw [after0_4]
  frame_out
  exact keys m c t y

/-- The third result array after the run: the keys and values once more. -/
theorem final5 (c : Dev nD) : (dats m 0 c).arrAt 5 (cfgs 0).N
    = RmsNorm.keys (m ((c : Thread nD τ).loc main_arg0)) (m ((c : Thread nD τ).loc main_arg2)) := by
  refine (dats m 0 c).arrAt_eq_of_covers 5 _ (by decide +kernel) fun t _ y => ?_
  blk_simp
  rw [after0_5]
  frame_out
  exact (keys m c t y).trans (congrArg _ (same t y).symm)

end Cert.Proof.RmsSampleKernel
-- ==== Proof.Rope.lean ====
/-
  The rotation of queries and keys by their position: what it is, entry by entry, and that the references return it.

  Of 64 products of a row, entry `e` and entry `32 + e` are turned together, by the row's position times the `e`-th frequency,
  which is ten thousand to the power `-e / 32`.
-/
module

public import proofs.«01_k».proof.Proof.Gen.Reference24Ideal.Run
public import proofs.«01_k».proof.Proof.Gen.Reference25Ideal.Run
public import proofs.«01_k».proof.Proof.Gen.Reference26Ideal.Run
public import Idealize.ShloMosaic.Lib.Pointwise

@[expose] public section

set_option maxRecDepth 16384

noncomputable section

open Idealize.ShloMosaic Idealize.ShloMosaic.TcCoe Idealize.SL.Sem

namespace Cert.Proof.Rope

/-- A whole number as a float. -/
def num (n : ℕ) : EReal := FloatOps.sitofp (F := Ideal) .f32 (BitVec.ofNat 32 n)

/-- The angle of entry `e` at position `p`. -/
def angle (p : EReal) (e : ℕ) : EReal :=
  p * Ideal.pow (Ideal.ofBits .f32 0x461C4000#32) (Ideal.div (-num e) (Ideal.ofBits .f32 0x42000000#32))

/-- Entry `q` of a turned row of 64. -/
def turn (z : Fin 64 → EReal) (p : EReal) (q : Fin 64) : EReal :=
  if h : q.val < 32 then z ⟨q.val, by omega⟩ * Ideal.cos (angle p q.val) - z ⟨32 + q.val, by omega⟩ * Ideal.sin (angle p q.val)
  else z ⟨q.val - 32, by omega⟩ * Ideal.sin (angle p (q.val - 32)) + z ⟨32 + (q.val - 32), by omega⟩ * Ideal.cos (angle p (q.val - 32))

/-- The cosine that entry `q` meets. -/
def cosRow (p : EReal) (q : ℕ) : EReal := if _h : q < 32 then Ideal.cos (angle p q) else Ideal.cos (angle p (q - 32))

/-- The sine that the entry across from `q` meets, with its sign. -/
def sinRow (p : EReal) (q : ℕ) : EReal := if _h : q < 32 then -Ideal.sin (angle p q) else Ideal.sin (angle p (q - 32))

/-- The entry across from `q`, in the other half. -/
def across (q : ℕ) : ℕ := (1 - q / 32) * 32 + q % 32

theorem across_lt {q : ℕ} (h : q < 64) : across q < 64 := by unfold across; omega

/-- Turning is one product with the cosines and one, of the halves exchanged, with the signed sines. -/
theorem turn_eq (z : Fin 64 → EReal) (p : EReal) (q : Fin 64) :
    z q * cosRow p q.val + z ⟨across q.val, across_lt q.isLt⟩ * sinRow p q.val = turn z p q := by
  unfold turn cosRow sinRow
  by_cases h : q.val < 32
  · have a : (⟨across q.val, across_lt q.isLt⟩ : Fin 64) = ⟨32 + q.val, by omega⟩ := Fin.ext (by simp only [across]; omega)
    rw [dif_pos h, dif_pos h, dif_pos h, a, mul_neg, sub_eq_add_neg]
  · have a : (⟨across q.val, across_lt q.isLt⟩ : Fin 64) = ⟨q.val - 32, by omega⟩ := Fin.ext (by simp only [across]; omega)
    have b : q = ⟨32 + (q.val - 32), by omega⟩ := Fin.ext (by simp only []; omega)
    rw [dif_neg h, dif_neg h, dif_neg h, a, add_comm, ← b]

/-- The last 64 columns of row `r` of the projection. -/
def keyRow {M : ℕ} (h : FVec Ideal ⟨2, ![M, 4096]⟩ .bf16) (w : FVec Ideal ⟨3, ![1, 4096, 1600]⟩ .bf16) (r : Fin M) (a : Fin 64) : EReal :=
  ∑ k : Fin 4096, h (ix2 r k) * w (ix3 0 k ⟨1536 + a.val, by omega⟩)

/-- The rotated part of the keys of all rows: row `r` turned by position `p r`. -/
def keys {M : ℕ} (p : Fin M → EReal) (h : FVec Ideal ⟨2, ![M, 4096]⟩ .bf16) (w : FVec Ideal ⟨3, ![1, 4096, 1600]⟩ .bf16) :
    FVec Ideal ⟨2, ![M, 64]⟩ .f32 := fun j => turn (keyRow h w (j 0)) (p (j 0)) (j 1)

/-- The last 64 of the 192 columns of a head, in row `r`. -/
def queryRow {M : ℕ} (c : FVec Ideal ⟨2, ![M, 1024]⟩ .bf16) (w : FVec Ideal ⟨2, ![1024, 6144]⟩ .bf16) (r : Fin M) (b : Fin 32) (a : Fin 64) : EReal :=
  ∑ k : Fin 1024, c (ix2 r k) * w (ix2 k ⟨b.val * 192 + (128 + a.val), by omega⟩)

/-- The rotated part of the queries of all heads, row `r` turned by position `p r`. -/
def queries {M : ℕ} (p : Fin M → EReal) (c : FVec Ideal ⟨2, ![M, 1024]⟩ .bf16) (w : FVec Ideal ⟨2, ![1024, 6144]⟩ .bf16) : FVec Ideal ⟨2, ![M, 2048]⟩ .bf16 := fun j =>
  turn (queryRow c w (j 0) ⟨(j 1).val / 64, by have : (j 1).val < 2048 := (j 1).isLt; omega⟩) (p (j 0)) ⟨(j 1).val % 64, by omega⟩

/-- The positions of the prompt's rows. -/
abbrev prompt (r : Fin 8192) : EReal := num (r.val % 2048)

/-- The position of the decoded tokens. -/
abbrev decoded (_ : Fin 128) : EReal := Ideal.ofBits .f32 0x46000000#32 + num 0

end Cert.Proof.Rope

namespace Cert.Proof.RopeReference

open Cert.Reference24Ideal Cert.Reference24Ideal.Gen

variable (h : FVec Ideal S8192x4096 .bf16) (w : FVec Ideal S1x4096x1600 .bf16) (z : FVec Ideal S4x2048x64 .f32)

/-- The products as the reference writes them, of the prompt. -/
def products : FVec Ideal S4x2048x64 .f32 :=
  extractStridedSlice S4x2048x64 ![0, 0, 1536] (shapeCast _ (Host.dotGeneral dot_S8192x4096_S4096x1600_S8192x1600_1_0_0_1_n_n none (extf .f32 h bitsLt_bf16_f32) (extf .f32 (shapeCast _ w shapeCasts_S1x4096x1600_S4096x1600) bitsLt_bf16_f32)) shapeCasts_S8192x1600_S4x2048x1600) slices_S4x2048x1600_S4x2048x64_0_0_1536

/-- The turned rows as the reference writes them. -/
def turned : FVec Ideal S8192x64 .f32 :=
  shapeCast _ (concatenate S4x2048x64 2 [⟨S4x2048x32, (subf (mulf (extractStridedSlice S4x2048x32 ![0, 0, 0] z slices_S4x2048x64_S4x2048x32_0_0_0) (broadcastInDim S4x2048x32 ![0, 1, 2] bcast_S1x2048x32_S4x2048x32_0_1_2 (broadcastInDim S1x2048x32 ![1, 2] bcast_S2048x32_S1x2048x32_1_2 (Host.cos (mulf (broadcastInDim S2048x32 ![0, 1] bcast_S2048x1_S2048x32_0_1 (broadcastInDim S2048x1 ![0] bcast_S2048_S2048x1_0 (sitofp .f32 (iotaInDim S2048 32 0)))) (broadcastInDim S2048x32 ![0, 1] bcast_S1x32_S2048x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32))))))))))) (mulf (extractStridedSlice S4x2048x32 ![0, 0, 32] z slices_S4x2048x64_S4x2048x32_0_0_32) (broadcastInDim S4x2048x32 ![0, 1, 2] bcast_S1x2048x32_S4x2048x32_0_1_2 (broadcastInDim S1x2048x32 ![1, 2] bcast_S2048x32_S1x2048x32_1_2 (Host.sin (mulf (broadcastInDim S2048x32 ![0, 1] bcast_S2048x1_S2048x32_0_1 (broadcastInDim S2048x1 ![0] bcast_S2048_S2048x1_0 (sitofp .f32 (iotaInDim S2048 32 0)))) (broadcastInDim S2048x32 ![0, 1] bcast_S1x32_S2048x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32))))))))))))⟩, ⟨S4x2048x32, (addf (mulf (extractStridedSlice S4x2048x32 ![0, 0, 0] z slices_S4x2048x64_S4x2048x32_0_0_0) (broadcastInDim S4x2048x32 ![0, 1, 2] bcast_S1x2048x32_S4x2048x32_0_1_2 (broadcastInDim S1x2048x32 ![1, 2] bcast_S2048x32_S1x2048x32_1_2 (Host.sin (mulf (broadcastInDim S2048x32 ![0, 1] bcast_S2048x1_S2048x32_0_1 (broadcastInDim S2048x1 ![0] bcast_S2048_S2048x1_0 (sitofp .f32 (iotaInDim S2048 32 0)))) (broadcastInDim S2048x32 ![0, 1] bcast_S1x32_S2048x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32))))))))))) (mulf (extractStridedSlice S4x2048x32 ![0, 0, 32] z slices_S4x2048x64_S4x2048x32_0_0_32) (broadcastInDim S4x2048x32 ![0, 1, 2] bcast_S1x2048x32_S4x2048x32_0_1_2 (broadcastInDim S1x2048x32 ![1, 2] bcast_S2048x32_S1x2048x32_1_2 (Host.cos (mulf (broadcastInDim S2048x32 ![0, 1] bcast_S2048x1_S2048x32_0_1 (broadcastInDim S2048x1 ![0] bcast_S2048_S2048x1_0 (sitofp .f32 (iotaInDim S2048 32 0)))) (broadcastInDim S2048x32 ![0, 1] bcast_S1x32_S2048x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32))))))))))))⟩] concatenates_S4x2048x32_S4x2048x32_S4x2048x64_d2) shapeCasts_S4x2048x64_S8192x64

/-- A product. -/
theorem products_apply (b : Fin 4) (i : Fin 2048) (a : Fin 64) : products h w (ix3 b i a) = ∑ k : Fin 4096, (h (ix2 ⟨b.val * 2048 + i.val, by omega⟩ k) * w (ix3 0 k ⟨1536 + a.val, by omega⟩) : EReal) := by
  pointwise [products]

/-- An entry of a turned row. -/
theorem turned_apply (r : Fin 8192) (q : Fin 64) : turned z (ix2 r q) = Rope.turn (fun a => z (ix3 ⟨r.val / 2048, by omega⟩ ⟨r.val % 2048, by omega⟩ a)) (Rope.prompt r) q := by
  pointwise [turned, Rope.turn, Rope.angle, Rope.num, Rope.prompt]

/-- The reference returns the rotated part of the keys, of the prompt. -/
theorem ref (m : (ℓ : Loc nD τ sig) → Buf (Elt Ideal) ℓ) (c : Dev nD) : Value.res_main_v37 m c
    = Rope.keys Rope.prompt (m ((c.tc : Thread nD τ).loc main_arg0)) (m ((c.tc : Thread nD τ).loc main_arg1)) := by
  change turned (products (m ((c.tc : Thread nD τ).loc main_arg0)) (m ((c.tc : Thread nD τ).loc main_arg1))) = _
  funext j
  idx_vars j
  refine (turned_apply _ _ _).trans ?_
  simp only [products_apply]
  have e : ∀ g : j0.val / 2048 * 2048 + j0.val % 2048 < 8192, (⟨j0.val / 2048 * 2048 + j0.val % 2048, g⟩ : Fin 8192) = j0 := fun _ => Fin.ext (by simp only []; omega)
  simp only [e]
  rfl

end Cert.Proof.RopeReference

namespace Cert.Proof.RopeSampleReference

open Cert.Reference25Ideal Cert.Reference25Ideal.Gen

variable (h : FVec Ideal S128x4096 .bf16) (w : FVec Ideal S1x4096x1600 .bf16) (z : FVec Ideal S128x1x64 .f32)

/-- The products as the reference writes them, of the decoded tokens. -/
def products : FVec Ideal S128x1x64 .f32 :=
  extractStridedSlice S128x1x64 ![0, 0, 1536] (shapeCast _ (Host.dotGeneral dot_S128x4096_S4096x1600_S128x1600_1_0_0_1_n_n none (extf .f32 h bitsLt_bf16_f32) (extf .f32 (shapeCast _ w shapeCasts_S1x4096x1600_S4096x1600) bitsLt_bf16_f32)) shapeCasts_S128x1600_S128x1x1600) slices_S128x1x1600_S128x1x64_0_0_1536

/-- The turned rows as the reference writes them. -/
def turned : FVec Ideal S128x64 .f32 :=
  shapeCast _ (concatenate S128x1x64 2 [⟨S128x1x32, (subf (mulf (extractStridedSlice S128x1x32 ![0, 0, 0] z slices_S128x1x64_S128x1x32_0_0_0) (broadcastInDim S128x1x32 ![0, 1, 2] bcast_S1x1x32_S128x1x32_0_1_2 (broadcastInDim S1x1x32 ![1, 2] bcast_S1x32_S1x1x32_1_2 (Host.cos (mulf (broadcastInDim S1x32 ![0, 1] bcast_S1x1_S1x32_0_1 (broadcastInDim S1x1 ![0] bcast_S1_S1x1_0 (addf (broadcastInDim S1 ![] bcast_S_S1 (constant S_ .f32 0x46000000#32)) (sitofp .f32 (iotaInDim S1 32 0))))) (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32)))))))))) (mulf (extractStridedSlice S128x1x32 ![0, 0, 32] z slices_S128x1x64_S128x1x32_0_0_32) (broadcastInDim S128x1x32 ![0, 1, 2] bcast_S1x1x32_S128x1x32_0_1_2 (broadcastInDim S1x1x32 ![1, 2] bcast_S1x32_S1x1x32_1_2 (Host.sin (mulf (broadcastInDim S1x32 ![0, 1] bcast_S1x1_S1x32_0_1 (broadcastInDim S1x1 ![0] bcast_S1_S1x1_0 (addf (broadcastInDim S1 ![] bcast_S_S1 (constant S_ .f32 0x46000000#32)) (sitofp .f32 (iotaInDim S1 32 0))))) (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32)))))))))))⟩, ⟨S128x1x32, (addf (mulf (extractStridedSlice S128x1x32 ![0, 0, 0] z slices_S128x1x64_S128x1x32_0_0_0) (broadcastInDim S128x1x32 ![0, 1, 2] bcast_S1x1x32_S128x1x32_0_1_2 (broadcastInDim S1x1x32 ![1, 2] bcast_S1x32_S1x1x32_1_2 (Host.sin (mulf (broadcastInDim S1x32 ![0, 1] bcast_S1x1_S1x32_0_1 (broadcastInDim S1x1 ![0] bcast_S1_S1x1_0 (addf (broadcastInDim S1 ![] bcast_S_S1 (constant S_ .f32 0x46000000#32)) (sitofp .f32 (iotaInDim S1 32 0))))) (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32)))))))))) (mulf (extractStridedSlice S128x1x32 ![0, 0, 32] z slices_S128x1x64_S128x1x32_0_0_32) (broadcastInDim S128x1x32 ![0, 1, 2] bcast_S1x1x32_S128x1x32_0_1_2 (broadcastInDim S1x1x32 ![1, 2] bcast_S1x32_S1x1x32_1_2 (Host.cos (mulf (broadcastInDim S1x32 ![0, 1] bcast_S1x1_S1x32_0_1 (broadcastInDim S1x1 ![0] bcast_S1_S1x1_0 (addf (broadcastInDim S1 ![] bcast_S_S1 (constant S_ .f32 0x46000000#32)) (sitofp .f32 (iotaInDim S1 32 0))))) (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32)))))))))))⟩] concatenates_S128x1x32_S128x1x32_S128x1x64_d2) shapeCasts_S128x1x64_S128x64

/-- A product. -/
theorem products_apply (r : Fin 128) (a : Fin 64) : products h w (ix3 r 0 a) = ∑ k : Fin 4096, (h (ix2 r k) * w (ix3 0 k ⟨1536 + a.val, by omega⟩) : EReal) := by
  pointwise [products]

/-- An entry of a turned row. -/
theorem turned_apply (r : Fin 128) (q : Fin 64) : turned z (ix2 r q) = Rope.turn (fun a => z (ix3 r 0 a)) (Rope.decoded r) q := by
  pointwise [turned, Rope.turn, Rope.angle, Rope.num, Rope.decoded]

/-- The reference returns the rotated part of the keys, of the decoded tokens. -/
theorem ref (m : (ℓ : Loc nD τ sig) → Buf (Elt Ideal) ℓ) (c : Dev nD) : Value.res_main_v38 m c
    = Rope.keys Rope.decoded (m ((c.tc : Thread nD τ).loc main_arg0)) (m ((c.tc : Thread nD τ).loc main_arg1)) := by
  change turned (products (m ((c.tc : Thread nD τ).loc main_arg0)) (m ((c.tc : Thread nD τ).loc main_arg1))) = _
  funext j
  idx_vars j
  refine (turned_apply _ _ _).trans ?_
  simp only [products_apply]
  rfl

end Cert.Proof.RopeSampleReference

namespace Cert.Proof.RopeQueryReference

open Cert.Reference26Ideal Cert.Reference26Ideal.Gen

/-- The reference returns the rotated part of the queries. -/
theorem ref (m : (ℓ : Loc nD τ sig) → Buf (Elt Ideal) ℓ) (c : Dev nD) : Value.res_main_v38 m c
    = Rope.queries Rope.prompt (m ((c.tc : Thread nD τ).loc main_arg0)) (m ((c.tc : Thread nD τ).loc main_arg1)) := by
  funext j
  idx_vars j
  pointwise [Value.res_main_v38, Rope.queries, Rope.queryRow, Rope.turn, Rope.angle, Rope.num, Rope.prompt]

end Cert.Proof.RopeQueryReference
-- ==== Proof.RopeValue.lean ====
/-
  The rotated parts of queries and keys: what the pipelined kernels leave in their result arrays.

  Each kernel multiplies its rows by the weight's columns and by the same columns with the halves of every 64 exchanged, and adds
  the first times a row of cosines to the second times a row of signed sines. The tables are made by the program from the
  positions; the wide one for the queries holds every row of 64 twice.
-/
module

public import proofs.«01_k».proof.Proof.Rope
public import proofs.«01_k».proof.Proof.Gen.Kernel24Ideal.Value
public import proofs.«01_k».proof.Proof.Gen.Kernel25Ideal.Value
public import proofs.«01_k».proof.Proof.Gen.Kernel26Ideal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Proof.RopeKernel

open Cert.Kernel24Ideal Cert.Kernel24Ideal.Gen

variable (m : (ℓ : Loc nD τ sig) → Buf (Elt Ideal) ℓ)

/-- The windows' block indices at grid point `t`: row block `t`, column block `0`. -/
theorem idx : ∀ t : Fin cfg0.N, win0_0.index t = ![t.val, 0] ∧ win0_1.index t = ![0, 0] ∧ win0_2.index t = ![0, 0] ∧ win0_3.index t = ![t.val, 0] ∧ win0_4.index t = ![t.val, 0] ∧ win0_5.index t = ![t.val, 0] :=
  (by decide +kernel : ∀ t : Fin grid0.N, win0_0.index t = ![t.val, 0] ∧ win0_1.index t = ![0, 0] ∧ win0_2.index t = ![0, 0] ∧ win0_3.index t = ![t.val, 0] ∧ win0_4.index t = ![t.val, 0] ∧ win0_5.index t = ![t.val, 0])

theorem lt_N (t : Fin cfg0.N) : t.val < 8 := t.isLt

/-- The rows' block. -/
theorem x_read (c : Dev nD) (t : Fin cfg0.N) (r : Fin 1024) (k : Fin 4096) (h : t.val * 1024 + r.val < 8192) :
    iblk m c 0 t (ix2 r k) = m ((c : Thread nD τ).loc main_arg0) (ix2 ⟨t.val * 1024 + r.val, h⟩ k) := by
  have := lt_N t
  blk_ext [iblk, V, idx t]

/-- The columns of the weight. -/
theorem w_entry (c : Dev nD) (k : Fin 4096) (q : Fin 64) : V m c main_v30 (ix2 k q) = m ((c : Thread nD τ).loc main_arg1) (ix3 0 k ⟨1536 + q.val, by omega⟩) := by
  entry_read
  pointwise []

/-- The same columns with the halves of every 64 exchanged. -/
theorem v_entry (c : Dev nD) (k : Fin 4096) (q : Fin 64) :
    V m c main_v33 (ix2 k q) = m ((c : Thread nD τ).loc main_arg1) (ix3 0 k ⟨1536 + Rope.across q.val, by have := Rope.across_lt q.isLt; omega⟩) := by
  entry_read
  pointwise []
  refine congrArg _ ((ix3_inj ..).2 ⟨rfl, rfl, Fin.ext ?_⟩)
  change 1536 + ((2 - (q.val / 32 + 1)) * 32 + q.val % 32) = 1536 + Rope.across q.val
  unfold Rope.across
  omega

/-- The cosines. -/
theorem c_entry (c : Dev nD) (r : Fin 8192) (q : Fin 64) : V m c main_v34 (ix2 r q) = Rope.cosRow (Rope.prompt r) (q.val % 64) := by
  entry_read
  pointwise [Rope.cosRow, Rope.angle, Rope.num, Rope.prompt]

/-- The signed sines. -/
theorem s_entry (c : Dev nD) (r : Fin 8192) (q : Fin 64) : V m c main_v35 (ix2 r q) = Rope.sinRow (Rope.prompt r) (q.val % 64) := by
  entry_read
  pointwise [Rope.sinRow, Rope.angle, Rope.num, Rope.prompt]

/-- The columns at every grid point. -/
theorem w_read (c : Dev nD) (t : Fin cfg0.N) (k : Fin 4096) (q : Fin 64) : iblk m c 1 t (ix2 k q) = V m c main_v30 (ix2 k q) := by
  have := lt_N t
  blk_ext [iblk, idx t]

/-- The exchanged columns at every grid point. -/
theorem v_read (c : Dev nD) (t : Fin cfg0.N) (k : Fin 4096) (q : Fin 64) : iblk m c 2 t (ix2 k q) = V m c main_v33 (ix2 k q) := by
  have := lt_N t
  blk_ext [iblk, idx t]

/-- The cosines' block. -/
theorem c_read (c : Dev nD) (t : Fin cfg0.N) (r : Fin 1024) (q : Fin 64) (h : t.val * 1024 + r.val < 8192) : iblk m c 3 t (ix2 r q) = V m c main_v34 (ix2 ⟨t.val * 1024 + r.val, h⟩ q) := by
  have := lt_N t
  blk_ext [iblk, idx t]

/-- The sines' block. -/
theorem s_read (c : Dev nD) (t : Fin cfg0.N) (r : Fin 1024) (q : Fin 64) (h : t.val * 1024 + r.val < 8192) : iblk m c 4 t (ix2 r q) = V m c main_v35 (ix2 ⟨t.val * 1024 + r.val, h⟩ q) := by
  have := lt_N t
  blk_ext [iblk, idx t]

/-- What the body computes of a block, entry by entry. -/
theorem pay (x : FVec Ideal S1024x4096 .bf16) (w v : FVec Ideal S4096x64 .bf16) (a b : FVec Ideal S1024x64 .f32) (r : Fin 1024) (q : Fin 64) :
    (k0_pay1 (F := Ideal) x w v a b (ix2 r q) : EReal) = (∑ k : Fin 4096, (x (ix2 r k) * w (ix2 k q) : EReal)) * (a (ix2 r q) : EReal)
      + (∑ k : Fin 4096, (x (ix2 r k) * v (ix2 k q) : EReal)) * (b (ix2 r q) : EReal) := by
  pointwise [k0_pay1]

/-- What the body stores at index `y` of its block is the turned row's entry at the place of `y` in the array. -/
theorem point (c : Dev nD) (t : Fin cfg0.N) (y) : k0_pay1 (iblk m c 0 t) (iblk m c 1 t) (iblk m c 2 t) (iblk m c 3 t) (iblk m c 4 t) y
    = Rope.keys Rope.prompt (m ((c : Thread nD τ).loc main_arg0)) (m ((c : Thread nD τ).loc main_arg1)) (((cfg0.win 5).blk t).view.emb y) := by
  idx_vars y
  have := lt_N t
  have p : ((cfg0.win 5).blk t).view.emb (ix2 y0 y1) = ix2 ⟨t.val * 1024 + y0.val, by omega⟩ y1 := by blk_ext [idx t]
  rw [p]
  refine (pay _ _ _ _ _ y0 y1).trans ?_
  have ew := fun k => (w_read m c t k y1).trans (w_entry m c k _)
  have ev := fun k => (v_read m c t k y1).trans (v_entry m c k _)
  have ex := fun k => x_read m c t y0 k (by omega)
  have ec := (c_read m c t y0 y1 (by omega)).trans (c_entry m c _ _)
  have es := (s_read m c t y0 y1 (by omega)).trans (s_entry m c _ _)
  simp only [ew, ev, ex, ec, es]
  have eq : y1.val % 64 = y1.val := by omega
  rw [eq]
  exact Rope.turn_eq (Rope.keyRow (m ((c : Thread nD τ).loc main_arg0)) (m ((c : Thread nD τ).loc main_arg1)) ⟨t.val * 1024 + y0.val, by omega⟩) _ y1

/-- The result array after the run. -/
theorem final (c : Dev nD) : (dats m 0 c).arrAt 5 (cfgs 0).N
    = Rope.keys Rope.prompt (m ((c : Thread nD τ).loc main_arg0)) (m ((c : Thread nD τ).loc main_arg1)) := by
  refine (dats m 0 c).arrAt_eq_of_covers 5 _ (by decide +kernel) fun t _ y => ?_
  blk_simp
  rw [after0_5]
  frame_out
  exact point m c t y

end Cert.Proof.RopeKernel

namespace Cert.Proof.RopeSampleKernel

open Cert.Kernel25Ideal Cert.Kernel25Ideal.Gen

variable (m : (ℓ : Loc nD τ sig) → Buf (Elt Ideal) ℓ)

/-- The windows' block indices at grid point `t`: row block `t`, column block `0`. -/
theorem idx : ∀ t : Fin cfg0.N, win0_0.index t = ![t.val, 0] ∧ win0_1.index t = ![0, 0] ∧ win0_2.index t = ![0, 0] ∧ win0_3.index t = ![t.val, 0] ∧ win0_4.index t = ![t.val, 0] ∧ win0_5.index t = ![t.val, 0] :=
  (by decide +kernel : ∀ t : Fin grid0.N, win0_0.index t = ![t.val, 0] ∧ win0_1.index t = ![0, 0] ∧ win0_2.index t = ![0, 0] ∧ win0_3.index t = ![t.val, 0] ∧ win0_4.index t = ![t.val, 0] ∧ win0_5.index t = ![t.val, 0])

theorem lt_N (t : Fin cfg0.N) : t.val < 1 := t.isLt

/-- The rows' block. -/
theorem x_read (c : Dev nD) (t : Fin cfg0.N) (r : Fin 128) (k : Fin 4096) :
    iblk m c 0 t (ix2 r k) = m ((c : Thread nD τ).loc main_arg0) (ix2 r k) := by
  have := lt_N t
  blk_ext [iblk, V, idx t]

/-- The columns of the weight. -/
theorem w_entry (c : Dev nD) (k : Fin 4096) (q : Fin 64) : V m c main_v29 (ix2 k q) = m ((c : Thread nD τ).loc main_arg1) (ix3 0 k ⟨1536 + q.val, by omega⟩) := by
  entry_read
  pointwise []

/-- The same columns with the halves of every 64 exchanged. -/
theorem v_entry (c : Dev nD) (k : Fin 4096) (q : Fin 64) :
    V m c main_v32 (ix2 k q) = m ((c : Thread nD τ).loc main_arg1) (ix3 0 k ⟨1536 + Rope.across q.val, by have := Rope.across_lt q.isLt; omega⟩) := by
  entry_read
  pointwise []
  refine congrArg _ ((ix3_inj ..).2 ⟨rfl, rfl, Fin.ext ?_⟩)
  change 1536 + ((2 - (q.val / 32 + 1)) * 32 + q.val % 32) = 1536 + Rope.across q.val
  unfold Rope.across
  omega

/-- The cosines. -/
theorem c_entry (c : Dev nD) (r : Fin 128) (q : Fin 64) : V m c main_v33 (ix2 r q) = Rope.cosRow (Rope.decoded r) (q.val % 64) := by
  entry_read
  pointwise [Rope.cosRow, Rope.angle, Rope.num, Rope.decoded]

/-- The signed sines. -/
theorem s_entry (c : Dev nD) (r : Fin 128) (q : Fin 64) : V m c main_v34 (ix2 r q) = Rope.sinRow (Rope.decoded r) (q.val % 64) := by
  entry_read
  pointwise [Rope.sinRow, Rope.angle, Rope.num, Rope.decoded]

/-- The columns at every grid point. -/
theorem w_read (c : Dev nD) (t : Fin cfg0.N) (k : Fin 4096) (q : Fin 64) : iblk m c 1 t (ix2 k q) = V m c main_v29 (ix2 k q) := by
  have := lt_N t
  blk_ext [iblk, idx t]

/-- The exchanged columns at every grid point. -/
theorem v_read (c : Dev nD) (t : Fin cfg0.N) (k : Fin 4096) (q : Fin 64) : iblk m c 2 t (ix2 k q) = V m c main_v32 (ix2 k q) := by
  have := lt_N t
  blk_ext [iblk, idx t]

/-- The cosines' block. -/
theorem c_read (c : Dev nD) (t : Fin cfg0.N) (r : Fin 128) (q : Fin 64) : iblk m c 3 t (ix2 r q) = V m c main_v33 (ix2 r q) := by
  have := lt_N t
  blk_ext [iblk, idx t]

/-- The sines' block. -/
theorem s_read (c : Dev nD) (t : Fin cfg0.N) (r : Fin 128) (q : Fin 64) : iblk m c 4 t (ix2 r q) = V m c main_v34 (ix2 r q) := by
  have := lt_N t
  blk_ext [iblk, idx t]

/-- What the body computes of a block, entry by entry. -/
theorem pay (x : FVec Ideal S128x4096 .bf16) (w v : FVec Ideal S4096x64 .bf16) (a b : FVec Ideal S128x64 .f32) (r : Fin 128) (q : Fin 64) :
    (k0_pay1 (F := Ideal) x w v a b (ix2 r q) : EReal) = (∑ k : Fin 4096, (x (ix2 r k) * w (ix2 k q) : EReal)) * (a (ix2 r q) : EReal)
      + (∑ k : Fin 4096, (x (ix2 r k) * v (ix2 k q) : EReal)) * (b (ix2 r q) : EReal) := by
  pointwise [k0_pay1]

/-- What the body stores at index `y` of its block is the turned row's entry at the place of `y` in the array. -/
theorem point (c : Dev nD) (t : Fin cfg0.N) (y) : k0_pay1 (iblk m c 0 t) (iblk m c 1 t) (iblk m c 2 t) (iblk m c 3 t) (iblk m c 4 t) y
    = Rope.keys Rope.decoded (m ((c : Thread nD τ).loc main_arg0)) (m ((c : Thread nD τ).loc main_arg1)) (((cfg0.win 5).blk t).view.emb y) := by
  idx_vars y
  have := lt_N t
  have p : ((cfg0.win 5).blk t).view.emb (ix2 y0 y1) = ix2 y0 y1 := by blk_ext [idx t]
  rw [p]
  refine (pay _ _ _ _ _ y0 y1).trans ?_
  have ew := fun k => (w_read m c t k y1).trans (w_entry m c k _)
  have ev := fun k => (v_read m c t k y1).trans (v_entry m c k _)
  have ex := fun k => x_read m c t y0 k
  have ec := (c_read m c t y0 y1).trans (c_entry m c _ _)
  have es := (s_read m c t y0 y1).trans (s_entry m c _ _)
  simp only [ew, ev, ex, ec, es]
  have eq : y1.val % 64 = y1.val := by omega
  rw [eq]
  exact Rope.turn_eq (Rope.keyRow (m ((c : Thread nD τ).loc main_arg0)) (m ((c : Thread nD τ).loc main_arg1)) y0) _ y1

/-- The result array after the run. -/
theorem final (c : Dev nD) : (dats m 0 c).arrAt 5 (cfgs 0).N
    = Rope.keys Rope.decoded (m ((c : Thread nD τ).loc main_arg0)) (m ((c : Thread nD τ).loc main_arg1)) := by
  refine (dats m 0 c).arrAt_eq_of_covers 5 _ (by decide +kernel) fun t _ y => ?_
  blk_simp
  rw [after0_5]
  frame_out
  exact point m c t y

end Cert.Proof.RopeSampleKernel

namespace Cert.Proof.RopeQueryKernel

open Cert.Kernel26Ideal Cert.Kernel26Ideal.Gen

variable (m : (ℓ : Loc nD τ sig) → Buf (Elt Ideal) ℓ)

/-- The windows' block indices at grid point `t`: row block `t / 2`, column block `t % 2`. -/
theorem idx : ∀ t : Fin cfg0.N, win0_0.index t = ![t.val / 2, 0] ∧ win0_1.index t = ![0, t.val % 2] ∧ win0_2.index t = ![0, t.val % 2] ∧ win0_3.index t = ![t.val / 2, 0] ∧ win0_4.index t = ![t.val / 2, 0] ∧ win0_5.index t = ![t.val / 2, t.val % 2] :=
  (by decide +kernel : ∀ t : Fin grid0.N, win0_0.index t = ![t.val / 2, 0] ∧ win0_1.index t = ![0, t.val % 2] ∧ win0_2.index t = ![0, t.val % 2] ∧ win0_3.index t = ![t.val / 2, 0] ∧ win0_4.index t = ![t.val / 2, 0] ∧ win0_5.index t = ![t.val / 2, t.val % 2])

theorem lt_N (t : Fin cfg0.N) : t.val < 16 := t.isLt

/-- The rows' block. -/
theorem x_read (c : Dev nD) (t : Fin cfg0.N) (r : Fin 1024) (k : Fin 1024) (h : t.val / 2 * 1024 + r.val < 8192) :
    iblk m c 0 t (ix2 r k) = m ((c : Thread nD τ).loc main_arg0) (ix2 ⟨t.val / 2 * 1024 + r.val, h⟩ k) := by
  have := lt_N t
  blk_ext [iblk, V, idx t]

/-- The columns of the weight. -/
theorem w_entry (c : Dev nD) (k : Fin 1024) (q : Fin 2048) : V m c main_v31 (ix2 k q) = m ((c : Thread nD τ).loc main_arg1) (ix2 k ⟨q.val / 64 * 192 + (128 + q.val % 64), by omega⟩) := by
  entry_read
  pointwise []

/-- The same columns with the halves of every 64 exchanged. -/
theorem v_entry (c : Dev nD) (k : Fin 1024) (q : Fin 2048) :
    V m c main_v34 (ix2 k q) = m ((c : Thread nD τ).loc main_arg1) (ix2 k ⟨q.val / 64 * 192 + (128 + Rope.across (q.val % 64)), by have : Rope.across (q.val % 64) < 64 := Rope.across_lt (by omega); omega⟩) := by
  entry_read
  pointwise []
  refine congrArg _ ((ix2_inj ..).2 ⟨rfl, Fin.ext ?_⟩)
  change q.val / 64 * 192 + (128 + ((2 - (q.val / 32 % 2 + 1)) * 32 + q.val % 32)) = q.val / 64 * 192 + (128 + Rope.across (q.val % 64))
  unfold Rope.across
  omega

/-- The cosines. -/
theorem c_entry (c : Dev nD) (r : Fin 8192) (q : Fin 128) : V m c main_v25 (ix2 r q) = Rope.cosRow (Rope.prompt r) (q.val % 64) := by
  entry_read
  pointwise [Rope.cosRow, Rope.angle, Rope.num, Rope.prompt]

/-- The signed sines. -/
theorem s_entry (c : Dev nD) (r : Fin 8192) (q : Fin 128) : V m c main_v28 (ix2 r q) = Rope.sinRow (Rope.prompt r) (q.val % 64) := by
  entry_read
  pointwise [Rope.sinRow, Rope.angle, Rope.num, Rope.prompt]

/-- The columns at every grid point. -/
theorem w_read (c : Dev nD) (t : Fin cfg0.N) (k : Fin 1024) (q : Fin 1024) (h : t.val % 2 * 1024 + q.val < 2048) : iblk m c 1 t (ix2 k q) = V m c main_v31 (ix2 k ⟨t.val % 2 * 1024 + q.val, h⟩) := by
  have := lt_N t
  blk_ext [iblk, idx t]

/-- The exchanged columns at every grid point. -/
theorem v_read (c : Dev nD) (t : Fin cfg0.N) (k : Fin 1024) (q : Fin 1024) (h : t.val % 2 * 1024 + q.val < 2048) : iblk m c 2 t (ix2 k q) = V m c main_v34 (ix2 k ⟨t.val % 2 * 1024 + q.val, h⟩) := by
  have := lt_N t
  blk_ext [iblk, idx t]

/-- The cosines' block. -/
theorem c_read (c : Dev nD) (t : Fin cfg0.N) (r : Fin 1024) (q : Fin 128) (h : t.val / 2 * 1024 + r.val < 8192) : iblk m c 3 t (ix2 r q) = V m c main_v25 (ix2 ⟨t.val / 2 * 1024 + r.val, h⟩ q) := by
  have := lt_N t
  blk_ext [iblk, idx t]

/-- The sines' block. -/
theorem s_read (c : Dev nD) (t : Fin cfg0.N) (r : Fin 1024) (q : Fin 128) (h : t.val / 2 * 1024 + r.val < 8192) : iblk m c 4 t (ix2 r q) = V m c main_v28 (ix2 ⟨t.val / 2 * 1024 + r.val, h⟩ q) := by
  have := lt_N t
  blk_ext [iblk, idx t]

/-- What the body computes of a block, entry by entry. -/
theorem pay (x : FVec Ideal S1024x1024 .bf16) (w v : FVec Ideal S1024x1024 .bf16) (a b : FVec Ideal S1024x128 .f32) (r : Fin 1024) (q : Fin 1024) :
    (k0_pay1 (F := Ideal) x w v a b (ix2 r q) : EReal) = (∑ k : Fin 1024, (x (ix2 r k) * w (ix2 k q) : EReal)) * (a (ix2 r ⟨q.val % 128, by omega⟩) : EReal)
      + (∑ k : Fin 1024, (x (ix2 r k) * v (ix2 k q) : EReal)) * (b (ix2 r ⟨q.val % 128, by omega⟩) : EReal) := by
  pointwise [k0_pay1]
  refine congrArg₂ (· + ·) (congrArg _ ?_) (congrArg _ ?_) <;>
    (split_ifs <;> exact congrArg _ ((ix2_inj ..).2 ⟨rfl, Fin.ext (by simp only []; omega)⟩))

/-- What the body stores at index `y` of its block is the turned row's entry at the place of `y` in the array. -/
theorem point (c : Dev nD) (t : Fin cfg0.N) (y) : k0_pay1 (iblk m c 0 t) (iblk m c 1 t) (iblk m c 2 t) (iblk m c 3 t) (iblk m c 4 t) y
    = Rope.queries Rope.prompt (m ((c : Thread nD τ).loc main_arg0)) (m ((c : Thread nD τ).loc main_arg1)) (((cfg0.win 5).blk t).view.emb y) := by
  idx_vars y
  have := lt_N t
  have p : ((cfg0.win 5).blk t).view.emb (ix2 y0 y1) = ix2 ⟨t.val / 2 * 1024 + y0.val, by omega⟩ ⟨t.val % 2 * 1024 + y1.val, by omega⟩ := by blk_ext [idx t]
  rw [p]
  refine (pay _ _ _ _ _ y0 y1).trans ?_
  have ew := fun k => (w_read m c t k y1 (by omega)).trans (w_entry m c k _)
  have ev := fun k => (v_read m c t k y1 (by omega)).trans (v_entry m c k _)
  have ex := fun k => x_read m c t y0 k (by omega)
  have ec := (c_read m c t y0 ⟨y1.val % 128, by omega⟩ (by omega)).trans (c_entry m c _ _)
  have es := (s_read m c t y0 ⟨y1.val % 128, by omega⟩ (by omega)).trans (s_entry m c _ _)
  simp only [ew, ev, ex, ec, es]
  have eq : y1.val % 128 % 64 = (t.val % 2 * 1024 + y1.val) % 64 := by omega
  rw [eq]
  exact Rope.turn_eq (Rope.queryRow (m ((c : Thread nD τ).loc main_arg0)) (m ((c : Thread nD τ).loc main_arg1)) ⟨t.val / 2 * 1024 + y0.val, by omega⟩ ⟨(t.val % 2 * 1024 + y1.val) / 64, by omega⟩) _ ⟨(t.val % 2 * 1024 + y1.val) % 64, by omega⟩

/-- The result array after the run. -/
theorem final (c : Dev nD) : (dats m 0 c).arrAt 5 (cfgs 0).N
    = Rope.queries Rope.prompt (m ((c : Thread nD τ).loc main_arg0)) (m ((c : Thread nD τ).loc main_arg1)) := by
  refine (dats m 0 c).arrAt_eq_of_covers 5 _ (by decide +kernel) fun t _ y => ?_
  blk_simp
  rw [after0_5]
  frame_out
  exact point m c t y

end Cert.Proof.RopeQueryKernel
-- ==== Proof.LayerNorm.lean ====
/-
  The last residual's normalisation: what it is, entry by entry, and that the references return it.

  A row of the layer's input, scaled, is added to the feed-forward part scaled by one plus its gate; the sum's mean is taken
  from it, it is divided by the root of its variance, with a small number added under the root, scaled by the gain and moved by
  the offset.
-/
module

public import proofs.«01_k».proof.Proof.Gen.Reference27Ideal.Run
public import proofs.«01_k».proof.Proof.Gen.Reference28Ideal.Run
public import Idealize.ShloMosaic.Lib.Pointwise

@[expose] public section

set_option maxRecDepth 16384

noncomputable section

open Idealize.ShloMosaic Idealize.ShloMosaic.TcCoe Idealize.SL.Sem

namespace Cert.Proof.LayerNorm

/-- One entry of the residual sum. -/
def residual (x f g : EReal) : EReal := Ideal.ofBits .f32 0x3FD744FD#32 * x + (Ideal.ofBits .f32 0x3F800000#32 + g) * f

/-- A row less its mean. -/
def centred (z : Fin 4096 → EReal) (k : Fin 4096) : EReal := z k - Ideal.div (∑ a : Fin 4096, z a) (Ideal.ofBits .f32 0x45800000#32)

/-- A centred row divided by the root of its mean square, with gain and offset. -/
def scaled (d g b : Fin 4096 → EReal) (k : Fin 4096) : EReal :=
  d k * Ideal.rsqrt (Ideal.div (∑ a : Fin 4096, d a * d a) (Ideal.ofBits .f32 0x45800000#32) + Ideal.ofBits .f32 0x3727C5AC#32) * g k + b k

/-- A row of the result from the rows of the input, the feed-forward part and its gate. -/
def row (x f s g b : Fin 4096 → EReal) (k : Fin 4096) : EReal := scaled (centred fun a => residual (x a) (f a) (s a)) g b k

/-- The result of the prompt, where the positions of a sequence share a gate. -/
def result (x f : FVec Ideal ⟨3, ![4, 2048, 4096]⟩ .f32) (s : FVec Ideal ⟨3, ![4, 1, 4096]⟩ .f32) (g b : FVec Ideal ⟨1, ![4096]⟩ .f32) :
    FVec Ideal ⟨3, ![4, 2048, 4096]⟩ .f32 := fun j =>
  row (fun a => x (ix3 (j 0) (j 1) a)) (fun a => f (ix3 (j 0) (j 1) a)) (fun a => s (ix3 (j 0) 0 a)) (fun a => g (ix1 a)) (fun a => b (ix1 a)) (j 2)

/-- The result of the decoded tokens, each with its own gate. -/
def sample (x f s : FVec Ideal ⟨3, ![1, 128, 4096]⟩ .f32) (g b : FVec Ideal ⟨1, ![4096]⟩ .f32) : FVec Ideal ⟨3, ![1, 128, 4096]⟩ .f32 := fun j =>
  row (fun a => x (ix3 0 (j 1) a)) (fun a => f (ix3 0 (j 1) a)) (fun a => s (ix3 0 (j 1) a)) (fun a => g (ix1 a)) (fun a => b (ix1 a)) (j 2)

end Cert.Proof.LayerNorm

namespace Cert.Proof.NormReference

open Cert.Reference27Ideal Cert.Reference27Ideal.Gen

variable (x f : FVec Ideal S4x2048x4096 .f32) (s : FVec Ideal S4x1x4096 .f32) (g b : FVec Ideal S4096 .f32) (z : FVec Ideal S4x2048x4096 .f32)

/-- The residual sum as the reference writes it, of the prompt. -/
def residual : FVec Ideal S4x2048x4096 .f32 :=
  addf (mulf (broadcastInDim S4x2048x4096 ![] bcast_S_S4x2048x4096 (constant S_ .f32 0x3FD744FD#32)) x) (mulf (broadcastInDim S4x2048x4096 ![0, 1, 2] bcast_S4x1x4096_S4x2048x4096_0_1_2 (addf (broadcastInDim S4x1x4096 ![] bcast_S_S4x1x4096 (constant S_ .f32 0x3F800000#32)) s)) f)

/-- Rows less their mean as the reference writes it. -/
def centred : FVec Ideal S4x2048x4096 .f32 :=
  subf z (broadcastInDim S4x2048x4096 ![0, 1, 2] bcast_S4x2048x1_S4x2048x4096_0_1_2 (Host.divf (broadcastInDim S4x2048x1 ![0, 1] bcast_S4x2048_S4x2048x1_0_1 (Host.reduceAdd z (constant S_ .f32 0x00000000#32) reducesTo_S4x2048x4096_S4x2048_d2 h_S_)) (broadcastInDim S4x2048x1 ![] bcast_S_S4x2048x1 (constant S_ .f32 0x45800000#32))))

/-- Centred rows normalised as the reference writes it. -/
def scaled : FVec Ideal S4x2048x4096 .f32 :=
  addf (mulf (mulf z (broadcastInDim S4x2048x4096 ![0, 1, 2] bcast_S4x2048x1_S4x2048x4096_0_1_2 (Host.rsqrt (addf (Host.divf (broadcastInDim S4x2048x1 ![0, 1] bcast_S4x2048_S4x2048x1_0_1 (Host.reduceAdd (mulf z z) (constant S_ .f32 0x00000000#32) reducesTo_S4x2048x4096_S4x2048_d2 h_S_)) (broadcastInDim S4x2048x1 ![] bcast_S_S4x2048x1 (constant S_ .f32 0x45800000#32))) (broadcastInDim S4x2048x1 ![] bcast_S_S4x2048x1 (constant S_ .f32 0x3727C5AC#32)))))) (broadcastInDim S4x2048x4096 ![0, 1, 2] bcast_S1x1x4096_S4x2048x4096_0_1_2 (broadcastInDim S1x1x4096 ![2] bcast_S4096_S1x1x4096_2 g))) (broadcastInDim S4x2048x4096 ![0, 1, 2] bcast_S1x1x4096_S4x2048x4096_0_1_2 (broadcastInDim S1x1x4096 ![2] bcast_S4096_S1x1x4096_2 b))

variable (i : Fin 4) (r : Fin 2048) (k : Fin 4096)

/-- An entry of the residual sum. -/
theorem residual_apply : residual x f s (ix3 i r k) = LayerNorm.residual (x (ix3 i r k)) (f (ix3 i r k)) (s (ix3 i 0 k)) := by
  pointwise [residual, LayerNorm.residual]

/-- An entry of a centred row. -/
theorem centred_apply : centred z (ix3 i r k) = LayerNorm.centred (fun a => z (ix3 i r a)) k := by
  pointwise [centred, LayerNorm.centred]

/-- An entry of a normalised row. -/
theorem scaled_apply : scaled g b z (ix3 i r k) = LayerNorm.scaled (fun a => z (ix3 i r a)) (fun a => g (ix1 a)) (fun a => b (ix1 a)) k := by
  pointwise [scaled, LayerNorm.scaled]

/-- The three steps together are the normalised residual, of the prompt. -/
theorem ref : scaled g b (centred (residual x f s)) = LayerNorm.result x f s g b := by
  funext j
  idx_vars j
  refine (scaled_apply _ _ _ _ _ _).trans ?_
  simp only [centred_apply, residual_apply]
  rfl

end Cert.Proof.NormReference

namespace Cert.Proof.NormSampleReference

open Cert.Reference28Ideal Cert.Reference28Ideal.Gen

variable (x f : FVec Ideal S1x128x4096 .f32) (s : FVec Ideal S1x128x4096 .f32) (g b : FVec Ideal S4096 .f32) (z : FVec Ideal S1x128x4096 .f32)

/-- The residual sum as the reference writes it, of the decoded tokens. -/
def residual : FVec Ideal S1x128x4096 .f32 :=
  addf (mulf (broadcastInDim S1x128x4096 ![] bcast_S_S1x128x4096 (constant S_ .f32 0x3FD744FD#32)) x) (mulf (addf (broadcastInDim S1x128x4096 ![] bcast_S_S1x128x4096 (constant S_ .f32 0x3F800000#32)) s) f)

/-- Rows less their mean as the reference writes it. -/
def centred : FVec Ideal S1x128x4096 .f32 :=
  subf z (broadcastInDim S1x128x4096 ![0, 1, 2] bcast_S1x128x1_S1x128x4096_0_1_2 (Host.divf (broadcastInDim S1x128x1 ![0, 1] bcast_S1x128_S1x128x1_0_1 (Host.reduceAdd z (constant S_ .f32 0x00000000#32) reducesTo_S1x128x4096_S1x128_d2 h_S_)) (broadcastInDim S1x128x1 ![] bcast_S_S1x128x1 (constant S_ .f32 0x45800000#32))))

/-- Centred rows normalised as the reference writes it. -/
def scaled : FVec Ideal S1x128x4096 .f32 :=
  addf (mulf (mulf z (broadcastInDim S1x128x4096 ![0, 1, 2] bcast_S1x128x1_S1x128x4096_0_1_2 (Host.rsqrt (addf (Host.divf (broadcastInDim S1x128x1 ![0, 1] bcast_S1x128_S1x128x1_0_1 (Host.reduceAdd (mulf z z) (constant S_ .f32 0x00000000#32) reducesTo_S1x128x4096_S1x128_d2 h_S_)) (broadcastInDim S1x128x1 ![] bcast_S_S1x128x1 (constant S_ .f32 0x45800000#32))) (broadcastInDim S1x128x1 ![] bcast_S_S1x128x1 (constant S_ .f32 0x3727C5AC#32)))))) (broadcastInDim S1x128x4096 ![0, 1, 2] bcast_S1x1x4096_S1x128x4096_0_1_2 (broadcastInDim S1x1x4096 ![2] bcast_S4096_S1x1x4096_2 g))) (broadcastInDim S1x128x4096 ![0, 1, 2] bcast_S1x1x4096_S1x128x4096_0_1_2 (broadcastInDim S1x1x4096 ![2] bcast_S4096_S1x1x4096_2 b))

variable (r : Fin 128) (k : Fin 4096)

/-- An entry of the residual sum. -/
theorem residual_apply : residual x f s (ix3 0 r k) = LayerNorm.residual (x (ix3 0 r k)) (f (ix3 0 r k)) (s (ix3 0 r k)) := by
  pointwise [residual, LayerNorm.residual]

/-- An entry of a centred row. -/
theorem centred_apply : centred z (ix3 0 r k) = LayerNorm.centred (fun a => z (ix3 0 r a)) k := by
  pointwise [centred, LayerNorm.centred]

/-- An entry of a normalised row. -/
theorem scaled_apply : scaled g b z (ix3 0 r k) = LayerNorm.scaled (fun a => z (ix3 0 r a)) (fun a => g (ix1 a)) (fun a => b (ix1 a)) k := by
  pointwise [scaled, LayerNorm.scaled]

/-- The three steps together are the normalised residual, of the decoded tokens. -/
theorem ref : scaled g b (centred (residual x f s)) = LayerNorm.sample x f s g b := by
  funext j
  idx_vars j
  obtain rfl : j0 = 0 := Subsingleton.elim _ _
  refine (scaled_apply _ _ _ _ _).trans ?_
  simp only [centred_apply, residual_apply]
  rfl

end Cert.Proof.NormSampleReference
-- ==== Proof.NormValue.lean ====
/-
  The last residual's normalisation: what the two pipelined kernels, of the prompt and of the decoded tokens, leave in their result arrays.

  The prompt's kernel runs over the four sequences by 8 blocks of 256 positions, the decoded tokens' has one block.
-/
module

public import proofs.«01_k».proof.Proof.LayerNorm
public import proofs.«01_k».proof.Proof.Gen.Kernel27Ideal.Value
public import proofs.«01_k».proof.Proof.Gen.Kernel28Ideal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Proof.NormKernel

open Cert.Kernel27Ideal Cert.Kernel27Ideal.Gen

variable (m : (ℓ : Loc nD τ sig) → Buf (Elt Ideal) ℓ)

/-- The windows' block indices at grid point `t`: sequence `t / 8` and row block `t % 8`. -/
theorem idx : ∀ t : Fin cfg0.N, win0_0.index t = ![t.val / 8, t.val % 8, 0] ∧ win0_1.index t = ![t.val / 8, t.val % 8, 0] ∧ win0_2.index t = ![t.val / 8, 0, 0] ∧ win0_3.index t = ![0, 0] ∧ win0_4.index t = ![0, 0] ∧ win0_5.index t = ![t.val / 8, t.val % 8, 0] :=
  (by decide +kernel : ∀ t : Fin grid0.N, win0_0.index t = ![t.val / 8, t.val % 8, 0] ∧ win0_1.index t = ![t.val / 8, t.val % 8, 0] ∧ win0_2.index t = ![t.val / 8, 0, 0] ∧ win0_3.index t = ![0, 0] ∧ win0_4.index t = ![0, 0] ∧ win0_5.index t = ![t.val / 8, t.val % 8, 0])

theorem lt_N (t : Fin cfg0.N) : t.val < 32 := t.isLt

/-- The input's block at `t`. -/
theorem x_read (c : Dev nD) (t : Fin cfg0.N) (r : Fin 256) (k : Fin 4096) (hi : t.val / 8 < 4) (h : t.val % 8 * 256 + r.val < 2048) :
    iblk m c 0 t (ix3 0 r k) = m ((c : Thread nD τ).loc main_arg0) (ix3 ⟨t.val / 8, hi⟩ ⟨t.val % 8 * 256 + r.val, h⟩ k) := by
  have := lt_N t
  blk_ext [iblk, V, idx t]

/-- The feed-forward part's block at `t`. -/
theorem f_read (c : Dev nD) (t : Fin cfg0.N) (r : Fin 256) (k : Fin 4096) (hi : t.val / 8 < 4) (h : t.val % 8 * 256 + r.val < 2048) :
    iblk m c 1 t (ix3 0 r k) = m ((c : Thread nD τ).loc main_arg1) (ix3 ⟨t.val / 8, hi⟩ ⟨t.val % 8 * 256 + r.val, h⟩ k) := by
  have := lt_N t
  blk_ext [iblk, V, idx t]

/-- The gate's block at `t`. -/
theorem s_read (c : Dev nD) (t : Fin cfg0.N) (k : Fin 4096) (hi : t.val / 8 < 4) :
    iblk m c 2 t (ix3 0 0 k) = m ((c : Thread nD τ).loc main_arg2) (ix3 ⟨t.val / 8, hi⟩ 0 k) := by
  have := lt_N t
  blk_ext [iblk, V, idx t]

/-- The gain is read as it is. -/
theorem g_entry (c : Dev nD) (k : Fin 4096) : V m c main_v0 (ix2 0 k) = m ((c : Thread nD τ).loc main_arg3) (ix1 k) := by
  entry_read
  pointwise []

/-- The offset is read as it is. -/
theorem b_entry (c : Dev nD) (k : Fin 4096) : V m c main_v1 (ix2 0 k) = m ((c : Thread nD τ).loc main_arg4) (ix1 k) := by
  entry_read
  pointwise []

/-- The gain at every grid point. -/
theorem g_read (c : Dev nD) (t : Fin cfg0.N) (k : Fin 4096) : iblk m c 3 t (ix2 0 k) = m ((c : Thread nD τ).loc main_arg3) (ix1 k) :=
  (by blk_ext [iblk, idx t] : iblk m c 3 t (ix2 0 k) = V m c main_v0 (ix2 0 k)).trans (g_entry m c k)

/-- The offset at every grid point. -/
theorem b_read (c : Dev nD) (t : Fin cfg0.N) (k : Fin 4096) : iblk m c 4 t (ix2 0 k) = m ((c : Thread nD τ).loc main_arg4) (ix1 k) :=
  (by blk_ext [iblk, idx t] : iblk m c 4 t (ix2 0 k) = V m c main_v1 (ix2 0 k)).trans (b_entry m c k)

/-- What the body computes of a block, entry by entry. -/
theorem pay (x f : FVec Ideal S1x256x4096 .f32) (s : FVec Ideal S1x1x4096 .f32) (g b : FVec Ideal S1x4096 .f32) (r : Fin 256) (k : Fin 4096) :
    (k0_pay1 (F := Ideal) (k0_pay2 x s f g b) (ix3 0 r k) : EReal) = LayerNorm.row (fun a => x (ix3 0 r a)) (fun a => f (ix3 0 r a)) (fun a => s (ix3 0 0 a))
      (fun a => g (ix2 0 a)) (fun a => b (ix2 0 a)) k := by
  pointwise [k0_pay1, k0_pay2, LayerNorm.row, LayerNorm.scaled, LayerNorm.centred, LayerNorm.residual]

/-- What the body stores at index `y` of its block is the normalised residual at the place of `y` in the array. -/
theorem point (c : Dev nD) (t : Fin cfg0.N) (y) : k0_pay1 (k0_pay2 (iblk m c 0 t) (iblk m c 2 t) (iblk m c 1 t) (iblk m c 3 t) (iblk m c 4 t)) y
    = LayerNorm.result (m ((c : Thread nD τ).loc main_arg0)) (m ((c : Thread nD τ).loc main_arg1)) (m ((c : Thread nD τ).loc main_arg2))
      (m ((c : Thread nD τ).loc main_arg3)) (m ((c : Thread nD τ).loc main_arg4)) (((cfg0.win 5).blk t).view.emb y) := by
  idx_vars y
  obtain rfl : y0 = 0 := Subsingleton.elim _ _
  have := lt_N t
  have p : ((cfg0.win 5).blk t).view.emb (ix3 0 y1 y2) = ix3 ⟨t.val / 8, by omega⟩ ⟨t.val % 8 * 256 + y1.val, by omega⟩ y2 := by blk_ext [idx t]
  rw [p]
  refine (pay _ _ _ _ _ y1 y2).trans ?_
  simp only [funext fun a => x_read m c t y1 a (by omega) (by omega), funext fun a => f_read m c t y1 a (by omega) (by omega), funext fun a => s_read m c t a (by omega), funext fun a => g_read m c t a,
    funext fun a => b_read m c t a]
  rfl

/-- The result array after the run is the normalised residual. -/
theorem final (c : Dev nD) : (dats m 0 c).arrAt 5 (cfgs 0).N
    = LayerNorm.result (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 5 _ (by decide +kernel) fun t _ y => ?_
  blk_simp
  rw [after0_5]
  frame_out
  exact point m c t y

end Cert.Proof.NormKernel

namespace Cert.Proof.NormSampleKernel

open Cert.Kernel28Ideal Cert.Kernel28Ideal.Gen

variable (m : (ℓ : Loc nD τ sig) → Buf (Elt Ideal) ℓ)

/-- The windows' block indices at grid point `t`: the one block. -/
theorem idx : ∀ t : Fin cfg0.N, win0_0.index t = ![t.val, 0, 0] ∧ win0_1.index t = ![t.val, 0, 0] ∧ win0_2.index t = ![t.val, 0, 0] ∧ win0_3.index t = ![0, 0] ∧ win0_4.index t = ![0, 0] ∧ win0_5.index t = ![t.val, 0, 0] :=
  (by decide +kernel : ∀ t : Fin grid0.N, win0_0.index t = ![t.val, 0, 0] ∧ win0_1.index t = ![t.val, 0, 0] ∧ win0_2.index t = ![t.val, 0, 0] ∧ win0_3.index t = ![0, 0] ∧ win0_4.index t = ![0, 0] ∧ win0_5.index t = ![t.val, 0, 0])

theorem lt_N (t : Fin cfg0.N) : t.val < 1 := t.isLt

/-- The input's block at `t`. -/
theorem x_read (c : Dev nD) (t : Fin cfg0.N) (r : Fin 128) (k : Fin 4096) :
    iblk m c 0 t (ix3 0 r k) = m ((c : Thread nD τ).loc main_arg0) (ix3 0 r k) := by
  have := lt_N t
  blk_ext [iblk, V, idx t]

/-- The feed-forward part's block at `t`. -/
theorem f_read (c : Dev nD) (t : Fin cfg0.N) (r : Fin 128) (k : Fin 4096) :
    iblk m c 1 t (ix3 0 r k) = m ((c : Thread nD τ).loc main_arg1) (ix3 0 r k) := by
  have := lt_N t
  blk_ext [iblk, V, idx t]

/-- The gate's block at `t`. -/
theorem s_read (c : Dev nD) (t : Fin cfg0.N) (r : Fin 128) (k : Fin 4096) :
    iblk m c 2 t (ix3 0 r k) = m ((c : Thread nD τ).loc main_arg2) (ix3 0 r k) := by
  have := lt_N t
  blk_ext [iblk, V, idx t]

/-- The gain is read as it is. -/
theorem g_entry (c : Dev nD) (k : Fin 4096) : V m c main_v0 (ix2 0 k) = m ((c : Thread nD τ).loc main_arg3) (ix1 k) := by
  entry_read
  pointwise []

/-- The offset is read as it is. -/
theorem b_entry (c : Dev nD) (k : Fin 4096) : V m c main_v1 (ix2 0 k) = m ((c : Thread nD τ).loc main_arg4) (ix1 k) := by
  entry_read
  pointwise []

/-- The gain at every grid point. -/
theorem g_read (c : Dev nD) (t : Fin cfg0.N) (k : Fin 4096) : iblk m c 3 t (ix2 0 k) = m ((c : Thread nD τ).loc main_arg3) (ix1 k) :=
  (by blk_ext [iblk, idx t] : iblk m c 3 t (ix2 0 k) = V m c main_v0 (ix2 0 k)).trans (g_entry m c k)

/-- The offset at every grid point. -/
theorem b_read (c : Dev nD) (t : Fin cfg0.N) (k : Fin 4096) : iblk m c 4 t (ix2 0 k) = m ((c : Thread nD τ).loc main_arg4) (ix1 k) :=
  (by blk_ext [iblk, idx t] : iblk m c 4 t (ix2 0 k) = V m c main_v1 (ix2 0 k)).trans (b_entry m c k)

/-- What the body computes of a block, entry by entry. -/
theorem pay (x f : FVec Ideal S1x128x4096 .f32) (s : FVec Ideal S1x128x4096 .f32) (g b : FVec Ideal S1x4096 .f32) (r : Fin 128) (k : Fin 4096) :
    (k0_pay1 (F := Ideal) (k0_pay2 x s f g b) (ix3 0 r k) : EReal) = LayerNorm.row (fun a => x (ix3 0 r a)) (fun a => f (ix3 0 r a)) (fun a => s (ix3 0 r a))
      (fun a => g (ix2 0 a)) (fun a => b (ix2 0 a)) k := by
  pointwise [k0_pay1, k0_pay2, LayerNorm.row, LayerNorm.scaled, LayerNorm.centred, LayerNorm.residual]

/-- What the body stores at index `y` of its block is the normalised residual at the place of `y` in the array. -/
theorem point (c : Dev nD) (t : Fin cfg0.N) (y) : k0_pay1 (k0_pay2 (iblk m c 0 t) (iblk m c 2 t) (iblk m c 1 t) (iblk m c 3 t) (iblk m c 4 t)) y
    = LayerNorm.sample (m ((c : Thread nD τ).loc main_arg0)) (m ((c : Thread nD τ).loc main_arg1)) (m ((c : Thread nD τ).loc main_arg2))
      (m ((c : Thread nD τ).loc main_arg3)) (m ((c : Thread nD τ).loc main_arg4)) (((cfg0.win 5).blk t).view.emb y) := by
  idx_vars y
  obtain rfl : y0 = 0 := Subsingleton.elim _ _
  have := lt_N t
  have p : ((cfg0.win 5).blk t).view.emb (ix3 0 y1 y2) = ix3 0 y1 y2 := by blk_ext [idx t]
  rw [p]
  refine (pay _ _ _ _ _ y1 y2).trans ?_
  simp only [funext fun a => x_read m c t y1 a, funext fun a => f_read m c t y1 a, funext fun a => s_read m c t y1 a, funext fun a => g_read m c t a,
    funext fun a => b_read m c t a]
  rfl

/-- The result array after the run is the normalised residual. -/
theorem final (c : Dev nD) : (dats m 0 c).arrAt 5 (cfgs 0).N
    = LayerNorm.sample (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 5 _ (by decide +kernel) fun t _ y => ?_
  blk_simp
  rw [after0_5]
  frame_out
  exact point m c t y

end Cert.Proof.NormSampleKernel
-- ==== Proof.SampleProj.lean ====
/-
  The projections of the decoded tokens: what the pipelined kernels leave in their result arrays.

  There are 128 rows, one block; each grid point takes a block of columns. These are the input projections of the S5 layers,
  the output projection after attention, the routers' queries of the four layers, the queries of the forgetting attention,
  which are the first 4096 columns of a weight, and the latents, which are the first 1536 of another.
-/
module

public import proofs.«01_k».proof.Proof.Mm
public import proofs.«01_k».proof.Proof.Gen.Kernel29Ideal.Value
public import proofs.«01_k».proof.Proof.Gen.Kernel30Ideal.Value
public import proofs.«01_k».proof.Proof.Gen.Kernel33Ideal.Value
public import proofs.«01_k».proof.Proof.Gen.Kernel34Ideal.Value
public import proofs.«01_k».proof.Proof.Gen.Kernel35Ideal.Value
public import proofs.«01_k».proof.Proof.Gen.Kernel36Ideal.Value
public import proofs.«01_k».proof.Proof.Gen.Kernel37Ideal.Value
public import proofs.«01_k».proof.Proof.Gen.Kernel38Ideal.Value
public import proofs.«01_k».proof.Proof.Gen.Kernel39Ideal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem Idealize.ShloMosaic.StableHlo
open Idealize.ShloMosaic.Pipeline (Dat)

namespace Cert.Proof.WinSampleKernel0

open Cert.Kernel29Ideal Cert.Kernel29Ideal.Gen

variable (m : (ℓ : Loc nD τ sig) → Buf (Elt Ideal) ℓ)

/-- The windows' block indices at grid point `t`: column block `t % 4`. -/
theorem idx : ∀ t : Fin cfg0.N, win0_0.index t = ![0, 0] ∧ win0_1.index t = ![0, 0, t.val % 4] ∧ win0_2.index t = ![0, t.val % 4] :=
  (by decide +kernel : ∀ t : Fin grid0.N, win0_0.index t = ![0, 0] ∧ win0_1.index t = ![0, 0, t.val % 4] ∧ win0_2.index t = ![0, t.val % 4])

/-- What the body stores at index `y` of its block is the product at the place of `y` in the array. -/
theorem point (c : Dev nD) (t : Fin cfg0.N) (y) : k0_pay1 (iblk m c 0 t) (iblk m c 1 t) y
    = Mm.result 0 0 (by decide) (m ((c : Thread nD τ).loc main_arg0)) (m ((c : Thread nD τ).loc main_arg1)) (((cfg0.win 2).blk t).view.emb y) := by
  pointwise [k0_pay1, Mm.result]
  blk_point [iblk, V, idx t]

/-- The result array after the run is the product of the two arguments. -/
theorem final (c : Dev nD) : (dats m 0 c).arrAt 2 (cfgs 0).N = Mm.result 0 0 (by decide) (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Proof.WinSampleKernel0

namespace Cert.Proof.WinSampleKernel1

open Cert.Kernel30Ideal Cert.Kernel30Ideal.Gen

variable (m : (ℓ : Loc nD τ sig) → Buf (Elt Ideal) ℓ)

/-- The windows' block indices at grid point `t`: in weight 1 of the stack, column block `t % 4`. -/
theorem idx : ∀ t : Fin cfg0.N, win0_0.index t = ![0, 0] ∧ win0_1.index t = ![1, 0, t.val % 4] ∧ win0_2.index t = ![0, t.val % 4] :=
  (by decide +kernel : ∀ t : Fin grid0.N, win0_0.index t = ![0, 0] ∧ win0_1.index t = ![1, 0, t.val % 4] ∧ win0_2.index t = ![0, t.val % 4])

/-- What the body stores at index `y` of its block is the product at the place of `y` in the array. -/
theorem point (c : Dev nD) (t : Fin cfg0.N) (y) : k0_pay1 (iblk m c 0 t) (iblk m c 1 t) y
    = Mm.result 1 0 (by decide) (m ((c : Thread nD τ).loc main_arg0)) (m ((c : Thread nD τ).loc main_arg1)) (((cfg0.win 2).blk t).view.emb y) := by
  pointwise [k0_pay1, Mm.result]
  blk_point [iblk, V, idx t]

/-- The result array after the run is the product of the two arguments. -/
theorem final (c : Dev nD) : (dats m 0 c).arrAt 2 (cfgs 0).N = Mm.result 1 0 (by decide) (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Proof.WinSampleKernel1

namespace Cert.Proof.OutSampleKernel

open Cert.Kernel33Ideal Cert.Kernel33Ideal.Gen

variable (m : (ℓ : Loc nD τ sig) → Buf (Elt Ideal) ℓ)

/-- The windows' block indices at grid point `t`: column block `t % 4`. -/
theorem idx : ∀ t : Fin cfg0.N, win0_0.index t = ![0, 0] ∧ win0_1.index t = ![0, 0, t.val % 4] ∧ win0_2.index t = ![0, t.val % 4] :=
  (by decide +kernel : ∀ t : Fin grid0.N, win0_0.index t = ![0, 0] ∧ win0_1.index t = ![0, 0, t.val % 4] ∧ win0_2.index t = ![0, t.val % 4])

/-- What the body stores at index `y` of its block is the product at the place of `y` in the array. -/
theorem point (c : Dev nD) (t : Fin cfg0.N) (y) : k0_pay1 (iblk m c 0 t) (iblk m c 1 t) y
    = Mm.result 0 0 (by decide) (m ((c : Thread nD τ).loc main_arg0)) (m ((c : Thread nD τ).loc main_arg1)) (((cfg0.win 2).blk t).view.emb y) := by
  pointwise [k0_pay1, Mm.result]
  blk_point [iblk, V, idx t]

/-- The result array after the run is the product of the two arguments. -/
theorem final (c : Dev nD) : (dats m 0 c).arrAt 2 (cfgs 0).N = Mm.result 0 0 (by decide) (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Proof.OutSampleKernel

namespace Cert.Proof.PeerSampleKernel0

open Cert.Kernel35Ideal Cert.Kernel35Ideal.Gen

variable (m : (ℓ : Loc nD τ sig) → Buf (Elt Ideal) ℓ)

/-- The windows' block indices at grid point `t`: column block `t % 2`. -/
theorem idx : ∀ t : Fin cfg0.N, win0_0.index t = ![0, 0] ∧ win0_1.index t = ![0, 0, t.val % 2] ∧ win0_2.index t = ![0, t.val % 2] :=
  (by decide +kernel : ∀ t : Fin grid0.N, win0_0.index t = ![0, 0] ∧ win0_1.index t = ![0, 0, t.val % 2] ∧ win0_2.index t = ![0, t.val % 2])

/-- What the body stores at index `y` of its block is the product at the place of `y` in the array. -/
theorem point (c : Dev nD) (t : Fin cfg0.N) (y) : k0_pay1 (iblk m c 0 t) (iblk m c 1 t) y
    = Mm.result 0 0 (by decide) (m ((c : Thread nD τ).loc main_arg0)) (m ((c : Thread nD τ).loc main_arg1)) (((cfg0.win 2).blk t).view.emb y) := by
  pointwise [k0_pay1, Mm.result]
  blk_point [iblk, V, idx t]

/-- The result array after the run is the product of the two arguments. -/
theorem final (c : Dev nD) : (dats m 0 c).arrAt 2 (cfgs 0).N = Mm.result 0 0 (by decide) (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Proof.PeerSampleKernel0

namespace Cert.Proof.PeerSampleKernel1

open Cert.Kernel36Ideal Cert.Kernel36Ideal.Gen

variable (m : (ℓ : Loc nD τ sig) → Buf (Elt Ideal) ℓ)

/-- The windows' block indices at grid point `t`: in weight 1 of the stack, column block `t % 2`. -/
theorem idx : ∀ t : Fin cfg0.N, win0_0.index t = ![0, 0] ∧ win0_1.index t = ![1, 0, t.val % 2] ∧ win0_2.index t = ![0, t.val % 2] :=
  (by decide +kernel : ∀ t : Fin grid0.N, win0_0.index t = ![0, 0] ∧ win0_1.index t = ![1, 0, t.val % 2] ∧ win0_2.index t = ![0, t.val % 2])

/-- What the body stores at index `y` of its block is the product at the place of `y` in the array. -/
theorem point (c : Dev nD) (t : Fin cfg0.N) (y) : k0_pay1 (iblk m c 0 t) (iblk m c 1 t) y
    = Mm.result 1 0 (by decide) (m ((c : Thread nD τ).loc main_arg0)) (m ((c : Thread nD τ).loc main_arg1)) (((cfg0.win 2).blk t).view.emb y) := by
  pointwise [k0_pay1, Mm.result]
  blk_point [iblk, V, idx t]

/-- The result array after the run is the product of the two arguments. -/
theorem final (c : Dev nD) : (dats m 0 c).arrAt 2 (cfgs 0).N = Mm.result 1 0 (by decide) (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Proof.PeerSampleKernel1

namespace Cert.Proof.PeerSampleKernel2

open Cert.Kernel37Ideal Cert.Kernel37Ideal.Gen

variable (m : (ℓ : Loc nD τ sig) → Buf (Elt Ideal) ℓ)

/-- The windows' block indices at grid point `t`: in weight 2 of the stack, column block `t % 2`. -/
theorem idx : ∀ t : Fin cfg0.N, win0_0.index t = ![0, 0] ∧ win0_1.index t = ![2, 0, t.val % 2] ∧ win0_2.index t = ![0, t.val % 2] :=
  (by decide +kernel : ∀ t : Fin grid0.N, win0_0.index t = ![0, 0] ∧ win0_1.index t = ![2, 0, t.val % 2] ∧ win0_2.index t = ![0, t.val % 2])

/-- What the body stores at index `y` of its block is the product at the place of `y` in the array. -/
theorem point (c : Dev nD) (t : Fin cfg0.N) (y) : k0_pay1 (iblk m c 0 t) (iblk m c 1 t) y
    = Mm.result 2 0 (by decide) (m ((c : Thread nD τ).loc main_arg0)) (m ((c : Thread nD τ).loc main_arg1)) (((cfg0.win 2).blk t).view.emb y) := by
  pointwise [k0_pay1, Mm.result]
  blk_point [iblk, V, idx t]

/-- The result array after the run is the product of the two arguments. -/
theorem final (c : Dev nD) : (dats m 0 c).arrAt 2 (cfgs 0).N = Mm.result 2 0 (by decide) (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Proof.PeerSampleKernel2

namespace Cert.Proof.PeerSampleKernel3

open Cert.Kernel38Ideal Cert.Kernel38Ideal.Gen

variable (m : (ℓ : Loc nD τ sig) → Buf (Elt Ideal) ℓ)

/-- The windows' block indices at grid point `t`: in weight 3 of the stack, column block `t % 2`. -/
theorem idx : ∀ t : Fin cfg0.N, win0_0.index t = ![0, 0] ∧ win0_1.index t = ![3, 0, t.val % 2] ∧ win0_2.index t = ![0, t.val % 2] :=
  (by decide +kernel : ∀ t : Fin grid0.N, win0_0.index t = ![0, 0] ∧ win0_1.index t = ![3, 0, t.val % 2] ∧ win0_2.index t = ![0, t.val % 2])

/-- What the body stores at index `y` of its block is the product at the place of `y` in the array. -/
theorem point (c : Dev nD) (t : Fin cfg0.N) (y) : k0_pay1 (iblk m c 0 t) (iblk m c 1 t) y
    = Mm.result 3 0 (by decide) (m ((c : Thread nD τ).loc main_arg0)) (m ((c : Thread nD τ).loc main_arg1)) (((cfg0.win 2).blk t).view.emb y) := by
  pointwise [k0_pay1, Mm.result]
  blk_point [iblk, V, idx t]

/-- The result array after the run is the product of the two arguments. -/
theorem final (c : Dev nD) : (dats m 0 c).arrAt 2 (cfgs 0).N = Mm.result 3 0 (by decide) (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Proof.PeerSampleKernel3

namespace Cert.Proof.FoxQSampleKernel

open Cert.Kernel34Ideal Cert.Kernel34Ideal.Gen

variable (m : (ℓ : Loc nD τ sig) → Buf (Elt Ideal) ℓ)

/-- The windows' block indices at grid point `t`: column block `t % 4`. -/
theorem idx : ∀ t : Fin cfg0.N, win0_0.index t = ![0, 0] ∧ win0_1.index t = ![0, 0, t.val % 4] ∧ win0_2.index t = ![0, t.val % 4] :=
  (by decide +kernel : ∀ t : Fin grid0.N, win0_0.index t = ![0, 0] ∧ win0_1.index t = ![0, 0, t.val % 4] ∧ win0_2.index t = ![0, t.val % 4])

/-- The weights' block. No block is cut: 4096 of the 5152 columns are whole blocks. -/
theorem w_read (c : Dev nD) (t : Fin cfg0.N) (k : Fin 4096) (q : Fin 1024) (h : t.val % 4 * 1024 + q.val < 5152) :
    X0_1 m c t (ix3 0 k q) = m ((c : Thread nD τ).loc main_arg1) (ix3 0 k ⟨t.val % 4 * 1024 + q.val, h⟩) := by
  unfold X0_1 Pipeline.Window.fill
  rw [dif_pos (moved0_1 t _)]
  blk_ext [iblk, V, idx t]

/-- What the body stores at index `y` of its block is the product at the place of `y` in the array. -/
theorem point (c : Dev nD) (t : Fin cfg0.N) (y) : k0_pay1 (iblk m c 0 t) (X0_1 m c t) y
    = Mm.result 0 0 (by decide) (m ((c : Thread nD τ).loc main_arg0)) (m ((c : Thread nD τ).loc main_arg1)) (((cfg0.win 2).blk t).view.emb y) := by
  idx_vars y
  have e : ∀ k : Fin 4096, X0_1 m c t (ix3 0 k y1) = m ((c : Thread nD τ).loc main_arg1) (ix3 0 k ⟨t.val % 4 * 1024 + y1.val, by omega⟩) :=
    fun k => w_read m c t k y1 _
  pointwise [k0_pay1, Mm.result]
  simp only [e]
  blk_point [iblk, V, idx t]

/-- The result array after the run is the product of the two arguments. -/
theorem final (c : Dev nD) : (dats m 0 c).arrAt 2 (cfgs 0).N
    = Mm.result 0 0 (by decide) (m ((c : Thread nD τ).loc main_arg0)) (m ((c : Thread nD τ).loc main_arg1)) := by
  refine (dats m 0 c).arrAt_eq_of_covers 2 _ (by decide +kernel) fun t _ y => ?_
  blk_simp
  rw [after0_2]
  unfold outsAt0 out0_A_2
  rw [View.read_writes_eq_canon _ _ _ (cover0_A_2 c _ _ _ _ _ _ _ _ _)]
  unfold kernelRun0_A
  frame_out
  exact point m c t y

end Cert.Proof.FoxQSampleKernel

namespace Cert.Proof.LatentSampleKernel

open Cert.Kernel39Ideal Cert.Kernel39Ideal.Gen

variable (m : (ℓ : Loc nD τ sig) → Buf (Elt Ideal) ℓ)

/-- The windows' block indices at grid point `t`. -/
theorem idx : ∀ t : Fin cfg0.N, win0_0.index t = ![0, 0] ∧ win0_1.index t = ![0, 0, t.val % 3] ∧ win0_2.index t = ![0, t.val % 3] :=
  (by decide +kernel : ∀ t : Fin grid0.N, win0_0.index t = ![0, 0] ∧ win0_1.index t = ![0, 0, t.val % 3] ∧ win0_2.index t = ![0, t.val % 3])

/-- The weights' block. No block is cut: 1536 of the 1600 columns are whole blocks. -/
theorem w_read (c : Dev nD) (t : Fin cfg0.N) (k : Fin 4096) (q : Fin 512) (h : t.val % 3 * 512 + q.val < 1600) :
    X0_1 m c t (ix3 0 k q) = m ((c : Thread nD τ).loc main_arg1) (ix3 0 k ⟨t.val % 3 * 512 + q.val, h⟩) := by
  unfold X0_1 Pipeline.Window.fill
  rw [dif_pos (moved0_1 t _)]
  blk_ext [iblk, V, idx t]

/-- What the body stores at index `y` of its block is the product at the place of `y` in the array. -/
theorem point (c : Dev nD) (t : Fin cfg0.N) (y) : k0_pay1 (iblk m c 0 t) (X0_1 m c t) y
    = Mm.result 0 0 (by decide) (m ((c : Thread nD τ).loc main_arg0)) (m ((c : Thread nD τ).loc main_arg1)) (((cfg0.win 2).blk t).view.emb y) := by
  idx_vars y
  have e : ∀ k : Fin 4096, X0_1 m c t (ix3 0 k y1) = m ((c : Thread nD τ).loc main_arg1) (ix3 0 k ⟨t.val % 3 * 512 + y1.val, by omega⟩) :=
    fun k => w_read m c t k y1 _
  pointwise [k0_pay1, Mm.result]
  simp only [e]
  blk_point [iblk, V, idx t]

/-- The result array after the run is the product of the two arguments. -/
theorem final (c : Dev nD) : (dats m 0 c).arrAt 2 (cfgs 0).N
    = Mm.result 0 0 (by decide) (m ((c : Thread nD τ).loc main_arg0)) (m ((c : Thread nD τ).loc main_arg1)) := by
  refine (dats m 0 c).arrAt_eq_of_covers 2 _ (by decide +kernel) fun t _ y => ?_
  blk_simp
  rw [after0_2]
  unfold outsAt0 out0_A_2
  rw [View.read_writes_eq_canon _ _ _ (cover0_A_2 c _ _ _ _ _ _ _ _ _)]
  unfold kernelRun0_A
  frame_out
  exact point m c t y

end Cert.Proof.LatentSampleKernel
-- ==== Proof.SampleReference.lean ====
/-
  The projections of the decoded tokens: what the references return.
-/
module

public import proofs.«01_k».proof.Proof.Mm
public import proofs.«01_k».proof.Proof.Gen.Reference29Ideal.Run
public import proofs.«01_k».proof.Proof.Gen.Reference30Ideal.Run
public import proofs.«01_k».proof.Proof.Gen.Reference33Ideal.Run
public import proofs.«01_k».proof.Proof.Gen.Reference34Ideal.Run
public import proofs.«01_k».proof.Proof.Gen.Reference35Ideal.Run
public import proofs.«01_k».proof.Proof.Gen.Reference36Ideal.Run
public import proofs.«01_k».proof.Proof.Gen.Reference37Ideal.Run
public import proofs.«01_k».proof.Proof.Gen.Reference38Ideal.Run
public import proofs.«01_k».proof.Proof.Gen.Reference39Ideal.Run
public import Idealize.ShloMosaic.Lib.Pointwise

@[expose] public section

set_option maxRecDepth 16384

noncomputable section

open Idealize.ShloMosaic Idealize.ShloMosaic.TcCoe Idealize.SL.Sem Idealize.ShloMosaic.StableHlo
open Idealize.ShloMosaic.Pipeline (Dat)

namespace Cert.Proof.WinSampleReference0

open Cert.Reference29Ideal Cert.Reference29Ideal.Gen

/-- The product. -/
theorem ref (x : FVec Ideal S128x4096 .bf16) (w : FVec Ideal S2x4096x4096 .bf16) :
    (Host.dotGeneral dot_S128x4096_S4096x4096_S128x4096_1_0_0_1_n_n none (extf .f32 x bitsLt_bf16_f32)
      (extf .f32 (shapeCast S4096x4096 (extractStridedSlice S1x4096x4096 ![0, 0, 0] w slices_S2x4096x4096_S1x4096x4096_0_0_0) shapeCasts_S1x4096x4096_S4096x4096) bitsLt_bf16_f32) : FVec Ideal S128x4096 .f32)
      = Mm.result 0 0 (by decide) x w := by
  funext j
  idx_vars j
  pointwise [Mm.result]

end Cert.Proof.WinSampleReference0

namespace Cert.Proof.WinSampleReference1

open Cert.Reference30Ideal Cert.Reference30Ideal.Gen

/-- The product. -/
theorem ref (x : FVec Ideal S128x4096 .bf16) (w : FVec Ideal S2x4096x4096 .bf16) :
    (Host.dotGeneral dot_S128x4096_S4096x4096_S128x4096_1_0_0_1_n_n none (extf .f32 x bitsLt_bf16_f32)
      (extf .f32 (shapeCast S4096x4096 (extractStridedSlice S1x4096x4096 ![1, 0, 0] w slices_S2x4096x4096_S1x4096x4096_1_0_0) shapeCasts_S1x4096x4096_S4096x4096) bitsLt_bf16_f32) : FVec Ideal S128x4096 .f32)
      = Mm.result 1 0 (by decide) x w := by
  funext j
  idx_vars j
  pointwise [Mm.result]

end Cert.Proof.WinSampleReference1

namespace Cert.Proof.OutSampleReference

open Cert.Reference33Ideal Cert.Reference33Ideal.Gen

/-- The product. -/
theorem ref (x : FVec Ideal S128x4096 .bf16) (w : FVec Ideal S1x4096x4096 .bf16) :
    (Host.dotGeneral dot_S128x4096_S4096x4096_S128x4096_1_0_0_1_n_n none (extf .f32 x bitsLt_bf16_f32)
      (extf .f32 (shapeCast S4096x4096 w shapeCasts_S1x4096x4096_S4096x4096) bitsLt_bf16_f32) : FVec Ideal S128x4096 .f32)
      = Mm.result 0 0 (by decide) x w := by
  funext j
  idx_vars j
  pointwise [Mm.result]

end Cert.Proof.OutSampleReference

namespace Cert.Proof.PeerSampleReference0

open Cert.Reference35Ideal Cert.Reference35Ideal.Gen

/-- The product. -/
theorem ref (x : FVec Ideal S128x4096 .bf16) (w : FVec Ideal S4x4096x2048 .bf16) :
    (Host.dotGeneral dot_S128x4096_S4096x2048_S128x2048_1_0_0_1_n_n none (extf .f32 x bitsLt_bf16_f32)
      (extf .f32 (shapeCast S4096x2048 (extractStridedSlice S1x4096x2048 ![0, 0, 0] w slices_S4x4096x2048_S1x4096x2048_0_0_0) shapeCasts_S1x4096x2048_S4096x2048) bitsLt_bf16_f32) : FVec Ideal S128x2048 .f32)
      = Mm.result 0 0 (by decide) x w := by
  funext j
  idx_vars j
  pointwise [Mm.result]

end Cert.Proof.PeerSampleReference0

namespace Cert.Proof.PeerSampleReference1

open Cert.Reference36Ideal Cert.Reference36Ideal.Gen

/-- The product. -/
theorem ref (x : FVec Ideal S128x4096 .bf16) (w : FVec Ideal S4x4096x2048 .bf16) :
    (Host.dotGeneral dot_S128x4096_S4096x2048_S128x2048_1_0_0_1_n_n none (extf .f32 x bitsLt_bf16_f32)
      (extf .f32 (shapeCast S4096x2048 (extractStridedSlice S1x4096x2048 ![1, 0, 0] w slices_S4x4096x2048_S1x4096x2048_1_0_0) shapeCasts_S1x4096x2048_S4096x2048) bitsLt_bf16_f32) : FVec Ideal S128x2048 .f32)
      = Mm.result 1 0 (by decide) x w := by
  funext j
  idx_vars j
  pointwise [Mm.result]

end Cert.Proof.PeerSampleReference1

namespace Cert.Proof.PeerSampleReference2

open Cert.Reference37Ideal Cert.Reference37Ideal.Gen

/-- The product. -/
theorem ref (x : FVec Ideal S128x4096 .bf16) (w : FVec Ideal S4x4096x2048 .bf16) :
    (Host.dotGeneral dot_S128x4096_S4096x2048_S128x2048_1_0_0_1_n_n none (extf .f32 x bitsLt_bf16_f32)
      (extf .f32 (shapeCast S4096x2048 (extractStridedSlice S1x4096x2048 ![2, 0, 0] w slices_S4x4096x2048_S1x4096x2048_2_0_0) shapeCasts_S1x4096x2048_S4096x2048) bitsLt_bf16_f32) : FVec Ideal S128x2048 .f32)
      = Mm.result 2 0 (by decide) x w := by
  funext j
  idx_vars j
  pointwise [Mm.result]

end Cert.Proof.PeerSampleReference2

namespace Cert.Proof.PeerSampleReference3

open Cert.Reference38Ideal Cert.Reference38Ideal.Gen

/-- The product. -/
theorem ref (x : FVec Ideal S128x4096 .bf16) (w : FVec Ideal S4x4096x2048 .bf16) :
    (Host.dotGeneral dot_S128x4096_S4096x2048_S128x2048_1_0_0_1_n_n none (extf .f32 x bitsLt_bf16_f32)
      (extf .f32 (shapeCast S4096x2048 (extractStridedSlice S1x4096x2048 ![3, 0, 0] w slices_S4x4096x2048_S1x4096x2048_3_0_0) shapeCasts_S1x4096x2048_S4096x2048) bitsLt_bf16_f32) : FVec Ideal S128x2048 .f32)
      = Mm.result 3 0 (by decide) x w := by
  funext j
  idx_vars j
  pointwise [Mm.result]

end Cert.Proof.PeerSampleReference3

namespace Cert.Proof.FoxQSampleReference

open Cert.Reference34Ideal Cert.Reference34Ideal.Gen

/-- The queries' columns of the product. -/
theorem ref (x : FVec Ideal S128x4096 .bf16) (w : FVec Ideal S1x4096x5152 .bf16) :
    (extractStridedSlice S128x4096 ![0, 0] (Host.dotGeneral dot_S128x4096_S4096x5152_S128x5152_1_0_0_1_n_n none (extf .f32 x bitsLt_bf16_f32)
      (extf .f32 (shapeCast S4096x5152 w shapeCasts_S1x4096x5152_S4096x5152) bitsLt_bf16_f32)) slices_S128x5152_S128x4096_0_0 : FVec Ideal S128x4096 .f32)
      = Mm.result 0 0 (by decide) x w := by
  funext j
  idx_vars j
  pointwise [Mm.result]

end Cert.Proof.FoxQSampleReference

namespace Cert.Proof.LatentSampleReference

open Cert.Reference39Ideal Cert.Reference39Ideal.Gen

/-- The latents' columns of the product. -/
theorem ref (x : FVec Ideal S128x4096 .bf16) (w : FVec Ideal S1x4096x1600 .bf16) :
    (extractStridedSlice S128x1536 ![0, 0] (Host.dotGeneral dot_S128x4096_S4096x1600_S128x1600_1_0_0_1_n_n none (extf .f32 x bitsLt_bf16_f32)
      (extf .f32 (shapeCast S4096x1600 w shapeCasts_S1x4096x1600_S4096x1600) bitsLt_bf16_f32)) slices_S128x1600_S128x1536_0_0 : FVec Ideal S128x1536 .f32)
      = Mm.result 0 0 (by decide) x w := by
  funext j
  idx_vars j
  pointwise [Mm.result]

end Cert.Proof.LatentSampleReference
-- ==== Proof.SampleGlu.lean ====
/-
  The gated projections of the decoded tokens in the two S5 layers: what the pipelined kernels leave in their result arrays,
  and what the references return. There is one block of rows; each grid point takes a block of 512 columns.
-/
module

public import proofs.«01_k».proof.Proof.GluValue
public import proofs.«01_k».proof.Proof.Gen.Kernel31Ideal.Value
public import proofs.«01_k».proof.Proof.Gen.Kernel32Ideal.Value
public import proofs.«01_k».proof.Proof.Gen.Reference31Ideal.Run
public import proofs.«01_k».proof.Proof.Gen.Reference32Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem Idealize.ShloMosaic.StableHlo
open Idealize.ShloMosaic.Pipeline (Dat)

namespace Cert.Proof.GluSampleKernel0

open Cert.Kernel31Ideal Cert.Kernel31Ideal.Gen

variable (m : (ℓ : Loc nD τ sig) → Buf (Elt Ideal) ℓ)

/-- The windows' block indices at grid point `t`: column block `t % 8`; the gate's columns begin 8 blocks
    further. -/
theorem idx : ∀ t : Fin cfg0.N, win0_0.index t = ![0, 0] ∧ win0_1.index t = ![0, 0, t.val % 8] ∧ win0_2.index t = ![0, 0, t.val % 8 + 8] ∧ win0_3.index t = ![0, t.val % 8] :=
  (by decide +kernel : ∀ t : Fin grid0.N, win0_0.index t = ![0, 0] ∧ win0_1.index t = ![0, 0, t.val % 8] ∧ win0_2.index t = ![0, 0, t.val % 8 + 8] ∧ win0_3.index t = ![0, t.val % 8])

/-- What the body stores at index `y` of its block is the gated projection at the place of `y` in the array. -/
theorem point (c : Dev nD) (t : Fin cfg0.N) (y) : k0_pay1 (iblk m c 0 t) (iblk m c 1 t) (iblk m c 2 t) y
    = Glu.result 0 (m ((c : Thread nD τ).loc main_arg0)) (m ((c : Thread nD τ).loc main_arg1)) (((cfg0.win 3).blk t).view.emb y) := by
  pointwise [k0_pay1, Glu.result, Glu.entry, Ideal.logistic]
  blk_point [iblk, V, idx t]

/-- The result array after the run is the gated projection of the two arguments. -/
theorem final (c : Dev nD) : (dats m 0 c).arrAt 3 (cfgs 0).N = Glu.result 0 (m ((c : Thread nD τ).loc main_arg0)) (m ((c : Thread nD τ).loc main_arg1)) := by
  refine (dats m 0 c).arrAt_eq_of_covers 3 _ (by decide +kernel) fun t _ y => ?_
  blk_simp
  rw [after0_3]; frame_out
  exact point m c t y

end Cert.Proof.GluSampleKernel0

namespace Cert.Proof.GluSampleReference0

open Cert.Reference31Ideal Cert.Reference31Ideal.Gen

/-- What the reference returns, operation by operation, is the gated projection. -/
theorem ref (x : FVec Ideal S128x4096 .bf16) (w : FVec Ideal S2x4096x8192 .bf16) :
    (mulf (extractStridedSlice S128x4096 ![0, 0] (Host.dotGeneral dot_S128x4096_S4096x8192_S128x8192_1_0_0_1_n_n none (extf .f32 x bitsLt_bf16_f32) (extf .f32 (shapeCast _ (extractStridedSlice S1x4096x8192 ![0, 0, 0] w slices_S2x4096x8192_S1x4096x8192_0_0_0) shapeCasts_S1x4096x8192_S4096x8192) bitsLt_bf16_f32)) slices_S128x8192_S128x4096_0_0) (Host.divf (broadcastInDim S128x4096 ![] bcast_S_S128x4096 (constant S_ .f32 0x3F800000#32)) (addf (broadcastInDim S128x4096 ![] bcast_S_S128x4096 (constant S_ .f32 0x3F800000#32)) (Host.exp (Host.negf (extractStridedSlice S128x4096 ![0, 4096] (Host.dotGeneral dot_S128x4096_S4096x8192_S128x8192_1_0_0_1_n_n none (extf .f32 x bitsLt_bf16_f32) (extf .f32 (shapeCast _ (extractStridedSlice S1x4096x8192 ![0, 0, 0] w slices_S2x4096x8192_S1x4096x8192_0_0_0) shapeCasts_S1x4096x8192_S4096x8192) bitsLt_bf16_f32)) slices_S128x8192_S128x4096_0_4096))))) : FVec Ideal S128x4096 .f32)
      = Glu.result 0 x w := by
  funext j
  idx_vars j
  pointwise [Glu.result, Glu.entry]

end Cert.Proof.GluSampleReference0

namespace Cert.Proof.GluSampleKernel1

open Cert.Kernel32Ideal Cert.Kernel32Ideal.Gen

variable (m : (ℓ : Loc nD τ sig) → Buf (Elt Ideal) ℓ)

/-- The windows' block indices at grid point `t`: column block `t % 8`; the gate's columns begin 8 blocks
    further. -/
theorem idx : ∀ t : Fin cfg0.N, win0_0.index t = ![0, 0] ∧ win0_1.index t = ![1, 0, t.val % 8] ∧ win0_2.index t = ![1, 0, t.val % 8 + 8] ∧ win0_3.index t = ![0, t.val % 8] :=
  (by decide +kernel : ∀ t : Fin grid0.N, win0_0.index t = ![0, 0] ∧ win0_1.index t = ![1, 0, t.val % 8] ∧ win0_2.index t = ![1, 0, t.val % 8 + 8] ∧ win0_3.index t = ![0, t.val % 8])

/-- What the body stores at index `y` of its block is the gated projection at the place of `y` in the array. -/
theorem point (c : Dev nD) (t : Fin cfg0.N) (y) : k0_pay1 (iblk m c 0 t) (iblk m c 1 t) (iblk m c 2 t) y
    = Glu.result 1 (m ((c : Thread nD τ).loc main_arg0)) (m ((c : Thread nD τ).loc main_arg1)) (((cfg0.win 3).blk t).view.emb y) := by
  pointwise [k0_pay1, Glu.result, Glu.entry, Ideal.logistic]
  blk_point [iblk, V, idx t]

/-- The result array after the run is the gated projection of the two arguments. -/
theorem final (c : Dev nD) : (dats m 0 c).arrAt 3 (cfgs 0).N = Glu.result 1 (m ((c : Thread nD τ).loc main_arg0)) (m ((c : Thread nD τ).loc main_arg1)) := by
  refine (dats m 0 c).arrAt_eq_of_covers 3 _ (by decide +kernel) fun t _ y => ?_
  blk_simp
  rw [after0_3]; frame_out
  exact point m c t y

end Cert.Proof.GluSampleKernel1

namespace Cert.Proof.GluSampleReference1

open Cert.Reference32Ideal Cert.Reference32Ideal.Gen

/-- What the reference returns, operation by operation, is the gated projection. -/
theorem ref (x : FVec Ideal S128x4096 .bf16) (w : FVec Ideal S2x4096x8192 .bf16) :
    (mulf (extractStridedSlice S128x4096 ![0, 0] (Host.dotGeneral dot_S128x4096_S4096x8192_S128x8192_1_0_0_1_n_n none (extf .f32 x bitsLt_bf16_f32) (extf .f32 (shapeCast _ (extractStridedSlice S1x4096x8192 ![1, 0, 0] w slices_S2x4096x8192_S1x4096x8192_1_0_0) shapeCasts_S1x4096x8192_S4096x8192) bitsLt_bf16_f32)) slices_S128x8192_S128x4096_0_0) (Host.divf (broadcastInDim S128x4096 ![] bcast_S_S128x4096 (constant S_ .f32 0x3F800000#32)) (addf (broadcastInDim S128x4096 ![] bcast_S_S128x4096 (constant S_ .f32 0x3F800000#32)) (Host.exp (Host.negf (extractStridedSlice S128x4096 ![0, 4096] (Host.dotGeneral dot_S128x4096_S4096x8192_S128x8192_1_0_0_1_n_n none (extf .f32 x bitsLt_bf16_f32) (extf .f32 (shapeCast _ (extractStridedSlice S1x4096x8192 ![1, 0, 0] w slices_S2x4096x8192_S1x4096x8192_1_0_0) shapeCasts_S1x4096x8192_S4096x8192) bitsLt_bf16_f32)) slices_S128x8192_S128x4096_0_4096))))) : FVec Ideal S128x4096 .f32)
      = Glu.result 1 x w := by
  funext j
  idx_vars j
  pointwise [Glu.result, Glu.entry]

end Cert.Proof.GluSampleReference1
-- ==== Proof.SampleQuery.lean ====
/-
  The unrotated queries of the latent attention for the decoded tokens: what the pipelined kernel leaves in its result array,
  and what the reference returns. There is one block of 128 rows.
-/
module

public import proofs.«01_k».proof.Proof.QueryUp
public import proofs.«01_k».proof.Proof.Gen.Kernel40Ideal.Value
public import proofs.«01_k».proof.Proof.Gen.Reference40Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem Idealize.ShloMosaic.StableHlo
open Idealize.ShloMosaic.Pipeline (Dat)

namespace Cert.Proof.QueryUpSampleKernel

open Cert.Kernel40Ideal Cert.Kernel40Ideal.Gen

variable (m : (ℓ : Loc nD τ sig) → Buf (Elt Ideal) ℓ)

/-- The windows' block indices at grid point `t`: column block `t % 4`. -/
theorem idx : ∀ t : Fin cfg0.N, win0_0.index t = ![0, 0] ∧ win0_1.index t = ![0, t.val % 4] ∧ win0_2.index t = ![0, t.val % 4] :=
  (by decide +kernel : ∀ t : Fin grid0.N, win0_0.index t = ![0, 0] ∧ win0_1.index t = ![0, t.val % 4] ∧ win0_2.index t = ![0, t.val % 4])

/-- The columns the host selects: lane `j % 128` of head `j / 128`. -/
theorem w_entry (c : Dev nD) (k : Fin 1024) (j : Fin 4096) :
    V m c main_v2 (ix2 k j) = m ((c : Thread nD τ).loc main_arg1) (ix2 k ⟨j.val / 128 * 192 + j.val % 128, by omega⟩) := by
  entry_read
  pointwise []

/-- The weights' block. -/
theorem w_read (c : Dev nD) (t : Fin cfg0.N) (k q : Fin 1024) :
    iblk m c 1 t (ix2 k q) = V m c main_v2 (ix2 k ⟨t.val % 4 * 1024 + q.val, by omega⟩) := by
  blk_ext [iblk, idx t]

/-- What the body stores at index `y` of its block is the product at the place of `y` in the array. -/
theorem point (c : Dev nD) (t : Fin cfg0.N) (y) : k0_pay1 (iblk m c 0 t) (iblk m c 1 t) y
    = QueryUp.result (m ((c : Thread nD τ).loc main_arg0)) (m ((c : Thread nD τ).loc main_arg1)) (((cfg0.win 2).blk t).view.emb y) := by
  idx_vars y
  pointwise [k0_pay1, QueryUp.result]
  simp only [w_read m c t, w_entry m c]
  blk_point [iblk, idx t]

/-- The result array after the run is the product. -/
theorem final (c : Dev nD) : (dats m 0 c).arrAt 2 (cfgs 0).N
    = QueryUp.result (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Proof.QueryUpSampleKernel

namespace Cert.Proof.QueryUpSampleReference

open Cert.Reference40Ideal Cert.Reference40Ideal.Gen

/-- The reference returns the product. -/
theorem ref (x : FVec Ideal S128x1024 .bf16) (w : FVec Ideal S1024x6144 .bf16) :
    (shapeCast S128x4096 (extractStridedSlice S128x32x128 ![0, 0, 0] (shapeCast S128x32x192 (Host.dotGeneral dot_S128x1024_S1024x6144_S128x6144_1_0_0_1_n_n none (extf .f32 x bitsLt_bf16_f32)
      (extf .f32 w bitsLt_bf16_f32)) shapeCasts_S128x6144_S128x32x192) slices_S128x32x192_S128x32x128_0_0_0) shapeCasts_S128x32x128_S128x4096 : FVec Ideal S128x4096 .f32)
      = QueryUp.result x w := by
  funext j
  idx_vars j
  pointwise [QueryUp.result]

end Cert.Proof.QueryUpSampleReference
-- ==== Proof.RopeSampleQuery.lean ====
/-
  The rotated part of the queries of the latent attention for the decoded tokens: what the pipelined kernel leaves in its result
  array, and what the reference returns. There is one block of 128 rows and two of 1024 columns.
-/
module

public import proofs.«01_k».proof.Proof.Rope
public import proofs.«01_k».proof.Proof.Gen.Kernel41Ideal.Value
public import proofs.«01_k».proof.Proof.Gen.Reference41Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem Idealize.ShloMosaic.StableHlo
open Idealize.ShloMosaic.Pipeline (Dat)

namespace Cert.Proof.RopeSampleQueryKernel

open Cert.Kernel41Ideal Cert.Kernel41Ideal.Gen

variable (m : (ℓ : Loc nD τ sig) → Buf (Elt Ideal) ℓ)

/-- The windows' block indices at grid point `t`: column block `t % 2`. -/
theorem idx : ∀ t : Fin cfg0.N, win0_0.index t = ![0, 0] ∧ win0_1.index t = ![0, t.val % 2] ∧ win0_2.index t = ![0, t.val % 2] ∧ win0_3.index t = ![0, 0] ∧ win0_4.index t = ![0, 0] ∧ win0_5.index t = ![0, t.val % 2] :=
  (by decide +kernel : ∀ t : Fin grid0.N, win0_0.index t = ![0, 0] ∧ win0_1.index t = ![0, t.val % 2] ∧ win0_2.index t = ![0, t.val % 2] ∧ win0_3.index t = ![0, 0] ∧ win0_4.index t = ![0, 0] ∧ win0_5.index t = ![0, t.val % 2])

theorem lt_N (t : Fin cfg0.N) : t.val < 2 := t.isLt

/-- The rows' block. -/
theorem x_read (c : Dev nD) (t : Fin cfg0.N) (r : Fin 128) (k : Fin 1024) :
    iblk m c 0 t (ix2 r k) = m ((c : Thread nD τ).loc main_arg0) (ix2 r k) := by
  have := lt_N t
  blk_ext [iblk, V, idx t]

/-- The columns of the weight. -/
theorem w_entry (c : Dev nD) (k : Fin 1024) (q : Fin 2048) : V m c main_v30 (ix2 k q) = m ((c : Thread nD τ).loc main_arg1) (ix2 k ⟨q.val / 64 * 192 + (128 + q.val % 64), by omega⟩) := by
  entry_read
  pointwise []

/-- The same columns with the halves of every 64 exchanged. -/
theorem v_entry (c : Dev nD) (k : Fin 1024) (q : Fin 2048) :
    V m c main_v33 (ix2 k q) = m ((c : Thread nD τ).loc main_arg1) (ix2 k ⟨q.val / 64 * 192 + (128 + Rope.across (q.val % 64)), by have : Rope.across (q.val % 64) < 64 := Rope.across_lt (by omega); omega⟩) := by
  entry_read
  pointwise []
  refine congrArg _ ((ix2_inj ..).2 ⟨rfl, Fin.ext ?_⟩)
  change q.val / 64 * 192 + (128 + ((2 - (q.val / 32 % 2 + 1)) * 32 + q.val % 32)) = q.val / 64 * 192 + (128 + Rope.across (q.val % 64))
  unfold Rope.across
  omega

/-- The cosines. -/
theorem c_entry (c : Dev nD) (r : Fin 128) (q : Fin 128) : V m c main_v22 (ix2 r q) = Rope.cosRow (Rope.decoded r) (q.val % 64) := by
  entry_read
  pointwise [Rope.cosRow, Rope.angle, Rope.num, Rope.decoded]

/-- The signed sines. -/
theorem s_entry (c : Dev nD) (r : Fin 128) (q : Fin 128) : V m c main_v27 (ix2 r q) = Rope.sinRow (Rope.decoded r) (q.val % 64) := by
  entry_read
  pointwise [Rope.sinRow, Rope.angle, Rope.num, Rope.decoded]

/-- The columns at every grid point. -/
theorem w_read (c : Dev nD) (t : Fin cfg0.N) (k : Fin 1024) (q : Fin 1024) (h : t.val % 2 * 1024 + q.val < 2048) : iblk m c 1 t (ix2 k q) = V m c main_v30 (ix2 k ⟨t.val % 2 * 1024 + q.val, h⟩) := by
  have := lt_N t
  blk_ext [iblk, idx t]

/-- The exchanged columns at every grid point. -/
theorem v_read (c : Dev nD) (t : Fin cfg0.N) (k : Fin 1024) (q : Fin 1024) (h : t.val % 2 * 1024 + q.val < 2048) : iblk m c 2 t (ix2 k q) = V m c main_v33 (ix2 k ⟨t.val % 2 * 1024 + q.val, h⟩) := by
  have := lt_N t
  blk_ext [iblk, idx t]

/-- The cosines' block. -/
theorem c_read (c : Dev nD) (t : Fin cfg0.N) (r : Fin 128) (q : Fin 128) : iblk m c 3 t (ix2 r q) = V m c main_v22 (ix2 r q) := by
  have := lt_N t
  blk_ext [iblk, idx t]

/-- The sines' block. -/
theorem s_read (c : Dev nD) (t : Fin cfg0.N) (r : Fin 128) (q : Fin 128) : iblk m c 4 t (ix2 r q) = V m c main_v27 (ix2 r q) := by
  have := lt_N t
  blk_ext [iblk, idx t]

/-- What the body computes of a block, entry by entry. -/
theorem pay (x : FVec Ideal S128x1024 .bf16) (w v : FVec Ideal S1024x1024 .bf16) (a b : FVec Ideal S128x128 .f32) (r : Fin 128) (q : Fin 1024) :
    (k0_pay1 (F := Ideal) x w v a b (ix2 r q) : EReal) = (∑ k : Fin 1024, (x (ix2 r k) * w (ix2 k q) : EReal)) * (a (ix2 r ⟨q.val % 128, by omega⟩) : EReal)
      + (∑ k : Fin 1024, (x (ix2 r k) * v (ix2 k q) : EReal)) * (b (ix2 r ⟨q.val % 128, by omega⟩) : EReal) := by
  pointwise [k0_pay1]
  refine congrArg₂ (· + ·) (congrArg _ ?_) (congrArg _ ?_) <;>
    (split_ifs <;> exact congrArg _ ((ix2_inj ..).2 ⟨rfl, Fin.ext (by simp only []; omega)⟩))

/-- What the body stores at index `y` of its block is the turned row's entry at the place of `y` in the array. -/
theorem point (c : Dev nD) (t : Fin cfg0.N) (y) : k0_pay1 (iblk m c 0 t) (iblk m c 1 t) (iblk m c 2 t) (iblk m c 3 t) (iblk m c 4 t) y
    = Rope.queries Rope.decoded (m ((c : Thread nD τ).loc main_arg0)) (m ((c : Thread nD τ).loc main_arg1)) (((cfg0.win 5).blk t).view.emb y) := by
  idx_vars y
  have := lt_N t
  have p : ((cfg0.win 5).blk t).view.emb (ix2 y0 y1) = ix2 y0 ⟨t.val % 2 * 1024 + y1.val, by omega⟩ := by blk_ext [idx t]
  rw [p]
  refine (pay _ _ _ _ _ y0 y1).trans ?_
  have ew := fun k => (w_read m c t k y1 (by omega)).trans (w_entry m c k _)
  have ev := fun k => (v_read m c t k y1 (by omega)).trans (v_entry m c k _)
  have ex := fun k => x_read m c t y0 k
  have ec := (c_read m c t y0 ⟨y1.val % 128, by omega⟩).trans (c_entry m c _ _)
  have es := (s_read m c t y0 ⟨y1.val % 128, by omega⟩).trans (s_entry m c _ _)
  simp only [ew, ev, ex, ec, es]
  have eq : y1.val % 128 % 64 = (t.val % 2 * 1024 + y1.val) % 64 := by omega
  rw [eq]
  exact Rope.turn_eq (Rope.queryRow (m ((c : Thread nD τ).loc main_arg0)) (m ((c : Thread nD τ).loc main_arg1)) y0 ⟨(t.val % 2 * 1024 + y1.val) / 64, by omega⟩) _ ⟨(t.val % 2 * 1024 + y1.val) % 64, by omega⟩

/-- The result array after the run. -/
theorem final (c : Dev nD) : (dats m 0 c).arrAt 5 (cfgs 0).N
    = Rope.queries Rope.decoded (m ((c : Thread nD τ).loc main_arg0)) (m ((c : Thread nD τ).loc main_arg1)) := by
  refine (dats m 0 c).arrAt_eq_of_covers 5 _ (by decide +kernel) fun t _ y => ?_
  blk_simp
  rw [after0_5]
  frame_out
  exact point m c t y

end Cert.Proof.RopeSampleQueryKernel

namespace Cert.Proof.RopeSampleQueryReference

open Cert.Reference41Ideal Cert.Reference41Ideal.Gen

/-- The reference returns the rotated part of the decoded tokens' queries. -/
theorem ref (m : (ℓ : Loc nD τ sig) → Buf (Elt Ideal) ℓ) (c : Dev nD) : Value.res_main_v39 m c
    = Rope.queries Rope.decoded (m ((c.tc : Thread nD τ).loc main_arg0)) (m ((c.tc : Thread nD τ).loc main_arg1)) := by
  funext j
  idx_vars j
  pointwise [Value.res_main_v39, Rope.queries, Rope.queryRow, Rope.turn, Rope.angle, Rope.num, Rope.decoded]

end Cert.Proof.RopeSampleQueryReference
-- ==== Proof.HeadMm.lean ====
/-
  The products by head of the latent attention for the decoded tokens: what the pipelined kernels leave in their result arrays,
  and what the references return.

  The weight has 256 columns per head, 128 for the keys and 128 for the values. The queries go to the space of the latents by the
  first half, the mixed latents come back by the second.
-/
module

public import proofs.«01_k».proof.Proof.Gen.Kernel42Ideal.Value
public import proofs.«01_k».proof.Proof.Gen.Kernel43Ideal.Value
public import proofs.«01_k».proof.Proof.Gen.Reference42Ideal.Run
public import proofs.«01_k».proof.Proof.Gen.Reference43Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem Idealize.ShloMosaic.StableHlo
open Idealize.ShloMosaic.Pipeline (Dat)

namespace Cert.Proof.HeadMm

/-- The queries of all heads against the key half of each head's weights: lane `q % 512` of head `q / 512`. -/
def latent (x : FVec Ideal ⟨2, ![128, 4096]⟩ .bf16) (w : FVec Ideal ⟨3, ![1, 512, 8192]⟩ .bf16) : FVec Ideal ⟨2, ![128, 16384]⟩ .bf16 := fun j =>
  ∑ k : Fin 128, (x (ix2 (j 0) ⟨(j 1).val / 512 * 128 + k.val, by have : (j 1).val < 16384 := (j 1).isLt; omega⟩) : EReal)
    * w (ix3 0 ⟨(j 1).val % 512, by omega⟩ ⟨(j 1).val / 512 * 256 + k.val, by have : (j 1).val < 16384 := (j 1).isLt; omega⟩)

/-- The mixed latents of all heads against the value half of each head's weights: lane `q % 128` of head `q / 128`. -/
def value (x : FVec Ideal ⟨2, ![128, 16384]⟩ .bf16) (w : FVec Ideal ⟨3, ![1, 512, 8192]⟩ .bf16) : FVec Ideal ⟨2, ![128, 4096]⟩ .bf16 := fun j =>
  ∑ k : Fin 512, (x (ix2 (j 0) ⟨(j 1).val / 128 * 512 + k.val, by have : (j 1).val < 4096 := (j 1).isLt; omega⟩) : EReal)
    * w (ix3 0 k ⟨(j 1).val / 128 * 256 + (128 + (j 1).val % 128), by have : (j 1).val < 4096 := (j 1).isLt; omega⟩)

end Cert.Proof.HeadMm

namespace Cert.Proof.LatentQueryKernel

open Cert.Kernel42Ideal Cert.Kernel42Ideal.Gen

variable (m : (ℓ : Loc nD τ sig) → Buf (Elt Ideal) ℓ)

/-- The windows' block indices at grid point `t`, which is the head. -/
theorem idx : ∀ t : Fin cfg0.N, win0_0.index t = ![0, t.val] ∧ win0_1.index t = ![0, 0, 2 * t.val] ∧ win0_2.index t = ![0, t.val] :=
  (by decide +kernel : ∀ t : Fin grid0.N, win0_0.index t = ![0, t.val] ∧ win0_1.index t = ![0, 0, 2 * t.val] ∧ win0_2.index t = ![0, t.val])

theorem lt_N (t : Fin cfg0.N) : t.val < 32 := t.isLt

/-- The head's columns of the left factor. -/
theorem x_read (c : Dev nD) (t : Fin cfg0.N) (r : Fin 128) (k : Fin 128) (h : t.val * 128 + k.val < 4096) :
    iblk m c 0 t (ix2 r k) = m ((c : Thread nD τ).loc main_arg0) (ix2 r ⟨t.val * 128 + k.val, h⟩) := by
  have := lt_N t
  blk_ext [iblk, V, idx t]

/-- The head's half of the weight. -/
theorem w_read (c : Dev nD) (t : Fin cfg0.N) (l : Fin 512) (k : Fin 128) (h : t.val * 256 + k.val < 8192) :
    iblk m c 1 t (ix3 0 l k) = m ((c : Thread nD τ).loc main_arg1) (ix3 0 l ⟨t.val * 256 + k.val, h⟩) := by
  have := lt_N t
  blk_ext [iblk, V, idx t]

/-- What the body stores at index `y` of its block is the product at the place of `y` in the array. -/
theorem point (c : Dev nD) (t : Fin cfg0.N) (y) : k0_pay1 (iblk m c 0 t) (iblk m c 1 t) y
    = HeadMm.latent (m ((c : Thread nD τ).loc main_arg0)) (m ((c : Thread nD τ).loc main_arg1)) (((cfg0.win 2).blk t).view.emb y) := by
  idx_vars y
  have := lt_N t
  have p : ((cfg0.win 2).blk t).view.emb (ix2 y0 y1) = ix2 y0 ⟨t.val * 512 + y1.val, by omega⟩ := by blk_ext [idx t]
  rw [p]
  pointwise [k0_pay1, HeadMm.latent]
  refine Finset.sum_congr rfl fun k _ => ?_
  rw [x_read m c t y0 k (by omega), w_read m c t y1 k (by omega)]
  have a : (t.val * 512 + y1.val) / 512 = t.val := by omega
  have b : (t.val * 512 + y1.val) % 512 = y1.val := by omega
  simp only [a, b]

/-- The result array after the run is the product. -/
theorem final (c : Dev nD) : (dats m 0 c).arrAt 2 (cfgs 0).N
    = HeadMm.latent (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Proof.LatentQueryKernel

namespace Cert.Proof.HeadValueKernel

open Cert.Kernel43Ideal Cert.Kernel43Ideal.Gen

variable (m : (ℓ : Loc nD τ sig) → Buf (Elt Ideal) ℓ)

/-- The windows' block indices at grid point `t`, which is the head. -/
theorem idx : ∀ t : Fin cfg0.N, win0_0.index t = ![0, t.val] ∧ win0_1.index t = ![0, 0, 2 * t.val + 1] ∧ win0_2.index t = ![0, t.val] :=
  (by decide +kernel : ∀ t : Fin grid0.N, win0_0.index t = ![0, t.val] ∧ win0_1.index t = ![0, 0, 2 * t.val + 1] ∧ win0_2.index t = ![0, t.val])

theorem lt_N (t : Fin cfg0.N) : t.val < 32 := t.isLt

/-- The head's columns of the left factor. -/
theorem x_read (c : Dev nD) (t : Fin cfg0.N) (r : Fin 128) (k : Fin 512) (h : t.val * 512 + k.val < 16384) :
    iblk m c 0 t (ix2 r k) = m ((c : Thread nD τ).loc main_arg0) (ix2 r ⟨t.val * 512 + k.val, h⟩) := by
  have := lt_N t
  blk_ext [iblk, V, idx t]

/-- The head's half of the weight. -/
theorem w_read (c : Dev nD) (t : Fin cfg0.N) (l : Fin 512) (k : Fin 128) (h : t.val * 256 + (128 + k.val) < 8192) :
    iblk m c 1 t (ix3 0 l k) = m ((c : Thread nD τ).loc main_arg1) (ix3 0 l ⟨t.val * 256 + (128 + k.val), h⟩) := by
  have := lt_N t
  blk_ext [iblk, V, idx t]

/-- What the body stores at index `y` of its block is the product at the place of `y` in the array. -/
theorem point (c : Dev nD) (t : Fin cfg0.N) (y) : k0_pay1 (iblk m c 0 t) (iblk m c 1 t) y
    = HeadMm.value (m ((c : Thread nD τ).loc main_arg0)) (m ((c : Thread nD τ).loc main_arg1)) (((cfg0.win 2).blk t).view.emb y) := by
  idx_vars y
  have := lt_N t
  have p : ((cfg0.win 2).blk t).view.emb (ix2 y0 y1) = ix2 y0 ⟨t.val * 128 + y1.val, by omega⟩ := by blk_ext [idx t]
  rw [p]
  pointwise [k0_pay1, HeadMm.value]
  refine Finset.sum_congr rfl fun k _ => ?_
  rw [x_read m c t y0 k (by omega), w_read m c t k y1 (by omega)]
  have a : (t.val * 128 + y1.val) / 128 = t.val := by omega
  have b : (t.val * 128 + y1.val) % 128 = y1.val := by omega
  simp only [a, b]

/-- The result array after the run is the product. -/
theorem final (c : Dev nD) : (dats m 0 c).arrAt 2 (cfgs 0).N
    = HeadMm.value (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Proof.HeadValueKernel

namespace Cert.Proof.LatentQueryReference

open Cert.Reference42Ideal Cert.Reference42Ideal.Gen

/-- The reference returns the product. -/
theorem ref (x : FVec Ideal S128x4096 .bf16) (w : FVec Ideal S1x512x8192 .bf16) :
    (truncf .bf16 (shapeCast _ (transpose S128x32x1x512 [2, 0, 3, 1] (Host.dotGeneral dot_S512x32x128_S128x1x32x128_S32x512x128x1_2_3_0_01_1_2 none (extractStridedSlice S512x32x128 ![0, 0, 0] (shapeCast _ (extf .f32 (shapeCast _ w shapeCasts_S1x512x8192_S512x8192) bitsLt_bf16_f32) shapeCasts_S512x8192_S512x32x256) slices_S512x32x256_S512x32x128_0_0_0) (shapeCast _ (extf .f32 x bitsLt_bf16_f32) shapeCasts_S128x4096_S128x1x32x128)) transposes_S32x512x128x1_S128x32x1x512_2_0_3_1) shapeCasts_S128x32x1x512_S128x16384) bitsLt_bf16_f32 : FVec Ideal S128x16384 .bf16)
      = HeadMm.latent x w := by
  funext j
  idx_vars j
  pointwise [HeadMm.latent]
  exact Finset.sum_congr rfl fun k _ => mul_comm _ _

end Cert.Proof.LatentQueryReference

namespace Cert.Proof.HeadValueReference

open Cert.Reference43Ideal Cert.Reference43Ideal.Gen

/-- The reference returns the product. -/
theorem ref (x : FVec Ideal S128x16384 .bf16) (w : FVec Ideal S1x512x8192 .bf16) :
    (truncf .bf16 (shapeCast _ (transpose S128x1x32x128 [2, 3, 0, 1] (Host.dotGeneral dot_S512x32x128_S128x32x1x512_S32x128x128x1_0_3_2_02_1_1 none (extractStridedSlice S512x32x128 ![0, 0, 128] (shapeCast _ (extf .f32 (shapeCast _ w shapeCasts_S1x512x8192_S512x8192) bitsLt_bf16_f32) shapeCasts_S512x8192_S512x32x256) slices_S512x32x256_S512x32x128_0_0_128) (shapeCast _ (extf .f32 x bitsLt_bf16_f32) shapeCasts_S128x16384_S128x32x1x512)) transposes_S32x128x128x1_S128x1x32x128_2_3_0_1) shapeCasts_S128x1x32x128_S128x4096) bitsLt_bf16_f32 : FVec Ideal S128x4096 .bf16)
      = HeadMm.value x w := by
  funext j
  idx_vars j
  pointwise [HeadMm.value]
  exact Finset.sum_congr rfl fun k _ => mul_comm _ _

end Cert.Proof.HeadValueReference
-- ==== Proof.Modulate.lean ====
/-
  The modulation of a sublayer's input by scale and shift: what it is, entry by entry, and that the references return it.
-/
module

public import proofs.«01_k».proof.Proof.Gen.Reference46Ideal.Run
public import proofs.«01_k».proof.Proof.Gen.Reference47Ideal.Run
public import Idealize.ShloMosaic.Lib.Pointwise

@[expose] public section

set_option maxRecDepth 16384

noncomputable section

open Idealize.ShloMosaic Idealize.ShloMosaic.TcCoe Idealize.SL.Sem Idealize.ShloMosaic.StableHlo
open Idealize.ShloMosaic.Pipeline (Dat)

namespace Cert.Proof.Modulate

/-- One entry, scaled by one plus the scale and moved by the shift. -/
def entry (y s t : EReal) : EReal := y * (Ideal.ofBits .f32 0x3F800000#32 + s) + t

/-- The modulated prompt, where the positions of a sequence share scale and shift. -/
def result (y : FVec Ideal ⟨3, ![4, 2048, 4096]⟩ .f32) (s t : FVec Ideal ⟨3, ![4, 1, 4096]⟩ .f32) : FVec Ideal ⟨3, ![4, 2048, 4096]⟩ .bf16 := fun j =>
  entry (y j) (s (ix3 (j 0) 0 (j 2))) (t (ix3 (j 0) 0 (j 2)))

/-- The modulated decoded tokens, each with its own scale and shift. -/
def sample (y s t : FVec Ideal ⟨3, ![1, 128, 4096]⟩ .f32) : FVec Ideal ⟨3, ![1, 128, 4096]⟩ .bf16 := fun j => entry (y j) (s j) (t j)

end Cert.Proof.Modulate

namespace Cert.Proof.ModulateReference

open Cert.Reference46Ideal Cert.Reference46Ideal.Gen

/-- What the reference makes of the prompt. -/
theorem ref (y : FVec Ideal S4x2048x4096 .f32) (s t : FVec Ideal S4x1x4096 .f32) :
    (truncf .bf16 (addf (mulf y (broadcastInDim S4x2048x4096 ![0, 1, 2] bcast_S4x1x4096_S4x2048x4096_0_1_2 (addf (broadcastInDim S4x1x4096 ![] bcast_S_S4x1x4096 (constant S_ .f32 0x3F800000#32)) s)))
      (broadcastInDim S4x2048x4096 ![0, 1, 2] bcast_S4x1x4096_S4x2048x4096_0_1_2 t)) bitsLt_bf16_f32 : FVec Ideal S4x2048x4096 .bf16) = Modulate.result y s t := by
  funext j
  idx_vars j
  pointwise [Modulate.result, Modulate.entry]

end Cert.Proof.ModulateReference

namespace Cert.Proof.ModulateSampleReference

open Cert.Reference47Ideal Cert.Reference47Ideal.Gen

/-- What the reference makes of the decoded tokens. -/
theorem ref (y s t : FVec Ideal S1x128x4096 .f32) :
    (truncf .bf16 (addf (mulf y (addf (broadcastInDim S1x128x4096 ![] bcast_S_S1x128x4096 (constant S_ .f32 0x3F800000#32)) s)) t) bitsLt_bf16_f32 : FVec Ideal S1x128x4096 .bf16)
      = Modulate.sample y s t := by
  funext j
  idx_vars j
  pointwise [Modulate.sample, Modulate.entry]

end Cert.Proof.ModulateSampleReference
-- ==== Proof.ModulateValue.lean ====
/-
  The modulation of the first sublayer's input: what the two pipelined kernels, of the prompt and of the decoded tokens, leave
  in their result arrays.

  The prompt's kernel runs over the four sequences by 8 blocks of 256 positions, the decoded tokens' has one block.
-/
module

public import proofs.«01_k».proof.Proof.Modulate
public import proofs.«01_k».proof.Proof.Gen.Kernel46Ideal.Value
public import proofs.«01_k».proof.Proof.Gen.Kernel47Ideal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem Idealize.ShloMosaic.StableHlo
open Idealize.ShloMosaic.Pipeline (Dat)

namespace Cert.Proof.ModulateKernel

open Cert.Kernel46Ideal Cert.Kernel46Ideal.Gen

variable (m : (ℓ : Loc nD τ sig) → Buf (Elt Ideal) ℓ)

/-- The windows' block indices at grid point `t`: sequence `t / 8` and row block `t % 8`. -/
theorem idx : ∀ t : Fin cfg0.N, win0_0.index t = ![t.val / 8, t.val % 8, 0] ∧ win0_1.index t = ![t.val / 8, 0, 0] ∧ win0_2.index t = ![t.val / 8, 0, 0] ∧ win0_3.index t = ![t.val / 8, t.val % 8, 0] :=
  (by decide +kernel : ∀ t : Fin grid0.N, win0_0.index t = ![t.val / 8, t.val % 8, 0] ∧ win0_1.index t = ![t.val / 8, 0, 0] ∧ win0_2.index t = ![t.val / 8, 0, 0] ∧ win0_3.index t = ![t.val / 8, t.val % 8, 0])

theorem lt_N (t : Fin cfg0.N) : t.val < 32 := t.isLt

/-- The input's block at `t`. -/
theorem x_read (c : Dev nD) (t : Fin cfg0.N) (r : Fin 256) (k : Fin 4096) (hi : t.val / 8 < 4) (h : t.val % 8 * 256 + r.val < 2048) :
    iblk m c 0 t (ix3 0 r k) = m ((c : Thread nD τ).loc main_arg0) (ix3 ⟨t.val / 8, hi⟩ ⟨t.val % 8 * 256 + r.val, h⟩ k) := by
  have := lt_N t
  blk_ext [iblk, V, idx t]

/-- The scale's block at `t`. -/
theorem u_read (c : Dev nD) (t : Fin cfg0.N) (k : Fin 4096) (hi : t.val / 8 < 4) :
    iblk m c 1 t (ix3 0 0 k) = m ((c : Thread nD τ).loc main_arg1) (ix3 ⟨t.val / 8, hi⟩ 0 k) := by
  have := lt_N t
  blk_ext [iblk, V, idx t]

/-- The shift's block at `t`. -/
theorem v_read (c : Dev nD) (t : Fin cfg0.N) (k : Fin 4096) (hi : t.val / 8 < 4) :
    iblk m c 2 t (ix3 0 0 k) = m ((c : Thread nD τ).loc main_arg2) (ix3 ⟨t.val / 8, hi⟩ 0 k) := by
  have := lt_N t
  blk_ext [iblk, V, idx t]

/-- What the body computes of a block, entry by entry. -/
theorem pay (x : FVec Ideal S1x256x4096 .f32) (u v : FVec Ideal S1x1x4096 .f32) (r : Fin 256) (k : Fin 4096) :
    (k0_pay1 (F := Ideal) x u v (ix3 0 r k) : EReal) = Modulate.entry (x (ix3 0 r k)) (u (ix3 0 0 k)) (v (ix3 0 0 k)) := by
  pointwise [k0_pay1, Modulate.entry]

/-- What the body stores at index `y` of its block is the modulated input at the place of `y` in the array. -/
theorem point (c : Dev nD) (t : Fin cfg0.N) (y) : k0_pay1 (iblk m c 0 t) (iblk m c 1 t) (iblk m c 2 t) y
    = Modulate.result (m ((c : Thread nD τ).loc main_arg0)) (m ((c : Thread nD τ).loc main_arg1)) (m ((c : Thread nD τ).loc main_arg2)) (((cfg0.win 3).blk t).view.emb y) := by
  idx_vars y
  obtain rfl : y0 = 0 := Subsingleton.elim _ _
  have := lt_N t
  have p : ((cfg0.win 3).blk t).view.emb (ix3 0 y1 y2) = ix3 ⟨t.val / 8, by omega⟩ ⟨t.val % 8 * 256 + y1.val, by omega⟩ y2 := by blk_ext [idx t]
  rw [p]
  refine (pay _ _ _ y1 y2).trans ?_
  simp only [x_read m c t y1 y2 (by omega) (by omega), u_read m c t y2 (by omega), v_read m c t y2 (by omega)]
  rfl

/-- The result array after the run is the modulated input. -/
theorem final (c : Dev nD) : (dats m 0 c).arrAt 3 (cfgs 0).N = Modulate.result (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  exact point m c t y

end Cert.Proof.ModulateKernel

namespace Cert.Proof.ModulateSampleKernel

open Cert.Kernel47Ideal Cert.Kernel47Ideal.Gen

variable (m : (ℓ : Loc nD τ sig) → Buf (Elt Ideal) ℓ)

/-- The windows' block indices at grid point `t`: the one block. -/
theorem idx : ∀ t : Fin cfg0.N, win0_0.index t = ![t.val, 0, 0] ∧ win0_1.index t = ![t.val, 0, 0] ∧ win0_2.index t = ![t.val, 0, 0] ∧ win0_3.index t = ![t.val, 0, 0] :=
  (by decide +kernel : ∀ t : Fin grid0.N, win0_0.index t = ![t.val, 0, 0] ∧ win0_1.index t = ![t.val, 0, 0] ∧ win0_2.index t = ![t.val, 0, 0] ∧ win0_3.index t = ![t.val, 0, 0])

theorem lt_N (t : Fin cfg0.N) : t.val < 1 := t.isLt

/-- The input's block at `t`. -/
theorem x_read (c : Dev nD) (t : Fin cfg0.N) (r : Fin 128) (k : Fin 4096) :
    iblk m c 0 t (ix3 0 r k) = m ((c : Thread nD τ).loc main_arg0) (ix3 0 r k) := by
  have := lt_N t
  blk_ext [iblk, V, idx t]

/-- The scale's block at `t`. -/
theorem u_read (c : Dev nD) (t : Fin cfg0.N) (r : Fin 128) (k : Fin 4096) :
    iblk m c 1 t (ix3 0 r k) = m ((c : Thread nD τ).loc main_arg1) (ix3 0 r k) := by
  have := lt_N t
  blk_ext [iblk, V, idx t]

/-- The shift's block at `t`. -/
theorem v_read (c : Dev nD) (t : Fin cfg0.N) (r : Fin 128) (k : Fin 4096) :
    iblk m c 2 t (ix3 0 r k) = m ((c : Thread nD τ).loc main_arg2) (ix3 0 r k) := by
  have := lt_N t
  blk_ext [iblk, V, idx t]

/-- What the body computes of a block, entry by entry. -/
theorem pay (x : FVec Ideal S1x128x4096 .f32) (u v : FVec Ideal S1x128x4096 .f32) (r : Fin 128) (k : Fin 4096) :
    (k0_pay1 (F := Ideal) x u v (ix3 0 r k) : EReal) = Modulate.entry (x (ix3 0 r k)) (u (ix3 0 r k)) (v (ix3 0 r k)) := by
  pointwise [k0_pay1, Modulate.entry]

/-- What the body stores at index `y` of its block is the modulated input at the place of `y` in the array. -/
theorem point (c : Dev nD) (t : Fin cfg0.N) (y) : k0_pay1 (iblk m c 0 t) (iblk m c 1 t) (iblk m c 2 t) y
    = Modulate.sample (m ((c : Thread nD τ).loc main_arg0)) (m ((c : Thread nD τ).loc main_arg1)) (m ((c : Thread nD τ).loc main_arg2)) (((cfg0.win 3).blk t).view.emb y) := by
  idx_vars y
  obtain rfl : y0 = 0 := Subsingleton.elim _ _
  have := lt_N t
  have p : ((cfg0.win 3).blk t).view.emb (ix3 0 y1 y2) = ix3 0 y1 y2 := by blk_ext [idx t]
  rw [p]
  refine (pay _ _ _ y1 y2).trans ?_
  simp only [x_read m c t y1 y2, u_read m c t y1 y2, v_read m c t y1 y2]
  rfl

/-- The result array after the run is the modulated input. -/
theorem final (c : Dev nD) : (dats m 0 c).arrAt 3 (cfgs 0).N = Modulate.sample (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  exact point m c t y

end Cert.Proof.ModulateSampleKernel
-- ==== Proof.NormModValue.lean ====
/-
  The residuals' normalisation with the modulation of the next sublayer's input: what the two pipelined kernels, of the prompt
  and of the decoded tokens, leave in their two result arrays.

  The prompt's kernel runs over the four sequences by 8 blocks of 256 positions, the decoded tokens' has one block.
-/
module

public import proofs.«01_k».proof.Proof.LayerNorm
public import proofs.«01_k».proof.Proof.Modulate
public import proofs.«01_k».proof.Proof.Gen.Kernel44Ideal.Value
public import proofs.«01_k».proof.Proof.Gen.Kernel45Ideal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem Idealize.ShloMosaic.StableHlo
open Idealize.ShloMosaic.Pipeline (Dat)

namespace Cert.Proof.NormModKernel

open Cert.Kernel44Ideal Cert.Kernel44Ideal.Gen

variable (m : (ℓ : Loc nD τ sig) → Buf (Elt Ideal) ℓ)

/-- The windows' block indices at grid point `t`: sequence `t / 8` and row block `t % 8`. -/
theorem idx : ∀ t : Fin cfg0.N, win0_0.index t = ![t.val / 8, t.val % 8, 0] ∧ win0_1.index t = ![t.val / 8, t.val % 8, 0] ∧ win0_2.index t = ![t.val / 8, 0, 0] ∧ win0_3.index t = ![0, 0] ∧ win0_4.index t = ![0, 0] ∧ win0_5.index t = ![t.val / 8, 0, 0] ∧ win0_6.index t = ![t.val / 8, 0, 0] ∧ win0_7.index t = ![t.val / 8, t.val % 8, 0] ∧ win0_8.index t = ![t.val / 8, t.val % 8, 0] :=
  (by decide +kernel : ∀ t : Fin grid0.N, win0_0.index t = ![t.val / 8, t.val % 8, 0] ∧ win0_1.index t = ![t.val / 8, t.val % 8, 0] ∧ win0_2.index t = ![t.val / 8, 0, 0] ∧ win0_3.index t = ![0, 0] ∧ win0_4.index t = ![0, 0] ∧ win0_5.index t = ![t.val / 8, 0, 0] ∧ win0_6.index t = ![t.val / 8, 0, 0] ∧ win0_7.index t = ![t.val / 8, t.val % 8, 0] ∧ win0_8.index t = ![t.val / 8, t.val % 8, 0])

theorem lt_N (t : Fin cfg0.N) : t.val < 32 := t.isLt

/-- The input's block at `t`. -/
theorem x_read (c : Dev nD) (t : Fin cfg0.N) (r : Fin 256) (k : Fin 4096) (hi : t.val / 8 < 4) (h : t.val % 8 * 256 + r.val < 2048) :
    iblk m c 0 t (ix3 0 r k) = m ((c : Thread nD τ).loc main_arg0) (ix3 ⟨t.val / 8, hi⟩ ⟨t.val % 8 * 256 + r.val, h⟩ k) := by
  have := lt_N t
  blk_ext [iblk, V, idx t]

/-- The feed-forward part's block at `t`. -/
theorem f_read (c : Dev nD) (t : Fin cfg0.N) (r : Fin 256) (k : Fin 4096) (hi : t.val / 8 < 4) (h : t.val % 8 * 256 + r.val < 2048) :
    iblk m c 1 t (ix3 0 r k) = m ((c : Thread nD τ).loc main_arg1) (ix3 ⟨t.val / 8, hi⟩ ⟨t.val % 8 * 256 + r.val, h⟩ k) := by
  have := lt_N t
  blk_ext [iblk, V, idx t]

/-- The gate's block at `t`. -/
theorem s_read (c : Dev nD) (t : Fin cfg0.N) (k : Fin 4096) (hi : t.val / 8 < 4) :
    iblk m c 2 t (ix3 0 0 k) = m ((c : Thread nD τ).loc main_arg2) (ix3 ⟨t.val / 8, hi⟩ 0 k) := by
  have := lt_N t
  blk_ext [iblk, V, idx t]

/-- The scale's block at `t`. -/
theorem u_read (c : Dev nD) (t : Fin cfg0.N) (k : Fin 4096) (hi : t.val / 8 < 4) :
    iblk m c 5 t (ix3 0 0 k) = m ((c : Thread nD τ).loc main_arg5) (ix3 ⟨t.val / 8, hi⟩ 0 k) := by
  have := lt_N t
  blk_ext [iblk, V, idx t]

/-- The shift's block at `t`. -/
theorem v_read (c : Dev nD) (t : Fin cfg0.N) (k : Fin 4096) (hi : t.val / 8 < 4) :
    iblk m c 6 t (ix3 0 0 k) = m ((c : Thread nD τ).loc main_arg6) (ix3 ⟨t.val / 8, hi⟩ 0 k) := by
  have := lt_N t
  blk_ext [iblk, V, idx t]

/-- The gain is read as it is. -/
theorem g_entry (c : Dev nD) (k : Fin 4096) : V m c main_v0 (ix2 0 k) = m ((c : Thread nD τ).loc main_arg3) (ix1 k) := by
  entry_read
  pointwise []

/-- The offset is read as it is. -/
theorem b_entry (c : Dev nD) (k : Fin 4096) : V m c main_v1 (ix2 0 k) = m ((c : Thread nD τ).loc main_arg4) (ix1 k) := by
  entry_read
  pointwise []

/-- The gain at every grid point. -/
theorem g_read (c : Dev nD) (t : Fin cfg0.N) (k : Fin 4096) : iblk m c 3 t (ix2 0 k) = m ((c : Thread nD τ).loc main_arg3) (ix1 k) :=
  (by blk_ext [iblk, idx t] : iblk m c 3 t (ix2 0 k) = V m c main_v0 (ix2 0 k)).trans (g_entry m c k)

/-- The offset at every grid point. -/
theorem b_read (c : Dev nD) (t : Fin cfg0.N) (k : Fin 4096) : iblk m c 4 t (ix2 0 k) = m ((c : Thread nD τ).loc main_arg4) (ix1 k) :=
  (by blk_ext [iblk, idx t] : iblk m c 4 t (ix2 0 k) = V m c main_v1 (ix2 0 k)).trans (b_entry m c k)

/-- What the body computes of a block before the modulation, entry by entry. -/
theorem pay (x f : FVec Ideal S1x256x4096 .f32) (s : FVec Ideal S1x1x4096 .f32) (g b : FVec Ideal S1x4096 .f32) (r : Fin 256) (k : Fin 4096) :
    (k0_pay1 (F := Ideal) (k0_pay3 x s f g b) (ix3 0 r k) : EReal) = LayerNorm.row (fun a => x (ix3 0 r a)) (fun a => f (ix3 0 r a)) (fun a => s (ix3 0 0 a))
      (fun a => g (ix2 0 a)) (fun a => b (ix2 0 a)) k := by
  pointwise [k0_pay1, k0_pay3, LayerNorm.row, LayerNorm.scaled, LayerNorm.centred, LayerNorm.residual]

/-- What the body computes of a block after it, entry by entry. -/
theorem pay' (z : FVec Ideal S256x4096 .f32) (u v : FVec Ideal S1x1x4096 .f32) (r : Fin 256) (k : Fin 4096) :
    (k0_pay2 (F := Ideal) z u v (ix3 0 r k) : EReal) = Modulate.entry (k0_pay1 (F := Ideal) z (ix3 0 r k)) (u (ix3 0 0 k)) (v (ix3 0 0 k)) := by
  pointwise [k0_pay1, k0_pay2, Modulate.entry]

/-- The normalised residual at index `y` of a block. -/
theorem point (c : Dev nD) (t : Fin cfg0.N) (y) : k0_pay1 (k0_pay3 (iblk m c 0 t) (iblk m c 2 t) (iblk m c 1 t) (iblk m c 3 t) (iblk m c 4 t)) y
    = LayerNorm.result (m ((c : Thread nD τ).loc main_arg0)) (m ((c : Thread nD τ).loc main_arg1)) (m ((c : Thread nD τ).loc main_arg2))
      (m ((c : Thread nD τ).loc main_arg3)) (m ((c : Thread nD τ).loc main_arg4)) (((cfg0.win 7).blk t).view.emb y) := by
  idx_vars y
  obtain rfl : y0 = 0 := Subsingleton.elim _ _
  have := lt_N t
  have p : ((cfg0.win 7).blk t).view.emb (ix3 0 y1 y2) = ix3 ⟨t.val / 8, by omega⟩ ⟨t.val % 8 * 256 + y1.val, by omega⟩ y2 := by blk_ext [idx t]
  rw [p]
  refine (pay _ _ _ _ _ y1 y2).trans ?_
  simp only [funext fun a => x_read m c t y1 a (by omega) (by omega), funext fun a => f_read m c t y1 a (by omega) (by omega), funext fun a => s_read m c t a (by omega), funext fun a => g_read m c t a,
    funext fun a => b_read m c t a]
  rfl

/-- The modulated residual at index `y` of a block. -/
theorem point' (c : Dev nD) (t : Fin cfg0.N) (y) : k0_pay2 (k0_pay3 (iblk m c 0 t) (iblk m c 2 t) (iblk m c 1 t) (iblk m c 3 t) (iblk m c 4 t)) (iblk m c 5 t) (iblk m c 6 t) y
    = Modulate.result (LayerNorm.result (m ((c : Thread nD τ).loc main_arg0)) (m ((c : Thread nD τ).loc main_arg1)) (m ((c : Thread nD τ).loc main_arg2))
      (m ((c : Thread nD τ).loc main_arg3)) (m ((c : Thread nD τ).loc main_arg4))) (m ((c : Thread nD τ).loc main_arg5)) (m ((c : Thread nD τ).loc main_arg6)) (((cfg0.win 8).blk t).view.emb y) := by
  idx_vars y
  obtain rfl : y0 = 0 := Subsingleton.elim _ _
  have := lt_N t
  have p : ((cfg0.win 7).blk t).view.emb (ix3 0 y1 y2) = ix3 ⟨t.val / 8, by omega⟩ ⟨t.val % 8 * 256 + y1.val, by omega⟩ y2 := by blk_ext [idx t]
  have q : ((cfg0.win 8).blk t).view.emb (ix3 0 y1 y2) = ix3 ⟨t.val / 8, by omega⟩ ⟨t.val % 8 * 256 + y1.val, by omega⟩ y2 := by blk_ext [idx t]
  rw [q]
  refine (pay' _ _ _ y1 y2).trans ?_
  have e := (point m c t (ix3 0 y1 y2)).trans (congrArg _ p)
  simp only [e, u_read m c t y2 (by omega), v_read m c t y2 (by omega)]
  rfl

/-- The first result array after the run is the normalised residual. -/
theorem final (c : Dev nD) : (dats m 0 c).arrAt 7 (cfgs 0).N
    = LayerNorm.result (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 7 _ (by decide +kernel) fun t _ y => ?_
  blk_simp
  rw [after0_7]
  unfold_out out0_7
  frame_out
  exact point m c t y

/-- The second result array after the run is the modulated residual. -/
theorem final' (c : Dev nD) : (dats m 0 c).arrAt 8 (cfgs 0).N
    = Modulate.result (LayerNorm.result (m ((c : Thread nD τ).loc main_arg0)) (m ((c : Thread nD τ).loc main_arg1)) (m ((c : Thread nD τ).loc main_arg2))
      (m ((c : Thread nD τ).loc main_arg3)) (m ((c : Thread nD τ).loc main_arg4))) (m ((c : Thread nD τ).loc main_arg5)) (m ((c : Thread nD τ).loc main_arg6)) := by
  refine (dats m 0 c).arrAt_eq_of_covers 8 _ (by decide +kernel) fun t _ y => ?_
  blk_simp
  rw [after0_8]
  unfold_out out0_8
  frame_out
  exact point' m c t y

end Cert.Proof.NormModKernel

namespace Cert.Proof.NormModSampleKernel

open Cert.Kernel45Ideal Cert.Kernel45Ideal.Gen

variable (m : (ℓ : Loc nD τ sig) → Buf (Elt Ideal) ℓ)

/-- The windows' block indices at grid point `t`: the one block. -/
theorem idx : ∀ t : Fin cfg0.N, win0_0.index t = ![t.val, 0, 0] ∧ win0_1.index t = ![t.val, 0, 0] ∧ win0_2.index t = ![t.val, 0, 0] ∧ win0_3.index t = ![0, 0] ∧ win0_4.index t = ![0, 0] ∧ win0_5.index t = ![t.val, 0, 0] ∧ win0_6.index t = ![t.val, 0, 0] ∧ win0_7.index t = ![t.val, 0, 0] ∧ win0_8.index t = ![t.val, 0, 0] :=
  (by decide +kernel : ∀ t : Fin grid0.N, win0_0.index t = ![t.val, 0, 0] ∧ win0_1.index t = ![t.val, 0, 0] ∧ win0_2.index t = ![t.val, 0, 0] ∧ win0_3.index t = ![0, 0] ∧ win0_4.index t = ![0, 0] ∧ win0_5.index t = ![t.val, 0, 0] ∧ win0_6.index t = ![t.val, 0, 0] ∧ win0_7.index t = ![t.val, 0, 0] ∧ win0_8.index t = ![t.val, 0, 0])

theorem lt_N (t : Fin cfg0.N) : t.val < 1 := t.isLt

/-- The input's block at `t`. -/
theorem x_read (c : Dev nD) (t : Fin cfg0.N) (r : Fin 128) (k : Fin 4096) :
    iblk m c 0 t (ix3 0 r k) = m ((c : Thread nD τ).loc main_arg0) (ix3 0 r k) := by
  have := lt_N t
  blk_ext [iblk, V, idx t]

/-- The feed-forward part's block at `t`. -/
theorem f_read (c : Dev nD) (t : Fin cfg0.N) (r : Fin 128) (k : Fin 4096) :
    iblk m c 1 t (ix3 0 r k) = m ((c : Thread nD τ).loc main_arg1) (ix3 0 r k) := by
  have := lt_N t
  blk_ext [iblk, V, idx t]

/-- The gate's block at `t`. -/
theorem s_read (c : Dev nD) (t : Fin cfg0.N) (r : Fin 128) (k : Fin 4096) :
    iblk m c 2 t (ix3 0 r k) = m ((c : Thread nD τ).loc main_arg2) (ix3 0 r k) := by
  have := lt_N t
  blk_ext [iblk, V, idx t]

/-- The scale's block at `t`. -/
theorem u_read (c : Dev nD) (t : Fin cfg0.N) (r : Fin 128) (k : Fin 4096) :
    iblk m c 5 t (ix3 0 r k) = m ((c : Thread nD τ).loc main_arg5) (ix3 0 r k) := by
  have := lt_N t
  blk_ext [iblk, V, idx t]

/-- The shift's block at `t`. -/
theorem v_read (c : Dev nD) (t : Fin cfg0.N) (r : Fin 128) (k : Fin 4096) :
    iblk m c 6 t (ix3 0 r k) = m ((c : Thread nD τ).loc main_arg6) (ix3 0 r k) := by
  have := lt_N t
  blk_ext [iblk, V, idx t]

/-- The gain is read as it is. -/
theorem g_entry (c : Dev nD) (k : Fin 4096) : V m c main_v0 (ix2 0 k) = m ((c : Thread nD τ).loc main_arg3) (ix1 k) := by
  entry_read
  pointwise []

/-- The offset is read as it is. -/
theorem b_entry (c : Dev nD) (k : Fin 4096) : V m c main_v1 (ix2 0 k) = m ((c : Thread nD τ).loc main_arg4) (ix1 k) := by
  entry_read
  pointwise []

/-- The gain at every grid point. -/
theorem g_read (c : Dev nD) (t : Fin cfg0.N) (k : Fin 4096) : iblk m c 3 t (ix2 0 k) = m ((c : Thread nD τ).loc main_arg3) (ix1 k) :=
  (by blk_ext [iblk, idx t] : iblk m c 3 t (ix2 0 k) = V m c main_v0 (ix2 0 k)).trans (g_entry m c k)

/-- The offset at every grid point. -/
theorem b_read (c : Dev nD) (t : Fin cfg0.N) (k : Fin 4096) : iblk m c 4 t (ix2 0 k) = m ((c : Thread nD τ).loc main_arg4) (ix1 k) :=
  (by blk_ext [iblk, idx t] : iblk m c 4 t (ix2 0 k) = V m c main_v1 (ix2 0 k)).trans (b_entry m c k)

/-- What the body computes of a block before the modulation, entry by entry. -/
theorem pay (x f : FVec Ideal S1x128x4096 .f32) (s : FVec Ideal S1x128x4096 .f32) (g b : FVec Ideal S1x4096 .f32) (r : Fin 128) (k : Fin 4096) :
    (k0_pay1 (F := Ideal) (k0_pay3 x s f g b) (ix3 0 r k) : EReal) = LayerNorm.row (fun a => x (ix3 0 r a)) (fun a => f (ix3 0 r a)) (fun a => s (ix3 0 r a))
      (fun a => g (ix2 0 a)) (fun a => b (ix2 0 a)) k := by
  pointwise [k0_pay1, k0_pay3, LayerNorm.row, LayerNorm.scaled, LayerNorm.centred, LayerNorm.residual]

/-- What the body computes of a block after it, entry by entry. -/
theorem pay' (z : FVec Ideal S128x4096 .f32) (u v : FVec Ideal S1x128x4096 .f32) (r : Fin 128) (k : Fin 4096) :
    (k0_pay2 (F := Ideal) z u v (ix3 0 r k) : EReal) = Modulate.entry (k0_pay1 (F := Ideal) z (ix3 0 r k)) (u (ix3 0 r k)) (v (ix3 0 r k)) := by
  pointwise [k0_pay1, k0_pay2, Modulate.entry]

/-- The normalised residual at index `y` of a block. -/
theorem point (c : Dev nD) (t : Fin cfg0.N) (y) : k0_pay1 (k0_pay3 (iblk m c 0 t) (iblk m c 2 t) (iblk m c 1 t) (iblk m c 3 t) (iblk m c 4 t)) y
    = LayerNorm.sample (m ((c : Thread nD τ).loc main_arg0)) (m ((c : Thread nD τ).loc main_arg1)) (m ((c : Thread nD τ).loc main_arg2))
      (m ((c : Thread nD τ).loc main_arg3)) (m ((c : Thread nD τ).loc main_arg4)) (((cfg0.win 7).blk t).view.emb y) := by
  idx_vars y
  obtain rfl : y0 = 0 := Subsingleton.elim _ _
  have := lt_N t
  have p : ((cfg0.win 7).blk t).view.emb (ix3 0 y1 y2) = ix3 0 y1 y2 := by blk_ext [idx t]
  rw [p]
  refine (pay _ _ _ _ _ y1 y2).trans ?_
  simp only [funext fun a => x_read m c t y1 a, funext fun a => f_read m c t y1 a, funext fun a => s_read m c t y1 a, funext fun a => g_read m c t a,
    funext fun a => b_read m c t a]
  rfl

/-- The modulated residual at index `y` of a block. -/
theorem point' (c : Dev nD) (t : Fin cfg0.N) (y) : k0_pay2 (k0_pay3 (iblk m c 0 t) (iblk m c 2 t) (iblk m c 1 t) (iblk m c 3 t) (iblk m c 4 t)) (iblk m c 5 t) (iblk m c 6 t) y
    = Modulate.sample (LayerNorm.sample (m ((c : Thread nD τ).loc main_arg0)) (m ((c : Thread nD τ).loc main_arg1)) (m ((c : Thread nD τ).loc main_arg2))
      (m ((c : Thread nD τ).loc main_arg3)) (m ((c : Thread nD τ).loc main_arg4))) (m ((c : Thread nD τ).loc main_arg5)) (m ((c : Thread nD τ).loc main_arg6)) (((cfg0.win 8).blk t).view.emb y) := by
  idx_vars y
  obtain rfl : y0 = 0 := Subsingleton.elim _ _
  have := lt_N t
  have p : ((cfg0.win 7).blk t).view.emb (ix3 0 y1 y2) = ix3 0 y1 y2 := by blk_ext [idx t]
  have q : ((cfg0.win 8).blk t).view.emb (ix3 0 y1 y2) = ix3 0 y1 y2 := by blk_ext [idx t]
  rw [q]
  refine (pay' _ _ _ y1 y2).trans ?_
  have e := (point m c t (ix3 0 y1 y2)).trans (congrArg _ p)
  simp only [e, u_read m c t y1 y2, v_read m c t y1 y2]
  rfl

/-- The first result array after the run is the normalised residual. -/
theorem final (c : Dev nD) : (dats m 0 c).arrAt 7 (cfgs 0).N
    = LayerNorm.sample (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 7 _ (by decide +kernel) fun t _ y => ?_
  blk_simp
  rw [after0_7]
  unfold_out out0_7
  frame_out
  exact point m c t y

/-- The second result array after the run is the modulated residual. -/
theorem final' (c : Dev nD) : (dats m 0 c).arrAt 8 (cfgs 0).N
    = Modulate.sample (LayerNorm.sample (m ((c : Thread nD τ).loc main_arg0)) (m ((c : Thread nD τ).loc main_arg1)) (m ((c : Thread nD τ).loc main_arg2))
      (m ((c : Thread nD τ).loc main_arg3)) (m ((c : Thread nD τ).loc main_arg4))) (m ((c : Thread nD τ).loc main_arg5)) (m ((c : Thread nD τ).loc main_arg6)) := by
  refine (dats m 0 c).arrAt_eq_of_covers 8 _ (by decide +kernel) fun t _ y => ?_
  blk_simp
  rw [after0_8]
  unfold_out out0_8
  frame_out
  exact point' m c t y

end Cert.Proof.NormModSampleKernel
-- ==== Proof.Cumsum.lean ====
/-
  The sums of the log forget gates along the sequence: what they are, entry by entry, and that the reference returns them.

  The reference sums a window of 2048 positions that ends at the entry's own; the positions before the sequence hold 0.
-/
module

public import proofs.«01_k».proof.Proof.Gen.Reference48Ideal.Run
public import Idealize.ShloMosaic.Lib.Pointwise

@[expose] public section

set_option maxRecDepth 16384

noncomputable section

open Idealize.ShloMosaic Idealize.ShloMosaic.TcCoe Idealize.SL.Sem Idealize.ShloMosaic.StableHlo

namespace Cert.Proof.Cumsum

/-- The gates of sequence `i` and head `h` by position, 0 past the end. -/
def col {n : ℕ} (x : FVec Ideal ⟨3, ![n, 2048, 32]⟩ .f32) (i : Fin n) (h : Fin 32) (k : ℕ) : EReal :=
  if hk : k < 2048 then x (ix3 i ⟨k, hk⟩ h) else 0

/-- Every entry is the sum of the gates up to and with its position. -/
def result {n : ℕ} (x : FVec Ideal ⟨3, ![n, 2048, 32]⟩ .f32) : FVec Ideal ⟨3, ![n, 2048, 32]⟩ .f32 := fun j =>
  ∑ k ∈ Finset.range ((j 1).val + 1), col x (j 0) (j 2) k

/-- Adding up a list from a first value is that value and the sum of the list. -/
theorem fold_add {ι : Type} (g : ι → EReal) (l : List ι) (v : EReal) : l.foldl (fun r n => r + g n) v = v + (l.map g).sum := by
  induction l generalizing v with
  | nil => simp
  | cons a l ih => rw [List.foldl_cons, ih, List.map_cons, List.sum_cons, add_assoc]

/-- A window has one position per place in the sequence. -/
theorem sum_window (g : (⟨3, ![1, 2048, 1]⟩ : Shape).Idx → EReal) : ∑ w, g w = ∑ k : Fin 2048, g (ix3 0 k 0) := by
  refine Fintype.sum_equiv ⟨fun w => w 1, fun k => ix3 0 k 0, fun w => ?_, fun k => rfl⟩ _ _ fun w => congrArg g ?_
  all_goals
    idx_vars w
    obtain rfl : w0 = 0 := Subsingleton.elim _ _
    obtain rfl : w2 = 0 := Subsingleton.elim _ _
    rfl

/-- The window that ends at position `t` sums the positions up to `t`. -/
theorem sum_upto (f : ℕ → EReal) (t : ℕ) (ht : t < 2048) :
    ∑ k : Fin 2048, (if 2047 ≤ t + k.val then f (t + k.val - 2047) else 0) = ∑ k ∈ Finset.range (t + 1), f k := by
  rw [Fin.sum_univ_eq_sum_range (fun k => if 2047 ≤ t + k then f (t + k - 2047) else 0) 2048, show 2048 = (2047 - t) + (t + 1) by omega, Finset.sum_range_add]
  rw [Finset.sum_eq_zero fun k hk => if_neg (by have := Finset.mem_range.1 hk; omega), zero_add]
  refine Finset.sum_congr rfl fun k _ => ?_
  rw [if_pos (by omega), show t + (2047 - t + k) - 2047 = k by omega]

end Cert.Proof.Cumsum

namespace Cert.Proof.CumsumReference

open Cert.Reference48Ideal Cert.Reference48Ideal.Gen

/-- What a window holds at its position `w`: a gate, or 0 before the sequence. -/
theorem window (x : FVec Ideal S4x2048x32 .f32) (j0 : Fin 4) (j1 : Fin 2048) (j2 : Fin 32) (w : (⟨3, ![1, 2048, 1]⟩ : Shape).Idx)
    (_d : Decidable (∀ a : Fin 3, (![0, 2047, 0] : Fin 3 → ℕ) a ≤ (ix3 j0 j1 j2 a).val * (![1, 1, 1] : Fin 3 → ℕ) a + (w a).val
        ∧ (ix3 j0 j1 j2 a).val * (![1, 1, 1] : Fin 3 → ℕ) a + (w a).val - (![0, 2047, 0] : Fin 3 → ℕ) a < S4x2048x32.size a)) :
    (if hin : ∀ a : Fin 3, (![0, 2047, 0] : Fin 3 → ℕ) a ≤ (ix3 j0 j1 j2 a).val * (![1, 1, 1] : Fin 3 → ℕ) a + (w a).val
        ∧ (ix3 j0 j1 j2 a).val * (![1, 1, 1] : Fin 3 → ℕ) a + (w a).val - (![0, 2047, 0] : Fin 3 → ℕ) a < S4x2048x32.size a
      then x fun a => ⟨(ix3 j0 j1 j2 a).val * (![1, 1, 1] : Fin 3 → ℕ) a + (w a).val - (![0, 2047, 0] : Fin 3 → ℕ) a, (hin a).2⟩ else (0 : EReal))
      = if 2047 ≤ j1.val + (w 1).val then Cumsum.col x j0 j2 (j1.val + (w 1).val - 2047) else 0 := by
  have w0 : (w 0).val < 1 := (w 0).isLt
  have w1 : (w 1).val < 2048 := (w 1).isLt
  have w2 : (w 2).val < 1 := (w 2).isLt
  have k1 := j1.isLt
  by_cases h : 2047 ≤ j1.val + (w 1).val
  · rw [if_pos h, dif_pos (fun a => by
      match a with
      | ⟨0, _⟩ => exact ⟨Nat.zero_le _, by change j0.val * 1 + (w 0).val - 0 < 4; omega⟩
      | ⟨1, _⟩ => exact ⟨by change 2047 ≤ j1.val * 1 + (w 1).val; omega, by change j1.val * 1 + (w 1).val - 2047 < 2048; omega⟩
      | ⟨2, _⟩ => exact ⟨Nat.zero_le _, by change j2.val * 1 + (w 2).val - 0 < 32; omega⟩)]
    unfold Cumsum.col
    rw [dif_pos (by omega)]
    refine congrArg x (funext fun a => Fin.ext ?_)
    match a with
    | ⟨0, _⟩ => change j0.val * 1 + (w 0).val - 0 = j0.val; omega
    | ⟨1, _⟩ => change j1.val * 1 + (w 1).val - 2047 = j1.val + (w 1).val - 2047; omega
    | ⟨2, _⟩ => change j2.val * 1 + (w 2).val - 0 = j2.val; omega
  · rw [if_neg h, dif_neg fun hin => h ?_]
    have h1 := (hin 1).1
    change 2047 ≤ j1.val * 1 + (w 1).val at h1
    omega

/-- The reference returns the sums. -/
theorem ref (x : FVec Ideal S4x2048x32 .f32) :
    (Host.reduceWindowAdd ![1, 2048, 1] ![1, 1, 1] ![0, 2047, 0] ![0, 0, 0] x (broadcastInDim S_ ![] bcast_S_S_ (constant S_ .f32 0x00000000#32))
      reduceWindows_S4x2048x32_S4x2048x32_w1s1p0_0_w2048s1p2047_0_w1s1p0_0 h_S_ : FVec Ideal S4x2048x32 .f32) = Cumsum.result x := by
  funext j
  idx_vars j
  have hz : (broadcastInDim S_ ![] bcast_S_S_ (constant S_ .f32 0x00000000#32) : FVec Ideal S_ .f32) (Shape.Idx.first h_S_) = (0 : EReal) := by
    pointwise []
  unfold Host.reduceWindowAdd
  rw [hz, Ideal.hostReduceWindowAdd_def]
  unfold Ideal.hostReduceWindowAdd Host.reduceWindow
  dsimp only
  refine (Cumsum.fold_add _ _ _).trans ?_
  rw [zero_add]
  refine (Fin.sum_univ_def _).symm.trans ?_
  refine (Finset.sum_congr rfl fun n _ => window x j0 j1 j2 ((⟨3, ![1, 2048, 1]⟩ : Shape).rowMajor.symm n) _).trans ?_
  refine (Equiv.sum_comp (⟨3, ![1, 2048, 1]⟩ : Shape).rowMajor.symm (fun w =>
    if 2047 ≤ j1.val + (w 1).val then Cumsum.col x j0 j2 (j1.val + (w 1).val - 2047) else 0)).trans ?_
  rw [Cumsum.sum_window]
  exact Cumsum.sum_upto _ _ j1.isLt

end Cert.Proof.CumsumReference
-- ==== Proof.CumsumValue.lean ====
/-
  The sums of the log forget gates along the sequence: what the pipelined kernel leaves in its result array.

  A block is a whole sequence. The body goes through it by 16 rows of 128 positions: each is multiplied by a triangle of ones,
  which sums it up to each position, and the last sums of the rows before are added.
-/
module

public import proofs.«01_k».proof.Proof.Cumsum
public import proofs.«01_k».proof.Proof.Gen.Kernel48Ideal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem Idealize.ShloMosaic.StableHlo
open Idealize.ShloMosaic.Pipeline (Dat)

namespace Cert.Proof.CumsumKernel

open Cert.Kernel48Ideal Cert.Kernel48Ideal.Gen

variable (m : (ℓ : Loc nD τ sig) → Buf (Elt Ideal) ℓ)

/-- The windows' block indices at grid point `t`, which is the sequence. -/
theorem idx : ∀ t : Fin cfg0.N, win0_0.index t = ![t.val, 0, 0] ∧ win0_1.index t = ![t.val, 0, 0] :=
  (by decide +kernel : ∀ t : Fin grid0.N, win0_0.index t = ![t.val, 0, 0] ∧ win0_1.index t = ![t.val, 0, 0])

theorem lt_N (t : Fin cfg0.N) : t.val < 4 := t.isLt

/-- The comparison of the two positions, as a word. -/
theorem below : ∀ r k : Fin 128, BitVec.setWidth 32 (IntOp.cmpi CmpIPredicate.sle (BitVec.ofNat 32 k.val) (BitVec.ofNat 32 r.val)) = if k.val ≤ r.val then 1#32 else 0#32 := by
  decide +kernel

/-- The triangle: 1 up to the diagonal, 0 past it. -/
theorem tri (r k : Fin 128) : (k0_pay5 (F := Ideal) (ix2 r k) : EReal) = if k.val ≤ r.val then 1 else 0 := by
  pointwise [k0_pay5]
  rw [below r k]
  split
  · show (((1#32 : BitVec 32).toInt : ℝ) : EReal) = 1
    simp
  · show (((0#32 : BitVec 32).toInt : ℝ) : EReal) = 0
    simp

/-- The rows from position `o` on hold the sums. -/
def Good (f : Fin 32 → ℕ → EReal) (o : ℕ) (z : FVec Ideal S128x32 .f32) : Prop :=
  ∀ (r : Fin 128) (k : Fin 32), (z (ix2 r k) : EReal) = ∑ i ∈ Finset.range (o + r.val + 1), f k i

/-- The sums before position `o`. -/
def Row (f : Fin 32 → ℕ → EReal) (o : ℕ) (w : FVec Ideal S1x32 .f32) : Prop :=
  ∀ k : Fin 32, (w (ix2 0 k) : EReal) = ∑ i ∈ Finset.range o, f k i

/-- The last of 128 sums are those before the next rows. -/
theorem row {f : Fin 32 → ℕ → EReal} {o : ℕ} {z : FVec Ideal S128x32 .f32} (h : Good f o z) :
    Row f (o + 128) (extractStridedSlice S1x32 ![127, 0] z slices_S128x32_o127_0_S1x32) := by
  intro k
  refine Eq.trans ?_ (h 127 k)
  pointwise []

/-- Before the first position the sums are 0. -/
theorem row_zero (f : Fin 32 → ℕ → EReal) : Row f 0 (broadcast S1x32 (Scalar.ofBits (F := Ideal) .f32 0x00000000#32)) := by
  intro k
  rw [Finset.range_zero, Finset.sum_empty]
  pointwise []

/-- One step: the product with the triangle and the sums before it are the sums of these rows. -/
theorem step {f : Fin 32 → ℕ → EReal} {o : ℕ} {w : FVec Ideal S1x32 .f32} {v : FVec Ideal S1x128x32 .f32} (h : Row f o w)
    (hv : ∀ (a : Fin 128) (k : Fin 32), (v (ix3 0 a k) : EReal) = f k (o + a.val)) :
    Good f o (addf (matmul dot_S128x128_S128x32_S128x32_1_0_0_1_n_n (some .fp32) (k0_pay5 (F := Ideal)) (shapeCast S128x32 v shapeCasts_S1x128x32_S128x32)
      (constant S128x32 .f32 0x00000000#32)) (broadcastTo S128x32 w broadcasts_S1x32_S128x32)) := by
  intro r k
  have e : ∑ a : Fin 128, (k0_pay5 (F := Ideal) (ix2 r a) : EReal) * v (ix3 0 a k) = ∑ i ∈ Finset.range (r.val + 1), f k (o + i) := by
    simp only [tri, hv]
    rw [Fin.sum_univ_eq_sum_range (fun a => (if a ≤ r.val then (1 : EReal) else 0) * f k (o + a)) 128]
    have hr : 128 = (r.val + 1) + (127 - r.val) := by omega
    rw [congrArg Finset.range hr, Finset.sum_range_add]
    rw [Finset.sum_eq_zero (s := Finset.range (127 - r.val)) fun a _ => by rw [if_neg (by omega), zero_mul], add_zero]
    exact Finset.sum_congr rfl fun a ha => by rw [if_pos (by have := Finset.mem_range.1 ha; omega), one_mul]
  rw [show o + r.val + 1 = o + (r.val + 1) by omega, Finset.sum_range_add, ← h k, ← e, add_comm]
  pointwise []

/-- A row of the block, read at its place. -/
theorem ld_read (x : Vec Ideal S1x2048x32 .f32) (o : ℕ) (inb : ∀ a, (![0, o, 0] : Fin 3 → ℕ) a + S1x128x32.size a ≤ S1x2048x32.size a) (a : Fin 128) (k : Fin 32) :
    (View.ld x (Rect.unit (s := S1x2048x32) ![0, o, 0] S1x128x32.size inb) (ix3 0 a k) : EReal) = Cumsum.col x 0 k (o + a.val) := by
  have h1 := inb 1
  change o + 128 ≤ 2048 at h1
  unfold Cumsum.col
  rw [dif_pos (by omega)]
  refine congrArg x (funext fun b => Fin.ext ?_)
  match b with
  | ⟨0, _⟩ => rfl
  | ⟨1, _⟩ => simp [Rect.unit]
  | ⟨2, _⟩ => simp [Rect.unit]

/-- What a store of a row of sums holds at index `y` of its rectangle. -/
theorem store {x : Vec Ideal S1x2048x32 .f32} {o : ℕ} {z : FVec Ideal S128x32 .f32} (h : Good (Cumsum.col x 0) o z)
    (inb : ∀ a, (![0, o, 0] : Fin 3 → ℕ) a + S1x128x32.size a ≤ S1x2048x32.size a) (y : S1x128x32.Idx) :
    shapeCast S1x128x32 z shapeCasts_S128x32_S1x128x32 y = Cumsum.result x ((Rect.unit (s := S1x2048x32) ![0, o, 0] S1x128x32.size inb).emb y) := by
  idx_vars y
  obtain rfl : y0 = 0 := Subsingleton.elim _ _
  have h1 := inb 1
  change o + 128 ≤ 2048 at h1
  have p : (Rect.unit (s := S1x2048x32) ![0, o, 0] S1x128x32.size inb).emb (ix3 0 y1 y2) = ix3 0 ⟨o + y1.val, by omega⟩ y2 := by
    funext b
    refine Fin.ext ?_
    match b with
    | ⟨0, _⟩ => rfl
    | ⟨1, _⟩ => change o + 1 * y1.val = o + y1.val; omega
    | ⟨2, _⟩ => change 0 + 1 * y2.val = y2.val; omega
  rw [p]
  refine Eq.trans ?_ (h y1 y2)
  pointwise []

/-- The body leaves the sums of its block. -/
theorem block (x : Vec Ideal S1x2048x32 .f32) (y : S1x2048x32.Idx) : out0_1 x y = Cumsum.result x y := by
  have g0 : Good (Cumsum.col x 0) 0 (k0_pay6 (View.ld x r0_0)) := step (row_zero _) (ld_read x 0 _)
  have g1 : Good (Cumsum.col x 0) 128 (k0_pay8 (View.ld x r0_0) (View.ld x r0_1)) := step (row g0) (ld_read x 128 _)
  have g2 : Good (Cumsum.col x 0) 256 (k0_pay10 (View.ld x r0_0) (View.ld x r0_1) (View.ld x r0_2)) := step (row g1) (ld_read x 256 _)
  have g3 : Good (Cumsum.col x 0) 384 (k0_pay13 (k0_pay5 (F := Ideal)) (k0_pay12 (View.ld x r0_0) (View.ld x r0_1) (View.ld x r0_2)) (View.ld x r0_3)) := step (row g2) (ld_read x 384 _)
  have g4 : Good (Cumsum.col x 0) 512 (k0_pay15 (k0_pay5 (F := Ideal)) (k0_pay12 (View.ld x r0_0) (View.ld x r0_1) (View.ld x r0_2)) (View.ld x r0_3) (View.ld x r0_4)) := step (row g3) (ld_read x 512 _)
  have g5 : Good (Cumsum.col x 0) 640 (k0_pay17 (k0_pay5 (F := Ideal)) (k0_pay12 (View.ld x r0_0) (View.ld x r0_1) (View.ld x r0_2)) (View.ld x r0_3) (View.ld x r0_4) (View.ld x r0_5)) := step (row g4) (ld_read x 640 _)
  have g6 : Good (Cumsum.col x 0) 768 (k0_pay19 (k0_pay5 (F := Ideal)) (k0_pay12 (View.ld x r0_0) (View.ld x r0_1) (View.ld x r0_2)) (View.ld x r0_3) (View.ld x r0_4) (View.ld x r0_5) (View.ld x r0_6)) := step (row g5) (ld_read x 768 _)
  have g7 : Good (Cumsum.col x 0) 896 (k0_pay21 (k0_pay5 (F := Ideal)) (k0_pay37 x) (View.ld x r0_7)) := step (row g6) (ld_read x 896 _)
  have g8 : Good (Cumsum.col x 0) 1024 (k0_pay23 (k0_pay5 (F := Ideal)) (k0_pay37 x) (View.ld x r0_7) (View.ld x r0_8)) := step (row g7) (ld_read x 1024 _)
  have g9 : Good (Cumsum.col x 0) 1152 (k0_pay25 (k0_pay5 (F := Ideal)) (k0_pay37 x) (View.ld x r0_7) (View.ld x r0_8) (View.ld x r0_9)) := step (row g8) (ld_read x 1152 _)
  have g10 : Good (Cumsum.col x 0) 1280 (k0_pay28 (k0_pay5 (F := Ideal)) (k0_pay38 x) (View.ld x r0_10)) := step (row g9) (ld_read x 1280 _)
  have g11 : Good (Cumsum.col x 0) 1408 (k0_pay30 (k0_pay5 (F := Ideal)) (k0_pay38 x) (View.ld x r0_10) (View.ld x r0_11)) := step (row g10) (ld_read x 1408 _)
  have g12 : Good (Cumsum.col x 0) 1536 (k0_pay32 (k0_pay5 (F := Ideal)) (k0_pay38 x) (View.ld x r0_10) (View.ld x r0_11) (View.ld x r0_12)) := step (row g11) (ld_read x 1536 _)
  have g13 : Good (Cumsum.col x 0) 1664 (k0_pay34 (k0_pay5 (F := Ideal)) (k0_pay38 x) (View.ld x r0_10) (View.ld x r0_11) (View.ld x r0_12) (View.ld x r0_13)) := step (row g12) (ld_read x 1664 _)
  have g14 : Good (Cumsum.col x 0) 1792 (k0_pay2 (k0_pay5 (F := Ideal)) (k0_pay39 x) (View.ld x r0_14)) := step (row g13) (ld_read x 1792 _)
  unfold out0_1
  refine View.canon_apply_of_pieces (Val := Elt Ideal) (Cumsum.result x) _ ?_ y (cover0_1 _ _ _ _ _ _ _ _ _ _ _ _ _ _ _ _ y)
  intro p hp
  simp only [List.mem_cons, List.not_mem_nil, or_false] at hp
  obtain rfl | rfl | rfl | rfl | rfl | rfl | rfl | rfl | rfl | rfl | rfl | rfl | rfl | rfl | rfl | rfl := hp
  · exact store (step (row g14) (ld_read x 1920 inb_S1x2048x32_S1x128x32_0_1920_0)) inb_S1x2048x32_S1x128x32_0_1920_0
  · exact store g14 inb_S1x2048x32_S1x128x32_0_1792_0
  · exact store g13 inb_S1x2048x32_S1x128x32_0_1664_0
  · exact store g12 inb_S1x2048x32_S1x128x32_0_1536_0
  · exact store g11 inb_S1x2048x32_S1x128x32_0_1408_0
  · exact store g10 inb_S1x2048x32_S1x128x32_0_1280_0
  · exact store g9 inb_S1x2048x32_S1x128x32_0_1152_0
  · exact store g8 inb_S1x2048x32_S1x128x32_0_1024_0
  · exact store g7 inb_S1x2048x32_S1x128x32_0_896_0
  · exact store g6 inb_S1x2048x32_S1x128x32_0_768_0
  · exact store g5 inb_S1x2048x32_S1x128x32_0_640_0
  · exact store g4 inb_S1x2048x32_S1x128x32_0_512_0
  · exact store g3 inb_S1x2048x32_S1x128x32_0_384_0
  · exact store g2 inb_S1x2048x32_S1x128x32_0_256_0
  · exact store g1 inb_S1x2048x32_S1x128x32_0_128_0
  · exact store g0 inb_S1x2048x32_S1x128x32_0_0_0

/-- The block at `t` is sequence `t`. -/
theorem x_read (c : Dev nD) (t : Fin cfg0.N) (r : Fin 2048) (k : Fin 32) (h : t.val < 4) :
    iblk m c 0 t (ix3 0 r k) = m ((c : Thread nD τ).loc main_arg0) (ix3 ⟨t.val, h⟩ r k) := by
  blk_ext [iblk, V, idx t]

/-- What the body leaves at index `y` of its block is the sum at the place of `y` in the array. -/
theorem point (c : Dev nD) (t : Fin cfg0.N) (y) : out0_1 (iblk m c 0 t) y
    = Cumsum.result (m ((c : Thread nD τ).loc main_arg0)) (((cfg0.win 1).blk t).view.emb y) := by
  idx_vars y
  obtain rfl : y0 = 0 := Subsingleton.elim _ _
  have ht := lt_N t
  have p : ((cfg0.win 1).blk t).view.emb (ix3 0 y1 y2) = ix3 ⟨t.val, ht⟩ y1 y2 := by blk_ext [idx t]
  rw [p]
  refine (block _ _).trans ?_
  refine Finset.sum_congr rfl fun k _ => ?_
  unfold Cumsum.col
  split
  · exact x_read m c t _ _ ht
  · rfl

/-- The result array after the run holds the sums. -/
theorem final (c : Dev nD) : (dats m 0 c).arrAt 1 (cfgs 0).N = Cumsum.result (m ((c : Thread nD τ).loc main_arg0)) := by
  refine (dats m 0 c).arrAt_eq_of_covers 1 _ (by decide +kernel) fun t _ y => ?_
  blk_simp
  rw [after0_1]
  exact point m c t y

end Cert.Proof.CumsumKernel
-- ==== Proof.lean ====
/- The claims about the forty-eight calls: each program runs to its end, reading it over the extended reals rewrote
   nothing, and there the kernel's results are the reference's. The value arguments are in S5Kernel and
   S5Reference, AttnKernel and AttnReference, GluValue and GluValue2, WinValue, OutValue, FoxProj, FoxKv, FoxGate,
   GateReference and ProjReference, FoxKernel and FoxReference, PeerValue, LatentValue, QueryUp, FoxKvSample, GateSample, Modulation,
   ProjReference2, RmsNorm and RmsValue, Rope and RopeValue, LayerNorm and NormValue, SampleProj and
   SampleReference, SampleGlu and SampleQuery, RopeSampleQuery, HeadMm, Modulate,
   ModulateValue and NormModValue, Cumsum and CumsumValue. -/
module

public import proofs.«01_k».proof.Defs
public import proofs.«01_k».proof.Proof.Gen.KernelIdeal.Value
public import proofs.«01_k».proof.Proof.Gen.Kernel2Ideal.Value
public import proofs.«01_k».proof.Proof.Gen.Kernel3Ideal.Value
public import proofs.«01_k».proof.Proof.Gen.Reference2Ideal.Run
public import proofs.«01_k».proof.Proof.Gen.Reference3Ideal.Run
public import proofs.«01_k».proof.Proof.GluValue
public import proofs.«01_k».proof.Proof.AttnKernel
public import proofs.«01_k».proof.Proof.AttnReference
public import proofs.«01_k».proof.Proof.AttnPre
public import proofs.«01_k».proof.Proof.S5Kernel
public import proofs.«01_k».proof.Proof.S5Reference
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Loops
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Loops
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import Idealize.ShloMosaic.Adequacy
public import Idealize.ShloMosaic.Init
public import proofs.«01_k».proof.Proof.Gen.Kernel4
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Kernel8
public import proofs.«01_k».proof.Proof.Gen.Kernel8.Frame
public import proofs.«01_k».proof.Proof.Gen.Kernel8Ideal.Value
public import proofs.«01_k».proof.Proof.Gen.Reference8Ideal.Run
public import proofs.«01_k».proof.Proof.GluValue2
public import proofs.«01_k».proof.Proof.WinValue
public import proofs.«01_k».proof.Proof.OutValue
public import proofs.«01_k».proof.Proof.FoxProj
public import proofs.«01_k».proof.Proof.FoxKv
public import proofs.«01_k».proof.Proof.FoxGate
public import proofs.«01_k».proof.Proof.GateReference
public import proofs.«01_k».proof.Proof.ProjReference
public import proofs.«01_k».proof.Proof.Gen.Kernel9
public import proofs.«01_k».proof.Proof.Gen.Kernel9.Frame
public import proofs.«01_k».proof.Proof.Gen.Kernel10
public import proofs.«01_k».proof.Proof.Gen.Kernel10.Frame
public import proofs.«01_k».proof.Proof.Gen.Reference9Ideal.Run
public import proofs.«01_k».proof.Proof.Gen.Reference10Ideal.Run
public import proofs.«01_k».proof.Proof.Gen.Kernel11
public import proofs.«01_k».proof.Proof.Gen.Kernel11.Frame
public import proofs.«01_k».proof.Proof.Gen.Kernel11Ideal.Value
public import proofs.«01_k».proof.Proof.Gen.Reference11Ideal.Run
public import proofs.«01_k».proof.Proof.Gen.Kernel12
public import proofs.«01_k».proof.Proof.Gen.Kernel12.Frame
public import proofs.«01_k».proof.Proof.Gen.Kernel12Ideal.Value
public import proofs.«01_k».proof.Proof.Gen.Reference12Ideal.Run
public import proofs.«01_k».proof.Proof.Gen.Kernel13
public import proofs.«01_k».proof.Proof.Gen.Kernel13.Frame
public import proofs.«01_k».proof.Proof.Gen.Kernel13Ideal.Value
public import proofs.«01_k».proof.Proof.Gen.Reference13Ideal.Run
public import proofs.«01_k».proof.Proof.Gen.Kernel14
public import proofs.«01_k».proof.Proof.Gen.Kernel14.Frame
public import proofs.«01_k».proof.Proof.Gen.Kernel14Ideal.Value
public import proofs.«01_k».proof.Proof.Gen.Reference14Ideal.Run
public import proofs.«01_k».proof.Proof.Gen.Kernel15
public import proofs.«01_k».proof.Proof.Gen.Kernel15.Frame
public import proofs.«01_k».proof.Proof.Gen.Kernel15Ideal.Value
public import proofs.«01_k».proof.Proof.Gen.Reference15Ideal.Run
public import proofs.«01_k».proof.Proof.Gen.Kernel16
public import proofs.«01_k».proof.Proof.Gen.Kernel16.Frame
public import proofs.«01_k».proof.Proof.Gen.Kernel16Ideal.Value
public import proofs.«01_k».proof.Proof.Gen.Reference16Ideal.Run
public import proofs.«01_k».proof.Proof.Gen.Kernel17
public import proofs.«01_k».proof.Proof.Gen.Kernel17.Frame
public import proofs.«01_k».proof.Proof.Gen.Kernel17Ideal.Value
public import proofs.«01_k».proof.Proof.Gen.Reference17Ideal.Run
public import proofs.«01_k».proof.Proof.Gen.Kernel18
public import proofs.«01_k».proof.Proof.Gen.Kernel18.Frame
public import proofs.«01_k».proof.Proof.Gen.Kernel18Ideal.Value
public import proofs.«01_k».proof.Proof.Gen.Reference18Ideal.Run
public import proofs.«01_k».proof.Proof.Gen.Kernel19
public import proofs.«01_k».proof.Proof.Gen.Kernel19.Frame
public import proofs.«01_k».proof.Proof.Gen.Kernel19Ideal.Value
public import proofs.«01_k».proof.Proof.Gen.Reference19Ideal.Run
public import proofs.«01_k».proof.Proof.Gen.Kernel20
public import proofs.«01_k».proof.Proof.Gen.Kernel20.Frame
public import proofs.«01_k».proof.Proof.Gen.Kernel20Ideal.Value
public import proofs.«01_k».proof.Proof.Gen.Reference20Ideal.Run
public import proofs.«01_k».proof.Proof.Gen.Kernel21
public import proofs.«01_k».proof.Proof.Gen.Kernel21.Frame
public import proofs.«01_k».proof.Proof.Gen.Kernel21Ideal.Value
public import proofs.«01_k».proof.Proof.Gen.Reference21Ideal.Run
public import proofs.«01_k».proof.Proof.Gen.Kernel22
public import proofs.«01_k».proof.Proof.Gen.Kernel22.Frame
public import proofs.«01_k».proof.Proof.Gen.Kernel22Ideal.Value
public import proofs.«01_k».proof.Proof.Gen.Reference22Ideal.Run
public import proofs.«01_k».proof.Proof.Gen.Kernel23
public import proofs.«01_k».proof.Proof.Gen.Kernel23.Frame
public import proofs.«01_k».proof.Proof.Gen.Kernel23Ideal.Value
public import proofs.«01_k».proof.Proof.Gen.Reference23Ideal.Run
public import proofs.«01_k».proof.Proof.Gen.Kernel24
public import proofs.«01_k».proof.Proof.Gen.Kernel24.Frame
public import proofs.«01_k».proof.Proof.Gen.Kernel24Ideal.Value
public import proofs.«01_k».proof.Proof.Gen.Reference24Ideal.Run
public import proofs.«01_k».proof.Proof.Gen.Kernel25
public import proofs.«01_k».proof.Proof.Gen.Kernel25.Frame
public import proofs.«01_k».proof.Proof.Gen.Kernel25Ideal.Value
public import proofs.«01_k».proof.Proof.Gen.Reference25Ideal.Run
public import proofs.«01_k».proof.Proof.Gen.Kernel26
public import proofs.«01_k».proof.Proof.Gen.Kernel26.Frame
public import proofs.«01_k».proof.Proof.Gen.Kernel26Ideal.Value
public import proofs.«01_k».proof.Proof.Gen.Reference26Ideal.Run
public import proofs.«01_k».proof.Proof.Gen.Kernel27
public import proofs.«01_k».proof.Proof.Gen.Kernel27.Frame
public import proofs.«01_k».proof.Proof.Gen.Kernel27Ideal.Value
public import proofs.«01_k».proof.Proof.Gen.Reference27Ideal.Run
public import proofs.«01_k».proof.Proof.Gen.Kernel28
public import proofs.«01_k».proof.Proof.Gen.Kernel28.Frame
public import proofs.«01_k».proof.Proof.Gen.Kernel28Ideal.Value
public import proofs.«01_k».proof.Proof.Gen.Reference28Ideal.Run
public import proofs.«01_k».proof.Proof.PeerValue
public import proofs.«01_k».proof.Proof.LatentValue
public import proofs.«01_k».proof.Proof.FoxKvSample
public import proofs.«01_k».proof.Proof.ProjReference2
public import proofs.«01_k».proof.Proof.QueryUp
public import proofs.«01_k».proof.Proof.GateSample
public import proofs.«01_k».proof.Proof.Modulation
public import proofs.«01_k».proof.Proof.FoxKernel
public import proofs.«01_k».proof.Proof.FoxReference
public import proofs.«01_k».proof.Proof.FoxPre
public import proofs.«01_k».proof.Proof.RmsNorm
public import proofs.«01_k».proof.Proof.RmsValue
public import proofs.«01_k».proof.Proof.Rope
public import proofs.«01_k».proof.Proof.RopeValue
public import proofs.«01_k».proof.Proof.LayerNorm
public import proofs.«01_k».proof.Proof.NormValue
public import proofs.«01_k».proof.Proof.Gen.Kernel29
public import proofs.«01_k».proof.Proof.Gen.Kernel29.Frame
public import proofs.«01_k».proof.Proof.Gen.Kernel29Ideal.Value
public import proofs.«01_k».proof.Proof.Gen.Reference29Ideal.Run
public import proofs.«01_k».proof.Proof.Gen.Kernel30
public import proofs.«01_k».proof.Proof.Gen.Kernel30.Frame
public import proofs.«01_k».proof.Proof.Gen.Kernel30Ideal.Value
public import proofs.«01_k».proof.Proof.Gen.Reference30Ideal.Run
public import proofs.«01_k».proof.Proof.Gen.Kernel31
public import proofs.«01_k».proof.Proof.Gen.Kernel31.Frame
public import proofs.«01_k».proof.Proof.Gen.Kernel31Ideal.Value
public import proofs.«01_k».proof.Proof.Gen.Reference31Ideal.Run
public import proofs.«01_k».proof.Proof.Gen.Kernel32
public import proofs.«01_k».proof.Proof.Gen.Kernel32.Frame
public import proofs.«01_k».proof.Proof.Gen.Kernel32Ideal.Value
public import proofs.«01_k».proof.Proof.Gen.Reference32Ideal.Run
public import proofs.«01_k».proof.Proof.Gen.Kernel33
public import proofs.«01_k».proof.Proof.Gen.Kernel33.Frame
public import proofs.«01_k».proof.Proof.Gen.Kernel33Ideal.Value
public import proofs.«01_k».proof.Proof.Gen.Reference33Ideal.Run
public import proofs.«01_k».proof.Proof.Gen.Kernel34
public import proofs.«01_k».proof.Proof.Gen.Kernel34.Frame
public import proofs.«01_k».proof.Proof.Gen.Kernel34Ideal.Value
public import proofs.«01_k».proof.Proof.Gen.Reference34Ideal.Run
public import proofs.«01_k».proof.Proof.Gen.Kernel35
public import proofs.«01_k».proof.Proof.Gen.Kernel35.Frame
public import proofs.«01_k».proof.Proof.Gen.Kernel35Ideal.Value
public import proofs.«01_k».proof.Proof.Gen.Reference35Ideal.Run
public import proofs.«01_k».proof.Proof.Gen.Kernel36
public import proofs.«01_k».proof.Proof.Gen.Kernel36.Frame
public import proofs.«01_k».proof.Proof.Gen.Kernel36Ideal.Value
public import proofs.«01_k».proof.Proof.Gen.Reference36Ideal.Run
public import proofs.«01_k».proof.Proof.Gen.Kernel37
public import proofs.«01_k».proof.Proof.Gen.Kernel37.Frame
public import proofs.«01_k».proof.Proof.Gen.Kernel37Ideal.Value
public import proofs.«01_k».proof.Proof.Gen.Reference37Ideal.Run
public import proofs.«01_k».proof.Proof.Gen.Kernel38
public import proofs.«01_k».proof.Proof.Gen.Kernel38.Frame
public import proofs.«01_k».proof.Proof.Gen.Kernel38Ideal.Value
public import proofs.«01_k».proof.Proof.Gen.Reference38Ideal.Run
public import proofs.«01_k».proof.Proof.Gen.Kernel39
public import proofs.«01_k».proof.Proof.Gen.Kernel39.Frame
public import proofs.«01_k».proof.Proof.Gen.Kernel39Ideal.Value
public import proofs.«01_k».proof.Proof.Gen.Reference39Ideal.Run
public import proofs.«01_k».proof.Proof.Gen.Kernel40
public import proofs.«01_k».proof.Proof.Gen.Kernel40.Frame
public import proofs.«01_k».proof.Proof.Gen.Kernel40Ideal.Value
public import proofs.«01_k».proof.Proof.Gen.Reference40Ideal.Run
public import proofs.«01_k».proof.Proof.SampleProj
public import proofs.«01_k».proof.Proof.SampleReference
public import proofs.«01_k».proof.Proof.SampleGlu
public import proofs.«01_k».proof.Proof.SampleQuery
public import proofs.«01_k».proof.Proof.Gen.Kernel41
public import proofs.«01_k».proof.Proof.Gen.Kernel41.Frame
public import proofs.«01_k».proof.Proof.Gen.Kernel41Ideal.Value
public import proofs.«01_k».proof.Proof.Gen.Reference41Ideal.Run
public import proofs.«01_k».proof.Proof.Gen.Kernel42
public import proofs.«01_k».proof.Proof.Gen.Kernel42.Frame
public import proofs.«01_k».proof.Proof.Gen.Kernel42Ideal.Value
public import proofs.«01_k».proof.Proof.Gen.Reference42Ideal.Run
public import proofs.«01_k».proof.Proof.Gen.Kernel43
public import proofs.«01_k».proof.Proof.Gen.Kernel43.Frame
public import proofs.«01_k».proof.Proof.Gen.Kernel43Ideal.Value
public import proofs.«01_k».proof.Proof.Gen.Reference43Ideal.Run
public import proofs.«01_k».proof.Proof.Gen.Kernel44
public import proofs.«01_k».proof.Proof.Gen.Kernel44.Frame
public import proofs.«01_k».proof.Proof.Gen.Kernel44Ideal.Value
public import proofs.«01_k».proof.Proof.Gen.Reference44Ideal.Run
public import proofs.«01_k».proof.Proof.Gen.Kernel45
public import proofs.«01_k».proof.Proof.Gen.Kernel45.Frame
public import proofs.«01_k».proof.Proof.Gen.Kernel45Ideal.Value
public import proofs.«01_k».proof.Proof.Gen.Reference45Ideal.Run
public import proofs.«01_k».proof.Proof.Gen.Kernel46
public import proofs.«01_k».proof.Proof.Gen.Kernel46.Frame
public import proofs.«01_k».proof.Proof.Gen.Kernel46Ideal.Value
public import proofs.«01_k».proof.Proof.Gen.Reference46Ideal.Run
public import proofs.«01_k».proof.Proof.Gen.Kernel47
public import proofs.«01_k».proof.Proof.Gen.Kernel47.Frame
public import proofs.«01_k».proof.Proof.Gen.Kernel47Ideal.Value
public import proofs.«01_k».proof.Proof.Gen.Reference47Ideal.Run
public import proofs.«01_k».proof.Proof.Gen.Kernel48
public import proofs.«01_k».proof.Proof.Gen.Kernel48.Frame
public import proofs.«01_k».proof.Proof.Gen.Kernel48Ideal.Value
public import proofs.«01_k».proof.Proof.Gen.Reference48Ideal.Run
public import proofs.«01_k».proof.Proof.RopeSampleQuery
public import proofs.«01_k».proof.Proof.HeadMm
public import proofs.«01_k».proof.Proof.Modulate
public import proofs.«01_k».proof.Proof.ModulateValue
public import proofs.«01_k».proof.Proof.NormModValue
public import proofs.«01_k».proof.Proof.Cumsum
public import proofs.«01_k».proof.Proof.CumsumValue
public import Idealize.ShloMosaic.Lib.Claim
public import Idealize.ShloMosaic.Lib.StableHlo.RunHlo
public import Idealize.ShloMosaic.Lib.Quiescent

@[expose] public section

set_option maxRecDepth 16384

noncomputable section

namespace Cert.Proof

open Idealize.ShloMosaic Idealize.SL.Sem

/-- The recurrence step: the kernel runs to its end from every memory, leaves its arguments as they were and every semaphore at zero. -/
theorem frame_K : Cert.quiescent_Kernel := fun m ρ _ => Cert.Kernel.Gen.frame m ρ

/-- The recurrence step: the same of the kernel read over the extended reals. -/
theorem frame_KI : Cert.quiescent_KernelIdeal := fun m ρ _ => Cert.KernelIdeal.Gen.frame m ρ

/-- The recurrence step: the same of the reference read over the extended reals. -/
theorem frame_RI : Cert.quiescent_ReferenceIdeal := by
  intro m g _
  hlo_run
  · exact fun _ => by simp only [and_self]
  · exact sem_eq_zero_of_no_sems (by decide) _

/-- The recurrence step: reading the kernel over the extended reals rewrote nothing in it. -/
theorem preserves : Cert.preserves_Kernel_KernelIdeal := trivial

set_option maxHeartbeats 2000000 in
/-- The recurrence step: over the extended reals the kernel's three results are the reference's, for all arguments. -/
theorem algebraic : Cert.algebraic_KernelIdeal_ReferenceIdeal := by
  pair_intro
  · run_from Cert.KernelIdeal.Gen.run_main m g
  · refine θ_run_mono (S5Reference.run m' g') fun r h c => ?_
    have e : S5Reference.args m' c = S5Kernel.args m c := by
      obtain ⟨h0, h1, h2, h3, h4, h5, h6, h7, h8, h9, h10⟩ := hagree c
      unfold S5Reference.args S5Kernel.args
      congr 1
    obtain ⟨hy, hr, hi, hk⟩ := h c
    rw [e] at hy hr hi
    exact ⟨hy.trans (S5Kernel.final7 m c).symm, hr.trans (S5Kernel.final8 m c).symm, hi.trans (S5Kernel.final9 m c).symm, hk⟩

/-- The prompt attention: the kernel runs to its end from every memory, leaves its arguments as they were and every semaphore at zero. -/
theorem frame_K2 : Cert.quiescent_Kernel2 := fun m ρ _ => Cert.Kernel2.Gen.frame m ρ

/-- The prompt attention: the same of the kernel read over the extended reals. -/
theorem frame_KI2 : Cert.quiescent_Kernel2Ideal := fun m ρ _ => Cert.Kernel2Ideal.Gen.frame m ρ

/-- The prompt attention: the same of the reference read over the extended reals. -/
theorem frame_RI2 : Cert.quiescent_Reference2Ideal := by
  intro m g _
  hlo_run
  · exact fun _ => by simp only [and_self]
  · exact sem_eq_zero_of_no_sems (by decide) _

/-- The prompt attention: reading the kernel over the extended reals rewrote nothing in it. -/
theorem preserves2 : Cert.preserves_Kernel2_Kernel2Ideal := trivial

set_option maxHeartbeats 2000000 in
/-- The prompt attention: over the extended reals the kernel's result is the reference's, for all arguments with finite queries
    and keys. -/
theorem algebraic2 : Cert.algebraic_Kernel2Ideal_Reference2Ideal_pre_finite_scores := by
  pair_intro
  · run_from Cert.Kernel2Ideal.Gen.run_main m g
  · refine θ_run_mono (Cert.Reference2Ideal.Value.run m' g') fun r h c => ?_
    obtain ⟨p0, p1, p2, p3⟩ := hpre c
    have H : AttnKernel.RealAt m c := AttnPre.real _ _ _ _ p0 p1 p2 p3
    obtain ⟨h0, h1, h2, h3⟩ := hagree c
    obtain ⟨hr, hk⟩ := h c
    refine ⟨hr.trans ?_, hk⟩
    refine Eq.trans ?_ (AttnKernel.final m c H).symm
    have H' := H
    unfold AttnKernel.RealAt at H'
    rw [← h0, ← h1, ← h2, ← h3] at H' ⊢
    exact AttnReference.result_eq m' c H'

/-- The gated projection: the kernel runs to its end from every memory, leaves its arguments as they were and every semaphore at zero. -/
theorem frame_K3 : Cert.quiescent_Kernel3 := fun m ρ _ => Cert.Kernel3.Gen.frame m ρ

/-- The gated projection: the same of the kernel read over the extended reals. -/
theorem frame_KI3 : Cert.quiescent_Kernel3Ideal := fun m ρ _ => Cert.Kernel3Ideal.Gen.frame m ρ

/-- The gated projection: the same of the reference read over the extended reals. -/
theorem frame_RI3 : Cert.quiescent_Reference3Ideal := by
  intro m g _
  hlo_run
  · exact fun _ => by simp only [and_self]
  · exact sem_eq_zero_of_no_sems (by decide) _

/-- The gated projection: reading the kernel over the extended reals rewrote nothing in it. -/
theorem preserves3 : Cert.preserves_Kernel3_Kernel3Ideal := trivial

/-- The gated projection: over the extended reals the kernel's result is the reference's, for all arguments. -/
theorem algebraic3 : Cert.algebraic_Kernel3Ideal_Reference3Ideal := by
  pair_intro
  · run_from Cert.Kernel3Ideal.Gen.run_main m g
  · run_from Cert.Reference3Ideal.Value.run m' g'
    exact (GluReference.ref _ _).trans (GluKernel.final m c).symm

/-- The gated projection of the second S5 layer: the kernel runs to its end from every memory, leaves its arguments as they were and every semaphore at zero. -/
theorem frame_K4 : Cert.quiescent_Kernel4 := fun m ρ _ => Cert.Kernel4.Gen.frame m ρ

/-- The gated projection of the second S5 layer: the same of the kernel read over the extended reals. -/
theorem frame_KI4 : Cert.quiescent_Kernel4Ideal := fun m ρ _ => Cert.Kernel4Ideal.Gen.frame m ρ

/-- The gated projection of the second S5 layer: the same of the reference read over the extended reals. -/
theorem frame_RI4 : Cert.quiescent_Reference4Ideal := by
  intro m g _
  hlo_run
  · exact fun _ => by simp only [and_self]
  · exact sem_eq_zero_of_no_sems (by decide) _

/-- The gated projection of the second S5 layer: reading the kernel over the extended reals rewrote nothing in it. -/
theorem preserves4 : Cert.preserves_Kernel4_Kernel4Ideal := trivial

/-- The gated projection of the second S5 layer: over the extended reals the kernel's result is the reference's, for all arguments. -/
theorem algebraic4 : Cert.algebraic_Kernel4Ideal_Reference4Ideal := by
  pair_intro
  · run_from Cert.Kernel4Ideal.Gen.run_main m g
  · run_from Cert.Reference4Ideal.Value.run m' g'
    refine Eq.trans ?_ (Glu2Kernel.final m c).symm
    funext j
    idx_vars j
    pointwise [Glu.result, Glu.entry]

/-- The input projection of the first S5 layer: the kernel runs to its end from every memory, leaves its arguments as they were and every semaphore at zero. -/
theorem frame_K5 : Cert.quiescent_Kernel5 := fun m ρ _ => Cert.Kernel5.Gen.frame m ρ

/-- The input projection of the first S5 layer: the same of the kernel read over the extended reals. -/
theorem frame_KI5 : Cert.quiescent_Kernel5Ideal := fun m ρ _ => Cert.Kernel5Ideal.Gen.frame m ρ

/-- The input projection of the first S5 layer: the same of the reference read over the extended reals. -/
theorem frame_RI5 : Cert.quiescent_Reference5Ideal := by
  intro m g _
  hlo_run
  · exact fun _ => by simp only [and_self]
  · exact sem_eq_zero_of_no_sems (by decide) _

/-- The input projection of the first S5 layer: reading the kernel over the extended reals rewrote nothing in it. -/
theorem preserves5 : Cert.preserves_Kernel5_Kernel5Ideal := trivial

/-- The input projection of the first S5 layer: over the extended reals the kernel's result is the reference's, for all arguments. -/
theorem algebraic5 : Cert.algebraic_Kernel5Ideal_Reference5Ideal := by
  pair_intro
  · run_from Cert.Kernel5Ideal.Gen.run_main m g
  · run_from Cert.Reference5Ideal.Value.run m' g'
    refine Eq.trans ?_ (WinKernel.final m c).symm
    funext j
    idx_vars j
    pointwise [Mm.result]

/-- The input projection of the second S5 layer: the kernel runs to its end from every memory, leaves its arguments as they were and every semaphore at zero. -/
theorem frame_K6 : Cert.quiescent_Kernel6 := fun m ρ _ => Cert.Kernel6.Gen.frame m ρ

/-- The input projection of the second S5 layer: the same of the kernel read over the extended reals. -/
theorem frame_KI6 : Cert.quiescent_Kernel6Ideal := fun m ρ _ => Cert.Kernel6Ideal.Gen.frame m ρ

/-- The input projection of the second S5 layer: the same of the reference read over the extended reals. -/
theorem frame_RI6 : Cert.quiescent_Reference6Ideal := by
  intro m g _
  hlo_run
  · exact fun _ => by simp only [and_self]
  · exact sem_eq_zero_of_no_sems (by decide) _

/-- The input projection of the second S5 layer: reading the kernel over the extended reals rewrote nothing in it. -/
theorem preserves6 : Cert.preserves_Kernel6_Kernel6Ideal := trivial

/-- The input projection of the second S5 layer: over the extended reals the kernel's result is the reference's, for all arguments. -/
theorem algebraic6 : Cert.algebraic_Kernel6Ideal_Reference6Ideal := by
  pair_intro
  · run_from Cert.Kernel6Ideal.Gen.run_main m g
  · run_from Cert.Reference6Ideal.Value.run m' g'
    refine Eq.trans ?_ (WinKernel2.final m c).symm
    funext j
    idx_vars j
    pointwise [Mm.result]

/-- The output projection after attention: the kernel runs to its end from every memory, leaves its arguments as they were and every semaphore at zero. -/
theorem frame_K7 : Cert.quiescent_Kernel7 := fun m ρ _ => Cert.Kernel7.Gen.frame m ρ

/-- The output projection after attention: the same of the kernel read over the extended reals. -/
theorem frame_KI7 : Cert.quiescent_Kernel7Ideal := fun m ρ _ => Cert.Kernel7Ideal.Gen.frame m ρ

/-- The output projection after attention: the same of the reference read over the extended reals. -/
theorem frame_RI7 : Cert.quiescent_Reference7Ideal := by
  intro m g _
  hlo_run
  · exact fun _ => by simp only [and_self]
  · exact sem_eq_zero_of_no_sems (by decide) _

/-- The output projection after attention: reading the kernel over the extended reals rewrote nothing in it. -/
theorem preserves7 : Cert.preserves_Kernel7_Kernel7Ideal := trivial

/-- The output projection after attention: over the extended reals the kernel's result is the reference's, for all arguments. -/
theorem algebraic7 : Cert.algebraic_Kernel7Ideal_Reference7Ideal := by
  pair_intro
  · run_from Cert.Kernel7Ideal.Gen.run_main m g
  · run_from Cert.Reference7Ideal.Value.run m' g'
    exact (OutReference.ref _ _).trans (OutKernel.final m c).symm

/-- The queries of the forgetting attention: the kernel runs to its end from every memory, leaves its arguments as they were and every semaphore at zero. -/
theorem frame_K8 : Cert.quiescent_Kernel8 := fun m ρ _ => Cert.Kernel8.Gen.frame m ρ

/-- The queries of the forgetting attention: the same of the kernel read over the extended reals. -/
theorem frame_KI8 : Cert.quiescent_Kernel8Ideal := fun m ρ _ => Cert.Kernel8Ideal.Gen.frame m ρ

/-- The queries of the forgetting attention: the same of the reference read over the extended reals. -/
theorem frame_RI8 : Cert.quiescent_Reference8Ideal := by
  intro m g _
  hlo_run
  · exact fun _ => by simp only [and_self]
  · exact sem_eq_zero_of_no_sems (by decide) _

/-- The queries of the forgetting attention: reading the kernel over the extended reals rewrote nothing in it. -/
theorem preserves8 : Cert.preserves_Kernel8_Kernel8Ideal := trivial

/-- The queries of the forgetting attention: over the extended reals the kernel's result is the reference's, for all arguments. -/
theorem algebraic8 : Cert.algebraic_Kernel8Ideal_Reference8Ideal := by
  pair_intro
  · run_from Cert.Kernel8Ideal.Gen.run_main m g
  · run_from Cert.Reference8Ideal.Value.run m' g'
    exact (FoxQReference.ref _ _).trans (FoxQKernel.final m c).symm

/-- The keys and values of the forgetting attention: the kernel runs to its end from every memory, leaves its arguments as they were and every semaphore at zero. -/
theorem frame_K9 : Cert.quiescent_Kernel9 := fun m ρ _ => Cert.Kernel9.Gen.frame m ρ

/-- The keys and values of the forgetting attention: the same of the kernel read over the extended reals. -/
theorem frame_KI9 : Cert.quiescent_Kernel9Ideal := fun m ρ _ => Cert.Kernel9Ideal.Gen.frame m ρ

/-- The keys and values of the forgetting attention: the same of the reference read over the extended reals. -/
theorem frame_RI9 : Cert.quiescent_Reference9Ideal := by
  intro m g _
  hlo_run
  · exact fun _ => by simp only [and_self]
  · exact sem_eq_zero_of_no_sems (by decide) _

/-- The keys and values of the forgetting attention: reading the kernel over the extended reals rewrote nothing in it. -/
theorem preserves9 : Cert.preserves_Kernel9_Kernel9Ideal := trivial

/-- The keys and values of the forgetting attention: over the extended reals the kernel's two results are the reference's, for
    all arguments. -/
theorem algebraic9 : Cert.algebraic_Kernel9Ideal_Reference9Ideal := by
  pair_intro
  · run_from Cert.Kernel9Ideal.Gen.run_main m g
  · run_from Cert.Reference9Ideal.Value.run m' g'
    · exact (FoxKvReference.ref _ _).trans (FoxKvKernel.final2 m c).symm
    · exact (FoxKvReference.ref _ _).trans (FoxKvKernel.final3 m c).symm

/-- The forget gates: the kernel runs to its end from every memory, leaves its arguments as they were and every semaphore at zero. -/
theorem frame_K10 : Cert.quiescent_Kernel10 := fun m ρ _ => Cert.Kernel10.Gen.frame m ρ

/-- The forget gates: the same of the kernel read over the extended reals. -/
theorem frame_KI10 : Cert.quiescent_Kernel10Ideal := fun m ρ _ => Cert.Kernel10Ideal.Gen.frame m ρ

/-- The forget gates: the same of the reference read over the extended reals. -/
theorem frame_RI10 : Cert.quiescent_Reference10Ideal := by
  intro m g _
  hlo_run
  · exact fun _ => by simp only [and_self]
  · exact sem_eq_zero_of_no_sems (by decide) _

/-- The forget gates: reading the kernel over the extended reals rewrote nothing in it. -/
theorem preserves10 : Cert.preserves_Kernel10_Kernel10Ideal := trivial

/-- The forget gates: over the extended reals the kernel's result is the reference's, for all arguments. -/
theorem algebraic10 : Cert.algebraic_Kernel10Ideal_Reference10Ideal := by
  pair_intro
  · run_from Cert.Kernel10Ideal.Gen.run_main m g
  · run_from Cert.Reference10Ideal.Value.run m' g'
    exact (GateReference.ref _ _ _).trans (GateKernel.final m c).symm

/-- The forgetting attention: the kernel runs to its end from every memory, leaves its arguments as they were and every semaphore at zero. -/
theorem frame_K11 : Cert.quiescent_Kernel11 := fun m ρ _ => Cert.Kernel11.Gen.frame m ρ

/-- The forgetting attention: the same of the kernel read over the extended reals. -/
theorem frame_KI11 : Cert.quiescent_Kernel11Ideal := fun m ρ _ => Cert.Kernel11Ideal.Gen.frame m ρ

/-- The forgetting attention: the same of the reference read over the extended reals. -/
theorem frame_RI11 : Cert.quiescent_Reference11Ideal := by
  intro m g _
  hlo_run
  · exact fun _ => by simp only [and_self]
  · exact sem_eq_zero_of_no_sems (by decide) _

/-- The forgetting attention: reading the kernel over the extended reals rewrote nothing in it. -/
theorem preserves11 : Cert.preserves_Kernel11_Kernel11Ideal := trivial

set_option maxHeartbeats 2000000 in
/-- The forgetting attention: over the extended reals the kernel's result is the reference's, for all arguments with finite
    queries, keys and summed log gates. -/
theorem algebraic11 : Cert.algebraic_Kernel11Ideal_Reference11Ideal_pre_finite_fox_scores := by
  pair_intro
  · run_from Cert.Kernel11Ideal.Gen.run_main m g
  · refine θ_run_mono (Cert.Reference11Ideal.Value.run m' g') fun r h c => ?_
    obtain ⟨p0, p1, p2⟩ := hpre c
    have H : FoxKernel.RealAt m c := FoxPre.real _ _ _ p0 p1 p2
    obtain ⟨h0, h1, h2⟩ := hagree c
    obtain ⟨hr, hk⟩ := h c
    refine ⟨hr.trans ?_, hk⟩
    refine Eq.trans ?_ (FoxKernel.final m c H).symm
    have H' := H
    unfold FoxKernel.RealAt at H'
    rw [← h0, ← h1, ← h2] at H' ⊢
    exact FoxReference.result_eq m' c H'

/-- The router's queries of the first layer: the kernel runs to its end from every memory, leaves its arguments as they were and every semaphore at zero. -/
theorem frame_K12 : Cert.quiescent_Kernel12 := fun m ρ _ => Cert.Kernel12.Gen.frame m ρ

/-- The router's queries of the first layer: the same of the kernel read over the extended reals. -/
theorem frame_KI12 : Cert.quiescent_Kernel12Ideal := fun m ρ _ => Cert.Kernel12Ideal.Gen.frame m ρ

/-- The router's queries of the first layer: the same of the reference read over the extended reals. -/
theorem frame_RI12 : Cert.quiescent_Reference12Ideal := by
  intro m g _
  hlo_run
  · exact fun _ => by simp only [and_self]
  · exact sem_eq_zero_of_no_sems (by decide) _

/-- The router's queries of the first layer: reading the kernel over the extended reals rewrote nothing in it. -/
theorem preserves12 : Cert.preserves_Kernel12_Kernel12Ideal := trivial

/-- The router's queries of the first layer: over the extended reals the kernel's result is the reference's, for all arguments. -/
theorem algebraic12 : Cert.algebraic_Kernel12Ideal_Reference12Ideal := by
  pair_intro
  · run_from Cert.Kernel12Ideal.Gen.run_main m g
  · run_from Cert.Reference12Ideal.Value.run m' g'
    refine Eq.trans ?_ (PeerKernel0.final m c).symm
    funext j
    idx_vars j
    pointwise [Mm.result]

/-- The router's queries of the second layer: the kernel runs to its end from every memory, leaves its arguments as they were and every semaphore at zero. -/
theorem frame_K13 : Cert.quiescent_Kernel13 := fun m ρ _ => Cert.Kernel13.Gen.frame m ρ

/-- The router's queries of the second layer: the same of the kernel read over the extended reals. -/
theorem frame_KI13 : Cert.quiescent_Kernel13Ideal := fun m ρ _ => Cert.Kernel13Ideal.Gen.frame m ρ

/-- The router's queries of the second layer: the same of the reference read over the extended reals. -/
theorem frame_RI13 : Cert.quiescent_Reference13Ideal := by
  intro m g _
  hlo_run
  · exact fun _ => by simp only [and_self]
  · exact sem_eq_zero_of_no_sems (by decide) _

/-- The router's queries of the second layer: reading the kernel over the extended reals rewrote nothing in it. -/
theorem preserves13 : Cert.preserves_Kernel13_Kernel13Ideal := trivial

/-- The router's queries of the second layer: over the extended reals the kernel's result is the reference's, for all arguments. -/
theorem algebraic13 : Cert.algebraic_Kernel13Ideal_Reference13Ideal := by
  pair_intro
  · run_from Cert.Kernel13Ideal.Gen.run_main m g
  · run_from Cert.Reference13Ideal.Value.run m' g'
    refine Eq.trans ?_ (PeerKernel1.final m c).symm
    funext j
    idx_vars j
    pointwise [Mm.result]

/-- The router's queries of the third layer: the kernel runs to its end from every memory, leaves its arguments as they were and every semaphore at zero. -/
theorem frame_K14 : Cert.quiescent_Kernel14 := fun m ρ _ => Cert.Kernel14.Gen.frame m ρ

/-- The router's queries of the third layer: the same of the kernel read over the extended reals. -/
theorem frame_KI14 : Cert.quiescent_Kernel14Ideal := fun m ρ _ => Cert.Kernel14Ideal.Gen.frame m ρ

/-- The router's queries of the third layer: the same of the reference read over the extended reals. -/
theorem frame_RI14 : Cert.quiescent_Reference14Ideal := by
  intro m g _
  hlo_run
  · exact fun _ => by simp only [and_self]
  · exact sem_eq_zero_of_no_sems (by decide) _

/-- The router's queries of the third layer: reading the kernel over the extended reals rewrote nothing in it. -/
theorem preserves14 : Cert.preserves_Kernel14_Kernel14Ideal := trivial

/-- The router's queries of the third layer: over the extended reals the kernel's result is the reference's, for all arguments. -/
theorem algebraic14 : Cert.algebraic_Kernel14Ideal_Reference14Ideal := by
  pair_intro
  · run_from Cert.Kernel14Ideal.Gen.run_main m g
  · run_from Cert.Reference14Ideal.Value.run m' g'
    refine Eq.trans ?_ (PeerKernel2.final m c).symm
    funext j
    idx_vars j
    pointwise [Mm.result]

/-- The router's queries of the fourth layer: the kernel runs to its end from every memory, leaves its arguments as they were and every semaphore at zero. -/
theorem frame_K15 : Cert.quiescent_Kernel15 := fun m ρ _ => Cert.Kernel15.Gen.frame m ρ

/-- The router's queries of the fourth layer: the same of the kernel read over the extended reals. -/
theorem frame_KI15 : Cert.quiescent_Kernel15Ideal := fun m ρ _ => Cert.Kernel15Ideal.Gen.frame m ρ

/-- The router's queries of the fourth layer: the same of the reference read over the extended reals. -/
theorem frame_RI15 : Cert.quiescent_Reference15Ideal := by
  intro m g _
  hlo_run
  · exact fun _ => by simp only [and_self]
  · exact sem_eq_zero_of_no_sems (by decide) _

/-- The router's queries of the fourth layer: reading the kernel over the extended reals rewrote nothing in it. -/
theorem preserves15 : Cert.preserves_Kernel15_Kernel15Ideal := trivial

/-- The router's queries of the fourth layer: over the extended reals the kernel's result is the reference's, for all arguments. -/
theorem algebraic15 : Cert.algebraic_Kernel15Ideal_Reference15Ideal := by
  pair_intro
  · run_from Cert.Kernel15Ideal.Gen.run_main m g
  · run_from Cert.Reference15Ideal.Value.run m' g'
    refine Eq.trans ?_ (PeerKernel3.final m c).symm
    funext j
    idx_vars j
    pointwise [Mm.result]

/-- The latents: the kernel runs to its end from every memory, leaves its arguments as they were and every semaphore at zero. -/
theorem frame_K16 : Cert.quiescent_Kernel16 := fun m ρ _ => Cert.Kernel16.Gen.frame m ρ

/-- The latents: the same of the kernel read over the extended reals. -/
theorem frame_KI16 : Cert.quiescent_Kernel16Ideal := fun m ρ _ => Cert.Kernel16Ideal.Gen.frame m ρ

/-- The latents: the same of the reference read over the extended reals. -/
theorem frame_RI16 : Cert.quiescent_Reference16Ideal := by
  intro m g _
  hlo_run
  · exact fun _ => by simp only [and_self]
  · exact sem_eq_zero_of_no_sems (by decide) _

/-- The latents: reading the kernel over the extended reals rewrote nothing in it. -/
theorem preserves16 : Cert.preserves_Kernel16_Kernel16Ideal := trivial

/-- The latents: over the extended reals the kernel's result is the reference's, for all arguments. -/
theorem algebraic16 : Cert.algebraic_Kernel16Ideal_Reference16Ideal := by
  pair_intro
  · run_from Cert.Kernel16Ideal.Gen.run_main m g
  · run_from Cert.Reference16Ideal.Value.run m' g'
    exact (LatentReference.ref _ _).trans (LatentKernel.final m c).symm

/-- The unrotated queries of the latent layer: the kernel runs to its end from every memory, leaves its arguments as they were and every semaphore at zero. -/
theorem frame_K17 : Cert.quiescent_Kernel17 := fun m ρ _ => Cert.Kernel17.Gen.frame m ρ

/-- The unrotated queries of the latent layer: the same of the kernel read over the extended reals. -/
theorem frame_KI17 : Cert.quiescent_Kernel17Ideal := fun m ρ _ => Cert.Kernel17Ideal.Gen.frame m ρ

/-- The unrotated queries of the latent layer: the same of the reference read over the extended reals. -/
theorem frame_RI17 : Cert.quiescent_Reference17Ideal := by
  intro m g _
  hlo_run
  · exact fun _ => by simp only [and_self]
  · exact sem_eq_zero_of_no_sems (by decide) _

/-- The unrotated queries of the latent layer: reading the kernel over the extended reals rewrote nothing in it. -/
theorem preserves17 : Cert.preserves_Kernel17_Kernel17Ideal := trivial

/-- The unrotated queries of the latent layer: over the extended reals the kernel's result is the reference's, for all arguments. -/
theorem algebraic17 : Cert.algebraic_Kernel17Ideal_Reference17Ideal := by
  pair_intro
  · run_from Cert.Kernel17Ideal.Gen.run_main m g
  · run_from Cert.Reference17Ideal.Value.run m' g'
    exact (QueryUpReference.ref _ _).trans (QueryUpKernel.final m c).symm

/-- The keys and values of the latent layer: the kernel runs to its end from every memory, leaves its arguments as they were and every semaphore at zero. -/
theorem frame_K18 : Cert.quiescent_Kernel18 := fun m ρ _ => Cert.Kernel18.Gen.frame m ρ

/-- The keys and values of the latent layer: the same of the kernel read over the extended reals. -/
theorem frame_KI18 : Cert.quiescent_Kernel18Ideal := fun m ρ _ => Cert.Kernel18Ideal.Gen.frame m ρ

/-- The keys and values of the latent layer: the same of the reference read over the extended reals. -/
theorem frame_RI18 : Cert.quiescent_Reference18Ideal := by
  intro m g _
  hlo_run
  · exact fun _ => by simp only [and_self]
  · exact sem_eq_zero_of_no_sems (by decide) _

/-- The keys and values of the latent layer: reading the kernel over the extended reals rewrote nothing in it. -/
theorem preserves18 : Cert.preserves_Kernel18_Kernel18Ideal := trivial

/-- The keys and values of the latent layer: over the extended reals the kernel's result is the reference's, for all arguments. -/
theorem algebraic18 : Cert.algebraic_Kernel18Ideal_Reference18Ideal := by
  pair_intro
  · run_from Cert.Kernel18Ideal.Gen.run_main m g
  · run_from Cert.Reference18Ideal.Value.run m' g'
    exact (UpReference.ref _ _).trans (UpKernel.final m c).symm

/-- The decoded tokens' keys and values of the forgetting attention: the kernel runs to its end from every memory, leaves its arguments as they were and every semaphore at zero. -/
theorem frame_K19 : Cert.quiescent_Kernel19 := fun m ρ _ => Cert.Kernel19.Gen.frame m ρ

/-- The decoded tokens' keys and values of the forgetting attention: the same of the kernel read over the extended reals. -/
theorem frame_KI19 : Cert.quiescent_Kernel19Ideal := fun m ρ _ => Cert.Kernel19Ideal.Gen.frame m ρ

/-- The decoded tokens' keys and values of the forgetting attention: the same of the reference read over the extended reals. -/
theorem frame_RI19 : Cert.quiescent_Reference19Ideal := by
  intro m g _
  hlo_run
  · exact fun _ => by simp only [and_self]
  · exact sem_eq_zero_of_no_sems (by decide) _

/-- The decoded tokens' keys and values of the forgetting attention: reading the kernel over the extended reals rewrote nothing in it. -/
theorem preserves19 : Cert.preserves_Kernel19_Kernel19Ideal := trivial

/-- The decoded tokens' keys and values of the forgetting attention: over the extended reals the kernel's result is the reference's, for all arguments. -/
theorem algebraic19 : Cert.algebraic_Kernel19Ideal_Reference19Ideal := by
  pair_intro
  · run_from Cert.Kernel19Ideal.Gen.run_main m g
  · run_from Cert.Reference19Ideal.Value.run m' g'
    exact (FoxKvSampleReference.ref _ _).trans (FoxKvSample.final m c).symm

/-- The decoded tokens' forget gates: the kernel runs to its end from every memory, leaves its arguments as they were and every semaphore at zero. -/
theorem frame_K20 : Cert.quiescent_Kernel20 := fun m ρ _ => Cert.Kernel20.Gen.frame m ρ

/-- The decoded tokens' forget gates: the same of the kernel read over the extended reals. -/
theorem frame_KI20 : Cert.quiescent_Kernel20Ideal := fun m ρ _ => Cert.Kernel20Ideal.Gen.frame m ρ

/-- The decoded tokens' forget gates: the same of the reference read over the extended reals. -/
theorem frame_RI20 : Cert.quiescent_Reference20Ideal := by
  intro m g _
  hlo_run
  · exact fun _ => by simp only [and_self]
  · exact sem_eq_zero_of_no_sems (by decide) _

/-- The decoded tokens' forget gates: reading the kernel over the extended reals rewrote nothing in it. -/
theorem preserves20 : Cert.preserves_Kernel20_Kernel20Ideal := trivial

/-- The decoded tokens' forget gates: over the extended reals the kernel's result is the reference's, for all arguments. -/
theorem algebraic20 : Cert.algebraic_Kernel20Ideal_Reference20Ideal := by
  pair_intro
  · run_from Cert.Kernel20Ideal.Gen.run_main m g
  · run_from Cert.Reference20Ideal.Value.run m' g'
    exact (GateSampleReference.ref _ _ _).trans (GateSampleKernel.final m c).symm

/-- The modulation: the kernel runs to its end from every memory, leaves its arguments as they were and every semaphore at zero. -/
theorem frame_K21 : Cert.quiescent_Kernel21 := fun m ρ _ => Cert.Kernel21.Gen.frame m ρ

/-- The modulation: the same of the kernel read over the extended reals. -/
theorem frame_KI21 : Cert.quiescent_Kernel21Ideal := fun m ρ _ => Cert.Kernel21Ideal.Gen.frame m ρ

/-- The modulation: the same of the reference read over the extended reals. -/
theorem frame_RI21 : Cert.quiescent_Reference21Ideal := by
  intro m g _
  hlo_run
  · exact fun _ => by simp only [and_self]
  · exact sem_eq_zero_of_no_sems (by decide) _

/-- The modulation: reading the kernel over the extended reals rewrote nothing in it. -/
theorem preserves21 : Cert.preserves_Kernel21_Kernel21Ideal := trivial

/-- The modulation: over the extended reals the kernel's result is the reference's, for all arguments. -/
theorem algebraic21 : Cert.algebraic_Kernel21Ideal_Reference21Ideal := by
  pair_intro
  · run_from Cert.Kernel21Ideal.Gen.run_main m g
  · run_from Cert.Reference21Ideal.Value.run m' g'
    exact (ModulationReference.ref _ _ _).trans (ModulationKernel.final m c).symm

/-- The normalised latents: the kernel runs to its end from every memory, leaves its arguments as they were and every semaphore at zero. -/
theorem frame_K22 : Cert.quiescent_Kernel22 := fun m ρ _ => Cert.Kernel22.Gen.frame m ρ

/-- The normalised latents: the same of the kernel read over the extended reals. -/
theorem frame_KI22 : Cert.quiescent_Kernel22Ideal := fun m ρ _ => Cert.Kernel22Ideal.Gen.frame m ρ

/-- The normalised latents: the same of the reference read over the extended reals. -/
theorem frame_RI22 : Cert.quiescent_Reference22Ideal := by
  intro m g _
  hlo_run
  · exact fun _ => by simp only [and_self]
  · exact sem_eq_zero_of_no_sems (by decide) _

/-- The normalised latents: reading the kernel over the extended reals rewrote nothing in it. -/
theorem preserves22 : Cert.preserves_Kernel22_Kernel22Ideal := trivial

/-- The normalised latents: over the extended reals the kernel's results are the reference's, for all arguments. -/
theorem algebraic22 : Cert.algebraic_Kernel22Ideal_Reference22Ideal := by
  pair_intro
  · run_from Cert.Kernel22Ideal.Gen.run_main m g
  · run_from Cert.Reference22Ideal.Value.run m' g'
    · exact (RmsReference.queries _ _).trans (RmsKernel.final3 m c).symm
    · exact (RmsReference.keys _ _).trans (RmsKernel.final4 m c).symm
    · exact (RmsReference.keys _ _).trans (RmsKernel.final5 m c).symm

/-- The decoded tokens' normalised latents: the kernel runs to its end from every memory, leaves its arguments as they were and every semaphore at zero. -/
theorem frame_K23 : Cert.quiescent_Kernel23 := fun m ρ _ => Cert.Kernel23.Gen.frame m ρ

/-- The decoded tokens' normalised latents: the same of the kernel read over the extended reals. -/
theorem frame_KI23 : Cert.quiescent_Kernel23Ideal := fun m ρ _ => Cert.Kernel23Ideal.Gen.frame m ρ

/-- The decoded tokens' normalised latents: the same of the reference read over the extended reals. -/
theorem frame_RI23 : Cert.quiescent_Reference23Ideal := by
  intro m g _
  hlo_run
  · exact fun _ => by simp only [and_self]
  · exact sem_eq_zero_of_no_sems (by decide) _

/-- The decoded tokens' normalised latents: reading the kernel over the extended reals rewrote nothing in it. -/
theorem preserves23 : Cert.preserves_Kernel23_Kernel23Ideal := trivial

/-- The decoded tokens' normalised latents: over the extended reals the kernel's results are the reference's, for all arguments. -/
theorem algebraic23 : Cert.algebraic_Kernel23Ideal_Reference23Ideal := by
  pair_intro
  · run_from Cert.Kernel23Ideal.Gen.run_main m g
  · run_from Cert.Reference23Ideal.Value.run m' g'
    · exact (RmsSampleReference.queries _ _).trans (RmsSampleKernel.final3 m c).symm
    · exact (RmsSampleReference.keys _ _).trans (RmsSampleKernel.final4 m c).symm
    · exact (RmsSampleReference.keys _ _).trans (RmsSampleKernel.final5 m c).symm

/-- The rotated part of the keys: the kernel runs to its end from every memory, leaves its arguments as they were and every semaphore at zero. -/
theorem frame_K24 : Cert.quiescent_Kernel24 := fun m ρ _ => Cert.Kernel24.Gen.frame m ρ

/-- The rotated part of the keys: the same of the kernel read over the extended reals. -/
theorem frame_KI24 : Cert.quiescent_Kernel24Ideal := fun m ρ _ => Cert.Kernel24Ideal.Gen.frame m ρ

/-- The rotated part of the keys: the same of the reference read over the extended reals. -/
theorem frame_RI24 : Cert.quiescent_Reference24Ideal := by
  intro m g _
  hlo_run
  · exact fun _ => by simp only [and_self]
  · exact sem_eq_zero_of_no_sems (by decide) _

/-- The rotated part of the keys: reading the kernel over the extended reals rewrote nothing in it. -/
theorem preserves24 : Cert.preserves_Kernel24_Kernel24Ideal := trivial

/-- The rotated part of the keys: over the extended reals the kernel's result is the reference's, for all arguments. -/
theorem algebraic24 : Cert.algebraic_Kernel24Ideal_Reference24Ideal := by
  pair_intro
  · run_from Cert.Kernel24Ideal.Gen.run_main m g
  · run_from Cert.Reference24Ideal.Value.run m' g'
    obtain ⟨h0, h1⟩ := hagree c
    refine (RopeReference.ref _ _).trans ?_
    rw [h0, h1]
    exact (RopeKernel.final m c).symm

/-- The rotated part of the decoded tokens' keys: the kernel runs to its end from every memory, leaves its arguments as they were and every semaphore at zero. -/
theorem frame_K25 : Cert.quiescent_Kernel25 := fun m ρ _ => Cert.Kernel25.Gen.frame m ρ

/-- The rotated part of the decoded tokens' keys: the same of the kernel read over the extended reals. -/
theorem frame_KI25 : Cert.quiescent_Kernel25Ideal := fun m ρ _ => Cert.Kernel25Ideal.Gen.frame m ρ

/-- The rotated part of the decoded tokens' keys: the same of the reference read over the extended reals. -/
theorem frame_RI25 : Cert.quiescent_Reference25Ideal := by
  intro m g _
  hlo_run
  · exact fun _ => by simp only [and_self]
  · exact sem_eq_zero_of_no_sems (by decide) _

/-- The rotated part of the decoded tokens' keys: reading the kernel over the extended reals rewrote nothing in it. -/
theorem preserves25 : Cert.preserves_Kernel25_Kernel25Ideal := trivial

/-- The rotated part of the decoded tokens' keys: over the extended reals the kernel's result is the reference's, for all arguments. -/
theorem algebraic25 : Cert.algebraic_Kernel25Ideal_Reference25Ideal := by
  pair_intro
  · run_from Cert.Kernel25Ideal.Gen.run_main m g
  · run_from Cert.Reference25Ideal.Value.run m' g'
    obtain ⟨h0, h1⟩ := hagree c
    refine (RopeSampleReference.ref _ _).trans ?_
    rw [h0, h1]
    exact (RopeSampleKernel.final m c).symm

/-- The rotated part of the queries: the kernel runs to its end from every memory, leaves its arguments as they were and every semaphore at zero. -/
theorem frame_K26 : Cert.quiescent_Kernel26 := fun m ρ _ => Cert.Kernel26.Gen.frame m ρ

/-- The rotated part of the queries: the same of the kernel read over the extended reals. -/
theorem frame_KI26 : Cert.quiescent_Kernel26Ideal := fun m ρ _ => Cert.Kernel26Ideal.Gen.frame m ρ

/-- The rotated part of the queries: the same of the reference read over the extended reals. -/
theorem frame_RI26 : Cert.quiescent_Reference26Ideal := by
  intro m g _
  hlo_run
  · exact fun _ => by simp only [and_self]
  · exact sem_eq_zero_of_no_sems (by decide) _

/-- The rotated part of the queries: reading the kernel over the extended reals rewrote nothing in it. -/
theorem preserves26 : Cert.preserves_Kernel26_Kernel26Ideal := trivial

/-- The rotated part of the queries: over the extended reals the kernel's result is the reference's, for all arguments. -/
theorem algebraic26 : Cert.algebraic_Kernel26Ideal_Reference26Ideal := by
  pair_intro
  · run_from Cert.Kernel26Ideal.Gen.run_main m g
  · run_from Cert.Reference26Ideal.Value.run m' g'
    obtain ⟨h0, h1⟩ := hagree c
    refine (RopeQueryReference.ref _ _).trans ?_
    rw [h0, h1]
    exact (RopeQueryKernel.final m c).symm

/-- The last normalised residual: the kernel runs to its end from every memory, leaves its arguments as they were and every semaphore at zero. -/
theorem frame_K27 : Cert.quiescent_Kernel27 := fun m ρ _ => Cert.Kernel27.Gen.frame m ρ

/-- The last normalised residual: the same of the kernel read over the extended reals. -/
theorem frame_KI27 : Cert.quiescent_Kernel27Ideal := fun m ρ _ => Cert.Kernel27Ideal.Gen.frame m ρ

/-- The last normalised residual: the same of the reference read over the extended reals. -/
theorem frame_RI27 : Cert.quiescent_Reference27Ideal := by
  intro m g _
  hlo_run
  · exact fun _ => by simp only [and_self]
  · exact sem_eq_zero_of_no_sems (by decide) _

/-- The last normalised residual: reading the kernel over the extended reals rewrote nothing in it. -/
theorem preserves27 : Cert.preserves_Kernel27_Kernel27Ideal := trivial

/-- The last normalised residual: over the extended reals the kernel's result is the reference's, for all arguments. -/
theorem algebraic27 : Cert.algebraic_Kernel27Ideal_Reference27Ideal := by
  pair_intro
  · run_from Cert.Kernel27Ideal.Gen.run_main m g
  · run_from Cert.Reference27Ideal.Value.run m' g'
    obtain ⟨h0, h1, h2, h3, h4⟩ := hagree c
    refine (NormReference.ref _ _ _ _ _).trans ?_
    rw [h0, h1, h2, h3, h4]
    exact (NormKernel.final m c).symm

/-- The decoded tokens' last normalised residual: the kernel runs to its end from every memory, leaves its arguments as they were and every semaphore at zero. -/
theorem frame_K28 : Cert.quiescent_Kernel28 := fun m ρ _ => Cert.Kernel28.Gen.frame m ρ

/-- The decoded tokens' last normalised residual: the same of the kernel read over the extended reals. -/
theorem frame_KI28 : Cert.quiescent_Kernel28Ideal := fun m ρ _ => Cert.Kernel28Ideal.Gen.frame m ρ

/-- The decoded tokens' last normalised residual: the same of the reference read over the extended reals. -/
theorem frame_RI28 : Cert.quiescent_Reference28Ideal := by
  intro m g _
  hlo_run
  · exact fun _ => by simp only [and_self]
  · exact sem_eq_zero_of_no_sems (by decide) _

/-- The decoded tokens' last normalised residual: reading the kernel over the extended reals rewrote nothing in it. -/
theorem preserves28 : Cert.preserves_Kernel28_Kernel28Ideal := trivial

/-- The decoded tokens' last normalised residual: over the extended reals the kernel's result is the reference's, for all arguments. -/
theorem algebraic28 : Cert.algebraic_Kernel28Ideal_Reference28Ideal := by
  pair_intro
  · run_from Cert.Kernel28Ideal.Gen.run_main m g
  · run_from Cert.Reference28Ideal.Value.run m' g'
    exact (NormSampleReference.ref _ _ _ _ _).trans (NormSampleKernel.final m c).symm

/-- The decoded tokens' input projection of the first S5 layer: the kernel runs to its end from every memory, leaves its arguments as they were and every semaphore at zero. -/
theorem frame_K29 : Cert.quiescent_Kernel29 := fun m ρ _ => Cert.Kernel29.Gen.frame m ρ

/-- The decoded tokens' input projection of the first S5 layer: the same of the kernel read over the extended reals. -/
theorem frame_KI29 : Cert.quiescent_Kernel29Ideal := fun m ρ _ => Cert.Kernel29Ideal.Gen.frame m ρ

/-- The decoded tokens' input projection of the first S5 layer: the same of the reference read over the extended reals. -/
theorem frame_RI29 : Cert.quiescent_Reference29Ideal := by
  intro m g _
  hlo_run
  · exact fun _ => by simp only [and_self]
  · exact sem_eq_zero_of_no_sems (by decide) _

/-- The decoded tokens' input projection of the first S5 layer: reading the kernel over the extended reals rewrote nothing in it. -/
theorem preserves29 : Cert.preserves_Kernel29_Kernel29Ideal := trivial

/-- The decoded tokens' input projection of the first S5 layer: over the extended reals the kernel's result is the reference's, for all arguments. -/
theorem algebraic29 : Cert.algebraic_Kernel29Ideal_Reference29Ideal := by
  pair_intro
  · run_from Cert.Kernel29Ideal.Gen.run_main m g
  · run_from Cert.Reference29Ideal.Value.run m' g'
    exact (WinSampleReference0.ref _ _).trans (WinSampleKernel0.final m c).symm

/-- The decoded tokens' input projection of the second S5 layer: the kernel runs to its end from every memory, leaves its arguments as they were and every semaphore at zero. -/
theorem frame_K30 : Cert.quiescent_Kernel30 := fun m ρ _ => Cert.Kernel30.Gen.frame m ρ

/-- The decoded tokens' input projection of the second S5 layer: the same of the kernel read over the extended reals. -/
theorem frame_KI30 : Cert.quiescent_Kernel30Ideal := fun m ρ _ => Cert.Kernel30Ideal.Gen.frame m ρ

/-- The decoded tokens' input projection of the second S5 layer: the same of the reference read over the extended reals. -/
theorem frame_RI30 : Cert.quiescent_Reference30Ideal := by
  intro m g _
  hlo_run
  · exact fun _ => by simp only [and_self]
  · exact sem_eq_zero_of_no_sems (by decide) _

/-- The decoded tokens' input projection of the second S5 layer: reading the kernel over the extended reals rewrote nothing in it. -/
theorem preserves30 : Cert.preserves_Kernel30_Kernel30Ideal := trivial

/-- The decoded tokens' input projection of the second S5 layer: over the extended reals the kernel's result is the reference's, for all arguments. -/
theorem algebraic30 : Cert.algebraic_Kernel30Ideal_Reference30Ideal := by
  pair_intro
  · run_from Cert.Kernel30Ideal.Gen.run_main m g
  · run_from Cert.Reference30Ideal.Value.run m' g'
    exact (WinSampleReference1.ref _ _).trans (WinSampleKernel1.final m c).symm

/-- The decoded tokens' gated projection of the first S5 layer: the kernel runs to its end from every memory, leaves its arguments as they were and every semaphore at zero. -/
theorem frame_K31 : Cert.quiescent_Kernel31 := fun m ρ _ => Cert.Kernel31.Gen.frame m ρ

/-- The decoded tokens' gated projection of the first S5 layer: the same of the kernel read over the extended reals. -/
theorem frame_KI31 : Cert.quiescent_Kernel31Ideal := fun m ρ _ => Cert.Kernel31Ideal.Gen.frame m ρ

/-- The decoded tokens' gated projection of the first S5 layer: the same of the reference read over the extended reals. -/
theorem frame_RI31 : Cert.quiescent_Reference31Ideal := by
  intro m g _
  hlo_run
  · exact fun _ => by simp only [and_self]
  · exact sem_eq_zero_of_no_sems (by decide) _

/-- The decoded tokens' gated projection of the first S5 layer: reading the kernel over the extended reals rewrote nothing in it. -/
theorem preserves31 : Cert.preserves_Kernel31_Kernel31Ideal := trivial

/-- The decoded tokens' gated projection of the first S5 layer: over the extended reals the kernel's result is the reference's, for all arguments. -/
theorem algebraic31 : Cert.algebraic_Kernel31Ideal_Reference31Ideal := by
  pair_intro
  · run_from Cert.Kernel31Ideal.Gen.run_main m g
  · run_from Cert.Reference31Ideal.Value.run m' g'
    exact (GluSampleReference0.ref _ _).trans (GluSampleKernel0.final m c).symm

/-- The decoded tokens' gated projection of the second S5 layer: the kernel runs to its end from every memory, leaves its arguments as they were and every semaphore at zero. -/
theorem frame_K32 : Cert.quiescent_Kernel32 := fun m ρ _ => Cert.Kernel32.Gen.frame m ρ

/-- The decoded tokens' gated projection of the second S5 layer: the same of the kernel read over the extended reals. -/
theorem frame_KI32 : Cert.quiescent_Kernel32Ideal := fun m ρ _ => Cert.Kernel32Ideal.Gen.frame m ρ

/-- The decoded tokens' gated projection of the second S5 layer: the same of the reference read over the extended reals. -/
theorem frame_RI32 : Cert.quiescent_Reference32Ideal := by
  intro m g _
  hlo_run
  · exact fun _ => by simp only [and_self]
  · exact sem_eq_zero_of_no_sems (by decide) _

/-- The decoded tokens' gated projection of the second S5 layer: reading the kernel over the extended reals rewrote nothing in it. -/
theorem preserves32 : Cert.preserves_Kernel32_Kernel32Ideal := trivial

/-- The decoded tokens' gated projection of the second S5 layer: over the extended reals the kernel's result is the reference's, for all arguments. -/
theorem algebraic32 : Cert.algebraic_Kernel32Ideal_Reference32Ideal := by
  pair_intro
  · run_from Cert.Kernel32Ideal.Gen.run_main m g
  · run_from Cert.Reference32Ideal.Value.run m' g'
    exact (GluSampleReference1.ref _ _).trans (GluSampleKernel1.final m c).symm

/-- The decoded tokens' output projection after attention: the kernel runs to its end from every memory, leaves its arguments as they were and every semaphore at zero. -/
theorem frame_K33 : Cert.quiescent_Kernel33 := fun m ρ _ => Cert.Kernel33.Gen.frame m ρ

/-- The decoded tokens' output projection after attention: the same of the kernel read over the extended reals. -/
theorem frame_KI33 : Cert.quiescent_Kernel33Ideal := fun m ρ _ => Cert.Kernel33Ideal.Gen.frame m ρ

/-- The decoded tokens' output projection after attention: the same of the reference read over the extended reals. -/
theorem frame_RI33 : Cert.quiescent_Reference33Ideal := by
  intro m g _
  hlo_run
  · exact fun _ => by simp only [and_self]
  · exact sem_eq_zero_of_no_sems (by decide) _

/-- The decoded tokens' output projection after attention: reading the kernel over the extended reals rewrote nothing in it. -/
theorem preserves33 : Cert.preserves_Kernel33_Kernel33Ideal := trivial

/-- The decoded tokens' output projection after attention: over the extended reals the kernel's result is the reference's, for all arguments. -/
theorem algebraic33 : Cert.algebraic_Kernel33Ideal_Reference33Ideal := by
  pair_intro
  · run_from Cert.Kernel33Ideal.Gen.run_main m g
  · run_from Cert.Reference33Ideal.Value.run m' g'
    exact (OutSampleReference.ref _ _).trans (OutSampleKernel.final m c).symm

/-- The decoded tokens' queries of the forgetting attention: the kernel runs to its end from every memory, leaves its arguments as they were and every semaphore at zero. -/
theorem frame_K34 : Cert.quiescent_Kernel34 := fun m ρ _ => Cert.Kernel34.Gen.frame m ρ

/-- The decoded tokens' queries of the forgetting attention: the same of the kernel read over the extended reals. -/
theorem frame_KI34 : Cert.quiescent_Kernel34Ideal := fun m ρ _ => Cert.Kernel34Ideal.Gen.frame m ρ

/-- The decoded tokens' queries of the forgetting attention: the same of the reference read over the extended reals. -/
theorem frame_RI34 : Cert.quiescent_Reference34Ideal := by
  intro m g _
  hlo_run
  · exact fun _ => by simp only [and_self]
  · exact sem_eq_zero_of_no_sems (by decide) _

/-- The decoded tokens' queries of the forgetting attention: reading the kernel over the extended reals rewrote nothing in it. -/
theorem preserves34 : Cert.preserves_Kernel34_Kernel34Ideal := trivial

/-- The decoded tokens' queries of the forgetting attention: over the extended reals the kernel's result is the reference's, for all arguments. -/
theorem algebraic34 : Cert.algebraic_Kernel34Ideal_Reference34Ideal := by
  pair_intro
  · run_from Cert.Kernel34Ideal.Gen.run_main m g
  · run_from Cert.Reference34Ideal.Value.run m' g'
    exact (FoxQSampleReference.ref _ _).trans (FoxQSampleKernel.final m c).symm

/-- The decoded tokens' router queries of the first layer: the kernel runs to its end from every memory, leaves its arguments as they were and every semaphore at zero. -/
theorem frame_K35 : Cert.quiescent_Kernel35 := fun m ρ _ => Cert.Kernel35.Gen.frame m ρ

/-- The decoded tokens' router queries of the first layer: the same of the kernel read over the extended reals. -/
theorem frame_KI35 : Cert.quiescent_Kernel35Ideal := fun m ρ _ => Cert.Kernel35Ideal.Gen.frame m ρ

/-- The decoded tokens' router queries of the first layer: the same of the reference read over the extended reals. -/
theorem frame_RI35 : Cert.quiescent_Reference35Ideal := by
  intro m g _
  hlo_run
  · exact fun _ => by simp only [and_self]
  · exact sem_eq_zero_of_no_sems (by decide) _

/-- The decoded tokens' router queries of the first layer: reading the kernel over the extended reals rewrote nothing in it. -/
theorem preserves35 : Cert.preserves_Kernel35_Kernel35Ideal := trivial

/-- The decoded tokens' router queries of the first layer: over the extended reals the kernel's result is the reference's, for all arguments. -/
theorem algebraic35 : Cert.algebraic_Kernel35Ideal_Reference35Ideal := by
  pair_intro
  · run_from Cert.Kernel35Ideal.Gen.run_main m g
  · run_from Cert.Reference35Ideal.Value.run m' g'
    exact (PeerSampleReference0.ref _ _).trans (PeerSampleKernel0.final m c).symm

/-- The decoded tokens' router queries of the second layer: the kernel runs to its end from every memory, leaves its arguments as they were and every semaphore at zero. -/
theorem frame_K36 : Cert.quiescent_Kernel36 := fun m ρ _ => Cert.Kernel36.Gen.frame m ρ

/-- The decoded tokens' router queries of the second layer: the same of the kernel read over the extended reals. -/
theorem frame_KI36 : Cert.quiescent_Kernel36Ideal := fun m ρ _ => Cert.Kernel36Ideal.Gen.frame m ρ

/-- The decoded tokens' router queries of the second layer: the same of the reference read over the extended reals. -/
theorem frame_RI36 : Cert.quiescent_Reference36Ideal := by
  intro m g _
  hlo_run
  · exact fun _ => by simp only [and_self]
  · exact sem_eq_zero_of_no_sems (by decide) _

/-- The decoded tokens' router queries of the second layer: reading the kernel over the extended reals rewrote nothing in it. -/
theorem preserves36 : Cert.preserves_Kernel36_Kernel36Ideal := trivial

/-- The decoded tokens' router queries of the second layer: over the extended reals the kernel's result is the reference's, for all arguments. -/
theorem algebraic36 : Cert.algebraic_Kernel36Ideal_Reference36Ideal := by
  pair_intro
  · run_from Cert.Kernel36Ideal.Gen.run_main m g
  · run_from Cert.Reference36Ideal.Value.run m' g'
    exact (PeerSampleReference1.ref _ _).trans (PeerSampleKernel1.final m c).symm

/-- The decoded tokens' router queries of the third layer: the kernel runs to its end from every memory, leaves its arguments as they were and every semaphore at zero. -/
theorem frame_K37 : Cert.quiescent_Kernel37 := fun m ρ _ => Cert.Kernel37.Gen.frame m ρ

/-- The decoded tokens' router queries of the third layer: the same of the kernel read over the extended reals. -/
theorem frame_KI37 : Cert.quiescent_Kernel37Ideal := fun m ρ _ => Cert.Kernel37Ideal.Gen.frame m ρ

/-- The decoded tokens' router queries of the third layer: the same of the reference read over the extended reals. -/
theorem frame_RI37 : Cert.quiescent_Reference37Ideal := by
  intro m g _
  hlo_run
  · exact fun _ => by simp only [and_self]
  · exact sem_eq_zero_of_no_sems (by decide) _

/-- The decoded tokens' router queries of the third layer: reading the kernel over the extended reals rewrote nothing in it. -/
theorem preserves37 : Cert.preserves_Kernel37_Kernel37Ideal := trivial

/-- The decoded tokens' router queries of the third layer: over the extended reals the kernel's result is the reference's, for all arguments. -/
theorem algebraic37 : Cert.algebraic_Kernel37Ideal_Reference37Ideal := by
  pair_intro
  · run_from Cert.Kernel37Ideal.Gen.run_main m g
  · run_from Cert.Reference37Ideal.Value.run m' g'
    exact (PeerSampleReference2.ref _ _).trans (PeerSampleKernel2.final m c).symm

/-- The decoded tokens' router queries of the fourth layer: the kernel runs to its end from every memory, leaves its arguments as they were and every semaphore at zero. -/
theorem frame_K38 : Cert.quiescent_Kernel38 := fun m ρ _ => Cert.Kernel38.Gen.frame m ρ

/-- The decoded tokens' router queries of the fourth layer: the same of the kernel read over the extended reals. -/
theorem frame_KI38 : Cert.quiescent_Kernel38Ideal := fun m ρ _ => Cert.Kernel38Ideal.Gen.frame m ρ

/-- The decoded tokens' router queries of the fourth layer: the same of the reference read over the extended reals. -/
theorem frame_RI38 : Cert.quiescent_Reference38Ideal := by
  intro m g _
  hlo_run
  · exact fun _ => by simp only [and_self]
  · exact sem_eq_zero_of_no_sems (by decide) _

/-- The decoded tokens' router queries of the fourth layer: reading the kernel over the extended reals rewrote nothing in it. -/
theorem preserves38 : Cert.preserves_Kernel38_Kernel38Ideal := trivial

/-- The decoded tokens' router queries of the fourth layer: over the extended reals the kernel's result is the reference's, for all arguments. -/
theorem algebraic38 : Cert.algebraic_Kernel38Ideal_Reference38Ideal := by
  pair_intro
  · run_from Cert.Kernel38Ideal.Gen.run_main m g
  · run_from Cert.Reference38Ideal.Value.run m' g'
    exact (PeerSampleReference3.ref _ _).trans (PeerSampleKernel3.final m c).symm

/-- The decoded tokens' latents: the kernel runs to its end from every memory, leaves its arguments as they were and every semaphore at zero. -/
theorem frame_K39 : Cert.quiescent_Kernel39 := fun m ρ _ => Cert.Kernel39.Gen.frame m ρ

/-- The decoded tokens' latents: the same of the kernel read over the extended reals. -/
theorem frame_KI39 : Cert.quiescent_Kernel39Ideal := fun m ρ _ => Cert.Kernel39Ideal.Gen.frame m ρ

/-- The decoded tokens' latents: the same of the reference read over the extended reals. -/
theorem frame_RI39 : Cert.quiescent_Reference39Ideal := by
  intro m g _
  hlo_run
  · exact fun _ => by simp only [and_self]
  · exact sem_eq_zero_of_no_sems (by decide) _

/-- The decoded tokens' latents: reading the kernel over the extended reals rewrote nothing in it. -/
theorem preserves39 : Cert.preserves_Kernel39_Kernel39Ideal := trivial

/-- The decoded tokens' latents: over the extended reals the kernel's result is the reference's, for all arguments. -/
theorem algebraic39 : Cert.algebraic_Kernel39Ideal_Reference39Ideal := by
  pair_intro
  · run_from Cert.Kernel39Ideal.Gen.run_main m g
  · run_from Cert.Reference39Ideal.Value.run m' g'
    exact (LatentSampleReference.ref _ _).trans (LatentSampleKernel.final m c).symm

/-- The decoded tokens' unrotated queries: the kernel runs to its end from every memory, leaves its arguments as they were and every semaphore at zero. -/
theorem frame_K40 : Cert.quiescent_Kernel40 := fun m ρ _ => Cert.Kernel40.Gen.frame m ρ

/-- The decoded tokens' unrotated queries: the same of the kernel read over the extended reals. -/
theorem frame_KI40 : Cert.quiescent_Kernel40Ideal := fun m ρ _ => Cert.Kernel40Ideal.Gen.frame m ρ

/-- The decoded tokens' unrotated queries: the same of the reference read over the extended reals. -/
theorem frame_RI40 : Cert.quiescent_Reference40Ideal := by
  intro m g _
  hlo_run
  · exact fun _ => by simp only [and_self]
  · exact sem_eq_zero_of_no_sems (by decide) _

/-- The decoded tokens' unrotated queries: reading the kernel over the extended reals rewrote nothing in it. -/
theorem preserves40 : Cert.preserves_Kernel40_Kernel40Ideal := trivial

/-- The decoded tokens' unrotated queries: over the extended reals the kernel's result is the reference's, for all arguments. -/
theorem algebraic40 : Cert.algebraic_Kernel40Ideal_Reference40Ideal := by
  pair_intro
  · run_from Cert.Kernel40Ideal.Gen.run_main m g
  · run_from Cert.Reference40Ideal.Value.run m' g'
    exact (QueryUpSampleReference.ref _ _).trans (QueryUpSampleKernel.final m c).symm

/-- The decoded tokens' rotated queries: the kernel runs to its end from every memory, leaves its arguments as they were and every semaphore at zero. -/
theorem frame_K41 : Cert.quiescent_Kernel41 := fun m ρ _ => Cert.Kernel41.Gen.frame m ρ

/-- The decoded tokens' rotated queries: the same of the kernel read over the extended reals. -/
theorem frame_KI41 : Cert.quiescent_Kernel41Ideal := fun m ρ _ => Cert.Kernel41Ideal.Gen.frame m ρ

/-- The decoded tokens' rotated queries: the same of the reference read over the extended reals. -/
theorem frame_RI41 : Cert.quiescent_Reference41Ideal := by
  intro m g _
  hlo_run
  · exact fun _ => by simp only [and_self]
  · exact sem_eq_zero_of_no_sems (by decide) _

/-- The decoded tokens' rotated queries: reading the kernel over the extended reals rewrote nothing in it. -/
theorem preserves41 : Cert.preserves_Kernel41_Kernel41Ideal := trivial

/-- The decoded tokens' rotated queries: over the extended reals the kernel's result is the reference's, for all arguments. -/
theorem algebraic41 : Cert.algebraic_Kernel41Ideal_Reference41Ideal := by
  pair_intro
  · run_from Cert.Kernel41Ideal.Gen.run_main m g
  · run_from Cert.Reference41Ideal.Value.run m' g'
    obtain ⟨h0, h1⟩ := hagree c
    refine (RopeSampleQueryReference.ref m' c).trans ?_
    rw [h0, h1]
    exact (RopeSampleQueryKernel.final m c).symm

/-- The decoded tokens' queries in the latent space: the kernel runs to its end from every memory, leaves its arguments as they were and every semaphore at zero. -/
theorem frame_K42 : Cert.quiescent_Kernel42 := fun m ρ _ => Cert.Kernel42.Gen.frame m ρ

/-- The decoded tokens' queries in the latent space: the same of the kernel read over the extended reals. -/
theorem frame_KI42 : Cert.quiescent_Kernel42Ideal := fun m ρ _ => Cert.Kernel42Ideal.Gen.frame m ρ

/-- The decoded tokens' queries in the latent space: the same of the reference read over the extended reals. -/
theorem frame_RI42 : Cert.quiescent_Reference42Ideal := by
  intro m g _
  hlo_run
  · exact fun _ => by simp only [and_self]
  · exact sem_eq_zero_of_no_sems (by decide) _

/-- The decoded tokens' queries in the latent space: reading the kernel over the extended reals rewrote nothing in it. -/
theorem preserves42 : Cert.preserves_Kernel42_Kernel42Ideal := trivial

/-- The decoded tokens' queries in the latent space: over the extended reals the kernel's result is the reference's, for all arguments. -/
theorem algebraic42 : Cert.algebraic_Kernel42Ideal_Reference42Ideal := by
  pair_intro
  · run_from Cert.Kernel42Ideal.Gen.run_main m g
  · run_from Cert.Reference42Ideal.Value.run m' g'
    exact (LatentQueryReference.ref _ _).trans (LatentQueryKernel.final m c).symm

/-- The decoded tokens' mixed values: the kernel runs to its end from every memory, leaves its arguments as they were and every semaphore at zero. -/
theorem frame_K43 : Cert.quiescent_Kernel43 := fun m ρ _ => Cert.Kernel43.Gen.frame m ρ

/-- The decoded tokens' mixed values: the same of the kernel read over the extended reals. -/
theorem frame_KI43 : Cert.quiescent_Kernel43Ideal := fun m ρ _ => Cert.Kernel43Ideal.Gen.frame m ρ

/-- The decoded tokens' mixed values: the same of the reference read over the extended reals. -/
theorem frame_RI43 : Cert.quiescent_Reference43Ideal := by
  intro m g _
  hlo_run
  · exact fun _ => by simp only [and_self]
  · exact sem_eq_zero_of_no_sems (by decide) _

/-- The decoded tokens' mixed values: reading the kernel over the extended reals rewrote nothing in it. -/
theorem preserves43 : Cert.preserves_Kernel43_Kernel43Ideal := trivial

/-- The decoded tokens' mixed values: over the extended reals the kernel's result is the reference's, for all arguments. -/
theorem algebraic43 : Cert.algebraic_Kernel43Ideal_Reference43Ideal := by
  pair_intro
  · run_from Cert.Kernel43Ideal.Gen.run_main m g
  · run_from Cert.Reference43Ideal.Value.run m' g'
    exact (HeadValueReference.ref _ _).trans (HeadValueKernel.final m c).symm

/-- The modulated residual of the prompt: the kernel runs to its end from every memory, leaves its arguments as they were and every semaphore at zero. -/
theorem frame_K44 : Cert.quiescent_Kernel44 := fun m ρ _ => Cert.Kernel44.Gen.frame m ρ

/-- The modulated residual of the prompt: the same of the kernel read over the extended reals. -/
theorem frame_KI44 : Cert.quiescent_Kernel44Ideal := fun m ρ _ => Cert.Kernel44Ideal.Gen.frame m ρ

/-- The modulated residual of the prompt: the same of the reference read over the extended reals. -/
theorem frame_RI44 : Cert.quiescent_Reference44Ideal := by
  intro m g _
  hlo_run
  · exact fun _ => by simp only [and_self]
  · exact sem_eq_zero_of_no_sems (by decide) _

/-- The modulated residual of the prompt: reading the kernel over the extended reals rewrote nothing in it. -/
theorem preserves44 : Cert.preserves_Kernel44_Kernel44Ideal := trivial

/-- The modulated residual of the prompt: over the extended reals the kernel's result is the reference's, for all arguments. -/
theorem algebraic44 : Cert.algebraic_Kernel44Ideal_Reference44Ideal := by
  pair_intro
  · run_from Cert.Kernel44Ideal.Gen.run_main m g
  · run_from Cert.Reference44Ideal.Value.run m' g'
    · obtain ⟨h0, h1, h2, h3, h4, h5, h6⟩ := hagree c
      refine (NormReference.ref _ _ _ _ _).trans ?_
      rw [h0, h1, h2, h3, h4]
      exact (NormModKernel.final m c).symm
    · obtain ⟨h0, h1, h2, h3, h4, h5, h6⟩ := hagree c
      refine (ModulateReference.ref _ _ _).trans ?_
      refine (congrArg (fun y => Modulate.result y _ _) (NormReference.ref _ _ _ _ _)).trans ?_
      rw [h0, h1, h2, h3, h4, h5, h6]
      exact (NormModKernel.final' m c).symm

/-- The modulated residual of the decoded tokens: the kernel runs to its end from every memory, leaves its arguments as they were and every semaphore at zero. -/
theorem frame_K45 : Cert.quiescent_Kernel45 := fun m ρ _ => Cert.Kernel45.Gen.frame m ρ

/-- The modulated residual of the decoded tokens: the same of the kernel read over the extended reals. -/
theorem frame_KI45 : Cert.quiescent_Kernel45Ideal := fun m ρ _ => Cert.Kernel45Ideal.Gen.frame m ρ

/-- The modulated residual of the decoded tokens: the same of the reference read over the extended reals. -/
theorem frame_RI45 : Cert.quiescent_Reference45Ideal := by
  intro m g _
  hlo_run
  · exact fun _ => by simp only [and_self]
  · exact sem_eq_zero_of_no_sems (by decide) _

/-- The modulated residual of the decoded tokens: reading the kernel over the extended reals rewrote nothing in it. -/
theorem preserves45 : Cert.preserves_Kernel45_Kernel45Ideal := trivial

/-- The modulated residual of the decoded tokens: over the extended reals the kernel's result is the reference's, for all arguments. -/
theorem algebraic45 : Cert.algebraic_Kernel45Ideal_Reference45Ideal := by
  pair_intro
  · run_from Cert.Kernel45Ideal.Gen.run_main m g
  · run_from Cert.Reference45Ideal.Value.run m' g'
    · exact (NormSampleReference.ref _ _ _ _ _).trans (NormModSampleKernel.final m c).symm
    · exact ((ModulateSampleReference.ref _ _ _).trans (congrArg (fun y => Modulate.sample y _ _) (NormSampleReference.ref _ _ _ _ _))).trans (NormModSampleKernel.final' m c).symm

/-- The modulation of the prompt: the kernel runs to its end from every memory, leaves its arguments as they were and every semaphore at zero. -/
theorem frame_K46 : Cert.quiescent_Kernel46 := fun m ρ _ => Cert.Kernel46.Gen.frame m ρ

/-- The modulation of the prompt: the same of the kernel read over the extended reals. -/
theorem frame_KI46 : Cert.quiescent_Kernel46Ideal := fun m ρ _ => Cert.Kernel46Ideal.Gen.frame m ρ

/-- The modulation of the prompt: the same of the reference read over the extended reals. -/
theorem frame_RI46 : Cert.quiescent_Reference46Ideal := by
  intro m g _
  hlo_run
  · exact fun _ => by simp only [and_self]
  · exact sem_eq_zero_of_no_sems (by decide) _

/-- The modulation of the prompt: reading the kernel over the extended reals rewrote nothing in it. -/
theorem preserves46 : Cert.preserves_Kernel46_Kernel46Ideal := trivial

/-- The modulation of the prompt: over the extended reals the kernel's result is the reference's, for all arguments. -/
theorem algebraic46 : Cert.algebraic_Kernel46Ideal_Reference46Ideal := by
  pair_intro
  · run_from Cert.Kernel46Ideal.Gen.run_main m g
  · run_from Cert.Reference46Ideal.Value.run m' g'
    exact (ModulateReference.ref _ _ _).trans (ModulateKernel.final m c).symm

/-- The modulation of the decoded tokens: the kernel runs to its end from every memory, leaves its arguments as they were and every semaphore at zero. -/
theorem frame_K47 : Cert.quiescent_Kernel47 := fun m ρ _ => Cert.Kernel47.Gen.frame m ρ

/-- The modulation of the decoded tokens: the same of the kernel read over the extended reals. -/
theorem frame_KI47 : Cert.quiescent_Kernel47Ideal := fun m ρ _ => Cert.Kernel47Ideal.Gen.frame m ρ

/-- The modulation of the decoded tokens: the same of the reference read over the extended reals. -/
theorem frame_RI47 : Cert.quiescent_Reference47Ideal := by
  intro m g _
  hlo_run
  · exact fun _ => by simp only [and_self]
  · exact sem_eq_zero_of_no_sems (by decide) _

/-- The modulation of the decoded tokens: reading the kernel over the extended reals rewrote nothing in it. -/
theorem preserves47 : Cert.preserves_Kernel47_Kernel47Ideal := trivial

/-- The modulation of the decoded tokens: over the extended reals the kernel's result is the reference's, for all arguments. -/
theorem algebraic47 : Cert.algebraic_Kernel47Ideal_Reference47Ideal := by
  pair_intro
  · run_from Cert.Kernel47Ideal.Gen.run_main m g
  · run_from Cert.Reference47Ideal.Value.run m' g'
    exact (ModulateSampleReference.ref _ _ _).trans (ModulateSampleKernel.final m c).symm

/-- The summed log gates: the kernel runs to its end from every memory, leaves its arguments as they were and every semaphore at zero. -/
theorem frame_K48 : Cert.quiescent_Kernel48 := fun m ρ _ => Cert.Kernel48.Gen.frame m ρ

/-- The summed log gates: the same of the kernel read over the extended reals. -/
theorem frame_KI48 : Cert.quiescent_Kernel48Ideal := fun m ρ _ => Cert.Kernel48Ideal.Gen.frame m ρ

/-- The summed log gates: the same of the reference read over the extended reals. -/
theorem frame_RI48 : Cert.quiescent_Reference48Ideal := by
  intro m g _
  hlo_run
  · exact fun _ => by simp only [and_self]
  · exact sem_eq_zero_of_no_sems (by decide) _

/-- The summed log gates: reading the kernel over the extended reals rewrote nothing in it. -/
theorem preserves48 : Cert.preserves_Kernel48_Kernel48Ideal := trivial

/-- The summed log gates: over the extended reals the kernel's result is the reference's, for all arguments. -/
theorem algebraic48 : Cert.algebraic_Kernel48Ideal_Reference48Ideal := by
  pair_intro
  · run_from Cert.Kernel48Ideal.Gen.run_main m g
  · refine Idealize.ShloMosaic.θ_run_mono (Cert.Reference48Ideal.Value.run m' g') ?_
    intro r hr c
    obtain ⟨h0, h1⟩ := hr c
    refine ⟨h0.trans ?_, h1⟩
    refine (CumsumReference.ref _).trans ?_
    rw [hagree c]
    exact (CumsumKernel.final m c).symm

/-- All claims, for the forty-eight calls. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Kernel21.Gen.facts, Cert.Kernel21Ideal.Gen.facts, Cert.Reference21Ideal.Gen.facts, Cert.Kernel22.Gen.facts, Cert.Kernel22Ideal.Gen.facts, Cert.Reference22Ideal.Gen.facts, Cert.Kernel23.Gen.facts, Cert.Kernel23Ideal.Gen.facts, Cert.Reference23Ideal.Gen.facts, Cert.Kernel24.Gen.facts, Cert.Kernel24Ideal.Gen.facts, Cert.Reference24Ideal.Gen.facts, Cert.Kernel25.Gen.facts, Cert.Kernel25Ideal.Gen.facts, Cert.Reference25Ideal.Gen.facts, Cert.Kernel26.Gen.facts, Cert.Kernel26Ideal.Gen.facts, Cert.Reference26Ideal.Gen.facts, Cert.Kernel27.Gen.facts, Cert.Kernel27Ideal.Gen.facts, Cert.Reference27Ideal.Gen.facts, Cert.Kernel28.Gen.facts, Cert.Kernel28Ideal.Gen.facts, Cert.Reference28Ideal.Gen.facts, Cert.Kernel29.Gen.facts, Cert.Kernel29Ideal.Gen.facts, Cert.Reference29Ideal.Gen.facts, Cert.Kernel30.Gen.facts, Cert.Kernel30Ideal.Gen.facts, Cert.Reference30Ideal.Gen.facts, Cert.Kernel31.Gen.facts, Cert.Kernel31Ideal.Gen.facts, Cert.Reference31Ideal.Gen.facts, Cert.Kernel32.Gen.facts, Cert.Kernel32Ideal.Gen.facts, Cert.Reference32Ideal.Gen.facts, Cert.Kernel33.Gen.facts, Cert.Kernel33Ideal.Gen.facts, Cert.Reference33Ideal.Gen.facts, Cert.Kernel34.Gen.facts, Cert.Kernel34Ideal.Gen.facts, Cert.Reference34Ideal.Gen.facts, Cert.Kernel35.Gen.facts, Cert.Kernel35Ideal.Gen.facts, Cert.Reference35Ideal.Gen.facts, Cert.Kernel36.Gen.facts, Cert.Kernel36Ideal.Gen.facts, Cert.Reference36Ideal.Gen.facts, Cert.Kernel37.Gen.facts, Cert.Kernel37Ideal.Gen.facts, Cert.Reference37Ideal.Gen.facts, Cert.Kernel38.Gen.facts, Cert.Kernel38Ideal.Gen.facts, Cert.Reference38Ideal.Gen.facts, Cert.Kernel39.Gen.facts, Cert.Kernel39Ideal.Gen.facts, Cert.Reference39Ideal.Gen.facts, Cert.Kernel40.Gen.facts, Cert.Kernel40Ideal.Gen.facts, Cert.Reference40Ideal.Gen.facts, Cert.Kernel41.Gen.facts, Cert.Kernel41Ideal.Gen.facts, Cert.Reference41Ideal.Gen.facts, Cert.Kernel42.Gen.facts, Cert.Kernel42Ideal.Gen.facts, Cert.Reference42Ideal.Gen.facts, Cert.Kernel43.Gen.facts, Cert.Kernel43Ideal.Gen.facts, Cert.Reference43Ideal.Gen.facts, Cert.Kernel44.Gen.facts, Cert.Kernel44Ideal.Gen.facts, Cert.Reference44Ideal.Gen.facts, Cert.Kernel45.Gen.facts, Cert.Kernel45Ideal.Gen.facts, Cert.Reference45Ideal.Gen.facts, Cert.Kernel46.Gen.facts, Cert.Kernel46Ideal.Gen.facts, Cert.Reference46Ideal.Gen.facts, Cert.Kernel47.Gen.facts, Cert.Kernel47Ideal.Gen.facts, Cert.Reference47Ideal.Gen.facts, Cert.Kernel48.Gen.facts, Cert.Kernel48Ideal.Gen.facts, Cert.Reference48Ideal.Gen.facts, AttnPre.facts, FoxPre.facts,
  frame_K, frame_KI, frame_RI, frame_K2, frame_KI2, fun m g _ => frame_KI2 m g trivial, frame_RI2, fun m g _ => frame_RI2 m g trivial,
  frame_K3, frame_KI3, frame_RI3,
  frame_K4, frame_KI4, frame_RI4,
  frame_K5, frame_KI5, frame_RI5,
  frame_K6, frame_KI6, frame_RI6,
  frame_K7, frame_KI7, frame_RI7,
  frame_K8, frame_KI8, frame_RI8,
  frame_K9, frame_KI9, frame_RI9,
  frame_K10, frame_KI10, frame_RI10,
  frame_K11, frame_KI11, fun m g _ => frame_KI11 m g trivial, frame_RI11, fun m g _ => frame_RI11 m g trivial,
  frame_K12, frame_KI12, frame_RI12,
  frame_K13, frame_KI13, frame_RI13,
  frame_K14, frame_KI14, frame_RI14,
  frame_K15, frame_KI15, frame_RI15,
  frame_K16, frame_KI16, frame_RI16,
  frame_K17, frame_KI17, frame_RI17,
  frame_K18, frame_KI18, frame_RI18,
  frame_K19, frame_KI19, frame_RI19,
  frame_K20, frame_KI20, frame_RI20,
  frame_K21, frame_KI21, frame_RI21,
  frame_K22, frame_KI22, frame_RI22,
  frame_K23, frame_KI23, frame_RI23,
  frame_K24, frame_KI24, frame_RI24,
  frame_K25, frame_KI25, frame_RI25,
  frame_K26, frame_KI26, frame_RI26,
  frame_K27, frame_KI27, frame_RI27,
  frame_K28, frame_KI28, frame_RI28,
  frame_K29, frame_KI29, frame_RI29,
  frame_K30, frame_KI30, frame_RI30,
  frame_K31, frame_KI31, frame_RI31,
  frame_K32, frame_KI32, frame_RI32,
  frame_K33, frame_KI33, frame_RI33,
  frame_K34, frame_KI34, frame_RI34,
  frame_K35, frame_KI35, frame_RI35,
  frame_K36, frame_KI36, frame_RI36,
  frame_K37, frame_KI37, frame_RI37,
  frame_K38, frame_KI38, frame_RI38,
  frame_K39, frame_KI39, frame_RI39,
  frame_K40, frame_KI40, frame_RI40,
  frame_K41, frame_KI41, frame_RI41,
  frame_K42, frame_KI42, frame_RI42,
  frame_K43, frame_KI43, frame_RI43,
  frame_K44, frame_KI44, frame_RI44,
  frame_K45, frame_KI45, frame_RI45,
  frame_K46, frame_KI46, frame_RI46,
  frame_K47, frame_KI47, frame_RI47,
  frame_K48, frame_KI48, frame_RI48,
  preserves, algebraic,
  preserves2, algebraic2,
  preserves3, algebraic3,
  preserves4, algebraic4,
  preserves5, algebraic5,
  preserves6, algebraic6,
  preserves7, algebraic7,
  preserves8, algebraic8,
  preserves9, algebraic9,
  preserves10, algebraic10,
  preserves11, algebraic11,
  preserves12, algebraic12,
  preserves13, algebraic13,
  preserves14, algebraic14,
  preserves15, algebraic15,
  preserves16, algebraic16,
  preserves17, algebraic17,
  preserves18, algebraic18,
  preserves19, algebraic19,
  preserves20, algebraic20,
  preserves21, algebraic21,
  preserves22, algebraic22,
  preserves23, algebraic23,
  preserves24, algebraic24,
  preserves25, algebraic25,
  preserves26, algebraic26,
  preserves27, algebraic27,
  preserves28, algebraic28,
  preserves29, algebraic29,
  preserves30, algebraic30,
  preserves31, algebraic31,
  preserves32, algebraic32,
  preserves33, algebraic33,
  preserves34, algebraic34,
  preserves35, algebraic35,
  preserves36, algebraic36,
  preserves37, algebraic37,
  preserves38, algebraic38,
  preserves39, algebraic39,
  preserves40, algebraic40,
  preserves41, algebraic41,
  preserves42, algebraic42,
  preserves43, algebraic43,
  preserves44, algebraic44,
  preserves45, algebraic45,
  preserves46, algebraic46,
  preserves47, algebraic47,
  preserves48, algebraic48⟩

end Cert.Proof

end
